-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_scores [hPre_finite_scores : Cert.Pre_finite_scores.Facts] (m : (ℓ : Loc Cert.FlashIdeal.nD Cert.FlashIdeal.τ Cert.FlashIdeal.sig) → Buf (Elt Ideal) ℓ) : Prop :=
  ∀ c : Dev Cert.FlashIdeal.nD,
    (Cert.Pre_finite_scores.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_scores [hPre_finite_scores : Cert.Pre_finite_scores.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_scores.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))) = (fun _ => 1#1)

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInRefIdeal (m : (ℓ : Loc Cert.AttInRefIdeal.nD Cert.AttInRefIdeal.τ Cert.AttInRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_DtIn (m : (ℓ : Loc Cert.DtIn.nD Cert.DtIn.τ Cert.DtIn.sig) → Buf (Elt Bits) ℓ) : Prop :=
  True

def Pre_DtInIdeal (m : (ℓ : Loc Cert.DtInIdeal.nD Cert.DtInIdeal.τ Cert.DtInIdeal.sig) → Buf (Elt Ideal) ℓ) : Prop :=
  True

def Pre_DtInRefIdeal (m : (ℓ : Loc Cert.DtInRefIdeal.nD Cert.DtInRefIdeal.τ Cert.DtInRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_SsdFinish (m : (ℓ : Loc Cert.SsdFinish.nD Cert.SsdFinish.τ Cert.SsdFinish.sig) → Buf (Elt Bits) ℓ) : Prop :=
  True

def Pre_SsdFinishIdeal (m : (ℓ : Loc Cert.SsdFinishIdeal.nD Cert.SsdFinishIdeal.τ Cert.SsdFinishIdeal.sig) → Buf (Elt Ideal) ℓ) : Prop :=
  True

def Pre_SsdFinishRefIdeal (m : (ℓ : Loc Cert.SsdFinishRefIdeal.nD Cert.SsdFinishRefIdeal.τ Cert.SsdFinishRefIdeal.sig) → Buf (Elt Ideal) ℓ) : Prop :=
  True

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_SsdPrep (m : (ℓ : Loc Cert.SsdPrep.nD Cert.SsdPrep.τ Cert.SsdPrep.sig) → Buf (Elt Bits) ℓ) : Prop :=
  True

def Pre_SsdPrepIdeal (m : (ℓ : Loc Cert.SsdPrepIdeal.nD Cert.SsdPrepIdeal.τ Cert.SsdPrepIdeal.sig) → Buf (Elt Ideal) ℓ) : Prop :=
  True

def Pre_SsdPrepRefIdeal (m : (ℓ : Loc Cert.SsdPrepRefIdeal.nD Cert.SsdPrepRefIdeal.τ Cert.SsdPrepRefIdeal.sig) → Buf (Elt Ideal) ℓ) : Prop :=
  True

def Pre_QkvPrep (m : (ℓ : Loc Cert.QkvPrep.nD Cert.QkvPrep.τ Cert.QkvPrep.sig) → Buf (Elt Bits) ℓ) : Prop :=
  True

def Pre_QkvPrepIdeal (m : (ℓ : Loc Cert.QkvPrepIdeal.nD Cert.QkvPrepIdeal.τ Cert.QkvPrepIdeal.sig) → Buf (Elt Ideal) ℓ) : Prop :=
  True

def Pre_QkvPrepRefIdeal (m : (ℓ : Loc Cert.QkvPrepRefIdeal.nD Cert.QkvPrepRefIdeal.τ Cert.QkvPrepRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite_scores [hFlashIdeal : Cert.FlashIdeal.Facts] [hPre_finite_scores : Cert.Pre_finite_scores.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_scores m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_finite_scores [hFlashRefIdeal : Cert.FlashRefIdeal.Facts] [hPre_finite_scores : Cert.Pre_finite_scores.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_scores m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ r.2.sem = fun _ => 0)

def quiescent_AttInRefIdeal [hAttInRefIdeal : Cert.AttInRefIdeal.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_DtIn [hDtIn : Cert.DtIn.Facts] : Prop :=
  ∀ (m : (ℓ : Loc Cert.DtIn.nD Cert.DtIn.τ Cert.DtIn.sig) → Buf (Elt Bits) ℓ) (g : Dev Cert.DtIn.nD → PrngReg), Pre_DtIn m →
    θ_run (Cert.DtIn.defs (F := Bits)) (onTc (τ := Cert.DtIn.τ) (Cert.DtIn.main (F := Bits))) ⟨m, fun _ => 0, g⟩ (fun r => (∀ c : Dev Cert.DtIn.nD,
      r.2.mem ((c.tc : Thread Cert.DtIn.nD Cert.DtIn.τ).loc Cert.DtIn.main_arg0) = m ((c.tc : Thread Cert.DtIn.nD Cert.DtIn.τ).loc Cert.DtIn.main_arg0)
      ∧ r.2.mem ((c.tc : Thread Cert.DtIn.nD Cert.DtIn.τ).loc Cert.DtIn.main_arg1) = m ((c.tc : Thread Cert.DtIn.nD Cert.DtIn.τ).loc Cert.DtIn.main_arg1))
      ∧ r.2.sem = fun _ => 0)

def quiescent_DtInIdeal [hDtInIdeal : Cert.DtInIdeal.Facts] : Prop :=
  ∀ (m : (ℓ : Loc Cert.DtInIdeal.nD Cert.DtInIdeal.τ Cert.DtInIdeal.sig) → Buf (Elt Ideal) ℓ) (g : Dev Cert.DtInIdeal.nD → PrngReg), Pre_DtInIdeal m →
    θ_run (Cert.DtInIdeal.defs (F := Ideal)) (onTc (τ := Cert.DtInIdeal.τ) (Cert.DtInIdeal.main (F := Ideal))) ⟨m, fun _ => 0, g⟩ (fun r => (∀ c : Dev Cert.DtInIdeal.nD,
      r.2.mem ((c.tc : Thread Cert.DtInIdeal.nD Cert.DtInIdeal.τ).loc Cert.DtInIdeal.main_arg0) = m ((c.tc : Thread Cert.DtInIdeal.nD Cert.DtInIdeal.τ).loc Cert.DtInIdeal.main_arg0)
      ∧ r.2.mem ((c.tc : Thread Cert.DtInIdeal.nD Cert.DtInIdeal.τ).loc Cert.DtInIdeal.main_arg1) = m ((c.tc : Thread Cert.DtInIdeal.nD Cert.DtInIdeal.τ).loc Cert.DtInIdeal.main_arg1))
      ∧ r.2.sem = fun _ => 0)

def quiescent_DtInRefIdeal [hDtInRefIdeal : Cert.DtInRefIdeal.Facts] : Prop :=
  ∀ (m : (ℓ : Loc Cert.DtInRefIdeal.nD Cert.DtInRefIdeal.τ Cert.DtInRefIdeal.sig) → Buf (Elt Ideal) ℓ) (g : Dev Cert.DtInRefIdeal.nD → PrngReg), Pre_DtInRefIdeal m →
    θ_run (Cert.DtInRefIdeal.defs (F := Ideal)) (onTc (τ := Cert.DtInRefIdeal.τ) (Cert.DtInRefIdeal.main (F := Ideal))) ⟨m, fun _ => 0, g⟩ (fun r => (∀ c : Dev Cert.DtInRefIdeal.nD,
      r.2.mem ((c.tc : Thread Cert.DtInRefIdeal.nD Cert.DtInRefIdeal.τ).loc Cert.DtInRefIdeal.main_arg0) = m ((c.tc : Thread Cert.DtInRefIdeal.nD Cert.DtInRefIdeal.τ).loc Cert.DtInRefIdeal.main_arg0)
      ∧ r.2.mem ((c.tc : Thread Cert.DtInRefIdeal.nD Cert.DtInRefIdeal.τ).loc Cert.DtInRefIdeal.main_arg1) = m ((c.tc : Thread Cert.DtInRefIdeal.nD Cert.DtInRefIdeal.τ).loc Cert.DtInRefIdeal.main_arg1))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2)
      ∧ r.2.mem ((c.tc : Thread Cert.AttOut.nD Cert.AttOut.τ).loc Cert.AttOut.main_arg3) = m ((c.tc : Thread Cert.AttOut.nD Cert.AttOut.τ).loc Cert.AttOut.main_arg3))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
      ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2)
      ∧ r.2.mem ((c.tc : Thread Cert.AttOutRefIdeal.nD Cert.AttOutRefIdeal.τ).loc Cert.AttOutRefIdeal.main_arg3) = m ((c.tc : Thread Cert.AttOutRefIdeal.nD Cert.AttOutRefIdeal.τ).loc Cert.AttOutRefIdeal.main_arg3))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2))
      ∧ r.2.sem = fun _ => 0)

def quiescent_SsdFinish [hSsdFinish : Cert.SsdFinish.Facts] : Prop :=
  ∀ (m : (ℓ : Loc Cert.SsdFinish.nD Cert.SsdFinish.τ Cert.SsdFinish.sig) → Buf (Elt Bits) ℓ) (g : Dev Cert.SsdFinish.nD → PrngReg), Pre_SsdFinish m →
    θ_run (Cert.SsdFinish.defs (F := Bits)) (onTc (τ := Cert.SsdFinish.τ) (Cert.SsdFinish.main (F := Bits))) ⟨m, fun _ => 0, g⟩ (fun r => (∀ c : Dev Cert.SsdFinish.nD,
      r.2.mem ((c.tc : Thread Cert.SsdFinish.nD Cert.SsdFinish.τ).loc Cert.SsdFinish.main_arg0) = m ((c.tc : Thread Cert.SsdFinish.nD Cert.SsdFinish.τ).loc Cert.SsdFinish.main_arg0)
      ∧ r.2.mem ((c.tc : Thread Cert.SsdFinish.nD Cert.SsdFinish.τ).loc Cert.SsdFinish.main_arg1) = m ((c.tc : Thread Cert.SsdFinish.nD Cert.SsdFinish.τ).loc Cert.SsdFinish.main_arg1)
      ∧ r.2.mem ((c.tc : Thread Cert.SsdFinish.nD Cert.SsdFinish.τ).loc Cert.SsdFinish.main_arg2) = m ((c.tc : Thread Cert.SsdFinish.nD Cert.SsdFinish.τ).loc Cert.SsdFinish.main_arg2)
      ∧ r.2.mem ((c.tc : Thread Cert.SsdFinish.nD Cert.SsdFinish.τ).loc Cert.SsdFinish.main_arg3) = m ((c.tc : Thread Cert.SsdFinish.nD Cert.SsdFinish.τ).loc Cert.SsdFinish.main_arg3)
      ∧ r.2.mem ((c.tc : Thread Cert.SsdFinish.nD Cert.SsdFinish.τ).loc Cert.SsdFinish.main_arg4) = m ((c.tc : Thread Cert.SsdFinish.nD Cert.SsdFinish.τ).loc Cert.SsdFinish.main_arg4)
      ∧ r.2.mem ((c.tc : Thread Cert.SsdFinish.nD Cert.SsdFinish.τ).loc Cert.SsdFinish.main_arg5) = m ((c.tc : Thread Cert.SsdFinish.nD Cert.SsdFinish.τ).loc Cert.SsdFinish.main_arg5))
      ∧ r.2.sem = fun _ => 0)

def quiescent_SsdFinishIdeal [hSsdFinishIdeal : Cert.SsdFinishIdeal.Facts] : Prop :=
  ∀ (m : (ℓ : Loc Cert.SsdFinishIdeal.nD Cert.SsdFinishIdeal.τ Cert.SsdFinishIdeal.sig) → Buf (Elt Ideal) ℓ) (g : Dev Cert.SsdFinishIdeal.nD → PrngReg), Pre_SsdFinishIdeal m →
    θ_run (Cert.SsdFinishIdeal.defs (F := Ideal)) (onTc (τ := Cert.SsdFinishIdeal.τ) (Cert.SsdFinishIdeal.main (F := Ideal))) ⟨m, fun _ => 0, g⟩ (fun r => (∀ c : Dev Cert.SsdFinishIdeal.nD,
      r.2.mem ((c.tc : Thread Cert.SsdFinishIdeal.nD Cert.SsdFinishIdeal.τ).loc Cert.SsdFinishIdeal.main_arg0) = m ((c.tc : Thread Cert.SsdFinishIdeal.nD Cert.SsdFinishIdeal.τ).loc Cert.SsdFinishIdeal.main_arg0)
      ∧ r.2.mem ((c.tc : Thread Cert.SsdFinishIdeal.nD Cert.SsdFinishIdeal.τ).loc Cert.SsdFinishIdeal.main_arg1) = m ((c.tc : Thread Cert.SsdFinishIdeal.nD Cert.SsdFinishIdeal.τ).loc Cert.SsdFinishIdeal.main_arg1)
      ∧ r.2.mem ((c.tc : Thread Cert.SsdFinishIdeal.nD Cert.SsdFinishIdeal.τ).loc Cert.SsdFinishIdeal.main_arg2) = m ((c.tc : Thread Cert.SsdFinishIdeal.nD Cert.SsdFinishIdeal.τ).loc Cert.SsdFinishIdeal.main_arg2)
      ∧ r.2.mem ((c.tc : Thread Cert.SsdFinishIdeal.nD Cert.SsdFinishIdeal.τ).loc Cert.SsdFinishIdeal.main_arg3) = m ((c.tc : Thread Cert.SsdFinishIdeal.nD Cert.SsdFinishIdeal.τ).loc Cert.SsdFinishIdeal.main_arg3)
      ∧ r.2.mem ((c.tc : Thread Cert.SsdFinishIdeal.nD Cert.SsdFinishIdeal.τ).loc Cert.SsdFinishIdeal.main_arg4) = m ((c.tc : Thread Cert.SsdFinishIdeal.nD Cert.SsdFinishIdeal.τ).loc Cert.SsdFinishIdeal.main_arg4)
      ∧ r.2.mem ((c.tc : Thread Cert.SsdFinishIdeal.nD Cert.SsdFinishIdeal.τ).loc Cert.SsdFinishIdeal.main_arg5) = m ((c.tc : Thread Cert.SsdFinishIdeal.nD Cert.SsdFinishIdeal.τ).loc Cert.SsdFinishIdeal.main_arg5))
      ∧ r.2.sem = fun _ => 0)

def quiescent_SsdFinishRefIdeal [hSsdFinishRefIdeal : Cert.SsdFinishRefIdeal.Facts] : Prop :=
  ∀ (m : (ℓ : Loc Cert.SsdFinishRefIdeal.nD Cert.SsdFinishRefIdeal.τ Cert.SsdFinishRefIdeal.sig) → Buf (Elt Ideal) ℓ) (g : Dev Cert.SsdFinishRefIdeal.nD → PrngReg), Pre_SsdFinishRefIdeal m →
    θ_run (Cert.SsdFinishRefIdeal.defs (F := Ideal)) (onTc (τ := Cert.SsdFinishRefIdeal.τ) (Cert.SsdFinishRefIdeal.main (F := Ideal))) ⟨m, fun _ => 0, g⟩ (fun r => (∀ c : Dev Cert.SsdFinishRefIdeal.nD,
      r.2.mem ((c.tc : Thread Cert.SsdFinishRefIdeal.nD Cert.SsdFinishRefIdeal.τ).loc Cert.SsdFinishRefIdeal.main_arg0) = m ((c.tc : Thread Cert.SsdFinishRefIdeal.nD Cert.SsdFinishRefIdeal.τ).loc Cert.SsdFinishRefIdeal.main_arg0)
      ∧ r.2.mem ((c.tc : Thread Cert.SsdFinishRefIdeal.nD Cert.SsdFinishRefIdeal.τ).loc Cert.SsdFinishRefIdeal.main_arg1) = m ((c.tc : Thread Cert.SsdFinishRefIdeal.nD Cert.SsdFinishRefIdeal.τ).loc Cert.SsdFinishRefIdeal.main_arg1)
      ∧ r.2.mem ((c.tc : Thread Cert.SsdFinishRefIdeal.nD Cert.SsdFinishRefIdeal.τ).loc Cert.SsdFinishRefIdeal.main_arg2) = m ((c.tc : Thread Cert.SsdFinishRefIdeal.nD Cert.SsdFinishRefIdeal.τ).loc Cert.SsdFinishRefIdeal.main_arg2)
      ∧ r.2.mem ((c.tc : Thread Cert.SsdFinishRefIdeal.nD Cert.SsdFinishRefIdeal.τ).loc Cert.SsdFinishRefIdeal.main_arg3) = m ((c.tc : Thread Cert.SsdFinishRefIdeal.nD Cert.SsdFinishRefIdeal.τ).loc Cert.SsdFinishRefIdeal.main_arg3)
      ∧ r.2.mem ((c.tc : Thread Cert.SsdFinishRefIdeal.nD Cert.SsdFinishRefIdeal.τ).loc Cert.SsdFinishRefIdeal.main_arg4) = m ((c.tc : Thread Cert.SsdFinishRefIdeal.nD Cert.SsdFinishRefIdeal.τ).loc Cert.SsdFinishRefIdeal.main_arg4)
      ∧ r.2.mem ((c.tc : Thread Cert.SsdFinishRefIdeal.nD Cert.SsdFinishRefIdeal.τ).loc Cert.SsdFinishRefIdeal.main_arg5) = m ((c.tc : Thread Cert.SsdFinishRefIdeal.nD Cert.SsdFinishRefIdeal.τ).loc Cert.SsdFinishRefIdeal.main_arg5))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1))
      ∧ r.2.sem = fun _ => 0)

def quiescent_SsdPrep [hSsdPrep : Cert.SsdPrep.Facts] : Prop :=
  ∀ (m : (ℓ : Loc Cert.SsdPrep.nD Cert.SsdPrep.τ Cert.SsdPrep.sig) → Buf (Elt Bits) ℓ) (g : Dev Cert.SsdPrep.nD → PrngReg), Pre_SsdPrep m →
    θ_run (Cert.SsdPrep.defs (F := Bits)) (onTc (τ := Cert.SsdPrep.τ) (Cert.SsdPrep.main (F := Bits))) ⟨m, fun _ => 0, g⟩ (fun r => (∀ c : Dev Cert.SsdPrep.nD,
      r.2.mem ((c.tc : Thread Cert.SsdPrep.nD Cert.SsdPrep.τ).loc Cert.SsdPrep.main_arg0) = m ((c.tc : Thread Cert.SsdPrep.nD Cert.SsdPrep.τ).loc Cert.SsdPrep.main_arg0)
      ∧ r.2.mem ((c.tc : Thread Cert.SsdPrep.nD Cert.SsdPrep.τ).loc Cert.SsdPrep.main_arg1) = m ((c.tc : Thread Cert.SsdPrep.nD Cert.SsdPrep.τ).loc Cert.SsdPrep.main_arg1)
      ∧ r.2.mem ((c.tc : Thread Cert.SsdPrep.nD Cert.SsdPrep.τ).loc Cert.SsdPrep.main_arg2) = m ((c.tc : Thread Cert.SsdPrep.nD Cert.SsdPrep.τ).loc Cert.SsdPrep.main_arg2))
      ∧ r.2.sem = fun _ => 0)

def quiescent_SsdPrepIdeal [hSsdPrepIdeal : Cert.SsdPrepIdeal.Facts] : Prop :=
  ∀ (m : (ℓ : Loc Cert.SsdPrepIdeal.nD Cert.SsdPrepIdeal.τ Cert.SsdPrepIdeal.sig) → Buf (Elt Ideal) ℓ) (g : Dev Cert.SsdPrepIdeal.nD → PrngReg), Pre_SsdPrepIdeal m →
    θ_run (Cert.SsdPrepIdeal.defs (F := Ideal)) (onTc (τ := Cert.SsdPrepIdeal.τ) (Cert.SsdPrepIdeal.main (F := Ideal))) ⟨m, fun _ => 0, g⟩ (fun r => (∀ c : Dev Cert.SsdPrepIdeal.nD,
      r.2.mem ((c.tc : Thread Cert.SsdPrepIdeal.nD Cert.SsdPrepIdeal.τ).loc Cert.SsdPrepIdeal.main_arg0) = m ((c.tc : Thread Cert.SsdPrepIdeal.nD Cert.SsdPrepIdeal.τ).loc Cert.SsdPrepIdeal.main_arg0)
      ∧ r.2.mem ((c.tc : Thread Cert.SsdPrepIdeal.nD Cert.SsdPrepIdeal.τ).loc Cert.SsdPrepIdeal.main_arg1) = m ((c.tc : Thread Cert.SsdPrepIdeal.nD Cert.SsdPrepIdeal.τ).loc Cert.SsdPrepIdeal.main_arg1)
      ∧ r.2.mem ((c.tc : Thread Cert.SsdPrepIdeal.nD Cert.SsdPrepIdeal.τ).loc Cert.SsdPrepIdeal.main_arg2) = m ((c.tc : Thread Cert.SsdPrepIdeal.nD Cert.SsdPrepIdeal.τ).loc Cert.SsdPrepIdeal.main_arg2))
      ∧ r.2.sem = fun _ => 0)

def quiescent_SsdPrepRefIdeal [hSsdPrepRefIdeal : Cert.SsdPrepRefIdeal.Facts] : Prop :=
  ∀ (m : (ℓ : Loc Cert.SsdPrepRefIdeal.nD Cert.SsdPrepRefIdeal.τ Cert.SsdPrepRefIdeal.sig) → Buf (Elt Ideal) ℓ) (g : Dev Cert.SsdPrepRefIdeal.nD → PrngReg), Pre_SsdPrepRefIdeal m →
    θ_run (Cert.SsdPrepRefIdeal.defs (F := Ideal)) (onTc (τ := Cert.SsdPrepRefIdeal.τ) (Cert.SsdPrepRefIdeal.main (F := Ideal))) ⟨m, fun _ => 0, g⟩ (fun r => (∀ c : Dev Cert.SsdPrepRefIdeal.nD,
      r.2.mem ((c.tc : Thread Cert.SsdPrepRefIdeal.nD Cert.SsdPrepRefIdeal.τ).loc Cert.SsdPrepRefIdeal.main_arg0) = m ((c.tc : Thread Cert.SsdPrepRefIdeal.nD Cert.SsdPrepRefIdeal.τ).loc Cert.SsdPrepRefIdeal.main_arg0)
      ∧ r.2.mem ((c.tc : Thread Cert.SsdPrepRefIdeal.nD Cert.SsdPrepRefIdeal.τ).loc Cert.SsdPrepRefIdeal.main_arg1) = m ((c.tc : Thread Cert.SsdPrepRefIdeal.nD Cert.SsdPrepRefIdeal.τ).loc Cert.SsdPrepRefIdeal.main_arg1)
      ∧ r.2.mem ((c.tc : Thread Cert.SsdPrepRefIdeal.nD Cert.SsdPrepRefIdeal.τ).loc Cert.SsdPrepRefIdeal.main_arg2) = m ((c.tc : Thread Cert.SsdPrepRefIdeal.nD Cert.SsdPrepRefIdeal.τ).loc Cert.SsdPrepRefIdeal.main_arg2))
      ∧ r.2.sem = fun _ => 0)

def quiescent_QkvPrep [hQkvPrep : Cert.QkvPrep.Facts] : Prop :=
  ∀ (m : (ℓ : Loc Cert.QkvPrep.nD Cert.QkvPrep.τ Cert.QkvPrep.sig) → Buf (Elt Bits) ℓ) (g : Dev Cert.QkvPrep.nD → PrngReg), Pre_QkvPrep m →
    θ_run (Cert.QkvPrep.defs (F := Bits)) (onTc (τ := Cert.QkvPrep.τ) (Cert.QkvPrep.main (F := Bits))) ⟨m, fun _ => 0, g⟩ (fun r => (∀ c : Dev Cert.QkvPrep.nD,
      r.2.mem ((c.tc : Thread Cert.QkvPrep.nD Cert.QkvPrep.τ).loc Cert.QkvPrep.main_arg0) = m ((c.tc : Thread Cert.QkvPrep.nD Cert.QkvPrep.τ).loc Cert.QkvPrep.main_arg0)
      ∧ r.2.mem ((c.tc : Thread Cert.QkvPrep.nD Cert.QkvPrep.τ).loc Cert.QkvPrep.main_arg1) = m ((c.tc : Thread Cert.QkvPrep.nD Cert.QkvPrep.τ).loc Cert.QkvPrep.main_arg1)
      ∧ r.2.mem ((c.tc : Thread Cert.QkvPrep.nD Cert.QkvPrep.τ).loc Cert.QkvPrep.main_arg2) = m ((c.tc : Thread Cert.QkvPrep.nD Cert.QkvPrep.τ).loc Cert.QkvPrep.main_arg2)
      ∧ r.2.mem ((c.tc : Thread Cert.QkvPrep.nD Cert.QkvPrep.τ).loc Cert.QkvPrep.main_arg3) = m ((c.tc : Thread Cert.QkvPrep.nD Cert.QkvPrep.τ).loc Cert.QkvPrep.main_arg3)
      ∧ r.2.mem ((c.tc : Thread Cert.QkvPrep.nD Cert.QkvPrep.τ).loc Cert.QkvPrep.main_arg4) = m ((c.tc : Thread Cert.QkvPrep.nD Cert.QkvPrep.τ).loc Cert.QkvPrep.main_arg4))
      ∧ r.2.sem = fun _ => 0)

def quiescent_QkvPrepIdeal [hQkvPrepIdeal : Cert.QkvPrepIdeal.Facts] : Prop :=
  ∀ (m : (ℓ : Loc Cert.QkvPrepIdeal.nD Cert.QkvPrepIdeal.τ Cert.QkvPrepIdeal.sig) → Buf (Elt Ideal) ℓ) (g : Dev Cert.QkvPrepIdeal.nD → PrngReg), Pre_QkvPrepIdeal m →
    θ_run (Cert.QkvPrepIdeal.defs (F := Ideal)) (onTc (τ := Cert.QkvPrepIdeal.τ) (Cert.QkvPrepIdeal.main (F := Ideal))) ⟨m, fun _ => 0, g⟩ (fun r => (∀ c : Dev Cert.QkvPrepIdeal.nD,
      r.2.mem ((c.tc : Thread Cert.QkvPrepIdeal.nD Cert.QkvPrepIdeal.τ).loc Cert.QkvPrepIdeal.main_arg0) = m ((c.tc : Thread Cert.QkvPrepIdeal.nD Cert.QkvPrepIdeal.τ).loc Cert.QkvPrepIdeal.main_arg0)
      ∧ r.2.mem ((c.tc : Thread Cert.QkvPrepIdeal.nD Cert.QkvPrepIdeal.τ).loc Cert.QkvPrepIdeal.main_arg1) = m ((c.tc : Thread Cert.QkvPrepIdeal.nD Cert.QkvPrepIdeal.τ).loc Cert.QkvPrepIdeal.main_arg1)
      ∧ r.2.mem ((c.tc : Thread Cert.QkvPrepIdeal.nD Cert.QkvPrepIdeal.τ).loc Cert.QkvPrepIdeal.main_arg2) = m ((c.tc : Thread Cert.QkvPrepIdeal.nD Cert.QkvPrepIdeal.τ).loc Cert.QkvPrepIdeal.main_arg2)
      ∧ r.2.mem ((c.tc : Thread Cert.QkvPrepIdeal.nD Cert.QkvPrepIdeal.τ).loc Cert.QkvPrepIdeal.main_arg3) = m ((c.tc : Thread Cert.QkvPrepIdeal.nD Cert.QkvPrepIdeal.τ).loc Cert.QkvPrepIdeal.main_arg3)
      ∧ r.2.mem ((c.tc : Thread Cert.QkvPrepIdeal.nD Cert.QkvPrepIdeal.τ).loc Cert.QkvPrepIdeal.main_arg4) = m ((c.tc : Thread Cert.QkvPrepIdeal.nD Cert.QkvPrepIdeal.τ).loc Cert.QkvPrepIdeal.main_arg4))
      ∧ r.2.sem = fun _ => 0)

def quiescent_QkvPrepRefIdeal [hQkvPrepRefIdeal : Cert.QkvPrepRefIdeal.Facts] : Prop :=
  ∀ (m : (ℓ : Loc Cert.QkvPrepRefIdeal.nD Cert.QkvPrepRefIdeal.τ Cert.QkvPrepRefIdeal.sig) → Buf (Elt Ideal) ℓ) (g : Dev Cert.QkvPrepRefIdeal.nD → PrngReg), Pre_QkvPrepRefIdeal m →
    θ_run (Cert.QkvPrepRefIdeal.defs (F := Ideal)) (onTc (τ := Cert.QkvPrepRefIdeal.τ) (Cert.QkvPrepRefIdeal.main (F := Ideal))) ⟨m, fun _ => 0, g⟩ (fun r => (∀ c : Dev Cert.QkvPrepRefIdeal.nD,
      r.2.mem ((c.tc : Thread Cert.QkvPrepRefIdeal.nD Cert.QkvPrepRefIdeal.τ).loc Cert.QkvPrepRefIdeal.main_arg0) = m ((c.tc : Thread Cert.QkvPrepRefIdeal.nD Cert.QkvPrepRefIdeal.τ).loc Cert.QkvPrepRefIdeal.main_arg0)
      ∧ r.2.mem ((c.tc : Thread Cert.QkvPrepRefIdeal.nD Cert.QkvPrepRefIdeal.τ).loc Cert.QkvPrepRefIdeal.main_arg1) = m ((c.tc : Thread Cert.QkvPrepRefIdeal.nD Cert.QkvPrepRefIdeal.τ).loc Cert.QkvPrepRefIdeal.main_arg1)
      ∧ r.2.mem ((c.tc : Thread Cert.QkvPrepRefIdeal.nD Cert.QkvPrepRefIdeal.τ).loc Cert.QkvPrepRefIdeal.main_arg2) = m ((c.tc : Thread Cert.QkvPrepRefIdeal.nD Cert.QkvPrepRefIdeal.τ).loc Cert.QkvPrepRefIdeal.main_arg2)
      ∧ r.2.mem ((c.tc : Thread Cert.QkvPrepRefIdeal.nD Cert.QkvPrepRefIdeal.τ).loc Cert.QkvPrepRefIdeal.main_arg3) = m ((c.tc : Thread Cert.QkvPrepRefIdeal.nD Cert.QkvPrepRefIdeal.τ).loc Cert.QkvPrepRefIdeal.main_arg3)
      ∧ r.2.mem ((c.tc : Thread Cert.QkvPrepRefIdeal.nD Cert.QkvPrepRefIdeal.τ).loc Cert.QkvPrepRefIdeal.main_arg4) = m ((c.tc : Thread Cert.QkvPrepRefIdeal.nD Cert.QkvPrepRefIdeal.τ).loc Cert.QkvPrepRefIdeal.main_arg4))
      ∧ r.2.sem = fun _ => 0)

def preserves_Flash_FlashIdeal : Prop :=
  True

def algebraic_FlashIdeal_FlashRefIdeal_pre_finite_scores [hFlashIdeal : Cert.FlashIdeal.Facts] [hFlashRefIdeal : Cert.FlashRefIdeal.Facts] [hPre_finite_scores : Cert.Pre_finite_scores.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_scores m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v5)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v5) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v43) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_AttIn_AttInIdeal : Prop :=
  True

def algebraic_AttInIdeal_AttInRefIdeal [hAttInIdeal : Cert.AttInIdeal.Facts] [hAttInRefIdeal : Cert.AttInRefIdeal.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg), Pre_AttInIdeal m →
    (∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)) →
    ∃ (v0 : (c : Dev Cert.AttInIdeal.nD) → Buf (Elt Ideal) ((c.tc : Thread Cert.AttInIdeal.nD Cert.AttInIdeal.τ).loc Cert.AttInIdeal.main_v1)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v1) = v0 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v1) = v0 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v2)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v2) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v2) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_DtIn_DtInIdeal : Prop :=
  True

def algebraic_DtInIdeal_DtInRefIdeal [hDtInIdeal : Cert.DtInIdeal.Facts] [hDtInRefIdeal : Cert.DtInRefIdeal.Facts] : Prop :=
  ∀ (m : (ℓ : Loc Cert.DtInIdeal.nD Cert.DtInIdeal.τ Cert.DtInIdeal.sig) → Buf (Elt Ideal) ℓ) (g : Dev Cert.DtInIdeal.nD → PrngReg)
    (m' : (ℓ : Loc Cert.DtInRefIdeal.nD Cert.DtInRefIdeal.τ Cert.DtInRefIdeal.sig) → Buf (Elt Ideal) ℓ) (g' : Dev Cert.DtInRefIdeal.nD → PrngReg), Pre_DtInIdeal m →
    (∀ c : Dev Cert.DtInIdeal.nD,
      m' ((c.tc : Thread Cert.DtInRefIdeal.nD Cert.DtInRefIdeal.τ).loc Cert.DtInRefIdeal.main_arg0) = m ((c.tc : Thread Cert.DtInIdeal.nD Cert.DtInIdeal.τ).loc Cert.DtInIdeal.main_arg0)
      ∧ m' ((c.tc : Thread Cert.DtInRefIdeal.nD Cert.DtInRefIdeal.τ).loc Cert.DtInRefIdeal.main_arg1) = m ((c.tc : Thread Cert.DtInIdeal.nD Cert.DtInIdeal.τ).loc Cert.DtInIdeal.main_arg1)) →
    ∃ (v0 : (c : Dev Cert.DtInIdeal.nD) → Buf (Elt Ideal) ((c.tc : Thread Cert.DtInIdeal.nD Cert.DtInIdeal.τ).loc Cert.DtInIdeal.main_v2)),
      θ_run (Cert.DtInIdeal.defs (F := Ideal)) (onTc (τ := Cert.DtInIdeal.τ) (Cert.DtInIdeal.main (F := Ideal))) ⟨m, fun _ => 0, g⟩ (fun r => ∀ c : Dev Cert.DtInIdeal.nD,
          r.2.mem ((c.tc : Thread Cert.DtInIdeal.nD Cert.DtInIdeal.τ).loc Cert.DtInIdeal.main_v2) = v0 c
          ∧ r.2.mem ((c.tc : Thread Cert.DtInIdeal.nD Cert.DtInIdeal.τ).loc Cert.DtInIdeal.main_arg0) = m ((c.tc : Thread Cert.DtInIdeal.nD Cert.DtInIdeal.τ).loc Cert.DtInIdeal.main_arg0)
          ∧ r.2.mem ((c.tc : Thread Cert.DtInIdeal.nD Cert.DtInIdeal.τ).loc Cert.DtInIdeal.main_arg1) = m ((c.tc : Thread Cert.DtInIdeal.nD Cert.DtInIdeal.τ).loc Cert.DtInIdeal.main_arg1))
      ∧ θ_run (Cert.DtInRefIdeal.defs (F := Ideal)) (onTc (τ := Cert.DtInRefIdeal.τ) (Cert.DtInRefIdeal.main (F := Ideal))) ⟨m', fun _ => 0, g'⟩ (fun r => ∀ c : Dev Cert.DtInRefIdeal.nD,
          r.2.mem ((c.tc : Thread Cert.DtInRefIdeal.nD Cert.DtInRefIdeal.τ).loc Cert.DtInRefIdeal.main_v2) = v0 c
          ∧ r.2.mem ((c.tc : Thread Cert.DtInRefIdeal.nD Cert.DtInRefIdeal.τ).loc Cert.DtInRefIdeal.main_arg0) = m' ((c.tc : Thread Cert.DtInRefIdeal.nD Cert.DtInRefIdeal.τ).loc Cert.DtInRefIdeal.main_arg0)
          ∧ r.2.mem ((c.tc : Thread Cert.DtInRefIdeal.nD Cert.DtInRefIdeal.τ).loc Cert.DtInRefIdeal.main_arg1) = m' ((c.tc : Thread Cert.DtInRefIdeal.nD Cert.DtInRefIdeal.τ).loc Cert.DtInRefIdeal.main_arg1))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)
      ∧ m' ((c.tc : Thread Cert.AttOutRefIdeal.nD Cert.AttOutRefIdeal.τ).loc Cert.AttOutRefIdeal.main_arg3) = m ((c.tc : Thread Cert.AttOutIdeal.nD Cert.AttOutIdeal.τ).loc Cert.AttOutIdeal.main_arg3)) →
    ∃ (v0 : (c : Dev Cert.AttOutIdeal.nD) → Buf (Elt Ideal) ((c.tc : Thread Cert.AttOutIdeal.nD Cert.AttOutIdeal.τ).loc Cert.AttOutIdeal.main_v1)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v1) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
          ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v21) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2)
          ∧ r.2.mem ((c.tc : Thread Cert.AttOutRefIdeal.nD Cert.AttOutRefIdeal.τ).loc Cert.AttOutRefIdeal.main_arg3) = m' ((c.tc : Thread Cert.AttOutRefIdeal.nD Cert.AttOutRefIdeal.τ).loc Cert.AttOutRefIdeal.main_arg3))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)
      ∧ m' ((c.tc : Thread Cert.SsmOutRefIdeal.nD Cert.SsmOutRefIdeal.τ).loc Cert.SsmOutRefIdeal.main_arg3) = m ((c.tc : Thread Cert.SsmOutIdeal.nD Cert.SsmOutIdeal.τ).loc Cert.SsmOutIdeal.main_arg3)) →
    ∃ (v0 : (c : Dev Cert.SsmOutIdeal.nD) → Buf (Elt Ideal) ((c.tc : Thread Cert.SsmOutIdeal.nD Cert.SsmOutIdeal.τ).loc Cert.SsmOutIdeal.main_v1)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v1) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v21) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2)
          ∧ r.2.mem ((c.tc : Thread Cert.SsmOutRefIdeal.nD Cert.SsmOutRefIdeal.τ).loc Cert.SsmOutRefIdeal.main_arg3) = m' ((c.tc : Thread Cert.SsmOutRefIdeal.nD Cert.SsmOutRefIdeal.τ).loc Cert.SsmOutRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v40) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)) →
    ∃ (v0 : (c : Dev Cert.NormMixIdeal.nD) → Buf (Elt Ideal) ((c.tc : Thread Cert.NormMixIdeal.nD Cert.NormMixIdeal.τ).loc Cert.NormMixIdeal.main_v1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v1) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v55) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)) →
    ∃ (v0 : (c : Dev Cert.NormFfnIdeal.nD) → Buf (Elt Ideal) ((c.tc : Thread Cert.NormFfnIdeal.nD Cert.NormFfnIdeal.τ).loc Cert.NormFfnIdeal.main_v1)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v1) = v0 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v54) = v0 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2))

def preserves_SsdFinish_SsdFinishIdeal : Prop :=
  True

def algebraic_SsdFinishIdeal_SsdFinishRefIdeal [hSsdFinishIdeal : Cert.SsdFinishIdeal.Facts] [hSsdFinishRefIdeal : Cert.SsdFinishRefIdeal.Facts] : Prop :=
  ∀ (m : (ℓ : Loc Cert.SsdFinishIdeal.nD Cert.SsdFinishIdeal.τ Cert.SsdFinishIdeal.sig) → Buf (Elt Ideal) ℓ) (g : Dev Cert.SsdFinishIdeal.nD → PrngReg)
    (m' : (ℓ : Loc Cert.SsdFinishRefIdeal.nD Cert.SsdFinishRefIdeal.τ Cert.SsdFinishRefIdeal.sig) → Buf (Elt Ideal) ℓ) (g' : Dev Cert.SsdFinishRefIdeal.nD → PrngReg), Pre_SsdFinishIdeal m →
    (∀ c : Dev Cert.SsdFinishIdeal.nD,
      m' ((c.tc : Thread Cert.SsdFinishRefIdeal.nD Cert.SsdFinishRefIdeal.τ).loc Cert.SsdFinishRefIdeal.main_arg0) = m ((c.tc : Thread Cert.SsdFinishIdeal.nD Cert.SsdFinishIdeal.τ).loc Cert.SsdFinishIdeal.main_arg0)
      ∧ m' ((c.tc : Thread Cert.SsdFinishRefIdeal.nD Cert.SsdFinishRefIdeal.τ).loc Cert.SsdFinishRefIdeal.main_arg1) = m ((c.tc : Thread Cert.SsdFinishIdeal.nD Cert.SsdFinishIdeal.τ).loc Cert.SsdFinishIdeal.main_arg1)
      ∧ m' ((c.tc : Thread Cert.SsdFinishRefIdeal.nD Cert.SsdFinishRefIdeal.τ).loc Cert.SsdFinishRefIdeal.main_arg2) = m ((c.tc : Thread Cert.SsdFinishIdeal.nD Cert.SsdFinishIdeal.τ).loc Cert.SsdFinishIdeal.main_arg2)
      ∧ m' ((c.tc : Thread Cert.SsdFinishRefIdeal.nD Cert.SsdFinishRefIdeal.τ).loc Cert.SsdFinishRefIdeal.main_arg3) = m ((c.tc : Thread Cert.SsdFinishIdeal.nD Cert.SsdFinishIdeal.τ).loc Cert.SsdFinishIdeal.main_arg3)
      ∧ m' ((c.tc : Thread Cert.SsdFinishRefIdeal.nD Cert.SsdFinishRefIdeal.τ).loc Cert.SsdFinishRefIdeal.main_arg4) = m ((c.tc : Thread Cert.SsdFinishIdeal.nD Cert.SsdFinishIdeal.τ).loc Cert.SsdFinishIdeal.main_arg4)
      ∧ m' ((c.tc : Thread Cert.SsdFinishRefIdeal.nD Cert.SsdFinishRefIdeal.τ).loc Cert.SsdFinishRefIdeal.main_arg5) = m ((c.tc : Thread Cert.SsdFinishIdeal.nD Cert.SsdFinishIdeal.τ).loc Cert.SsdFinishIdeal.main_arg5)) →
    ∃ (v0 : (c : Dev Cert.SsdFinishIdeal.nD) → Buf (Elt Ideal) ((c.tc : Thread Cert.SsdFinishIdeal.nD Cert.SsdFinishIdeal.τ).loc Cert.SsdFinishIdeal.main_v4)),
      θ_run (Cert.SsdFinishIdeal.defs (F := Ideal)) (onTc (τ := Cert.SsdFinishIdeal.τ) (Cert.SsdFinishIdeal.main (F := Ideal))) ⟨m, fun _ => 0, g⟩ (fun r => ∀ c : Dev Cert.SsdFinishIdeal.nD,
          r.2.mem ((c.tc : Thread Cert.SsdFinishIdeal.nD Cert.SsdFinishIdeal.τ).loc Cert.SsdFinishIdeal.main_v4) = v0 c
          ∧ r.2.mem ((c.tc : Thread Cert.SsdFinishIdeal.nD Cert.SsdFinishIdeal.τ).loc Cert.SsdFinishIdeal.main_arg0) = m ((c.tc : Thread Cert.SsdFinishIdeal.nD Cert.SsdFinishIdeal.τ).loc Cert.SsdFinishIdeal.main_arg0)
          ∧ r.2.mem ((c.tc : Thread Cert.SsdFinishIdeal.nD Cert.SsdFinishIdeal.τ).loc Cert.SsdFinishIdeal.main_arg1) = m ((c.tc : Thread Cert.SsdFinishIdeal.nD Cert.SsdFinishIdeal.τ).loc Cert.SsdFinishIdeal.main_arg1)
          ∧ r.2.mem ((c.tc : Thread Cert.SsdFinishIdeal.nD Cert.SsdFinishIdeal.τ).loc Cert.SsdFinishIdeal.main_arg2) = m ((c.tc : Thread Cert.SsdFinishIdeal.nD Cert.SsdFinishIdeal.τ).loc Cert.SsdFinishIdeal.main_arg2)
          ∧ r.2.mem ((c.tc : Thread Cert.SsdFinishIdeal.nD Cert.SsdFinishIdeal.τ).loc Cert.SsdFinishIdeal.main_arg3) = m ((c.tc : Thread Cert.SsdFinishIdeal.nD Cert.SsdFinishIdeal.τ).loc Cert.SsdFinishIdeal.main_arg3)
          ∧ r.2.mem ((c.tc : Thread Cert.SsdFinishIdeal.nD Cert.SsdFinishIdeal.τ).loc Cert.SsdFinishIdeal.main_arg4) = m ((c.tc : Thread Cert.SsdFinishIdeal.nD Cert.SsdFinishIdeal.τ).loc Cert.SsdFinishIdeal.main_arg4)
          ∧ r.2.mem ((c.tc : Thread Cert.SsdFinishIdeal.nD Cert.SsdFinishIdeal.τ).loc Cert.SsdFinishIdeal.main_arg5) = m ((c.tc : Thread Cert.SsdFinishIdeal.nD Cert.SsdFinishIdeal.τ).loc Cert.SsdFinishIdeal.main_arg5))
      ∧ θ_run (Cert.SsdFinishRefIdeal.defs (F := Ideal)) (onTc (τ := Cert.SsdFinishRefIdeal.τ) (Cert.SsdFinishRefIdeal.main (F := Ideal))) ⟨m', fun _ => 0, g'⟩ (fun r => ∀ c : Dev Cert.SsdFinishRefIdeal.nD,
          r.2.mem ((c.tc : Thread Cert.SsdFinishRefIdeal.nD Cert.SsdFinishRefIdeal.τ).loc Cert.SsdFinishRefIdeal.main_v34) = v0 c
          ∧ r.2.mem ((c.tc : Thread Cert.SsdFinishRefIdeal.nD Cert.SsdFinishRefIdeal.τ).loc Cert.SsdFinishRefIdeal.main_arg0) = m' ((c.tc : Thread Cert.SsdFinishRefIdeal.nD Cert.SsdFinishRefIdeal.τ).loc Cert.SsdFinishRefIdeal.main_arg0)
          ∧ r.2.mem ((c.tc : Thread Cert.SsdFinishRefIdeal.nD Cert.SsdFinishRefIdeal.τ).loc Cert.SsdFinishRefIdeal.main_arg1) = m' ((c.tc : Thread Cert.SsdFinishRefIdeal.nD Cert.SsdFinishRefIdeal.τ).loc Cert.SsdFinishRefIdeal.main_arg1)
          ∧ r.2.mem ((c.tc : Thread Cert.SsdFinishRefIdeal.nD Cert.SsdFinishRefIdeal.τ).loc Cert.SsdFinishRefIdeal.main_arg2) = m' ((c.tc : Thread Cert.SsdFinishRefIdeal.nD Cert.SsdFinishRefIdeal.τ).loc Cert.SsdFinishRefIdeal.main_arg2)
          ∧ r.2.mem ((c.tc : Thread Cert.SsdFinishRefIdeal.nD Cert.SsdFinishRefIdeal.τ).loc Cert.SsdFinishRefIdeal.main_arg3) = m' ((c.tc : Thread Cert.SsdFinishRefIdeal.nD Cert.SsdFinishRefIdeal.τ).loc Cert.SsdFinishRefIdeal.main_arg3)
          ∧ r.2.mem ((c.tc : Thread Cert.SsdFinishRefIdeal.nD Cert.SsdFinishRefIdeal.τ).loc Cert.SsdFinishRefIdeal.main_arg4) = m' ((c.tc : Thread Cert.SsdFinishRefIdeal.nD Cert.SsdFinishRefIdeal.τ).loc Cert.SsdFinishRefIdeal.main_arg4)
          ∧ r.2.mem ((c.tc : Thread Cert.SsdFinishRefIdeal.nD Cert.SsdFinishRefIdeal.τ).loc Cert.SsdFinishRefIdeal.main_arg5) = m' ((c.tc : Thread Cert.SsdFinishRefIdeal.nD Cert.SsdFinishRefIdeal.τ).loc Cert.SsdFinishRefIdeal.main_arg5))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)) →
    ∃ (v0 : (c : Dev Cert.SconvIdeal.nD) → Buf (Elt Ideal) ((c.tc : Thread Cert.SconvIdeal.nD Cert.SconvIdeal.τ).loc Cert.SconvIdeal.main_v0)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v0) = v0 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v52) = v0 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1))

def preserves_SsdPrep_SsdPrepIdeal : Prop :=
  True

def algebraic_SsdPrepIdeal_SsdPrepRefIdeal [hSsdPrepIdeal : Cert.SsdPrepIdeal.Facts] [hSsdPrepRefIdeal : Cert.SsdPrepRefIdeal.Facts] : Prop :=
  ∀ (m : (ℓ : Loc Cert.SsdPrepIdeal.nD Cert.SsdPrepIdeal.τ Cert.SsdPrepIdeal.sig) → Buf (Elt Ideal) ℓ) (g : Dev Cert.SsdPrepIdeal.nD → PrngReg)
    (m' : (ℓ : Loc Cert.SsdPrepRefIdeal.nD Cert.SsdPrepRefIdeal.τ Cert.SsdPrepRefIdeal.sig) → Buf (Elt Ideal) ℓ) (g' : Dev Cert.SsdPrepRefIdeal.nD → PrngReg), Pre_SsdPrepIdeal m →
    (∀ c : Dev Cert.SsdPrepIdeal.nD,
      m' ((c.tc : Thread Cert.SsdPrepRefIdeal.nD Cert.SsdPrepRefIdeal.τ).loc Cert.SsdPrepRefIdeal.main_arg0) = m ((c.tc : Thread Cert.SsdPrepIdeal.nD Cert.SsdPrepIdeal.τ).loc Cert.SsdPrepIdeal.main_arg0)
      ∧ m' ((c.tc : Thread Cert.SsdPrepRefIdeal.nD Cert.SsdPrepRefIdeal.τ).loc Cert.SsdPrepRefIdeal.main_arg1) = m ((c.tc : Thread Cert.SsdPrepIdeal.nD Cert.SsdPrepIdeal.τ).loc Cert.SsdPrepIdeal.main_arg1)
      ∧ m' ((c.tc : Thread Cert.SsdPrepRefIdeal.nD Cert.SsdPrepRefIdeal.τ).loc Cert.SsdPrepRefIdeal.main_arg2) = m ((c.tc : Thread Cert.SsdPrepIdeal.nD Cert.SsdPrepIdeal.τ).loc Cert.SsdPrepIdeal.main_arg2)) →
    ∃ (v0 : (c : Dev Cert.SsdPrepIdeal.nD) → Buf (Elt Ideal) ((c.tc : Thread Cert.SsdPrepIdeal.nD Cert.SsdPrepIdeal.τ).loc Cert.SsdPrepIdeal.main_v1)),
      θ_run (Cert.SsdPrepIdeal.defs (F := Ideal)) (onTc (τ := Cert.SsdPrepIdeal.τ) (Cert.SsdPrepIdeal.main (F := Ideal))) ⟨m, fun _ => 0, g⟩ (fun r => ∀ c : Dev Cert.SsdPrepIdeal.nD,
          r.2.mem ((c.tc : Thread Cert.SsdPrepIdeal.nD Cert.SsdPrepIdeal.τ).loc Cert.SsdPrepIdeal.main_v1) = v0 c
          ∧ r.2.mem ((c.tc : Thread Cert.SsdPrepIdeal.nD Cert.SsdPrepIdeal.τ).loc Cert.SsdPrepIdeal.main_arg0) = m ((c.tc : Thread Cert.SsdPrepIdeal.nD Cert.SsdPrepIdeal.τ).loc Cert.SsdPrepIdeal.main_arg0)
          ∧ r.2.mem ((c.tc : Thread Cert.SsdPrepIdeal.nD Cert.SsdPrepIdeal.τ).loc Cert.SsdPrepIdeal.main_arg1) = m ((c.tc : Thread Cert.SsdPrepIdeal.nD Cert.SsdPrepIdeal.τ).loc Cert.SsdPrepIdeal.main_arg1)
          ∧ r.2.mem ((c.tc : Thread Cert.SsdPrepIdeal.nD Cert.SsdPrepIdeal.τ).loc Cert.SsdPrepIdeal.main_arg2) = m ((c.tc : Thread Cert.SsdPrepIdeal.nD Cert.SsdPrepIdeal.τ).loc Cert.SsdPrepIdeal.main_arg2))
      ∧ θ_run (Cert.SsdPrepRefIdeal.defs (F := Ideal)) (onTc (τ := Cert.SsdPrepRefIdeal.τ) (Cert.SsdPrepRefIdeal.main (F := Ideal))) ⟨m', fun _ => 0, g'⟩ (fun r => ∀ c : Dev Cert.SsdPrepRefIdeal.nD,
          r.2.mem ((c.tc : Thread Cert.SsdPrepRefIdeal.nD Cert.SsdPrepRefIdeal.τ).loc Cert.SsdPrepRefIdeal.main_v53) = v0 c
          ∧ r.2.mem ((c.tc : Thread Cert.SsdPrepRefIdeal.nD Cert.SsdPrepRefIdeal.τ).loc Cert.SsdPrepRefIdeal.main_arg0) = m' ((c.tc : Thread Cert.SsdPrepRefIdeal.nD Cert.SsdPrepRefIdeal.τ).loc Cert.SsdPrepRefIdeal.main_arg0)
          ∧ r.2.mem ((c.tc : Thread Cert.SsdPrepRefIdeal.nD Cert.SsdPrepRefIdeal.τ).loc Cert.SsdPrepRefIdeal.main_arg1) = m' ((c.tc : Thread Cert.SsdPrepRefIdeal.nD Cert.SsdPrepRefIdeal.τ).loc Cert.SsdPrepRefIdeal.main_arg1)
          ∧ r.2.mem ((c.tc : Thread Cert.SsdPrepRefIdeal.nD Cert.SsdPrepRefIdeal.τ).loc Cert.SsdPrepRefIdeal.main_arg2) = m' ((c.tc : Thread Cert.SsdPrepRefIdeal.nD Cert.SsdPrepRefIdeal.τ).loc Cert.SsdPrepRefIdeal.main_arg2))

def preserves_QkvPrep_QkvPrepIdeal : Prop :=
  True

def algebraic_QkvPrepIdeal_QkvPrepRefIdeal [hQkvPrepIdeal : Cert.QkvPrepIdeal.Facts] [hQkvPrepRefIdeal : Cert.QkvPrepRefIdeal.Facts] : Prop :=
  ∀ (m : (ℓ : Loc Cert.QkvPrepIdeal.nD Cert.QkvPrepIdeal.τ Cert.QkvPrepIdeal.sig) → Buf (Elt Ideal) ℓ) (g : Dev Cert.QkvPrepIdeal.nD → PrngReg)
    (m' : (ℓ : Loc Cert.QkvPrepRefIdeal.nD Cert.QkvPrepRefIdeal.τ Cert.QkvPrepRefIdeal.sig) → Buf (Elt Ideal) ℓ) (g' : Dev Cert.QkvPrepRefIdeal.nD → PrngReg), Pre_QkvPrepIdeal m →
    (∀ c : Dev Cert.QkvPrepIdeal.nD,
      m' ((c.tc : Thread Cert.QkvPrepRefIdeal.nD Cert.QkvPrepRefIdeal.τ).loc Cert.QkvPrepRefIdeal.main_arg0) = m ((c.tc : Thread Cert.QkvPrepIdeal.nD Cert.QkvPrepIdeal.τ).loc Cert.QkvPrepIdeal.main_arg0)
      ∧ m' ((c.tc : Thread Cert.QkvPrepRefIdeal.nD Cert.QkvPrepRefIdeal.τ).loc Cert.QkvPrepRefIdeal.main_arg1) = m ((c.tc : Thread Cert.QkvPrepIdeal.nD Cert.QkvPrepIdeal.τ).loc Cert.QkvPrepIdeal.main_arg1)
      ∧ m' ((c.tc : Thread Cert.QkvPrepRefIdeal.nD Cert.QkvPrepRefIdeal.τ).loc Cert.QkvPrepRefIdeal.main_arg2) = m ((c.tc : Thread Cert.QkvPrepIdeal.nD Cert.QkvPrepIdeal.τ).loc Cert.QkvPrepIdeal.main_arg2)
      ∧ m' ((c.tc : Thread Cert.QkvPrepRefIdeal.nD Cert.QkvPrepRefIdeal.τ).loc Cert.QkvPrepRefIdeal.main_arg3) = m ((c.tc : Thread Cert.QkvPrepIdeal.nD Cert.QkvPrepIdeal.τ).loc Cert.QkvPrepIdeal.main_arg3)
      ∧ m' ((c.tc : Thread Cert.QkvPrepRefIdeal.nD Cert.QkvPrepRefIdeal.τ).loc Cert.QkvPrepRefIdeal.main_arg4) = m ((c.tc : Thread Cert.QkvPrepIdeal.nD Cert.QkvPrepIdeal.τ).loc Cert.QkvPrepIdeal.main_arg4)) →
    ∃ (v0 : (c : Dev Cert.QkvPrepIdeal.nD) → Buf (Elt Ideal) ((c.tc : Thread Cert.QkvPrepIdeal.nD Cert.QkvPrepIdeal.τ).loc Cert.QkvPrepIdeal.main_v14_0)) (v1 : (c : Dev Cert.QkvPrepIdeal.nD) → Buf (Elt Ideal) ((c.tc : Thread Cert.QkvPrepIdeal.nD Cert.QkvPrepIdeal.τ).loc Cert.QkvPrepIdeal.main_v14_1)) (v2 : (c : Dev Cert.QkvPrepIdeal.nD) → Buf (Elt Ideal) ((c.tc : Thread Cert.QkvPrepIdeal.nD Cert.QkvPrepIdeal.τ).loc Cert.QkvPrepIdeal.main_v14_2)),
      θ_run (Cert.QkvPrepIdeal.defs (F := Ideal)) (onTc (τ := Cert.QkvPrepIdeal.τ) (Cert.QkvPrepIdeal.main (F := Ideal))) ⟨m, fun _ => 0, g⟩ (fun r => ∀ c : Dev Cert.QkvPrepIdeal.nD,
          r.2.mem ((c.tc : Thread Cert.QkvPrepIdeal.nD Cert.QkvPrepIdeal.τ).loc Cert.QkvPrepIdeal.main_v14_0) = v0 c
          ∧ r.2.mem ((c.tc : Thread Cert.QkvPrepIdeal.nD Cert.QkvPrepIdeal.τ).loc Cert.QkvPrepIdeal.main_v14_1) = v1 c
          ∧ r.2.mem ((c.tc : Thread Cert.QkvPrepIdeal.nD Cert.QkvPrepIdeal.τ).loc Cert.QkvPrepIdeal.main_v14_2) = v2 c
          ∧ r.2.mem ((c.tc : Thread Cert.QkvPrepIdeal.nD Cert.QkvPrepIdeal.τ).loc Cert.QkvPrepIdeal.main_arg0) = m ((c.tc : Thread Cert.QkvPrepIdeal.nD Cert.QkvPrepIdeal.τ).loc Cert.QkvPrepIdeal.main_arg0)
          ∧ r.2.mem ((c.tc : Thread Cert.QkvPrepIdeal.nD Cert.QkvPrepIdeal.τ).loc Cert.QkvPrepIdeal.main_arg1) = m ((c.tc : Thread Cert.QkvPrepIdeal.nD Cert.QkvPrepIdeal.τ).loc Cert.QkvPrepIdeal.main_arg1)
          ∧ r.2.mem ((c.tc : Thread Cert.QkvPrepIdeal.nD Cert.QkvPrepIdeal.τ).loc Cert.QkvPrepIdeal.main_arg2) = m ((c.tc : Thread Cert.QkvPrepIdeal.nD Cert.QkvPrepIdeal.τ).loc Cert.QkvPrepIdeal.main_arg2)
          ∧ r.2.mem ((c.tc : Thread Cert.QkvPrepIdeal.nD Cert.QkvPrepIdeal.τ).loc Cert.QkvPrepIdeal.main_arg3) = m ((c.tc : Thread Cert.QkvPrepIdeal.nD Cert.QkvPrepIdeal.τ).loc Cert.QkvPrepIdeal.main_arg3)
          ∧ r.2.mem ((c.tc : Thread Cert.QkvPrepIdeal.nD Cert.QkvPrepIdeal.τ).loc Cert.QkvPrepIdeal.main_arg4) = m ((c.tc : Thread Cert.QkvPrepIdeal.nD Cert.QkvPrepIdeal.τ).loc Cert.QkvPrepIdeal.main_arg4))
      ∧ θ_run (Cert.QkvPrepRefIdeal.defs (F := Ideal)) (onTc (τ := Cert.QkvPrepRefIdeal.τ) (Cert.QkvPrepRefIdeal.main (F := Ideal))) ⟨m', fun _ => 0, g'⟩ (fun r => ∀ c : Dev Cert.QkvPrepRefIdeal.nD,
          r.2.mem ((c.tc : Thread Cert.QkvPrepRefIdeal.nD Cert.QkvPrepRefIdeal.τ).loc Cert.QkvPrepRefIdeal.main_v126) = v0 c
          ∧ r.2.mem ((c.tc : Thread Cert.QkvPrepRefIdeal.nD Cert.QkvPrepRefIdeal.τ).loc Cert.QkvPrepRefIdeal.main_v128) = v1 c
          ∧ r.2.mem ((c.tc : Thread Cert.QkvPrepRefIdeal.nD Cert.QkvPrepRefIdeal.τ).loc Cert.QkvPrepRefIdeal.main_v129) = v2 c
          ∧ r.2.mem ((c.tc : Thread Cert.QkvPrepRefIdeal.nD Cert.QkvPrepRefIdeal.τ).loc Cert.QkvPrepRefIdeal.main_arg0) = m' ((c.tc : Thread Cert.QkvPrepRefIdeal.nD Cert.QkvPrepRefIdeal.τ).loc Cert.QkvPrepRefIdeal.main_arg0)
          ∧ r.2.mem ((c.tc : Thread Cert.QkvPrepRefIdeal.nD Cert.QkvPrepRefIdeal.τ).loc Cert.QkvPrepRefIdeal.main_arg1) = m' ((c.tc : Thread Cert.QkvPrepRefIdeal.nD Cert.QkvPrepRefIdeal.τ).loc Cert.QkvPrepRefIdeal.main_arg1)
          ∧ r.2.mem ((c.tc : Thread Cert.QkvPrepRefIdeal.nD Cert.QkvPrepRefIdeal.τ).loc Cert.QkvPrepRefIdeal.main_arg2) = m' ((c.tc : Thread Cert.QkvPrepRefIdeal.nD Cert.QkvPrepRefIdeal.τ).loc Cert.QkvPrepRefIdeal.main_arg2)
          ∧ r.2.mem ((c.tc : Thread Cert.QkvPrepRefIdeal.nD Cert.QkvPrepRefIdeal.τ).loc Cert.QkvPrepRefIdeal.main_arg3) = m' ((c.tc : Thread Cert.QkvPrepRefIdeal.nD Cert.QkvPrepRefIdeal.τ).loc Cert.QkvPrepRefIdeal.main_arg3)
          ∧ r.2.mem ((c.tc : Thread Cert.QkvPrepRefIdeal.nD Cert.QkvPrepRefIdeal.τ).loc Cert.QkvPrepRefIdeal.main_arg4) = m' ((c.tc : Thread Cert.QkvPrepRefIdeal.nD Cert.QkvPrepRefIdeal.τ).loc Cert.QkvPrepRefIdeal.main_arg4))

def Claim : Prop :=
  ∃ (hFlash : Cert.Flash.Facts) (hFlashIdeal : Cert.FlashIdeal.Facts) (hFlashRefIdeal : Cert.FlashRefIdeal.Facts) (hAttIn : Cert.AttIn.Facts) (hAttInIdeal : Cert.AttInIdeal.Facts) (hAttInRefIdeal : Cert.AttInRefIdeal.Facts) (hSsmIn : Cert.SsmIn.Facts) (hSsmInIdeal : Cert.SsmInIdeal.Facts) (hSsmInRefIdeal : Cert.SsmInRefIdeal.Facts) (hDtIn : Cert.DtIn.Facts) (hDtInIdeal : Cert.DtInIdeal.Facts) (hDtInRefIdeal : Cert.DtInRefIdeal.Facts) (hAttOut : Cert.AttOut.Facts) (hAttOutIdeal : Cert.AttOutIdeal.Facts) (hAttOutRefIdeal : Cert.AttOutRefIdeal.Facts) (hSsmOut : Cert.SsmOut.Facts) (hSsmOutIdeal : Cert.SsmOutIdeal.Facts) (hSsmOutRefIdeal : Cert.SsmOutRefIdeal.Facts) (hExperts : Cert.Experts.Facts) (hExpertsIdeal : Cert.ExpertsIdeal.Facts) (hExpertsRefIdeal : Cert.ExpertsRefIdeal.Facts) (hNormMix : Cert.NormMix.Facts) (hNormMixIdeal : Cert.NormMixIdeal.Facts) (hNormMixRefIdeal : Cert.NormMixRefIdeal.Facts) (hNormFfn : Cert.NormFfn.Facts) (hNormFfnIdeal : Cert.NormFfnIdeal.Facts) (hNormFfnRefIdeal : Cert.NormFfnRefIdeal.Facts) (hSsdFinish : Cert.SsdFinish.Facts) (hSsdFinishIdeal : Cert.SsdFinishIdeal.Facts) (hSsdFinishRefIdeal : Cert.SsdFinishRefIdeal.Facts) (hSconv : Cert.Sconv.Facts) (hSconvIdeal : Cert.SconvIdeal.Facts) (hSconvRefIdeal : Cert.SconvRefIdeal.Facts) (hSsdPrep : Cert.SsdPrep.Facts) (hSsdPrepIdeal : Cert.SsdPrepIdeal.Facts) (hSsdPrepRefIdeal : Cert.SsdPrepRefIdeal.Facts) (hQkvPrep : Cert.QkvPrep.Facts) (hQkvPrepIdeal : Cert.QkvPrepIdeal.Facts) (hQkvPrepRefIdeal : Cert.QkvPrepRefIdeal.Facts) (hPre_finite_scores : Cert.Pre_finite_scores.Facts) (hPre_routed : Cert.Pre_routed.Facts),
    quiescent_Flash (hFlash := hFlash)
    ∧ quiescent_FlashIdeal (hFlashIdeal := hFlashIdeal)
    ∧ quiescent_FlashIdeal_pre_finite_scores (hFlashIdeal := hFlashIdeal) (hPre_finite_scores := hPre_finite_scores)
    ∧ quiescent_FlashRefIdeal (hFlashRefIdeal := hFlashRefIdeal)
    ∧ quiescent_FlashRefIdeal_pre_finite_scores (hFlashRefIdeal := hFlashRefIdeal) (hPre_finite_scores := hPre_finite_scores)
    ∧ quiescent_AttIn (hAttIn := hAttIn)
    ∧ quiescent_AttInIdeal (hAttInIdeal := hAttInIdeal)
    ∧ quiescent_AttInRefIdeal (hAttInRefIdeal := hAttInRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_DtIn (hDtIn := hDtIn)
    ∧ quiescent_DtInIdeal (hDtInIdeal := hDtInIdeal)
    ∧ quiescent_DtInRefIdeal (hDtInRefIdeal := hDtInRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_Experts (hExperts := hExperts) (hPre_routed := hPre_routed)
    ∧ quiescent_ExpertsIdeal (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_SsdFinish (hSsdFinish := hSsdFinish)
    ∧ quiescent_SsdFinishIdeal (hSsdFinishIdeal := hSsdFinishIdeal)
    ∧ quiescent_SsdFinishRefIdeal (hSsdFinishRefIdeal := hSsdFinishRefIdeal)
    ∧ quiescent_Sconv (hSconv := hSconv)
    ∧ quiescent_SconvIdeal (hSconvIdeal := hSconvIdeal)
    ∧ quiescent_SconvRefIdeal (hSconvRefIdeal := hSconvRefIdeal)
    ∧ quiescent_SsdPrep (hSsdPrep := hSsdPrep)
    ∧ quiescent_SsdPrepIdeal (hSsdPrepIdeal := hSsdPrepIdeal)
    ∧ quiescent_SsdPrepRefIdeal (hSsdPrepRefIdeal := hSsdPrepRefIdeal)
    ∧ quiescent_QkvPrep (hQkvPrep := hQkvPrep)
    ∧ quiescent_QkvPrepIdeal (hQkvPrepIdeal := hQkvPrepIdeal)
    ∧ quiescent_QkvPrepRefIdeal (hQkvPrepRefIdeal := hQkvPrepRefIdeal)
    ∧ preserves_Flash_FlashIdeal
    ∧ algebraic_FlashIdeal_FlashRefIdeal_pre_finite_scores (hFlashIdeal := hFlashIdeal) (hFlashRefIdeal := hFlashRefIdeal) (hPre_finite_scores := hPre_finite_scores)
    ∧ preserves_AttIn_AttInIdeal
    ∧ algebraic_AttInIdeal_AttInRefIdeal (hAttInIdeal := hAttInIdeal) (hAttInRefIdeal := hAttInRefIdeal)
    ∧ preserves_SsmIn_SsmInIdeal
    ∧ algebraic_SsmInIdeal_SsmInRefIdeal (hSsmInIdeal := hSsmInIdeal) (hSsmInRefIdeal := hSsmInRefIdeal)
    ∧ preserves_DtIn_DtInIdeal
    ∧ algebraic_DtInIdeal_DtInRefIdeal (hDtInIdeal := hDtInIdeal) (hDtInRefIdeal := hDtInRefIdeal)
    ∧ preserves_AttOut_AttOutIdeal
    ∧ algebraic_AttOutIdeal_AttOutRefIdeal (hAttOutIdeal := hAttOutIdeal) (hAttOutRefIdeal := hAttOutRefIdeal)
    ∧ preserves_SsmOut_SsmOutIdeal
    ∧ algebraic_SsmOutIdeal_SsmOutRefIdeal (hSsmOutIdeal := hSsmOutIdeal) (hSsmOutRefIdeal := hSsmOutRefIdeal)
    ∧ preserves_Experts_ExpertsIdeal
    ∧ algebraic_ExpertsIdeal_ExpertsRefIdeal (hExpertsIdeal := hExpertsIdeal) (hExpertsRefIdeal := hExpertsRefIdeal) (hPre_routed := hPre_routed)
    ∧ preserves_NormMix_NormMixIdeal
    ∧ algebraic_NormMixIdeal_NormMixRefIdeal (hNormMixIdeal := hNormMixIdeal) (hNormMixRefIdeal := hNormMixRefIdeal)
    ∧ preserves_NormFfn_NormFfnIdeal
    ∧ algebraic_NormFfnIdeal_NormFfnRefIdeal (hNormFfnIdeal := hNormFfnIdeal) (hNormFfnRefIdeal := hNormFfnRefIdeal)
    ∧ preserves_SsdFinish_SsdFinishIdeal
    ∧ algebraic_SsdFinishIdeal_SsdFinishRefIdeal (hSsdFinishIdeal := hSsdFinishIdeal) (hSsdFinishRefIdeal := hSsdFinishRefIdeal)
    ∧ preserves_Sconv_SconvIdeal
    ∧ algebraic_SconvIdeal_SconvRefIdeal (hSconvIdeal := hSconvIdeal) (hSconvRefIdeal := hSconvRefIdeal)
    ∧ preserves_SsdPrep_SsdPrepIdeal
    ∧ algebraic_SsdPrepIdeal_SsdPrepRefIdeal (hSsdPrepIdeal := hSsdPrepIdeal) (hSsdPrepRefIdeal := hSsdPrepRefIdeal)
    ∧ preserves_QkvPrep_QkvPrepIdeal
    ∧ algebraic_QkvPrepIdeal_QkvPrepRefIdeal (hQkvPrepIdeal := hQkvPrepIdeal) (hQkvPrepRefIdeal := hQkvPrepRefIdeal)
-- ==== Pre_finite_scores.lean ====
abbrev S2x8448x1024 : Shape := ⟨3, ![2, 8448, 1024]⟩
abbrev S2x8448x256 : Shape := ⟨3, ![2, 8448, 256]⟩
abbrev S2x8448x1280 : Shape := ⟨3, ![2, 8448, 1280]⟩
abbrev S_ : Shape := ⟨0, ![]⟩

class Facts : Prop where
  concatenates_S2x8448x1024_S2x8448x256_S2x8448x1280_d2 : Shape.Concatenates [S2x8448x1024, S2x8448x256] S2x8448x1280 2
  bcast_S_S2x8448x1280 : S_.BroadcastsInDim S2x8448x1280 (![] : Fin 0 → Fin S2x8448x1280.rank)

variable [Facts]

def fn {F : FTy → Type} [FloatOps F] (main_arg0 : FVec F S2x8448x1024 .f32) (main_arg1 : FVec F S2x8448x256 .f32) (main_arg2 : FVec F S2x8448x256 .f32) : IVec S2x8448x1280 1 :=
  let main_v0 : FVec F S2x8448x1280 .f32 := (fun a b => concatenate S2x8448x1280 2 [⟨S2x8448x1024, a⟩, ⟨S2x8448x256, b⟩] concatenates_S2x8448x1024_S2x8448x256_S2x8448x1280_d2) main_arg0 main_arg1
  let main_v1 : FVec F S2x8448x1280 .f32 := Host.absf main_v0
  let main_cst : FVec F S_ .f32 := constant S_ .f32 0x7F800000#32
  let main_v2 : FVec F S2x8448x1280 .f32 := broadcastInDim S2x8448x1280 ![] bcast_S_S2x8448x1280 main_cst
  let main_v3 : IVec S2x8448x1280 1 := cmpf .olt main_v1 main_v2
  main_v3
-- ==== Pre_routed.lean ====
abbrev S16896x2048 : Shape := ⟨2, ![16896, 2048]⟩
abbrev S41984 : Shape := ⟨1, ![41984]⟩
abbrev S164 : Shape := ⟨1, ![164]⟩
abbrev S1 : Shape := ⟨1, ![1]⟩
abbrev S32x2048x768 : Shape := ⟨3, ![32, 2048, 768]⟩
abbrev S32x768x2048 : Shape := ⟨3, ![32, 768, 2048]⟩
abbrev S_ : Shape := ⟨0, ![]⟩

class Facts : Prop where
  bcast_S_S41984 : S_.BroadcastsInDim S41984 (![] : Fin 0 → Fin S41984.rank)
  reducesTo_S41984_S_d0 : S41984.ReducesTo [0] S_
  h_S_ : 0 < S_.numel
  bcast_S_S164 : S_.BroadcastsInDim S164 (![] : Fin 0 → Fin S164.rank)
  reducesTo_S164_S_d0 : S164.ReducesTo [0] S_
  shapeCasts_S1_S_ : S1.ShapeCasts S_

variable [Facts]

def fn_part1 {F : FTy → Type} [FloatOps F] (main_v15 : IVec S_ 1) (main_v16 : IVec S_ 32) : IVec S_ 1 :=
  let main_c_6 : IVec S_ 32 := constantI S_ 32 164#32
  let main_v17 : IVec S_ 1 := cmpi .sle main_v16 main_c_6
  let main_v18 : IVec S_ 1 := andi main_v15 main_v17
  main_v18

def fn {F : FTy → Type} [FloatOps F] (main_arg0 : FVec F S16896x2048 .f32) (main_arg1 : IVec S41984 32) (main_arg2 : IVec S164 32) (main_arg3 : IVec S1 32) (main_arg4 : FVec F S32x2048x768 .f32) (main_arg5 : FVec F S32x2048x768 .f32) (main_arg6 : FVec F S32x768x2048 .f32) : IVec S_ 1 :=
  let main_c : IVec S_ 32 := constantI S_ 32 0#32
  let main_v0 : IVec S41984 32 := broadcastInDim S41984 ![] bcast_S_S41984 main_c
  let main_v1 : IVec S41984 1 := cmpi .sge main_arg1 main_v0
  let main_c_0 : IVec S_ 32 := constantI S_ 32 16896#32
  let main_v2 : IVec S41984 32 := broadcastInDim S41984 ![] bcast_S_S41984 main_c_0
  let main_v3 : IVec S41984 1 := cmpi .slt main_arg1 main_v2
  let main_v4 : IVec S41984 1 := andi main_v1 main_v3
  let main_c_1 : IVec S_ 1 := constantI S_ 1 1#1
  let main_v5 : IVec S_ 1 := (fun x v => Host.reduce IntOp.andi x v reducesTo_S41984_S_d0 h_S_) main_v4 main_c_1
  let main_c_2 : IVec S_ 32 := constantI S_ 32 0#32
  let main_v6 : IVec S164 32 := broadcastInDim S164 ![] bcast_S_S164 main_c_2
  let main_v7 : IVec S164 1 := cmpi .sge main_arg2 main_v6
  let main_c_3 : IVec S_ 32 := constantI S_ 32 32#32
  let main_v8 : IVec S164 32 := broadcastInDim S164 ![] bcast_S_S164 main_c_3
  let main_v9 : IVec S164 1 := cmpi .slt main_arg2 main_v8
  let main_v10 : IVec S164 1 := andi main_v7 main_v9
  let main_c_4 : IVec S_ 1 := constantI S_ 1 1#1
  let main_v11 : IVec S_ 1 := (fun x v => Host.reduce IntOp.andi x v reducesTo_S164_S_d0 h_S_) main_v10 main_c_4
  let main_v12 : IVec S_ 1 := andi main_v5 main_v11
  let main_v13 : IVec S_ 32 := shapeCast S_ main_arg3 shapeCasts_S1_S_
  let main_c_5 : IVec S_ 32 := constantI S_ 32 1#32
  let main_v14 : IVec S_ 1 := cmpi .sge main_v13 main_c_5
  let main_v15 : IVec S_ 1 := andi main_v12 main_v14
  let main_v16 : IVec S_ 32 := shapeCast S_ main_arg3 shapeCasts_S1_S_
  fn_part1 (F := F) main_v15 main_v16
-- ==== Flash.lean ====
abbrev S2x8448x1024 : Shape := ⟨3, ![2, 8448, 1024]⟩
abbrev S2x8448x256 : Shape := ⟨3, ![2, 8448, 256]⟩
abbrev S_ : Shape := ⟨0, ![]⟩
abbrev S1x256x512 : Shape := ⟨3, ![1, 256, 512]⟩
abbrev S1x768x128 : Shape := ⟨3, ![1, 768, 128]⟩
abbrev S1024x128 : Shape := ⟨2, ![1024, 128]⟩
abbrev S1024x1 : Shape := ⟨2, ![1024, 1]⟩
abbrev S1x256x128 : Shape := ⟨3, ![1, 256, 128]⟩
abbrev S256x128 : Shape := ⟨2, ![256, 128]⟩
abbrev S768x128 : Shape := ⟨2, ![768, 128]⟩
abbrev S1024x768 : Shape := ⟨2, ![1024, 768]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S2x8448x1024, .f32⟩
  | .hbm, ⟨1, _⟩ => ⟨S2x8448x256, .f32⟩
  | .hbm, ⟨2, _⟩ => ⟨S2x8448x256, .f32⟩
  | .hbm, ⟨3, _⟩ => ⟨S_, .f32⟩
  | .hbm, ⟨4, _⟩ => ⟨S2x8448x1024, .f32⟩
  | .hbm, ⟨5, _⟩ => ⟨S2x8448x1024, .f32⟩
  | .hbm, ⟨6, _⟩ => ⟨S2x8448x1024, .bf16⟩
  | .hbm, ⟨7, _⟩ => ⟨S2x8448x256, .bf16⟩
  | .hbm, ⟨8, _⟩ => ⟨S2x8448x256, .bf16⟩
  | .hbm, ⟨9, _⟩ => ⟨S2x8448x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x768x128, .bf16⟩
  | .local _ .vmem, ⟨3, _⟩ => ⟨S1x768x128, .bf16⟩
  | .local _ .vmem, ⟨4, _⟩ => ⟨S1x768x128, .bf16⟩
  | .local _ .vmem, ⟨5, _⟩ => ⟨S1x768x128, .bf16⟩
  | .local _ .vmem, ⟨6, _⟩ => ⟨S1x256x512, .bf16⟩
  | .local _ .vmem, ⟨7, _⟩ => ⟨S1x256x512, .bf16⟩
  | .local _ .vmem, ⟨8, _⟩ => ⟨S1024x128, .bf16⟩
  | .local _ .vmem, ⟨9, _⟩ => ⟨S1024x1, .f32⟩
  | .local _ .vmem, ⟨10, _⟩ => ⟨S1024x1, .f32⟩
  | .local _ .vmem, ⟨11, _⟩ => ⟨S1024x128, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 33, 11], ![false, false, false, false]⟩

def k0_cond4 (i : grid0.Coords) : BitVec 1 :=
  let arg3 : BitVec 32 := BitVec.ofNat 32 (i 3).val
  let c10_i32 : BitVec 32 := 10#32
  let v11 : BitVec 1 := Scalar.cmpi .eq arg3 c10_i32
  let v12 : BitVec 32 := Scalar.extui v11
  let c0_i32_6 : BitVec 32 := 0#32
  let v13 : BitVec 1 := Scalar.cmpi .ne v12 c0_i32_6
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg2 c0_i32
  let c0_i32_0 : BitVec 32 := 0#32
  let v1 : BitVec 32 := Scalar.select v0 c0_i32_0 arg3
  let c0_i32_1 : BitVec 32 := 0#32
  ![arg0.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg2 c0_i32
  let c0_i32_0 : BitVec 32 := 0#32
  let v1 : BitVec 32 := Scalar.select v0 c0_i32_0 arg3
  let c0_i32_1 : BitVec 32 := 0#32
  ![arg0.toNat, v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== FlashRefIdeal.lean ====
abbrev S2x8448x1024 : Shape := ⟨3, ![2, 8448, 1024]⟩
abbrev S2x8448x256 : Shape := ⟨3, ![2, 8448, 256]⟩
abbrev S2x8448x2x4x128 : Shape := ⟨5, ![2, 8448, 2, 4, 128]⟩
abbrev S2x8448x2x128 : Shape := ⟨4, ![2, 8448, 2, 128]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x8192x2x4x128 : Shape := ⟨5, ![2, 8192, 2, 4, 128]⟩
abbrev S2x2x8448x8192x4 : Shape := ⟨5, ![2, 2, 8448, 8192, 4]⟩
abbrev S2x2x4x8192x8448 : Shape := ⟨5, ![2, 2, 4, 8192, 8448]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩

abbrev nBuf : Space → Nat
  | .hbm => 55
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x256, .f32⟩
  | .hbm, ⟨2, _⟩ => ⟨S2x8448x256, .f32⟩
  | .hbm, ⟨3, _⟩ => ⟨S2x8448x2x4x128, .f32⟩
  | .hbm, ⟨4, _⟩ => ⟨S2x8448x2x128, .f32⟩
  | .hbm, ⟨5, _⟩ => ⟨S2x8448x2x128, .f32⟩
  | .hbm, ⟨6, _⟩ => ⟨S2x256x2x4x128, .f32⟩
  | .hbm, ⟨7, _⟩ => ⟨S2x256x2x128, .f32⟩
  | .hbm, ⟨8, _⟩ => ⟨S2x256x2x128, .f32⟩
  | .hbm, ⟨9, _⟩ => ⟨S2x2x256x256x4, .f32⟩
  | .hbm, ⟨10, _⟩ => ⟨S2x2x4x256x256, .f32⟩
  | .hbm, ⟨11, _⟩ => ⟨S_, .f32⟩
  | .hbm, ⟨12, _⟩ => ⟨S2x2x4x256x256, .f32⟩
  | .hbm, ⟨13, _⟩ => ⟨S2x2x4x256x256, .f32⟩
  | .hbm, ⟨14, _⟩ => ⟨S_, .f32⟩
  | .hbm, ⟨15, _⟩ => ⟨S2x2x4x256, .f32⟩
  | .hbm, ⟨16, _⟩ => ⟨S_, .f32⟩
  | .hbm, ⟨17, _⟩ => ⟨S2x2x4x256, .f32⟩
  | .hbm, ⟨18, _⟩ => ⟨S2x2x4x256, .f32⟩
  | .hbm, ⟨19, _⟩ => ⟨S2x2x4x256x1, .f32⟩
  | .hbm, ⟨20, _⟩ => ⟨S2x2x4x256x256, .f32⟩
  | .hbm, ⟨21, _⟩ => ⟨S2x2x4x256x256, .f32⟩
  | .hbm, ⟨22, _⟩ => ⟨S2x2x4x256x256, .f32⟩
  | .hbm, ⟨23, _⟩ => ⟨S_, .f32⟩
  | .hbm, ⟨24, _⟩ => ⟨S2x2x4x256, .f32⟩
  | .hbm, ⟨25, _⟩ => ⟨S2x2x4x256x1, .f32⟩
  | .hbm, ⟨26, _⟩ => ⟨S2x2x4x256x256, .f32⟩
  | .hbm, ⟨27, _⟩ => ⟨S2x2x4x256x256, .f32⟩
  | .hbm, ⟨28, _⟩ => ⟨S2x2x128x4x256, .f32⟩
  | .hbm, ⟨29, _⟩ => ⟨S2x256x2x4x128, .f32⟩
  | .hbm, ⟨30, _⟩ => ⟨S2x8192x2x4x128, .f32⟩
  | .hbm, ⟨31, _⟩ => ⟨S2x2x8448x8192x4, .f32⟩
  | .hbm, ⟨32, _⟩ => ⟨S2x2x4x8192x8448, .f32⟩
  | .hbm, ⟨33, _⟩ => ⟨S_, .f32⟩
  | .hbm, ⟨34, _⟩ => ⟨S2x2x4x8192x8448, .f32⟩
  | .hbm, ⟨35, _⟩ => ⟨S2x2x4x8192x8448, .f32⟩
  | .hbm, ⟨36, _⟩ => ⟨S_, .f32⟩
  | .hbm, ⟨37, _⟩ => ⟨S2x2x4x8192, .f32⟩
  | .hbm, ⟨38, _⟩ => ⟨S_, .f32⟩
  | .hbm, ⟨39, _⟩ => ⟨S2x2x4x8192, .f32⟩
  | .hbm, ⟨40, _⟩ => ⟨S2x2x4x8192, .f32⟩
  | .hbm, ⟨41, _⟩ => ⟨S2x2x4x8192x1, .f32⟩
  | .hbm, ⟨42, _⟩ => ⟨S2x2x4x8192x8448, .f32⟩
  | .hbm, ⟨43, _⟩ => ⟨S2x2x4x8192x8448, .f32⟩
  | .hbm, ⟨44, _⟩ => ⟨S2x2x4x8192x8448, .f32⟩
  | .hbm, ⟨45, _⟩ => ⟨S_, .f32⟩
  | .hbm, ⟨46, _⟩ => ⟨S2x2x4x8192, .f32⟩
  | .hbm, ⟨47, _⟩ => ⟨S2x2x4x8192x1, .f32⟩
  | .hbm, ⟨48, _⟩ => ⟨S2x2x4x8192x8448, .f32⟩
  | .hbm, ⟨49, _⟩ => ⟨S2x2x4x8192x8448, .f32⟩
  | .hbm, ⟨50, _⟩ => ⟨S2x2x128x4x8192, .f32⟩
  | .hbm, ⟨51, _⟩ => ⟨S2x8192x2x4x128, .f32⟩
  | .hbm, ⟨52, _⟩ => ⟨S2x8448x2x4x128, .f32⟩
  | .hbm, ⟨53, _⟩ => ⟨S2x8448x1024, .f32⟩
  | .hbm, ⟨54, _⟩ => ⟨S2x8448x1024, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== AttIn.lean ====
abbrev S16896x2048 : Shape := ⟨2, ![16896, 2048]⟩
abbrev S2048x4608 : Shape := ⟨2, ![2048, 4608]⟩
abbrev S16896x4608 : Shape := ⟨2, ![16896, 4608]⟩
abbrev S512x2048 : Shape := ⟨2, ![512, 2048]⟩
abbrev S2048x1536 : Shape := ⟨2, ![2048, 1536]⟩
abbrev S512x1536 : Shape := ⟨2, ![512, 1536]⟩

abbrev nBuf : Space → Nat
  | .hbm => 4
  | .vmem => 6
  | .smem => 0
  | _ => 0

abbrev bufTy : (tb : Table) → Fin (tcTables nBuf tb) → BufTy
  | .hbm, ⟨0, _⟩ => ⟨S16896x2048, .bf16⟩
  | .hbm, ⟨1, _⟩ => ⟨S2048x4608, .f32⟩
  | .hbm, ⟨2, _⟩ => ⟨S2048x4608, .bf16⟩
  | .hbm, ⟨3, _⟩ => ⟨S16896x4608, .f32⟩
  | .local _ .vmem, ⟨0, _⟩ => ⟨S512x2048, .bf16⟩
  | .local _ .vmem, ⟨1, _⟩ => ⟨S512x2048, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttInRefIdeal.lean ====
abbrev S16896x2048 : Shape := ⟨2, ![16896, 2048]⟩
abbrev S2048x4608 : Shape := ⟨2, ![2048, 4608]⟩
abbrev S16896x4608 : Shape := ⟨2, ![16896, 4608]⟩

abbrev nBuf : Space → Nat
  | .hbm => 4
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x4608, .f32⟩
  | .hbm, ⟨2, _⟩ => ⟨S16896x2048, .f32⟩
  | .hbm, ⟨3, _⟩ => ⟨S16896x4608, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SsmIn.lean ====
abbrev S16896x2048 : Shape := ⟨2, ![16896, 2048]⟩
abbrev S2048x12416 : Shape := ⟨2, ![2048, 12416]⟩
abbrev S2048x12288 : Shape := ⟨2, ![2048, 12288]⟩
abbrev S16896x12288 : Shape := ⟨2, ![16896, 12288]⟩
abbrev S512x2048 : Shape := ⟨2, ![512, 2048]⟩
abbrev S2048x1536 : Shape := ⟨2, ![2048, 1536]⟩
abbrev S512x1536 : Shape := ⟨2, ![512, 1536]⟩

abbrev nBuf : Space → Nat
  | .hbm => 5
  | .vmem => 6
  | .smem => 0
  | _ => 0

abbrev bufTy : (tb : Table) → Fin (tcTables nBuf tb) → BufTy
  | .hbm, ⟨0, _⟩ => ⟨S16896x2048, .bf16⟩
  | .hbm, ⟨1, _⟩ => ⟨S2048x12416, .f32⟩
  | .hbm, ⟨2, _⟩ => ⟨S2048x12288, .f32⟩
  | .hbm, ⟨3, _⟩ => ⟨S2048x12288, .bf16⟩
  | .hbm, ⟨4, _⟩ => ⟨S16896x12288, .f32⟩
  | .local _ .vmem, ⟨0, _⟩ => ⟨S512x2048, .bf16⟩
  | .local _ .vmem, ⟨1, _⟩ => ⟨S512x2048, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInRefIdeal.lean ====
abbrev S16896x2048 : Shape := ⟨2, ![16896, 2048]⟩
abbrev S2048x12416 : Shape := ⟨2, ![2048, 12416]⟩
abbrev S16896x12416 : Shape := ⟨2, ![16896, 12416]⟩
abbrev S16896x12288 : Shape := ⟨2, ![16896, 12288]⟩

abbrev nBuf : Space → Nat
  | .hbm => 5
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x12416, .f32⟩
  | .hbm, ⟨2, _⟩ => ⟨S16896x2048, .f32⟩
  | .hbm, ⟨3, _⟩ => ⟨S16896x12416, .f32⟩
  | .hbm, ⟨4, _⟩ => ⟨S16896x12288, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DtIn.lean ====
abbrev S16896x2048 : Shape := ⟨2, ![16896, 2048]⟩
abbrev S2048x12416 : Shape := ⟨2, ![2048, 12416]⟩
abbrev S2048x128 : Shape := ⟨2, ![2048, 128]⟩
abbrev S16896x128 : Shape := ⟨2, ![16896, 128]⟩
abbrev S512x2048 : Shape := ⟨2, ![512, 2048]⟩
abbrev S512x128 : Shape := ⟨2, ![512, 128]⟩

abbrev nBuf : Space → Nat
  | .hbm => 5
  | .vmem => 5
  | .smem => 0
  | _ => 0

abbrev bufTy : (tb : Table) → Fin (tcTables nBuf tb) → BufTy
  | .hbm, ⟨0, _⟩ => ⟨S16896x2048, .bf16⟩
  | .hbm, ⟨1, _⟩ => ⟨S2048x12416, .f32⟩
  | .hbm, ⟨2, _⟩ => ⟨S2048x128, .f32⟩
  | .hbm, ⟨3, _⟩ => ⟨S2048x128, .bf16⟩
  | .hbm, ⟨4, _⟩ => ⟨S16896x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtInRefIdeal.lean ====
abbrev S16896x2048 : Shape := ⟨2, ![16896, 2048]⟩
abbrev S2048x12416 : Shape := ⟨2, ![2048, 12416]⟩
abbrev S16896x12416 : Shape := ⟨2, ![16896, 12416]⟩
abbrev S16896x128 : Shape := ⟨2, ![16896, 128]⟩

abbrev nBuf : Space → Nat
  | .hbm => 5
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x12416, .f32⟩
  | .hbm, ⟨2, _⟩ => ⟨S16896x2048, .f32⟩
  | .hbm, ⟨3, _⟩ => ⟨S16896x12416, .f32⟩
  | .hbm, ⟨4, _⟩ => ⟨S16896x128, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttOut.lean ====
abbrev S16896x2048 : Shape := ⟨2, ![16896, 2048]⟩
abbrev S2048x2048 : Shape := ⟨2, ![2048, 2048]⟩
abbrev S8x8x2048 : Shape := ⟨3, ![8, 8, 2048]⟩
abbrev S256x2048 : Shape := ⟨2, ![256, 2048]⟩
abbrev S2048x1024 : Shape := ⟨2, ![2048, 1024]⟩
abbrev S256x1024 : Shape := ⟨2, ![256, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S16896x2048, .f32⟩
  | .hbm, ⟨3, _⟩ => ⟨S8x8x2048, .f32⟩
  | .hbm, ⟨4, _⟩ => ⟨S2048x2048, .bf16⟩
  | .hbm, ⟨5, _⟩ => ⟨S16896x2048, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S1x8x1024, .f32⟩
  | .local _ .vmem, ⟨7, _⟩ => ⟨S1x8x1024, .f32⟩
  | .local _ .vmem, ⟨8, _⟩ => ⟨S256x1024, .f32⟩
  | .local _ .vmem, ⟨9, _⟩ => ⟨S256x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg1 c33_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg1 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  ![v28.toNat, c0_i32_11.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttOutIdeal.lean ====
abbrev S16896x2048 : Shape := ⟨2, ![16896, 2048]⟩
abbrev S2048x2048 : Shape := ⟨2, ![2048, 2048]⟩
abbrev S8x8x2048 : Shape := ⟨3, ![8, 8, 2048]⟩
abbrev S256x2048 : Shape := ⟨2, ![256, 2048]⟩
abbrev S2048x1024 : Shape := ⟨2, ![2048, 1024]⟩
abbrev S256x1024 : Shape := ⟨2, ![256, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S16896x2048, .f32⟩
  | .hbm, ⟨3, _⟩ => ⟨S8x8x2048, .f32⟩
  | .hbm, ⟨4, _⟩ => ⟨S2048x2048, .bf16⟩
  | .hbm, ⟨5, _⟩ => ⟨S16896x2048, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S1x8x1024, .f32⟩
  | .local _ .vmem, ⟨7, _⟩ => ⟨S1x8x1024, .f32⟩
  | .local _ .vmem, ⟨8, _⟩ => ⟨S256x1024, .f32⟩
  | .local _ .vmem, ⟨9, _⟩ => ⟨S256x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg1 c33_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg1 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  ![v28.toNat, c0_i32_11.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttOutRefIdeal.lean ====
abbrev S16896x2048 : Shape := ⟨2, ![16896, 2048]⟩
abbrev S2048x2048 : Shape := ⟨2, ![2048, 2048]⟩
abbrev S8x8x2048 : Shape := ⟨3, ![8, 8, 2048]⟩
abbrev S2x8448x2048 : Shape := ⟨3, ![2, 8448, 2048]⟩
abbrev S2x1x2048 : Shape := ⟨3, ![2, 1, 2048]⟩
abbrev S2x2048 : Shape := ⟨2, ![2, 2048]⟩
abbrev S1x1x2048 : Shape := ⟨3, ![1, 1, 2048]⟩
abbrev S2048 : Shape := ⟨1, ![2048]⟩
abbrev S2x256x2048 : Shape := ⟨3, ![2, 256, 2048]⟩
abbrev S2x8192x2048 : Shape := ⟨3, ![2, 8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S16896x2048, .f32⟩
  | .hbm, ⟨3, _⟩ => ⟨S8x8x2048, .f32⟩
  | .hbm, ⟨4, _⟩ => ⟨S2x8448x2048, .f32⟩
  | .hbm, ⟨5, _⟩ => ⟨S16896x2048, .f32⟩
  | .hbm, ⟨6, _⟩ => ⟨S16896x2048, .f32⟩
  | .hbm, ⟨7, _⟩ => ⟨S2x8448x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S1x1x2048, .f32⟩
  | .hbm, ⟨12, _⟩ => ⟨S2048, .f32⟩
  | .hbm, ⟨13, _⟩ => ⟨S1x1x2048, .f32⟩
  | .hbm, ⟨14, _⟩ => ⟨S2x256x2048, .f32⟩
  | .hbm, ⟨15, _⟩ => ⟨S2x256x2048, .f32⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S2x8448x2048, .f32⟩
  | .hbm, ⟨25, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== SsmOut.lean ====
abbrev S16896x4096 : Shape := ⟨2, ![16896, 4096]⟩
abbrev S4096x2048 : Shape := ⟨2, ![4096, 2048]⟩
abbrev S16896x2048 : Shape := ⟨2, ![16896, 2048]⟩
abbrev S8x8x2048 : Shape := ⟨3, ![8, 8, 2048]⟩
abbrev S256x4096 : Shape := ⟨2, ![256, 4096]⟩
abbrev S4096x1024 : Shape := ⟨2, ![4096, 1024]⟩
abbrev S256x1024 : Shape := ⟨2, ![256, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16896x4096, .bf16⟩
  | .hbm, ⟨1, _⟩ => ⟨S4096x2048, .f32⟩
  | .hbm, ⟨2, _⟩ => ⟨S16896x2048, .f32⟩
  | .hbm, ⟨3, _⟩ => ⟨S8x8x2048, .f32⟩
  | .hbm, ⟨4, _⟩ => ⟨S4096x2048, .bf16⟩
  | .hbm, ⟨5, _⟩ => ⟨S16896x2048, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S1x8x1024, .f32⟩
  | .local _ .vmem, ⟨7, _⟩ => ⟨S1x8x1024, .f32⟩
  | .local _ .vmem, ⟨8, _⟩ => ⟨S256x1024, .f32⟩
  | .local _ .vmem, ⟨9, _⟩ => ⟨S256x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg1 c33_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg1 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  ![v28.toNat, c0_i32_11.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsmOutRefIdeal.lean ====
abbrev S16896x4096 : Shape := ⟨2, ![16896, 4096]⟩
abbrev S4096x2048 : Shape := ⟨2, ![4096, 2048]⟩
abbrev S16896x2048 : Shape := ⟨2, ![16896, 2048]⟩
abbrev S8x8x2048 : Shape := ⟨3, ![8, 8, 2048]⟩
abbrev S2x8448x2048 : Shape := ⟨3, ![2, 8448, 2048]⟩
abbrev S2x1x2048 : Shape := ⟨3, ![2, 1, 2048]⟩
abbrev S2x2048 : Shape := ⟨2, ![2, 2048]⟩
abbrev S1x1x2048 : Shape := ⟨3, ![1, 1, 2048]⟩
abbrev S2048 : Shape := ⟨1, ![2048]⟩
abbrev S2x256x2048 : Shape := ⟨3, ![2, 256, 2048]⟩
abbrev S2x8192x2048 : Shape := ⟨3, ![2, 8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x2048, .f32⟩
  | .hbm, ⟨2, _⟩ => ⟨S16896x2048, .f32⟩
  | .hbm, ⟨3, _⟩ => ⟨S8x8x2048, .f32⟩
  | .hbm, ⟨4, _⟩ => ⟨S2x8448x2048, .f32⟩
  | .hbm, ⟨5, _⟩ => ⟨S16896x4096, .f32⟩
  | .hbm, ⟨6, _⟩ => ⟨S16896x2048, .f32⟩
  | .hbm, ⟨7, _⟩ => ⟨S2x8448x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S1x1x2048, .f32⟩
  | .hbm, ⟨12, _⟩ => ⟨S2048, .f32⟩
  | .hbm, ⟨13, _⟩ => ⟨S1x1x2048, .f32⟩
  | .hbm, ⟨14, _⟩ => ⟨S2x256x2048, .f32⟩
  | .hbm, ⟨15, _⟩ => ⟨S2x256x2048, .f32⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S2x8448x2048, .f32⟩
  | .hbm, ⟨25, _⟩ => ⟨S16896x2048, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Experts.lean ====
abbrev S16896x2048 : Shape := ⟨2, ![16896, 2048]⟩
abbrev S41984 : Shape := ⟨1, ![41984]⟩
abbrev S164 : Shape := ⟨1, ![164]⟩
abbrev S1 : Shape := ⟨1, ![1]⟩
abbrev S32x2048x768 : Shape := ⟨3, ![32, 2048, 768]⟩
abbrev S32x768x2048 : Shape := ⟨3, ![32, 768, 2048]⟩
abbrev S164x1x256 : Shape := ⟨3, ![164, 1, 256]⟩
abbrev S41984x2048 : Shape := ⟨2, ![41984, 2048]⟩
abbrev S1x1x256 : Shape := ⟨3, ![1, 1, 256]⟩
abbrev S1x2048x768 : Shape := ⟨3, ![1, 2048, 768]⟩
abbrev S1x768x2048 : Shape := ⟨3, ![1, 768, 2048]⟩
abbrev S256x2048 : Shape := ⟨2, ![256, 2048]⟩
abbrev S2x256x2048 : Shape := ⟨3, ![2, 256, 2048]⟩
abbrev S2 : Shape := ⟨1, ![2]⟩
abbrev S1x1x1 : Shape := ⟨3, ![1, 1, 1]⟩
abbrev S_ : Shape := ⟨0, ![]⟩
abbrev S1x256x2048 : Shape := ⟨3, ![1, 256, 2048]⟩
abbrev S1x2048 : Shape := ⟨2, ![1, 2048]⟩
abbrev S2048x768 : Shape := ⟨2, ![2048, 768]⟩
abbrev S256x768 : Shape := ⟨2, ![256, 768]⟩
abbrev S768x2048 : Shape := ⟨2, ![768, 2048]⟩

abbrev nBuf : Space → Nat
  | .hbm => 10
  | .vmem => 9
  | .smem => 6
  | _ => 0

abbrev bufTy : (tb : Table) → Fin (tcTables nBuf tb) → BufTy
  | .hbm, ⟨0, _⟩ => ⟨S16896x2048, .f32⟩
  | .hbm, ⟨1, _⟩ => ⟨S41984, .i32⟩
  | .hbm, ⟨2, _⟩ => ⟨S32x2048x768, .f32⟩
  | .hbm, ⟨3, _⟩ => ⟨S32x2048x768, .f32⟩
  | .hbm, ⟨4, _⟩ => ⟨S32x768x2048, .f32⟩
  | .hbm, ⟨5, _⟩ => ⟨S32x2048x768, .bf16⟩
  | .hbm, ⟨6, _⟩ => ⟨S32x2048x768, .bf16⟩
  | .hbm, ⟨7, _⟩ => ⟨S32x768x2048, .bf16⟩
  | .hbm, ⟨8, _⟩ => ⟨S164x1x256, .i32⟩
  | .hbm, ⟨9, _⟩ => ⟨S41984x2048, .f32⟩
  | .local _ .vmem, ⟨0, _⟩ => ⟨S1x2048x768, .bf16⟩
  | .local _ .vmem, ⟨1, _⟩ => ⟨S1x2048x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x768x2048, .bf16⟩
  | .local _ .vmem, ⟨5, _⟩ => ⟨S1x768x2048, .bf16⟩
  | .local _ .vmem, ⟨6, _⟩ => ⟨S256x2048, .f32⟩
  | .local _ .vmem, ⟨7, _⟩ => ⟨S256x2048, .f32⟩
  | .local _ .vmem, ⟨8, _⟩ => ⟨S2x256x2048, .f32⟩
  | .local _ .smem, ⟨0, _⟩ => ⟨S164, .i32⟩
  | .local _ .smem, ⟨1, _⟩ => ⟨S1, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg2 : Ref sig .tc := ⟨.smem, 0, rfl⟩
abbrev main_arg3 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

@[reducible] def k0_t1_loop : Scf.Loop 32 :=
  let c0_i32_11 : BitVec 32 := 0#32
  let c256_i32 : BitVec 32 := 256#32
  let v24 : BitVec 32 := Scalar.addi c0_i32_11 c256_i32
  let c1_i32_12 : BitVec 32 := 1#32
  ⟨c0_i32_11, v24, c1_i32_12⟩
def k0_off2 (k0_t1 : Fin k0_t1_loop.trips) : Fin 3 → Nat :=
  let c0_14 : Index := 0#32
  let c0_15 : Index := 0#32
  let c0_i32_11 : BitVec 32 := 0#32
  let c1_i32_12 : BitVec 32 := 1#32
  let arg12 : BitVec 32 := Scf.iv c0_i32_11 c1_i32_12 k0_t1
  let v25 : Index := Scalar.indexCast arg12
  ![0, 0, v25.toNat]
def k0_off3 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c0_i32_18 : BitVec 32 := 0#32
  ![arg12.toNat, 0]
def k0_off4 (v26 : BitVec 32) : Fin 2 → Nat :=
  let c0_i32_19 : BitVec 32 := 0#32
  ![v26.toNat, 0]

def k0_chk1 (i : grid0.Coords) (v26 : BitVec 32) : Prop :=
  (∀ (k0_h1 : k0_cond1 i = 1#1), ∀ a, (k0_off4 v26) a + S1x2048.size a ≤ S16896x2048.size a)
theorem k0_off4_inb : ∀ (i : grid0.Coords) (v26 : BitVec 32) (k0_hw1 : k0_chk1 i v26), ∀ (k0_h1 : k0_cond1 i = 1#1), ∀ a, (k0_off4 v26) a + S1x2048.size a ≤ S16896x2048.size a := fun i v26 k0_hw1 k0_h1 => k0_hw1 k0_h1

@[reducible] def k0_t2_loop : Scf.Loop 32 :=
  let c0_i32_11 : BitVec 32 := 0#32
  let c256_i32 : BitVec 32 := 256#32
  let v26 : BitVec 32 := Scalar.addi c0_i32_11 c256_i32
  let c1_i32_12 : BitVec 32 := 1#32
  ⟨c0_i32_11, v26, c1_i32_12⟩
def k0_off5 (k0_t2 : Fin k0_t2_loop.trips) : Fin 3 → Nat :=
  let c0_14 : Index := 0#32
  let c0_15 : Index := 0#32
  let c0_i32_11 : BitVec 32 := 0#32
  let c1_i32_12 : BitVec 32 := 1#32
  let arg12 : BitVec 32 := Scf.iv c0_i32_11 c1_i32_12 k0_t2
  let v27 : Index := Scalar.indexCast arg12
  ![0, 0, v27.toNat]
def k0_off6 (i : grid0.Coords) : Fin 1 → Nat :=
  let c1_i32_10 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v25 : BitVec 32 := Scalar.subi c1_i32_10 v10
  ![v25.toNat]
def k0_off7 (i : grid0.Coords) : Fin 3 → Nat :=
  let c1_i32_9 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v24 : BitVec 32 := Scalar.subi c1_i32_9 v10
  let c0_i32_16 : BitVec 32 := 0#32
  let c0_i32_17 : BitVec 32 := 0#32
  ![v24.toNat, 0, 0]
def k0_off8 (k0_t2 : Fin k0_t2_loop.trips) : Fin 2 → Nat :=
  let c0_i32_11 : BitVec 32 := 0#32
  let c1_i32_12 : BitVec 32 := 1#32
  let arg12 : BitVec 32 := Scf.iv c0_i32_11 c1_i32_12 k0_t2
  let c0_i32_18 : BitVec 32 := 0#32
  ![arg12.toNat, 0]
def k0_off9 (v28 : BitVec 32) : Fin 2 → Nat :=
  let c0_i32_19 : BitVec 32 := 0#32
  ![v28.toNat, 0]
def k0_cond2 (i : grid0.Coords) (v0 : BitVec 32) : BitVec 1 :=
  let arg0 : BitVec 32 := BitVec.ofNat 32 (i 0).val
  let c1_i32_5 : BitVec 32 := 1#32
  let v14 : BitVec 32 := Scalar.addi arg0 c1_i32_5
  let v15 : BitVec 1 := Scalar.cmpi .slt v14 v0
  let v16 : BitVec 32 := Scalar.extui v15
  let c0_i32_6 : BitVec 32 := 0#32
  let v17 : BitVec 1 := Scalar.cmpi .ne v16 c0_i32_6
  v17

def k0_chk2 (i : grid0.Coords) (v0 : BitVec 32) (v28 : BitVec 32) : Prop :=
  (∀ (k0_h2 : k0_cond2 i v0 = 1#1), ∀ a, (k0_off9 v28) a + S1x2048.size a ≤ S16896x2048.size a)
theorem k0_off9_inb : ∀ (i : grid0.Coords) (v0 : BitVec 32) (v28 : BitVec 32) (k0_hw2 : k0_chk2 i v0 v28), ∀ (k0_h2 : k0_cond2 i v0 = 1#1), ∀ a, (k0_off9 v28) a + S1x2048.size a ≤ S16896x2048.size a := fun i v0 v28 k0_hw2 k0_h2 => k0_hw2 k0_h2

@[reducible] def k0_t3_loop : Scf.Loop 32 :=
  let c0_i32_9 : BitVec 32 := 0#32
  let c256_i32 : BitVec 32 := 256#32
  let v24 : BitVec 32 := Scalar.addi c0_i32_9 c256_i32
  let c1_i32_10 : BitVec 32 := 1#32
  ⟨c0_i32_9, v24, c1_i32_10⟩
def k0_off10 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off11 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_27 : BitVec 32 := 0#32
  let c0_i32_28 : BitVec 32 := 0#32
  ![v10.toNat, 0, 0]
def k0_off12 (k0_t3 : Fin k0_t3_loop.trips) : Fin 2 → Nat :=
  let c0_i32_9 : BitVec 32 := 0#32
  let c1_i32_10 : BitVec 32 := 1#32
  let arg12 : BitVec 32 := Scf.iv c0_i32_9 c1_i32_10 k0_t3
  let c0_i32_29 : BitVec 32 := 0#32
  ![arg12.toNat, 0]
def k0_off13 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v25 : Index := Scalar.indexCast v10
  let c0_12 : Index := 0#32
  let c0_13 : Index := 0#32
  ![v25.toNat, 0, 0]
def k0_cond3 (i : grid0.Coords) (v0 : BitVec 32) : BitVec 1 :=
  let arg0 : BitVec 32 := BitVec.ofNat 32 (i 0).val
  let v18 : BitVec 1 := Scalar.cmpi .slt arg0 v0
  let v19 : BitVec 32 := Scalar.extui v18
  let c0_i32_7 : BitVec 32 := 0#32
  let v20 : BitVec 1 := Scalar.cmpi .ne v19 c0_i32_7
  v20

def k0_cond4 (i : grid0.Coords) (v0 : BitVec 32) : BitVec 1 :=
  let arg0 : BitVec 32 := BitVec.ofNat 32 (i 0).val
  let v21 : BitVec 1 := Scalar.cmpi .sge arg0 v0
  let v22 : BitVec 32 := Scalar.extui v21
  let c0_i32_8 : BitVec 32 := 0#32
  let v23 : BitVec 1 := Scalar.cmpi .ne v22 c0_i32_8
  v23

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c163_i32 : BitVec 32 := 163#32
  let v1 : BitVec 32 := Scalar.minsi v0 c163_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S16896x2048 : Shape := ⟨2, ![16896, 2048]⟩
abbrev S41984 : Shape := ⟨1, ![41984]⟩
abbrev S164 : Shape := ⟨1, ![164]⟩
abbrev S1 : Shape := ⟨1, ![1]⟩
abbrev S32x2048x768 : Shape := ⟨3, ![32, 2048, 768]⟩
abbrev S32x768x2048 : Shape := ⟨3, ![32, 768, 2048]⟩
abbrev S_ : Shape := ⟨0, ![]⟩
abbrev S41984x1 : Shape := ⟨2, ![41984, 1]⟩
abbrev S41984x2048 : Shape := ⟨2, ![41984, 2048]⟩
abbrev S164x256x2048 : Shape := ⟨3, ![164, 256, 2048]⟩
abbrev S164x1 : Shape := ⟨2, ![164, 1]⟩
abbrev S164x2048x768 : Shape := ⟨3, ![164, 2048, 768]⟩
abbrev S164x768x2048 : Shape := ⟨3, ![164, 768, 2048]⟩
abbrev S164x256x768 : Shape := ⟨3, ![164, 256, 768]⟩
abbrev S164x1x1 : Shape := ⟨3, ![164, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S41984, .i32⟩
  | .hbm, ⟨2, _⟩ => ⟨S164, .i32⟩
  | .hbm, ⟨3, _⟩ => ⟨S1, .i32⟩
  | .hbm, ⟨4, _⟩ => ⟨S32x2048x768, .f32⟩
  | .hbm, ⟨5, _⟩ => ⟨S32x2048x768, .f32⟩
  | .hbm, ⟨6, _⟩ => ⟨S32x768x2048, .f32⟩
  | .hbm, ⟨7, _⟩ => ⟨S_, .i32⟩
  | .hbm, ⟨8, _⟩ => ⟨S41984, .i32⟩
  | .hbm, ⟨9, _⟩ => ⟨S41984, .i1⟩
  | .hbm, ⟨10, _⟩ => ⟨S_, .i32⟩
  | .hbm, ⟨11, _⟩ => ⟨S41984, .i32⟩
  | .hbm, ⟨12, _⟩ => ⟨S41984, .i32⟩
  | .hbm, ⟨13, _⟩ => ⟨S41984, .i32⟩
  | .hbm, ⟨14, _⟩ => ⟨S41984x1, .i32⟩
  | .hbm, ⟨15, _⟩ => ⟨S41984x2048, .f32⟩
  | .hbm, ⟨16, _⟩ => ⟨S164x256x2048, .f32⟩
  | .hbm, ⟨17, _⟩ => ⟨S_, .i32⟩
  | .hbm, ⟨18, _⟩ => ⟨S164, .i32⟩
  | .hbm, ⟨19, _⟩ => ⟨S164, .i1⟩
  | .hbm, ⟨20, _⟩ => ⟨S_, .i32⟩
  | .hbm, ⟨21, _⟩ => ⟨S164, .i32⟩
  | .hbm, ⟨22, _⟩ => ⟨S164, .i32⟩
  | .hbm, ⟨23, _⟩ => ⟨S164, .i32⟩
  | .hbm, ⟨24, _⟩ => ⟨S164x1, .i32⟩
  | .hbm, ⟨25, _⟩ => ⟨S164x2048x768, .f32⟩
  | .hbm, ⟨26, _⟩ => ⟨S_, .i32⟩
  | .hbm, ⟨27, _⟩ => ⟨S164, .i32⟩
  | .hbm, ⟨28, _⟩ => ⟨S164, .i1⟩
  | .hbm, ⟨29, _⟩ => ⟨S_, .i32⟩
  | .hbm, ⟨30, _⟩ => ⟨S164, .i32⟩
  | .hbm, ⟨31, _⟩ => ⟨S164, .i32⟩
  | .hbm, ⟨32, _⟩ => ⟨S164, .i32⟩
  | .hbm, ⟨33, _⟩ => ⟨S164x1, .i32⟩
  | .hbm, ⟨34, _⟩ => ⟨S164x2048x768, .f32⟩
  | .hbm, ⟨35, _⟩ => ⟨S_, .i32⟩
  | .hbm, ⟨36, _⟩ => ⟨S164, .i32⟩
  | .hbm, ⟨37, _⟩ => ⟨S164, .i1⟩
  | .hbm, ⟨38, _⟩ => ⟨S_, .i32⟩
  | .hbm, ⟨39, _⟩ => ⟨S164, .i32⟩
  | .hbm, ⟨40, _⟩ => ⟨S164, .i32⟩
  | .hbm, ⟨41, _⟩ => ⟨S164, .i32⟩
  | .hbm, ⟨42, _⟩ => ⟨S164x1, .i32⟩
  | .hbm, ⟨43, _⟩ => ⟨S164x768x2048, .f32⟩
  | .hbm, ⟨44, _⟩ => ⟨S164x256x768, .f32⟩
  | .hbm, ⟨45, _⟩ => ⟨S164x256x768, .f32⟩
  | .hbm, ⟨46, _⟩ => ⟨S164x256x768, .f32⟩
  | .hbm, ⟨47, _⟩ => ⟨S_, .f32⟩
  | .hbm, ⟨48, _⟩ => ⟨S164x256x768, .f32⟩
  | .hbm, ⟨49, _⟩ => ⟨S164x256x768, .f32⟩
  | .hbm, ⟨50, _⟩ => ⟨S_, .f32⟩
  | .hbm, ⟨51, _⟩ => ⟨S164x256x768, .f32⟩
  | .hbm, ⟨52, _⟩ => ⟨S164x256x768, .f32⟩
  | .hbm, ⟨53, _⟩ => ⟨S164x256x768, .f32⟩
  | .hbm, ⟨54, _⟩ => ⟨S164x256x768, .f32⟩
  | .hbm, ⟨55, _⟩ => ⟨S164x256x768, .f32⟩
  | .hbm, ⟨56, _⟩ => ⟨S164x256x2048, .f32⟩
  | .hbm, ⟨57, _⟩ => ⟨S164, .i32⟩
  | .hbm, ⟨58, _⟩ => ⟨S_, .i32⟩
  | .hbm, ⟨59, _⟩ => ⟨S164, .i32⟩
  | .hbm, ⟨60, _⟩ => ⟨S164, .i1⟩
  | .hbm, ⟨61, _⟩ => ⟨S164x1x1, .i1⟩
  | .hbm, ⟨62, _⟩ => ⟨S_, .f32⟩
  | .hbm, ⟨63, _⟩ => ⟨S_, .f32⟩
  | .hbm, ⟨64, _⟩ => ⟨S164x256x2048, .i1⟩
  | .hbm, ⟨65, _⟩ => ⟨S164x256x2048, .f32⟩
  | .hbm, ⟨66, _⟩ => ⟨S164x256x2048, .f32⟩
  | .hbm, ⟨67, _⟩ => ⟨S41984x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== NormMix.lean ====
abbrev S16896x2048 : Shape := ⟨2, ![16896, 2048]⟩
abbrev S2048 : Shape := ⟨1, ![2048]⟩
abbrev S8x8x2048 : Shape := ⟨3, ![8, 8, 2048]⟩
abbrev S1x2048 : Shape := ⟨2, ![1, 2048]⟩
abbrev S256x2048 : Shape := ⟨2, ![256, 2048]⟩
abbrev S1x8x2048 : Shape := ⟨3, ![1, 8, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S8x8x2048, .f32⟩
  | .hbm, ⟨3, _⟩ => ⟨S1x2048, .f32⟩
  | .hbm, ⟨4, _⟩ => ⟨S16896x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x8x2048, .f32⟩
  | .local _ .vmem, ⟨4, _⟩ => ⟨S1x8x2048, .f32⟩
  | .local _ .vmem, ⟨5, _⟩ => ⟨S256x2048, .bf16⟩
  | .local _ .vmem, ⟨6, _⟩ => ⟨S256x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormMixRefIdeal.lean ====
abbrev S16896x2048 : Shape := ⟨2, ![16896, 2048]⟩
abbrev S2048 : Shape := ⟨1, ![2048]⟩
abbrev S8x8x2048 : Shape := ⟨3, ![8, 8, 2048]⟩
abbrev S2x8448x2048 : Shape := ⟨3, ![2, 8448, 2048]⟩
abbrev S2x1x2048 : Shape := ⟨3, ![2, 1, 2048]⟩
abbrev S2x2048 : Shape := ⟨2, ![2, 2048]⟩
abbrev S1x1x2048 : Shape := ⟨3, ![1, 1, 2048]⟩
abbrev S2x256x2048 : Shape := ⟨3, ![2, 256, 2048]⟩
abbrev S_ : Shape := ⟨0, ![]⟩
abbrev S2x256 : Shape := ⟨2, ![2, 256]⟩
abbrev S2x256x1 : Shape := ⟨3, ![2, 256, 1]⟩
abbrev S2x8192x2048 : Shape := ⟨3, ![2, 8192, 2048]⟩
abbrev S2x8192 : Shape := ⟨2, ![2, 8192]⟩
abbrev S2x8192x1 : Shape := ⟨3, ![2, 8192, 1]⟩

abbrev nBuf : Space → Nat
  | .hbm => 67
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S8x8x2048, .f32⟩
  | .hbm, ⟨3, _⟩ => ⟨S2x8448x2048, .f32⟩
  | .hbm, ⟨4, _⟩ => ⟨S2x1x2048, .f32⟩
  | .hbm, ⟨5, _⟩ => ⟨S2x2048, .f32⟩
  | .hbm, ⟨6, _⟩ => ⟨S2x1x2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2x256x2048, .f32⟩
  | .hbm, ⟨17, _⟩ => ⟨S2x256x2048, .f32⟩
  | .hbm, ⟨18, _⟩ => ⟨S_, .f32⟩
  | .hbm, ⟨19, _⟩ => ⟨S2x256, .f32⟩
  | .hbm, ⟨20, _⟩ => ⟨S2x256x1, .f32⟩
  | .hbm, ⟨21, _⟩ => ⟨S_, .f32⟩
  | .hbm, ⟨22, _⟩ => ⟨S2x256x1, .f32⟩
  | .hbm, ⟨23, _⟩ => ⟨S2x256x1, .f32⟩
  | .hbm, ⟨24, _⟩ => ⟨S_, .f32⟩
  | .hbm, ⟨25, _⟩ => ⟨S2x256x1, .f32⟩
  | .hbm, ⟨26, _⟩ => ⟨S2x256x1, .f32⟩
  | .hbm, ⟨27, _⟩ => ⟨S2x256x1, .f32⟩
  | .hbm, ⟨28, _⟩ => ⟨S2x256x2048, .f32⟩
  | .hbm, ⟨29, _⟩ => ⟨S2x256x2048, .f32⟩
  | .hbm, ⟨30, _⟩ => ⟨S1x1x2048, .f32⟩
  | .hbm, ⟨31, _⟩ => ⟨S2x256x2048, .f32⟩
  | .hbm, ⟨32, _⟩ => ⟨S2x256x2048, .f32⟩
  | .hbm, ⟨33, _⟩ => ⟨S_, .f32⟩
  | .hbm, ⟨34, _⟩ => ⟨S1x1x2048, .f32⟩
  | .hbm, ⟨35, _⟩ => ⟨S1x1x2048, .f32⟩
  | .hbm, ⟨36, _⟩ => ⟨S2x256x2048, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S2x8192x2048, .f32⟩
  | .hbm, ⟨41, _⟩ => ⟨S2x8192x2048, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1, .f32⟩
  | .hbm, ⟨52, _⟩ => ⟨S2x8192x2048, .f32⟩
  | .hbm, ⟨53, _⟩ => ⟨S2x8192x2048, .f32⟩
  | .hbm, ⟨54, _⟩ => ⟨S1x1x2048, .f32⟩
  | .hbm, ⟨55, _⟩ => ⟨S2x8192x2048, .f32⟩
  | .hbm, ⟨56, _⟩ => ⟨S2x8192x2048, .f32⟩
  | .hbm, ⟨57, _⟩ => ⟨S_, .f32⟩
  | .hbm, ⟨58, _⟩ => ⟨S2x1x2048, .f32⟩
  | .hbm, ⟨59, _⟩ => ⟨S2x1x2048, .f32⟩
  | .hbm, ⟨60, _⟩ => ⟨S2x8192x2048, .f32⟩
  | .hbm, ⟨61, _⟩ => ⟨S2x8192x2048, .f32⟩
  | .hbm, ⟨62, _⟩ => ⟨S2x8192x2048, .f32⟩
  | .hbm, ⟨63, _⟩ => ⟨S2x8192x2048, .f32⟩
  | .hbm, ⟨64, _⟩ => ⟨S2x8448x2048, .f32⟩
  | .hbm, ⟨65, _⟩ => ⟨S16896x2048, .f32⟩
  | .hbm, ⟨66, _⟩ => ⟨S16896x2048, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== NormFfn.lean ====
abbrev S16896x2048 : Shape := ⟨2, ![16896, 2048]⟩
abbrev S2048 : Shape := ⟨1, ![2048]⟩
abbrev S8x8x2048 : Shape := ⟨3, ![8, 8, 2048]⟩
abbrev S1x2048 : Shape := ⟨2, ![1, 2048]⟩
abbrev S256x2048 : Shape := ⟨2, ![256, 2048]⟩
abbrev S1x8x2048 : Shape := ⟨3, ![1, 8, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S8x8x2048, .f32⟩
  | .hbm, ⟨3, _⟩ => ⟨S1x2048, .f32⟩
  | .hbm, ⟨4, _⟩ => ⟨S16896x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x8x2048, .f32⟩
  | .local _ .vmem, ⟨4, _⟩ => ⟨S1x8x2048, .f32⟩
  | .local _ .vmem, ⟨5, _⟩ => ⟨S256x2048, .f32⟩
  | .local _ .vmem, ⟨6, _⟩ => ⟨S256x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFfnRefIdeal.lean ====
abbrev S16896x2048 : Shape := ⟨2, ![16896, 2048]⟩
abbrev S2048 : Shape := ⟨1, ![2048]⟩
abbrev S8x8x2048 : Shape := ⟨3, ![8, 8, 2048]⟩
abbrev S2x8448x2048 : Shape := ⟨3, ![2, 8448, 2048]⟩
abbrev S2x1x2048 : Shape := ⟨3, ![2, 1, 2048]⟩
abbrev S2x2048 : Shape := ⟨2, ![2, 2048]⟩
abbrev S1x1x2048 : Shape := ⟨3, ![1, 1, 2048]⟩
abbrev S2x256x2048 : Shape := ⟨3, ![2, 256, 2048]⟩
abbrev S_ : Shape := ⟨0, ![]⟩
abbrev S2x256 : Shape := ⟨2, ![2, 256]⟩
abbrev S2x256x1 : Shape := ⟨3, ![2, 256, 1]⟩
abbrev S2x8192x2048 : Shape := ⟨3, ![2, 8192, 2048]⟩
abbrev S2x8192 : Shape := ⟨2, ![2, 8192]⟩
abbrev S2x8192x1 : Shape := ⟨3, ![2, 8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S8x8x2048, .f32⟩
  | .hbm, ⟨3, _⟩ => ⟨S2x8448x2048, .f32⟩
  | .hbm, ⟨4, _⟩ => ⟨S2x1x2048, .f32⟩
  | .hbm, ⟨5, _⟩ => ⟨S2x2048, .f32⟩
  | .hbm, ⟨6, _⟩ => ⟨S2x1x2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2x256x2048, .f32⟩
  | .hbm, ⟨17, _⟩ => ⟨S2x256x2048, .f32⟩
  | .hbm, ⟨18, _⟩ => ⟨S_, .f32⟩
  | .hbm, ⟨19, _⟩ => ⟨S2x256, .f32⟩
  | .hbm, ⟨20, _⟩ => ⟨S2x256x1, .f32⟩
  | .hbm, ⟨21, _⟩ => ⟨S_, .f32⟩
  | .hbm, ⟨22, _⟩ => ⟨S2x256x1, .f32⟩
  | .hbm, ⟨23, _⟩ => ⟨S2x256x1, .f32⟩
  | .hbm, ⟨24, _⟩ => ⟨S_, .f32⟩
  | .hbm, ⟨25, _⟩ => ⟨S2x256x1, .f32⟩
  | .hbm, ⟨26, _⟩ => ⟨S2x256x1, .f32⟩
  | .hbm, ⟨27, _⟩ => ⟨S2x256x1, .f32⟩
  | .hbm, ⟨28, _⟩ => ⟨S2x256x2048, .f32⟩
  | .hbm, ⟨29, _⟩ => ⟨S2x256x2048, .f32⟩
  | .hbm, ⟨30, _⟩ => ⟨S1x1x2048, .f32⟩
  | .hbm, ⟨31, _⟩ => ⟨S2x256x2048, .f32⟩
  | .hbm, ⟨32, _⟩ => ⟨S2x256x2048, .f32⟩
  | .hbm, ⟨33, _⟩ => ⟨S_, .f32⟩
  | .hbm, ⟨34, _⟩ => ⟨S1x1x2048, .f32⟩
  | .hbm, ⟨35, _⟩ => ⟨S1x1x2048, .f32⟩
  | .hbm, ⟨36, _⟩ => ⟨S2x256x2048, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S2x8192x2048, .f32⟩
  | .hbm, ⟨41, _⟩ => ⟨S2x8192x2048, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1, .f32⟩
  | .hbm, ⟨52, _⟩ => ⟨S2x8192x2048, .f32⟩
  | .hbm, ⟨53, _⟩ => ⟨S2x8192x2048, .f32⟩
  | .hbm, ⟨54, _⟩ => ⟨S1x1x2048, .f32⟩
  | .hbm, ⟨55, _⟩ => ⟨S2x8192x2048, .f32⟩
  | .hbm, ⟨56, _⟩ => ⟨S2x8192x2048, .f32⟩
  | .hbm, ⟨57, _⟩ => ⟨S_, .f32⟩
  | .hbm, ⟨58, _⟩ => ⟨S2x1x2048, .f32⟩
  | .hbm, ⟨59, _⟩ => ⟨S2x1x2048, .f32⟩
  | .hbm, ⟨60, _⟩ => ⟨S2x8192x2048, .f32⟩
  | .hbm, ⟨61, _⟩ => ⟨S2x8192x2048, .f32⟩
  | .hbm, ⟨62, _⟩ => ⟨S2x8192x2048, .f32⟩
  | .hbm, ⟨63, _⟩ => ⟨S2x8192x2048, .f32⟩
  | .hbm, ⟨64, _⟩ => ⟨S2x8448x2048, .f32⟩
  | .hbm, ⟨65, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== SsdFinish.lean ====
abbrev S8x16896x512 : Shape := ⟨3, ![8, 16896, 512]⟩
abbrev S16x16896x512 : Shape := ⟨3, ![16, 16896, 512]⟩
abbrev S16896x12288 : Shape := ⟨2, ![16896, 12288]⟩
abbrev S64 : Shape := ⟨1, ![64]⟩
abbrev S4096 : Shape := ⟨1, ![4096]⟩
abbrev S64x64 : Shape := ⟨2, ![64, 64]⟩
abbrev S1x4096 : Shape := ⟨2, ![1, 4096]⟩
abbrev S16896x4096 : Shape := ⟨2, ![16896, 4096]⟩
abbrev S1x256x512 : Shape := ⟨3, ![1, 256, 512]⟩
abbrev S256x512 : Shape := ⟨2, ![256, 512]⟩
abbrev S1x512 : Shape := ⟨2, ![1, 512]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S8x16896x512, .f32⟩
  | .hbm, ⟨1, _⟩ => ⟨S8x16896x512, .f32⟩
  | .hbm, ⟨2, _⟩ => ⟨S16x16896x512, .f32⟩
  | .hbm, ⟨3, _⟩ => ⟨S16896x12288, .f32⟩
  | .hbm, ⟨4, _⟩ => ⟨S64, .f32⟩
  | .hbm, ⟨5, _⟩ => ⟨S4096, .f32⟩
  | .hbm, ⟨6, _⟩ => ⟨S64x64, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S16896x4096, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | _, _ => ⟨S8x16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![66, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SsdFinishRefIdeal.lean ====
abbrev S8x16896x512 : Shape := ⟨3, ![8, 16896, 512]⟩
abbrev S16x16896x512 : Shape := ⟨3, ![16, 16896, 512]⟩
abbrev S16896x12288 : Shape := ⟨2, ![16896, 12288]⟩
abbrev S64 : Shape := ⟨1, ![64]⟩
abbrev S4096 : Shape := ⟨1, ![4096]⟩
abbrev S16896x8x512 : Shape := ⟨3, ![16896, 8, 512]⟩
abbrev S16896x4096 : Shape := ⟨2, ![16896, 4096]⟩
abbrev S16896x64x64 : Shape := ⟨3, ![16896, 64, 64]⟩
abbrev S64x1 : Shape := ⟨2, ![64, 1]⟩
abbrev S1x64x1 : Shape := ⟨3, ![1, 64, 1]⟩
abbrev S_ : Shape := ⟨0, ![]⟩
abbrev S16896x8 : Shape := ⟨2, ![16896, 8]⟩
abbrev S16896x8x1 : Shape := ⟨3, ![16896, 8, 1]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8x16896x512, .f32⟩
  | .hbm, ⟨1, _⟩ => ⟨S8x16896x512, .f32⟩
  | .hbm, ⟨2, _⟩ => ⟨S16x16896x512, .f32⟩
  | .hbm, ⟨3, _⟩ => ⟨S16896x12288, .f32⟩
  | .hbm, ⟨4, _⟩ => ⟨S64, .f32⟩
  | .hbm, ⟨5, _⟩ => ⟨S4096, .f32⟩
  | .hbm, ⟨6, _⟩ => ⟨S8x16896x512, .f32⟩
  | .hbm, ⟨7, _⟩ => ⟨S16896x8x512, .f32⟩
  | .hbm, ⟨8, _⟩ => ⟨S16896x4096, .f32⟩
  | .hbm, ⟨9, _⟩ => ⟨S16896x64x64, .f32⟩
  | .hbm, ⟨10, _⟩ => ⟨S16896x8x512, .f32⟩
  | .hbm, ⟨11, _⟩ => ⟨S16896x4096, .f32⟩
  | .hbm, ⟨12, _⟩ => ⟨S16896x8x512, .f32⟩
  | .hbm, ⟨13, _⟩ => ⟨S16896x4096, .f32⟩
  | .hbm, ⟨14, _⟩ => ⟨S16896x4096, .f32⟩
  | .hbm, ⟨15, _⟩ => ⟨S16896x64x64, .f32⟩
  | .hbm, ⟨16, _⟩ => ⟨S64x1, .f32⟩
  | .hbm, ⟨17, _⟩ => ⟨S1x64x1, .f32⟩
  | .hbm, ⟨18, _⟩ => ⟨S16896x64x64, .f32⟩
  | .hbm, ⟨19, _⟩ => ⟨S16896x64x64, .f32⟩
  | .hbm, ⟨20, _⟩ => ⟨S16896x64x64, .f32⟩
  | .hbm, ⟨21, _⟩ => ⟨S16896x4096, .f32⟩
  | .hbm, ⟨22, _⟩ => ⟨S16896x4096, .f32⟩
  | .hbm, ⟨23, _⟩ => ⟨S16896x4096, .f32⟩
  | .hbm, ⟨24, _⟩ => ⟨S16896x4096, .f32⟩
  | .hbm, ⟨25, _⟩ => ⟨S_, .f32⟩
  | .hbm, ⟨26, _⟩ => ⟨S16896x4096, .f32⟩
  | .hbm, ⟨27, _⟩ => ⟨S16896x4096, .f32⟩
  | .hbm, ⟨28, _⟩ => ⟨S_, .f32⟩
  | .hbm, ⟨29, _⟩ => ⟨S16896x4096, .f32⟩
  | .hbm, ⟨30, _⟩ => ⟨S16896x4096, .f32⟩
  | .hbm, ⟨31, _⟩ => ⟨S16896x4096, .f32⟩
  | .hbm, ⟨32, _⟩ => ⟨S16896x4096, .f32⟩
  | .hbm, ⟨33, _⟩ => ⟨S16896x8x512, .f32⟩
  | .hbm, ⟨34, _⟩ => ⟨S16896x8x512, .f32⟩
  | .hbm, ⟨35, _⟩ => ⟨S_, .f32⟩
  | .hbm, ⟨36, _⟩ => ⟨S16896x8, .f32⟩
  | .hbm, ⟨37, _⟩ => ⟨S16896x8x1, .f32⟩
  | .hbm, ⟨38, _⟩ => ⟨S_, .f32⟩
  | .hbm, ⟨39, _⟩ => ⟨S16896x8x1, .f32⟩
  | .hbm, ⟨40, _⟩ => ⟨S16896x8x1, .f32⟩
  | .hbm, ⟨41, _⟩ => ⟨S_, .f32⟩
  | .hbm, ⟨42, _⟩ => ⟨S16896x8x1, .f32⟩
  | .hbm, ⟨43, _⟩ => ⟨S16896x8x1, .f32⟩
  | .hbm, ⟨44, _⟩ => ⟨S16896x8x1, .f32⟩
  | .hbm, ⟨45, _⟩ => ⟨S16896x8x512, .f32⟩
  | .hbm, ⟨46, _⟩ => ⟨S16896x8x512, .f32⟩
  | .hbm, ⟨47, _⟩ => ⟨S16896x4096, .f32⟩
  | .hbm, ⟨48, _⟩ => ⟨S1x4096, .f32⟩
  | .hbm, ⟨49, _⟩ => ⟨S16896x4096, .f32⟩
  | .hbm, ⟨50, _⟩ => ⟨S16896x4096, .f32⟩
  | .hbm, ⟨51, _⟩ => ⟨S16896x4096, .bf16⟩
  | _, _ => ⟨S8x16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Sconv.lean ====
abbrev S16896x4608 : Shape := ⟨2, ![16896, 4608]⟩
abbrev S3x1024 : Shape := ⟨2, ![3, 1024]⟩
abbrev S16896x1024 : Shape := ⟨2, ![16896, 1024]⟩
abbrev S256x512 : Shape := ⟨2, ![256, 512]⟩
abbrev S8x512 : Shape := ⟨2, ![8, 512]⟩
abbrev S3x512 : Shape := ⟨2, ![3, 512]⟩
abbrev S1x512 : Shape := ⟨2, ![1, 512]⟩

abbrev nBuf : Space → Nat
  | .hbm => 3
  | .vmem => 18
  | .smem => 0
  | _ => 0

abbrev bufTy : (tb : Table) → Fin (tcTables nBuf tb) → BufTy
  | .hbm, ⟨0, _⟩ => ⟨S16896x4608, .f32⟩
  | .hbm, ⟨1, _⟩ => ⟨S3x1024, .f32⟩
  | .hbm, ⟨2, _⟩ => ⟨S16896x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S3x512, .f32⟩
  | .local _ .vmem, ⟨15, _⟩ => ⟨S3x512, .f32⟩
  | .local _ .vmem, ⟨16, _⟩ => ⟨S256x512, .bf16⟩
  | .local _ .vmem, ⟨17, _⟩ => ⟨S256x512, .bf16⟩
  | _, _ => ⟨S16896x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![66, 2], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let v3 : BitVec 32 := Scalar.addi c7_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2111_i32 : BitVec 32 := 2111#32
  let v2 : BitVec 32 := Scalar.minsi v1 c2111_i32
  let c5_i32 : BitVec 32 := 5#32
  let v3 : BitVec 32 := Scalar.addi c5_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2111_i32 : BitVec 32 := 2111#32
  let v2 : BitVec 32 := Scalar.minsi v1 c2111_i32
  let c7_i32 : BitVec 32 := 7#32
  let v3 : BitVec 32 := Scalar.addi c7_i32 arg1
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SconvRefIdeal.lean ====
abbrev S16896x4608 : Shape := ⟨2, ![16896, 4608]⟩
abbrev S3x1024 : Shape := ⟨2, ![3, 1024]⟩
abbrev S16896x1024 : Shape := ⟨2, ![16896, 1024]⟩
abbrev S2x8448x1024 : Shape := ⟨3, ![2, 8448, 1024]⟩
abbrev S2x256x1024 : Shape := ⟨3, ![2, 256, 1024]⟩
abbrev S_ : Shape := ⟨0, ![]⟩
abbrev S2x258x1024 : Shape := ⟨3, ![2, 258, 1024]⟩
abbrev S1x1024 : Shape := ⟨2, ![1, 1024]⟩
abbrev S1024 : Shape := ⟨1, ![1024]⟩
abbrev S1x1x1024 : Shape := ⟨3, ![1, 1, 1024]⟩
abbrev S2x8192x1024 : Shape := ⟨3, ![2, 8192, 1024]⟩
abbrev S2x8194x1024 : Shape := ⟨3, ![2, 8194, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16896x4608, .f32⟩
  | .hbm, ⟨1, _⟩ => ⟨S3x1024, .f32⟩
  | .hbm, ⟨2, _⟩ => ⟨S16896x1024, .f32⟩
  | .hbm, ⟨3, _⟩ => ⟨S16896x1024, .f32⟩
  | .hbm, ⟨4, _⟩ => ⟨S16896x1024, .f32⟩
  | .hbm, ⟨5, _⟩ => ⟨S16896x1024, .f32⟩
  | .hbm, ⟨6, _⟩ => ⟨S2x8448x1024, .f32⟩
  | .hbm, ⟨7, _⟩ => ⟨S2x256x1024, .f32⟩
  | .hbm, ⟨8, _⟩ => ⟨S_, .i32⟩
  | .hbm, ⟨9, _⟩ => ⟨S_, .f32⟩
  | .hbm, ⟨10, _⟩ => ⟨S2x258x1024, .f32⟩
  | .hbm, ⟨11, _⟩ => ⟨S2x256x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S2x8192x1024, .f32⟩
  | .hbm, ⟨32, _⟩ => ⟨S_, .i32⟩
  | .hbm, ⟨33, _⟩ => ⟨S_, .f32⟩
  | .hbm, ⟨34, _⟩ => ⟨S2x8194x1024, .f32⟩
  | .hbm, ⟨35, _⟩ => ⟨S2x8192x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8448x1024, .f32⟩
  | .hbm, ⟨56, _⟩ => ⟨S16896x1024, .f32⟩
  | .hbm, ⟨57, _⟩ => ⟨S16896x1024, .f32⟩
  | .hbm, ⟨58, _⟩ => ⟨S16896x1024, .bf16⟩
  | _, _ => ⟨S16896x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_0 : Ref sig .tc := ⟨.hbm, 32, rfl⟩
abbrev main_call1_v0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩

abbrev nD : Nat := 1
abbrev τ : Topo := Topo.v7x

variable {F : FTy → Type} [FloatOps F]
-- ==== SsdPrep.lean ====
abbrev S16896x12288 : Shape := ⟨2, ![16896, 12288]⟩
abbrev S3x8192 : Shape := ⟨2, ![3, 8192]⟩
abbrev S8192 : Shape := ⟨1, ![8192]⟩
abbrev S1x8192 : Shape := ⟨2, ![1, 8192]⟩
abbrev S16x16896x512 : Shape := ⟨3, ![16, 16896, 512]⟩
abbrev S256x512 : Shape := ⟨2, ![256, 512]⟩
abbrev S8x512 : Shape := ⟨2, ![8, 512]⟩
abbrev S3x512 : Shape := ⟨2, ![3, 512]⟩
abbrev S1x512 : Shape := ⟨2, ![1, 512]⟩
abbrev S1x256x512 : Shape := ⟨3, ![1, 256, 512]⟩

abbrev nBuf : Space → Nat
  | .hbm => 5
  | .vmem => 12
  | .smem => 0
  | _ => 0

abbrev bufTy : (tb : Table) → Fin (tcTables nBuf tb) → BufTy
  | .hbm, ⟨0, _⟩ => ⟨S16896x12288, .f32⟩
  | .hbm, ⟨1, _⟩ => ⟨S3x8192, .f32⟩
  | .hbm, ⟨2, _⟩ => ⟨S8192, .f32⟩
  | .hbm, ⟨3, _⟩ => ⟨S1x8192, .f32⟩
  | .hbm, ⟨4, _⟩ => ⟨S16x16896x512, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x256x512, .f32⟩
  | .local _ .vmem, ⟨11, _⟩ => ⟨S1x256x512, .f32⟩
  | _, _ => ⟨S16896x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![66, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2111_i32 : BitVec 32 := 2111#32
  let v2 : BitVec 32 := Scalar.minsi v1 c2111_i32
  let c8_i32 : BitVec 32 := 8#32
  let v3 : BitVec 32 := Scalar.addi c8_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SsdPrepRefIdeal.lean ====
abbrev S16896x12288 : Shape := ⟨2, ![16896, 12288]⟩
abbrev S3x8192 : Shape := ⟨2, ![3, 8192]⟩
abbrev S8192 : Shape := ⟨1, ![8192]⟩
abbrev S16896x8192 : Shape := ⟨2, ![16896, 8192]⟩
abbrev S2x8448x8192 : Shape := ⟨3, ![2, 8448, 8192]⟩
abbrev S2x256x8192 : Shape := ⟨3, ![2, 256, 8192]⟩
abbrev S_ : Shape := ⟨0, ![]⟩
abbrev S2x258x8192 : Shape := ⟨3, ![2, 258, 8192]⟩
abbrev S1x8192 : Shape := ⟨2, ![1, 8192]⟩
abbrev S1x1x8192 : Shape := ⟨3, ![1, 1, 8192]⟩
abbrev S2x8192x8192 : Shape := ⟨3, ![2, 8192, 8192]⟩
abbrev S2x8194x8192 : Shape := ⟨3, ![2, 8194, 8192]⟩
abbrev S16896x16x512 : Shape := ⟨3, ![16896, 16, 512]⟩
abbrev S16x16896x512 : Shape := ⟨3, ![16, 16896, 512]⟩

abbrev nBuf : Space → Nat
  | .hbm => 69
  | .vmem => 0
  | .smem => 0
  | _ => 0

abbrev bufTy : (tb : Table) → Fin (tcTables nBuf tb) → BufTy
  | .hbm, ⟨0, _⟩ => ⟨S16896x12288, .f32⟩
  | .hbm, ⟨1, _⟩ => ⟨S3x8192, .f32⟩
  | .hbm, ⟨2, _⟩ => ⟨S8192, .f32⟩
  | .hbm, ⟨3, _⟩ => ⟨S16896x8192, .f32⟩
  | .hbm, ⟨4, _⟩ => ⟨S2x8448x8192, .f32⟩
  | .hbm, ⟨5, _⟩ => ⟨S2x256x8192, .f32⟩
  | .hbm, ⟨6, _⟩ => ⟨S_, .i32⟩
  | .hbm, ⟨7, _⟩ => ⟨S_, .f32⟩
  | .hbm, ⟨8, _⟩ => ⟨S2x258x8192, .f32⟩
  | .hbm, ⟨9, _⟩ => ⟨S2x256x8192, .f32⟩
  | .hbm, ⟨10, _⟩ => ⟨S1x8192, .f32⟩
  | .hbm, ⟨11, _⟩ => ⟨S8192, .f32⟩
  | .hbm, ⟨12, _⟩ => ⟨S1x1x8192, .f32⟩
  | .hbm, ⟨13, _⟩ => ⟨S2x256x8192, .f32⟩
  | .hbm, ⟨14, _⟩ => ⟨S2x256x8192, .f32⟩
  | .hbm, ⟨15, _⟩ => ⟨S2x256x8192, .f32⟩
  | .hbm, ⟨16, _⟩ => ⟨S1x8192, .f32⟩
  | .hbm, ⟨17, _⟩ => ⟨S8192, .f32⟩
  | .hbm, ⟨18, _⟩ => ⟨S1x1x8192, .f32⟩
  | .hbm, ⟨19, _⟩ => ⟨S2x256x8192, .f32⟩
  | .hbm, ⟨20, _⟩ => ⟨S2x256x8192, .f32⟩
  | .hbm, ⟨21, _⟩ => ⟨S2x256x8192, .f32⟩
  | .hbm, ⟨22, _⟩ => ⟨S2x256x8192, .f32⟩
  | .hbm, ⟨23, _⟩ => ⟨S1x8192, .f32⟩
  | .hbm, ⟨24, _⟩ => ⟨S8192, .f32⟩
  | .hbm, ⟨25, _⟩ => ⟨S1x1x8192, .f32⟩
  | .hbm, ⟨26, _⟩ => ⟨S2x256x8192, .f32⟩
  | .hbm, ⟨27, _⟩ => ⟨S2x256x8192, .f32⟩
  | .hbm, ⟨28, _⟩ => ⟨S2x256x8192, .f32⟩
  | .hbm, ⟨29, _⟩ => ⟨S2x8192x8192, .f32⟩
  | .hbm, ⟨30, _⟩ => ⟨S_, .i32⟩
  | .hbm, ⟨31, _⟩ => ⟨S_, .f32⟩
  | .hbm, ⟨32, _⟩ => ⟨S2x8194x8192, .f32⟩
  | .hbm, ⟨33, _⟩ => ⟨S2x8192x8192, .f32⟩
  | .hbm, ⟨34, _⟩ => ⟨S1x8192, .f32⟩
  | .hbm, ⟨35, _⟩ => ⟨S8192, .f32⟩
  | .hbm, ⟨36, _⟩ => ⟨S1x1x8192, .f32⟩
  | .hbm, ⟨37, _⟩ => ⟨S2x8192x8192, .f32⟩
  | .hbm, ⟨38, _⟩ => ⟨S2x8192x8192, .f32⟩
  | .hbm, ⟨39, _⟩ => ⟨S2x8192x8192, .f32⟩
  | .hbm, ⟨40, _⟩ => ⟨S1x8192, .f32⟩
  | .hbm, ⟨41, _⟩ => ⟨S8192, .f32⟩
  | .hbm, ⟨42, _⟩ => ⟨S1x1x8192, .f32⟩
  | .hbm, ⟨43, _⟩ => ⟨S2x8192x8192, .f32⟩
  | .hbm, ⟨44, _⟩ => ⟨S2x8192x8192, .f32⟩
  | .hbm, ⟨45, _⟩ => ⟨S2x8192x8192, .f32⟩
  | .hbm, ⟨46, _⟩ => ⟨S2x8192x8192, .f32⟩
  | .hbm, ⟨47, _⟩ => ⟨S1x8192, .f32⟩
  | .hbm, ⟨48, _⟩ => ⟨S8192, .f32⟩
  | .hbm, ⟨49, _⟩ => ⟨S1x1x8192, .f32⟩
  | .hbm, ⟨50, _⟩ => ⟨S2x8192x8192, .f32⟩
  | .hbm, ⟨51, _⟩ => ⟨S2x8192x8192, .f32⟩
  | .hbm, ⟨52, _⟩ => ⟨S2x8192x8192, .f32⟩
  | .hbm, ⟨53, _⟩ => ⟨S2x8448x8192, .f32⟩
  | .hbm, ⟨54, _⟩ => ⟨S16896x8192, .f32⟩
  | .hbm, ⟨55, _⟩ => ⟨S1x8192, .f32⟩
  | .hbm, ⟨56, _⟩ => ⟨S16896x8192, .f32⟩
  | .hbm, ⟨57, _⟩ => ⟨S16896x8192, .f32⟩
  | .hbm, ⟨58, _⟩ => ⟨S16896x8192, .f32⟩
  | .hbm, ⟨59, _⟩ => ⟨S16896x8192, .f32⟩
  | .hbm, ⟨60, _⟩ => ⟨S_, .f32⟩
  | .hbm, ⟨61, _⟩ => ⟨S16896x8192, .f32⟩
  | .hbm, ⟨62, _⟩ => ⟨S16896x8192, .f32⟩
  | .hbm, ⟨63, _⟩ => ⟨S_, .f32⟩
  | .hbm, ⟨64, _⟩ => ⟨S16896x8192, .f32⟩
  | .hbm, ⟨65, _⟩ => ⟨S16896x8192, .f32⟩
  | .hbm, ⟨66, _⟩ => ⟨S16896x8192, .f32⟩
  | .hbm, ⟨67, _⟩ => ⟨S16896x16x512, .f32⟩
  | .hbm, ⟨68, _⟩ => ⟨S16x16896x512, .f32⟩
  | _, _ => ⟨S16896x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_0 : Ref sig .tc := ⟨.hbm, 30, rfl⟩
abbrev main_call1_v0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== QkvPrep.lean ====
abbrev S16896x4608 : Shape := ⟨2, ![16896, 4608]⟩
abbrev S8192x64 : Shape := ⟨2, ![8192, 64]⟩
abbrev S128 : Shape := ⟨1, ![128]⟩
abbrev S8192x32 : Shape := ⟨2, ![8192, 32]⟩
abbrev S_ : Shape := ⟨0, ![]⟩
abbrev S256x128 : Shape := ⟨2, ![256, 128]⟩
abbrev S8192x128 : Shape := ⟨2, ![8192, 128]⟩
abbrev S8448x128 : Shape := ⟨2, ![8448, 128]⟩
abbrev S1x128 : Shape := ⟨2, ![1, 128]⟩
abbrev S16896x1024 : Shape := ⟨2, ![16896, 1024]⟩
abbrev S16896x256 : Shape := ⟨2, ![16896, 256]⟩
abbrev S256x1536 : Shape := ⟨2, ![256, 1536]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 24
  | .vmem => 14
  | .smem => 0
  | _ => 0

abbrev bufTy : (tb : Table) → Fin (tcTables nBuf tb) → BufTy
  | .hbm, ⟨0, _⟩ => ⟨S16896x4608, .f32⟩
  | .hbm, ⟨1, _⟩ => ⟨S8192x64, .f32⟩
  | .hbm, ⟨2, _⟩ => ⟨S8192x64, .f32⟩
  | .hbm, ⟨3, _⟩ => ⟨S128, .f32⟩
  | .hbm, ⟨4, _⟩ => ⟨S128, .f32⟩
  | .hbm, ⟨5, _⟩ => ⟨S8192x32, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S_, .f32⟩
  | .hbm, ⟨10, _⟩ => ⟨S256x128, .f32⟩
  | .hbm, ⟨11, _⟩ => ⟨S8192x128, .f32⟩
  | .hbm, ⟨12, _⟩ => ⟨S8448x128, .f32⟩
  | .hbm, ⟨13, _⟩ => ⟨S_, .f32⟩
  | .hbm, ⟨14, _⟩ => ⟨S256x128, .f32⟩
  | .hbm, ⟨15, _⟩ => ⟨S8192x32, .f32⟩
  | .hbm, ⟨16, _⟩ => ⟨S8192x32, .f32⟩
  | .hbm, ⟨17, _⟩ => ⟨S8192x128, .f32⟩
  | .hbm, ⟨18, _⟩ => ⟨S8448x128, .f32⟩
  | .hbm, ⟨19, _⟩ => ⟨S1x128, .f32⟩
  | .hbm, ⟨20, _⟩ => ⟨S1x128, .f32⟩
  | .hbm, ⟨21, _⟩ => ⟨S16896x1024, .bf16⟩
  | .hbm, ⟨22, _⟩ => ⟨S16896x256, .bf16⟩
  | .hbm, ⟨23, _⟩ => ⟨S16896x256, .bf16⟩
  | .local _ .vmem, ⟨0, _⟩ => ⟨S256x1536, .f32⟩
  | .local _ .vmem, ⟨1, _⟩ => ⟨S256x1536, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | _, _ => ⟨S16896x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvPrepRefIdeal.lean ====
abbrev S16896x4608 : Shape := ⟨2, ![16896, 4608]⟩
abbrev S8192x64 : Shape := ⟨2, ![8192, 64]⟩
abbrev S128 : Shape := ⟨1, ![128]⟩
abbrev S16896x1024 : Shape := ⟨2, ![16896, 1024]⟩
abbrev S2x8448x8x128 : Shape := ⟨4, ![2, 8448, 8, 128]⟩
abbrev S_ : Shape := ⟨0, ![]⟩
abbrev S2x8448x8 : Shape := ⟨3, ![2, 8448, 8]⟩
abbrev S2x8448x8x1 : Shape := ⟨4, ![2, 8448, 8, 1]⟩
abbrev S1x1x1x128 : Shape := ⟨4, ![1, 1, 1, 128]⟩
abbrev S2x256x8x128 : Shape := ⟨4, ![2, 256, 8, 128]⟩
abbrev S2x8192x8x128 : Shape := ⟨4, ![2, 8192, 8, 128]⟩
abbrev S2x8192x8x64 : Shape := ⟨4, ![2, 8192, 8, 64]⟩
abbrev S2x8192x8x32 : Shape := ⟨4, ![2, 8192, 8, 32]⟩
abbrev S8192x32 : Shape := ⟨2, ![8192, 32]⟩
abbrev S8192x1x32 : Shape := ⟨3, ![8192, 1, 32]⟩
abbrev S1x8192x1x32 : Shape := ⟨4, ![1, 8192, 1, 32]⟩
abbrev S16896x256 : Shape := ⟨2, ![16896, 256]⟩
abbrev S2x8448x2x128 : Shape := ⟨4, ![2, 8448, 2, 128]⟩
abbrev S2x8448x2 : Shape := ⟨3, ![2, 8448, 2]⟩
abbrev S2x8448x2x1 : Shape := ⟨4, ![2, 8448, 2, 1]⟩
abbrev S2x256x2x128 : Shape := ⟨4, ![2, 256, 2, 128]⟩
abbrev S2x8192x2x128 : Shape := ⟨4, ![2, 8192, 2, 128]⟩
abbrev S2x8192x2x64 : Shape := ⟨4, ![2, 8192, 2, 64]⟩
abbrev S2x8192x2x32 : Shape := ⟨4, ![2, 8192, 2, 32]⟩

abbrev nBuf : Space → Nat
  | .hbm => 142
  | .vmem => 0
  | .smem => 0
  | _ => 0

abbrev hbmTy0_0 (i : Nat) : BufTy := match i % 128 with
  | 0 => ⟨S16896x4608, .f32⟩
  | 1 => ⟨S8192x64, .f32⟩
  | 2 => ⟨S8192x64, .f32⟩
  | 3 => ⟨S128, .f32⟩
  | 4 => ⟨S128, .f32⟩
  | 5 => ⟨S16896x1024, .f32⟩
  | 6 => ⟨S2x8448x8x128, .f32⟩
  | 7 => ⟨S2x8448x8x128, .f32⟩
  | 8 => ⟨S_, .f32⟩
  | 9 => ⟨S2x8448x8, .f32⟩
  | 10 => ⟨S2x8448x8x1, .f32⟩
  | 11 => ⟨S_, .f32⟩
  | 12 => ⟨S2x8448x8x1, .f32⟩
  | 13 => ⟨S2x8448x8x1, .f32⟩
  | 14 => ⟨S_, .f32⟩
  | 15 => ⟨S2x8448x8x1, .f32⟩
  | 16 => ⟨S2x8448x8x1, .f32⟩
  | 17 => ⟨S2x8448x8x1, .f32⟩
  | 18 => ⟨S2x8448x8x128, .f32⟩
  | 19 => ⟨S2x8448x8x128, .f32⟩
  | 20 => ⟨S1x1x1x128, .f32⟩
  | 21 => ⟨S2x8448x8x128, .f32⟩
  | 22 => ⟨S2x8448x8x128, .f32⟩
  | 23 => ⟨S2x256x8x128, .f32⟩
  | 24 => ⟨S2x8192x8x128, .f32⟩
  | 25 => ⟨S2x8192x8x64, .f32⟩
  | 26 => ⟨S2x8192x8x32, .f32⟩
  | 27 => ⟨S2x8192x8x32, .f32⟩
  | 28 => ⟨S8192x32, .f32⟩
  | 29 => ⟨S8192x1x32, .f32⟩
  | 30 => ⟨S8192x32, .f32⟩
  | 31 => ⟨S8192x1x32, .f32⟩
  | 32 => ⟨S1x8192x1x32, .f32⟩
  | 33 => ⟨S2x8192x8x32, .f32⟩
  | 34 => ⟨S2x8192x8x32, .f32⟩
  | 35 => ⟨S1x8192x1x32, .f32⟩
  | 36 => ⟨S2x8192x8x32, .f32⟩
  | 37 => ⟨S2x8192x8x32, .f32⟩
  | 38 => ⟨S2x8192x8x32, .f32⟩
  | 39 => ⟨S1x8192x1x32, .f32⟩
  | 40 => ⟨S2x8192x8x32, .f32⟩
  | 41 => ⟨S2x8192x8x32, .f32⟩
  | 42 => ⟨S1x8192x1x32, .f32⟩
  | 43 => ⟨S2x8192x8x32, .f32⟩
  | 44 => ⟨S2x8192x8x32, .f32⟩
  | 45 => ⟨S2x8192x8x32, .f32⟩
  | 46 => ⟨S2x8192x8x64, .f32⟩
  | 47 => ⟨S2x8192x8x32, .f32⟩
  | 48 => ⟨S2x8192x8x32, .f32⟩
  | 49 => ⟨S8192x32, .f32⟩
  | 50 => ⟨S8192x1x32, .f32⟩
  | 51 => ⟨S8192x32, .f32⟩
  | 52 => ⟨S8192x1x32, .f32⟩
  | 53 => ⟨S1x8192x1x32, .f32⟩
  | 54 => ⟨S2x8192x8x32, .f32⟩
  | 55 => ⟨S2x8192x8x32, .f32⟩
  | 56 => ⟨S1x8192x1x32, .f32⟩
  | 57 => ⟨S2x8192x8x32, .f32⟩
  | 58 => ⟨S2x8192x8x32, .f32⟩
  | 59 => ⟨S2x8192x8x32, .f32⟩
  | 60 => ⟨S1x8192x1x32, .f32⟩
  | 61 => ⟨S2x8192x8x32, .f32⟩
  | 62 => ⟨S2x8192x8x32, .f32⟩
  | 63 => ⟨S1x8192x1x32, .f32⟩
  | 64 => ⟨S2x8192x8x32, .f32⟩
  | 65 => ⟨S2x8192x8x32, .f32⟩
  | 66 => ⟨S2x8192x8x32, .f32⟩
  | 67 => ⟨S2x8192x8x128, .f32⟩
  | 68 => ⟨S2x8448x8x128, .f32⟩
  | 69 => ⟨S_, .f32⟩
  | 70 => ⟨S2x8448x8x128, .f32⟩
  | 71 => ⟨S2x8448x8x128, .f32⟩
  | 72 => ⟨S16896x256, .f32⟩
  | 73 => ⟨S2x8448x2x128, .f32⟩
  | 74 => ⟨S2x8448x2x128, .f32⟩
  | 75 => ⟨S_, .f32⟩
  | 76 => ⟨S2x8448x2, .f32⟩
  | 77 => ⟨S2x8448x2x1, .f32⟩
  | 78 => ⟨S_, .f32⟩
  | 79 => ⟨S2x8448x2x1, .f32⟩
  | 80 => ⟨S2x8448x2x1, .f32⟩
  | 81 => ⟨S_, .f32⟩
  | 82 => ⟨S2x8448x2x1, .f32⟩
  | 83 => ⟨S2x8448x2x1, .f32⟩
  | 84 => ⟨S2x8448x2x1, .f32⟩
  | 85 => ⟨S2x8448x2x128, .f32⟩
  | 86 => ⟨S2x8448x2x128, .f32⟩
  | 87 => ⟨S1x1x1x128, .f32⟩
  | 88 => ⟨S2x8448x2x128, .f32⟩
  | 89 => ⟨S2x8448x2x128, .f32⟩
  | 90 => ⟨S2x256x2x128, .f32⟩
  | 91 => ⟨S2x8192x2x128, .f32⟩
  | 92 => ⟨S2x8192x2x64, .f32⟩
  | 93 => ⟨S2x8192x2x32, .f32⟩
  | 94 => ⟨S2x8192x2x32, .f32⟩
  | 95 => ⟨S8192x32, .f32⟩
  | 96 => ⟨S8192x1x32, .f32⟩
  | 97 => ⟨S8192x32, .f32⟩
  | 98 => ⟨S8192x1x32, .f32⟩
  | 99 => ⟨S1x8192x1x32, .f32⟩
  | 100 => ⟨S2x8192x2x32, .f32⟩
  | 101 => ⟨S2x8192x2x32, .f32⟩
  | 102 => ⟨S1x8192x1x32, .f32⟩
  | 103 => ⟨S2x8192x2x32, .f32⟩
  | 104 => ⟨S2x8192x2x32, .f32⟩
  | 105 => ⟨S2x8192x2x32, .f32⟩
  | 106 => ⟨S1x8192x1x32, .f32⟩
  | 107 => ⟨S2x8192x2x32, .f32⟩
  | 108 => ⟨S2x8192x2x32, .f32⟩
  | 109 => ⟨S1x8192x1x32, .f32⟩
  | 110 => ⟨S2x8192x2x32, .f32⟩
  | 111 => ⟨S2x8192x2x32, .f32⟩
  | 112 => ⟨S2x8192x2x32, .f32⟩
  | 113 => ⟨S2x8192x2x64, .f32⟩
  | 114 => ⟨S2x8192x2x32, .f32⟩
  | 115 => ⟨S2x8192x2x32, .f32⟩
  | 116 => ⟨S8192x32, .f32⟩
  | 117 => ⟨S8192x1x32, .f32⟩
  | 118 => ⟨S8192x32, .f32⟩
  | 119 => ⟨S8192x1x32, .f32⟩
  | 120 => ⟨S1x8192x1x32, .f32⟩
  | 121 => ⟨S2x8192x2x32, .f32⟩
  | 122 => ⟨S2x8192x2x32, .f32⟩
  | 123 => ⟨S1x8192x1x32, .f32⟩
  | 124 => ⟨S2x8192x2x32, .f32⟩
  | 125 => ⟨S2x8192x2x32, .f32⟩
  | 126 => ⟨S2x8192x2x32, .f32⟩
  | 127 => ⟨S1x8192x1x32, .f32⟩
  | _ => ⟨S16896x4608, .f32⟩

abbrev hbmTy0_1 (i : Nat) : BufTy := match i % 128 with
  | 0 => ⟨S2x8192x2x32, .f32⟩
  | 1 => ⟨S2x8192x2x32, .f32⟩
  | 2 => ⟨S1x8192x1x32, .f32⟩
  | 3 => ⟨S2x8192x2x32, .f32⟩
  | 4 => ⟨S2x8192x2x32, .f32⟩
  | 5 => ⟨S2x8192x2x32, .f32⟩
  | 6 => ⟨S2x8192x2x128, .f32⟩
  | 7 => ⟨S2x8448x2x128, .f32⟩
  | 8 => ⟨S16896x256, .f32⟩
  | 9 => ⟨S16896x1024, .f32⟩
  | 10 => ⟨S16896x1024, .bf16⟩
  | 11 => ⟨S16896x256, .f32⟩
  | 12 => ⟨S16896x256, .bf16⟩
  | 13 => ⟨S16896x256, .bf16⟩
  | _ => ⟨S16896x4608, .f32⟩

abbrev hbmTy (i : Nat) : BufTy := match i / 128 with
  | 0 => hbmTy0_0 i
  | 1 => hbmTy0_1 i
  | _ => ⟨S16896x4608, .f32⟩

abbrev bufTy : (tb : Table) → Fin (tcTables nBuf tb) → BufTy
  | .hbm, ⟨i, _⟩ => hbmTy i
  | _, _ => ⟨S16896x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_2 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_3 : Ref sig .tc := ⟨.hbm, 75, rfl⟩
abbrev main_v66 : Ref sig .tc := ⟨.hbm, 76, rfl⟩
abbrev main_v67 : Ref sig .tc := ⟨.hbm, 77, rfl⟩
abbrev main_cst_4 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩

abbrev nD : Nat := 1
abbrev τ : Topo := Topo.v7x

variable {F : FTy → Type} [FloatOps F]
-- ==== Proof.MatBlock.lean ====
/-
  The mathematics shared by the projection kernels: a block product at an index.

  A projection kernel multiplies a block of rows `x : [M, K]` by a block of columns `w : [K, N]` into a zero
  accumulator; over the extended reals the result at `(r, c)` is the plain sum `∑ k, x r k * w k c`.
-/
module

public import Idealize.ShloMosaic.Lib.MatmulPlain
public import Idealize.ShloMosaic.Lib.Pipeline.Value
public import Idealize.ShloMosaic.Lib.ValueIdx

@[expose] public section

noncomputable section

namespace Cert.MatBlock

open Idealize.ShloMosaic Idealize.ShloMosaic.ValueIdx

/-- The zero offset of a rank-two access, as a constant function. -/
theorem hz2 : (![0, 0] : Fin 2 → Nat) = fun _ => 0 := funext fun a => by fin_cases a <;> rfl

/-- The zero offset of a rank-three access, as a constant function. -/
theorem hz3 : (![0, 0, 0] : Fin 3 → Nat) = fun _ => 0 := funext fun a => by fin_cases a <;> rfl

/-- The matrix product `x · w` at row `r` and column `c`, as a sum over the extended reals. -/
def prodAt {M K N : Nat} (x : (⟨2, ![M, K]⟩ : Shape).Idx → EReal) (w : (⟨2, ![K, N]⟩ : Shape).Idx → EReal)
    (r : Fin M) (c : Fin N) : EReal := ∑ k : Fin K, x (ix2 r k) * w (ix2 k c)

/-- A block product into the zero accumulator, read at `(r, c)`, is the plain sum `∑ k, x r k * w k c`. -/
theorem matmul_zero_apply {M K N : Nat} {φ₁ φ₂ : FTy} (x : FVec Ideal ⟨2, ![M, K]⟩ φ₁) (w : FVec Ideal ⟨2, ![K, N]⟩ φ₂)
    (r : Fin M) (c : Fin N) :
    matmul (DotDims.plain M K N) none x w (constant ⟨2, ![M, N]⟩ .f32 0x00000000#32) (ix2 r c) = prodAt x w r c := by
  unfold prodAt
  rw [matmul, Ideal.matmul_plain_apply, constant_apply, Ideal.ofBits_zero_f32, zero_add]

/-- The modulation table's row for a tile of 256 tokens: tile 0 of a batch's 33 is its context (row 2), the others are its
    latents (the row of the batch). -/
def tileStream (t : Nat) : Nat := if t % 33 = 0 then 2 else t / 33

/-- The modulation table's row for a token in the flat order: the first 256 of each batch's 8448 are its context. -/
def stream (R : Fin 16896) : Fin 8 := if R.val % 8448 < 256 then 2 else ⟨R.val / 8448, by omega⟩

/-- A token's row of the table is its tile's. -/
theorem stream_tile (t : Nat) (ht : t < 66) (r : Fin 256) (R : Fin 16896) (hR : R.val = t * 256 + r.val) :
    (stream R).val = tileStream t := by
  unfold stream tileStream
  split_ifs with h1 h2 h2
  · rfl
  · omega
  · omega
  · show R.val / 8448 = t / 33; omega

/-- A context token reads row 2 … -/
theorem stream_ctx (b : Fin 2) (n : Fin 8448) (hn : n.val < 256) :
    stream ⟨b.val * 8448 + n.val, by omega⟩ = 2 := by
  unfold stream
  exact if_pos (by show (b.val * 8448 + n.val) % 8448 < 256; omega)

/-- … and a latent token the row of its batch. -/
theorem stream_lat (b : Fin 2) (n : Fin 8448) (hn : ¬n.val < 256) :
    stream ⟨b.val * 8448 + n.val, by omega⟩ = ⟨b.val, by omega⟩ := by
  unfold stream
  rw [if_neg (by show ¬(b.val * 8448 + n.val) % 8448 < 256; omega)]
  exact Fin.ext (by show (b.val * 8448 + n.val) / 8448 = b.val; omega)

/-- The gated residual at a token and a column: `h + gate · (y · w)`, the gate row 2 of the token's modulation table. -/
def gatedAt {D : Nat} (y : (⟨2, ![16896, D]⟩ : Shape).Idx → EReal) (w : (⟨2, ![D, 2048]⟩ : Shape).Idx → EReal)
    (h : (⟨2, ![16896, 2048]⟩ : Shape).Idx → EReal) (modt : (⟨3, ![8, 8, 2048]⟩ : Shape).Idx → EReal)
    (R : Fin 16896) (q : Fin 2048) : EReal := h (ix2 R q) + modt (ix3 (stream R) 2 q) * prodAt y w R q

/-- What the body of an output projection computes of its blocks, at an index. -/
theorem gated_block_apply {D : Nat} {φ₁ φ₂ : FTy} (y : FVec Ideal ⟨2, ![256, D]⟩ φ₁) (w : FVec Ideal ⟨2, ![D, 1024]⟩ φ₂)
    (h : FVec Ideal ⟨2, ![256, 1024]⟩ .f32) (g : FVec Ideal ⟨3, ![1, 1, 1024]⟩ .f32)
    (hc : (⟨3, ![1, 1, 1024]⟩ : Shape).ShapeCasts ⟨2, ![1, 1024]⟩) (hb : (⟨2, ![1, 1024]⟩ : Shape).Broadcasts ⟨2, ![256, 1024]⟩)
    (r : Fin 256) (q : Fin 1024) :
    addf h (mulf (broadcastTo ⟨2, ![256, 1024]⟩ (shapeCast ⟨2, ![1, 1024]⟩ g hc) hb)
        (matmul (DotDims.plain 256 D 1024) none y w (constant ⟨2, ![256, 1024]⟩ .f32 0x00000000#32))) (ix2 r q)
      = h (ix2 r q) + g (ix3 0 0 q) * prodAt y w r q := by
  rw [addf_apply, mulf_apply, matmul_zero_apply]
  have e : broadcastTo ⟨2, ![256, 1024]⟩ (shapeCast ⟨2, ![1, 1024]⟩ g hc) hb (ix2 r q) = g (ix3 0 0 q) :=
    (broadcastTo_apply _ hb (ix2 r q) (ix2 (0 : Fin 1) q) (fun a => by match a with | ⟨0, _⟩ => rfl | ⟨1, _⟩ => rfl)).trans
      (shapeCast_apply g hc (ix2 (0 : Fin 1) q) (ix3 0 0 q) (by
        rw [Shape.rowMajor_val_two, Shape.rowMajor_val_three]; rfl))
  rw [e]

end Cert.MatBlock

end
-- ==== Proof.OnlineSoftmax.lean ====
/-
  The softmax of a row of scores, computed tile by tile.

  A row has scores `s 0, s 1, …` and weights `v 0, v 1, …`. The running maximum, normaliser and weighted sum over the
  first `n` keys are `top s n`, `den s n` and `num s v n`. Taking in a tile of further keys rescales the two sums by
  `exp (old maximum − new maximum)`; the quotient at the end is the softmax-weighted mean of the values.
-/
module

public import Idealize.ShloMosaic.Lib.MatmulPlain
public import Idealize.ShloMosaic.Lib.Pipeline.Value

@[expose] public section

noncomputable section

namespace Cert.OnlineSoftmax

open Idealize.ShloMosaic

/-- The largest of the first `n` scores. -/
def top (s : ℕ → EReal) (n : ℕ) : EReal := (Finset.range n).sup s

/-- The normaliser of the first `n` keys, relative to `M`. -/
def den (s : ℕ → EReal) (n : ℕ) (M : EReal) : EReal := ∑ k ∈ Finset.range n, Ideal.exp (s k - M)

/-- The weighted sum of the first `n` keys' values, relative to `M`. -/
def num (s v : ℕ → EReal) (n : ℕ) (M : EReal) : EReal := ∑ k ∈ Finset.range n, Ideal.exp (s k - M) * v k

theorem exp_nonneg (x : EReal) : 0 ≤ Ideal.exp x := by
  induction x with
  | bot => exact le_refl _
  | top => exact le_top
  | coe r => exact EReal.coe_nonneg.2 (Real.exp_pos r).le

theorem exp_bot : Ideal.exp ⊥ = 0 := rfl

/-- A nonnegative finite factor moves into a finite sum of extended reals. -/
theorem mul_sum {ι : Type*} (c : EReal) (h0 : 0 ≤ c) (h1 : c ≠ ⊤) (t : Finset ι) (f : ι → EReal) :
    c * ∑ k ∈ t, f k = ∑ k ∈ t, c * f k := by
  classical
  induction t using Finset.induction_on with
  | empty => simp
  | insert a t ha ih => rw [Finset.sum_insert ha, Finset.sum_insert ha, EReal.left_distrib_of_nonneg_of_ne_top h0 h1, ih]

/-- Rescaling one exponential from the old maximum to the new one. -/
theorem exp_rescale (a m M : EReal) (ha : a ≠ ⊤) (hm : m ≠ ⊥) (hm' : m ≠ ⊤) (hM : M ≠ ⊤) (hM' : M ≠ ⊥) :
    Ideal.exp (m - M) * Ideal.exp (a - m) = Ideal.exp (a - M) := by
  lift m to ℝ using ⟨hm', hm⟩
  lift M to ℝ using ⟨hM, hM'⟩
  induction a with
  | bot => rw [EReal.bot_sub, EReal.bot_sub, exp_bot, mul_zero]
  | top => exact absurd rfl ha
  | coe r =>
    show ((Real.exp (m - M) : ℝ) : EReal) * ((Real.exp (r - m) : ℝ) : EReal) = ((Real.exp (r - M) : ℝ) : EReal)
    rw [← EReal.coe_mul, ← Real.exp_add]
    congr 2
    ring

theorem top_ne_top (s : ℕ → EReal) (hs : ∀ k, s k ≠ ⊤) (n : ℕ) : top s n ≠ ⊤ := by
  unfold top
  have : (Finset.range n).sup s < ⊤ := (Finset.sup_lt_iff (by simp)).2 fun k _ => lt_top_iff_ne_top.2 (hs k)
  exact this.ne

theorem top_ne_bot (s : ℕ → EReal) (h0 : s 0 ≠ ⊥) (n : ℕ) (hn : 0 < n) : top s n ≠ ⊥ := fun h =>
  h0 (le_bot_iff.1 (h ▸ Finset.le_sup (f := s) (Finset.mem_range.2 hn)))

/-- The maximum over `n + b` keys is that of the first `n` and of the tile's. -/
theorem top_add (s : ℕ → EReal) (n b : ℕ) (x : Fin b → EReal) (hx : ∀ j : Fin b, x j = s (n + j.val)) :
    max (top s n) ((Finset.univ : Finset (Fin b)).sup x) = top s (n + b) := by
  apply le_antisymm
  · refine max_le (Finset.sup_mono (Finset.range_mono (Nat.le_add_right n b))) (Finset.sup_le fun j _ => ?_)
    rw [hx]
    exact Finset.le_sup (f := s) (Finset.mem_range.2 (by omega))
  · refine Finset.sup_le fun k hk => ?_
    have hk := Finset.mem_range.1 hk
    by_cases h : k < n
    · exact le_max_of_le_left (Finset.le_sup (f := s) (Finset.mem_range.2 h))
    · refine le_max_of_le_right ?_
      have e : s k = x ⟨k - n, by omega⟩ := by rw [hx]; congr 1; dsimp only; omega
      rw [e]
      exact Finset.le_sup (f := x) (Finset.mem_univ _)

/-- The rescaling factor is nonnegative and finite, and carries the sums over the first `n` keys to the new maximum. -/
theorem rescale_sum (s v : ℕ → EReal) (hs : ∀ k, s k ≠ ⊤) (h0 : s 0 ≠ ⊥) (n : ℕ) (M : EReal) (hM : M ≠ ⊤) (hM' : M ≠ ⊥)
    (hle : top s n ≤ M) :
    Ideal.exp (top s n - M) * num s v n (top s n) = num s v n M := by
  rcases Nat.eq_zero_or_pos n with rfl | hn
  · simp [num]
  · have a1 := top_ne_top s hs n
    have a2 := top_ne_bot s h0 n hn
    unfold num
    rw [mul_sum _ (exp_nonneg _)]
    · refine Finset.sum_congr rfl fun k _ => ?_
      rw [← mul_assoc, exp_rescale _ _ _ (hs k) a2 a1 hM hM']
    · generalize top s n = m at *
      lift m to ℝ using ⟨a1, a2⟩
      lift M to ℝ using ⟨hM, hM'⟩
      exact EReal.coe_ne_top _

theorem den_eq_num (s : ℕ → EReal) (n : ℕ) (M : EReal) : den s n M = num s (fun _ => 1) n M := by
  simp [den, num]

/-- A tile taken in: the rescaled weighted sum and the tile's own make the weighted sum over all keys so far. -/
theorem num_step (s v : ℕ → EReal) (hs : ∀ k, s k ≠ ⊤) (h0 : s 0 ≠ ⊥) (n b : ℕ) (hb : 0 < b) (x y : Fin b → EReal)
    (hx : ∀ j : Fin b, x j = s (n + j.val)) (hy : ∀ j : Fin b, y j = v (n + j.val)) :
    Ideal.exp (top s n - top s (n + b)) * num s v n (top s n)
        + ∑ j : Fin b, Ideal.exp (x j - top s (n + b)) * y j
      = num s v (n + b) (top s (n + b)) := by
  rw [rescale_sum s v hs h0 n _ (top_ne_top s hs _) (top_ne_bot s h0 _ (by omega))
    (Finset.sup_mono (Finset.range_mono (Nat.le_add_right n b)))]
  unfold num
  rw [Finset.sum_range_add, Finset.sum_range (n := b)]
  congr 1
  exact Finset.sum_congr rfl fun j _ => by rw [hx, hy]

/-- The same for the normaliser. -/
theorem den_step (s : ℕ → EReal) (hs : ∀ k, s k ≠ ⊤) (h0 : s 0 ≠ ⊥) (n b : ℕ) (hb : 0 < b) (x : Fin b → EReal)
    (hx : ∀ j : Fin b, x j = s (n + j.val)) :
    Ideal.exp (top s n - top s (n + b)) * den s n (top s n) + ∑ j : Fin b, Ideal.exp (x j - top s (n + b))
      = den s (n + b) (top s (n + b)) := by
  have h := num_step s (fun _ => 1) hs h0 n b hb x (fun _ => 1) hx (fun _ => rfl)
  rw [den_eq_num, den_eq_num, ← h]
  simp

/-- The normaliser is at least one: the largest score contributes `exp 0`. -/
theorem one_le_den (s : ℕ → EReal) (hs : ∀ k, s k ≠ ⊤) (h0 : s 0 ≠ ⊥) (n : ℕ) (hn : 0 < n) : 1 ≤ den s n (top s n) := by
  obtain ⟨k, hk, e⟩ := Finset.exists_mem_eq_sup (Finset.range n) ⟨0, Finset.mem_range.2 hn⟩ s
  have a1 := top_ne_top s hs n
  have a2 := top_ne_bot s h0 n hn
  have e1 : Ideal.exp (s k - top s n) = 1 := by
    have : top s n = s k := e
    rw [← this]
    generalize top s n = m at a1 a2
    lift m to ℝ using ⟨a1, a2⟩
    show ((Real.exp (m - m) : ℝ) : EReal) = 1
    rw [sub_self, Real.exp_zero]
    rfl
  rw [← e1]
  exact Finset.single_le_sum (f := fun k => Ideal.exp (s k - top s n)) (fun i _ => exp_nonneg _) hk

/-- The quotient of the two sums is the mean of the values with the softmax weights. -/
theorem div_num (s v : ℕ → EReal) (hs : ∀ k, s k ≠ ⊤) (h0 : s 0 ≠ ⊥) (n : ℕ) (hn : 0 < n) :
    Ideal.div (num s v n (top s n)) (den s n (top s n))
      = ∑ k ∈ Finset.range n, Ideal.div (Ideal.exp (s k - top s n)) (den s n (top s n)) * v k := by
  have h1 := one_le_den s hs h0 n hn
  have hne : den s n (top s n) ≠ 0 := fun h => by rw [h] at h1; exact absurd h1 (by simp)
  have hpos : 0 ≤ den s n (top s n) := le_trans (by simp) h1
  generalize den s n (top s n) = L at *
  unfold Ideal.div num
  simp only [if_neg hne]
  rw [mul_comm, mul_sum _ (EReal.inv_nonneg_of_nonneg hpos) (EReal.inv_lt_top L).ne]
  refine Finset.sum_congr rfl fun k _ => ?_
  rw [← mul_assoc, mul_comm L⁻¹]

/-- The same row with the keys from `n` on masked to `⊥`: nothing changes but that they are counted. -/
theorem top_masked (s : ℕ → EReal) (n b : ℕ) :
    top (fun k => if k < n then s k else ⊥) (n + b) = top s n := by
  apply le_antisymm
  · refine Finset.sup_le fun k _ => ?_
    split_ifs with h
    · exact Finset.le_sup (f := s) (Finset.mem_range.2 h)
    · exact bot_le
  · refine Finset.sup_le fun k hk => ?_
    have hk := Finset.mem_range.1 hk
    refine le_trans (le_of_eq ?_) (Finset.le_sup (f := fun k => if k < n then s k else ⊥) (Finset.mem_range.2 (by omega : k < n + b)))
    exact (if_pos hk).symm

/-- Masked keys add nothing to the weighted sum … -/
theorem num_masked (s v : ℕ → EReal) (n b : ℕ) (M : EReal) :
    num (fun k => if k < n then s k else ⊥) v (n + b) M = num s v n M := by
  unfold num
  rw [Finset.sum_range_add]
  have e2 : ∑ x ∈ Finset.range b, Ideal.exp ((if n + x < n then s (n + x) else ⊥) - M) * v (n + x) = 0 :=
    Finset.sum_eq_zero fun x _ => by rw [if_neg (by omega), EReal.bot_sub, exp_bot, zero_mul]
  rw [e2, add_zero]
  exact Finset.sum_congr rfl fun k hk => by
    show Ideal.exp ((if k < n then s k else ⊥) - M) * v k = _
    rw [if_pos (Finset.mem_range.1 hk)]

/-- … nor to the normaliser. -/
theorem den_masked (s : ℕ → EReal) (n b : ℕ) (M : EReal) :
    den (fun k => if k < n then s k else ⊥) (n + b) M = den s n M := by
  rw [den_eq_num, den_eq_num, num_masked]

/-- The softmax-weighted mean of the first `n` values. -/
def mean (s v : ℕ → EReal) (n : ℕ) : EReal :=
  ∑ k ∈ Finset.range n, Ideal.div (Ideal.exp (s k - top s n)) (den s n (top s n)) * v k

end Cert.OnlineSoftmax

end
-- ==== Proof.FlashSteps.lean ====
/-
  The attention kernel's arithmetic on one tile, read at an index.

  A tile step takes the scores of 1024 stacked query rows against 768 keys, the running maximum, normaliser and weighted
  sum, and updates the three. `topT`, `denT` and `numT` are the three updates; `plainT` and `maskT` the two kinds of scores.
-/
module

public import proofs.«01_k».proof.Proof.MatBlock
public import proofs.«01_k».proof.Proof.OnlineSoftmax
public import proofs.«01_k».proof.Proof.Gen.FlashIdeal.Value
public import Idealize.ShloMosaic.Lib.Pipeline.ValueKit.Tiles

@[expose] public section

set_option maxRecDepth 16384

noncomputable section

open Idealize.ShloMosaic Idealize.ShloMosaic.TcCoe Idealize.SL.Sem Idealize.ShloMosaic.ValueIdx
open Cert.MatBlock

namespace Cert.FlashIdeal.Steps

open Cert.FlashIdeal Cert.FlashIdeal.Gen

theorem ofBits_negInf : Ideal.ofBits .f32 0xFF800000#32 = ⊥ := by simp [Ideal.ofBits, Ideal.ieee]

theorem fold_max_eq_sup {n : Nat} (f : Fin n → EReal) : (Finset.univ : Finset (Fin n)).fold max ⊥ f = Finset.univ.sup f := rfl

/-- The running maximum after a tile with scores `sc`. -/
def topT (sc : FVec Ideal S1024x768 .f32) (mx : FVec Ideal S1024x1 .f32) : FVec Ideal S1024x1 .f32 :=
  maximumf mx (shapeCast S1024x1 (multiReduction .maximumf [1] S1024 sc 0xFF800000#32 reduces_S1024x768_S1024 (.inl rfl) rfl) shapeCasts_S1024_S1024x1)

/-- The tile's weights relative to the new maximum. -/
def wtT (sc : FVec Ideal S1024x768 .f32) (mx : FVec Ideal S1024x1 .f32) : FVec Ideal S1024x768 .f32 :=
  exp (subf sc (broadcastTo S1024x768 (topT sc mx) broadcasts_S1024x1_S1024x768))

/-- The normaliser after the tile. -/
def denT (sc : FVec Ideal S1024x768 .f32) (mx ln : FVec Ideal S1024x1 .f32) : FVec Ideal S1024x1 .f32 :=
  addf (mulf (exp (subf mx (topT sc mx))) ln)
    (shapeCast S1024x1 (multiReduction .add [1] S1024 (wtT sc mx) 0x00000000#32 reduces_S1024x768_S1024 (.inl rfl) rfl) shapeCasts_S1024_S1024x1)

/-- The weighted sum after the tile. -/
def numT (sc : FVec Ideal S1024x768 .f32) (mx : FVec Ideal S1024x1 .f32) (ac : FVec Ideal S1024x128 .f32)
    (v : FVec Ideal S1x768x128 .bf16) : FVec Ideal S1024x128 .f32 :=
  addf (mulf (broadcastTo S1024x128 (exp (subf mx (topT sc mx))) broadcasts_S1024x1_S1024x128) ac)
    (matmul (DotDims.plain 1024 768 128) none (truncf (F := Ideal) (s := S1024x768) (φ := .f32) .bf16 (wtT sc mx) bitsLt_bf16_f32 : FVec Ideal S1024x768 .bf16)
      (shapeCast S768x128 v shapeCasts_S1x768x128_S768x128) (constant S1024x128 .f32 0x00000000#32))

/-- A row statistic [1024], read as a column. -/
theorem col_apply (x : FVec Ideal S1024 .f32) (r : Fin 1024) :
    shapeCast S1024x1 x shapeCasts_S1024_S1024x1 (ix2 r (0 : Fin 1)) = x (ix1 r) :=
  shapeCast_apply x shapeCasts_S1024_S1024x1 (ix2 r 0) (ix1 r) (by
    rw [Shape.rowMajor_val_two, Shape.rowMajor_val_one]; show r.val = r.val * 1 + 0; omega)

theorem lift_eq (r : Fin 1024) (k : Fin 768) : reduces_S1024x768_S1024.lift (ix1 r) k = ix2 r k :=
  funext fun a => by match a with | ⟨0, _⟩ => rfl | ⟨1, _⟩ => rfl

theorem topT_apply (sc : FVec Ideal S1024x768 .f32) (mx : FVec Ideal S1024x1 .f32) (r : Fin 1024) :
    topT sc mx (ix2 r 0) = max (mx (ix2 r 0)) ((Finset.univ : Finset (Fin 768)).sup fun j => sc (ix2 r j)) := by
  unfold topT
  show max _ _ = max _ _
  rw [col_apply]
  refine congrArg (max (mx (ix2 r 0))) ?_
  refine (Ideal.multiReduction_maximumf_single sc _ reduces_S1024x768_S1024 (.inl rfl) rfl (ix1 r)).trans ?_
  show (Finset.univ : Finset (Fin 768)).fold max (Ideal.ofBits .f32 0xFF800000#32) _ = _
  rw [ofBits_negInf]
  have e : sc ∘ reduces_S1024x768_S1024.lift (ix1 r) = fun j => sc (ix2 r j) := funext fun k => congrArg sc (lift_eq r k)
  rw [e]
  exact fold_max_eq_sup (n := 768) _

theorem wtT_apply (sc : FVec Ideal S1024x768 .f32) (mx : FVec Ideal S1024x1 .f32) (r : Fin 1024) (j : Fin 768) :
    wtT sc mx (ix2 r j) = Ideal.exp (sc (ix2 r j) - topT sc mx (ix2 r 0)) := by
  unfold wtT
  show Ideal.exp (sc (ix2 r j) - broadcastTo S1024x768 (topT sc mx) broadcasts_S1024x1_S1024x768 (ix2 r j)) = _
  rw [broadcastTo_apply _ broadcasts_S1024x1_S1024x768 (ix2 r j) (ix2 r (0 : Fin 1)) (fun a => by match a with | ⟨0, _⟩ => rfl | ⟨1, _⟩ => rfl)]

theorem denT_apply (sc : FVec Ideal S1024x768 .f32) (mx ln : FVec Ideal S1024x1 .f32) (r : Fin 1024) :
    denT sc mx ln (ix2 r 0) = Ideal.exp (mx (ix2 r 0) - topT sc mx (ix2 r 0)) * ln (ix2 r 0)
      + ∑ j : Fin 768, Ideal.exp (sc (ix2 r j) - topT sc mx (ix2 r 0)) := by
  unfold denT
  show _ * _ + shapeCast _ _ _ _ = _
  rw [col_apply]
  refine congrArg (fun z : EReal => Ideal.exp (mx (ix2 r 0) - topT sc mx (ix2 r 0)) * ln (ix2 r 0) + z) ?_
  refine (Ideal.multiReduction_add_single (wtT sc mx) _ reduces_S1024x768_S1024 (.inl rfl) rfl (ix1 r)).trans ?_
  exact Finset.sum_congr rfl fun k _ => (congrArg (wtT sc mx) (lift_eq r k)).trans (wtT_apply sc mx r k)

/-- A key or value block [1, 768, 128] read as a matrix. -/
theorem block_apply (v : FVec Ideal S1x768x128 .bf16) (j : Fin 768) (d : Fin 128) :
    shapeCast S768x128 v shapeCasts_S1x768x128_S768x128 (ix2 j d) = v (ix3 0 j d) :=
  shapeCast_apply v shapeCasts_S1x768x128_S768x128 (ix2 j d) (ix3 0 j d) (by
    rw [Shape.rowMajor_val_two, Shape.rowMajor_val_three]; show (0 * 768 + j.val) * 128 + d.val = j.val * 128 + d.val; omega)

theorem numT_apply (sc : FVec Ideal S1024x768 .f32) (mx : FVec Ideal S1024x1 .f32) (ac : FVec Ideal S1024x128 .f32)
    (v : FVec Ideal S1x768x128 .bf16) (r : Fin 1024) (d : Fin 128) :
    numT sc mx ac v (ix2 r d) = Ideal.exp (mx (ix2 r 0) - topT sc mx (ix2 r 0)) * ac (ix2 r d)
      + ∑ j : Fin 768, Ideal.exp (sc (ix2 r j) - topT sc mx (ix2 r 0)) * v (ix3 0 j d) := by
  unfold numT
  rw [addf_apply, mulf_apply, matmul_zero_apply,
    broadcastTo_apply _ broadcasts_S1024x1_S1024x128 (ix2 r d) (ix2 r (0 : Fin 1)) (fun a => by match a with | ⟨0, _⟩ => rfl | ⟨1, _⟩ => rfl)]
  show _ + prodAt _ _ _ _ = _
  refine congrArg (fun z : EReal => Ideal.exp (mx (ix2 r 0) - topT sc mx (ix2 r 0)) * ac (ix2 r d) + z) ?_
  unfold prodAt
  refine Finset.sum_congr rfl fun j _ => ?_
  rw [block_apply]
  show wtT sc mx (ix2 r j) * _ = _
  rw [wtT_apply]

/-- The scores of an unmasked tile: query row `r` against key `j`. -/
theorem plain_apply (q : FVec Ideal S1024x128 .bf16) (k : FVec Ideal S1x768x128 .bf16) (r : Fin 1024) (j : Fin 768) :
    k0_pay22 (F := Ideal) q k (ix2 r j) = ∑ d : Fin 128, q (ix2 r d) * k (ix3 0 j d) := by
  unfold k0_pay22
  refine (Ideal.matmul_transposedRhs_apply (M := 1024) (K := 128) (N := 768) _ _ _ _ r j).trans ?_
  rw [constant_apply]
  show Ideal.ofBits .f32 0x00000000#32 + _ = _
  rw [Ideal.ofBits_zero_f32, zero_add]
  exact Finset.sum_congr rfl fun d _ => by rw [block_apply]

/-- The scores of the masked tile: the keys from 256 on are put at `⊥`. -/
theorem mask_apply (q : FVec Ideal S1024x128 .bf16) (k : FVec Ideal S1x768x128 .bf16) (r : Fin 1024) (j : Fin 768) :
    k0_pay16 (F := Ideal) q k (ix2 r j) = if j.val < 256 then k0_pay22 (F := Ideal) q k (ix2 r j) else ⊥ := by
  unfold k0_pay16
  show Scalar.select (Scalar.cmpi .slt (iota .tc S1024x768 32 [1] iota_S1024x768_d1_w32 (ix2 r j)) 256#32) (k0_pay22 (F := Ideal) q k (ix2 r j))
    (Ideal.ofBits .f32 0xFF800000#32) = _
  rw [ofBits_negInf, iota_single_apply]
  have hj := j.isLt
  have e : Scalar.cmpi .slt (BitVec.ofNat 32 j.val) 256#32 = if j.val < 256 then 1#1 else 0#1 :=
    (by decide +kernel : ∀ j : Fin 768, Scalar.cmpi .slt (BitVec.ofNat 32 j.val) 256#32 = if j.val < 256 then 1#1 else 0#1) j
  show Scalar.select (Scalar.cmpi .slt (BitVec.ofNat 32 j.val) 256#32) _ _ = _
  rw [e]
  split_ifs <;> rfl

/-- The query block's four heads stacked as 1024 rows: row `256 g + i` is head `g` of token `i`. -/
def stack (x : FVec Ideal S1x256x512 .bf16) : FVec Ideal S1024x128 .bf16 := fun y =>
  x (ix3 0 ⟨(y 0).val % 256, by omega⟩ ⟨(y 0).val / 256 * 128 + (y 1).val, by
    have h0 : (y 0).val < 1024 := (y 0).isLt
    have h1 : (y 1).val < 128 := (y 1).isLt
    omega⟩)

/-- The output block, its four heads taken from 1024 stacked rows of quotients. -/
def unstack (ac : FVec Ideal S1024x128 .f32) (ln : FVec Ideal S1024x1 .f32) : FVec Ideal S1x256x512 .bf16 := fun y =>
  have h1 : (y 1).val < 256 := (y 1).isLt
  have h2 : (y 2).val < 512 := (y 2).isLt
  Ideal.div (ac (ix2 ⟨(y 2).val / 128 * 256 + (y 1).val, by omega⟩ ⟨(y 2).val % 128, by omega⟩))
    (ln (ix2 ⟨(y 2).val / 128 * 256 + (y 1).val, by omega⟩ 0))

end Cert.FlashIdeal.Steps

end
-- ==== Proof.FlashCases.lean ====
/-
  What one grid point of the attention kernel leaves in its scratch buffers and its output block.

  The grid has six kinds of points: the first and the later tiles of a latent query block, the first, middle and last
  tiles of a context query block, and the last (write-out only) tile of a latent block.
-/
module

public import proofs.«01_k».proof.Proof.FlashSteps

@[expose] public section

set_option maxRecDepth 16384

noncomputable section

open Idealize.ShloMosaic Idealize.ShloMosaic.TcCoe Idealize.SL.Sem Idealize.ShloMosaic.ValueIdx
open Cert.MatBlock

namespace Cert.FlashIdeal.Steps

open Cert.FlashIdeal Cert.FlashIdeal.Gen

theorem pay23_eq (q : Vec Ideal S1024x128 .bf16) (k : Vec Ideal S1x768x128 .bf16) (mx : Vec Ideal S1024x1 .f32) :
    k0_pay4 (F := Ideal) (k0_pay23 q k mx) = topT (k0_pay22 q k) mx := shapeCast_self _ _

theorem pay17_eq (q : Vec Ideal S1024x128 .bf16) (k : Vec Ideal S1x768x128 .bf16) (mx : Vec Ideal S1024x1 .f32) :
    k0_pay17 (F := Ideal) q k mx = topT (k0_pay16 q k) mx := rfl

theorem pay26_eq (q : Vec Ideal S1024x128 .bf16) (k : Vec Ideal S1x768x128 .bf16) (mx ln : Vec Ideal S1024x1 .f32) :
    k0_pay26 (F := Ideal) q k mx ln = denT (k0_pay22 q k) mx ln := shapeCast_self _ _

theorem pay20_eq (q : Vec Ideal S1024x128 .bf16) (k : Vec Ideal S1x768x128 .bf16) (mx ln : Vec Ideal S1024x1 .f32) :
    k0_pay20 (F := Ideal) q k mx ln = denT (k0_pay16 q k) mx ln := shapeCast_self _ _

theorem pay27_eq (q : Vec Ideal S1024x128 .bf16) (k v : Vec Ideal S1x768x128 .bf16) (mx : Vec Ideal S1024x1 .f32)
    (ac : Vec Ideal S1024x128 .f32) : k0_pay27 (F := Ideal) q k mx ac v = numT (k0_pay22 q k) mx ac v := shapeCast_self _ _

theorem pay21_eq (q : Vec Ideal S1024x128 .bf16) (k v : Vec Ideal S1x768x128 .bf16) (mx : Vec Ideal S1024x1 .f32)
    (ac : Vec Ideal S1024x128 .f32) : k0_pay21 (F := Ideal) q k mx ac v = numT (k0_pay16 q k) mx ac v := rfl

variable (c : Dev nD) (i : grid0.Coords) (a4 : Memref sig .tc .vmem S1x256x512 .bf16) (h4 : a4.IsWhole)
  (a5 : Memref sig .tc .vmem S1x768x128 .bf16) (h5 : a5.IsWhole) (a6 : Memref sig .tc .vmem S1x768x128 .bf16) (h6 : a6.IsWhole)
  (a7 : Memref sig .tc .vmem S1x256x512 .bf16) (h7 : a7.IsWhole) (a8 : Memref sig .tc .vmem S1024x128 .bf16) (h8 : a8.IsWhole)
  (a9 : Memref sig .tc .vmem S1024x1 .f32) (h9 : a9.IsWhole) (a10 : Memref sig .tc .vmem S1024x1 .f32) (h10 : a10.IsWhole)
  (a11 : Memref sig .tc .vmem S1024x128 .f32) (h11 : a11.IsWhole)
  (x0 : Vec Ideal S1x256x512 .bf16) (x1 x2 : Vec Ideal S1x768x128 .bf16)
  (q : Vec Ideal S1024x128 .bf16) (mx ln : Vec Ideal S1024x1 .f32) (ac : Vec Ideal S1024x128 .f32)

/-- The weighted sum starts at zero. -/
theorem init_num (y : S1024x128.Idx) : k0_pay1 (F := Ideal) y = 0 := by
  unfold k0_pay1; rw [shapeCast_self]; exact Ideal.ofBits_zero_f32

/-- The normaliser starts at zero. -/
theorem init_den (y : S1024x1.Idx) : k0_pay15 (F := Ideal) y = 0 := by
  unfold k0_pay15; rw [shapeCast_self]; exact Ideal.ofBits_zero_f32

/-- The maximum starts at `⊥`. -/
theorem init_top (y : S1024x1.Idx) : k0_pay14 (F := Ideal) y = ⊥ := by
  unfold k0_pay14; rw [shapeCast_self]; exact ofBits_negInf

/-- A load of the whole buffer, out of what the stores before it left. -/
theorem readCov_whole {sig : RefSig} {κ : Kind} {sp : Space} {S : Shape} {e : EltTy} {off : Fin S.rank → Nat} (h : off = fun _ => 0)
    (inb : ∀ a, off a + S.size a ≤ S.size a) (v : View sig κ sp S e) (L : List (View.Piece (Elt Ideal) S e)) :
    v.readCov L (Rect.unit off S.size inb) = View.canon L :=
  (View.readCov_eq_canon' v L _).trans (View.ld_unit_zero h inb (View.canon L))

/-- A [1, 256, 128] block read as a matrix. -/
theorem head_apply (w : Vec Ideal S1x256x128 .bf16) (h : S1x256x128.ShapeCasts S256x128) (i : Fin 256) (d : Fin 128) :
    shapeCast S256x128 w h (ix2 i d) = w (ix3 0 i d) :=
  shapeCast_apply w h (ix2 i d) (ix3 0 i d) (by
    rw [Shape.rowMajor_val_two, Shape.rowMajor_val_three]; show (0 * 256 + i.val) * 128 + d.val = i.val * 128 + d.val; omega)

/-- A matrix stored as a [1, 256, 128] block. -/
theorem unhead_apply (w : FVec Ideal S256x128 .bf16) (h : S256x128.ShapeCasts S1x256x128) (z : S1x256x128.Idx) :
    shapeCast S1x256x128 w h z = w (ix2 (z 1) (z 2)) :=
  shapeCast_apply w h z (ix2 (z 1) (z 2)) (by
    have h0 : (z 0).val < 1 := (z 0).isLt
    rw [Shape.rowMajor_val_two, Shape.rowMajor_val_three]
    show (z 1).val * 128 + (z 2).val = ((z 0).val * 256 + (z 1).val) * 128 + (z 2).val
    omega)

/-- Row `z 0` of the head that starts at column `o`, as the stacked block's row `y`. -/
theorem piece_apply (x : Vec Ideal S1x256x512 .bf16) (g : Nat) (o : Nat) (inb) (y : S1024x128.Idx) (z : S256x128.Idx) (ho : o = g * 128)
    (h0 : (y 0).val = g * 256 + (z 0).val) (h1 : (y 1).val = (z 1).val) :
    shapeCast S256x128 (shapeCast S256x128 (View.ld (Val := Elt Ideal) (e' := .bf16) x (Rect.unit ![0, 0, o] ![1, 256, 128] inb)) shapeCasts_S1x256x128_S256x128)
      shapeCasts_S256x128_S256x128 z = stack x y := by
  have hz0 : (z 0).val < 256 := (z 0).isLt
  have hz1 : (z 1).val < 128 := (z 1).isLt
  rw [shapeCast_self]
  rw [show z = ix2 (z 0) (z 1) from eq_ix2 z]
  refine (head_apply _ _ _ _).trans (View.ld_unit_apply_of _ _ _ _ _ _ fun a => ?_)
  match a with
  | ⟨0, _⟩ => rfl
  | ⟨1, _⟩ => show (y 0).val % 256 = 0 + (z 0).val; omega
  | ⟨2, _⟩ => show (y 0).val / 256 * 128 + (y 1).val = o + (z 1).val; omega

/-- The four stored query pieces, read back, are the stacked block. -/
theorem stack_eq (x : Vec Ideal S1x256x512 .bf16) :
    View.canon (Val := Elt Ideal) (s := S1024x128) (e := .bf16)
      [⟨Rect.unit ![768, 0] ![256, 128] inb_S1024x128_S256x128_768_0,
          k0_pay13 (F := Ideal) (View.ld x (Rect.unit ![0, 0, 384] ![1, 256, 128] inb_S1x256x512_S1x256x128_0_0_384))⟩,
        ⟨Rect.unit ![512, 0] ![256, 128] inb_S1024x128_S256x128_512_0,
          k0_pay12 (F := Ideal) (View.ld x (Rect.unit ![0, 0, 256] ![1, 256, 128] inb_S1x256x512_S1x256x128_0_0_256))⟩,
        ⟨Rect.unit ![256, 0] ![256, 128] inb_S1024x128_S256x128_256_0,
          k0_pay11 (F := Ideal) (View.ld x (Rect.unit ![0, 0, 128] ![1, 256, 128] inb_S1x256x512_S1x256x128_0_0_128))⟩,
        ⟨Rect.unit ![0, 0] ![256, 128] inb_S1024x128_S256x128_0_0,
          k0_pay10 (F := Ideal) (View.ld x (Rect.unit ![0, 0, 0] ![1, 256, 128] inb_S1x256x512_S1x256x128_0_0_0))⟩] =
    stack x := by
  funext y
  canon_tiles z h using View.cover_of_tiled_head _ _ _ (by rfl) y
  · exact piece_apply x 3 384 _ y z rfl (by omega) (by omega)
  · exact piece_apply x 2 256 _ y z rfl (by omega) (by omega)
  · exact piece_apply x 1 128 _ y z rfl (by omega) (by omega)
  · exact piece_apply x 0 0 _ y z rfl (by omega) (by omega)

/-- Row `o + i` of the quotients. -/
theorem quot_apply (ac : Vec Ideal S1024x128 .f32) (ln : Vec Ideal S1024x1 .f32) (o : Nat) (h : S1024x128.Slices ![o, 0] S256x128) (i : Fin 256) (d : Fin 128)
    (r : Fin 1024) (hr : r.val = o + i.val) :
    extractStridedSlice (s := S1024x128) S256x128 ![o, 0] (k0_pay5 (F := Ideal) ac ln) h (ix2 i d) = Ideal.div (ac (ix2 r d)) (ln (ix2 r 0)) := by
  rw [extractStridedSlice_apply ![o, 0] (k0_pay5 (F := Ideal) ac ln) h (ix2 i d) (ix2 r d) (fun a => by
    match a with
    | ⟨0, _⟩ => exact hr
    | ⟨1, _⟩ => exact (Nat.zero_add _).symm)]
  unfold k0_pay5
  show Ideal.div _ (broadcastTo S1024x128 ln broadcasts_S1024x1_S1024x128 _) = _
  rw [broadcastTo_apply _ broadcasts_S1024x1_S1024x128 _ (ix2 r (0 : Fin 1)) (fun a => by match a with | ⟨0, _⟩ => rfl | ⟨1, _⟩ => rfl)]

/-- Rows `o …` of the quotients, stored as head `g` of the output block. -/
theorem unpiece_apply (ac : Vec Ideal S1024x128 .f32) (ln : Vec Ideal S1024x1 .f32) (g o : Nat) (h : S1024x128.Slices ![o, 0] S256x128) (y : S1x256x512.Idx)
    (z : S1x256x128.Idx) (ho : o = g * 256) (h1 : (y 1).val = (z 1).val) (h2 : (y 2).val = g * 128 + (z 2).val) :
    shapeCast S1x256x128 (truncf (F := Ideal) (s := S256x128) (φ := .f32) .bf16 (extractStridedSlice (s := S1024x128) S256x128 ![o, 0] (k0_pay5 (F := Ideal) ac ln) h : FVec Ideal S256x128 .f32) bitsLt_bf16_f32)
      shapeCasts_S256x128_S1x256x128 z = unstack ac ln y := by
  have hz1 : (z 1).val < 256 := (z 1).isLt
  have hz2 : (z 2).val < 128 := (z 2).isLt
  have hy1 : (y 1).val < 256 := (y 1).isLt
  have hy2 : (y 2).val < 512 := (y 2).isLt
  refine (unhead_apply _ _ z).trans ?_
  refine (quot_apply ac ln o h (z 1) (z 2) ⟨(y 2).val / 128 * 256 + (y 1).val, by omega⟩ ?_).trans ?_
  · show (y 2).val / 128 * 256 + (y 1).val = o + (z 1).val; omega
  · have e : (z 2 : Fin 128) = ⟨(y 2).val % 128, by omega⟩ := Fin.ext (by show (z 2).val = (y 2).val % 128; omega)
    unfold unstack
    dsimp only
    rw [e]
    rfl

/-- The four stored heads, read back, are the output block. -/
theorem unstack_eq (ac : Vec Ideal S1024x128 .f32) (ln : Vec Ideal S1024x1 .f32) :
    View.canon (Val := Elt Ideal) (s := S1x256x512) (e := .bf16)
      [⟨Rect.unit ![0, 0, 384] ![1, 256, 128] inb_S1x256x512_S1x256x128_0_0_384, k0_pay9 (F := Ideal) ac ln⟩,
        ⟨Rect.unit ![0, 0, 256] ![1, 256, 128] inb_S1x256x512_S1x256x128_0_0_256, k0_pay8 (F := Ideal) ac ln⟩,
        ⟨Rect.unit ![0, 0, 128] ![1, 256, 128] inb_S1x256x512_S1x256x128_0_0_128, k0_pay7 (F := Ideal) ac ln⟩,
        ⟨Rect.unit ![0, 0, 0] ![1, 256, 128] inb_S1x256x512_S1x256x128_0_0_0, k0_pay6 (F := Ideal) ac ln⟩] =
    unstack ac ln := by
  funext y
  canon_tiles z h using View.cover_of_tiled_head _ _ _ (by rfl) y
  · exact unpiece_apply ac ln 3 768 slices_S1024x128_o768_0_S256x128 y z rfl (by omega) (by omega)
  · exact unpiece_apply ac ln 2 512 slices_S1024x128_o512_0_S256x128 y z rfl (by omega) (by omega)
  · exact unpiece_apply ac ln 1 256 slices_S1024x128_o256_0_S256x128 y z rfl (by omega) (by omega)
  · exact unpiece_apply ac ln 0 0 slices_S1024x128_o0_0_S256x128 y z rfl (by omega) (by omega)

theorem E_0 (p0 : ¬cond0_0 i) (p1 : ¬cond0_1 i) (p2 : cond0_2 i) (p3 : ¬cond0_3 i) :
    sout0_E_0 c i a4 h4 a5 h5 a6 h6 a7 h7 a8 h8 a9 h9 a10 h10 a11 h11 p0 p1 p2 p3 x0 x1 x2 q mx ln ac = q := rfl

theorem E_1 (p0 : ¬cond0_0 i) (p1 : ¬cond0_1 i) (p2 : cond0_2 i) (p3 : ¬cond0_3 i) :
    sout0_E_1 c i a4 h4 a5 h5 a6 h6 a7 h7 a8 h8 a9 h9 a10 h10 a11 h11 p0 p1 p2 p3 x0 x1 x2 q mx ln ac = topT (k0_pay22 q x1) mx := by
  unfold sout0_E_1
  rw [View.read_writes_junk_eq_canon]
  unfold kernelRun0_E; dsimp only
  sl_unfold_words
  simp only [View.readAt_eq_ld, h4.read_unread, h5.read_unread, h6.read_unread, View.ld_unit_zero (S := S1x768x128) hz3, h8.read_unread, h9.read_unread, h10.read_unread, h11.read_unread, View.ld_unit_zero (S := S1024x128) hz2, View.ld_unit_zero (S := S1024x1) hz2, readCov_whole (S := S1024x128) hz2, readCov_whole (S := S1024x1) hz2, View.canon_cons_unit_zero (S := S1024x128) hz2, View.canon_cons_unit_zero (S := S1024x1) hz2]
  exact pay23_eq q x1 mx

theorem E_2 (p0 : ¬cond0_0 i) (p1 : ¬cond0_1 i) (p2 : cond0_2 i) (p3 : ¬cond0_3 i) :
    sout0_E_2 c i a4 h4 a5 h5 a6 h6 a7 h7 a8 h8 a9 h9 a10 h10 a11 h11 p0 p1 p2 p3 x0 x1 x2 q mx ln ac = denT (k0_pay22 q x1) mx ln := by
  unfold sout0_E_2
  rw [View.read_writes_junk_eq_canon]
  unfold kernelRun0_E; dsimp only
  sl_unfold_words
  simp only [View.readAt_eq_ld, h4.read_unread, h5.read_unread, h6.read_unread, View.ld_unit_zero (S := S1x768x128) hz3, h8.read_unread, h9.read_unread, h10.read_unread, h11.read_unread, View.ld_unit_zero (S := S1024x128) hz2, View.ld_unit_zero (S := S1024x1) hz2, readCov_whole (S := S1024x128) hz2, readCov_whole (S := S1024x1) hz2, View.canon_cons_unit_zero (S := S1024x128) hz2, View.canon_cons_unit_zero (S := S1024x1) hz2]
  exact pay26_eq q x1 mx ln

theorem E_3 (p0 : ¬cond0_0 i) (p1 : ¬cond0_1 i) (p2 : cond0_2 i) (p3 : ¬cond0_3 i) :
    sout0_E_3 c i a4 h4 a5 h5 a6 h6 a7 h7 a8 h8 a9 h9 a10 h10 a11 h11 p0 p1 p2 p3 x0 x1 x2 q mx ln ac = numT (k0_pay22 q x1) mx ac x2 := by
  unfold sout0_E_3
  rw [View.read_writes_junk_eq_canon]
  unfold kernelRun0_E; dsimp only
  sl_unfold_words
  simp only [View.readAt_eq_ld, h4.read_unread, h5.read_unread, h6.read_unread, View.ld_unit_zero (S := S1x768x128) hz3, h8.read_unread, h9.read_unread, h10.read_unread, h11.read_unread, View.ld_unit_zero (S := S1024x128) hz2, View.ld_unit_zero (S := S1024x1) hz2, readCov_whole (S := S1024x128) hz2, readCov_whole (S := S1024x1) hz2, View.canon_cons_unit_zero (S := S1024x128) hz2, View.canon_cons_unit_zero (S := S1024x1) hz2]
  exact pay27_eq q x1 x2 mx ac

theorem F_0 (p0 : ¬cond0_0 i) (p1 : ¬cond0_1 i) (p2 : cond0_2 i) (p3 : cond0_3 i) :
    sout0_F_0 c i a4 h4 a5 h5 a6 h6 a7 h7 a8 h8 a9 h9 a10 h10 a11 h11 p0 p1 p2 p3 x0 x1 x2 q mx ln ac = q := rfl

theorem F_1 (p0 : ¬cond0_0 i) (p1 : ¬cond0_1 i) (p2 : cond0_2 i) (p3 : cond0_3 i) :
    sout0_F_1 c i a4 h4 a5 h5 a6 h6 a7 h7 a8 h8 a9 h9 a10 h10 a11 h11 p0 p1 p2 p3 x0 x1 x2 q mx ln ac = topT (k0_pay22 q x1) mx := by
  unfold sout0_F_1
  rw [View.read_writes_junk_eq_canon]
  unfold kernelRun0_F; dsimp only
  sl_unfold_words
  simp only [View.readAt_eq_ld, h4.read_unread, h5.read_unread, h6.read_unread, View.ld_unit_zero (S := S1x768x128) hz3, h8.read_unread, h9.read_unread, h10.read_unread, h11.read_unread, View.ld_unit_zero (S := S1024x128) hz2, View.ld_unit_zero (S := S1024x1) hz2, readCov_whole (S := S1024x128) hz2, readCov_whole (S := S1024x1) hz2, View.canon_cons_unit_zero (S := S1024x128) hz2, View.canon_cons_unit_zero (S := S1024x1) hz2]
  exact pay23_eq q x1 mx

theorem F_2 (p0 : ¬cond0_0 i) (p1 : ¬cond0_1 i) (p2 : cond0_2 i) (p3 : cond0_3 i) :
    sout0_F_2 c i a4 h4 a5 h5 a6 h6 a7 h7 a8 h8 a9 h9 a10 h10 a11 h11 p0 p1 p2 p3 x0 x1 x2 q mx ln ac = denT (k0_pay22 q x1) mx ln := by
  unfold sout0_F_2
  rw [View.read_writes_junk_eq_canon]
  unfold kernelRun0_F; dsimp only
  sl_unfold_words
  simp only [View.readAt_eq_ld, h4.read_unread, h5.read_unread, h6.read_unread, View.ld_unit_zero (S := S1x768x128) hz3, h8.read_unread, h9.read_unread, h10.read_unread, h11.read_unread, View.ld_unit_zero (S := S1024x128) hz2, View.ld_unit_zero (S := S1024x1) hz2, readCov_whole (S := S1024x128) hz2, readCov_whole (S := S1024x1) hz2, View.canon_cons_unit_zero (S := S1024x128) hz2, View.canon_cons_unit_zero (S := S1024x1) hz2]
  exact pay26_eq q x1 mx ln

theorem F_3 (p0 : ¬cond0_0 i) (p1 : ¬cond0_1 i) (p2 : cond0_2 i) (p3 : cond0_3 i) :
    sout0_F_3 c i a4 h4 a5 h5 a6 h6 a7 h7 a8 h8 a9 h9 a10 h10 a11 h11 p0 p1 p2 p3 x0 x1 x2 q mx ln ac = numT (k0_pay22 q x1) mx ac x2 := by
  unfold sout0_F_3
  rw [View.read_writes_junk_eq_canon]
  unfold kernelRun0_F; dsimp only
  sl_unfold_words
  simp only [View.readAt_eq_ld, h4.read_unread, h5.read_unread, h6.read_unread, View.ld_unit_zero (S := S1x768x128) hz3, h8.read_unread, h9.read_unread, h10.read_unread, h11.read_unread, View.ld_unit_zero (S := S1024x128) hz2, View.ld_unit_zero (S := S1024x1) hz2, readCov_whole (S := S1024x128) hz2, readCov_whole (S := S1024x1) hz2, View.canon_cons_unit_zero (S := S1024x128) hz2, View.canon_cons_unit_zero (S := S1024x1) hz2]
  exact pay27_eq q x1 x2 mx ac

theorem D_0 (p0 : cond0_0 i) (p1 : ¬cond0_1 i) (p2 : cond0_2 i) (p3 : ¬cond0_3 i) :
    sout0_D_0 c i a4 h4 a5 h5 a6 h6 a7 h7 a8 h8 a9 h9 a10 h10 a11 h11 p0 p1 p2 p3 x0 x1 x2 = stack x0 := by
  unfold sout0_D_0
  rw [View.read_writes_junk_eq_canon]
  unfold kernelRun0_D; dsimp only
  sl_unfold_words
  simp only [View.readAt_eq_ld, h4.read_unread, h5.read_unread, h6.read_unread, View.ld_unit_zero (S := S1x768x128) hz3]
  exact stack_eq x0

theorem D_1 (p0 : cond0_0 i) (p1 : ¬cond0_1 i) (p2 : cond0_2 i) (p3 : ¬cond0_3 i) :
    sout0_D_1 c i a4 h4 a5 h5 a6 h6 a7 h7 a8 h8 a9 h9 a10 h10 a11 h11 p0 p1 p2 p3 x0 x1 x2 = topT (k0_pay22 (stack x0) x1) k0_pay14 := by
  unfold sout0_D_1
  rw [View.read_writes_junk_eq_canon]
  unfold kernelRun0_D; dsimp only
  rw [View.canon_cons_unit_zero hz2]
  sl_unfold_words
  simp only [View.readAt_eq_ld, h4.read_unread, h5.read_unread, h6.read_unread, View.ld_unit_zero (S := S1x768x128) hz3, readCov_whole (S := S1024x128) hz2, readCov_whole (S := S1024x1) hz2, View.canon_cons_unit_zero (S := S1024x128) hz2, View.canon_cons_unit_zero (S := S1024x1) hz2]
  rw [stack_eq]; exact pay23_eq _ _ _

theorem D_2 (p0 : cond0_0 i) (p1 : ¬cond0_1 i) (p2 : cond0_2 i) (p3 : ¬cond0_3 i) :
    sout0_D_2 c i a4 h4 a5 h5 a6 h6 a7 h7 a8 h8 a9 h9 a10 h10 a11 h11 p0 p1 p2 p3 x0 x1 x2 = denT (k0_pay22 (stack x0) x1) k0_pay14 k0_pay15 := by
  unfold sout0_D_2
  rw [View.read_writes_junk_eq_canon]
  unfold kernelRun0_D; dsimp only
  rw [View.canon_cons_unit_zero hz2]
  sl_unfold_words
  simp only [View.readAt_eq_ld, h4.read_unread, h5.read_unread, h6.read_unread, View.ld_unit_zero (S := S1x768x128) hz3, readCov_whole (S := S1024x128) hz2, readCov_whole (S := S1024x1) hz2, View.canon_cons_unit_zero (S := S1024x128) hz2, View.canon_cons_unit_zero (S := S1024x1) hz2]
  rw [stack_eq]; exact pay26_eq _ _ _ _

theorem D_3 (p0 : cond0_0 i) (p1 : ¬cond0_1 i) (p2 : cond0_2 i) (p3 : ¬cond0_3 i) :
    sout0_D_3 c i a4 h4 a5 h5 a6 h6 a7 h7 a8 h8 a9 h9 a10 h10 a11 h11 p0 p1 p2 p3 x0 x1 x2 = numT (k0_pay22 (stack x0) x1) k0_pay14 k0_pay1 x2 := by
  unfold sout0_D_3
  rw [View.read_writes_junk_eq_canon]
  unfold kernelRun0_D; dsimp only
  rw [View.canon_cons_unit_zero hz2]
  sl_unfold_words
  simp only [View.readAt_eq_ld, h4.read_unread, h5.read_unread, h6.read_unread, View.ld_unit_zero (S := S1x768x128) hz3, readCov_whole (S := S1024x128) hz2, readCov_whole (S := S1024x1) hz2, View.canon_cons_unit_zero (S := S1024x128) hz2, View.canon_cons_unit_zero (S := S1024x1) hz2]
  rw [stack_eq]; exact pay27_eq _ _ _ _ _

theorem A_0 (p0 : cond0_0 i) (p1 : cond0_1 i) (p2 : ¬cond0_2 i) (p3 : ¬cond0_3 i) :
    sout0_A_0 c i a4 h4 a5 h5 a6 h6 a7 h7 a8 h8 a9 h9 a10 h10 a11 h11 p0 p1 p2 p3 x0 x1 x2 = stack x0 := by
  unfold sout0_A_0
  rw [View.read_writes_junk_eq_canon]
  unfold kernelRun0_A; dsimp only
  sl_unfold_words
  simp only [View.readAt_eq_ld, h4.read_unread, h5.read_unread, h6.read_unread, View.ld_unit_zero (S := S1x768x128) hz3]
  exact stack_eq x0

theorem A_1 (p0 : cond0_0 i) (p1 : cond0_1 i) (p2 : ¬cond0_2 i) (p3 : ¬cond0_3 i) :
    sout0_A_1 c i a4 h4 a5 h5 a6 h6 a7 h7 a8 h8 a9 h9 a10 h10 a11 h11 p0 p1 p2 p3 x0 x1 x2 = topT (k0_pay16 (stack x0) x1) k0_pay14 := by
  unfold sout0_A_1
  rw [View.read_writes_junk_eq_canon]
  unfold kernelRun0_A; dsimp only
  rw [View.canon_cons_unit_zero hz2]
  sl_unfold_words
  simp only [View.readAt_eq_ld, h4.read_unread, h5.read_unread, h6.read_unread, View.ld_unit_zero (S := S1x768x128) hz3, readCov_whole (S := S1024x128) hz2, readCov_whole (S := S1024x1) hz2, View.canon_cons_unit_zero (S := S1024x128) hz2, View.canon_cons_unit_zero (S := S1024x1) hz2]
  rw [stack_eq]; exact shapeCast_self _ _

theorem A_2 (p0 : cond0_0 i) (p1 : cond0_1 i) (p2 : ¬cond0_2 i) (p3 : ¬cond0_3 i) :
    sout0_A_2 c i a4 h4 a5 h5 a6 h6 a7 h7 a8 h8 a9 h9 a10 h10 a11 h11 p0 p1 p2 p3 x0 x1 x2 = denT (k0_pay16 (stack x0) x1) k0_pay14 k0_pay15 := by
  unfold sout0_A_2
  rw [View.read_writes_junk_eq_canon]
  unfold kernelRun0_A; dsimp only
  rw [View.canon_cons_unit_zero hz2]
  sl_unfold_words
  simp only [View.readAt_eq_ld, h4.read_unread, h5.read_unread, h6.read_unread, View.ld_unit_zero (S := S1x768x128) hz3, readCov_whole (S := S1024x128) hz2, readCov_whole (S := S1024x1) hz2, View.canon_cons_unit_zero (S := S1024x128) hz2, View.canon_cons_unit_zero (S := S1024x1) hz2]
  rw [stack_eq]; exact pay20_eq _ _ _ _

theorem A_3 (p0 : cond0_0 i) (p1 : cond0_1 i) (p2 : ¬cond0_2 i) (p3 : ¬cond0_3 i) :
    sout0_A_3 c i a4 h4 a5 h5 a6 h6 a7 h7 a8 h8 a9 h9 a10 h10 a11 h11 p0 p1 p2 p3 x0 x1 x2 = numT (k0_pay16 (stack x0) x1) k0_pay14 k0_pay1 x2 := by
  unfold sout0_A_3
  rw [View.read_writes_junk_eq_canon]
  unfold kernelRun0_A; dsimp only
  rw [View.canon_cons_unit_zero hz2]
  sl_unfold_words
  simp only [View.readAt_eq_ld, h4.read_unread, h5.read_unread, h6.read_unread, View.ld_unit_zero (S := S1x768x128) hz3, readCov_whole (S := S1024x128) hz2, readCov_whole (S := S1024x1) hz2, View.canon_cons_unit_zero (S := S1024x128) hz2, View.canon_cons_unit_zero (S := S1024x1) hz2]
  rw [stack_eq]; exact shapeCast_self _ _

theorem C_0 (p0 : ¬cond0_0 i) (p1 : ¬cond0_1 i) (p2 : ¬cond0_2 i) (p3 : cond0_3 i) :
    sout0_C_0 c i a4 h4 a5 h5 a6 h6 a7 h7 a8 h8 a9 h9 a10 h10 a11 h11 p0 p1 p2 p3 x0 x1 x2 q mx ln ac = q := rfl

theorem C_1 (p0 : ¬cond0_0 i) (p1 : ¬cond0_1 i) (p2 : ¬cond0_2 i) (p3 : cond0_3 i) :
    sout0_C_1 c i a4 h4 a5 h5 a6 h6 a7 h7 a8 h8 a9 h9 a10 h10 a11 h11 p0 p1 p2 p3 x0 x1 x2 q mx ln ac = mx := rfl

theorem C_2 (p0 : ¬cond0_0 i) (p1 : ¬cond0_1 i) (p2 : ¬cond0_2 i) (p3 : cond0_3 i) :
    sout0_C_2 c i a4 h4 a5 h5 a6 h6 a7 h7 a8 h8 a9 h9 a10 h10 a11 h11 p0 p1 p2 p3 x0 x1 x2 q mx ln ac = ln := rfl

theorem C_3 (p0 : ¬cond0_0 i) (p1 : ¬cond0_1 i) (p2 : ¬cond0_2 i) (p3 : cond0_3 i) :
    sout0_C_3 c i a4 h4 a5 h5 a6 h6 a7 h7 a8 h8 a9 h9 a10 h10 a11 h11 p0 p1 p2 p3 x0 x1 x2 q mx ln ac = ac := rfl

theorem C_o (p0 : ¬cond0_0 i) (p1 : ¬cond0_1 i) (p2 : ¬cond0_2 i) (p3 : cond0_3 i) :
    out0_C_3 c i a4 h4 a5 h5 a6 h6 a7 h7 a8 h8 a9 h9 a10 h10 a11 h11 p0 p1 p2 p3 x0 x1 x2 q mx ln ac = unstack ac ln := by
  unfold out0_C_3
  rw [View.read_writes_junk_eq_canon]
  unfold kernelRun0_C; dsimp only
  sl_unfold_words
  simp only [View.readAt_eq_ld, h4.read_unread, h5.read_unread, h6.read_unread, View.ld_unit_zero (S := S1x768x128) hz3, h8.read_unread, h9.read_unread, h10.read_unread, h11.read_unread, View.ld_unit_zero (S := S1024x128) hz2, View.ld_unit_zero (S := S1024x1) hz2]
  exact unstack_eq ac ln

theorem F_o (p0 : ¬cond0_0 i) (p1 : ¬cond0_1 i) (p2 : cond0_2 i) (p3 : cond0_3 i) :
    out0_F_3 c i a4 h4 a5 h5 a6 h6 a7 h7 a8 h8 a9 h9 a10 h10 a11 h11 p0 p1 p2 p3 x0 x1 x2 q mx ln ac = unstack (numT (k0_pay22 q x1) mx ac x2) (denT (k0_pay22 q x1) mx ln) := by
  unfold out0_F_3
  rw [View.read_writes_junk_eq_canon]
  unfold kernelRun0_F; dsimp only
  sl_unfold_words
  simp only [View.readAt_eq_ld, h4.read_unread, h5.read_unread, h6.read_unread, View.ld_unit_zero (S := S1x768x128) hz3, h8.read_unread, h9.read_unread, h10.read_unread, h11.read_unread, View.ld_unit_zero (S := S1024x128) hz2, View.ld_unit_zero (S := S1024x1) hz2, readCov_whole (S := S1024x128) hz2, readCov_whole (S := S1024x1) hz2, View.canon_cons_unit_zero (S := S1024x128) hz2, View.canon_cons_unit_zero (S := S1024x1) hz2]
  rw [unstack_eq, pay27_eq, pay26_eq]

end Cert.FlashIdeal.Steps

end
-- ==== Proof.FlashState.lean ====
/-
  The running statistics of a query block, and what a tile does to them.

  `Holds s v n mx ln ac`: row by row, `mx` is the maximum of the first `n` scores, `ln` their normaliser and `ac` the
  weighted sum of the first `n` values, both relative to that maximum.
-/
module

public import proofs.«01_k».proof.Proof.FlashCases

@[expose] public section

set_option maxRecDepth 16384

noncomputable section

open Idealize.ShloMosaic Idealize.ShloMosaic.TcCoe Idealize.SL.Sem Idealize.ShloMosaic.ValueIdx
open Cert.MatBlock Cert.OnlineSoftmax

namespace Cert.FlashIdeal.Steps

open Cert.FlashIdeal Cert.FlashIdeal.Gen

/-- The statistics after `n` keys. -/
structure Holds (s : Fin 1024 → ℕ → EReal) (v : Fin 128 → ℕ → EReal) (n : ℕ) (mx ln : FVec Ideal S1024x1 .f32)
    (ac : FVec Ideal S1024x128 .f32) : Prop where
  mx_eq : ∀ r : Fin 1024, mx (ix2 r (0 : Fin 1)) = top (s r) n
  ln_eq : ∀ r : Fin 1024, ln (ix2 r (0 : Fin 1)) = den (s r) n (top (s r) n)
  ac_eq : ∀ (r : Fin 1024) (d : Fin 128), ac (ix2 r d) = num (s r) (v d) n (top (s r) n)

/-- Before any key. -/
theorem holds_init (s : Fin 1024 → ℕ → EReal) (v : Fin 128 → ℕ → EReal) :
    Holds s v 0 (k0_pay14 (F := Ideal)) (k0_pay15 (F := Ideal)) (k0_pay1 (F := Ideal)) where
  mx_eq r := (init_top _).trans (by simp [top])
  ln_eq r := (init_den _).trans (by simp [den])
  ac_eq r d := (init_num _).trans (by simp [num])

/-- A tile of 768 keys taken in. -/
theorem holds_step {s : Fin 1024 → ℕ → EReal} {v : Fin 128 → ℕ → EReal} {n : ℕ} {mx ln : FVec Ideal S1024x1 .f32}
    {ac : FVec Ideal S1024x128 .f32} (hs : ∀ r k, s r k ≠ ⊤) (h0 : ∀ r, s r 0 ≠ ⊥) (h : Holds s v n mx ln ac)
    (sc : FVec Ideal S1024x768 .f32) (vb : FVec Ideal S1x768x128 .bf16)
    (hsc : ∀ (r : Fin 1024) (j : Fin 768), sc (ix2 r j) = s r (n + j.val))
    (hvb : ∀ (j : Fin 768) (d : Fin 128), vb (ix3 0 j d) = v d (n + j.val)) :
    Holds s v (n + 768) (topT sc mx) (denT sc mx ln) (numT sc mx ac vb) := by
  have ht : ∀ r : Fin 1024, topT sc mx (ix2 r 0) = top (s r) (n + 768) := fun r => by
    rw [topT_apply, h.mx_eq]
    exact top_add (s r) n 768 (fun j => sc (ix2 r j)) (hsc r)
  refine ⟨ht, fun r => ?_, fun r d => ?_⟩
  · rw [denT_apply, ht, h.mx_eq, h.ln_eq]
    exact den_step (s r) (hs r) (h0 r) n 768 (by decide) (fun j => sc (ix2 r j)) (hsc r)
  · rw [numT_apply, ht, h.mx_eq, h.ac_eq]
    exact num_step (s r) (v d) (hs r) (h0 r) n 768 (by decide) (fun j => sc (ix2 r j)) (fun j => vb (ix3 0 j d)) (hsc r) (fun j => hvb j d)

/-- A first tile with only its first 256 keys kept. -/
theorem holds_masked {s : Fin 1024 → ℕ → EReal} {v : Fin 128 → ℕ → EReal} (hs : ∀ r k, s r k ≠ ⊤) (h0 : ∀ r, s r 0 ≠ ⊥)
    (sc : FVec Ideal S1024x768 .f32) (vb : FVec Ideal S1x768x128 .bf16)
    (hsc : ∀ (r : Fin 1024) (j : Fin 768), sc (ix2 r j) = if j.val < 256 then s r j.val else ⊥)
    (hvb : ∀ (j : Fin 768) (d : Fin 128), vb (ix3 0 j d) = v d j.val) :
    Holds s v 256 (topT sc (k0_pay14 (F := Ideal))) (denT sc (k0_pay14 (F := Ideal)) (k0_pay15 (F := Ideal)))
      (numT sc (k0_pay14 (F := Ideal)) (k0_pay1 (F := Ideal)) vb) := by
  have h := holds_step (s := fun r k => if k < 256 then s r k else ⊥) (v := v)
    (fun r k => by split_ifs; exacts [hs r k, bot_ne_top]) (fun r => by rw [if_pos (by decide)]; exact h0 r)
    (holds_init _ v) sc vb (fun r j => by rw [hsc, Nat.zero_add]) (fun j d => by rw [hvb, Nat.zero_add])
  have e : ∀ r, top (fun k => if k < 256 then s r k else ⊥) (0 + 768) = top (s r) 256 := fun r => top_masked (s r) 256 512
  refine ⟨fun r => (h.mx_eq r).trans (e r), fun r => (h.ln_eq r).trans ?_, fun r d => (h.ac_eq r d).trans ?_⟩
  · rw [e]; exact den_masked (s r) 256 512 _
  · rw [e]; exact num_masked (s r) (v d) 256 512 _

/-- The quotients written out are the softmax-weighted means. -/
theorem holds_out {s : Fin 1024 → ℕ → EReal} {v : Fin 128 → ℕ → EReal} {n : ℕ} {mx ln : FVec Ideal S1024x1 .f32}
    {ac : FVec Ideal S1024x128 .f32} (hs : ∀ r k, s r k ≠ ⊤) (h0 : ∀ r, s r 0 ≠ ⊥) (hn : 0 < n) (h : Holds s v n mx ln ac)
    (i : Fin 256) (g : Fin 4) (d : Fin 128) (r : Fin 1024) (hr : r.val = g.val * 256 + i.val) (q : Fin 512) (hq : q.val = g.val * 128 + d.val) :
    unstack ac ln (ix3 0 i q) = mean (s r) (v d) n := by
  have e1 : (⟨q.val / 128 * 256 + i.val, by omega⟩ : Fin 1024) = r := Fin.ext (by show q.val / 128 * 256 + i.val = r.val; omega)
  have e2 : (⟨q.val % 128, by omega⟩ : Fin 128) = d := Fin.ext (by show q.val % 128 = d.val; omega)
  show Ideal.div (ac (ix2 (⟨q.val / 128 * 256 + i.val, by omega⟩ : Fin 1024) (⟨q.val % 128, by omega⟩ : Fin 128)))
    (ln (ix2 (⟨q.val / 128 * 256 + i.val, by omega⟩ : Fin 1024) (0 : Fin 1))) = _
  rw [e1, e2, h.ac_eq, h.ln_eq]
  exact div_num (s r) (v d) (hs r) (h0 r) n hn

end Cert.FlashIdeal.Steps

end
-- ==== Proof.FlashRun.lean ====
/-
  The attention kernel's run: tile by tile its statistics are those of the keys seen so far, and its result array holds
  the softmax-weighted means of the values.
-/
module

public import proofs.«01_k».proof.Proof.FlashState

@[expose] public section

set_option maxRecDepth 16384

noncomputable section

open Idealize.ShloMosaic Idealize.ShloMosaic.TcCoe Idealize.SL.Sem Idealize.ShloMosaic.ValueIdx
open Cert.MatBlock Cert.OnlineSoftmax

namespace Cert.FlashIdeal.Steps

open Cert.FlashIdeal Cert.FlashIdeal.Gen

/-- The scale `128 ^ (-1/2)`, as rounded. -/
def scale : EReal := Ideal.ofBits .f32 0x3DB504F3#32

/-- The queries at a batch, token and column. -/
def atQ (x : FVec Ideal S2x8448x1024 .f32) (b t q : ℕ) : EReal := x (ix3 (Fin.ofNat 2 b) (Fin.ofNat 8448 t) (Fin.ofNat 1024 q))

/-- The keys or the values at a batch, token and column. -/
def atK (x : FVec Ideal S2x8448x256 .f32) (b t q : ℕ) : EReal := x (ix3 (Fin.ofNat 2 b) (Fin.ofNat 8448 t) (Fin.ofNat 256 q))

/-- The score of token `t`'s query head at column `q0` against token `k`'s key head at column `k0`. -/
def score (Q : FVec Ideal S2x8448x1024 .f32) (K : FVec Ideal S2x8448x256 .f32) (b t q0 k0 k : ℕ) : EReal :=
  ∑ d : Fin 128, atQ Q b t (q0 + d.val) * scale * atK K b k (k0 + d.val)

variable (m : (ℓ : Loc nD τ sig) → Buf (Elt Ideal) ℓ) (ρ : Dev nD → PrngReg)

/-- The three arguments on one device. -/
abbrev argQ (c : Dev nD) : FVec Ideal S2x8448x1024 .f32 := m ((c : Thread nD τ).loc main_arg0)
abbrev argK (c : Dev nD) : FVec Ideal S2x8448x256 .f32 := m ((c : Thread nD τ).loc main_arg1)
abbrev argV (c : Dev nD) : FVec Ideal S2x8448x256 .f32 := m ((c : Thread nD τ).loc main_arg2)

/-- The scores of stacked row `r` at grid point `n`. -/
def sAt (c : Dev nD) (n : ℕ) (r : Fin 1024) : ℕ → EReal :=
  score (argQ m c) (argK m c) (n / 726) (n / 11 % 33 * 256 + r.val % 256) (n / 363 % 2 * 512 + r.val / 256 * 128) (n / 363 % 2 * 128)

/-- The values of column `d` at grid point `n`. -/
def vAt (c : Dev nD) (n : ℕ) (d : Fin 128) : ℕ → EReal := fun k => atK (argV m c) (n / 726) k (n / 363 % 2 * 128 + d.val)

/-- Where the four windows stand at grid point `t`. -/
theorem idx_facts : ∀ t : Fin cfg0.N, (win0_0.index t 0 = t.val / 726 ∧ win0_0.index t 1 = t.val / 11 % 33 ∧ win0_0.index t 2 = t.val / 363 % 2)
    ∧ (win0_1.index t 0 = t.val / 726 ∧ win0_1.index t 1 = (if t.val / 11 % 33 = 0 then 0 else t.val % 11) ∧ win0_1.index t 2 = t.val / 363 % 2)
    ∧ (win0_2.index t 0 = t.val / 726 ∧ win0_2.index t 1 = (if t.val / 11 % 33 = 0 then 0 else t.val % 11) ∧ win0_2.index t 2 = t.val / 363 % 2)
    ∧ (win0_3.index t 0 = t.val / 726 ∧ win0_3.index t 1 = t.val / 11 % 33 ∧ win0_3.index t 2 = t.val / 363 % 2) :=
  (by decide +kernel : ∀ t : Fin grid0.N, (win0_0.index t 0 = t.val / 726 ∧ win0_0.index t 1 = t.val / 11 % 33 ∧ win0_0.index t 2 = t.val / 363 % 2)
    ∧ (win0_1.index t 0 = t.val / 726 ∧ win0_1.index t 1 = (if t.val / 11 % 33 = 0 then 0 else t.val % 11) ∧ win0_1.index t 2 = t.val / 363 % 2)
    ∧ (win0_2.index t 0 = t.val / 726 ∧ win0_2.index t 1 = (if t.val / 11 % 33 = 0 then 0 else t.val % 11) ∧ win0_2.index t 2 = t.val / 363 % 2)
    ∧ (win0_3.index t 0 = t.val / 726 ∧ win0_3.index t 1 = t.val / 11 % 33 ∧ win0_3.index t 2 = t.val / 363 % 2))

/-- The query block the body reads at `t`, already scaled. -/
theorem iblk0_apply (c : Dev nD) (t : Fin cfg0.N) (i : Fin 256) (q : Fin 512) :
    (iblk m c 0 t : Vec Ideal S1x256x512 .bf16) (ix3 0 i q)
      = atQ (argQ m c) (t.val / 726) (t.val / 11 % 33 * 256 + i.val) (t.val / 363 % 2 * 512 + q.val) * scale := by
  obtain ⟨⟨h0, h1, h2⟩, _, _, _⟩ := idx_facts t
  have hN : cfg0.N = 1452 := N_0
  have ht := t.isLt
  have hv : V m c main_v2 = (truncf (F := Ideal) (s := S2x8448x1024) (φ := .f32) .bf16 (mulf (m ((c : Thread nD τ).loc main_arg0))
      (broadcastInDim S2x8448x1024 ![] bcast_S_S2x8448x1024 (constant S_ .f32 0x3DB504F3#32))) bitsLt_bf16_f32 : FVec Ideal S2x8448x1024 .bf16) := by
    unfold V; after_results
  unfold iblk
  rw [View.read_apply]
  show V m c main_v2 _ = _
  rw [hv]
  show argQ m c _ * scale = argQ m c _ * scale
  refine congrArg (fun z => argQ m c z * scale) ?_
  funext a
  apply Fin.ext
  match a with
  | ⟨0, _⟩ => show win0_0.index t 0 * 1 + 1 * 0 = t.val / 726 % 2; rw [h0]; omega
  | ⟨1, _⟩ => show win0_0.index t 1 * 256 + 1 * i.val = (t.val / 11 % 33 * 256 + i.val) % 8448; rw [h1]; omega
  | ⟨2, _⟩ => show win0_0.index t 2 * 512 + 1 * q.val = (t.val / 363 % 2 * 512 + q.val) % 1024; rw [h2]; omega

/-- The key block the body reads at `t`: the keys from `768 · ki` on, or from 0 on for a latent query block. -/
theorem iblk1_apply (c : Dev nD) (t : Fin cfg0.N) (n : ℕ) (hn : n = if t.val / 11 % 33 = 0 then 0 else t.val % 11 * 768) (j : Fin 768) (d : Fin 128) :
    (iblk m c 1 t : Vec Ideal S1x768x128 .bf16) (ix3 0 j d)
      = atK (argK m c) (t.val / 726) (n + j.val) (t.val / 363 % 2 * 128 + d.val) := by
  obtain ⟨_, ⟨h0, h1, h2⟩, _, _⟩ := idx_facts t
  have hN : cfg0.N = 1452 := N_0
  have ht := t.isLt
  have hv : V m c main_v3 = (truncf (F := Ideal) (s := S2x8448x256) (φ := .f32) .bf16 (m ((c : Thread nD τ).loc main_arg1)) bitsLt_bf16_f32 : FVec Ideal S2x8448x256 .bf16) := by
    unfold V; after_results
  unfold iblk
  rw [View.read_apply]
  show V m c main_v3 _ = _
  rw [hv]
  show m ((c : Thread nD τ).loc main_arg1) _ = m ((c : Thread nD τ).loc main_arg1) _
  congr 1
  funext a
  apply Fin.ext
  match a with
  | ⟨0, _⟩ => show win0_1.index t 0 * 1 + 1 * 0 = t.val / 726 % 2; rw [h0]; omega
  | ⟨1, _⟩ => show win0_1.index t 1 * 768 + 1 * j.val = (n + j.val) % 8448; rw [h1, hn]; split_ifs <;> omega
  | ⟨2, _⟩ => show win0_1.index t 2 * 128 + 1 * d.val = (t.val / 363 % 2 * 128 + d.val) % 256; rw [h2]; omega

/-- The value block the body reads at `t`, likewise. -/
theorem iblk2_apply (c : Dev nD) (t : Fin cfg0.N) (n : ℕ) (hn : n = if t.val / 11 % 33 = 0 then 0 else t.val % 11 * 768) (j : Fin 768) (d : Fin 128) :
    (iblk m c 2 t : Vec Ideal S1x768x128 .bf16) (ix3 0 j d) = vAt m c t.val d (n + j.val) := by
  obtain ⟨_, _, ⟨h0, h1, h2⟩, _⟩ := idx_facts t
  have hN : cfg0.N = 1452 := N_0
  have ht := t.isLt
  have hv : V m c main_v4 = (truncf (F := Ideal) (s := S2x8448x256) (φ := .f32) .bf16 (m ((c : Thread nD τ).loc main_arg2)) bitsLt_bf16_f32 : FVec Ideal S2x8448x256 .bf16) := by
    unfold V; after_results
  unfold iblk
  rw [View.read_apply]
  show V m c main_v4 _ = _
  rw [hv]
  show m ((c : Thread nD τ).loc main_arg2) _ = m ((c : Thread nD τ).loc main_arg2) _
  congr 1
  funext a
  apply Fin.ext
  match a with
  | ⟨0, _⟩ => show win0_2.index t 0 * 1 + 1 * 0 = t.val / 726 % 2; rw [h0]; omega
  | ⟨1, _⟩ => show win0_2.index t 1 * 768 + 1 * j.val = (n + j.val) % 8448; rw [h1, hn]; split_ifs <;> omega
  | ⟨2, _⟩ => show win0_2.index t 2 * 128 + 1 * d.val = (t.val / 363 % 2 * 128 + d.val) % 256; rw [h2]; omega

/-- The stacked queries of grid point `n`. -/
def IsStack (c : Dev nD) (n : ℕ) (q : FVec Ideal S1024x128 .bf16) : Prop := ∀ (r : Fin 1024) (d : Fin 128),
  q (ix2 r d) = atQ (argQ m c) (n / 726) (n / 11 % 33 * 256 + r.val % 256) (n / 363 % 2 * 512 + r.val / 256 * 128 + d.val) * scale

theorem isStack_iblk (c : Dev nD) (t : Fin cfg0.N) : IsStack m c t.val (stack (iblk m c 0 t)) := fun r d => by
  refine (iblk0_apply m c t ⟨r.val % 256, by omega⟩ ⟨r.val / 256 * 128 + d.val, by omega⟩).trans ?_
  rw [Nat.add_assoc]

/-- The unmasked scores of the tile at `t`. -/
theorem scores_apply (c : Dev nD) (t : Fin cfg0.N) (n : ℕ) (hn : n = if t.val / 11 % 33 = 0 then 0 else t.val % 11 * 768)
    (q : FVec Ideal S1024x128 .bf16) (hq : IsStack m c t.val q) (r : Fin 1024) (j : Fin 768) :
    k0_pay22 (F := Ideal) q (iblk m c 1 t) (ix2 r j) = sAt m c t.val r (n + j.val) := by
  rw [plain_apply]
  unfold sAt score
  exact Finset.sum_congr rfl fun d _ => by rw [hq r d, iblk1_apply m c t n hn j d]

/-- How many keys grid point `n` has behind it. -/
def seen (n : ℕ) : ℕ := if n / 11 % 33 = 0 then 256 else n % 11 * 768 + 768

/-- What the scratch buffers hold after grid point `n`. -/
structure Inv (c : Dev nD) (n : ℕ) (q : FVec Ideal S1024x128 .bf16) (mx ln : FVec Ideal S1024x1 .f32) (ac : FVec Ideal S1024x128 .f32) : Prop where
  stk : IsStack m c n q
  holds : Holds (sAt m c n) (vAt m c n) (seen n) mx ln ac

variable (hfin : ∀ (c : Dev nD) (n : ℕ) (r : Fin 1024) (k : ℕ), sAt m c n r k ≠ ⊤ ∧ sAt m c n r k ≠ ⊥)

include hfin in
/-- The statistics of every grid point. -/
theorem inv (c : Dev nD) (n : ℕ) : ∀ hn : n < cfg0.N, Inv m c n (outsAt0 m c n hn).2.1 (outsAt0 m c n hn).2.2.1 (outsAt0 m c n hn).2.2.2.1
    (outsAt0 m c n hn).2.2.2.2 := by
  induction n using Nat.strong_induction_on with
  | _ n ih =>
    intro hn
    have hN : n < 1452 := lt_of_lt_of_eq hn N_0
    have hs : ∀ r k, sAt m c n r k ≠ ⊤ := fun r k => (hfin c n r k).1
    have h00 : ∀ r, sAt m c n r 0 ≠ ⊥ := fun r => (hfin c n r 0).2
    by_cases h0 : n % 11 = 0
    · by_cases h1 : n % 363 = 0
      · have h2 : ¬ 1 ≤ n / 11 % 33 := by omega
        have h3 : ¬ n % 11 = 10 := by omega
        have hz : n / 11 % 33 = 0 := by omega
        rw [outsAt0_A m c ⟨n, hn⟩ h0 h1 h2 h3]
        dsimp only
        rw [A_0, A_1, A_2, A_3]
        refine ⟨isStack_iblk m c ⟨n, hn⟩, ?_⟩
        unfold seen
        rw [if_pos hz]
        refine holds_masked hs h00 _ _ (fun r j => ?_) (fun j d => ?_)
        · rw [mask_apply, scores_apply m c ⟨n, hn⟩ 0 (by rw [if_pos hz]) _ (isStack_iblk m c ⟨n, hn⟩), Nat.zero_add]
        · rw [iblk2_apply m c ⟨n, hn⟩ 0 (by rw [if_pos hz]), Nat.zero_add]
      · have h2 : 1 ≤ n / 11 % 33 := by omega
        have h3 : ¬ n % 11 = 10 := by omega
        have hz : ¬ n / 11 % 33 = 0 := by omega
        rw [outsAt0_D m c ⟨n, hn⟩ h0 h1 h2 h3]
        dsimp only
        rw [D_0, D_1, D_2, D_3]
        refine ⟨isStack_iblk m c ⟨n, hn⟩, ?_⟩
        have e : seen n = 0 + 768 := by unfold seen; rw [if_neg hz, h0]
        rw [e]
        exact holds_step hs h00 (holds_init _ _) _ _
          (fun r j => scores_apply m c ⟨n, hn⟩ 0 (by rw [if_neg hz]; show 0 = n % 11 * 768; omega) _ (isStack_iblk m c ⟨n, hn⟩) r j)
          (fun j d => iblk2_apply m c ⟨n, hn⟩ 0 (by rw [if_neg hz]; show 0 = n % 11 * 768; omega) j d)
    · have h1 : ¬ n % 363 = 0 := by omega
      have hp := ih (n - 1) (by omega) (Nat.lt_of_le_of_lt (Nat.sub_le _ _) hn)
      have e1 : (n - 1) / 726 = n / 726 := by omega
      have e2 : (n - 1) / 11 = n / 11 := by omega
      have e3 : (n - 1) / 363 = n / 363 := by omega
      have es : sAt m c (n - 1) = sAt m c n := by unfold sAt; rw [e1, e2, e3]
      have ev : vAt m c (n - 1) = vAt m c n := by unfold vAt; rw [e1, e3]
      obtain ⟨hq, hh⟩ := hp
      have hq' : IsStack m c n (outsAt0 m c (n - 1) (Nat.lt_of_le_of_lt (Nat.sub_le _ _) hn)).2.1 := fun r d => by rw [hq r d, e1, e2, e3]
      rw [es, ev] at hh
      by_cases h2 : 1 ≤ n / 11 % 33
      · have hz : ¬ n / 11 % 33 = 0 := by omega
        have e4 : seen (n - 1) = n % 11 * 768 := by unfold seen; rw [e2, if_neg hz]; omega
        have e5 : seen n = n % 11 * 768 + 768 := by unfold seen; rw [if_neg hz]
        rw [e4] at hh
        have hnew := holds_step hs h00 hh _ _
          (fun r j => scores_apply m c ⟨n, hn⟩ (n % 11 * 768) (by rw [if_neg hz]) _ hq' r j)
          (fun j d => iblk2_apply m c ⟨n, hn⟩ (n % 11 * 768) (by rw [if_neg hz]) j d)
        rw [← e5] at hnew
        by_cases h3 : n % 11 = 10
        · rw [outsAt0_F m c ⟨n, hn⟩ h0 h1 h2 h3]
          dsimp only
          rw [F_0, F_1, F_2, F_3]
          exact ⟨hq', hnew⟩
        · rw [outsAt0_E m c ⟨n, hn⟩ h0 h1 h2 h3]
          dsimp only
          rw [E_0, E_1, E_2, E_3]
          exact ⟨hq', hnew⟩
      · have hz : n / 11 % 33 = 0 := by omega
        have e4 : seen (n - 1) = seen n := by unfold seen; rw [e2, if_pos hz, if_pos hz]
        rw [e4] at hh
        by_cases h3 : n % 11 = 10
        · rw [outsAt0_C m c ⟨n, hn⟩ h0 h1 h2 h3]
          exact ⟨hq', hh⟩
        · rw [outsAt0_B m c ⟨n, hn⟩ h0 h1 h2 h3]
          exact ⟨hq', hh⟩

/-- What the result array is shown to hold: a latent token (the first 256) sees the 256 latents, a context token sees every token. -/
def G (c : Dev nD) : Buf (Elt Ideal) ((c : Thread nD τ).loc main_v5) := fun i : S2x8448x1024.Idx =>
  mean (score (argQ m c) (argK m c) (i 0).val (i 1).val ((i 2).val / 128 * 128) ((i 2).val / 512 * 128))
    (fun k => atK (argV m c) (i 0).val k ((i 2).val / 512 * 128 + (i 2).val % 128)) (if (i 1).val < 256 then 256 else 8448)

include hfin in
/-- The output block written out at the last tile of a query block. -/
theorem out_apply (c : Dev nD) (t : Fin cfg0.N) (ht : t.val % 11 = 10) (i : Fin 256) (q : Fin 512) (I : S2x8448x1024.Idx)
    (h0 : (I 0).val = t.val / 726) (h1 : (I 1).val = t.val / 11 % 33 * 256 + i.val) (h2 : (I 2).val = t.val / 363 % 2 * 512 + q.val) :
    (outsAt0 m c t.val t.isLt).1 (ix3 0 i q) = G m c I := by
  have hN : t.val < 1452 := lt_of_lt_of_eq t.isLt N_0
  have hs : ∀ r k, sAt m c t.val r k ≠ ⊤ := fun r k => (hfin c t.val r k).1
  have h00 : ∀ r, sAt m c t.val r 0 ≠ ⊥ := fun r => (hfin c t.val r 0).2
  have hI := inv m hfin c t.val t.isLt
  have e : (outsAt0 m c t.val t.isLt).1 = unstack (outsAt0 m c t.val t.isLt).2.2.2.2 (outsAt0 m c t.val t.isLt).2.2.2.1 := by
    by_cases hz : 1 ≤ t.val / 11 % 33
    · rw [outsAt0_F m c t (by omega) (by omega) hz ht]
      dsimp only
      rw [F_o, F_2, F_3]
    · rw [outsAt0_C m c t (by omega) (by omega) hz ht]
      dsimp only
      rw [C_o, C_2, C_3]
  rw [e, holds_out hs h00 (by unfold seen; split_ifs <;> omega) hI.holds i ⟨q.val / 128, by omega⟩ ⟨q.val % 128, by omega⟩
    ⟨q.val / 128 * 256 + i.val, by omega⟩ rfl q (by show q.val = q.val / 128 * 128 + q.val % 128; omega)]
  unfold G sAt vAt seen
  have a1 : (I 2).val / 128 * 128 = t.val / 363 % 2 * 512 + (q.val / 128 * 256 + i.val) / 256 * 128 := by omega
  have a2 : (I 2).val / 512 * 128 = t.val / 363 % 2 * 128 := by omega
  have a3 : (I 2).val % 128 = q.val % 128 := by omega
  have a4 : t.val / 11 % 33 * 256 + (q.val / 128 * 256 + i.val) % 256 = (I 1).val := by omega
  have a5 : (if t.val / 11 % 33 = 0 then 256 else t.val % 11 * 768 + 768) = if (I 1).val < 256 then 256 else 8448 := by
    split_ifs <;> omega
  dsimp only
  rw [a1, a2, a3, a4, a5, h0]

theorem exists_ix3 (j : S1x256x512.Idx) : ∃ (i : Fin 256) (q : Fin 512), j = ix3 (0 : Fin 1) i q :=
  ⟨j 1, j 2, funext fun a => by
    match a with
    | ⟨0, _⟩ => exact Subsingleton.elim (α := Fin 1) _ _
    | ⟨1, _⟩ => rfl
    | ⟨2, _⟩ => rfl⟩

include hfin in
/-- What point `t` writes back is block `t` of the means. -/
theorem flushed_eq (c : Dev nD) (t : Fin cfg0.N) (hf : (cfg0.win 3).flush t = true) :
    (dats m 0 c).flushed 3 t = ((cfg0.win 3).blk t).view.read (Elt Ideal) (G m c) := by
  have ht := t.isLt
  have hN : cfg0.N = 1452 := N_0
  obtain ⟨_, _, _, h0, h1, h2⟩ := idx_facts t
  rw [Value.flushed3]
  funext j
  rw [View.read_apply]
  obtain ⟨i, q, rfl⟩ : ∃ (i : Fin 256) (q : Fin 512), j = ix3 (0 : Fin 1) i q := exists_ix3 j
  refine out_apply m hfin c t ((flush0_3 t).mp hf) i q _ ?_ ?_ ?_
  · show win0_3.index t 0 * 1 + 1 * 0 = _; rw [h0]; omega
  · show win0_3.index t 1 * 256 + 1 * i.val = _; rw [h1]; omega
  · show win0_3.index t 2 * 512 + 1 * q.val = _; rw [h2]; omega

/-- An index of the result array is in point `t`'s block exactly when each coordinate is in the block's range. -/
theorem mem_blk (t : Fin cfg0.N) (i : S2x8448x1024.Idx) :
    i ∈ ((cfg0.win 3).blk t).view.set ↔ (i 0 : Nat) = t.val / 726
      ∧ (t.val / 11 % 33 * 256 ≤ (i 1 : Nat) ∧ (i 1 : Nat) < t.val / 11 % 33 * 256 + 256)
      ∧ (t.val / 363 % 2 * 512 ≤ (i 2 : Nat) ∧ (i 2 : Nat) < t.val / 363 % 2 * 512 + 512) := by
  obtain ⟨_, _, _, h0, h1, h2⟩ := idx_facts t
  show i ∈ ((View.whole main_v5).slice (win0_3.rect t)).set ↔ _
  rw [View.set_slice_whole, Rect.mem_set_unit]
  constructor
  · intro h
    have a0 : win0_3.index t 0 * 1 ≤ (i 0 : Nat) ∧ (i 0 : Nat) < win0_3.index t 0 * 1 + 1 := h 0
    have a1 : win0_3.index t 1 * 256 ≤ (i 1 : Nat) ∧ (i 1 : Nat) < win0_3.index t 1 * 256 + 256 := h 1
    have a2 : win0_3.index t 2 * 512 ≤ (i 2 : Nat) ∧ (i 2 : Nat) < win0_3.index t 2 * 512 + 512 := h 2
    rw [h0] at a0
    rw [h1] at a1
    rw [h2] at a2
    exact ⟨by omega, a1, a2⟩
  · intro h a
    match a with
    | ⟨0, _⟩ => show win0_3.index t 0 * 1 ≤ (i 0 : Nat) ∧ (i 0 : Nat) < win0_3.index t 0 * 1 + 1; rw [h0]; omega
    | ⟨1, _⟩ => show win0_3.index t 1 * 256 ≤ (i 1 : Nat) ∧ (i 1 : Nat) < win0_3.index t 1 * 256 + 256; rw [h1]; exact h.2.1
    | ⟨2, _⟩ => show win0_3.index t 2 * 512 ≤ (i 2 : Nat) ∧ (i 2 : Nat) < win0_3.index t 2 * 512 + 512; rw [h2]; exact h.2.2

/-- The blocks written out cover the result array. -/
theorem cover (i : S2x8448x1024.Idx) : ∃ t : Fin cfg0.N, (cfg0.win 3).flush t = true ∧ i ∈ ((cfg0.win 3).blk t).view.set := by
  have hN : cfg0.N = 1452 := N_0
  have h0 : (i 0 : Nat) < 2 := (i 0).isLt
  have h1 : (i 1 : Nat) < 8448 := (i 1).isLt
  have h2 : (i 2 : Nat) < 1024 := (i 2).isLt
  refine ⟨⟨(((i 0 : Nat) * 2 + (i 2 : Nat) / 512) * 33 + (i 1 : Nat) / 256) * 11 + 10, by omega⟩, (flush0_3 _).mpr (by dsimp only; omega), ?_⟩
  rw [mem_blk]
  dsimp only
  omega

include hfin in
/-- The run of the kernel: the result array ends as the means, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 (G m c) (fun t hf => flushed_eq m hfin c t hf) cover),
    (h c).2⟩) (Value.run_blocks m ρ)

end Cert.FlashIdeal.Steps

end
-- ==== Proof.FlashRef.lean ====
/-
  The attention's reference: at every index it is the softmax-weighted mean the kernel is shown to compute.
-/
module

public import proofs.«01_k».proof.Proof.FlashRun
public import proofs.«01_k».proof.Proof.Gen.FlashRefIdeal.Run
public import proofs.«01_k».proof.Proof.Gen.FlashRefIdeal.Read
public import Idealize.ShloMosaic.Lib.KernelVsHost

@[expose] public section

set_option maxRecDepth 16384

noncomputable section

open Idealize.ShloMosaic Idealize.ShloMosaic.TcCoe Idealize.SL.Sem Idealize.ShloMosaic.ValueIdx
open Cert.OnlineSoftmax
open Cert.FlashIdeal.Steps (atQ atK score scale ofBits_negInf fold_max_eq_sup)

namespace Cert.FlashRefIdeal.Softmax

open Cert.FlashRefIdeal Cert.FlashRefIdeal.Gen

theorem scale_real : ∃ r : ℝ, 0 ≤ r ∧ scale = (r : EReal) := by
  unfold scale
  simp only [Ideal.ofBits, Ideal.ieee]
  simp [-EReal.coe_mul]

theorem scale_nonneg : (0 : EReal) ≤ scale := by
  obtain ⟨r, h, e⟩ := scale_real
  rw [e]; exact EReal.coe_nonneg.2 h

theorem scale_ne_top : scale ≠ ⊤ := by
  obtain ⟨r, h, e⟩ := scale_real
  rw [e]; exact EReal.coe_ne_top r

/-- The scores of batch `b`, key head `h`, query head `g` in its group, token `t`. -/
def rowScore (x0 : FVec Ideal S2x8448x1024 .f32) (x1 : FVec Ideal S2x8448x256 .f32) (b h g t : ℕ) : ℕ → EReal :=
  score x0 x1 b t ((h * 4 + g) * 128) (h * 128)

/-- A query entry, by its coordinates. -/
theorem query_eq (x : FVec Ideal S2x8448x1024 .f32) (I : S2x8448x1024.Idx) (b t q : ℕ) (h0 : (I 0).val = b) (h1 : (I 1).val = t)
    (h2 : (I 2).val = q) : x I = atQ x b t q := congrArg x (funext fun a => Fin.ext (by
  have l0 : (I 0).val < 2 := (I 0).isLt
  have l1 : (I 1).val < 8448 := (I 1).isLt
  have l2 : (I 2).val < 1024 := (I 2).isLt
  match a with
  | ⟨0, _⟩ => show (I 0).val = b % 2; omega
  | ⟨1, _⟩ => show (I 1).val = t % 8448; omega
  | ⟨2, _⟩ => show (I 2).val = q % 1024; omega))

/-- A key or value entry, by its coordinates. -/
theorem key_eq (x : FVec Ideal S2x8448x256 .f32) (I : S2x8448x256.Idx) (b t q : ℕ) (h0 : (I 0).val = b) (h1 : (I 1).val = t)
    (h2 : (I 2).val = q) : x I = atK x b t q := congrArg x (funext fun a => Fin.ext (by
  have l0 : (I 0).val < 2 := (I 0).isLt
  have l1 : (I 1).val < 8448 := (I 1).isLt
  have l2 : (I 2).val < 256 := (I 2).isLt
  match a with
  | ⟨0, _⟩ => show (I 0).val = b % 2; omega
  | ⟨1, _⟩ => show (I 1).val = t % 8448; omega
  | ⟨2, _⟩ => show (I 2).val = q % 256; omega))

/-! ### The latent queries -/

/-- The scaled score of a query row against a key. -/
theorem score_256 (x0 : FVec Ideal S2x8448x1024 .f32) (x1 : FVec Ideal S2x8448x256 .f32) (j : S2x2x4x256x256.Idx) :
    Read.val_main_v9 (F := Ideal) x0 x1 j = rowScore x0 x1 (j 0).val (j 1).val (j 2).val ((j 3).val) (j 4).val := by
  have h0 : (j 0).val < 2 := (j 0).isLt
  have h1 : (j 1).val < 2 := (j 1).isLt
  have h2 : (j 2).val < 4 := (j 2).isLt
  have h3 : (j 3).val < 256 := (j 3).isLt
  have h4 : (j 4).val < 256 := (j 4).isLt
  rw [Read.val_main_v9_apply, Read.val_main_v7_apply, Read.val_main_v6_apply]
  show (∑ d : Fin 128, _) * scale = score x0 x1 _ _ _ _ _
  unfold score
  rw [mul_comm, mul_sum scale scale_nonneg scale_ne_top]
  refine Finset.sum_congr rfl fun d _ => ?_
  have hd := d.isLt
  rw [Read.val_main_v4_apply, Read.val_main_v1_apply, Read.val_main_v3_apply, Read.val_main_v0_apply]
  rw [key_eq x1 _ (j 0).val (j 4).val ((j 1).val * 128 + d.val), query_eq x0 _ (j 0).val ((j 3).val) (((j 1).val * 4 + (j 2).val) * 128 + d.val)]
  · rw [mul_comm (atK _ _ _ _), ← mul_assoc, mul_comm scale]
  · show (((((j 0).val * 8448 + ((j 3).val)) * 2 + (j 1).val) * 4 + (j 2).val) * 128 + d.val) / 8650752 = _; omega
  · show (((((j 0).val * 8448 + ((j 3).val)) * 2 + (j 1).val) * 4 + (j 2).val) * 128 + d.val) / 1024 % 8448 = _; omega
  · show (((((j 0).val * 8448 + ((j 3).val)) * 2 + (j 1).val) * 4 + (j 2).val) * 128 + d.val) % 1024 = _; omega
  · show ((((j 0).val * 8448 + (j 4).val) * 2 + (j 1).val) * 128 + d.val) / 2162688 = _; omega
  · show ((((j 0).val * 8448 + (j 4).val) * 2 + (j 1).val) * 128 + d.val) / 256 % 8448 = _; omega
  · show ((((j 0).val * 8448 + (j 4).val) * 2 + (j 1).val) * 128 + d.val) % 256 = _; omega

/-- A row's maximum. -/
theorem max_256 (x0 : FVec Ideal S2x8448x1024 .f32) (x1 : FVec Ideal S2x8448x256 .f32) (i : S2x2x4x256.Idx) :
    Read.val_main_v12 (F := Ideal) x0 x1 i = top (rowScore x0 x1 (i 0).val (i 1).val (i 2).val ((i 3).val)) 256 := by
  have hr : S2x2x4x256x256.Reduces [4] S2x2x4x256 := by decide
  rw [Read.val_main_v12_apply, Read.val_main_v11_apply]
  unfold Read.val_main_v10
  have e : Host.reduce (FloatOps.maximumf (F := Ideal) (φ := .f32)) (Read.val_main_v9 (F := Ideal) x0 x1) (constant S_ .f32 0xFF800000#32) reducesTo_S2x2x4x256x256_S2x2x4x256_d4 h_S_ i
      = (Finset.univ : Finset (Fin 256)).sup fun k => Read.val_main_v9 (F := Ideal) x0 x1 (Read.idx_main_v17 i k) := by
    refine (congrFun (hostReduce_maximumf_eq_multiReduction (F := Ideal) (φ := .f32) (Read.val_main_v9 (F := Ideal) x0 x1) 0xFF800000#32
      reducesTo_S2x2x4x256x256_S2x2x4x256_d4 h_S_ hr (.inl rfl) rfl) i).trans ?_
    refine (Ideal.multiReduction_maximumf_single _ _ hr (.inl rfl) rfl i).trans ?_
    show (Finset.univ : Finset (Fin 256)).fold max (Ideal.ofBits .f32 0xFF800000#32) _ = _
    rw [ofBits_negInf]
    have e : Read.val_main_v9 (F := Ideal) x0 x1 ∘ hr.lift i = fun k => Read.val_main_v9 (F := Ideal) x0 x1 (Read.idx_main_v17 i k) :=
      funext fun k => congrArg (Read.val_main_v9 (F := Ideal) x0 x1) (funext fun a => by
        match a with | ⟨0, _⟩ => rfl | ⟨1, _⟩ => rfl | ⟨2, _⟩ => rfl | ⟨3, _⟩ => rfl | ⟨4, _⟩ => rfl)
    rw [e]
    exact fold_max_eq_sup (n := 256) _
  show max (Ideal.ofBits .f32 0xFF800000#32) (Host.reduce (FloatOps.maximumf (F := Ideal) (φ := .f32)) (Read.val_main_v9 (F := Ideal) x0 x1) (constant S_ .f32 0xFF800000#32) reducesTo_S2x2x4x256x256_S2x2x4x256_d4 h_S_ i) = _
  rw [e, ofBits_negInf]
  refine (top_add _ 0 256 _ fun k => ?_).trans (by rw [Nat.zero_add])
  rw [score_256, Nat.zero_add]

/-- A row's exponential relative to its maximum. -/
theorem exp_256 (x0 : FVec Ideal S2x8448x1024 .f32) (x1 : FVec Ideal S2x8448x256 .f32) (i : S2x2x4x256.Idx) (k : Fin 256) :
    Read.val_main_v16 (F := Ideal) x0 x1 (Read.idx_main_v17 i k)
      = Ideal.exp (rowScore x0 x1 (i 0).val (i 1).val (i 2).val ((i 3).val) k.val - top (rowScore x0 x1 (i 0).val (i 1).val (i 2).val ((i 3).val)) 256) := by
  rw [Read.val_main_v16_apply, Read.val_main_v15_apply, Read.val_main_v14_apply, Read.val_main_v13_apply, score_256]
  have e : Read.idx_main_v13 (Read.idx_main_v14 (Read.idx_main_v17 i k)) = i := funext fun a => by
    match a with | ⟨0, _⟩ => rfl | ⟨1, _⟩ => rfl | ⟨2, _⟩ => rfl | ⟨3, _⟩ => rfl
  rw [e, max_256]
  rfl

/-- A row's normaliser. -/
theorem den_256 (x0 : FVec Ideal S2x8448x1024 .f32) (x1 : FVec Ideal S2x8448x256 .f32) (i : S2x2x4x256.Idx) :
    Read.val_main_v17 (F := Ideal) x0 x1 i = den (rowScore x0 x1 (i 0).val (i 1).val (i 2).val ((i 3).val)) 256
      (top (rowScore x0 x1 (i 0).val (i 1).val (i 2).val ((i 3).val)) 256) := by
  rw [Read.val_main_v17_apply]
  show Ideal.ofBits .f32 0x00000000#32 + _ = _
  rw [Ideal.ofBits_zero_f32, zero_add]
  unfold den
  rw [Finset.sum_range]
  exact Finset.sum_congr rfl fun k _ => exp_256 x0 x1 i k

/-- A row's mean of the values. -/
theorem mean_256 (x0 : FVec Ideal S2x8448x1024 .f32) (x1 x2 : FVec Ideal S2x8448x256 .f32) (i : S2x256x2x4x128.Idx) :
    Read.val_main_v22 (F := Ideal) x0 x1 x2 i = mean (rowScore x0 x1 (i 0).val (i 2).val (i 3).val ((i 1).val))
      (fun k => atK x2 (i 0).val k ((i 2).val * 128 + (i 4).val)) 256 := by
  have h0 : (i 0).val < 2 := (i 0).isLt
  have h2 : (i 2).val < 2 := (i 2).isLt
  have h4 : (i 4).val < 128 := (i 4).isLt
  rw [Read.val_main_v22_apply, Read.val_main_v21_apply]
  unfold mean
  rw [Finset.sum_range]
  refine Finset.sum_congr rfl fun k _ => ?_
  have hk := k.isLt
  rw [mul_comm, Read.val_main_v5_apply, Read.val_main_v2_apply, Read.val_main_v20_apply, Read.val_main_v19_apply, Read.val_main_v18_apply]
  rw [key_eq x2 _ (i 0).val k.val ((i 2).val * 128 + (i 4).val)]
  · refine congrArg (· * atK x2 (i 0).val k.val ((i 2).val * 128 + (i 4).val)) ?_
    let r : S2x2x4x256.Idx := fun a => match a with
      | ⟨0, _⟩ => i 0
      | ⟨1, _⟩ => i 2
      | ⟨2, _⟩ => i 3
      | ⟨3, _⟩ => i 1
    have e1 : Read.ridx_main_v21 (Read.idx_main_v22 i) k = Read.idx_main_v17 r k := funext fun a => by
      match a with | ⟨0, _⟩ => rfl | ⟨1, _⟩ => rfl | ⟨2, _⟩ => rfl | ⟨3, _⟩ => rfl | ⟨4, _⟩ => rfl
    have e2 : Read.idx_main_v18 (Read.idx_main_v19 (Read.idx_main_v17 r k)) = r := funext fun a => by
      match a with | ⟨0, _⟩ => rfl | ⟨1, _⟩ => rfl | ⟨2, _⟩ => rfl | ⟨3, _⟩ => rfl
    rw [e1, e2, exp_256, den_256]
    rfl
  · show ((((i 0).val * 8448 + k.val) * 2 + (i 2).val) * 128 + (i 4).val) / 2162688 = _; omega
  · show ((((i 0).val * 8448 + k.val) * 2 + (i 2).val) * 128 + (i 4).val) / 256 % 8448 = _; omega
  · show ((((i 0).val * 8448 + k.val) * 2 + (i 2).val) * 128 + (i 4).val) % 256 = _; omega

/-! ### The context queries -/

/-- The scaled score of a query row against a key. -/
theorem score_8192 (x0 : FVec Ideal S2x8448x1024 .f32) (x1 : FVec Ideal S2x8448x256 .f32) (j : S2x2x4x8192x8448.Idx) :
    Read.val_main_v27 (F := Ideal) x0 x1 j = rowScore x0 x1 (j 0).val (j 1).val (j 2).val (256 + (j 3).val) (j 4).val := by
  have h0 : (j 0).val < 2 := (j 0).isLt
  have h1 : (j 1).val < 2 := (j 1).isLt
  have h2 : (j 2).val < 4 := (j 2).isLt
  have h3 : (j 3).val < 8192 := (j 3).isLt
  have h4 : (j 4).val < 8448 := (j 4).isLt
  rw [Read.val_main_v27_apply, Read.val_main_v25_apply, Read.val_main_v24_apply]
  show (∑ d : Fin 128, _) * scale = score x0 x1 _ _ _ _ _
  unfold score
  rw [mul_comm, mul_sum scale scale_nonneg scale_ne_top]
  refine Finset.sum_congr rfl fun d _ => ?_
  have hd := d.isLt
  rw [Read.val_main_v1_apply, Read.val_main_v23_apply, Read.val_main_v0_apply]
  rw [key_eq x1 _ (j 0).val (j 4).val ((j 1).val * 128 + d.val), query_eq x0 _ (j 0).val (256 + (j 3).val) (((j 1).val * 4 + (j 2).val) * 128 + d.val)]
  · rw [mul_comm (atK _ _ _ _), ← mul_assoc, mul_comm scale]
  · show (((((j 0).val * 8448 + (256 + (j 3).val)) * 2 + (j 1).val) * 4 + (j 2).val) * 128 + d.val) / 8650752 = _; omega
  · show (((((j 0).val * 8448 + (256 + (j 3).val)) * 2 + (j 1).val) * 4 + (j 2).val) * 128 + d.val) / 1024 % 8448 = _; omega
  · show (((((j 0).val * 8448 + (256 + (j 3).val)) * 2 + (j 1).val) * 4 + (j 2).val) * 128 + d.val) % 1024 = _; omega
  · show ((((j 0).val * 8448 + (j 4).val) * 2 + (j 1).val) * 128 + d.val) / 2162688 = _; omega
  · show ((((j 0).val * 8448 + (j 4).val) * 2 + (j 1).val) * 128 + d.val) / 256 % 8448 = _; omega
  · show ((((j 0).val * 8448 + (j 4).val) * 2 + (j 1).val) * 128 + d.val) % 256 = _; omega

/-- A row's maximum. -/
theorem max_8192 (x0 : FVec Ideal S2x8448x1024 .f32) (x1 : FVec Ideal S2x8448x256 .f32) (i : S2x2x4x8192.Idx) :
    Read.val_main_v30 (F := Ideal) x0 x1 i = top (rowScore x0 x1 (i 0).val (i 1).val (i 2).val (256 + (i 3).val)) 8448 := by
  have hr : S2x2x4x8192x8448.Reduces [4] S2x2x4x8192 := by decide
  rw [Read.val_main_v30_apply, Read.val_main_v29_apply]
  unfold Read.val_main_v28
  have e : Host.reduce (FloatOps.maximumf (F := Ideal) (φ := .f32)) (Read.val_main_v27 (F := Ideal) x0 x1) (constant S_ .f32 0xFF800000#32) reducesTo_S2x2x4x8192x8448_S2x2x4x8192_d4 h_S_ i
      = (Finset.univ : Finset (Fin 8448)).sup fun k => Read.val_main_v27 (F := Ideal) x0 x1 (Read.idx_main_v35 i k) := by
    refine (congrFun (hostReduce_maximumf_eq_multiReduction (F := Ideal) (φ := .f32) (Read.val_main_v27 (F := Ideal) x0 x1) 0xFF800000#32
      reducesTo_S2x2x4x8192x8448_S2x2x4x8192_d4 h_S_ hr (.inl rfl) rfl) i).trans ?_
    refine (Ideal.multiReduction_maximumf_single _ _ hr (.inl rfl) rfl i).trans ?_
    show (Finset.univ : Finset (Fin 8448)).fold max (Ideal.ofBits .f32 0xFF800000#32) _ = _
    rw [ofBits_negInf]
    have e : Read.val_main_v27 (F := Ideal) x0 x1 ∘ hr.lift i = fun k => Read.val_main_v27 (F := Ideal) x0 x1 (Read.idx_main_v35 i k) :=
      funext fun k => congrArg (Read.val_main_v27 (F := Ideal) x0 x1) (funext fun a => by
        match a with | ⟨0, _⟩ => rfl | ⟨1, _⟩ => rfl | ⟨2, _⟩ => rfl | ⟨3, _⟩ => rfl | ⟨4, _⟩ => rfl)
    rw [e]
    exact fold_max_eq_sup (n := 8448) _
  show max (Ideal.ofBits .f32 0xFF800000#32) (Host.reduce (FloatOps.maximumf (F := Ideal) (φ := .f32)) (Read.val_main_v27 (F := Ideal) x0 x1) (constant S_ .f32 0xFF800000#32) reducesTo_S2x2x4x8192x8448_S2x2x4x8192_d4 h_S_ i) = _
  rw [e, ofBits_negInf]
  refine (top_add _ 0 8448 _ fun k => ?_).trans (by rw [Nat.zero_add])
  rw [score_8192, Nat.zero_add]

/-- A row's exponential relative to its maximum. -/
theorem exp_8192 (x0 : FVec Ideal S2x8448x1024 .f32) (x1 : FVec Ideal S2x8448x256 .f32) (i : S2x2x4x8192.Idx) (k : Fin 8448) :
    Read.val_main_v34 (F := Ideal) x0 x1 (Read.idx_main_v35 i k)
      = Ideal.exp (rowScore x0 x1 (i 0).val (i 1).val (i 2).val (256 + (i 3).val) k.val - top (rowScore x0 x1 (i 0).val (i 1).val (i 2).val (256 + (i 3).val)) 8448) := by
  rw [Read.val_main_v34_apply, Read.val_main_v33_apply, Read.val_main_v32_apply, Read.val_main_v31_apply, score_8192]
  have e : Read.idx_main_v31 (Read.idx_main_v32 (Read.idx_main_v35 i k)) = i := funext fun a => by
    match a with | ⟨0, _⟩ => rfl | ⟨1, _⟩ => rfl | ⟨2, _⟩ => rfl | ⟨3, _⟩ => rfl
  rw [e, max_8192]
  rfl

/-- A row's normaliser. -/
theorem den_8192 (x0 : FVec Ideal S2x8448x1024 .f32) (x1 : FVec Ideal S2x8448x256 .f32) (i : S2x2x4x8192.Idx) :
    Read.val_main_v35 (F := Ideal) x0 x1 i = den (rowScore x0 x1 (i 0).val (i 1).val (i 2).val (256 + (i 3).val)) 8448
      (top (rowScore x0 x1 (i 0).val (i 1).val (i 2).val (256 + (i 3).val)) 8448) := by
  rw [Read.val_main_v35_apply]
  show Ideal.ofBits .f32 0x00000000#32 + _ = _
  rw [Ideal.ofBits_zero_f32, zero_add]
  unfold den
  rw [Finset.sum_range]
  exact Finset.sum_congr rfl fun k _ => exp_8192 x0 x1 i k

/-- A row's mean of the values. -/
theorem mean_8192 (x0 : FVec Ideal S2x8448x1024 .f32) (x1 x2 : FVec Ideal S2x8448x256 .f32) (i : S2x8192x2x4x128.Idx) :
    Read.val_main_v40 (F := Ideal) x0 x1 x2 i = mean (rowScore x0 x1 (i 0).val (i 2).val (i 3).val (256 + (i 1).val))
      (fun k => atK x2 (i 0).val k ((i 2).val * 128 + (i 4).val)) 8448 := by
  have h0 : (i 0).val < 2 := (i 0).isLt
  have h2 : (i 2).val < 2 := (i 2).isLt
  have h4 : (i 4).val < 128 := (i 4).isLt
  rw [Read.val_main_v40_apply, Read.val_main_v39_apply]
  unfold mean
  rw [Finset.sum_range]
  refine Finset.sum_congr rfl fun k _ => ?_
  have hk := k.isLt
  rw [mul_comm, Read.val_main_v2_apply, Read.val_main_v38_apply, Read.val_main_v37_apply, Read.val_main_v36_apply]
  rw [key_eq x2 _ (i 0).val k.val ((i 2).val * 128 + (i 4).val)]
  · refine congrArg (· * atK x2 (i 0).val k.val ((i 2).val * 128 + (i 4).val)) ?_
    let r : S2x2x4x8192.Idx := fun a => match a with
      | ⟨0, _⟩ => i 0
      | ⟨1, _⟩ => i 2
      | ⟨2, _⟩ => i 3
      | ⟨3, _⟩ => i 1
    have e1 : Read.ridx_main_v39 (Read.idx_main_v40 i) k = Read.idx_main_v35 r k := funext fun a => by
      match a with | ⟨0, _⟩ => rfl | ⟨1, _⟩ => rfl | ⟨2, _⟩ => rfl | ⟨3, _⟩ => rfl | ⟨4, _⟩ => rfl
    have e2 : Read.idx_main_v36 (Read.idx_main_v37 (Read.idx_main_v35 r k)) = r := funext fun a => by
      match a with | ⟨0, _⟩ => rfl | ⟨1, _⟩ => rfl | ⟨2, _⟩ => rfl | ⟨3, _⟩ => rfl
    rw [e1, e2, exp_8192, den_8192]
    rfl
  · show ((((i 0).val * 8448 + k.val) * 2 + (i 2).val) * 128 + (i 4).val) / 2162688 = _; omega
  · show ((((i 0).val * 8448 + k.val) * 2 + (i 2).val) * 128 + (i 4).val) / 256 % 8448 = _; omega
  · show ((((i 0).val * 8448 + k.val) * 2 + (i 2).val) * 128 + (i 4).val) % 256 = _; omega

/-- The reference at an index. -/
theorem val_apply (x0 : FVec Ideal S2x8448x1024 .f32) (x1 x2 : FVec Ideal S2x8448x256 .f32) (i : S2x8448x1024.Idx) :
    Read.val_main_v43 (F := Ideal) x0 x1 x2 i
      = mean (score x0 x1 (i 0).val (i 1).val ((i 2).val / 128 * 128) ((i 2).val / 512 * 128))
        (fun k => atK x2 (i 0).val k ((i 2).val / 512 * 128 + (i 2).val % 128)) (if (i 1).val < 256 then 256 else 8448) := by
  have h0 : (i 0).val < 2 := (i 0).isLt
  have h1 : (i 1).val < 8448 := (i 1).isLt
  have h2 : (i 2).val < 1024 := (i 2).isLt
  rw [Read.val_main_v43_apply]
  show Read.val_main_v42 (F := Ideal) x0 x1 x2 i = _
  rw [Read.val_main_v42_apply]
  have c0 : (Read.idx_main_v42 i 0).val = (i 0).val := by
    show (((i 0).val * 8448 + (i 1).val) * 1024 + (i 2).val) / 8650752 = _; omega
  have c1 : (Read.idx_main_v42 i 1).val = (i 1).val := by
    show (((i 0).val * 8448 + (i 1).val) * 1024 + (i 2).val) / 1024 % 8448 = _; omega
  have c2 : (Read.idx_main_v42 i 2).val = (i 2).val / 512 := by
    show (((i 0).val * 8448 + (i 1).val) * 1024 + (i 2).val) / 512 % 2 = _; omega
  have c3 : (Read.idx_main_v42 i 3).val = (i 2).val / 128 % 4 := by
    show (((i 0).val * 8448 + (i 1).val) * 1024 + (i 2).val) / 128 % 4 = _; omega
  have c4 : (Read.idx_main_v42 i 4).val = (i 2).val % 128 := by
    show (((i 0).val * 8448 + (i 1).val) * 1024 + (i 2).val) % 128 = _; omega
  have c5 : ((i 2).val / 512 * 4 + (i 2).val / 128 % 4) * 128 = (i 2).val / 128 * 128 := by omega
  generalize Read.idx_main_v42 i = w at c0 c1 c2 c3 c4
  unfold Read.val_main_v41
  by_cases hc : (i 1).val < 256
  · rw [if_pos hc]
    let z : S2x256x2x4x128.Idx := fun a => match a with
      | ⟨0, _⟩ => w 0
      | ⟨1, _⟩ => (⟨(w 1).val, by omega⟩ : Fin 256)
      | ⟨2, _⟩ => w 2
      | ⟨3, _⟩ => w 3
      | ⟨4, _⟩ => w 4
    refine (concatenate_pair_apply_left (t := S2x8448x2x4x128) (s₁ := S2x256x2x4x128) (s₂ := S2x8192x2x4x128) 1 _ _
      concatenates_S2x256x2x4x128_S2x8192x2x4x128_S2x8448x2x4x128_d1 w rfl z (fun a => by
      match a with | ⟨0, _⟩ => rfl | ⟨1, _⟩ => rfl | ⟨2, _⟩ => rfl | ⟨3, _⟩ => rfl | ⟨4, _⟩ => rfl)).trans ?_
    refine (mean_256 x0 x1 x2 z).trans ?_
    show mean (score x0 x1 (w 0).val (w 1).val (((w 2).val * 4 + (w 3).val) * 128) ((w 2).val * 128)) (fun k => atK x2 (w 0).val k ((w 2).val * 128 + (w 4).val)) 256 = _
    rw [c0, c1, c2, c3, c4, c5]
  · rw [if_neg hc]
    let z : S2x8192x2x4x128.Idx := fun a => match a with
      | ⟨0, _⟩ => w 0
      | ⟨1, _⟩ => (⟨(w 1).val - 256, by omega⟩ : Fin 8192)
      | ⟨2, _⟩ => w 2
      | ⟨3, _⟩ => w 3
      | ⟨4, _⟩ => w 4
    refine (concatenate_pair_apply_right (t := S2x8448x2x4x128) (s₁ := S2x256x2x4x128) (s₂ := S2x8192x2x4x128) 1 _ _
      concatenates_S2x256x2x4x128_S2x8192x2x4x128_S2x8448x2x4x128_d1 w rfl rfl z
      (fun a h => by match a with | ⟨0, _⟩ => rfl | ⟨1, _⟩ => exact absurd rfl h | ⟨2, _⟩ => rfl | ⟨3, _⟩ => rfl | ⟨4, _⟩ => rfl)
      (by show (w 1).val - 256 + 256 = (w 1).val; omega)).trans ?_
    refine (mean_8192 x0 x1 x2 z).trans ?_
    show mean (score x0 x1 (w 0).val (256 + ((w 1).val - 256)) (((w 2).val * 4 + (w 3).val) * 128) ((w 2).val * 128)) (fun k => atK x2 (w 0).val k ((w 2).val * 128 + (w 4).val)) 8448 = _
    have c6 : 256 + ((i 1).val - 256) = (i 1).val := by omega
    rw [c0, c1, c2, c3, c4, c5, c6]

end Cert.FlashRefIdeal.Softmax

end
-- ==== Proof.FlashClaims.lean ====
/-
  The attention: the claims of the kernel and of its reference.
-/
module

public import proofs.«01_k».proof.Defs
public import proofs.«01_k».proof.Proof.Gen.FlashRefIdeal.Run
public import Idealize.ShloMosaic.Lib.Quiescent
public import proofs.«01_k».proof.Proof.FlashSteps

@[expose] public section

noncomputable section

open Idealize.ShloMosaic Idealize.ShloMosaic.TcCoe Idealize.SL.Sem

namespace Cert.Proof.Flash

/-- The reference runs and leaves its arguments as they were. -/
theorem frame_ref : Cert.quiescent_FlashRefIdeal := fun m ρ _ =>
  (θ_run Cert.FlashRefIdeal.defs _ _).mono (fun r h => ⟨fun c => (h c).2,
      Idealize.ShloMosaic.sem_eq_zero_of_no_sems (by decide) r.2⟩)
    (Cert.FlashRefIdeal.Value.run (F := Ideal) m ρ)

end Cert.Proof.Flash

end
-- ==== Proof.FlashValue.lean ====
/-
  The attention's claim: with finite queries and keys, kernel and reference end with the same array.
-/
module

public import proofs.«01_k».proof.Defs
public import proofs.«01_k».proof.Proof.FlashRef
public import proofs.«01_k».proof.Proof.FlashClaims
public import proofs.«01_k».proof.Proof.Gen.Pre_finite_scores
public import Idealize.ShloMosaic.Lib.Pointwise.Select

@[expose] public section

set_option maxRecDepth 16384

noncomputable section

open Idealize.ShloMosaic Idealize.ShloMosaic.TcCoe Idealize.SL.Sem Idealize.ShloMosaic.ValueIdx
open Cert.FlashIdeal.Steps (atQ atK score scale argQ argK argV sAt)

namespace Cert.Proof.Flash

/-- An extended real whose absolute value is below infinity is a real. -/
theorem real_of_abs (x : EReal) (h : max x (-x) < ⊤) : ∃ r : ℝ, x = (r : EReal) := by
  have h1 : x ≠ ⊤ := fun e => by rw [e] at h; simp at h
  have h2 : x ≠ ⊥ := fun e => by rw [e] at h; simp at h
  exact ⟨x.toReal, (EReal.coe_toReal h1 h2).symm⟩

/-- The precondition, at an entry of the queries and the keys laid side by side. -/
theorem entry (x0 : FVec Ideal Cert.Pre_finite_scores.S2x8448x1024 .f32) (x1 x2 : FVec Ideal Cert.Pre_finite_scores.S2x8448x256 .f32)
    (h : Cert.Pre_finite_scores.fn (F := Ideal) x0 x1 x2 = fun _ => 1#1) (j : Cert.Pre_finite_scores.S2x8448x1280.Idx) :
    ∃ r : ℝ, (concatenate Cert.Pre_finite_scores.S2x8448x1280 2 [⟨Cert.Pre_finite_scores.S2x8448x1024, x0⟩, ⟨Cert.Pre_finite_scores.S2x8448x256, x1⟩]
      Cert.Pre_finite_scores.Facts.concatenates_S2x8448x1024_S2x8448x256_S2x8448x1280_d2 j : EReal) = (r : EReal) := by
  have hj := congrFun h j
  refine real_of_abs _ ?_
  refine lt_of_lt_of_le ((Ideal.cmp_olt_eq_one _ _).1 hj) le_top

/-- Every query is a real. -/
theorem query_real (x0 : FVec Ideal Cert.Pre_finite_scores.S2x8448x1024 .f32) (x1 x2 : FVec Ideal Cert.Pre_finite_scores.S2x8448x256 .f32)
    (h : Cert.Pre_finite_scores.fn (F := Ideal) x0 x1 x2 = fun _ => 1#1) (j : Cert.Pre_finite_scores.S2x8448x1024.Idx) :
    ∃ r : ℝ, (x0 j : EReal) = (r : EReal) := by
  have l2 : (j 2).val < 1024 := (j 2).isLt
  obtain ⟨r, hr⟩ := entry x0 x1 x2 h (ValueIdx.ix3 (j 0) (j 1) (⟨(j 2).val, by omega⟩ : Fin 1280))
  refine ⟨r, Eq.trans (Eq.symm ?_) hr⟩
  exact concatenate_pair_apply_left (t := Cert.Pre_finite_scores.S2x8448x1280) (s₁ := Cert.Pre_finite_scores.S2x8448x1024)
    (s₂ := Cert.Pre_finite_scores.S2x8448x256) 2 _ _ _ _ rfl j (fun a => by match a with | ⟨0, _⟩ => rfl | ⟨1, _⟩ => rfl | ⟨2, _⟩ => rfl)

/-- Every key is a real. -/
theorem key_real (x0 : FVec Ideal Cert.Pre_finite_scores.S2x8448x1024 .f32) (x1 x2 : FVec Ideal Cert.Pre_finite_scores.S2x8448x256 .f32)
    (h : Cert.Pre_finite_scores.fn (F := Ideal) x0 x1 x2 = fun _ => 1#1) (j : Cert.Pre_finite_scores.S2x8448x256.Idx) :
    ∃ r : ℝ, (x1 j : EReal) = (r : EReal) := by
  have l2 : (j 2).val < 256 := (j 2).isLt
  obtain ⟨r, hr⟩ := entry x0 x1 x2 h (ValueIdx.ix3 (j 0) (j 1) (⟨(j 2).val + 1024, by omega⟩ : Fin 1280))
  refine ⟨r, Eq.trans (Eq.symm ?_) hr⟩
  exact concatenate_pair_apply_right (t := Cert.Pre_finite_scores.S2x8448x1280) (s₁ := Cert.Pre_finite_scores.S2x8448x1024)
    (s₂ := Cert.Pre_finite_scores.S2x8448x256) 2 _ _ _ _ rfl rfl j
    (fun a h => by match a with | ⟨0, _⟩ => rfl | ⟨1, _⟩ => rfl | ⟨2, _⟩ => exact absurd rfl h) rfl

/-- The sum of reals, read among the extended reals. -/
theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

/-- A score of reals is a real. -/
theorem score_real (Q : FVec Ideal Cert.FlashIdeal.S2x8448x1024 .f32) (K : FVec Ideal Cert.FlashIdeal.S2x8448x256 .f32)
    (hQ : ∀ j, ∃ r : ℝ, (Q j : EReal) = (r : EReal)) (hK : ∀ j, ∃ r : ℝ, (K j : EReal) = (r : EReal)) (b t q0 k0 k : ℕ) :
    ∃ r : ℝ, score Q K b t q0 k0 k = (r : EReal) := by
  obtain ⟨s, _, hs⟩ := Cert.FlashRefIdeal.Softmax.scale_real
  choose q hq using hQ
  choose κ hκ using hK
  refine ⟨∑ d : Fin 128, q (ValueIdx.ix3 (Fin.ofNat 2 b) (Fin.ofNat 8448 t) (Fin.ofNat 1024 (q0 + d.val))) * s
    * κ (ValueIdx.ix3 (Fin.ofNat 2 b) (Fin.ofNat 8448 k) (Fin.ofNat 256 (k0 + d.val))), ?_⟩
  unfold score
  rw [coe_sum]
  refine Finset.sum_congr rfl fun d _ => ?_
  unfold atQ atK
  rw [hs, hq, hκ, EReal.coe_mul, EReal.coe_mul]

/-- Under the precondition every score of the kernel is a real. -/
theorem scores_finite (m : (ℓ : Loc Cert.FlashIdeal.nD Cert.FlashIdeal.τ Cert.FlashIdeal.sig) → Buf (Elt Ideal) ℓ)
    (h : Cert.Pre_FlashIdeal_finite_scores m) (c : Dev Cert.FlashIdeal.nD) (n : ℕ) (r : Fin 1024) (k : ℕ) :
    sAt m c n r k ≠ ⊤ ∧ sAt m c n r k ≠ ⊥ := by
  obtain ⟨x, hx⟩ := score_real (argQ m c) (argK m c) (query_real _ _ _ (h c)) (key_real _ _ _ (h c)) (n / 726)
    (n / 11 % 33 * 256 + r.val % 256) (n / 363 % 2 * 512 + r.val / 256 * 128) (n / 363 % 2 * 128) k
  unfold sAt
  rw [hx]
  exact ⟨EReal.coe_ne_top x, EReal.coe_ne_bot x⟩

/-- Kernel and reference end with the same attention. -/
theorem algebraic : Cert.algebraic_FlashIdeal_FlashRefIdeal_pre_finite_scores := fun m ρ m' ρ' hpre hag =>
  ⟨fun c => Cert.FlashIdeal.Steps.G m c, Cert.FlashIdeal.Steps.run m ρ (scores_finite m hpre),
    (θ_run Cert.FlashRefIdeal.defs _ _).mono (fun _ h c => ⟨by
        rw [(h c).1, Cert.FlashRefIdeal.Read.val_main_v43_eq, (hag c).1, (hag c).2.1, (hag c).2.2]
        exact funext fun i => Cert.FlashRefIdeal.Softmax.val_apply _ _ _ i, (h c).2⟩)
      (Cert.FlashRefIdeal.Value.run (F := Ideal) m' ρ')⟩

/-- The reference runs under the precondition too. -/
theorem frame_ref_pre : Cert.quiescent_FlashRefIdeal_pre_finite_scores := fun m ρ _ => frame_ref m ρ trivial

end Cert.Proof.Flash

end
-- ==== Proof.AttInValue.lean ====
/-
  The attention layer's input projection: the kernel's result array is `n · w`, and the host's product is the same.
-/
module

public import proofs.«01_k».proof.Defs
public import proofs.«01_k».proof.Proof.MatBlock
public import proofs.«01_k».proof.Proof.Gen.AttInIdeal.Value
public import proofs.«01_k».proof.Proof.Gen.AttInRefIdeal.Run
public import proofs.«01_k».proof.Proof.Gen.AttInRefIdeal.Read

@[expose] public section

set_option maxRecDepth 16384

noncomputable section

open Idealize.ShloMosaic Idealize.ShloMosaic.TcCoe Idealize.SL.Sem Idealize.ShloMosaic.ValueIdx
open Cert.MatBlock

namespace Cert.AttInIdeal.Product

open Cert.AttInIdeal Cert.AttInIdeal.Gen

variable (m : (ℓ : Loc nD τ sig) → Buf (Elt Ideal) ℓ) (ρ : Dev nD → PrngReg)

/-- The product of the two argument arrays, element by element: what the result array is shown to hold. -/
def G (c : Dev nD) : Buf (Elt Ideal) ((c : Thread nD τ).loc main_v1) := fun i : S16896x4608.Idx =>
  prodAt (M := 16896) (K := 2048) (N := 4608) (m ((c : Thread nD τ).loc main_arg0)) (m ((c : Thread nD τ).loc main_arg1)) (i 0) (i 1)

/-- Where the three windows stand at grid point `t`: row tile `t % 33`, column tile `t / 33`. -/
theorem idx_facts : ∀ t : Fin cfg0.N, (win0_0.index t 0 = t.val % 33 ∧ win0_0.index t 1 = 0)
    ∧ (win0_1.index t 0 = 0 ∧ win0_1.index t 1 = t.val / 33)
    ∧ (win0_2.index t 0 = t.val % 33 ∧ win0_2.index t 1 = t.val / 33) :=
  (by decide +kernel : ∀ t : Fin grid0.N, (win0_0.index t 0 = t.val % 33 ∧ win0_0.index t 1 = 0)
    ∧ (win0_1.index t 0 = 0 ∧ win0_1.index t 1 = t.val / 33)
    ∧ (win0_2.index t 0 = t.val % 33 ∧ win0_2.index t 1 = t.val / 33))

/-- The row block the body reads at `t`: rows `512 · (t % 33) + r` of the first argument. -/
theorem iblk0_apply (c : Dev nD) (t : Fin cfg0.N) (r : Fin 512) (k : Fin 2048) (R : Fin 16896)
    (hR : R.val = t.val % 33 * 512 + r.val) :
    (iblk m c 0 t : Vec Ideal S512x2048 .bf16) (ix2 r k) = m ((c : Thread nD τ).loc main_arg0) (ix2 R k) := by
  obtain ⟨⟨h0, h1⟩, _, _⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = R.val; rw [h0, hR]; omega
  | ⟨1, _⟩ => show win0_0.index t 1 * 2048 + 1 * k.val = k.val; rw [h1]; omega

/-- The column block the body reads at `t`: columns `1536 · (t / 33) + q` of the second argument, whose cast changes nothing. -/
theorem iblk1_apply (c : Dev nD) (t : Fin cfg0.N) (k : Fin 2048) (q : Fin 1536) (Q : Fin 4608)
    (hQ : Q.val = t.val / 33 * 1536 + q.val) :
    (iblk m c 1 t : Vec Ideal S2048x1536 .bf16) (ix2 k q) = m ((c : Thread nD τ).loc main_arg1) (ix2 k Q) := by
  obtain ⟨_, ⟨h0, h1⟩, _⟩ := idx_facts t
  have hv : V m c main_v0 = (truncf (F := Ideal) (s := S2048x4608) (φ := .f32) .bf16 (m ((c : Thread nD τ).loc main_arg1)) bitsLt_bf16_f32 : FVec Ideal S2048x4608 .bf16) := by
    unfold V; after_results
  unfold iblk
  rw [View.read_apply]
  show V m c main_v0 _ = _
  rw [hv]
  show m ((c : Thread nD τ).loc main_arg1) _ = _
  congr 1
  funext a
  apply Fin.ext
  match a with
  | ⟨0, _⟩ => show win0_1.index t 0 * 2048 + 1 * k.val = k.val; rw [h0]; omega
  | ⟨1, _⟩ => show win0_1.index t 1 * 1536 + 1 * q.val = Q.val; rw [h1, hQ]; omega

/-- What point `t` writes back is block `t` of the product. -/
theorem flushed_eq (c : Dev nD) (t : Fin cfg0.N) :
    (dats m 0 c).flushed 2 t = ((cfg0.win 2).blk t).view.read (Elt Ideal) (G m c) := by
  have hN : cfg0.N = 99 := N_0
  have ht := t.isLt
  obtain ⟨_, _, h0, h1⟩ := idx_facts t
  rw [Value.flushed2]
  unfold out0_2
  rw [View.canon_unit_zero hz2, View.ld_unit_zero hz2, View.ld_unit_zero hz2]
  funext j
  rw [View.read_apply]
  obtain ⟨r, q, rfl⟩ : ∃ (r : Fin 512) (q : Fin 1536), j = ix2 r q := ⟨j 0, j 1, eq_ix2 j⟩
  have e : ((cfg0.win 2).blk t).view.emb (ix2 r q)
      = ix2 (⟨t.val % 33 * 512 + r.val, by omega⟩ : Fin 16896) (⟨t.val / 33 * 1536 + q.val, by omega⟩ : Fin 4608) := by
    funext a
    apply Fin.ext
    match a with
    | ⟨0, _⟩ => show win0_2.index t 0 * 512 + 1 * r.val = t.val % 33 * 512 + r.val; rw [h0]; omega
    | ⟨1, _⟩ => show win0_2.index t 1 * 1536 + 1 * q.val = t.val / 33 * 1536 + q.val; rw [h1]; omega
  rw [e]
  show k0_pay1 (F := Ideal) (iblk m c 0 t) (iblk m c 1 t) (ix2 r q) = prodAt _ _ _ _
  unfold k0_pay1
  rw [shapeCast_self]
  refine (matmul_zero_apply (M := 512) (K := 2048) (N := 1536) _ _ r q).trans ?_
  unfold prodAt
  exact Finset.sum_congr rfl fun k _ => by
    rw [iblk0_apply m c t r k ⟨t.val % 33 * 512 + r.val, by omega⟩ rfl,
      iblk1_apply m c t k q ⟨t.val / 33 * 1536 + q.val, by omega⟩ rfl]

/-- An index of the result array is in point `t`'s block exactly when its row and column are in tile `t`. -/
theorem mem_blk (t : Fin cfg0.N) (i : S16896x4608.Idx) :
    i ∈ ((cfg0.win 2).blk t).view.set ↔ (t.val % 33 * 512 ≤ (i 0 : Nat) ∧ (i 0 : Nat) < t.val % 33 * 512 + 512)
      ∧ (t.val / 33 * 1536 ≤ (i 1 : Nat) ∧ (i 1 : Nat) < t.val / 33 * 1536 + 1536) := by
  obtain ⟨_, _, h0, h1⟩ := idx_facts t
  show i ∈ ((View.whole main_v1).slice (win0_2.rect t)).set ↔ _
  rw [View.set_slice_whole, Rect.mem_set_unit]
  constructor
  · intro h
    have a0 : win0_2.index t 0 * 512 ≤ (i 0 : Nat) ∧ (i 0 : Nat) < win0_2.index t 0 * 512 + 512 := h 0
    have a1 : win0_2.index t 1 * 1536 ≤ (i 1 : Nat) ∧ (i 1 : Nat) < win0_2.index t 1 * 1536 + 1536 := h 1
    rw [h0] at a0
    rw [h1] at a1
    exact ⟨a0, a1⟩
  · intro h a
    match a with
    | ⟨0, _⟩ => show win0_2.index t 0 * 512 ≤ (i 0 : Nat) ∧ (i 0 : Nat) < win0_2.index t 0 * 512 + 512; rw [h0]; exact h.1
    | ⟨1, _⟩ => show win0_2.index t 1 * 1536 ≤ (i 1 : Nat) ∧ (i 1 : Nat) < win0_2.index t 1 * 1536 + 1536; rw [h1]; exact h.2

/-- The tiles cover the result array. -/
theorem cover (i : S16896x4608.Idx) : ∃ t : Fin cfg0.N, (cfg0.win 2).flush t = true ∧ i ∈ ((cfg0.win 2).blk t).view.set := by
  have hN : cfg0.N = 99 := N_0
  have h0 : (i 0 : Nat) < 16896 := (i 0).isLt
  have h1 : (i 1 : Nat) < 4608 := (i 1).isLt
  refine ⟨⟨(i 1 : Nat) / 1536 * 33 + (i 0 : Nat) / 512, by omega⟩, flush0_2 _, ?_⟩
  rw [mem_blk]
  dsimp only
  omega

/-- The run of the kernel: the result array ends as the product, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (G m c) (fun t _ => flushed_eq m c t) cover),
    (h c).2.1, (h c).2.2⟩) (Value.run_blocks m ρ)

end Cert.AttInIdeal.Product

namespace Cert.AttInRefIdeal.Product

open Cert.AttInRefIdeal Cert.AttInRefIdeal.Gen

/-- The host's product at an index is the same sum. -/
theorem val_apply (x0 : (⟨S16896x2048, .bf16⟩ : BufTy).Contents (Elt Ideal)) (x1 : (⟨S2048x4608, .f32⟩ : BufTy).Contents (Elt Ideal))
    (i : S16896x4608.Idx) : Read.val_main_v1 (F := Ideal) x0 x1 i = prodAt (M := 16896) (K := 2048) (N := 4608) x0 x1 (i 0) (i 1) := by
  rw [Read.val_main_v1_apply]
  unfold prodAt
  refine Finset.sum_congr rfl fun k _ => ?_
  rw [Read.val_main_v0_apply]
  have el : Read.lidx_main_v1 i k = ix2 (i 0) k := funext fun a => by match a with | ⟨0, _⟩ => rfl | ⟨1, _⟩ => rfl
  have er : Read.ridx_main_v1 i k = ix2 k (i 1) := funext fun a => by match a with | ⟨0, _⟩ => rfl | ⟨1, _⟩ => rfl
  rw [el, er]
  rfl

end Cert.AttInRefIdeal.Product

namespace Cert.Proof.AttIn

/-- The reference runs and leaves its arguments as they were. -/
theorem frame_ref : Cert.quiescent_AttInRefIdeal := fun m ρ _ =>
  (θ_run Cert.AttInRefIdeal.defs _ _).mono (fun r h => ⟨fun c => ⟨(h c).2.1, (h c).2.2⟩,
      Idealize.ShloMosaic.sem_eq_zero_of_no_sems (by decide) r.2⟩)
    (Cert.AttInRefIdeal.Value.run (F := Ideal) m ρ)

/-- The kernel and the reference compute the same projection. -/
theorem algebraic : Cert.algebraic_AttInIdeal_AttInRefIdeal := fun m ρ m' ρ' _ hag =>
  ⟨fun c => Cert.AttInIdeal.Product.G m c, Cert.AttInIdeal.Product.run m ρ,
    (θ_run Cert.AttInRefIdeal.defs _ _).mono (fun _ h c => ⟨by
        rw [(h c).1, Cert.AttInRefIdeal.Read.val_main_v1_eq, (hag c).1, (hag c).2]
        exact funext fun i => Cert.AttInRefIdeal.Product.val_apply _ _ i, (h c).2⟩)
      (Cert.AttInRefIdeal.Value.run (F := Ideal) m' ρ')⟩

end Cert.Proof.AttIn

end
-- ==== Proof.SsmInValue.lean ====
/-
  The state-space layer's input projection, its first 12288 columns: the kernel's result array is `n · w[:, :12288]`,
  and the host's product, cut to the same columns, is the same.
-/
module

public import proofs.«01_k».proof.Defs
public import proofs.«01_k».proof.Proof.MatBlock
public import proofs.«01_k».proof.Proof.Gen.SsmInIdeal.Value
public import proofs.«01_k».proof.Proof.Gen.SsmInRefIdeal.Run
public import proofs.«01_k».proof.Proof.Gen.SsmInRefIdeal.Read

@[expose] public section

set_option maxRecDepth 16384

noncomputable section

open Idealize.ShloMosaic Idealize.ShloMosaic.TcCoe Idealize.SL.Sem Idealize.ShloMosaic.ValueIdx
open Cert.MatBlock

namespace Cert.SsmInIdeal.Product

open Cert.SsmInIdeal Cert.SsmInIdeal.Gen

variable (m : (ℓ : Loc nD τ sig) → Buf (Elt Ideal) ℓ) (ρ : Dev nD → PrngReg)

/-- Column `q` of the result as a column of the whole weight array. -/
def col (q : Fin 12288) : Fin 12416 := ⟨0 + q.val, by omega⟩

/-- The product of the two argument arrays at the result's columns: what the result array is shown to hold. -/
def G (c : Dev nD) : Buf (Elt Ideal) ((c : Thread nD τ).loc main_v2) := fun i : S16896x12288.Idx =>
  prodAt (M := 16896) (K := 2048) (N := 12416) (m ((c : Thread nD τ).loc main_arg0)) (m ((c : Thread nD τ).loc main_arg1)) (i 0) (col (i 1))

/-- Where the three windows stand at grid point `t`: row tile `t % 33`, column tile `t / 33`. -/
theorem idx_facts : ∀ t : Fin cfg0.N, (win0_0.index t 0 = t.val % 33 ∧ win0_0.index t 1 = 0)
    ∧ (win0_1.index t 0 = 0 ∧ win0_1.index t 1 = t.val / 33)
    ∧ (win0_2.index t 0 = t.val % 33 ∧ win0_2.index t 1 = t.val / 33) :=
  (by decide +kernel : ∀ t : Fin grid0.N, (win0_0.index t 0 = t.val % 33 ∧ win0_0.index t 1 = 0)
    ∧ (win0_1.index t 0 = 0 ∧ win0_1.index t 1 = t.val / 33)
    ∧ (win0_2.index t 0 = t.val % 33 ∧ win0_2.index t 1 = t.val / 33))

/-- The row block the body reads at `t`: rows `512 · (t % 33) + r` of the first argument. -/
theorem iblk0_apply (c : Dev nD) (t : Fin cfg0.N) (r : Fin 512) (k : Fin 2048) (R : Fin 16896)
    (hR : R.val = t.val % 33 * 512 + r.val) :
    (iblk m c 0 t : Vec Ideal S512x2048 .bf16) (ix2 r k) = m ((c : Thread nD τ).loc main_arg0) (ix2 R k) := by
  obtain ⟨⟨h0, h1⟩, _, _⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = R.val; rw [h0, hR]; omega
  | ⟨1, _⟩ => show win0_0.index t 1 * 2048 + 1 * k.val = k.val; rw [h1]; omega

/-- The column block the body reads at `t`: columns `1536 · (t / 33) + q` of the second argument, counted from the slice's first column; the cast changes nothing. -/
theorem iblk1_apply (c : Dev nD) (t : Fin cfg0.N) (k : Fin 2048) (q : Fin 1536) (Q : Fin 12288)
    (hQ : Q.val = t.val / 33 * 1536 + q.val) :
    (iblk m c 1 t : Vec Ideal S2048x1536 .bf16) (ix2 k q) = m ((c : Thread nD τ).loc main_arg1) (ix2 k (col Q)) := by
  obtain ⟨_, ⟨h0, h1⟩, _⟩ := idx_facts t
  have hv : V m c main_v1 = (truncf (F := Ideal) (s := S2048x12288) (φ := .f32) .bf16 (extractStridedSlice S2048x12288 ![0, 0]
      (m ((c : Thread nD τ).loc main_arg1)) slices_S2048x12416_S2048x12288_0_0) bitsLt_bf16_f32 : FVec Ideal S2048x12288 .bf16) := by
    unfold V; after_results
  unfold iblk
  rw [View.read_apply]
  show V m c main_v1 _ = _
  rw [hv]
  show m ((c : Thread nD τ).loc main_arg1) _ = _
  congr 1
  funext a
  apply Fin.ext
  match a with
  | ⟨0, _⟩ => show 0 + (win0_1.index t 0 * 2048 + 1 * k.val) = k.val; rw [h0]; omega
  | ⟨1, _⟩ => show 0 + (win0_1.index t 1 * 1536 + 1 * q.val) = 0 + Q.val; rw [h1, hQ]; omega

/-- What point `t` writes back is block `t` of the product. -/
theorem flushed_eq (c : Dev nD) (t : Fin cfg0.N) :
    (dats m 0 c).flushed 2 t = ((cfg0.win 2).blk t).view.read (Elt Ideal) (G m c) := by
  have hN : cfg0.N = 264 := N_0
  have ht := t.isLt
  obtain ⟨_, _, h0, h1⟩ := idx_facts t
  rw [Value.flushed2]
  unfold out0_2
  rw [View.canon_unit_zero hz2, View.ld_unit_zero hz2, View.ld_unit_zero hz2]
  funext j
  rw [View.read_apply]
  obtain ⟨r, q, rfl⟩ : ∃ (r : Fin 512) (q : Fin 1536), j = ix2 r q := ⟨j 0, j 1, eq_ix2 j⟩
  have e : ((cfg0.win 2).blk t).view.emb (ix2 r q)
      = ix2 (⟨t.val % 33 * 512 + r.val, by omega⟩ : Fin 16896) (⟨t.val / 33 * 1536 + q.val, by omega⟩ : Fin 12288) := by
    funext a
    apply Fin.ext
    match a with
    | ⟨0, _⟩ => show win0_2.index t 0 * 512 + 1 * r.val = t.val % 33 * 512 + r.val; rw [h0]; omega
    | ⟨1, _⟩ => show win0_2.index t 1 * 1536 + 1 * q.val = t.val / 33 * 1536 + q.val; rw [h1]; omega
  rw [e]
  show k0_pay1 (F := Ideal) (iblk m c 0 t) (iblk m c 1 t) (ix2 r q) = prodAt _ _ _ _
  unfold k0_pay1
  rw [shapeCast_self]
  refine (matmul_zero_apply (M := 512) (K := 2048) (N := 1536) _ _ r q).trans ?_
  unfold prodAt
  exact Finset.sum_congr rfl fun k _ => by
    rw [iblk0_apply m c t r k ⟨t.val % 33 * 512 + r.val, by omega⟩ rfl,
      iblk1_apply m c t k q ⟨t.val / 33 * 1536 + q.val, by omega⟩ rfl]

/-- An index of the result array is in point `t`'s block exactly when its row and column are in tile `t`. -/
theorem mem_blk (t : Fin cfg0.N) (i : S16896x12288.Idx) :
    i ∈ ((cfg0.win 2).blk t).view.set ↔ (t.val % 33 * 512 ≤ (i 0 : Nat) ∧ (i 0 : Nat) < t.val % 33 * 512 + 512)
      ∧ (t.val / 33 * 1536 ≤ (i 1 : Nat) ∧ (i 1 : Nat) < t.val / 33 * 1536 + 1536) := by
  obtain ⟨_, _, h0, h1⟩ := idx_facts t
  show i ∈ ((View.whole main_v2).slice (win0_2.rect t)).set ↔ _
  rw [View.set_slice_whole, Rect.mem_set_unit]
  constructor
  · intro h
    have a0 : win0_2.index t 0 * 512 ≤ (i 0 : Nat) ∧ (i 0 : Nat) < win0_2.index t 0 * 512 + 512 := h 0
    have a1 : win0_2.index t 1 * 1536 ≤ (i 1 : Nat) ∧ (i 1 : Nat) < win0_2.index t 1 * 1536 + 1536 := h 1
    rw [h0] at a0
    rw [h1] at a1
    exact ⟨a0, a1⟩
  · intro h a
    match a with
    | ⟨0, _⟩ => show win0_2.index t 0 * 512 ≤ (i 0 : Nat) ∧ (i 0 : Nat) < win0_2.index t 0 * 512 + 512; rw [h0]; exact h.1
    | ⟨1, _⟩ => show win0_2.index t 1 * 1536 ≤ (i 1 : Nat) ∧ (i 1 : Nat) < win0_2.index t 1 * 1536 + 1536; rw [h1]; exact h.2

/-- The tiles cover the result array. -/
theorem cover (i : S16896x12288.Idx) : ∃ t : Fin cfg0.N, (cfg0.win 2).flush t = true ∧ i ∈ ((cfg0.win 2).blk t).view.set := by
  have hN : cfg0.N = 264 := N_0
  have h0 : (i 0 : Nat) < 16896 := (i 0).isLt
  have h1 : (i 1 : Nat) < 12288 := (i 1).isLt
  refine ⟨⟨(i 1 : Nat) / 1536 * 33 + (i 0 : Nat) / 512, by omega⟩, flush0_2 _, ?_⟩
  rw [mem_blk]
  dsimp only
  omega

/-- The run of the kernel: the result array ends as the product, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (G m c) (fun t _ => flushed_eq m c t) cover),
    (h c).2.1, (h c).2.2⟩) (Value.run_blocks m ρ)

end Cert.SsmInIdeal.Product

namespace Cert.SsmInRefIdeal.Product

open Cert.SsmInRefIdeal Cert.SsmInRefIdeal.Gen

/-- The host's product, cut to the result's columns, at an index is the same sum. -/
theorem val_apply (x0 : (⟨S16896x2048, .bf16⟩ : BufTy).Contents (Elt Ideal)) (x1 : (⟨S2048x12416, .f32⟩ : BufTy).Contents (Elt Ideal))
    (i : S16896x12288.Idx) : Read.val_main_v2 (F := Ideal) x0 x1 i
      = prodAt (M := 16896) (K := 2048) (N := 12416) x0 x1 (i 0) (Cert.SsmInIdeal.Product.col (i 1)) := by
  rw [Read.val_main_v2_apply, Read.val_main_v1_apply]
  unfold prodAt
  refine Finset.sum_congr rfl fun k _ => ?_
  rw [Read.val_main_v0_apply]
  have el : Read.lidx_main_v1 (Read.idx_main_v2 i) k = ix2 (i 0) k :=
    funext fun a => Fin.ext (by match a with | ⟨0, _⟩ => rfl | ⟨1, _⟩ => rfl)
  have er : Read.ridx_main_v1 (Read.idx_main_v2 i) k = ix2 k (Cert.SsmInIdeal.Product.col (i 1)) :=
    funext fun a => Fin.ext (by match a with | ⟨0, _⟩ => rfl | ⟨1, _⟩ => exact (Nat.zero_add _).symm)
  rw [el, er]
  rfl

end Cert.SsmInRefIdeal.Product

namespace Cert.Proof.SsmIn

/-- The reference runs and leaves its arguments as they were. -/
theorem frame_ref : Cert.quiescent_SsmInRefIdeal := fun m ρ _ =>
  (θ_run Cert.SsmInRefIdeal.defs _ _).mono (fun r h => ⟨fun c => ⟨(h c).2.1, (h c).2.2⟩,
      Idealize.ShloMosaic.sem_eq_zero_of_no_sems (by decide) r.2⟩)
    (Cert.SsmInRefIdeal.Value.run (F := Ideal) m ρ)

/-- The kernel and the reference compute the same projection. -/
theorem algebraic : Cert.algebraic_SsmInIdeal_SsmInRefIdeal := fun m ρ m' ρ' _ hag =>
  ⟨fun c => Cert.SsmInIdeal.Product.G m c, Cert.SsmInIdeal.Product.run m ρ,
    (θ_run Cert.SsmInRefIdeal.defs _ _).mono (fun _ h c => ⟨by
        rw [(h c).1, Cert.SsmInRefIdeal.Read.val_main_v2_eq, (hag c).1, (hag c).2]
        exact funext fun i => Cert.SsmInRefIdeal.Product.val_apply _ _ i, (h c).2⟩)
      (Cert.SsmInRefIdeal.Value.run (F := Ideal) m' ρ')⟩

end Cert.Proof.SsmIn

end
-- ==== Proof.DtInValue.lean ====
/-
  The state-space layer's input projection, its last 128 columns (the time steps): the kernel's result array is
  `n · w[:, 12288:]`, and the host's product, cut to the same columns, is the same.
-/
module

public import proofs.«01_k».proof.Defs
public import proofs.«01_k».proof.Proof.MatBlock
public import proofs.«01_k».proof.Proof.Gen.DtInIdeal.Value
public import proofs.«01_k».proof.Proof.Gen.DtInRefIdeal.Run
public import proofs.«01_k».proof.Proof.Gen.DtInRefIdeal.Read

@[expose] public section

set_option maxRecDepth 16384

noncomputable section

open Idealize.ShloMosaic Idealize.ShloMosaic.TcCoe Idealize.SL.Sem Idealize.ShloMosaic.ValueIdx
open Cert.MatBlock

namespace Cert.DtInIdeal.Product

open Cert.DtInIdeal Cert.DtInIdeal.Gen

variable (m : (ℓ : Loc nD τ sig) → Buf (Elt Ideal) ℓ) (ρ : Dev nD → PrngReg)

/-- Column `q` of the result as a column of the whole weight array. -/
def col (q : Fin 128) : Fin 12416 := ⟨12288 + q.val, by omega⟩

/-- The product of the two argument arrays at the result's columns: what the result array is shown to hold. -/
def G (c : Dev nD) : Buf (Elt Ideal) ((c : Thread nD τ).loc main_v2) := fun i : S16896x128.Idx =>
  prodAt (M := 16896) (K := 2048) (N := 12416) (m ((c : Thread nD τ).loc main_arg0)) (m ((c : Thread nD τ).loc main_arg1)) (i 0) (col (i 1))

/-- Where the three windows stand at grid point `t`: row tile `t % 33`, column tile `t / 33`. -/
theorem idx_facts : ∀ t : Fin cfg0.N, (win0_0.index t 0 = t.val % 33 ∧ win0_0.index t 1 = 0)
    ∧ (win0_1.index t 0 = 0 ∧ win0_1.index t 1 = t.val / 33)
    ∧ (win0_2.index t 0 = t.val % 33 ∧ win0_2.index t 1 = t.val / 33) :=
  (by decide +kernel : ∀ t : Fin grid0.N, (win0_0.index t 0 = t.val % 33 ∧ win0_0.index t 1 = 0)
    ∧ (win0_1.index t 0 = 0 ∧ win0_1.index t 1 = t.val / 33)
    ∧ (win0_2.index t 0 = t.val % 33 ∧ win0_2.index t 1 = t.val / 33))

/-- The row block the body reads at `t`: rows `512 · (t % 33) + r` of the first argument. -/
theorem iblk0_apply (c : Dev nD) (t : Fin cfg0.N) (r : Fin 512) (k : Fin 2048) (R : Fin 16896)
    (hR : R.val = t.val % 33 * 512 + r.val) :
    (iblk m c 0 t : Vec Ideal S512x2048 .bf16) (ix2 r k) = m ((c : Thread nD τ).loc main_arg0) (ix2 R k) := by
  obtain ⟨⟨h0, h1⟩, _, _⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = R.val; rw [h0, hR]; omega
  | ⟨1, _⟩ => show win0_0.index t 1 * 2048 + 1 * k.val = k.val; rw [h1]; omega

/-- The column block the body reads at `t`: columns `128 · (t / 33) + q` of the second argument, counted from the slice's first column; the cast changes nothing. -/
theorem iblk1_apply (c : Dev nD) (t : Fin cfg0.N) (k : Fin 2048) (q : Fin 128) (Q : Fin 128)
    (hQ : Q.val = t.val / 33 * 128 + q.val) :
    (iblk m c 1 t : Vec Ideal S2048x128 .bf16) (ix2 k q) = m ((c : Thread nD τ).loc main_arg1) (ix2 k (col Q)) := by
  obtain ⟨_, ⟨h0, h1⟩, _⟩ := idx_facts t
  have hv : V m c main_v1 = (truncf (F := Ideal) (s := S2048x128) (φ := .f32) .bf16 (extractStridedSlice S2048x128 ![0, 12288]
      (m ((c : Thread nD τ).loc main_arg1)) slices_S2048x12416_S2048x128_0_12288) bitsLt_bf16_f32 : FVec Ideal S2048x128 .bf16) := by
    unfold V; after_results
  unfold iblk
  rw [View.read_apply]
  show V m c main_v1 _ = _
  rw [hv]
  show m ((c : Thread nD τ).loc main_arg1) _ = _
  congr 1
  funext a
  apply Fin.ext
  match a with
  | ⟨0, _⟩ => show 0 + (win0_1.index t 0 * 2048 + 1 * k.val) = k.val; rw [h0]; omega
  | ⟨1, _⟩ => show 12288 + (win0_1.index t 1 * 128 + 1 * q.val) = 12288 + Q.val; rw [h1, hQ]; omega

/-- What point `t` writes back is block `t` of the product. -/
theorem flushed_eq (c : Dev nD) (t : Fin cfg0.N) :
    (dats m 0 c).flushed 2 t = ((cfg0.win 2).blk t).view.read (Elt Ideal) (G m c) := by
  have hN : cfg0.N = 33 := N_0
  have ht := t.isLt
  obtain ⟨_, _, h0, h1⟩ := idx_facts t
  rw [Value.flushed2]
  unfold out0_2
  rw [View.canon_unit_zero hz2, View.ld_unit_zero hz2, View.ld_unit_zero hz2]
  funext j
  rw [View.read_apply]
  obtain ⟨r, q, rfl⟩ : ∃ (r : Fin 512) (q : Fin 128), j = ix2 r q := ⟨j 0, j 1, eq_ix2 j⟩
  have e : ((cfg0.win 2).blk t).view.emb (ix2 r q)
      = ix2 (⟨t.val % 33 * 512 + r.val, by omega⟩ : Fin 16896) (⟨t.val / 33 * 128 + q.val, by omega⟩ : Fin 128) := by
    funext a
    apply Fin.ext
    match a with
    | ⟨0, _⟩ => show win0_2.index t 0 * 512 + 1 * r.val = t.val % 33 * 512 + r.val; rw [h0]; omega
    | ⟨1, _⟩ => show win0_2.index t 1 * 128 + 1 * q.val = t.val / 33 * 128 + q.val; rw [h1]; omega
  rw [e]
  show k0_pay1 (F := Ideal) (iblk m c 0 t) (iblk m c 1 t) (ix2 r q) = prodAt _ _ _ _
  unfold k0_pay1
  rw [shapeCast_self]
  refine (matmul_zero_apply (M := 512) (K := 2048) (N := 128) _ _ r q).trans ?_
  unfold prodAt
  exact Finset.sum_congr rfl fun k _ => by
    rw [iblk0_apply m c t r k ⟨t.val % 33 * 512 + r.val, by omega⟩ rfl,
      iblk1_apply m c t k q ⟨t.val / 33 * 128 + q.val, by omega⟩ rfl]

/-- An index of the result array is in point `t`'s block exactly when its row and column are in tile `t`. -/
theorem mem_blk (t : Fin cfg0.N) (i : S16896x128.Idx) :
    i ∈ ((cfg0.win 2).blk t).view.set ↔ (t.val % 33 * 512 ≤ (i 0 : Nat) ∧ (i 0 : Nat) < t.val % 33 * 512 + 512)
      ∧ (t.val / 33 * 128 ≤ (i 1 : Nat) ∧ (i 1 : Nat) < t.val / 33 * 128 + 128) := by
  obtain ⟨_, _, h0, h1⟩ := idx_facts t
  show i ∈ ((View.whole main_v2).slice (win0_2.rect t)).set ↔ _
  rw [View.set_slice_whole, Rect.mem_set_unit]
  constructor
  · intro h
    have a0 : win0_2.index t 0 * 512 ≤ (i 0 : Nat) ∧ (i 0 : Nat) < win0_2.index t 0 * 512 + 512 := h 0
    have a1 : win0_2.index t 1 * 128 ≤ (i 1 : Nat) ∧ (i 1 : Nat) < win0_2.index t 1 * 128 + 128 := h 1
    rw [h0] at a0
    rw [h1] at a1
    exact ⟨a0, a1⟩
  · intro h a
    match a with
    | ⟨0, _⟩ => show win0_2.index t 0 * 512 ≤ (i 0 : Nat) ∧ (i 0 : Nat) < win0_2.index t 0 * 512 + 512; rw [h0]; exact h.1
    | ⟨1, _⟩ => show win0_2.index t 1 * 128 ≤ (i 1 : Nat) ∧ (i 1 : Nat) < win0_2.index t 1 * 128 + 128; rw [h1]; exact h.2

/-- The tiles cover the result array. -/
theorem cover (i : S16896x128.Idx) : ∃ t : Fin cfg0.N, (cfg0.win 2).flush t = true ∧ i ∈ ((cfg0.win 2).blk t).view.set := by
  have hN : cfg0.N = 33 := N_0
  have h0 : (i 0 : Nat) < 16896 := (i 0).isLt
  have h1 : (i 1 : Nat) < 128 := (i 1).isLt
  refine ⟨⟨(i 1 : Nat) / 128 * 33 + (i 0 : Nat) / 512, by omega⟩, flush0_2 _, ?_⟩
  rw [mem_blk]
  dsimp only
  omega

/-- The run of the kernel: the result array ends as the product, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (G m c) (fun t _ => flushed_eq m c t) cover),
    (h c).2.1, (h c).2.2⟩) (Value.run_blocks m ρ)

end Cert.DtInIdeal.Product

namespace Cert.DtInRefIdeal.Product

open Cert.DtInRefIdeal Cert.DtInRefIdeal.Gen

/-- The host's product, cut to the result's columns, at an index is the same sum. -/
theorem val_apply (x0 : (⟨S16896x2048, .bf16⟩ : BufTy).Contents (Elt Ideal)) (x1 : (⟨S2048x12416, .f32⟩ : BufTy).Contents (Elt Ideal))
    (i : S16896x128.Idx) : Read.val_main_v2 (F := Ideal) x0 x1 i
      = prodAt (M := 16896) (K := 2048) (N := 12416) x0 x1 (i 0) (Cert.DtInIdeal.Product.col (i 1)) := by
  rw [Read.val_main_v2_apply, Read.val_main_v1_apply]
  unfold prodAt
  refine Finset.sum_congr rfl fun k _ => ?_
  rw [Read.val_main_v0_apply]
  have el : Read.lidx_main_v1 (Read.idx_main_v2 i) k = ix2 (i 0) k :=
    funext fun a => Fin.ext (by match a with | ⟨0, _⟩ => rfl | ⟨1, _⟩ => rfl)
  have er : Read.ridx_main_v1 (Read.idx_main_v2 i) k = ix2 k (Cert.DtInIdeal.Product.col (i 1)) :=
    funext fun a => Fin.ext (by match a with | ⟨0, _⟩ => rfl | ⟨1, _⟩ => rfl)
  rw [el, er]
  rfl

end Cert.DtInRefIdeal.Product

namespace Cert.Proof.DtIn

/-- The reference runs and leaves its arguments as they were. -/
theorem frame_ref : Cert.quiescent_DtInRefIdeal := fun m ρ _ =>
  (θ_run Cert.DtInRefIdeal.defs _ _).mono (fun r h => ⟨fun c => ⟨(h c).2.1, (h c).2.2⟩,
      Idealize.ShloMosaic.sem_eq_zero_of_no_sems (by decide) r.2⟩)
    (Cert.DtInRefIdeal.Value.run (F := Ideal) m ρ)

/-- The kernel and the reference compute the same projection. -/
theorem algebraic : Cert.algebraic_DtInIdeal_DtInRefIdeal := fun m ρ m' ρ' _ hag =>
  ⟨fun c => Cert.DtInIdeal.Product.G m c, Cert.DtInIdeal.Product.run m ρ,
    (θ_run Cert.DtInRefIdeal.defs _ _).mono (fun _ h c => ⟨by
        rw [(h c).1, Cert.DtInRefIdeal.Read.val_main_v2_eq, (hag c).1, (hag c).2]
        exact funext fun i => Cert.DtInRefIdeal.Product.val_apply _ _ i, (h c).2⟩)
      (Cert.DtInRefIdeal.Value.run (F := Ideal) m' ρ')⟩

end Cert.Proof.DtIn

end
-- ==== Proof.AttOutValue.lean ====
/-
  The attention layer's output projection with its gated residual: the kernel's result array is `h + gate · (y · w)`,
  the gate read from row 2 of the modulation table of the token's stream, and the host's expression is the same.
-/
module

public import proofs.«01_k».proof.Defs
public import proofs.«01_k».proof.Proof.MatBlock
public import proofs.«01_k».proof.Proof.Gen.AttOutIdeal.Value
public import proofs.«01_k».proof.Proof.Gen.AttOutRefIdeal.Run
public import proofs.«01_k».proof.Proof.Gen.AttOutRefIdeal.Read

@[expose] public section

set_option maxRecDepth 16384

noncomputable section

open Idealize.ShloMosaic Idealize.ShloMosaic.TcCoe Idealize.SL.Sem Idealize.ShloMosaic.ValueIdx
open Cert.MatBlock

namespace Cert.AttOutIdeal.Residual

open Cert.AttOutIdeal Cert.AttOutIdeal.Gen

variable (m : (ℓ : Loc nD τ sig) → Buf (Elt Ideal) ℓ) (ρ : Dev nD → PrngReg)

/-- The residual, the gate of the token's stream, and the product, at a row and a column: what the result is shown to hold. -/
def G (c : Dev nD) : Buf (Elt Ideal) ((c : Thread nD τ).loc main_v1) := fun i : S16896x2048.Idx =>
  gatedAt (D := 2048) (m ((c : Thread nD τ).loc main_arg0)) (m ((c : Thread nD τ).loc main_arg1)) (m ((c : Thread nD τ).loc main_arg2))
    (m ((c : Thread nD τ).loc main_arg3)) (i 0) (i 1)

/-- Where the windows stand at grid point `t`: row tile `t % 66`, column tile `t / 66`; the table's row is that of the tile. -/
theorem idx_facts : ∀ t : Fin cfg0.N, (win0_0.index t 0 = t.val % 66 ∧ win0_0.index t 1 = 0)
    ∧ (win0_1.index t 0 = 0 ∧ win0_1.index t 1 = t.val / 66)
    ∧ (win0_2.index t 0 = t.val % 66 ∧ win0_2.index t 1 = t.val / 66)
    ∧ (win0_3.index t 0 = tileStream (t.val % 66) ∧ win0_3.index t 1 = 0 ∧ win0_3.index t 2 = t.val / 66)
    ∧ (win0_4.index t 0 = t.val % 66 ∧ win0_4.index t 1 = t.val / 66) :=
  (by decide +kernel : ∀ t : Fin grid0.N, (win0_0.index t 0 = t.val % 66 ∧ win0_0.index t 1 = 0)
    ∧ (win0_1.index t 0 = 0 ∧ win0_1.index t 1 = t.val / 66)
    ∧ (win0_2.index t 0 = t.val % 66 ∧ win0_2.index t 1 = t.val / 66)
    ∧ (win0_3.index t 0 = tileStream (t.val % 66) ∧ win0_3.index t 1 = 0 ∧ win0_3.index t 2 = t.val / 66)
    ∧ (win0_4.index t 0 = t.val % 66 ∧ win0_4.index t 1 = t.val / 66))

/-- The row block the body reads at `t`. -/
theorem iblk0_apply (c : Dev nD) (t : Fin cfg0.N) (r : Fin 256) (k : Fin 2048) (R : Fin 16896)
    (hR : R.val = t.val % 66 * 256 + r.val) :
    (iblk m c 0 t : Vec Ideal S256x2048 .bf16) (ix2 r k) = m ((c : Thread nD τ).loc main_arg0) (ix2 R k) := by
  obtain ⟨⟨h0, h1⟩, _⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = R.val; rw [h0, hR]; omega
  | ⟨1, _⟩ => show win0_0.index t 1 * 2048 + 1 * k.val = k.val; rw [h1]; omega

/-- The column block the body reads at `t`; the cast of the weights changes nothing. -/
theorem iblk1_apply (c : Dev nD) (t : Fin cfg0.N) (k : Fin 2048) (q : Fin 1024) (Q : Fin 2048)
    (hQ : Q.val = t.val / 66 * 1024 + q.val) :
    (iblk m c 1 t : Vec Ideal S2048x1024 .bf16) (ix2 k q) = m ((c : Thread nD τ).loc main_arg1) (ix2 k Q) := by
  obtain ⟨_, ⟨h0, h1⟩, _⟩ := idx_facts t
  have hv : V m c main_v0 = (truncf (F := Ideal) (s := S2048x2048) (φ := .f32) .bf16 (m ((c : Thread nD τ).loc main_arg1)) bitsLt_bf16_f32 : FVec Ideal S2048x2048 .bf16) := by
    unfold V; after_results
  unfold iblk
  rw [View.read_apply]
  show V m c main_v0 _ = _
  rw [hv]
  show m ((c : Thread nD τ).loc main_arg1) _ = _
  congr 1
  funext a
  apply Fin.ext
  match a with
  | ⟨0, _⟩ => show win0_1.index t 0 * 2048 + 1 * k.val = k.val; rw [h0]; omega
  | ⟨1, _⟩ => show win0_1.index t 1 * 1024 + 1 * q.val = Q.val; rw [h1, hQ]; omega

/-- The residual block the body reads at `t`. -/
theorem iblk2_apply (c : Dev nD) (t : Fin cfg0.N) (r : Fin 256) (q : Fin 1024) (R : Fin 16896) (Q : Fin 2048)
    (hR : R.val = t.val % 66 * 256 + r.val) (hQ : Q.val = t.val / 66 * 1024 + q.val) :
    (iblk m c 2 t : Vec Ideal S256x1024 .f32) (ix2 r q) = m ((c : Thread nD τ).loc main_arg2) (ix2 R Q) := by
  obtain ⟨_, _, ⟨h0, h1⟩, _⟩ := idx_facts t
  unfold iblk
  rw [View.read_apply]
  show V m c main_arg2 _ = _
  rw [V_main_arg2]
  congr 1
  funext a
  apply Fin.ext
  match a with
  | ⟨0, _⟩ => show win0_2.index t 0 * 256 + 1 * r.val = R.val; rw [h0, hR]; omega
  | ⟨1, _⟩ => show win0_2.index t 1 * 1024 + 1 * q.val = Q.val; rw [h1, hQ]; omega

/-- The gate the body reads at `t`: row 2 of the table of the tile's stream. -/
theorem gate_apply (c : Dev nD) (t : Fin cfg0.N) (q : Fin 1024) (Q : Fin 2048)
    (hQ : Q.val = t.val / 66 * 1024 + q.val) (s : Fin 8) (hs : s.val = tileStream (t.val % 66)) :
    (View.ld (iblk m c 3 t : Vec Ideal S1x8x1024 .f32) r0_3 : Vec Ideal S1x1x1024 .f32) (ix3 0 0 q)
      = m ((c : Thread nD τ).loc main_arg3) (ix3 s 2 Q) := by
  obtain ⟨_, _, _, ⟨h0, h1, h2⟩, _⟩ := idx_facts t
  unfold iblk View.ld
  rw [View.read_apply]
  show V m c main_arg3 _ = _
  rw [V_main_arg3]
  congr 1
  funext a
  apply Fin.ext
  match a with
  | ⟨0, _⟩ => show win0_3.index t 0 * 1 + 1 * (0 + 1 * 0) = s.val; rw [h0, hs]; omega
  | ⟨1, _⟩ => show win0_3.index t 1 * 8 + 1 * (2 + 1 * 0) = 2; rw [h1]
  | ⟨2, _⟩ => show win0_3.index t 2 * 1024 + 1 * (0 + 1 * q.val) = Q.val; rw [h2, hQ]; omega

/-- What point `t` writes back is block `t` of the gated residual. -/
theorem flushed_eq (c : Dev nD) (t : Fin cfg0.N) :
    (dats m 0 c).flushed 4 t = ((cfg0.win 4).blk t).view.read (Elt Ideal) (G m c) := by
  have hN : cfg0.N = 132 := N_0
  have ht := t.isLt
  obtain ⟨_, _, _, _, h0, h1⟩ := idx_facts t
  rw [Value.flushed4]
  unfold out0_4
  rw [View.canon_unit_zero hz2, View.ld_unit_zero hz2, View.ld_unit_zero hz2, View.ld_unit_zero hz2]
  funext j
  rw [View.read_apply]
  obtain ⟨r, q, rfl⟩ : ∃ (r : Fin 256) (q : Fin 1024), j = ix2 r q := ⟨j 0, j 1, eq_ix2 j⟩
  have e : ((cfg0.win 4).blk t).view.emb (ix2 r q)
      = ix2 (⟨t.val % 66 * 256 + r.val, by omega⟩ : Fin 16896) (⟨t.val / 66 * 1024 + q.val, by omega⟩ : Fin 2048) := by
    funext a
    apply Fin.ext
    match a with
    | ⟨0, _⟩ => show win0_4.index t 0 * 256 + 1 * r.val = t.val % 66 * 256 + r.val; rw [h0]; omega
    | ⟨1, _⟩ => show win0_4.index t 1 * 1024 + 1 * q.val = t.val / 66 * 1024 + q.val; rw [h1]; omega
  rw [e]
  show k0_pay1 (F := Ideal) (iblk m c 0 t) (iblk m c 1 t) (iblk m c 2 t) (View.ld (iblk m c 3 t) r0_3) (ix2 r q) = gatedAt _ _ _ _ _ _
  unfold k0_pay1
  rw [shapeCast_self]
  refine (gated_block_apply (D := 2048) _ _ _ _ _ _ r q).trans ?_
  unfold gatedAt
  rw [gate_apply m c t q ⟨t.val / 66 * 1024 + q.val, by omega⟩ rfl (stream ⟨t.val % 66 * 256 + r.val, by omega⟩)
      (stream_tile (t.val % 66) (by omega) r _ rfl),
    iblk2_apply m c t r q ⟨t.val % 66 * 256 + r.val, by omega⟩ ⟨t.val / 66 * 1024 + q.val, by omega⟩ rfl rfl]
  congr 2
  unfold prodAt
  exact Finset.sum_congr rfl fun k _ => by
    rw [iblk0_apply m c t r k ⟨t.val % 66 * 256 + r.val, by omega⟩ rfl,
      iblk1_apply m c t k q ⟨t.val / 66 * 1024 + q.val, by omega⟩ rfl]

/-- An index of the result array is in point `t`'s block exactly when its row and column are in tile `t`. -/
theorem mem_blk (t : Fin cfg0.N) (i : S16896x2048.Idx) :
    i ∈ ((cfg0.win 4).blk t).view.set ↔ (t.val % 66 * 256 ≤ (i 0 : Nat) ∧ (i 0 : Nat) < t.val % 66 * 256 + 256)
      ∧ (t.val / 66 * 1024 ≤ (i 1 : Nat) ∧ (i 1 : Nat) < t.val / 66 * 1024 + 1024) := by
  obtain ⟨_, _, _, _, h0, h1⟩ := idx_facts t
  show i ∈ ((View.whole main_v1).slice (win0_4.rect t)).set ↔ _
  rw [View.set_slice_whole, Rect.mem_set_unit]
  constructor
  · intro h
    have a0 : win0_4.index t 0 * 256 ≤ (i 0 : Nat) ∧ (i 0 : Nat) < win0_4.index t 0 * 256 + 256 := h 0
    have a1 : win0_4.index t 1 * 1024 ≤ (i 1 : Nat) ∧ (i 1 : Nat) < win0_4.index t 1 * 1024 + 1024 := h 1
    rw [h0] at a0
    rw [h1] at a1
    exact ⟨a0, a1⟩
  · intro h a
    match a with
    | ⟨0, _⟩ => show win0_4.index t 0 * 256 ≤ (i 0 : Nat) ∧ (i 0 : Nat) < win0_4.index t 0 * 256 + 256; rw [h0]; exact h.1
    | ⟨1, _⟩ => show win0_4.index t 1 * 1024 ≤ (i 1 : Nat) ∧ (i 1 : Nat) < win0_4.index t 1 * 1024 + 1024; rw [h1]; exact h.2

/-- The tiles cover the result array. -/
theorem cover (i : S16896x2048.Idx) : ∃ t : Fin cfg0.N, (cfg0.win 4).flush t = true ∧ i ∈ ((cfg0.win 4).blk t).view.set := by
  have hN : cfg0.N = 132 := N_0
  have h0 : (i 0 : Nat) < 16896 := (i 0).isLt
  have h1 : (i 1 : Nat) < 2048 := (i 1).isLt
  refine ⟨⟨(i 1 : Nat) / 1024 * 66 + (i 0 : Nat) / 256, by omega⟩, flush0_4 _, ?_⟩
  rw [mem_blk]
  dsimp only
  omega

/-- The run of the kernel: the result array ends as the gated residual, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (G m c) (fun t _ => flushed_eq m c t) cover),
    (h c).2⟩) (Value.run_blocks m ρ)

end Cert.AttOutIdeal.Residual

namespace Cert.AttOutRefIdeal.Residual

open Cert.AttOutRefIdeal Cert.AttOutRefIdeal.Gen

variable (x0 : (⟨S16896x2048, .bf16⟩ : BufTy).Contents (Elt Ideal)) (x1 : (⟨S2048x2048, .f32⟩ : BufTy).Contents (Elt Ideal))
  (x2 : (⟨S16896x2048, .f32⟩ : BufTy).Contents (Elt Ideal)) (x3 : (⟨S8x8x2048, .f32⟩ : BufTy).Contents (Elt Ideal))

/-- Token `n` of batch `b` in the flat order of rows. -/
abbrev row (b : Fin 2) (n : Fin 8448) : Fin 16896 := ⟨b.val * 8448 + n.val, by omega⟩

/-- The host's product, reshaped to batches, at a token and a column. -/
theorem prod_apply (b : Fin 2) (n : Fin 8448) (q : Fin 2048) :
    Read.val_main_v3 (F := Ideal) x0 x1 (ix3 b n q) = prodAt (M := 16896) (K := 2048) (N := 2048) x0 x1 (row b n) q := by
  rw [Read.val_main_v3_apply, Read.val_main_v2_apply]
  unfold prodAt
  refine Finset.sum_congr rfl fun k _ => ?_
  rw [Read.val_main_v1_apply]
  have el : Read.lidx_main_v2 (Read.idx_main_v3 (ix3 b n q)) k = ix2 (row b n) k := funext fun a => Fin.ext (by
    match a with
    | ⟨0, _⟩ => show ((b.val * 8448 + n.val) * 2048 + q.val) / 2048 = b.val * 8448 + n.val; omega
    | ⟨1, _⟩ => rfl)
  have er : Read.ridx_main_v2 (Read.idx_main_v3 (ix3 b n q)) k = ix2 k q := funext fun a => Fin.ext (by
    match a with
    | ⟨0, _⟩ => rfl
    | ⟨1, _⟩ => show ((b.val * 8448 + n.val) * 2048 + q.val) % 2048 = q.val; omega)
  rw [el, er]
  rfl

/-- The residual, reshaped to batches, at a token and a column. -/
theorem res_apply (b : Fin 2) (n : Fin 8448) (q : Fin 2048) :
    Read.val_main_v0 (F := Ideal) x2 (ix3 b n q) = x2 (ix2 (row b n) q) := by
  rw [Read.val_main_v0_apply]
  congr 1
  exact funext fun a => Fin.ext (by
    match a with
    | ⟨0, _⟩ => show ((b.val * 8448 + n.val) * 2048 + q.val) / 2048 = b.val * 8448 + n.val; omega
    | ⟨1, _⟩ => show ((b.val * 8448 + n.val) * 2048 + q.val) % 2048 = q.val; omega)

/-- The gate of the context tokens. -/
theorem gate_ctx (b : Fin 2) (n : Fin 256) (q : Fin 2048) : Read.val_main_v12 (F := Ideal) x3 (ix3 b n q) = x3 (ix3 2 2 q) := by
  rw [Read.val_main_v12_apply, Read.val_main_v9_apply, Read.val_main_v8_apply, Read.val_main_v7_apply]
  congr 1
  exact funext fun a => Fin.ext (by
    match a with
    | ⟨0, _⟩ => rfl
    | ⟨1, _⟩ => rfl
    | ⟨2, _⟩ => show q.val % 2048 = q.val; omega)

/-- The gate of the latent tokens: the table of their batch. -/
theorem gate_lat (b : Fin 2) (n : Fin 8192) (q : Fin 2048) :
    Read.val_main_v17 (F := Ideal) x3 (ix3 b n q) = x3 (ix3 (⟨b.val, by omega⟩ : Fin 8) 2 q) := by
  rw [Read.val_main_v17_apply, Read.val_main_v6_apply, Read.val_main_v5_apply, Read.val_main_v4_apply]
  congr 1
  exact funext fun a => Fin.ext (by
    match a with
    | ⟨0, _⟩ => show (b.val * 2048 + q.val) / 2048 = b.val; omega
    | ⟨1, _⟩ => rfl
    | ⟨2, _⟩ => show (b.val * 2048 + q.val) % 2048 = q.val; omega)

/-- The host's result at a row and a column is the gated residual. -/
theorem val_apply (i : S16896x2048.Idx) :
    Read.val_main_v21 (F := Ideal) x0 x1 x2 x3 i = gatedAt (D := 2048) x0 x1 x2 x3 (i 0) (i 1) := by
  obtain ⟨R, q, rfl⟩ : ∃ (R : Fin 16896) (q : Fin 2048), i = ix2 R q := ⟨i 0, i 1, eq_ix2 i⟩
  obtain ⟨b, n, rfl⟩ : ∃ (b : Fin 2) (n : Fin 8448), R = row b n :=
    ⟨⟨R.val / 8448, by omega⟩, ⟨R.val % 8448, by omega⟩, Fin.ext (by show R.val = R.val / 8448 * 8448 + R.val % 8448; omega)⟩
  show _ = gatedAt x0 x1 x2 x3 (row b n) q
  have ei : Read.idx_main_v21 (ix2 (row b n) q) = ix3 b n q := funext fun a => Fin.ext (by
    match a with
    | ⟨0, _⟩ => show ((b.val * 8448 + n.val) * 2048 + q.val) / 17301504 = b.val; omega
    | ⟨1, _⟩ => show ((b.val * 8448 + n.val) * 2048 + q.val) / 2048 % 8448 = n.val; omega
    | ⟨2, _⟩ => show ((b.val * 8448 + n.val) * 2048 + q.val) % 2048 = q.val; omega)
  rw [Read.val_main_v21_apply, ei]
  unfold Read.val_main_v20 gatedAt
  by_cases hn : n.val < 256
  · have es : stream (row b n) = 2 := stream_ctx b n hn
    refine (concatenate_pair_apply_left (t := S2x8448x2048) (s₁ := S2x256x2048) (s₂ := S2x8192x2048) 1 _ _
      concatenates_S2x256x2048_S2x8192x2048_S2x8448x2048_d1 (ix3 b n q) rfl (ix3 b (⟨n.val, hn⟩ : Fin 256) q) (fun a => by
      match a with | ⟨0, _⟩ => rfl | ⟨1, _⟩ => rfl | ⟨2, _⟩ => rfl)).trans ?_
    rw [Read.val_main_v14_apply, Read.val_main_v13_apply, Read.val_main_v10_apply, Read.val_main_v11_apply, gate_ctx, es]
    have e10 : Read.idx_main_v10 (ix3 b (⟨n.val, hn⟩ : Fin 256) q) = ix3 b n q := funext fun a => Fin.ext (by
      match a with | ⟨0, _⟩ => rfl | ⟨1, _⟩ => rfl | ⟨2, _⟩ => rfl)
    have e11 : Read.idx_main_v11 (ix3 b (⟨n.val, hn⟩ : Fin 256) q) = ix3 b n q := funext fun a => Fin.ext (by
      match a with | ⟨0, _⟩ => rfl | ⟨1, _⟩ => rfl | ⟨2, _⟩ => rfl)
    rw [e10, e11, prod_apply, res_apply]
    rfl
  · have es : stream (row b n) = ⟨b.val, by omega⟩ := stream_lat b n hn
    refine (concatenate_pair_apply_right (t := S2x8448x2048) (s₁ := S2x256x2048) (s₂ := S2x8192x2048) 1 _ _
      concatenates_S2x256x2048_S2x8192x2048_S2x8448x2048_d1 (ix3 b n q) rfl rfl (ix3 b (⟨n.val - 256, by omega⟩ : Fin 8192) q)
      (fun a h => by match a with | ⟨0, _⟩ => rfl | ⟨1, _⟩ => exact absurd rfl h | ⟨2, _⟩ => rfl)
      (by show n.val - 256 + 256 = n.val; omega)).trans ?_
    rw [Read.val_main_v19_apply, Read.val_main_v18_apply, Read.val_main_v15_apply, Read.val_main_v16_apply, gate_lat, es]
    have e15 : Read.idx_main_v15 (ix3 b (⟨n.val - 256, by omega⟩ : Fin 8192) q) = ix3 b n q := funext fun a => Fin.ext (by
      match a with | ⟨0, _⟩ => rfl | ⟨1, _⟩ => show 256 + (n.val - 256) = n.val; omega | ⟨2, _⟩ => rfl)
    have e16 : Read.idx_main_v16 (ix3 b (⟨n.val - 256, by omega⟩ : Fin 8192) q) = ix3 b n q := funext fun a => Fin.ext (by
      match a with | ⟨0, _⟩ => rfl | ⟨1, _⟩ => show 256 + (n.val - 256) = n.val; omega | ⟨2, _⟩ => rfl)
    rw [e15, e16, prod_apply, res_apply]
    rfl

end Cert.AttOutRefIdeal.Residual

namespace Cert.Proof.AttOut

/-- The reference runs and leaves its arguments as they were. -/
theorem frame_ref : Cert.quiescent_AttOutRefIdeal := fun m ρ _ =>
  (θ_run Cert.AttOutRefIdeal.defs _ _).mono (fun r h => ⟨fun c => (h c).2,
      Idealize.ShloMosaic.sem_eq_zero_of_no_sems (by decide) r.2⟩)
    (Cert.AttOutRefIdeal.Value.run (F := Ideal) m ρ)

/-- The kernel and the reference compute the same gated residual. -/
theorem algebraic : Cert.algebraic_AttOutIdeal_AttOutRefIdeal := fun m ρ m' ρ' _ hag =>
  ⟨fun c => Cert.AttOutIdeal.Residual.G m c, Cert.AttOutIdeal.Residual.run m ρ,
    (θ_run Cert.AttOutRefIdeal.defs _ _).mono (fun _ h c => ⟨by
        rw [(h c).1, Cert.AttOutRefIdeal.Read.val_main_v21_eq, (hag c).1, (hag c).2.1, (hag c).2.2.1, (hag c).2.2.2]
        exact funext fun i => Cert.AttOutRefIdeal.Residual.val_apply _ _ _ _ i, (h c).2⟩)
      (Cert.AttOutRefIdeal.Value.run (F := Ideal) m' ρ')⟩

end Cert.Proof.AttOut

end
-- ==== Proof.SsmOutValue.lean ====
/-
  The state-space layer's output projection with its gated residual: the kernel's result array is `h + gate · (y · w)`,
  the gate read from row 2 of the modulation table of the token's stream, and the host's expression is the same.
-/
module

public import proofs.«01_k».proof.Defs
public import proofs.«01_k».proof.Proof.MatBlock
public import proofs.«01_k».proof.Proof.Gen.SsmOutIdeal.Value
public import proofs.«01_k».proof.Proof.Gen.SsmOutRefIdeal.Run
public import proofs.«01_k».proof.Proof.Gen.SsmOutRefIdeal.Read

@[expose] public section

set_option maxRecDepth 16384

noncomputable section

open Idealize.ShloMosaic Idealize.ShloMosaic.TcCoe Idealize.SL.Sem Idealize.ShloMosaic.ValueIdx
open Cert.MatBlock

namespace Cert.SsmOutIdeal.Residual

open Cert.SsmOutIdeal Cert.SsmOutIdeal.Gen

variable (m : (ℓ : Loc nD τ sig) → Buf (Elt Ideal) ℓ) (ρ : Dev nD → PrngReg)

/-- The residual, the gate of the token's stream, and the product, at a row and a column: what the result is shown to hold. -/
def G (c : Dev nD) : Buf (Elt Ideal) ((c : Thread nD τ).loc main_v1) := fun i : S16896x2048.Idx =>
  gatedAt (D := 4096) (m ((c : Thread nD τ).loc main_arg0)) (m ((c : Thread nD τ).loc main_arg1)) (m ((c : Thread nD τ).loc main_arg2))
    (m ((c : Thread nD τ).loc main_arg3)) (i 0) (i 1)

/-- Where the windows stand at grid point `t`: row tile `t % 66`, column tile `t / 66`; the table's row is that of the tile. -/
theorem idx_facts : ∀ t : Fin cfg0.N, (win0_0.index t 0 = t.val % 66 ∧ win0_0.index t 1 = 0)
    ∧ (win0_1.index t 0 = 0 ∧ win0_1.index t 1 = t.val / 66)
    ∧ (win0_2.index t 0 = t.val % 66 ∧ win0_2.index t 1 = t.val / 66)
    ∧ (win0_3.index t 0 = tileStream (t.val % 66) ∧ win0_3.index t 1 = 0 ∧ win0_3.index t 2 = t.val / 66)
    ∧ (win0_4.index t 0 = t.val % 66 ∧ win0_4.index t 1 = t.val / 66) :=
  (by decide +kernel : ∀ t : Fin grid0.N, (win0_0.index t 0 = t.val % 66 ∧ win0_0.index t 1 = 0)
    ∧ (win0_1.index t 0 = 0 ∧ win0_1.index t 1 = t.val / 66)
    ∧ (win0_2.index t 0 = t.val % 66 ∧ win0_2.index t 1 = t.val / 66)
    ∧ (win0_3.index t 0 = tileStream (t.val % 66) ∧ win0_3.index t 1 = 0 ∧ win0_3.index t 2 = t.val / 66)
    ∧ (win0_4.index t 0 = t.val % 66 ∧ win0_4.index t 1 = t.val / 66))

/-- The row block the body reads at `t`. -/
theorem iblk0_apply (c : Dev nD) (t : Fin cfg0.N) (r : Fin 256) (k : Fin 4096) (R : Fin 16896)
    (hR : R.val = t.val % 66 * 256 + r.val) :
    (iblk m c 0 t : Vec Ideal S256x4096 .bf16) (ix2 r k) = m ((c : Thread nD τ).loc main_arg0) (ix2 R k) := by
  obtain ⟨⟨h0, h1⟩, _⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = R.val; rw [h0, hR]; omega
  | ⟨1, _⟩ => show win0_0.index t 1 * 4096 + 1 * k.val = k.val; rw [h1]; omega

/-- The column block the body reads at `t`; the cast of the weights changes nothing. -/
theorem iblk1_apply (c : Dev nD) (t : Fin cfg0.N) (k : Fin 4096) (q : Fin 1024) (Q : Fin 2048)
    (hQ : Q.val = t.val / 66 * 1024 + q.val) :
    (iblk m c 1 t : Vec Ideal S4096x1024 .bf16) (ix2 k q) = m ((c : Thread nD τ).loc main_arg1) (ix2 k Q) := by
  obtain ⟨_, ⟨h0, h1⟩, _⟩ := idx_facts t
  have hv : V m c main_v0 = (truncf (F := Ideal) (s := S4096x2048) (φ := .f32) .bf16 (m ((c : Thread nD τ).loc main_arg1)) bitsLt_bf16_f32 : FVec Ideal S4096x2048 .bf16) := by
    unfold V; after_results
  unfold iblk
  rw [View.read_apply]
  show V m c main_v0 _ = _
  rw [hv]
  show m ((c : Thread nD τ).loc main_arg1) _ = _
  congr 1
  funext a
  apply Fin.ext
  match a with
  | ⟨0, _⟩ => show win0_1.index t 0 * 4096 + 1 * k.val = k.val; rw [h0]; omega
  | ⟨1, _⟩ => show win0_1.index t 1 * 1024 + 1 * q.val = Q.val; rw [h1, hQ]; omega

/-- The residual block the body reads at `t`. -/
theorem iblk2_apply (c : Dev nD) (t : Fin cfg0.N) (r : Fin 256) (q : Fin 1024) (R : Fin 16896) (Q : Fin 2048)
    (hR : R.val = t.val % 66 * 256 + r.val) (hQ : Q.val = t.val / 66 * 1024 + q.val) :
    (iblk m c 2 t : Vec Ideal S256x1024 .f32) (ix2 r q) = m ((c : Thread nD τ).loc main_arg2) (ix2 R Q) := by
  obtain ⟨_, _, ⟨h0, h1⟩, _⟩ := idx_facts t
  unfold iblk
  rw [View.read_apply]
  show V m c main_arg2 _ = _
  rw [V_main_arg2]
  congr 1
  funext a
  apply Fin.ext
  match a with
  | ⟨0, _⟩ => show win0_2.index t 0 * 256 + 1 * r.val = R.val; rw [h0, hR]; omega
  | ⟨1, _⟩ => show win0_2.index t 1 * 1024 + 1 * q.val = Q.val; rw [h1, hQ]; omega

/-- The gate the body reads at `t`: row 2 of the table of the tile's stream. -/
theorem gate_apply (c : Dev nD) (t : Fin cfg0.N) (q : Fin 1024) (Q : Fin 2048)
    (hQ : Q.val = t.val / 66 * 1024 + q.val) (s : Fin 8) (hs : s.val = tileStream (t.val % 66)) :
    (View.ld (iblk m c 3 t : Vec Ideal S1x8x1024 .f32) r0_3 : Vec Ideal S1x1x1024 .f32) (ix3 0 0 q)
      = m ((c : Thread nD τ).loc main_arg3) (ix3 s 2 Q) := by
  obtain ⟨_, _, _, ⟨h0, h1, h2⟩, _⟩ := idx_facts t
  unfold iblk View.ld
  rw [View.read_apply]
  show V m c main_arg3 _ = _
  rw [V_main_arg3]
  congr 1
  funext a
  apply Fin.ext
  match a with
  | ⟨0, _⟩ => show win0_3.index t 0 * 1 + 1 * (0 + 1 * 0) = s.val; rw [h0, hs]; omega
  | ⟨1, _⟩ => show win0_3.index t 1 * 8 + 1 * (2 + 1 * 0) = 2; rw [h1]
  | ⟨2, _⟩ => show win0_3.index t 2 * 1024 + 1 * (0 + 1 * q.val) = Q.val; rw [h2, hQ]; omega

/-- What point `t` writes back is block `t` of the gated residual. -/
theorem flushed_eq (c : Dev nD) (t : Fin cfg0.N) :
    (dats m 0 c).flushed 4 t = ((cfg0.win 4).blk t).view.read (Elt Ideal) (G m c) := by
  have hN : cfg0.N = 132 := N_0
  have ht := t.isLt
  obtain ⟨_, _, _, _, h0, h1⟩ := idx_facts t
  rw [Value.flushed4]
  unfold out0_4
  rw [View.canon_unit_zero hz2, View.ld_unit_zero hz2, View.ld_unit_zero hz2, View.ld_unit_zero hz2]
  funext j
  rw [View.read_apply]
  obtain ⟨r, q, rfl⟩ : ∃ (r : Fin 256) (q : Fin 1024), j = ix2 r q := ⟨j 0, j 1, eq_ix2 j⟩
  have e : ((cfg0.win 4).blk t).view.emb (ix2 r q)
      = ix2 (⟨t.val % 66 * 256 + r.val, by omega⟩ : Fin 16896) (⟨t.val / 66 * 1024 + q.val, by omega⟩ : Fin 2048) := by
    funext a
    apply Fin.ext
    match a with
    | ⟨0, _⟩ => show win0_4.index t 0 * 256 + 1 * r.val = t.val % 66 * 256 + r.val; rw [h0]; omega
    | ⟨1, _⟩ => show win0_4.index t 1 * 1024 + 1 * q.val = t.val / 66 * 1024 + q.val; rw [h1]; omega
  rw [e]
  show k0_pay1 (F := Ideal) (iblk m c 0 t) (iblk m c 1 t) (iblk m c 2 t) (View.ld (iblk m c 3 t) r0_3) (ix2 r q) = gatedAt _ _ _ _ _ _
  unfold k0_pay1
  rw [shapeCast_self]
  refine (gated_block_apply (D := 4096) _ _ _ _ _ _ r q).trans ?_
  unfold gatedAt
  rw [gate_apply m c t q ⟨t.val / 66 * 1024 + q.val, by omega⟩ rfl (stream ⟨t.val % 66 * 256 + r.val, by omega⟩)
      (stream_tile (t.val % 66) (by omega) r _ rfl),
    iblk2_apply m c t r q ⟨t.val % 66 * 256 + r.val, by omega⟩ ⟨t.val / 66 * 1024 + q.val, by omega⟩ rfl rfl]
  congr 2
  unfold prodAt
  exact Finset.sum_congr rfl fun k _ => by
    rw [iblk0_apply m c t r k ⟨t.val % 66 * 256 + r.val, by omega⟩ rfl,
      iblk1_apply m c t k q ⟨t.val / 66 * 1024 + q.val, by omega⟩ rfl]

/-- An index of the result array is in point `t`'s block exactly when its row and column are in tile `t`. -/
theorem mem_blk (t : Fin cfg0.N) (i : S16896x2048.Idx) :
    i ∈ ((cfg0.win 4).blk t).view.set ↔ (t.val % 66 * 256 ≤ (i 0 : Nat) ∧ (i 0 : Nat) < t.val % 66 * 256 + 256)
      ∧ (t.val / 66 * 1024 ≤ (i 1 : Nat) ∧ (i 1 : Nat) < t.val / 66 * 1024 + 1024) := by
  obtain ⟨_, _, _, _, h0, h1⟩ := idx_facts t
  show i ∈ ((View.whole main_v1).slice (win0_4.rect t)).set ↔ _
  rw [View.set_slice_whole, Rect.mem_set_unit]
  constructor
  · intro h
    have a0 : win0_4.index t 0 * 256 ≤ (i 0 : Nat) ∧ (i 0 : Nat) < win0_4.index t 0 * 256 + 256 := h 0
    have a1 : win0_4.index t 1 * 1024 ≤ (i 1 : Nat) ∧ (i 1 : Nat) < win0_4.index t 1 * 1024 + 1024 := h 1
    rw [h0] at a0
    rw [h1] at a1
    exact ⟨a0, a1⟩
  · intro h a
    match a with
    | ⟨0, _⟩ => show win0_4.index t 0 * 256 ≤ (i 0 : Nat) ∧ (i 0 : Nat) < win0_4.index t 0 * 256 + 256; rw [h0]; exact h.1
    | ⟨1, _⟩ => show win0_4.index t 1 * 1024 ≤ (i 1 : Nat) ∧ (i 1 : Nat) < win0_4.index t 1 * 1024 + 1024; rw [h1]; exact h.2

/-- The tiles cover the result array. -/
theorem cover (i : S16896x2048.Idx) : ∃ t : Fin cfg0.N, (cfg0.win 4).flush t = true ∧ i ∈ ((cfg0.win 4).blk t).view.set := by
  have hN : cfg0.N = 132 := N_0
  have h0 : (i 0 : Nat) < 16896 := (i 0).isLt
  have h1 : (i 1 : Nat) < 2048 := (i 1).isLt
  refine ⟨⟨(i 1 : Nat) / 1024 * 66 + (i 0 : Nat) / 256, by omega⟩, flush0_4 _, ?_⟩
  rw [mem_blk]
  dsimp only
  omega

/-- The run of the kernel: the result array ends as the gated residual, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (G m c) (fun t _ => flushed_eq m c t) cover),
    (h c).2⟩) (Value.run_blocks m ρ)

end Cert.SsmOutIdeal.Residual

namespace Cert.SsmOutRefIdeal.Residual

open Cert.SsmOutRefIdeal Cert.SsmOutRefIdeal.Gen

variable (x0 : (⟨S16896x4096, .bf16⟩ : BufTy).Contents (Elt Ideal)) (x1 : (⟨S4096x2048, .f32⟩ : BufTy).Contents (Elt Ideal))
  (x2 : (⟨S16896x2048, .f32⟩ : BufTy).Contents (Elt Ideal)) (x3 : (⟨S8x8x2048, .f32⟩ : BufTy).Contents (Elt Ideal))

/-- Token `n` of batch `b` in the flat order of rows. -/
abbrev row (b : Fin 2) (n : Fin 8448) : Fin 16896 := ⟨b.val * 8448 + n.val, by omega⟩

/-- The host's product, reshaped to batches, at a token and a column. -/
theorem prod_apply (b : Fin 2) (n : Fin 8448) (q : Fin 2048) :
    Read.val_main_v3 (F := Ideal) x0 x1 (ix3 b n q) = prodAt (M := 16896) (K := 4096) (N := 2048) x0 x1 (row b n) q := by
  rw [Read.val_main_v3_apply, Read.val_main_v2_apply]
  unfold prodAt
  refine Finset.sum_congr rfl fun k _ => ?_
  rw [Read.val_main_v1_apply]
  have el : Read.lidx_main_v2 (Read.idx_main_v3 (ix3 b n q)) k = ix2 (row b n) k := funext fun a => Fin.ext (by
    match a with
    | ⟨0, _⟩ => show ((b.val * 8448 + n.val) * 2048 + q.val) / 2048 = b.val * 8448 + n.val; omega
    | ⟨1, _⟩ => rfl)
  have er : Read.ridx_main_v2 (Read.idx_main_v3 (ix3 b n q)) k = ix2 k q := funext fun a => Fin.ext (by
    match a with
    | ⟨0, _⟩ => rfl
    | ⟨1, _⟩ => show ((b.val * 8448 + n.val) * 2048 + q.val) % 2048 = q.val; omega)
  rw [el, er]
  rfl

/-- The residual, reshaped to batches, at a token and a column. -/
theorem res_apply (b : Fin 2) (n : Fin 8448) (q : Fin 2048) :
    Read.val_main_v0 (F := Ideal) x2 (ix3 b n q) = x2 (ix2 (row b n) q) := by
  rw [Read.val_main_v0_apply]
  congr 1
  exact funext fun a => Fin.ext (by
    match a with
    | ⟨0, _⟩ => show ((b.val * 8448 + n.val) * 2048 + q.val) / 2048 = b.val * 8448 + n.val; omega
    | ⟨1, _⟩ => show ((b.val * 8448 + n.val) * 2048 + q.val) % 2048 = q.val; omega)

/-- The gate of the context tokens. -/
theorem gate_ctx (b : Fin 2) (n : Fin 256) (q : Fin 2048) : Read.val_main_v12 (F := Ideal) x3 (ix3 b n q) = x3 (ix3 2 2 q) := by
  rw [Read.val_main_v12_apply, Read.val_main_v9_apply, Read.val_main_v8_apply, Read.val_main_v7_apply]
  congr 1
  exact funext fun a => Fin.ext (by
    match a with
    | ⟨0, _⟩ => rfl
    | ⟨1, _⟩ => rfl
    | ⟨2, _⟩ => show q.val % 2048 = q.val; omega)

/-- The gate of the latent tokens: the table of their batch. -/
theorem gate_lat (b : Fin 2) (n : Fin 8192) (q : Fin 2048) :
    Read.val_main_v17 (F := Ideal) x3 (ix3 b n q) = x3 (ix3 (⟨b.val, by omega⟩ : Fin 8) 2 q) := by
  rw [Read.val_main_v17_apply, Read.val_main_v6_apply, Read.val_main_v5_apply, Read.val_main_v4_apply]
  congr 1
  exact funext fun a => Fin.ext (by
    match a with
    | ⟨0, _⟩ => show (b.val * 2048 + q.val) / 2048 = b.val; omega
    | ⟨1, _⟩ => rfl
    | ⟨2, _⟩ => show (b.val * 2048 + q.val) % 2048 = q.val; omega)

/-- The host's result at a row and a column is the gated residual. -/
theorem val_apply (i : S16896x2048.Idx) :
    Read.val_main_v21 (F := Ideal) x0 x1 x2 x3 i = gatedAt (D := 4096) x0 x1 x2 x3 (i 0) (i 1) := by
  obtain ⟨R, q, rfl⟩ : ∃ (R : Fin 16896) (q : Fin 2048), i = ix2 R q := ⟨i 0, i 1, eq_ix2 i⟩
  obtain ⟨b, n, rfl⟩ : ∃ (b : Fin 2) (n : Fin 8448), R = row b n :=
    ⟨⟨R.val / 8448, by omega⟩, ⟨R.val % 8448, by omega⟩, Fin.ext (by show R.val = R.val / 8448 * 8448 + R.val % 8448; omega)⟩
  show _ = gatedAt x0 x1 x2 x3 (row b n) q
  have ei : Read.idx_main_v21 (ix2 (row b n) q) = ix3 b n q := funext fun a => Fin.ext (by
    match a with
    | ⟨0, _⟩ => show ((b.val * 8448 + n.val) * 2048 + q.val) / 17301504 = b.val; omega
    | ⟨1, _⟩ => show ((b.val * 8448 + n.val) * 2048 + q.val) / 2048 % 8448 = n.val; omega
    | ⟨2, _⟩ => show ((b.val * 8448 + n.val) * 2048 + q.val) % 2048 = q.val; omega)
  rw [Read.val_main_v21_apply, ei]
  unfold Read.val_main_v20 gatedAt
  by_cases hn : n.val < 256
  · have es : stream (row b n) = 2 := stream_ctx b n hn
    refine (concatenate_pair_apply_left (t := S2x8448x2048) (s₁ := S2x256x2048) (s₂ := S2x8192x2048) 1 _ _
      concatenates_S2x256x2048_S2x8192x2048_S2x8448x2048_d1 (ix3 b n q) rfl (ix3 b (⟨n.val, hn⟩ : Fin 256) q) (fun a => by
      match a with | ⟨0, _⟩ => rfl | ⟨1, _⟩ => rfl | ⟨2, _⟩ => rfl)).trans ?_
    rw [Read.val_main_v14_apply, Read.val_main_v13_apply, Read.val_main_v10_apply, Read.val_main_v11_apply, gate_ctx, es]
    have e10 : Read.idx_main_v10 (ix3 b (⟨n.val, hn⟩ : Fin 256) q) = ix3 b n q := funext fun a => Fin.ext (by
      match a with | ⟨0, _⟩ => rfl | ⟨1, _⟩ => rfl | ⟨2, _⟩ => rfl)
    have e11 : Read.idx_main_v11 (ix3 b (⟨n.val, hn⟩ : Fin 256) q) = ix3 b n q := funext fun a => Fin.ext (by
      match a with | ⟨0, _⟩ => rfl | ⟨1, _⟩ => rfl | ⟨2, _⟩ => rfl)
    rw [e10, e11, prod_apply, res_apply]
    rfl
  · have es : stream (row b n) = ⟨b.val, by omega⟩ := stream_lat b n hn
    refine (concatenate_pair_apply_right (t := S2x8448x2048) (s₁ := S2x256x2048) (s₂ := S2x8192x2048) 1 _ _
      concatenates_S2x256x2048_S2x8192x2048_S2x8448x2048_d1 (ix3 b n q) rfl rfl (ix3 b (⟨n.val - 256, by omega⟩ : Fin 8192) q)
      (fun a h => by match a with | ⟨0, _⟩ => rfl | ⟨1, _⟩ => exact absurd rfl h | ⟨2, _⟩ => rfl)
      (by show n.val - 256 + 256 = n.val; omega)).trans ?_
    rw [Read.val_main_v19_apply, Read.val_main_v18_apply, Read.val_main_v15_apply, Read.val_main_v16_apply, gate_lat, es]
    have e15 : Read.idx_main_v15 (ix3 b (⟨n.val - 256, by omega⟩ : Fin 8192) q) = ix3 b n q := funext fun a => Fin.ext (by
      match a with | ⟨0, _⟩ => rfl | ⟨1, _⟩ => show 256 + (n.val - 256) = n.val; omega | ⟨2, _⟩ => rfl)
    have e16 : Read.idx_main_v16 (ix3 b (⟨n.val - 256, by omega⟩ : Fin 8192) q) = ix3 b n q := funext fun a => Fin.ext (by
      match a with | ⟨0, _⟩ => rfl | ⟨1, _⟩ => show 256 + (n.val - 256) = n.val; omega | ⟨2, _⟩ => rfl)
    rw [e15, e16, prod_apply, res_apply]
    rfl

end Cert.SsmOutRefIdeal.Residual

namespace Cert.Proof.SsmOut

/-- The reference runs and leaves its arguments as they were. -/
theorem frame_ref : Cert.quiescent_SsmOutRefIdeal := fun m ρ _ =>
  (θ_run Cert.SsmOutRefIdeal.defs _ _).mono (fun r h => ⟨fun c => (h c).2,
      Idealize.ShloMosaic.sem_eq_zero_of_no_sems (by decide) r.2⟩)
    (Cert.SsmOutRefIdeal.Value.run (F := Ideal) m ρ)

/-- The kernel and the reference compute the same gated residual. -/
theorem algebraic : Cert.algebraic_SsmOutIdeal_SsmOutRefIdeal := fun m ρ m' ρ' _ hag =>
  ⟨fun c => Cert.SsmOutIdeal.Residual.G m c, Cert.SsmOutIdeal.Residual.run m ρ,
    (θ_run Cert.SsmOutRefIdeal.defs _ _).mono (fun _ h c => ⟨by
        rw [(h c).1, Cert.SsmOutRefIdeal.Read.val_main_v21_eq, (hag c).1, (hag c).2.1, (hag c).2.2.1, (hag c).2.2.2]
        exact funext fun i => Cert.SsmOutRefIdeal.Residual.val_apply _ _ _ _ i, (h c).2⟩)
      (Cert.SsmOutRefIdeal.Value.run (F := Ideal) m' ρ')⟩

end Cert.Proof.SsmOut

end
-- ==== Proof.ExpertsSteps.lean ====
module
public import proofs.«01_k».proof.Proof.Gen.Experts.Launch
public import proofs.«01_k».proof.Proof.Gen.Experts.Loops
public import Idealize.ShloMosaic.Lib.Pipeline.FrameBody
public import Idealize.ShloMosaic.Lib.Pipeline.Frame
public import Idealize.ShloMosaic.Lib.Batch
public import Idealize.ShloMosaic.Lib.Ring
public import Idealize.ShloMosaic.Lib.Claim
public import Idealize.ShloMosaic.Lib.Tactic

/-!
# The experts' gather, one trip at a time

A grid point copies 256 rows of the tokens into one half of a buffer, one copy per row, and the next grid point waits for
them. Here is what one trip of each of the three loops does to the batch of copies.
-/

@[expose] public section

set_option maxRecDepth 16384

noncomputable section

namespace Cert.Experts.Steps

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

/-- The resource the assertions below are about. -/
abbrev MU (F : FTy → Type) : Type := MT nD τ sig Unit (Elt F) ℕ (UD sig nD τ) ℕ

/-- The contents of a memref's buffer. -/
abbrev Bf (c : Dev nD) {sp : Space} {S : Shape} {e : EltTy} (M : Memref sig .tc sp S e) : Type :=
  Buf (Elt F) (M.view.loc (c : Thread nD τ))

theorem trips1 : k0_t1_loop.trips = 256 := by decide
theorem trips2 : k0_t2_loop.trips = 256 := by decide
theorem trips3 : k0_t3_loop.trips = 256 := by decide

/-- Where a half of the buffer begins, a row of a half, a row of the tokens and a semaphore stay inside. -/
abbrev InS (o : Fin 3 → ℕ) : Prop := ∀ a, o a + S1x256x2048.size a ≤ S2x256x2048.size a
abbrev InR (r : Fin 2 → ℕ) : Prop := ∀ a, r a + S1x2048.size a ≤ S256x2048.size a
abbrev InX (x : Fin 2 → ℕ) : Prop := ∀ a, x a + S1x2048.size a ≤ S16896x2048.size a
abbrev InC (p : Fin 1 → ℕ) : Prop := ∀ a, p a + S1.size a ≤ S2.size a

/-- A half of the buffer. -/
def slotM (o : Fin 3 → ℕ) (ho : InS o) : Memref sig .tc .vmem S256x2048 .f32 :=
  ((Memref.whole cc0_scratch0).slice (Rect.unit (s := S2x256x2048) o S1x256x2048.size ho) (fun _ => rfl)).squeeze S256x2048 squeezes_S1x256x2048_S256x2048
/-- A row of a half. -/
def rowM (o : Fin 3 → ℕ) (ho : InS o) (r : Fin 2 → ℕ) (hr : InR r) : Memref sig .tc .vmem S1x2048 .f32 :=
  (((Memref.whole cc0_scratch0).slice (Rect.unit (s := S2x256x2048) o S1x256x2048.size ho) (fun _ => rfl)).squeeze S256x2048 squeezes_S1x256x2048_S256x2048).slice (Rect.unit (s := S256x2048) r S1x2048.size hr) (fun _ => rfl)
/-- A row of the tokens. -/
def srcM (x : Fin 2 → ℕ) (hx : InX x) : Memref sig .tc .hbm S1x2048 .f32 :=
  (Memref.whole main_arg0).slice (Rect.unit (s := S16896x2048) x S1x2048.size hx) (fun _ => rfl)
/-- A half's semaphore. -/
abbrev semO (p : Fin 1 → ℕ) (hp : InC p) : DmaSem sig :=
  ((cc0_scratch1.slice (Rect.unit (s := S2) p S1.size hp)).squeeze S_ squeezes_S1_S_).sem

/-- What one row's copy counts on its semaphore. -/
abbrev NN : ℕ := 256

/-- The copies into one half: where the half is, which row of it copy `k` fills and which token it reads. -/
structure Plan where
  o : Fin 3 → ℕ
  ho : InS o
  r : Fin 256 → Fin 2 → ℕ
  hr : ∀ k, InR (r k)
  x : Fin 256 → Fin 2 → ℕ
  hx : ∀ k, InX (x k)

section Deliveries

variable (c : Dev nD) (P : Plan) (q : PosShare TreeShare)
  (g : Bf (F := F) c (Memref.whole cc0_scratch0)) (f : Bf (F := F) c (Memref.whole main_arg0))

abbrev gAt (k : Fin 256) : Buf (Elt F) ((rowM P.o P.ho (P.r k) (P.hr k)).view.loc (c : Thread nD τ)) := g
abbrev fAt (k : Fin 256) : Buf (Elt F) ((srcM (P.x k) (P.hx k)).view.loc (c : Thread nD τ)) := f

/-- Row `k` filled. -/
abbrev landed (k : Fin 256) : Buf (Elt F) ((rowM P.o P.ho (P.r k) (P.hr k)).view.loc (c : Thread nD τ)) :=
  (rowM P.o P.ho (P.r k) (P.hr k)).view.writes (Elt F) (gAt c P g k) [⟨Rect.whole S1x2048, ReadAs.same.apply ((srcM (P.x k) (P.hx k)).view.read (Elt F) (fAt c P f k))⟩]

/-- Row `k` before its copy, and the token it will read. -/
abbrev dst (k : Fin 256) : sProp (MU F) :=
  (rowM P.o P.ho (P.r k) (P.hr k)).view.loc (c : Thread nD τ) ↦[(rowM P.o P.ho (P.r k) (P.hr k)).view.set]{fullShare} gAt c P g k
abbrev src (k : Fin 256) : sProp (MU F) :=
  (srcM (P.x k) (P.hx k)).view.loc (c : Thread nD τ) ↦[(srcM (P.x k) (P.hx k)).view.set]{Transfers.shareTokN q k.val} fAt c P f k

/-- What copy `k` hands over when it has landed. -/
abbrev D (k : Fin 256) : sProp (MU F) :=
  iprop(((rowM P.o P.ho (P.r k) (P.hr k)).view.loc (c : Thread nD τ)
          ↦[(rowM P.o P.ho (P.r k) (P.hr k)).view.set]{fullShare} landed c P g f k)
    ∗ ((srcM (P.x k) (P.hx k)).view.loc (c : Thread nD τ) ↦[(srcM (P.x k) (P.hx k)).view.set]{Transfers.shareTokN q k.val} fAt c P f k))

instance D_storable (k : Fin 256) : BI.Storable (upEmb : UEmb _ (MU F)) (D c P q g f k) := by
  unfold D; infer_instance

/-- The batch: `j` copies issued, `u` units awaited. -/
abbrev batch (p : Fin 1 → ℕ) (hp : InC p) (j u : ℕ) : sProp (MU F) :=
  Transfers.Batch countersEmb (c : Thread nD τ) (.dma (semO p hp)) () NN (D c P q g f) j u

end Deliveries

/-- The one index of a word. -/
abbrev i0 : S1x1x1.Idx := Shape.Idx.first (s := S1x1x1) (numel1_S1x1x1.symm ▸ Nat.one_pos)

/-- Word `k` of a block of row numbers, as the first loop reads it; -/
abbrev wd1 (c : Dev nD) (i : grid0.Coords) (h1 : k0_cond1 i = 1#1) (M : Memref sig .tc .smem S1x1x256 .i32) (s : Bf (F := F) c M) (k : Fin k0_t1_loop.trips) : BitVec 32 :=
  M.view.readAt (Elt F) (Rect.unit (s := S1x1x256) (k0_off2 k) S1x1x1.size (k0_off2_inb i k h1)).toLoadRect s i0
/-- and as the second does. -/
abbrev wd2 (c : Dev nD) (M : Memref sig .tc .smem S1x1x256 .i32) (s : Bf (F := F) c M) (k : Fin k0_t2_loop.trips) : BitVec 32 :=
  M.view.readAt (Elt F) (Rect.unit (s := S1x1x256) (k0_off5 k) S1x1x1.size (k0_off5_inb k)).toLoadRect s i0

theorem inX4 (v : BitVec 32) (h : v.toNat < 16896) : InX (k0_off4 v) := by
  intro a; fin_cases a
  · show v.toNat + 1 ≤ 16896; omega
  · show 0 + 2048 ≤ 2048; omega
theorem inX9 (v : BitVec 32) (h : v.toNat < 16896) : InX (k0_off9 v) := inX4 v h

section Issue

variable (c : Dev nD) (q : PosShare TreeShare)
  (g : Bf (F := F) c (Memref.whole cc0_scratch0)) (f : Bf (F := F) c (Memref.whole main_arg0))

/-- The copies the first loop issues. -/
def plan1 (i : grid0.Coords) (h1 : k0_cond1 i = 1#1) (M : Memref sig .tc .smem S1x1x256 .i32) (s : Bf (F := F) c M)
    (hw : ∀ k, (wd1 c i h1 M s k).toNat < 16896) : Plan where
  o := ![0, 0, 0]
  ho := inb_S2x256x2048_S1x256x2048_0_0_0
  r k := k0_off3 (k.cast trips1.symm)
  hr k := k0_off3_inb i (k.cast trips1.symm) h1
  x k := k0_off4 (wd1 c i h1 M s (k.cast trips1.symm))
  hx k := inX4 _ (hw _)

/-- The copies the second loop issues. -/
def plan2 (i : grid0.Coords) (M : Memref sig .tc .smem S1x1x256 .i32) (s : Bf (F := F) c M)
    (hw : ∀ k, (wd2 c M s k).toNat < 16896) : Plan where
  o := k0_off7 i
  ho := k0_off7_inb i
  r k := k0_off8 (k.cast trips2.symm)
  hr k := k0_off8_inb (k.cast trips2.symm)
  x k := k0_off9 (wd2 c M s (k.cast trips2.symm))
  hx k := inX9 _ (hw _)

/-- Before trip `k` of an issuing loop: `k` copies issued, the rows and tokens of the others in hand, and the block of
    row numbers. -/
def issueAt (P : Plan) (p : Fin 1 → ℕ) (hp : InC p) (M : Memref sig .tc .smem S1x1x256 .i32) (s : Bf (F := F) c M) (k : ℕ) (_ : Unit) : sProp (MU F) :=
  iprop(batch c P q g f p hp k 0
    ∗ bigSep (Ring.rangeSet 256 k 256) (dst c P g)
    ∗ bigSep (Ring.rangeSet 256 k 256) (src c P q f)
    ∗ (M.view.loc (c : Thread nD τ) ↦[M.view.set]{fullShare} s))

set_option maxHeartbeats 4000000 in
theorem issue1 (i : grid0.Coords) (h1 : k0_cond1 i = 1#1) (M : Memref sig .tc .smem S1x1x256 .i32) (hM : M.IsWhole) (s : Bf (F := F) c M)
    (hw : ∀ k, (wd1 c i h1 M s k).toNat < 16896)
    (arg1 : Memref sig .tc .smem S164 .i32) (harg1 : arg1.IsWhole) (arg2 : Memref sig .tc .smem S1 .i32) (harg2 : arg2.IsWhole)
    (arg4 : Memref sig .tc .smem S1x1x256 .i32) (harg4 : arg4.IsWhole) (arg6 : Memref sig .tc .vmem S1x2048x768 .bf16) (harg6 : arg6.IsWhole)
    (arg7 : Memref sig .tc .vmem S1x2048x768 .bf16) (harg7 : arg7.IsWhole) (arg8 : Memref sig .tc .vmem S1x768x2048 .bf16) (harg8 : arg8.IsWhole)
    (arg9 : Memref sig .tc .vmem S256x2048 .f32) (harg9 : arg9.IsWhole)
    (h5 : (Memref.whole main_arg0).IsWhole) (h10 : (Memref.whole cc0_scratch0).IsWhole)
    (k : Fin k0_t1_loop.trips) (acc : Unit) :
    issueAt c q g f (plan1 c i h1 M s hw) ![0] inb_S2_S1_0 M s k acc
      ⊢ wp frame (wpE (defs₀ (F := F)) Variants.none c none) Set.univ
          (k0_t1_body i arg1 harg1 arg2 harg2 M hM arg4 harg4 (Memref.whole main_arg0) h5 arg6 harg6 arg7 harg7 arg8 harg8 arg9 harg9 (Memref.whole cc0_scratch0) h10 cc0_scratch1 h1 k acc)
          (issueAt c q g f (plan1 c i h1 M s hw) ![0] inb_S2_S1_0 M s (k.val + 1)) := by
  have hk : k.val < 256 := trips1 ▸ k.isLt
  have hchk : k0_chk1 i (wd1 c i h1 M s k) := fun _ => inX4 _ (hw k)
  unfold issueAt
  rw [Ring.bigSep_rangeSet_head (Φ := dst c (plan1 c i h1 M s hw) g) hk hk, Ring.bigSep_rangeSet_head (Φ := src c (plan1 c i h1 M s hw) q f) hk hk]
  unfold dst src
  dsimp only [plan1]
  iintro ⟨HB, ⟨HP, HPs⟩, ⟨HS, HSs⟩, H0⟩
  dsimp only [k0_t1_body]
  sl_exec (disch := first | exact hchk)
  sl_step
  isplitl [HB]; · iexact HB
  isplitl [HPs]; · iexact HPs
  isplitl [HSs]; · iexact HSs
  iexact H0

set_option maxHeartbeats 4000000 in
theorem issue2 (i : grid0.Coords) (v0 : BitVec 32) (h2 : k0_cond2 i v0 = 1#1) (M : Memref sig .tc .smem S1x1x256 .i32) (hM : M.IsWhole) (s : Bf (F := F) c M)
    (hw : ∀ k, (wd2 c M s k).toNat < 16896)
    (arg1 : Memref sig .tc .smem S164 .i32) (harg1 : arg1.IsWhole) (arg2 : Memref sig .tc .smem S1 .i32) (harg2 : arg2.IsWhole)
    (arg3 : Memref sig .tc .smem S1x1x256 .i32) (harg3 : arg3.IsWhole) (arg6 : Memref sig .tc .vmem S1x2048x768 .bf16) (harg6 : arg6.IsWhole)
    (arg7 : Memref sig .tc .vmem S1x2048x768 .bf16) (harg7 : arg7.IsWhole) (arg8 : Memref sig .tc .vmem S1x768x2048 .bf16) (harg8 : arg8.IsWhole)
    (arg9 : Memref sig .tc .vmem S256x2048 .f32) (harg9 : arg9.IsWhole)
    (h5 : (Memref.whole main_arg0).IsWhole) (h10 : (Memref.whole cc0_scratch0).IsWhole)
    (k : Fin k0_t2_loop.trips) (acc : Unit) :
    issueAt c q g f (plan2 c i M s hw) (k0_off6 i) (k0_off6_inb i) M s k acc
      ⊢ wp frame (wpE (defs₀ (F := F)) Variants.none c none) Set.univ
          (k0_t2_body i arg1 harg1 arg2 harg2 arg3 harg3 M hM (Memref.whole main_arg0) h5 arg6 harg6 arg7 harg7 arg8 harg8 arg9 harg9 (Memref.whole cc0_scratch0) h10 cc0_scratch1 v0 h2 k acc)
          (issueAt c q g f (plan2 c i M s hw) (k0_off6 i) (k0_off6_inb i) M s (k.val + 1)) := by
  have hk : k.val < 256 := trips2 ▸ k.isLt
  have hchk : k0_chk2 i v0 (wd2 c M s k) := fun _ => inX9 _ (hw k)
  unfold issueAt
  rw [Ring.bigSep_rangeSet_head (Φ := dst c (plan2 c i M s hw) g) hk hk, Ring.bigSep_rangeSet_head (Φ := src c (plan2 c i M s hw) q f) hk hk]
  unfold dst src
  dsimp only [plan2]
  iintro ⟨HB, ⟨HP, HPs⟩, ⟨HS, HSs⟩, H0⟩
  dsimp only [k0_t2_body]
  sl_exec (disch := first | exact hchk)
  sl_step
  isplitl [HB]; · iexact HB
  isplitl [HPs]; · iexact HPs
  isplitl [HSs]; · iexact HSs
  iexact H0

end Issue

section Drain

variable (c : Dev nD) (q : PosShare TreeShare)
  (g : Bf (F := F) c (Memref.whole cc0_scratch0)) (f : Bf (F := F) c (Memref.whole main_arg0)) (P : Plan)

/-- Before trip `k` of the waiting loop: `k` rows awaited, or all of them and their deliveries in hand. -/
def drainAt (i : grid0.Coords) (k : ℕ) (_ : Unit) : sProp (MU F) :=
  iprop((∃ W, owes (c : Thread nD τ) 0 W)
    ∗ (if k < 256 then batch c P q g f (k0_off10 i) (k0_off10_inb i) 256 (k * NN)
       else iprop(semVal ((c : Thread nD τ), SemLoc.dma (semO (k0_off10 i) (k0_off10_inb i))) 0 ∗ bigSep Finset.univ (D c P q g f))))

set_option maxHeartbeats 4000000 in
theorem drain (i : grid0.Coords)
    (arg1 : Memref sig .tc .smem S164 .i32) (harg1 : arg1.IsWhole) (arg2 : Memref sig .tc .smem S1 .i32) (harg2 : arg2.IsWhole)
    (arg3 : Memref sig .tc .smem S1x1x256 .i32) (harg3 : arg3.IsWhole)
    (arg4 : Memref sig .tc .smem S1x1x256 .i32) (harg4 : arg4.IsWhole) (arg6 : Memref sig .tc .vmem S1x2048x768 .bf16) (harg6 : arg6.IsWhole)
    (arg7 : Memref sig .tc .vmem S1x2048x768 .bf16) (harg7 : arg7.IsWhole) (arg8 : Memref sig .tc .vmem S1x768x2048 .bf16) (harg8 : arg8.IsWhole)
    (arg9 : Memref sig .tc .vmem S256x2048 .f32) (harg9 : arg9.IsWhole)
    (h5 : (Memref.whole main_arg0).IsWhole) (h10 : (Memref.whole cc0_scratch0).IsWhole)
    (k : Fin k0_t3_loop.trips) (acc : Unit) :
    drainAt c q g f P i k acc
      ⊢ wp frame (wpE (defs₀ (F := F)) Variants.none c none) Set.univ
          (k0_t3_body i arg1 harg1 arg2 harg2 arg3 harg3 arg4 harg4 (Memref.whole main_arg0) h5 arg6 harg6 arg7 harg7 arg8 harg8 arg9 harg9 (Memref.whole cc0_scratch0) h10 cc0_scratch1 k acc)
          (drainAt c q g f P i (k.val + 1)) := by
  have hk : k.val < 256 := trips3 ▸ k.isLt
  unfold drainAt
  simp only [if_pos hk]
  rcases Nat.lt_or_ge (k.val + 1) 256 with hk1 | hk1
  · simp only [if_pos hk1]
    iintro ⟨⟨%W, HO⟩, HB⟩
    dsimp only [k0_t3_body]
    sl_exec
    sl_step
    isplitl [HO]; · iexists _; iexact HO
    rw [show (k.val + 1) * NN = k.val * NN + NN from Nat.succ_mul _ _]
    iexact HB
  · have hlast : k.val + 1 = 256 := by omega
    simp only [if_neg (Nat.not_lt.mpr hk1)]
    iintro ⟨⟨%W, HO⟩, HB⟩
    dsimp only [k0_t3_body]
    sl_exec
    sl_step
    isplitl [HO]; · iexists _; iexact HO
    isplitl [HB]; · iexact HB
    iexact HB_all

end Drain

end Cert.Experts.Steps
-- ==== Proof.ExpertsSlots.lean ====
module
public import proofs.«01_k».proof.Proof.ExpertsSteps
public import Idealize.ShloMosaic.Lib.ValueLayout

/-!
# The two halves of the experts' buffer

A half of the buffer is its 256 rows. Before its copies are issued it is free; then they are in flight; when all have been
awaited it holds the rows of the tokens that the block of row numbers names.
-/

@[expose] public section

set_option maxRecDepth 16384

noncomputable section

namespace Cert.Experts.Steps

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.ValueIdx

variable {F : FTy → Type} [FloatOps F]

/-- The plan fills half `s`, row by row, with the tokens `w`. -/
structure Plan.Is (P : Plan) (s : Fin 2) (w : Fin 256 → Fin 16896) : Prop where
  o : P.o = ![s.val, 0, 0]
  r : ∀ k, P.r k = ![k.val, 0]
  x : ∀ k, P.x k = ![(w k).val, 0]

/-- The elements of half `s`. -/
def half (s : Fin 2) : Finset S2x256x2048.Idx := Finset.univ.filter fun y => (y 0).val = s.val

/-- The elements of row `k` of the half that the plan fills, and those that copy `k` reads. -/
def rowSet (P : Plan) (k : Fin 256) : Finset S2x256x2048.Idx := (rowM P.o P.ho (P.r k) (P.hr k)).view.set
def srcSet (P : Plan) (k : Fin 256) : Finset S16896x2048.Idx := (srcM (P.x k) (P.hx k)).view.set

theorem mem_half (s : Fin 2) (y : S2x256x2048.Idx) : y ∈ half s ↔ (y 0).val = s.val := by
  simp [half]

section Geometry

variable {P : Plan} {s : Fin 2} {w : Fin 256 → Fin 16896} (h : P.Is s w)
include h

/-- Where element `j` of row `k` lies. -/
theorem rowM_emb (k : Fin 256) (j : S1x2048.Idx) :
    (rowM P.o P.ho (P.r k) (P.hr k)).view.emb j = (ix3 s k (j 1) : S2x256x2048.Idx) := by
  have hj : (Rect.unit (s := S256x2048) (P.r k) S1x2048.size (P.hr k)).emb j = (ix2 k (j 1) : S256x2048.Idx) := by
    funext a; apply Fin.ext
    have e := h.r k
    have j0 : (j 0).val < 1 := (j 0).isLt
    match a with
    | ⟨0, _⟩ =>
      show P.r k 0 + 1 * (j 0).val = k.val
      rw [e]; show k.val + 1 * (j 0).val = k.val; omega
    | ⟨1, _⟩ =>
      show P.r k 1 + 1 * (j 1).val = (j 1).val
      rw [e]; show 0 + 1 * (j 1).val = (j 1).val; omega
  show (Rect.unit (s := S2x256x2048) P.o S1x256x2048.size P.ho).emb
    (Shape.reshapeEquiv squeezes_S1x256x2048_S256x2048.numel_eq ((Rect.unit (s := S256x2048) (P.r k) S1x2048.size (P.hr k)).emb j)) = _
  refine (congrArg (fun y => (Rect.unit (s := S2x256x2048) P.o S1x256x2048.size P.ho).emb
    (Shape.reshapeEquiv squeezes_S1x256x2048_S256x2048.numel_eq y)) hj).trans ?_
  refine (congrArg (Rect.unit (s := S2x256x2048) P.o S1x256x2048.size P.ho).emb
    (reshapeEquiv_ix2_1ab (a := 256) (b := 2048) squeezes_S1x256x2048_S256x2048.numel_eq k (j 1))).trans ?_
  funext a; apply Fin.ext
  have e := h.o
  match a with
  | ⟨0, _⟩ =>
    show P.o 0 + 1 * 0 = s.val
    rw [e]; rfl
  | ⟨1, _⟩ =>
    show P.o 1 + 1 * k.val = k.val
    rw [e]; show 0 + 1 * k.val = k.val; omega
  | ⟨2, _⟩ =>
    show P.o 2 + 1 * (j 1).val = (j 1).val
    rw [e]; show 0 + 1 * (j 1).val = (j 1).val; omega

theorem srcM_emb (k : Fin 256) (j : S1x2048.Idx) :
    (srcM (P.x k) (P.hx k)).view.emb j = (ix2 (w k) (j 1) : S16896x2048.Idx) := by
  show (Rect.unit (s := S16896x2048) (P.x k) S1x2048.size (P.hx k)).emb j = _
  funext a; apply Fin.ext
  have e := h.x k
  have j0 : (j 0).val < 1 := (j 0).isLt
  match a with
  | ⟨0, _⟩ =>
    show P.x k 0 + 1 * (j 0).val = (w k).val
    rw [e]; show (w k).val + 1 * (j 0).val = (w k).val; omega
  | ⟨1, _⟩ =>
    show P.x k 1 + 1 * (j 1).val = (j 1).val
    rw [e]; show 0 + 1 * (j 1).val = (j 1).val; omega

theorem mem_row (k : Fin 256) (y : S2x256x2048.Idx) :
    y ∈ rowSet P k ↔ (y 0).val = s.val ∧ (y 1).val = k.val := by
  constructor
  · intro hy
    obtain ⟨j, -, e⟩ := Finset.mem_map.mp hy
    have e' : (ix3 s k (j 1) : S2x256x2048.Idx) = y := (rowM_emb h k j).symm.trans e
    subst e'; exact ⟨rfl, rfl⟩
  · rintro ⟨e0, e1⟩
    refine Finset.mem_map.mpr ⟨(ix2 (0 : Fin 1) (y 2) : S1x2048.Idx), Finset.mem_univ _, (rowM_emb h k _).trans ?_⟩
    funext a
    match a with
    | ⟨0, _⟩ => exact Fin.ext e0.symm
    | ⟨1, _⟩ => exact Fin.ext e1.symm
    | ⟨2, _⟩ => rfl

theorem rows_disjoint (k k' : Fin 256) (hne : k ≠ k') :
    Disjoint (rowSet P k) (rowSet P k') := by
  rw [Finset.disjoint_left]; intro y hy hy'
  exact hne (Fin.ext (((mem_row h k y).mp hy).2.symm.trans ((mem_row h k' y).mp hy').2))

theorem rows_cover : Finset.univ.biUnion (rowSet P) = half s := by
  ext y
  rw [Finset.mem_biUnion, mem_half]
  constructor
  · rintro ⟨k, -, hy⟩; exact ((mem_row h k y).mp hy).1
  · intro e; exact ⟨y 1, Finset.mem_univ _, (mem_row h (y 1) y).mpr ⟨e, rfl⟩⟩

end Geometry

/-- The rows of the tokens `w`, laid out as the buffer is. -/
def gath (f : S16896x2048.Idx → Elt F .f32) (w : Fin 256 → Fin 16896) : S2x256x2048.Idx → Elt F .f32 :=
  fun y => f (ix2 (w (y 1)) (y 2))

section Use

variable (c : Dev nD) {P : Plan} {s : Fin 2} {w : Fin 256 → Fin 16896} (h : P.Is s w) (q : PosShare TreeShare)
  (g : Bf (F := F) c (Memref.whole cc0_scratch0)) (f : Bf (F := F) c (Memref.whole main_arg0))

/-- Half `s` of the buffer, at contents `g`. -/
abbrev halfAt (s : Fin 2) (g : Bf (F := F) c (Memref.whole cc0_scratch0)) : sProp (MU F) :=
  (Memref.whole cc0_scratch0 : Memref sig .tc .vmem S2x256x2048 .f32).view.loc (c : Thread nD τ) ↦[half s]{fullShare} g
/-- The tokens, at a share. -/
abbrev tokAt (q : PosShare TreeShare) (f : Bf (F := F) c (Memref.whole main_arg0)) : sProp (MU F) :=
  (Memref.whole main_arg0 : Memref sig .tc .hbm S16896x2048 .f32).view.loc (c : Thread nD τ) ↦{q} f

/-- What is left of copy `k`'s share of the tokens beside the row it reads. -/
abbrev beside (P : Plan) (k : Fin 256) : sProp (MU F) :=
  (Memref.whole main_arg0 : Memref sig .tc .hbm S16896x2048 .f32).view.loc (c : Thread nD τ)
    ↦[Finset.univ \ srcSet P k]{Transfers.shareTokN q k.val} f

/-- What stays behind while the copies are in flight. -/
def stays (P : Plan) : sProp (MU F) :=
  iprop(tokAt c (Transfers.shareDrop q 256) f ∗ bigSep Finset.univ (beside c q f P))

include h in
theorem half_rows : (halfAt c s g : sProp (MU F)) = bigSep Finset.univ (dst c P g) := by
  exact Ring.pointsTo_sub_blocks (ℓ := (Memref.whole cc0_scratch0 : Memref sig .tc .vmem S2x256x2048 .f32).view.loc (c : Thread nD τ))
    (rowSet P) (rows_disjoint h) (half s) (rows_cover h) g

theorem tok_one (P : Plan) (k : Fin 256) :
    (tokAt c (Transfers.shareTokN q k.val) f : sProp (MU F)) = iprop(src c P q f k ∗ beside c q f P k) := by
  have e : (tokAt c (Transfers.shareTokN q k.val) f : sProp (MU F)) ⊣⊢ iprop(src c P q f k ∗ beside c q f P k) :=
    pointsTo_split_subset (Finset.subset_univ _)
  exact BI.equiv_iff.mp ⟨e.1, e.2⟩

theorem tok_rows (P : Plan) : (tokAt c q f : sProp (MU F)) = iprop(bigSep Finset.univ (src c P q f) ∗ stays c q f P) := by
  have e := Transfers.pointsTo_toks (Ix := Unit) (Name := ℕ) (U := UD sig nD τ) (Lvl := ℕ)
    (ℓ := (Memref.whole main_arg0 : Memref sig .tc .hbm S16896x2048 .f32).view.loc (c : Thread nD τ))
    (S := Finset.univ) (f := f) q 256
  have e' : (tokAt c q f : sProp (MU F)) = iprop(tokAt c (Transfers.shareDrop q 256) f ∗ bigSep Finset.univ (fun k : Fin 256 => tokAt c (Transfers.shareTokN q k.val) f)) :=
    BI.equiv_iff.mp ⟨e.1, e.2⟩
  rw [e', BI.bigSep_congr fun k _ => tok_one c q f P k]
  unfold stays
  have a : (iprop(tokAt c (Transfers.shareDrop q 256) f ∗ bigSep Finset.univ (fun k => iprop(src c P q f k ∗ beside c q f P k))) : sProp (MU F))
      ⊢ iprop(bigSep Finset.univ (src c P q f) ∗ tokAt c (Transfers.shareDrop q 256) f ∗ bigSep Finset.univ (beside c q f P)) := by
    iintro ⟨Hd, H⟩
    ihave H2 := (show bigSep Finset.univ (fun k => iprop(src c P q f k ∗ beside c q f P k)) ⊢ iprop(bigSep Finset.univ (src c P q f) ∗ bigSep Finset.univ (beside c q f P)) from
      Entails.of_eq (BI.bigSep_sep Finset.univ (src c P q f) (beside c q f P))) $$ H
    icases H2 with ⟨Ha, Hb⟩
    isplitl [Ha]; · iexact Ha
    isplitl [Hd]; · iexact Hd
    iexact Hb
  have b : (iprop(bigSep Finset.univ (src c P q f) ∗ tokAt c (Transfers.shareDrop q 256) f ∗ bigSep Finset.univ (beside c q f P)) : sProp (MU F))
      ⊢ iprop(tokAt c (Transfers.shareDrop q 256) f ∗ bigSep Finset.univ (fun k => iprop(src c P q f k ∗ beside c q f P k))) := by
    iintro ⟨Ha, Hd, Hb⟩
    isplitl [Hd]; · iexact Hd
    iapply (show iprop(bigSep Finset.univ (src c P q f) ∗ bigSep Finset.univ (beside c q f P)) ⊢ bigSep Finset.univ (fun k => iprop(src c P q f k ∗ beside c q f P k)) from
      Entails.of_eq (BI.bigSep_sep Finset.univ (src c P q f) (beside c q f P)).symm)
    isplitl [Ha]; · iexact Ha
    iexact Hb
  exact BI.equiv_iff.mp ⟨a, b⟩

include h in
theorem read_row (G : Bf (F := F) c (Memref.whole cc0_scratch0)) (k : Fin 256) (j : S1x2048.Idx) :
    (rowM P.o P.ho (P.r k) (P.hr k)).view.read (Elt F) G j = G (ix3 s k (j 1) : S2x256x2048.Idx) :=
  congrArg G (rowM_emb h k j)

include h in
theorem read_src (k : Fin 256) (j : S1x2048.Idx) :
    (srcM (P.x k) (P.hx k)).view.read (Elt F) f j = f (ix2 (w k) (j 1) : S16896x2048.Idx) :=
  congrArg f (srcM_emb h k j)

include h in
/-- Row `k` filled, read at its elements. -/
theorem landed_eq (k : Fin 256) :
    ((rowM P.o P.ho (P.r k) (P.hr k)).view.loc (c : Thread nD τ) ↦[(rowM P.o P.ho (P.r k) (P.hr k)).view.set]{fullShare} landed c P g f k : sProp (MU F))
      = dst c P (gath f w) k := by
  refine pointsTo_congr fun y hy => ?_
  obtain ⟨j, -, rfl⟩ := Finset.mem_map.mp hy
  have e := View.read_writes_cons_hit (rowM P.o P.ho (P.r k) (P.hr k)).view (gAt c P g k)
    (Rect.whole S1x2048) (ReadAs.same.apply ((srcM (P.x k) (P.hx k)).view.read (Elt F) (fAt c P f k))) [] j j (Rect.emb_whole_apply _ _)
  have e1 := (read_row c h (landed c P g f k) k j).symm.trans (e.trans (read_src c h f k j))
  exact (congrArg (landed c P g f k) (rowM_emb h k j)).trans (e1.trans (congrArg (gath f w) (rowM_emb h k j)).symm)

include h in
/-- A free half and a share of the tokens are what a batch begins with, and what stays behind. -/
theorem begin_batch :
    (iprop(halfAt c s g ∗ tokAt c q f) : sProp (MU F))
      ⊢ iprop(bigSep (Ring.rangeSet 256 0 256) (dst c P g) ∗ bigSep (Ring.rangeSet 256 0 256) (src c P q f) ∗ stays c q f P) := by
  rw [half_rows c h g, tok_rows c q f P, Ring.rangeSet_univ]

include h in
/-- Once every delivery is in hand the half holds the rows named, and the tokens' share is whole again. -/
theorem end_batch :
    (iprop(bigSep Finset.univ (D c P q g f) ∗ stays c q f P) : sProp (MU F)) ⊢ iprop(halfAt c s (gath f w) ∗ tokAt c q f) := by
  rw [half_rows c h (gath f w), tok_rows c q f P]
  iintro ⟨Hd, Hst⟩
  ihave H2 := (show bigSep Finset.univ (D c P q g f) ⊢ iprop(bigSep Finset.univ (fun k => ((rowM P.o P.ho (P.r k) (P.hr k)).view.loc (c : Thread nD τ) ↦[(rowM P.o P.ho (P.r k) (P.hr k)).view.set]{fullShare} landed c P g f k : sProp (MU F))) ∗ bigSep Finset.univ (src c P q f)) from
    Entails.of_eq (BI.bigSep_sep Finset.univ (fun k => ((rowM P.o P.ho (P.r k) (P.hr k)).view.loc (c : Thread nD τ) ↦[(rowM P.o P.ho (P.r k) (P.hr k)).view.set]{fullShare} landed c P g f k : sProp (MU F))) (src c P q f))) $$ Hd
  icases H2 with ⟨Ha, Hb⟩
  isplitl [Ha]
  · iapply (Entails.of_eq (BI.bigSep_congr fun k _ => landed_eq c h g f k)); iexact Ha
  isplitl [Hb]; · iexact Hb
  iexact Hst

end Use

end Cert.Experts.Steps
-- ==== Proof.ExpertsBody.lean ====
module
public import proofs.«01_k».proof.Proof.ExpertsSlots
public import Idealize.ShloMosaic.Lib.WordCmp

/-!
# The experts' kernel at one grid point

A grid point may begin the copies of the first block, may begin those of the next block, and either waits for its own
block's copies and computes the block's result, or fills the result's block with zeros.
-/

@[expose] public section

set_option maxRecDepth 16384

noncomputable section

namespace Cert.Experts.Steps

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.ValueIdx

variable {F : FTy → Type} [FloatOps F]

section Numbers

theorem off2_eq (k : Fin 256) : k0_off2 (k.cast trips1.symm) = ![0, 0, k.val] :=
  (by decide +kernel : ∀ k : Fin 256, k0_off2 (k.cast trips1.symm) = ![0, 0, k.val]) k
theorem off5_eq (k : Fin 256) : k0_off5 (k.cast trips2.symm) = ![0, 0, k.val] :=
  (by decide +kernel : ∀ k : Fin 256, k0_off5 (k.cast trips2.symm) = ![0, 0, k.val]) k
theorem off3_eq (k : Fin 256) : k0_off3 (k.cast trips1.symm) = ![k.val, 0] :=
  (by decide +kernel : ∀ k : Fin 256, k0_off3 (k.cast trips1.symm) = ![k.val, 0]) k
theorem off8_eq (k : Fin 256) : k0_off8 (k.cast trips2.symm) = ![k.val, 0] :=
  (by decide +kernel : ∀ k : Fin 256, k0_off8 (k.cast trips2.symm) = ![k.val, 0]) k

/-- The half a grid point's block is in, and the other. -/
def mine (i : grid0.Coords) : Fin 2 := ⟨(i 0).val % 2, Nat.mod_lt _ (by decide)⟩
def other (i : grid0.Coords) : Fin 2 := ⟨1 - (i 0).val % 2, by omega⟩

theorem off6_eq (i : grid0.Coords) : k0_off6 i = ![(other i).val] :=
  (by decide +kernel : ∀ i : grid0.Coords, k0_off6 i = ![(other i).val]) i
theorem off7_eq (i : grid0.Coords) : k0_off7 i = ![(other i).val, 0, 0] :=
  (by decide +kernel : ∀ i : grid0.Coords, k0_off7 i = ![(other i).val, 0, 0]) i
theorem off10_eq (i : grid0.Coords) : k0_off10 i = ![(mine i).val] :=
  (by decide +kernel : ∀ i : grid0.Coords, k0_off10 i = ![(mine i).val]) i
theorem off13_eq (i : grid0.Coords) : k0_off13 i = ![(mine i).val, 0, 0] :=
  (by decide +kernel : ∀ i : grid0.Coords, k0_off13 i = ![(mine i).val, 0, 0]) i

theorem cond1_iff (i : grid0.Coords) : k0_cond1 i = 1#1 ↔ (i 0).val = 0 :=
  (by decide +kernel : ∀ i : grid0.Coords, k0_cond1 i = 1#1 ↔ (i 0).val = 0) i

theorem bit_iff (b : BitVec 1) : Scalar.cmpi .ne (Scalar.extui b) 0#32 = 1#1 ↔ b = 1#1 :=
  (by decide : ∀ b : BitVec 1, Scalar.cmpi .ne (Scalar.extui b) 0#32 = 1#1 ↔ b = 1#1) b

variable (i : grid0.Coords) (n : ℕ) (hn : n ≤ 164)

theorem coord_lt : (i 0).val < 164 := (i 0).isLt

include hn in
theorem cond2_iff : k0_cond2 i (BitVec.ofNat 32 n) = 1#1 ↔ (i 0).val + 1 < n := by
  have h := coord_lt i
  refine (bit_iff _).trans ?_
  have e : Scalar.addi (BitVec.ofNat 32 (i 0).val) 1#32 = BitVec.ofNat 32 ((i 0).val + 1) := by
    show BitVec.ofNat 32 (i 0).val + BitVec.ofNat 32 1 = _
    rw [BitVec.ofNat_add]
  rw [e]
  exact Idealize.ShloMosaic.WordCmp.cmpi_slt_ofNat_eq_one_iff (by omega) (by omega)
include hn in
theorem cond3_iff : k0_cond3 i (BitVec.ofNat 32 n) = 1#1 ↔ (i 0).val < n := by
  have h := coord_lt i
  exact (bit_iff _).trans (Idealize.ShloMosaic.WordCmp.cmpi_slt_ofNat_eq_one_iff (by omega) (by omega))
include hn in
theorem cond4_iff : k0_cond4 i (BitVec.ofNat 32 n) = 1#1 ↔ n ≤ (i 0).val := by
  have h := coord_lt i
  exact (bit_iff _).trans (Idealize.ShloMosaic.WordCmp.cmpi_sge_ofNat_eq_one_iff (by omega) (by omega))

end Numbers

theorem inC (s : Fin 2) : InC ![s.val] := by
  intro a
  have ha : a = 0 := Subsingleton.elim _ _
  subst ha
  have hs := s.isLt
  show s.val + 1 ≤ 2
  omega

theorem semO_congr {p p' : Fin 1 → ℕ} (hp : InC p) (hp' : InC p') (e : p = p') : semO p hp = semO p' hp' := by
  subst e; rfl

theorem cell_congr (c : Dev nD) {p p' : Fin 1 → ℕ} (hp : InC p) (hp' : InC p') (e : p = p') :
    (semVal ((c : Thread nD τ), SemLoc.dma (semO p hp)) 0 : sProp (MU F)) = semVal ((c : Thread nD τ), SemLoc.dma (semO p' hp')) 0 := by
  subst e; rfl
theorem batch_congr (c : Dev nD) (P : Plan) (q : PosShare TreeShare) (g : Bf (F := F) c (Memref.whole cc0_scratch0))
    (f : Bf (F := F) c (Memref.whole main_arg0)) {p p' : Fin 1 → ℕ} (hp : InC p) (hp' : InC p') (e : p = p') (j u : ℕ) :
    batch c P q g f p hp j u = batch c P q g f p' hp' j u := by
  subst e; rfl

/-- Half `s`'s semaphore, and the share of the tokens its copies read at. -/
abbrev semC (s : Fin 2) : DmaSem sig := semO ![s.val] (inC s)
def sh (s : Fin 2) : PosShare TreeShare := if s = 0 then fullShare.left else fullShare.right

/-- The words of a block of row numbers. -/
def Words (c : Dev nD) (M : Memref sig .tc .smem S1x1x256 .i32) (x : Bf (F := F) c M) (w : Fin 256 → Fin 16896) : Prop :=
  ∀ k : Fin 256, M.view.read (Elt F) x (ix3 (0 : Fin 1) (0 : Fin 1) k) = BitVec.ofNat 32 (w k).val

section States

variable (c : Dev nD) (s : Fin 2) (w : Fin 256 → Fin 16896) (f : Bf (F := F) c (Memref.whole main_arg0))

/-- Half `s` free, -/
def FreeH : sProp (MU F) :=
  iprop(∃ g, halfAt c s g ∗ semVal ((c : Thread nD τ), SemLoc.dma (semC s)) 0 ∗ tokAt c (sh s) f)
/-- its copies of the rows `w` in flight, -/
def FlyH : sProp (MU F) :=
  iprop(∃ (P : Plan) (g : Bf (F := F) c (Memref.whole cc0_scratch0)), ⌜P.Is s w⌝ ∗ batch c P (sh s) g f ![s.val] (inC s) 256 0 ∗ stays c (sh s) f P)
/-- and landed. -/
def DoneH : sProp (MU F) :=
  iprop(halfAt c s (gath f w) ∗ semVal ((c : Thread nD τ), SemLoc.dma (semC s)) 0 ∗ tokAt c (sh s) f)

theorem done_free : (DoneH c s w f : sProp (MU F)) ⊢ FreeH c s f := by
  unfold DoneH FreeH
  iintro H
  iexists _
  iexact H

end States

section Words

variable (c : Dev nD) (w : Fin 256 → Fin 16896) (M : Memref sig .tc .smem S1x1x256 .i32) (x : Bf (F := F) c M) (hx : Words c M x w)
include hx

theorem word_at (o : Fin 3 → ℕ) (ho : ∀ a, o a + S1x1x1.size a ≤ S1x1x256.size a) (k : Fin 256) (e : o = ![0, 0, k.val]) :
    M.view.readAt (Elt F) (Rect.unit (s := S1x1x256) o S1x1x1.size ho).toLoadRect x i0 = BitVec.ofNat 32 (w k).val := by
  subst e
  refine Eq.trans ?_ (hx k)
  refine congrArg (M.view.read (Elt F) x) ?_
  funext a; apply Fin.ext
  match a with
  | ⟨0, _⟩ => rfl
  | ⟨1, _⟩ => rfl
  | ⟨2, _⟩ => rfl

theorem wd1_eq (i : grid0.Coords) (h1 : k0_cond1 i = 1#1) (k : Fin 256) : (wd1 c i h1 M x (k.cast trips1.symm)).toNat = (w k).val := by
  have hk := (w k).isLt
  rw [show wd1 c i h1 M x (k.cast trips1.symm) = BitVec.ofNat 32 (w k).val from word_at c w M x hx _ _ k (off2_eq k), BitVec.toNat_ofNat]
  omega
theorem wd2_eq (k : Fin 256) : (wd2 c M x (k.cast trips2.symm)).toNat = (w k).val := by
  have hk := (w k).isLt
  rw [show wd2 c M x (k.cast trips2.symm) = BitVec.ofNat 32 (w k).val from word_at c w M x hx _ _ k (off5_eq k), BitVec.toNat_ofNat]
  omega
theorem wd1_lt (i : grid0.Coords) (h1 : k0_cond1 i = 1#1) (k : Fin k0_t1_loop.trips) : (wd1 c i h1 M x k).toNat < 16896 := by
  have e := wd1_eq c w M x hx i h1 (k.cast trips1)
  have hk := (w (k.cast trips1)).isLt
  exact lt_of_eq_of_lt e hk
theorem wd2_lt (k : Fin k0_t2_loop.trips) : (wd2 c M x k).toNat < 16896 := by
  have e := wd2_eq c w M x hx (k.cast trips2)
  have hk := (w (k.cast trips2)).isLt
  exact lt_of_eq_of_lt e hk

theorem plan1_is (i : grid0.Coords) (h1 : k0_cond1 i = 1#1) : (plan1 c i h1 M x (wd1_lt c w M x hx i h1)).Is 0 w where
  o := rfl
  r := off3_eq
  x k := by show ![(wd1 c i h1 M x (k.cast trips1.symm)).toNat, 0] = _; rw [wd1_eq c w M x hx i h1]
theorem plan2_is (i : grid0.Coords) : (plan2 c i M x (wd2_lt c w M x hx)).Is (other i) w where
  o := off7_eq i
  r := off8_eq
  x k := by show ![(wd2 c M x (k.cast trips2.symm)).toNat, 0] = _; rw [wd2_eq c w M x hx]

end Words

section Loops

variable (c : Dev nD) (w : Fin 256 → Fin 16896) (f : Bf (F := F) c (Memref.whole main_arg0)) (i : grid0.Coords)
  (arg1 : Memref sig .tc .smem S164 .i32) (harg1 : arg1.IsWhole) (arg2 : Memref sig .tc .smem S1 .i32) (harg2 : arg2.IsWhole)
  (arg3 : Memref sig .tc .smem S1x1x256 .i32) (harg3 : arg3.IsWhole)
  (arg4 : Memref sig .tc .smem S1x1x256 .i32) (harg4 : arg4.IsWhole) (arg6 : Memref sig .tc .vmem S1x2048x768 .bf16) (harg6 : arg6.IsWhole)
  (arg7 : Memref sig .tc .vmem S1x2048x768 .bf16) (harg7 : arg7.IsWhole) (arg8 : Memref sig .tc .vmem S1x768x2048 .bf16) (harg8 : arg8.IsWhole)
  (arg9 : Memref sig .tc .vmem S256x2048 .f32) (harg9 : arg9.IsWhole)
  (h5 : (Memref.whole main_arg0).IsWhole) (h10 : (Memref.whole cc0_scratch0).IsWhole)
  (R : Prog (TpuEff nD τ sig (Elt F) Λ₀ .tc) PUnit) (K : PUnit → sProp (MU F))

set_option maxHeartbeats 4000000 in
/-- The first loop begins a block's copies into half 0. -/
theorem loop1 (h1 : k0_cond1 i = 1#1) (x : Bf (F := F) c arg3) (hx : Words c arg3 x w) :
    iprop(FreeH c 0 f ∗ (arg3.view.loc (c : Thread nD τ) ↦[arg3.view.set]{fullShare} x)
        ∗ (iprop(FlyH c 0 w f ∗ (arg3.view.loc (c : Thread nD τ) ↦[arg3.view.set]{fullShare} x))
            -∗ wp frame (wpE (defs₀ (F := F)) Variants.none c none) Set.univ R K))
      ⊢ wp frame (wpE (defs₀ (F := F)) Variants.none c none) Set.univ
          (Scf.Loop.for k0_t1_loop (k0_t1_ok i h1) ⟨⟩ (k0_t1_body i arg1 harg1 arg2 harg2 arg3 harg3 arg4 harg4 (Memref.whole main_arg0) h5 arg6 harg6 arg7 harg7 arg8 harg8 arg9 harg9 (Memref.whole cc0_scratch0) h10 cc0_scratch1 h1) >>= fun _ => R) K := by
  have hP := plan1_is c w arg3 x hx i h1
  unfold FreeH
  iintro ⟨⟨%g, Hh, Hc, Ht⟩, HM, Hk⟩
  ihave H2 := (begin_batch c hP (sh 0) g f) $$ [Hh Ht]
  · isplitl [Hh]; · iexact Hh
    iexact Ht
  icases H2 with ⟨HP, HS, Hst⟩
  ihave Hc := (Entails.of_eq (cell_congr c (inC 0) inb_S2_S1_0 rfl)) $$ Hc
  imod (Transfers.batch_alloc' (Lvl := ℕ) countersEmb (c : Thread nD τ) () NN (D c (plan1 c i h1 arg3 x (wd1_lt c w arg3 x hx i h1)) (sh 0) g f) (sm := .dma (semO ![0] inb_S2_S1_0)) (E := Set.univ)) $$ Hc with HB
  sl_for (issueAt c (sh 0) g f (plan1 c i h1 arg3 x (wd1_lt c w arg3 x hx i h1)) ![0] inb_S2_S1_0 arg3 x) $$ [HB HP HS HM]
  · intro k acc
    exact issue1 c (sh 0) g f i h1 arg3 harg3 x _ arg1 harg1 arg2 harg2 arg4 harg4 arg6 harg6 arg7 harg7 arg8 harg8 arg9 harg9 h5 h10 k acc
  · unfold issueAt
    isplitl [HB]; · iexact HB
    isplitl [HP]; · iexact HP
    isplitl [HS]; · iexact HS
    iexact HM
  iintro %acc HL
  rw [show Scf.trips k0_t1_loop.lb k0_t1_loop.ub k0_t1_loop.st = 256 from trips1]
  unfold issueAt
  icases HL with ⟨HB, -, -, HM⟩
  iapply Hk
  isplitl [HB Hst]
  · unfold FlyH
    iexists _; iexists _
    isplitr; · ipureintro; exact hP
    isplitl [HB]; · iapply (Entails.of_eq (batch_congr c _ _ _ _ (inC 0) inb_S2_S1_0 rfl 256 0).symm); iexact HB
    iexact Hst
  iexact HM

set_option maxHeartbeats 4000000 in
/-- The second loop begins the next block's copies into the other half. -/
theorem loop2 (v0 : BitVec 32) (h2 : k0_cond2 i v0 = 1#1) (x : Bf (F := F) c arg4) (hx : Words c arg4 x w) :
    iprop(FreeH c (other i) f ∗ (arg4.view.loc (c : Thread nD τ) ↦[arg4.view.set]{fullShare} x)
        ∗ (iprop(FlyH c (other i) w f ∗ (arg4.view.loc (c : Thread nD τ) ↦[arg4.view.set]{fullShare} x))
            -∗ wp frame (wpE (defs₀ (F := F)) Variants.none c none) Set.univ R K))
      ⊢ wp frame (wpE (defs₀ (F := F)) Variants.none c none) Set.univ
          (Scf.Loop.for k0_t2_loop k0_t2_ok ⟨⟩ (k0_t2_body i arg1 harg1 arg2 harg2 arg3 harg3 arg4 harg4 (Memref.whole main_arg0) h5 arg6 harg6 arg7 harg7 arg8 harg8 arg9 harg9 (Memref.whole cc0_scratch0) h10 cc0_scratch1 v0 h2) >>= fun _ => R) K := by
  have hP := plan2_is c w arg4 x hx i
  unfold FreeH
  iintro ⟨⟨%g, Hh, Hc, Ht⟩, HM, Hk⟩
  ihave H2 := (begin_batch c hP (sh (other i)) g f) $$ [Hh Ht]
  · isplitl [Hh]; · iexact Hh
    iexact Ht
  icases H2 with ⟨HP, HS, Hst⟩
  ihave Hc := (Entails.of_eq (cell_congr c (inC (other i)) (k0_off6_inb i) (off6_eq i).symm)) $$ Hc
  imod (Transfers.batch_alloc' (Lvl := ℕ) countersEmb (c : Thread nD τ) () NN (D c (plan2 c i arg4 x (wd2_lt c w arg4 x hx)) (sh (other i)) g f) (sm := .dma (semO (k0_off6 i) (k0_off6_inb i))) (E := Set.univ)) $$ Hc with HB
  sl_for (issueAt c (sh (other i)) g f (plan2 c i arg4 x (wd2_lt c w arg4 x hx)) (k0_off6 i) (k0_off6_inb i) arg4 x) $$ [HB HP HS HM]
  · intro k acc
    exact issue2 c (sh (other i)) g f i v0 h2 arg4 harg4 x _ arg1 harg1 arg2 harg2 arg3 harg3 arg6 harg6 arg7 harg7 arg8 harg8 arg9 harg9 h5 h10 k acc
  · unfold issueAt
    isplitl [HB]; · iexact HB
    isplitl [HP]; · iexact HP
    isplitl [HS]; · iexact HS
    iexact HM
  iintro %acc HL
  rw [show Scf.trips k0_t2_loop.lb k0_t2_loop.ub k0_t2_loop.st = 256 from trips2]
  unfold issueAt
  icases HL with ⟨HB, -, -, HM⟩
  iapply Hk
  isplitl [HB Hst]
  · unfold FlyH
    iexists _; iexists _
    isplitr; · ipureintro; exact hP
    isplitl [HB]; · iapply (Entails.of_eq (batch_congr c _ _ _ _ (inC (other i)) (k0_off6_inb i) (off6_eq i).symm 256 0).symm); iexact HB
    iexact Hst
  iexact HM

set_option maxHeartbeats 4000000 in
/-- The third waits for this block's copies. -/
theorem loop3 :
    iprop(FlyH c (mine i) w f ∗ (∃ W, owes (c : Thread nD τ) 0 W)
        ∗ (iprop(DoneH c (mine i) w f ∗ (∃ W, owes (c : Thread nD τ) 0 W))
            -∗ wp frame (wpE (defs₀ (F := F)) Variants.none c none) Set.univ R K))
      ⊢ wp frame (wpE (defs₀ (F := F)) Variants.none c none) Set.univ
          (Scf.Loop.for k0_t3_loop k0_t3_ok ⟨⟩ (k0_t3_body i arg1 harg1 arg2 harg2 arg3 harg3 arg4 harg4 (Memref.whole main_arg0) h5 arg6 harg6 arg7 harg7 arg8 harg8 arg9 harg9 (Memref.whole cc0_scratch0) h10 cc0_scratch1) >>= fun _ => R) K := by
  unfold FlyH
  iintro ⟨⟨%P, %g, %hP, HB, Hst⟩, HO, Hk⟩
  ihave HB := (Entails.of_eq (batch_congr c P (sh (mine i)) g f (inC (mine i)) (k0_off10_inb i) (off10_eq i).symm 256 0)) $$ HB
  sl_for (drainAt c (sh (mine i)) g f P i) $$ [HB HO]
  · intro k acc
    exact drain c (sh (mine i)) g f P i arg1 harg1 arg2 harg2 arg3 harg3 arg4 harg4 arg6 harg6 arg7 harg7 arg8 harg8 arg9 harg9 h5 h10 k acc
  · unfold drainAt
    rw [if_pos (by decide)]
    isplitl [HO]; · iexact HO
    rw [Nat.zero_mul]
    iexact HB
  iintro %acc HL
  rw [show Scf.trips k0_t3_loop.lb k0_t3_loop.ub k0_t3_loop.st = 256 from trips3]
  unfold drainAt
  rw [if_neg (by decide)]
  icases HL with ⟨HO, Hc, HD⟩
  ihave H2 := (end_batch c hP (sh (mine i)) g f) $$ [HD Hst]
  · isplitl [HD]; · iexact HD
    iexact Hst
  icases H2 with ⟨Hh, Ht⟩
  iapply Hk
  isplitl [Hh Hc Ht]
  · unfold DoneH
    isplitl [Hh]; · iexact Hh
    isplitl [Hc]; · iapply (Entails.of_eq (cell_congr c (inC (mine i)) (k0_off10_inb i) (off10_eq i).symm).symm); iexact Hc
    iexact Ht
  iexact HO

end Loops

end Cert.Experts.Steps
-- ==== Proof.ExpertsSegs.lean ====
module
public import proofs.«01_k».proof.Proof.ExpertsBody

/-!
# The experts' kernel at one grid point, part by part

The four conditionals of the kernel, each with whatever follows it.
-/

@[expose] public section

set_option maxRecDepth 16384

noncomputable section

namespace Cert.Experts.Steps

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.ValueIdx

variable {F : FTy → Type} [FloatOps F]

/-- A half, free or with copies of the rows named in flight. -/
def Slot (c : Dev nD) (s : Fin 2) (o : Option (Fin 256 → Fin 16896)) (f : Bf (F := F) c (Memref.whole main_arg0)) : sProp (MU F) :=
  match o with
  | none => FreeH c s f
  | some w => FlyH c s w f

/-- What a grid point's block is copied as when it is one of the `n` used. -/
def due (n t : ℕ) (W : ℕ → Fin 256 → Fin 16896) : Option (Fin 256 → Fin 16896) := if t < n then some (W t) else none

theorem due_lt {n t : ℕ} (W : ℕ → Fin 256 → Fin 16896) (h : t < n) : due n t W = some (W t) := if_pos h
theorem due_ge {n t : ℕ} (W : ℕ → Fin 256 → Fin 16896) (h : ¬ t < n) : due n t W = none := if_neg h

section Segments

variable (c : Dev nD) (f : Bf (F := F) c (Memref.whole main_arg0)) (i : grid0.Coords)
  (n : ℕ) (h0 : 1 ≤ n) (hn : n ≤ 164) (W : ℕ → Fin 256 → Fin 16896)
  (arg1 : Memref sig .tc .smem S164 .i32) (harg1 : arg1.IsWhole) (arg2 : Memref sig .tc .smem S1 .i32) (harg2 : arg2.IsWhole)
  (arg3 : Memref sig .tc .smem S1x1x256 .i32) (harg3 : arg3.IsWhole)
  (arg4 : Memref sig .tc .smem S1x1x256 .i32) (harg4 : arg4.IsWhole) (arg6 : Memref sig .tc .vmem S1x2048x768 .bf16) (harg6 : arg6.IsWhole)
  (arg7 : Memref sig .tc .vmem S1x2048x768 .bf16) (harg7 : arg7.IsWhole) (arg8 : Memref sig .tc .vmem S1x768x2048 .bf16) (harg8 : arg8.IsWhole)
  (arg9 : Memref sig .tc .vmem S256x2048 .f32) (harg9 : arg9.IsWhole)
  (h5 : (Memref.whole main_arg0).IsWhole) (h10 : (Memref.whole cc0_scratch0).IsWhole)
  (R : Prog (TpuEff nD τ sig (Elt F) Λ₀ .tc) PUnit) (K : PUnit → sProp (MU F))

include h0 in
/-- The first grid point begins its own block's copies. -/
theorem seg1 (x : Bf (F := F) c arg3) (hx : Words c arg3 x (W (i 0).val)) :
    iprop(Slot c (mine i) (if (i 0).val = 0 then none else due n (i 0).val W) f ∗ (arg3.view.loc (c : Thread nD τ) ↦[arg3.view.set]{fullShare} x)
        ∗ (iprop(Slot c (mine i) (due n (i 0).val W) f ∗ (arg3.view.loc (c : Thread nD τ) ↦[arg3.view.set]{fullShare} x))
            -∗ wp frame (wpE (defs₀ (F := F)) Variants.none c none) Set.univ R K))
      ⊢ wp frame (wpE (defs₀ (F := F)) Variants.none c none) Set.univ
          (if h1 : k0_cond1 i = 1#1 then
            Scf.Loop.for k0_t1_loop (k0_t1_ok i h1) ⟨⟩ (k0_t1_body i arg1 harg1 arg2 harg2 arg3 harg3 arg4 harg4 (Memref.whole main_arg0) h5 arg6 harg6 arg7 harg7 arg8 harg8 arg9 harg9 (Memref.whole cc0_scratch0) h10 cc0_scratch1 h1) >>= fun _ => R
          else R) K := by
  by_cases h1 : k0_cond1 i = 1#1
  · have e := (cond1_iff i).mp h1
    have em : mine i = 0 := Fin.ext (by show (i 0).val % 2 = 0; rw [e])
    rw [dif_pos h1, if_pos e, em, due_lt W (show (i 0).val < n by omega)]
    unfold Slot
    exact loop1 c _ f i arg1 harg1 arg2 harg2 arg3 harg3 arg4 harg4 arg6 harg6 arg7 harg7 arg8 harg8 arg9 harg9 h5 h10 R K h1 x hx
  · rw [dif_neg h1, if_neg (fun e => h1 ((cond1_iff i).mpr e))]
    iintro ⟨HA, HM, Hk⟩
    iapply Hk
    isplitl [HA]; · iexact HA
    iexact HM

include hn in
/-- A grid point begins the next block's copies. -/
theorem seg2 (x : Bf (F := F) c arg4) (hx : (i 0).val + 1 < n → Words c arg4 x (W ((i 0).val + 1))) :
    iprop(Slot c (other i) none f ∗ (arg4.view.loc (c : Thread nD τ) ↦[arg4.view.set]{fullShare} x)
        ∗ (iprop(Slot c (other i) (due n ((i 0).val + 1) W) f ∗ (arg4.view.loc (c : Thread nD τ) ↦[arg4.view.set]{fullShare} x))
            -∗ wp frame (wpE (defs₀ (F := F)) Variants.none c none) Set.univ R K))
      ⊢ wp frame (wpE (defs₀ (F := F)) Variants.none c none) Set.univ
          (if h2 : k0_cond2 i (BitVec.ofNat 32 n) = 1#1 then
            Scf.Loop.for k0_t2_loop k0_t2_ok ⟨⟩ (k0_t2_body i arg1 harg1 arg2 harg2 arg3 harg3 arg4 harg4 (Memref.whole main_arg0) h5 arg6 harg6 arg7 harg7 arg8 harg8 arg9 harg9 (Memref.whole cc0_scratch0) h10 cc0_scratch1 (BitVec.ofNat 32 n) h2) >>= fun _ => R
          else R) K := by
  by_cases h2 : k0_cond2 i (BitVec.ofNat 32 n) = 1#1
  · have e := (cond2_iff i n hn).mp h2
    rw [dif_pos h2, due_lt W e]
    unfold Slot
    exact loop2 c _ f i arg1 harg1 arg2 harg2 arg3 harg3 arg4 harg4 arg6 harg6 arg7 harg7 arg8 harg8 arg9 harg9 h5 h10 R K _ h2 x (hx e)
  · rw [dif_neg h2, due_ge W (fun e => h2 ((cond2_iff i n hn).mpr e))]
    iintro ⟨HA, HM, Hk⟩
    iapply Hk
    isplitl [HA]; · iexact HA
    iexact HM

/-- The rows of a block, as the kernel reads them. -/
def rowsOf (f : S16896x2048.Idx → Elt F .f32) (w : Fin 256 → Fin 16896) : Vec F S1x256x2048 .f32 :=
  fun y => f (ix2 (w (y 1)) (y 2))

abbrev rW : Rect S1x2048x768 := Rect.unit (s := S1x2048x768) ![0, 0, 0] S1x2048x768.size inb_S1x2048x768_S1x2048x768_0_0_0
abbrev rD : Rect S1x768x2048 := Rect.unit (s := S1x768x2048) ![0, 0, 0] S1x768x2048.size inb_S1x768x2048_S1x768x2048_0_0_0
abbrev rO : Rect S256x2048 := Rect.unit (s := S256x2048) ![0, 0] S256x2048.size inb_S256x2048_S256x2048_0_0

/-- What a used block's grid point leaves in the result, and what an unused block's leaves. -/
def outUsed (v : Vec F S1x256x2048 .f32) (x6 x7 : Vec F S1x2048x768 .bf16) (x8 : Vec F S1x768x2048 .bf16) : Vec F S256x2048 .f32 :=
  View.canon [⟨rO, k0_pay1 v (View.ld x6 rW) (View.ld x7 rW) (View.ld x8 rD)⟩]
def outZero : Vec F S256x2048 .f32 := View.canon [⟨rO, k0_pay2⟩]

theorem coverO (p0 : Vec F S256x2048 .f32) (y : S256x2048.Idx) :
    ∃ pc ∈ ([⟨rO, p0⟩] : List (View.Piece (Elt F) S256x2048 .f32)), y ∈ pc.1.set :=
  View.cover_of_tiled [⟨rO, p0⟩] S256x2048.size (by rfl) y

abbrev half3 : Memref sig .tc .vmem S1x256x2048 .f32 :=
  (Memref.whole cc0_scratch0).slice (Rect.unit (s := S2x256x2048) (k0_off13 i) S1x256x2048.size (k0_off13_inb i)) (fun _ => rfl)

theorem half3_emb (j : S1x256x2048.Idx) : (half3 i).view.emb j = (ix3 (mine i) (j 1) (j 2) : S2x256x2048.Idx) := by
  show (Rect.unit (s := S2x256x2048) (k0_off13 i) S1x256x2048.size (k0_off13_inb i)).emb j = _
  funext a; apply Fin.ext
  have e := off13_eq i
  have j0 : (j 0).val < 1 := (j 0).isLt
  match a with
  | ⟨0, _⟩ =>
    show k0_off13 i 0 + 1 * (j 0).val = (mine i).val
    rw [e]; show (mine i).val + 1 * (j 0).val = _; omega
  | ⟨1, _⟩ =>
    show k0_off13 i 1 + 1 * (j 1).val = (j 1).val
    rw [e]; show 0 + 1 * (j 1).val = _; omega
  | ⟨2, _⟩ =>
    show k0_off13 i 2 + 1 * (j 2).val = (j 2).val
    rw [e]; show 0 + 1 * (j 2).val = _; omega

def half3Set : Finset S2x256x2048.Idx := (half3 i).view.set

theorem half3_set : half3Set i = half (mine i) := by
  ext y
  rw [mem_half]
  constructor
  · intro hy
    obtain ⟨j, -, e⟩ := Finset.mem_map.mp hy
    have e' : (ix3 (mine i) (j 1) (j 2) : S2x256x2048.Idx) = y := (half3_emb i j).symm.trans e
    subst e'; rfl
  · intro e
    refine Finset.mem_map.mpr ⟨ix3 (0 : Fin 1) (y 1) (y 2), Finset.mem_univ _, ?_⟩
    refine (half3_emb i _).trans ?_
    funext a
    match a with
    | ⟨0, _⟩ => exact Fin.ext e.symm
    | ⟨1, _⟩ => rfl
    | ⟨2, _⟩ => rfl

theorem half3_read (w : Fin 256 → Fin 16896) :
    (half3 i).view.read (Elt F) (gath f w : Bf (F := F) c (Memref.whole cc0_scratch0)) = rowsOf f w := by
  funext j
  exact congrArg (gath f w) (half3_emb i j)

/-- What a used block's grid point runs once its rows are there. -/
abbrev compute : Prog (TpuEff nD τ sig (Elt F) Λ₀ .tc) PUnit :=
  Prog.lift (.load (Memref.whole cc0_scratch0) (Rect.unit (s := S2x256x2048) (k0_off13 i) S1x256x2048.size (k0_off13_inb i)).toLoadRect (View.loadsAt_vmem h_S1x256x2048)) >>= fun v26 =>
  Prog.lift (.load arg6 rW.toLoadRect (View.loadsAt_vmem h_S1x2048x768)) >>= fun v29 =>
  Prog.lift (.load arg7 rW.toLoadRect (View.loadsAt_vmem h_S1x2048x768)) >>= fun v32 =>
  Prog.lift (.load arg8 rD.toLoadRect (View.loadsAt_vmem h_S1x768x2048)) >>= fun v39 =>
  Prog.lift (.load arg9 rO.toLoadRect (View.loadsAt_vmem h_S256x2048)) >>= fun _ =>
  Prog.lift (.store arg9 rO (k0_pay1 v26 v29 v32 v39) Finset.univ (View.stores_vmem_bits_univ h_S256x2048 rfl) (.inl rfl)) >>= fun _ => R

set_option maxHeartbeats 4000000 in
theorem compute_run (w : Fin 256 → Fin 16896) (x6 x7 : Vec F S1x2048x768 .bf16) (x8 : Vec F S1x768x2048 .bf16) :
    iprop(DoneH c (mine i) w f
        ∗ owns (c : Thread nD τ) arg6 fullShare x6 ∗ owns (c : Thread nD τ) arg7 fullShare x7 ∗ owns (c : Thread nD τ) arg8 fullShare x8
        ∗ (∃ d, owns (c : Thread nD τ) arg9 fullShare d)
        ∗ (iprop(FreeH c (mine i) f
              ∗ owns (c : Thread nD τ) arg6 fullShare x6 ∗ owns (c : Thread nD τ) arg7 fullShare x7 ∗ owns (c : Thread nD τ) arg8 fullShare x8
              ∗ owns (c : Thread nD τ) arg9 fullShare (outUsed (rowsOf f w) x6 x7 x8))
            -∗ wp frame (wpE (defs₀ (F := F)) Variants.none c none) Set.univ R K))
      ⊢ wp frame (wpE (defs₀ (F := F)) Variants.none c none) Set.univ (compute i arg6 arg7 arg8 arg9 R) K := by
  have er := half3_read (F := F) c f i w
  unfold DoneH FreeH owns
  have eh : (halfAt c (mine i) (gath f w) : sProp (MU F)) = ((half3 i).view.loc (c : Thread nD τ) ↦[(half3 i).view.set]{fullShare} (gath f w : Bf (F := F) c (Memref.whole cc0_scratch0))) :=
    congrArg (fun S => (Memref.whole cc0_scratch0 : Memref sig .tc .vmem S2x256x2048 .f32).view.loc (c : Thread nD τ) ↦[S]{fullShare} (gath f w : Bf (F := F) c (Memref.whole cc0_scratch0))) (half3_set i).symm
  rw [eh]
  iintro ⟨⟨Hh, Hc, Ht⟩, ⟨%f6, %hf6, H6⟩, ⟨%f7, %hf7, H7⟩, ⟨%f8, %hf8, H8⟩, ⟨%d9, %f9, -, H9⟩, Hk⟩
  subst hf6 hf7 hf8
  unfold compute
  sl_exec
  iapply Hk
  isplitl [Hh Hc Ht]
  · iexists (gath f w : Bf (F := F) c (Memref.whole cc0_scratch0))
    isplitl [Hh]
    · iapply (Entails.of_eq eh.symm); iexact Hh
    isplitl [Hc]; · iexact Hc
    iexact Ht
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (coverO _)).trans ?_
  exact congrArg (fun v : Vec F S1x256x2048 .f32 => outUsed v (arg6.view.read (Elt F) f6) (arg7.view.read (Elt F) f7) (arg8.view.read (Elt F) f8)) er

include hn in
/-- A used block's grid point waits for its rows and computes its result. -/
theorem seg3 (x6 x7 : Vec F S1x2048x768 .bf16) (x8 : Vec F S1x768x2048 .bf16) (d : Vec F S256x2048 .f32) :
    iprop(Slot c (mine i) (due n (i 0).val W) f ∗ (∃ W, owes (c : Thread nD τ) 0 W)
        ∗ owns (c : Thread nD τ) arg6 fullShare x6 ∗ owns (c : Thread nD τ) arg7 fullShare x7 ∗ owns (c : Thread nD τ) arg8 fullShare x8
        ∗ owns (c : Thread nD τ) arg9 fullShare d
        ∗ (iprop(Slot c (mine i) none f ∗ (∃ W, owes (c : Thread nD τ) 0 W)
              ∗ owns (c : Thread nD τ) arg6 fullShare x6 ∗ owns (c : Thread nD τ) arg7 fullShare x7 ∗ owns (c : Thread nD τ) arg8 fullShare x8
              ∗ owns (c : Thread nD τ) arg9 fullShare (if (i 0).val < n then outUsed (rowsOf f (W (i 0).val)) x6 x7 x8 else d))
            -∗ wp frame (wpE (defs₀ (F := F)) Variants.none c none) Set.univ R K))
      ⊢ wp frame (wpE (defs₀ (F := F)) Variants.none c none) Set.univ
          (if h3 : k0_cond3 i (BitVec.ofNat 32 n) = 1#1 then
            Scf.Loop.for k0_t3_loop k0_t3_ok ⟨⟩ (k0_t3_body i arg1 harg1 arg2 harg2 arg3 harg3 arg4 harg4 (Memref.whole main_arg0) h5 arg6 harg6 arg7 harg7 arg8 harg8 arg9 harg9 (Memref.whole cc0_scratch0) h10 cc0_scratch1) >>= fun _ =>
              compute i arg6 arg7 arg8 arg9 R
          else R) K := by
  by_cases h3 : k0_cond3 i (BitVec.ofNat 32 n) = 1#1
  · have e := (cond3_iff i n hn).mp h3
    rw [dif_pos h3, due_lt W e, if_pos e]
    unfold Slot
    dsimp only
    iintro ⟨HA, HO, H6, H7, H8, H9, Hk⟩
    iapply (loop3 c (W (i 0).val) f i arg1 harg1 arg2 harg2 arg3 harg3 arg4 harg4 arg6 harg6 arg7 harg7 arg8 harg8 arg9 harg9 h5 h10 _ K)
    isplitl [HA]; · iexact HA
    isplitl [HO]; · iexact HO
    iintro ⟨HA, HO⟩
    iapply (compute_run c f i arg6 arg7 arg8 arg9 R K (W (i 0).val) x6 x7 x8)
    isplitl [HA]; · iexact HA
    isplitl [H6]; · iexact H6
    isplitl [H7]; · iexact H7
    isplitl [H8]; · iexact H8
    isplitl [H9]; · iexists _; iexact H9
    iintro ⟨HA, H6, H7, H8, H9⟩
    iapply Hk
    isplitl [HA]; · iexact HA
    isplitl [HO]; · iexact HO
    isplitl [H6]; · iexact H6
    isplitl [H7]; · iexact H7
    isplitl [H8]; · iexact H8
    iexact H9
  · have e : ¬ (i 0).val < n := fun e => h3 ((cond3_iff i n hn).mpr e)
    rw [dif_neg h3, due_ge W e, if_neg e]
    iintro ⟨HA, HO, H6, H7, H8, H9, Hk⟩
    iapply Hk
    isplitl [HA]; · iexact HA
    isplitl [HO]; · iexact HO
    isplitl [H6]; · iexact H6
    isplitl [H7]; · iexact H7
    isplitl [H8]; · iexact H8
    iexact H9

set_option maxHeartbeats 4000000 in
include hn in
/-- An unused block's grid point fills its result with zeros. -/
theorem seg4 (d : Vec F S256x2048 .f32) :
    iprop(owns (c : Thread nD τ) arg9 fullShare d
        ∗ (owns (c : Thread nD τ) arg9 fullShare (if n ≤ (i 0).val then outZero else d)
            -∗ wp frame (wpE (defs₀ (F := F)) Variants.none c none) Set.univ R K))
      ⊢ wp frame (wpE (defs₀ (F := F)) Variants.none c none) Set.univ
          (if h4 : k0_cond4 i (BitVec.ofNat 32 n) = 1#1 then
            Prog.lift (.load arg9 rO.toLoadRect (View.loadsAt_vmem h_S256x2048)) >>= fun _ =>
            Prog.lift (.store arg9 rO (k0_pay2 (F := F)) Finset.univ (View.stores_vmem_bits_univ h_S256x2048 rfl) (.inl rfl)) >>= fun _ => R
          else R) K := by
  by_cases h4 : k0_cond4 i (BitVec.ofNat 32 n) = 1#1
  · rw [dif_pos h4, if_pos ((cond4_iff i n hn).mp h4)]
    unfold owns
    iintro ⟨⟨%f9, -, H9⟩, Hk⟩
    sl_exec
    iapply Hk
    iexists _; isplitr
    swap; · iexact H9
    ipureintro
    exact View.read_writes_eq_canon _ _ _ (coverO _)
  · rw [dif_neg h4, if_neg (fun e => h4 ((cond4_iff i n hn).mpr e))]
    iintro ⟨H9, Hk⟩
    iapply Hk
    iexact H9

end Segments

end Cert.Experts.Steps
-- ==== Proof.ExpertsPoint.lean ====
module
public import proofs.«01_k».proof.Proof.ExpertsSegs

/-!
# The experts' kernel at one grid point, whole
-/

@[expose] public section

set_option maxRecDepth 16384

noncomputable section

namespace Cert.Experts.Steps

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.ValueIdx

variable {F : FTy → Type} [FloatOps F]

/-- The buffer's halves before grid point `t`: the one the point's own block uses, in flight if the block is used and not
    the first, and the other, free. -/
def RingAt (c : Dev nD) (f : Bf (F := F) c (Memref.whole main_arg0)) (n : ℕ) (W : ℕ → Fin 256 → Fin 16896) (t : ℕ) : sProp (MU F) :=
  iprop(Slot c ⟨t % 2, Nat.mod_lt _ (by decide)⟩ (if t = 0 then none else due n t W) f ∗ Slot c ⟨1 - t % 2, by omega⟩ none f)

/-- What grid point `t` leaves in the result. -/
def outAt (f : S16896x2048.Idx → Elt F .f32) (n : ℕ) (w : Fin 256 → Fin 16896) (t : ℕ) (x6 x7 : Vec F S1x2048x768 .bf16) (x8 : Vec F S1x768x2048 .bf16) : Vec F S256x2048 .f32 :=
  if t < n then outUsed (rowsOf f w) x6 x7 x8 else outZero

/-- The number of used blocks, as the kernel reads it. -/
theorem count_read (c : Dev nD) (n : ℕ) (nv : Bf (F := F) c (Memref.whole main_arg3)) (hnv : nv = fun _ => BitVec.ofNat 32 n) :
    (Memref.whole main_arg3 : Memref sig .tc .smem S1 .i32).view.readAt (Elt F) (Rect.unit (s := S1) ![0] S1.size inb_S1_S1_0).toLoadRect nv (Shape.Idx.first (numel1_S1.symm ▸ Nat.one_pos))
      = BitVec.ofNat 32 n := by
  subst hnv; rfl

theorem out_cases (f : S16896x2048.Idx → Elt F .f32) (n : ℕ) (w : Fin 256 → Fin 16896) (t : ℕ) (x6 x7 : Vec F S1x2048x768 .bf16) (x8 : Vec F S1x768x2048 .bf16)
    (d : Vec F S256x2048 .f32) : (if n ≤ t then outZero else if t < n then outUsed (rowsOf f w) x6 x7 x8 else d) = outAt f n w t x6 x7 x8 := by
  unfold outAt
  by_cases h : t < n
  · rw [if_neg (Nat.not_le.mpr h), if_pos h, if_pos h]
  · rw [if_pos (Nat.le_of_not_lt h), if_neg h]

theorem open_block (c : Dev nD) (M : Memref sig .tc .smem S1x1x256 .i32) (x : Vec F S1x1x256 .i32) :
    (owns (c : Thread nD τ) M fullShare x : sProp (MU F))
      ⊢ iprop(∃ f : Bf (F := F) c M, ⌜M.view.read (Elt F) f = x⌝ ∗ (M.view.loc (c : Thread nD τ) ↦[M.view.set]{fullShare} f)) := by
  unfold owns
  exact .rfl

set_option maxHeartbeats 4000000 in
theorem point (c : Dev nD) (f : Bf (F := F) c (Memref.whole main_arg0)) (i : grid0.Coords)
    (n : ℕ) (h0 : 1 ≤ n) (hn : n ≤ 164) (W : ℕ → Fin 256 → Fin 16896)
    (arg1 : Memref sig .tc .smem S164 .i32) (harg1 : arg1.IsWhole) (h2 : (Memref.whole main_arg3).IsWhole)
    (arg3 : Memref sig .tc .smem S1x1x256 .i32) (harg3 : arg3.IsWhole)
    (arg4 : Memref sig .tc .smem S1x1x256 .i32) (harg4 : arg4.IsWhole) (arg6 : Memref sig .tc .vmem S1x2048x768 .bf16) (harg6 : arg6.IsWhole)
    (arg7 : Memref sig .tc .vmem S1x2048x768 .bf16) (harg7 : arg7.IsWhole) (arg8 : Memref sig .tc .vmem S1x768x2048 .bf16) (harg8 : arg8.IsWhole)
    (arg9 : Memref sig .tc .vmem S256x2048 .f32) (harg9 : arg9.IsWhole)
    (h5 : (Memref.whole main_arg0).IsWhole) (h10 : (Memref.whole cc0_scratch0).IsWhole)
    (K : PUnit → sProp (MU F)) (q : PosShare TreeShare)
    (nv : Bf (F := F) c (Memref.whole main_arg3)) (hnv : nv = fun _ => BitVec.ofNat 32 n)
    (x3 x4 : Vec F S1x1x256 .i32) (hx3 : ∀ k : Fin 256, x3 (ix3 (0 : Fin 1) (0 : Fin 1) k) = BitVec.ofNat 32 (W (i 0).val k).val)
    (hx4 : (i 0).val + 1 < n → ∀ k : Fin 256, x4 (ix3 (0 : Fin 1) (0 : Fin 1) k) = BitVec.ofNat 32 (W ((i 0).val + 1) k).val)
    (x6 x7 : Vec F S1x2048x768 .bf16) (x8 : Vec F S1x768x2048 .bf16) :
    iprop(RingAt c f n W (i 0).val ∗ (∃ W, owes (c : Thread nD τ) 0 W)
        ∗ ((Memref.whole main_arg3 : Memref sig .tc .smem S1 .i32).view.loc (c : Thread nD τ) ↦{q} nv)
        ∗ owns (c : Thread nD τ) arg3 fullShare x3 ∗ owns (c : Thread nD τ) arg4 fullShare x4
        ∗ owns (c : Thread nD τ) arg6 fullShare x6 ∗ owns (c : Thread nD τ) arg7 fullShare x7 ∗ owns (c : Thread nD τ) arg8 fullShare x8
        ∗ (∃ d, owns (c : Thread nD τ) arg9 fullShare d)
        ∗ (iprop(RingAt c f n W ((i 0).val + 1) ∗ (∃ W, owes (c : Thread nD τ) 0 W)
            ∗ ((Memref.whole main_arg3 : Memref sig .tc .smem S1 .i32).view.loc (c : Thread nD τ) ↦{q} nv)
            ∗ owns (c : Thread nD τ) arg3 fullShare x3 ∗ owns (c : Thread nD τ) arg4 fullShare x4
            ∗ owns (c : Thread nD τ) arg6 fullShare x6 ∗ owns (c : Thread nD τ) arg7 fullShare x7 ∗ owns (c : Thread nD τ) arg8 fullShare x8
            ∗ owns (c : Thread nD τ) arg9 fullShare (outAt f n (W (i 0).val) (i 0).val x6 x7 x8)) -∗ K ⟨⟩))
      ⊢ wp frame (wpE (defs₀ (F := F)) Variants.none c none) Set.univ
          (cc0_experts i arg1 harg1 (Memref.whole main_arg3) h2 arg3 harg3 arg4 harg4 (Memref.whole main_arg0) h5 arg6 harg6 arg7 harg7 arg8 harg8 arg9 harg9 (Memref.whole cc0_scratch0) h10 cc0_scratch1) K := by
  have hv := count_read c n nv hnv
  have hm : (⟨(i 0).val % 2, Nat.mod_lt _ (by decide)⟩ : Fin 2) = mine i := rfl
  have ho : (⟨1 - (i 0).val % 2, by omega⟩ : Fin 2) = other i := rfl
  have hm' : (⟨((i 0).val + 1) % 2, Nat.mod_lt _ (by decide)⟩ : Fin 2) = other i := Fin.ext (by show ((i 0).val + 1) % 2 = 1 - (i 0).val % 2; omega)
  have ho' : (⟨1 - ((i 0).val + 1) % 2, by omega⟩ : Fin 2) = mine i := Fin.ext (by show 1 - ((i 0).val + 1) % 2 = (i 0).val % 2; omega)
  unfold RingAt
  rw [hm, ho, hm', ho', if_neg (Nat.succ_ne_zero _)]
  sl_unfold [cc0_experts]
  iintro ⟨⟨HA, HB⟩, HO, Hn, H3, H4, H6, H7, H8, ⟨%d9, H9⟩, Hk⟩
  ihave H3 := (open_block c arg3 x3) $$ H3
  icases H3 with ⟨%f3, %hf3, H3⟩
  ihave H4 := (open_block c arg4 x4) $$ H4
  icases H4 with ⟨%f4, %hf4, H4⟩
  sl_exec
  have hx3' : Words c arg3 f3 (W (i 0).val) := fun k => (congrFun hf3 _).trans (hx3 k)
  have hx4' : (i 0).val + 1 < n → Words c arg4 f4 (W ((i 0).val + 1)) := fun h k => (congrFun hf4 _).trans (hx4 h k)
  rw [show point.sl.r c nv = BitVec.ofNat 32 n from hv]
  iapply (seg1 c f i n h0 W arg1 harg1 (Memref.whole main_arg3) h2 arg3 harg3 arg4 harg4 arg6 harg6 arg7 harg7 arg8 harg8 arg9 harg9 h5 h10 _ K f3 hx3')
  isplitl [HA]; · iexact HA
  isplitl [H3]; · iexact H3
  iintro ⟨HA, H3⟩
  iapply (seg2 c f i n hn W arg1 harg1 (Memref.whole main_arg3) h2 arg3 harg3 arg4 harg4 arg6 harg6 arg7 harg7 arg8 harg8 arg9 harg9 h5 h10 _ K f4 hx4')
  isplitl [HB]; · iexact HB
  isplitl [H4]; · iexact H4
  iintro ⟨HB, H4⟩
  iapply (seg3 c f i n hn W arg1 harg1 (Memref.whole main_arg3) h2 arg3 harg3 arg4 harg4 arg6 harg6 arg7 harg7 arg8 harg8 arg9 harg9 h5 h10 _ K x6 x7 x8 d9)
  isplitl [HA]; · iexact HA
  isplitl [HO]; · iexact HO
  isplitl [H6]; · iexact H6
  isplitl [H7]; · iexact H7
  isplitl [H8]; · iexact H8
  isplitl [H9]; · iexact H9
  iintro ⟨HA, HO, H6, H7, H8, H9⟩
  iapply (seg4 c i n hn arg9 _ K _)
  isplitl [H9]; · iexact H9
  iintro H9
  sl_step
  iapply Hk
  isplitl [HA HB]
  · isplitl [HB]; · iexact HB
    iexact HA
  isplitl [HO]; · iexact HO
  isplitl [Hn]; · iexact Hn
  isplitl [H3]
  · unfold owns
    iexists f3; isplitr; · ipureintro; exact hf3
    iexact H3
  isplitl [H4]
  · unfold owns
    iexists f4; isplitr; · ipureintro; exact hf4
    iexact H4
  isplitl [H6]; · iexact H6
  isplitl [H7]; · iexact H7
  isplitl [H8]; · iexact H8
  rw [← out_cases f n (W (i 0).val) (i 0).val x6 x7 x8 d9]
  iexact H9

end Cert.Experts.Steps
-- ==== Proof.ExpertsRun.lean ====
module
public import proofs.«01_k».proof.Proof.ExpertsPoint
public import Idealize.ShloMosaic.Lib.Pipeline.FrameBody
public import Idealize.ShloMosaic.Lib.Claim
public import Idealize.ShloMosaic.Lib.Ring

/-!
# The experts' kernel over its grid: what its windows hold

The tables of row numbers and of experts are read off the arguments; the row numbers are of tokens that exist, the experts
are among the 32, and between 1 and 164 blocks are used (`Fits`).
-/

@[expose] public section

set_option maxRecDepth 16384

noncomputable section

namespace Cert.Experts.Whole

open Cert.Experts Cert.Experts.Gen Cert.Experts.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat Cfg Window BodyObligation)
open Idealize.ShloMosaic.ValueIdx

variable {F : FTy → Type} [FloatOps F]
variable (m : (ℓ : Loc nD τ sig) → Buf (Elt F) ℓ) (ρ : Dev nD → PrngReg)

/-- The row numbers, the blocks' experts and the number of used blocks, as launched. -/
abbrev slotW (c : Dev nD) : IVec S41984 32 := m ((c : Thread nD τ).loc main_arg1)
abbrev expertW (c : Dev nD) : IVec S164 32 := m ((c : Thread nD τ).loc main_arg2)
abbrev countW (c : Dev nD) : IVec S1 32 := m ((c : Thread nD τ).loc main_arg3)

/-- The words are in range. -/
structure Fits : Prop where
  slot : ∀ c j, (slotW m c j).toNat < 16896
  expert : ∀ c j, (expertW m c j).toNat < 32
  count : ∀ c j, 1 ≤ (countW m c j).toNat ∧ (countW m c j).toNat ≤ 164

/-- The number of used blocks, and the token that row `k` of block `b` names. -/
def used (c : Dev nD) : ℕ := (countW m c (ix1 (0 : Fin 1))).toNat
def row (c : Dev nD) (b : ℕ) (k : Fin 256) : Fin 16896 :=
  ⟨(slotW m c (ix1 (⟨(b * 256 + k.val) % 41984, Nat.mod_lt _ (by decide)⟩ : Fin 41984))).toNat % 16896, Nat.mod_lt _ (by decide)⟩

/-! ## The arrays when the kernel begins -/

abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

theorem hmain (𝒱₀ : Variants) : Pipeline.HMainP (Ix := Unit) (Name := ℕ) (U := UD sig nD τ) (Lvl := ℕ) pcfgs 0 defs₀ 𝒱₀ m (main (F := F)) (V m) :=
  Pipeline.hmainP_prefix pcfgs 0 defs₀ 𝒱₀ m main hostOps0 hostOps0_sub fresh main_chain

/-- The host's casts and reshape write none of the arguments. -/
theorem V_arg (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The tables -/

/-- The tables' contents, as the kernel finds them. -/
def tbl : pre0.Contents (Elt F) := fun k => V m 0 (pre0.ref k)

/-- The block's expert, as the index maps read it. -/
theorem tbl_expert (i : grid0.Coords) :
    (tbl m).at 0 (Rect.unit (s := S164) ![(Scalar.indexCast (BitVec.ofNat 32 (i 0).val) : Index).toNat] S1.size (k0_off1_inb i)) numel1_S1
      = expertW m 0 (ix1 (i 0)) := by
  show V m 0 main_arg2 _ = _
  rw [V_arg m 0 main_arg2 (by decide) (by decide) (by decide) (by decide)]
  show m _ _ = m _ _
  congr 1
  funext a
  apply Fin.ext
  have hi : (i 0).val < 164 := (i 0).isLt
  match a with
  | ⟨0, _⟩ =>
    show (BitVec.ofNat 32 (i 0).val).toNat + 1 * 0 = (i 0).val
    rw [BitVec.toNat_ofNat, Nat.mod_eq_of_lt (by omega)]; omega

theorem map3_eq (i : grid0.Coords) : cc0_transform_3 k0_off1_inb numel1_S1 (tbl m) i = ![(expertW m 0 (ix1 (i 0))).toNat, 0, 0] := by
  have h := tbl_expert m i
  unfold cc0_transform_3
  funext a
  match a with
  | ⟨0, _⟩ => exact congrArg BitVec.toNat h
  | ⟨1, _⟩ => rfl
  | ⟨2, _⟩ => rfl
theorem map4_eq (i : grid0.Coords) : cc0_transform_4 k0_off1_inb numel1_S1 (tbl m) i = ![(expertW m 0 (ix1 (i 0))).toNat, 0, 0] := map3_eq m i
theorem map5_eq (i : grid0.Coords) : cc0_transform_5 k0_off1_inb numel1_S1 (tbl m) i = ![(expertW m 0 (ix1 (i 0))).toNat, 0, 0] := map3_eq m i

/-- Every block of a weight array lies in the array and in whole words. -/
theorem inW (w : ℕ) (hw : w < 32) {x : Fin 3 → ℕ} (hx : x = ![w, 0, 0]) :
    ∃ h : (∀ a, (x a + 1) * S1x2048x768.size a ≤ S32x2048x768.size a), EltTy.bits .bf16 = 32 ∨ (Rect.block (s := S32x2048x768) S1x2048x768.size x h).WholeWords (EltTy.packing .bf16) := by
  subst hx
  refine ⟨fun a => ?_, .inr (.inr ⟨by decide, rfl, rfl, rfl⟩)⟩
  match a with
  | ⟨0, _⟩ => show (w + 1) * 1 ≤ 32; omega
  | ⟨1, _⟩ => show (0 + 1) * 2048 ≤ 2048; omega
  | ⟨2, _⟩ => show (0 + 1) * 768 ≤ 768; omega
theorem inD (w : ℕ) (hw : w < 32) {x : Fin 3 → ℕ} (hx : x = ![w, 0, 0]) :
    ∃ h : (∀ a, (x a + 1) * S1x768x2048.size a ≤ S32x768x2048.size a), EltTy.bits .bf16 = 32 ∨ (Rect.block (s := S32x768x2048) S1x768x2048.size x h).WholeWords (EltTy.packing .bf16) := by
  subst hx
  refine ⟨fun a => ?_, .inr (.inr ⟨by decide, rfl, rfl, rfl⟩)⟩
  match a with
  | ⟨0, _⟩ => show (w + 1) * 1 ≤ 32; omega
  | ⟨1, _⟩ => show (0 + 1) * 768 ≤ 768; omega
  | ⟨2, _⟩ => show (0 + 1) * 2048 ≤ 2048; omega

variable {m} in
theorem ok (h : Fits m) : ok0 (tbl m) :=
  ⟨fun i => inW _ (h.expert 0 _) (map3_eq m i), fun i => inW _ (h.expert 0 _) (map4_eq m i), fun i => inD _ (h.expert 0 _) (map5_eq m i)⟩

variable (h : Fits m)

/-- The kernel at these tables. -/
abbrev adm : (p : Fin 1) → (pcfgs (F := F) p).Adm := fun _ => ⟨tbl m, ok h⟩
abbrev cf : Pipeline.Cfg sig Λ₀ := Pipeline.pin (pcfgs (F := F)) (adm m h) 0

/-- Window `w`'s block at point `t`. -/
def iblk (c : Dev nD) (w : Fin (cf m h).W) (t : Fin (cf m h).N) : (((cf m h).win w).xblock ((cf m h).grid.coords t)).Idx → Elt F ((cf m h).win w).elt :=
  (((cf m h).win w).blk t).view.read (Elt F) (V m c (Pipeline.arrRef spec0 w))

theorem before_in (c : Dev nD) (dat : Dat τ (Elt F) Unit ℕ (UD sig nD τ) ℕ (cf m h) c) (w : Fin (cf m h).W)
    (hw : ((cf m h).win w).isOut = false) (hl : ∀ i, (cf m h).idle w i = false)
    (hA : dat.A w = V m c (Pipeline.arrRef spec0 w))
    (hk : ∀ t, ((cf m h).win w).cut ((cf m h).grid.coords t) (dat.after w t) = iblk m h c w t) (t : Fin (cf m h).N) (d) :
    dat.before w t d = dat.fetched w t d :=
  dat.before_in_eq_fetched w hw hl (fun _ _ _ => rfl) (fun t => by rw [hk]; unfold Dat.blockOf iblk; rw [hA]; try rfl) t d

/-! ## Where the windows stand -/

theorem coord : ∀ t : Fin grid0.N, (grid0.coords t 0).val = t.val := by decide +kernel

theorem map1_eq : ∀ t : Fin grid0.N, t.val + 1 < 164 → cc0_transform_1 (grid0.coords t) = ![t.val + 1, 0, 0] := by decide +kernel
theorem map0_eq : ∀ t : Fin grid0.N, cc0_transform_0 (grid0.coords t) = ![t.val, 0, 0] := by decide +kernel
theorem map6_eq : ∀ t : Fin grid0.N, cc0_transform_6 (grid0.coords t) = ![t.val, 0] := by decide +kernel

theorem V_slots (c : Dev nD) : V m c main_v3 = (shapeCast S164x1x256 (slotW m c) shapeCasts_S41984_S164x1x256 : IVec S164x1x256 32) := by
  unfold V; after_results; rfl

include h in
/-- The word of row `k` of block `b`. -/
theorem slots_at (c : Dev nD) (b : Fin 164) (k : Fin 256) :
    (shapeCast S164x1x256 (slotW m c) shapeCasts_S41984_S164x1x256 : IVec S164x1x256 32) (ix3 b 0 k) = BitVec.ofNat 32 (row m c b.val k).val := by
  have hb := b.isLt
  have hk := k.isLt
  have e := shapeCast_apply (slotW m c) shapeCasts_S41984_S164x1x256 (ix3 b 0 k) (ix1 (⟨(b.val * 256 + k.val) % 41984, Nat.mod_lt _ (by decide)⟩ : Fin 41984)) (by
    rw [Shape.rowMajor_val_three, Shape.rowMajor_val_one]
    show (b.val * 256 + k.val) % 41984 = (b.val * 1 + 0) * 256 + k.val
    rw [Nat.mod_eq_of_lt (by omega)]; omega)
  refine e.trans (BitVec.eq_of_toNat_eq ?_)
  unfold row
  have hs := h.slot c (ix1 (⟨(b.val * 256 + k.val) % 41984, Nat.mod_lt _ (by decide)⟩ : Fin 41984))
  rw [BitVec.toNat_ofNat]
  show _ = (slotW m c _).toNat % 16896 % 2 ^ 32
  rw [Nat.mod_eq_of_lt hs, Nat.mod_eq_of_lt (lt_trans hs (by decide))]

theorem iblk0_apply (c : Dev nD) (t : Fin (cf m h).N) (k : Fin 256) :
    (iblk m h c 0 t : Vec F S1x1x256 .i32) (ix3 (0 : Fin 1) (0 : Fin 1) k) = BitVec.ofNat 32 (row m c t.val k).val := by
  have ht : t.val < 164 := lt_of_lt_of_eq t.isLt N_0
  unfold iblk
  refine (View.read_apply _ _).trans ?_
  show V m c main_v3 _ = _
  rw [V_slots]
  refine Eq.trans ?_ (slots_at m h c ⟨t.val, ht⟩ k)
  congr 1
  funext a
  apply Fin.ext
  have e := map0_eq t
  match a with
  | ⟨0, _⟩ => show cc0_transform_0 (grid0.coords t) 0 * 1 + 1 * 0 = t.val; rw [e]; show t.val * 1 + 1 * 0 = t.val; omega
  | ⟨1, _⟩ => show cc0_transform_0 (grid0.coords t) 1 * 1 + 1 * 0 = 0; rw [e]; rfl
  | ⟨2, _⟩ => show cc0_transform_0 (grid0.coords t) 2 * 256 + 1 * k.val = k.val; rw [e]; show 0 * 256 + 1 * k.val = k.val; omega

theorem iblk1_apply (c : Dev nD) (t : Fin (cf m h).N) (hl : t.val + 1 < 164) (k : Fin 256) :
    (iblk m h c 1 t : Vec F S1x1x256 .i32) (ix3 (0 : Fin 1) (0 : Fin 1) k) = BitVec.ofNat 32 (row m c (t.val + 1) k).val := by
  unfold iblk
  refine (View.read_apply _ _).trans ?_
  show V m c main_v3 _ = _
  rw [V_slots]
  refine Eq.trans ?_ (slots_at m h c ⟨t.val + 1, hl⟩ k)
  congr 1
  funext a
  apply Fin.ext
  have e := map1_eq t hl
  match a with
  | ⟨0, _⟩ => show cc0_transform_1 (grid0.coords t) 0 * 1 + 1 * 0 = t.val + 1; rw [e]; show (t.val + 1) * 1 + 1 * 0 = t.val + 1; omega
  | ⟨1, _⟩ => show cc0_transform_1 (grid0.coords t) 1 * 1 + 1 * 0 = 0; rw [e]; rfl
  | ⟨2, _⟩ => show cc0_transform_1 (grid0.coords t) 2 * 256 + 1 * k.val = k.val; rw [e]; show 0 * 256 + 1 * k.val = k.val; omega

/-! ## The proof data -/

/-- The tokens. -/
abbrev tok (c : Dev nD) : Bf (F := F) c (Memref.whole main_arg0) := m ((c : Thread nD τ).loc main_arg0)

/-- What grid point `t` leaves in the result window. -/
def left (c : Dev nD) (t : Fin (cf m h).N) : Vec F S256x2048 .f32 :=
  outAt (tok m c) (used m c) (row m c t.val) t.val (iblk m h c 2 t) (iblk m h c 3 t) (iblk m h c 4 t)

def dats (p : Fin 1) (c : Dev nD) : Dat τ (Elt F) Unit ℕ (UD sig nD τ) ℕ (Pipeline.pin (pcfgs (F := F)) (adm m h) p) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => iblk m h c 4 t
    | ⟨5, _⟩ => left m h c t
  Φ t := iprop(Pipeline.ΦT pre0 (tbl m) c ∗ (∃ r, prngReg c r) ∗ RingAt c (tok m c) (used m c) (row m c) t.val)
  q w := Pipeline.shareOf spec0 w
  owed _ := 0

theorem A_eq (c : Dev nD) (w : Fin (cf m h).W) : (dats m h 0 c).A w = V m c (Pipeline.arrRef spec0 w) := by
  dsimp only [dats]
theorem after0 (c : Dev nD) (t : Fin (cf m h).N) : (dats m h 0 c).after (0 : Fin 6) t = iblk m h c 0 t := by dsimp only [dats]
theorem after1 (c : Dev nD) (t : Fin (cf m h).N) : (dats m h 0 c).after (1 : Fin 6) t = iblk m h c 1 t := by dsimp only [dats]
theorem after2 (c : Dev nD) (t : Fin (cf m h).N) : (dats m h 0 c).after (2 : Fin 6) t = iblk m h c 2 t := by dsimp only [dats]
theorem after3 (c : Dev nD) (t : Fin (cf m h).N) : (dats m h 0 c).after (3 : Fin 6) t = iblk m h c 3 t := by dsimp only [dats]
theorem after4 (c : Dev nD) (t : Fin (cf m h).N) : (dats m h 0 c).after (4 : Fin 6) t = iblk m h c 4 t := by dsimp only [dats]
theorem after5 (c : Dev nD) (t : Fin (cf m h).N) : (dats m h 0 c).after (5 : Fin 6) t = left m h c t := by dsimp only [dats]

theorem before0 (c : Dev nD) (t : Fin (cf m h).N) (d) : (dats m h 0 c).before (0 : Fin 6) t d = iblk m h c 0 t :=
  (before_in m h c (dats m h 0 c) (0 : Fin 6) rfl (fun _ => rfl) (A_eq m h c _) (fun t => by rw [after0]) t d).trans (by unfold Dat.fetched Dat.blockOf iblk; rw [A_eq]; rfl)
theorem before1 (c : Dev nD) (t : Fin (cf m h).N) (d) : (dats m h 0 c).before (1 : Fin 6) t d = iblk m h c 1 t :=
  (before_in m h c (dats m h 0 c) (1 : Fin 6) rfl (fun _ => rfl) (A_eq m h c _) (fun t => by rw [after1]) t d).trans (by unfold Dat.fetched Dat.blockOf iblk; rw [A_eq]; rfl)
theorem before2 (c : Dev nD) (t : Fin (cf m h).N) (d) : (dats m h 0 c).before (2 : Fin 6) t d = iblk m h c 2 t :=
  (before_in m h c (dats m h 0 c) (2 : Fin 6) rfl (fun _ => rfl) (A_eq m h c _) (fun t => by rw [after2]) t d).trans (by unfold Dat.fetched Dat.blockOf iblk; rw [A_eq]; rfl)
theorem before3 (c : Dev nD) (t : Fin (cf m h).N) (d) : (dats m h 0 c).before (3 : Fin 6) t d = iblk m h c 3 t :=
  (before_in m h c (dats m h 0 c) (3 : Fin 6) rfl (fun _ => rfl) (A_eq m h c _) (fun t => by rw [after3]) t d).trans (by unfold Dat.fetched Dat.blockOf iblk; rw [A_eq]; rfl)
theorem before4 (c : Dev nD) (t : Fin (cf m h).N) (d) : (dats m h 0 c).before (4 : Fin 6) t d = iblk m h c 4 t :=
  (before_in m h c (dats m h 0 c) (4 : Fin 6) rfl (fun _ => rfl) (A_eq m h c _) (fun t => by rw [after4]) t d).trans (by unfold Dat.fetched Dat.blockOf iblk; rw [A_eq]; rfl)

/-- The number of used blocks, as the kernel reads it off its table. -/
theorem count_tbl (c : Dev nD) : (V m c main_arg3 : IVec S1 32) = fun _ => BitVec.ofNat 32 (used m c) := by
  rw [V_arg m c main_arg3 (by decide) (by decide) (by decide) (by decide)]
  funext y
  have e : y = ix1 (0 : Fin 1) := by
    funext a
    match a with
    | ⟨0, _⟩ => exact Subsingleton.elim (α := Fin 1) _ _
  subst e
  unfold used
  exact (by rw [BitVec.ofNat_toNat, BitVec.setWidth_eq] : countW m c (ix1 0) = BitVec.ofNat 32 (countW m c (ix1 0)).toNat)

theorem count_atD : (tbl m).atD 1 ![0] = BitVec.ofNat 32 (used m 0) :=
  congrFun (count_tbl m 0) _

theorem some_branch (i : grid0.Coords) (n : ℕ) (hn : n ≤ 164) :
    (!(k0_cond3 i (BitVec.ofNat 32 n) == 1#1) && !(k0_cond4 i (BitVec.ofNat 32 n) == 1#1)) = false := by
  by_cases hlt : (i 0).val < n
  · rw [(cond3_iff i _ hn).mpr hlt]; rfl
  · rw [(cond4_iff i _ hn).mpr (Nat.le_of_not_lt hlt), Bool.and_eq_false_iff]
    exact .inr rfl

/-- The result is stored at every point: the block is used or it is not. -/
theorem never_idle (i : grid0.Coords) : (cf m h).idle (5 : Fin 6) i = false := by
  refine Eq.trans ?_ (some_branch i (used m 0) (h.count 0 _).2)
  rw [← count_atD m]

end Cert.Experts.Whole
-- ==== Proof.ExpertsLaunch.lean ====
module
public import proofs.«01_k».proof.Proof.ExpertsRun

/-!
# The experts' kernel from launch to end
-/

@[expose] public section

set_option maxRecDepth 16384

noncomputable section

namespace Cert.Experts.Whole

open Cert.Experts Cert.Experts.Gen Cert.Experts.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat Cfg Window BodyObligation)
open Idealize.ShloMosaic.ValueIdx

variable {F : FTy → Type} [FloatOps F]

/-! ## The buffer and the tokens cut in two -/

theorem half_compl : (Finset.univ \ half 0 : Finset S2x256x2048.Idx) = half 1 := by
  ext y
  rw [Finset.mem_sdiff, mem_half, mem_half]
  have hy : (y 0).val < 2 := (y 0).isLt
  constructor
  · rintro ⟨_, hn⟩
    have : ¬(y 0).val = 0 := hn
    show (y 0).val = 1; omega
  · intro h1
    have : (y 0).val = 1 := h1
    exact ⟨Finset.mem_univ _, by show ¬(y 0).val = 0; omega⟩

theorem free_split (c : Dev nD) (f : Bf (F := F) c (Memref.whole main_arg0)) :
    (iprop((∃ g : Bf (F := F) c (Memref.whole cc0_scratch0), ((c : Thread nD τ).loc cc0_scratch0) ↦{fullShare} g)
      ∗ semVal ((c : Thread nD τ), SemLoc.dma (semC 0)) 0 ∗ semVal ((c : Thread nD τ), SemLoc.dma (semC 1)) 0
      ∗ tokAt c fullShare f) : sProp (MU F)) ⊢ iprop(FreeH c 0 f ∗ FreeH c 1 f) := by
  unfold FreeH
  iintro ⟨⟨%g, Hg⟩, H0, H1, Ht⟩
  ihave Hg := (show (((c : Thread nD τ).loc cc0_scratch0) ↦{fullShare} g : sProp (MU F)) ⊢ iprop(halfAt c 0 g ∗ halfAt c 1 g) from
    (pointsTo_split_subset (I := half 0) (Finset.subset_univ _)).1.trans (Entails.of_eq (by rw [half_compl]))) $$ Hg
  icases Hg with ⟨Ha, Hb⟩
  ihave Ht := (show (tokAt c fullShare f : sProp (MU F)) ⊢ iprop(tokAt c (sh 0) f ∗ tokAt c (sh 1) f) from
    (pointsTo_share (PosShare.mem_left_op_right _)).1) $$ Ht
  icases Ht with ⟨Hl, Hr⟩
  isplitl [Ha H0 Hl]
  · iexists g
    isplitl [Ha]; · iexact Ha
    isplitl [H0]; · iexact H0
    iexact Hl
  · iexists g
    isplitl [Hb]; · iexact Hb
    isplitl [H1]; · iexact H1
    iexact Hr

/-- A region and the rest of its buffer make the whole buffer. -/
theorem whole_of_parts (ℓ : Loc nD τ sig) (I : Finset (Idx ℓ)) (f g : Buf (Elt F) ℓ) :
    (iprop((ℓ ↦[I]{fullShare} f) ∗ (ℓ ↦[Finset.univ \ I]{fullShare} g)) : sProp (MU F)) ⊢ iprop(∃ g : Buf (Elt F) ℓ, ℓ ↦{fullShare} g) :=
  (pointsTo_join_subset (Finset.subset_univ I)).trans (exists_intro (Φ := fun g : Buf (Elt F) ℓ => iprop(ℓ ↦{fullShare} g)) _)

theorem half_join (c : Dev nD) (g g' : Bf (F := F) c (Memref.whole cc0_scratch0)) :
    (iprop(halfAt c 0 g ∗ halfAt c 1 g') : sProp (MU F)) ⊢ iprop(∃ g : Bf (F := F) c (Memref.whole cc0_scratch0), ((c : Thread nD τ).loc cc0_scratch0) ↦{fullShare} g) := by
  have e : (iprop(halfAt c 0 g ∗ halfAt c 1 g') : sProp (MU F)) = iprop(halfAt c 0 g ∗ ((Memref.whole cc0_scratch0).view.loc (c : Thread nD τ) ↦[Finset.univ \ half 0]{fullShare} g')) := by
    rw [half_compl]
  rw [e]
  exact whole_of_parts ((c : Thread nD τ).loc cc0_scratch0) (half 0) g g'

theorem free_join (c : Dev nD) (f : Bf (F := F) c (Memref.whole main_arg0)) :
    (iprop(FreeH c 0 f ∗ FreeH c 1 f) : sProp (MU F)) ⊢ iprop((∃ g : Bf (F := F) c (Memref.whole cc0_scratch0), ((c : Thread nD τ).loc cc0_scratch0) ↦{fullShare} g)
      ∗ semVal ((c : Thread nD τ), SemLoc.dma (semC 0)) 0 ∗ semVal ((c : Thread nD τ), SemLoc.dma (semC 1)) 0
      ∗ tokAt c fullShare f) := by
  unfold FreeH
  iintro ⟨⟨%g, Ha, H0, Hl⟩, ⟨%g', Hb, H1, Hr⟩⟩
  isplitl [Ha Hb]
  · iapply (half_join c g g')
    isplitl [Ha]; · iexact Ha
    iexact Hb
  isplitl [H0]; · iexact H0
  isplitl [H1]; · iexact H1
  iapply (show (iprop(tokAt c (sh 0) f ∗ tokAt c (sh 1) f) : sProp (MU F)) ⊢ tokAt c fullShare f from
    (pointsTo_share (PosShare.mem_left_op_right _)).2)
  isplitl [Hl]; · iexact Hl
  iexact Hr

variable (m : (ℓ : Loc nD τ sig) → Buf (Elt F) ℓ) (ρ : Dev nD → PrngReg) (h : Fits m)

/-! ## The body at a grid point -/

/-- The two tables, held to be read. -/
theorem tables_eq (c : Dev nD) : (Pipeline.ΦT pre0 (tbl m) c : sProp (MU F))
    = iprop((((c : Thread nD τ).loc main_arg2) ↦{fullShare.right} V m 0 main_arg2) ∗ (((c : Thread nD τ).loc main_arg3) ↦{fullShare.right} V m 0 main_arg3)) := by
  unfold Pipeline.ΦT Pipeline.prefHeld
  exact bigSep_univ_eq_bigSepL [(0 : Fin 2), (1 : Fin 2)] (by decide) (by decide) _

abbrev stg (t : Fin (cf m h).N) (w : Fin 6) := ((cf m h).win w).stage ((cf m h).slots t w)

def bodyPre (c : Dev nD) (t : Fin (cf m h).N) : sProp (MU F) :=
  iprop((dats m h 0 c).Φ t.castSucc ∗ (dats m h 0 c).owesAt () t.castSucc
    ∗ (∃ d, owns (c : Thread nD τ) (stg m h t 0) fullShare ((dats m h 0 c).before (0 : Fin 6) t d))
    ∗ (∃ d, owns (c : Thread nD τ) (stg m h t 1) fullShare ((dats m h 0 c).before (1 : Fin 6) t d))
    ∗ (∃ d, owns (c : Thread nD τ) (stg m h t 2) fullShare ((dats m h 0 c).before (2 : Fin 6) t d))
    ∗ (∃ d, owns (c : Thread nD τ) (stg m h t 3) fullShare ((dats m h 0 c).before (3 : Fin 6) t d))
    ∗ (∃ d, owns (c : Thread nD τ) (stg m h t 4) fullShare ((dats m h 0 c).before (4 : Fin 6) t d))
    ∗ (∃ d, owns (c : Thread nD τ) (stg m h t 5) fullShare ((dats m h 0 c).before (5 : Fin 6) t d)))

def bodyPost (c : Dev nD) (t : Fin (cf m h).N) : sProp (MU F) :=
  iprop((dats m h 0 c).Φ t.succ ∗ (dats m h 0 c).owesAt () t.succ
    ∗ owns (c : Thread nD τ) (stg m h t 0) fullShare ((dats m h 0 c).after (0 : Fin 6) t)
    ∗ owns (c : Thread nD τ) (stg m h t 1) fullShare ((dats m h 0 c).after (1 : Fin 6) t)
    ∗ owns (c : Thread nD τ) (stg m h t 2) fullShare ((dats m h 0 c).after (2 : Fin 6) t)
    ∗ owns (c : Thread nD τ) (stg m h t 3) fullShare ((dats m h 0 c).after (3 : Fin 6) t)
    ∗ owns (c : Thread nD τ) (stg m h t 4) fullShare ((dats m h 0 c).after (4 : Fin 6) t)
    ∗ owns (c : Thread nD τ) (stg m h t 5) fullShare ((dats m h 0 c).after (5 : Fin 6) t))

abbrev bodyAt (t : Fin (cf m h).N) : Prog (TpuEff nD τ sig (Elt F) Λ₀ .tc) PUnit :=
  cc0_experts (grid0.coords t) (Memref.whole main_arg2) (Memref.isWhole_whole _) (Memref.whole main_arg3) (Memref.isWhole_whole _)
    (stg m h t 0) (hstage0_0 (((cf m h).slots t (0 : Fin 6)).cast nbuf0_0)) (stg m h t 1) (hstage0_1 (((cf m h).slots t (1 : Fin 6)).cast nbuf0_1))
    (Memref.whole main_arg0) (Memref.isWhole_whole _) (stg m h t 2) (hstage0_2 (((cf m h).slots t (2 : Fin 6)).cast nbuf0_2))
    (stg m h t 3) (hstage0_3 (((cf m h).slots t (3 : Fin 6)).cast nbuf0_3)) (stg m h t 4) (hstage0_4 (((cf m h).slots t (4 : Fin 6)).cast nbuf0_4))
    (stg m h t 5) (hstage0_5 (((cf m h).slots t (5 : Fin 6)).cast nbuf0_5)) (Memref.whole cc0_scratch0) (Memref.isWhole_whole _) cc0_scratch1

theorem row_at (t : Fin (cf m h).N) :
    defs₀ (F := F) .tc (cf m h).body ((cf m h).bodyArgs t ((cf m h).slots t)) = bodyAt m h t := by
  unfold defs₀; rw [Defs.onTc_tc]

set_option maxHeartbeats 1000000 in
theorem sound_body (c : Dev nD) (t : Fin (cf m h).N) :
    bodyPre m h c t ⊢ wp frame (wpE (defs₀ (F := F)) Variants.none c none) Set.univ (bodyAt m h t) (fun _ => bodyPost m h c t) := by
  obtain rfl : c = 0 := Subsingleton.elim _ _
  have ht : t.val < 164 := lt_of_lt_of_eq t.isLt N_0
  have hco : (grid0.coords t 0).val = t.val := coord t
  have hn := h.count 0 (ix1 (0 : Fin 1))
  unfold bodyPre bodyPost bodyAt
  simp only [before0, before1, before2, before3, before4]
  rw [after0, after1, after2, after3, after4, after5,
    show (dats m h 0 0).Φ t.castSucc = iprop(Pipeline.ΦT pre0 (tbl m) 0 ∗ (∃ r, prngReg 0 r) ∗ RingAt 0 (tok m 0) (used m 0) (row m 0) t.val) from rfl,
    show (dats m h 0 0).Φ t.succ = iprop(Pipeline.ΦT pre0 (tbl m) 0 ∗ (∃ r, prngReg 0 r) ∗ RingAt 0 (tok m 0) (used m 0) (row m 0) (t.val + 1)) from rfl,
    tables_eq]
  unfold left Dat.owesAt Pipeline.owesWithin
  iintro ⟨⟨⟨Ha, Hn⟩, Hp, HR⟩, ⟨%W0, -, Ho⟩, ⟨%d0, H0⟩, ⟨%d1, H1⟩, ⟨%d2, H2⟩, ⟨%d3, H3⟩, ⟨%d4, H4⟩, ⟨%d5, H5⟩⟩
  iapply (point (0 : Dev nD) (tok m 0) (grid0.coords t) (used m 0) hn.1 hn.2 (row m 0)
    (Memref.whole main_arg2) (Memref.isWhole_whole _) (Memref.isWhole_whole _) (stg m h t 0) _ (stg m h t 1) _ (stg m h t 2) _ (stg m h t 3) _ (stg m h t 4) _ (stg m h t 5) _
    (Memref.isWhole_whole _) (Memref.isWhole_whole _) _ fullShare.right (V m 0 main_arg3) (count_tbl m 0)
    (iblk m h 0 0 t) (iblk m h 0 1 t) (fun k => by rw [hco]; exact iblk0_apply m h 0 t k)
    (fun hl k => by rw [hco] at hl ⊢; exact iblk1_apply m h 0 t (lt_of_lt_of_le hl hn.2) k)
    (iblk m h 0 2 t) (iblk m h 0 3 t) (iblk m h 0 4 t))
  rw [hco]
  isplitl [HR]; · iexact HR
  isplitl [Ho]; · iexists W0; iexact Ho
  isplitl [Hn]; · iexact Hn
  isplitl [H0]; · iexact H0
  isplitl [H1]; · iexact H1
  isplitl [H2]; · iexact H2
  isplitl [H3]; · iexact H3
  isplitl [H4]; · iexact H4
  isplitl [H5]; · iexists _; iexact H5
  iintro ⟨HR, ⟨%W1, Ho⟩, Hn, H0, H1, H2, H3, H4, H5⟩
  isplitl [Ha Hn Hp HR]
  · isplitl [Ha Hn]
    · isplitl [Ha]; · iexact Ha
      iexact Hn
    isplitl [Hp]; · iexact Hp
    iexact HR
  isplitl [Ho]
  · iexists W1; isplitr
    · ipureintro; exact fun _ _ => Or.inl trivial
    iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m h 0 c) (defs₀ (F := F)) Variants.none () Set.univ := fun t => by
  rw [bigSep_W0, bigSep_W0, row_at]
  refine triple_restated (sound_body m h c t) rfl .rfl fun _ => Entails.of_eq ?_
  unfold bodyPost
  have e := never_idle m h ((cf m h).grid.coords t)
  rw [e]

/-! ## From the launch's holdings to the first point's and back -/

/-- The two semaphores of the ring. -/
def cells : Fin 2 → SemLoc sig := fun s => .dma (semC s)

theorem cells_own : Pipeline.OwnSemFacts spec0 cells where
  isScoped := by decide
  inj := by decide
  disj := by decide

/-- What the launch holds aside of the windows: the buffer, the cells, the tokens. -/
theorem held_eq (c : Dev nD) : (Pipeline.ΦD cells spec0 {main_arg0} (V m) c : sProp (MU F))
    = iprop((∃ g : Buf (Elt F) ((c : Thread nD τ).loc cc0_scratch0), ((c : Thread nD τ).loc cc0_scratch0) ↦{fullShare} g) ∗ (∃ r, prngReg c r)
      ∗ (semVal ((c : Thread nD τ), SemLoc.dma (semC 0)) 0 ∗ semVal ((c : Thread nD τ), SemLoc.dma (semC 1)) 0)
      ∗ tokAt c fullShare (tok m c)) := by
  rw [Pipeline.ΦD_eq, scopedRest0_eq, Pipeline.ownSems0_eq_of_list (Val := Elt F) c cells [0, 1] (by decide) (by decide), bigSep_singleton,
    V_arg m c main_arg0 (by decide) (by decide) (by decide) (by decide)]
  rfl

theorem hin (c : Dev nD) : (iprop(Pipeline.ΦD cells spec0 {main_arg0} (V m) c ∗ Pipeline.ΦT pre0 (tbl m) c) : sProp (MU F)) ⊢ (dats m h 0 c).Φ 0 := by
  rw [held_eq, show (dats m h 0 c).Φ 0 = iprop(Pipeline.ΦT pre0 (tbl m) c ∗ (∃ r, prngReg c r) ∗ (FreeH c 0 (tok m c) ∗ FreeH c 1 (tok m c))) from rfl]
  iintro ⟨⟨Hg, Hp, ⟨H0, H1⟩, Ht⟩, HT⟩
  isplitl [HT]; · iexact HT
  isplitl [Hp]; · iexact Hp
  iapply (free_split c (tok m c))
  isplitl [Hg]; · iexact Hg
  isplitl [H0]; · iexact H0
  isplitl [H1]; · iexact H1
  iexact Ht

include h in
theorem ring_end (c : Dev nD) : (RingAt c (tok m c) (used m c) (row m c) 164 : sProp (MU F)) = iprop(FreeH c 0 (tok m c) ∗ FreeH c 1 (tok m c)) := by
  unfold RingAt
  rw [if_neg (by decide), due_ge (n := used m c) _ (Nat.not_lt.mpr (h.count c (ix1 0)).2)]
  rfl

theorem hout (c : Dev nD) : (dats m h 0 c).Φ (Fin.last (cf m h).N) ⊢ (Pipeline.ΦD cells spec0 {main_arg0} (V m) c : sProp (MU F)) := by
  rw [held_eq, show (dats m h 0 c).Φ (Fin.last (cf m h).N) = iprop(Pipeline.ΦT pre0 (tbl m) c ∗ (∃ r, prngReg c r) ∗ RingAt c (tok m c) (used m c) (row m c) 164) from
    congrArg (fun n => iprop(Pipeline.ΦT pre0 (tbl m) c ∗ (∃ r, prngReg c r) ∗ RingAt c (tok m c) (used m c) (row m c) n)) N_0, ring_end m h]
  iintro ⟨-, Hp, HF⟩
  ihave HF := (free_join c (tok m c)) $$ HF
  icases HF with ⟨Hg, H0, H1, Ht⟩
  isplitl [Hg]; · iexact Hg
  isplitl [Hp]; · iexact Hp
  isplitl [H0 H1]
  · isplitl [H0]; · iexact H0
    iexact H1
  iexact Ht

/-! ## The run -/

set_option backward.isDefEq.respectTransparency.types false in
set_option maxHeartbeats 800000 in
theorem run_whole : θ_run (defs (F := F)) (onTc (τ := τ) (main (F := F))) ⟨m, fun _ => 0, ρ⟩
    (fun r => Pipeline.FramePost (Pipeline.pin (pcfgs (F := F)) (adm m h)) (dats m h) 0 (V m) r ∧ r.2.sem = fun _ => 0) :=
  Pipeline.θ_run_frameP_dma_shared (Q' := _) (pcfgs (F := F)) (adm m h) (dats m h) 0 launch₀0 cells defs₀ Variants.none
    cells_own {main_arg0} (show {main_arg0} ⊆ Pipeline.restRefsP sig pre0 spec0 by decide) m ρ main (fun c => (body_obligation m h c).loose)
    (fun _ w _ => rfl) (fun _ _ => rfl) (V m) (hmain m Variants.none) (A_eq m h)
    (fun c k => by obtain rfl : c = 0 := Subsingleton.elim _ _; rfl)
    (hin m h) (hout m h)

theorem rest_mem (b : Ref sig .tc) (hs : ∀ w, (spec0 w).arr.view.ref ≠ b) (hb : b.isScoped = false) : b ∈ Pipeline.restRefs sig spec0 :=
  Pipeline.mem_restRefs_of b hb hs

/-- What a finished run leaves in the arguments. -/
theorem kept (r : PUnit × MemSt nD τ sig (Elt F)) (hr : Pipeline.FramePost (Pipeline.pin (pcfgs (F := F)) (adm m h)) (dats m h) 0 (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((hr c).2 main_arg0 (rest_mem main_arg0 (by decide) (by decide))).trans (V_arg m c _ (by decide) (by decide) (by decide) (by decide)),
    ((hr c).2 main_arg1 (rest_mem main_arg1 (by decide) (by decide))).trans (V_arg m c _ (by decide) (by decide) (by decide) (by decide)),
    ((hr c).2 main_arg2 (rest_mem main_arg2 (by decide) (by decide))).trans (V_arg m c _ (by decide) (by decide) (by decide) (by decide)),
    ((hr c).2 main_arg3 (rest_mem main_arg3 (by decide) (by decide))).trans (V_arg m c _ (by decide) (by decide) (by decide) (by decide)),
    ((hr c).2 main_arg4 (rest_mem main_arg4 (by decide) (by decide))).trans (V_arg m c _ (by decide) (by decide) (by decide) (by decide)),
    ((hr c).2 main_arg5 (rest_mem main_arg5 (by decide) (by decide))).trans (V_arg m c _ (by decide) (by decide) (by decide) (by decide)),
    ((hr c).2 main_arg6 (rest_mem main_arg6 (by decide) (by decide))).trans (V_arg m c _ (by decide) (by decide) (by decide) (by decide))⟩

include h in
theorem frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run _ _ _).mono (fun r hr => ⟨kept m h r hr.1, hr.2⟩) (run_whole m ρ h)

end Cert.Experts.Whole
-- ==== Proof.ExpertsPre.lean ====
module
public import proofs.«01_k».proof.Proof.ExpertsLaunch
public import proofs.«01_k».proof.Proof.Gen.Pre_routed
public import Idealize.ShloMosaic.Lib.ReduceAll
public import Idealize.ShloMosaic.Lib.Affine

/-!
# What the precondition `routed` says of the tables
-/

@[expose] public section

set_option maxRecDepth 16384

noncomputable section

namespace Cert.Pre_routed

open Idealize.ShloMosaic Idealize.ShloMosaic.ValueIdx

theorem and_one {S : Shape} {a b : IVec S 1} {i : S.Idx} (h : andi a b i = 1#1) : a i = 1#1 ∧ b i = 1#1 := by
  have e : a i &&& b i = 1#1 := h
  exact ⟨by revert e; generalize a i = x; generalize b i = y; revert x y; decide, by revert e; generalize a i = x; generalize b i = y; revert x y; decide⟩

/-- A word at least zero as a signed number is its unsigned one. -/
theorem toInt_of_nonneg {x : BitVec 32} (h : 0 ≤ x.toInt) : x.toInt = (x.toNat : ℤ) := by
  have hx := x.isLt
  have e := BitVec.toInt_eq_toNat_cond x
  split at e <;> omega

/-- A word at least zero and below `n` counts less than `n`. -/
theorem word_range {x y z : BitVec 32} (h1 : IntOp.cmpi .sge x y = 1#1) (h2 : IntOp.cmpi .slt x z = 1#1) (hy : y = 0#32) {n : ℕ} (hn : n < 2 ^ 31) (hz : z = BitVec.ofNat 32 n) : x.toNat < n := by
  have e1 := IntOp.cmpi_sge.mp h1
  have e2 := IntOp.cmpi_slt.mp h2
  subst hy hz
  rw [show (0#32).toInt = 0 by decide] at e1
  rw [toInt_of_nonneg e1, BitVec.toInt_eq_toNat_cond, BitVec.toNat_ofNat, Nat.mod_eq_of_lt (by omega), if_pos (by omega)] at e2
  exact_mod_cast e2

variable [Facts] {F : FTy → Type} [FloatOps F]

theorem bounds {a0 : FVec F S16896x2048 .f32} {a1 : IVec S41984 32} {a2 : IVec S164 32} {a3 : IVec S1 32} {a4 a5 : FVec F S32x2048x768 .f32} {a6 : FVec F S32x768x2048 .f32}
    (h : fn a0 a1 a2 a3 a4 a5 a6 = fun _ => 1#1) :
    (∀ j, (a1 j).toNat < 16896) ∧ (∀ j, (a2 j).toNat < 32) ∧ ∀ j, 1 ≤ (a3 j).toNat ∧ (a3 j).toNat ≤ 164 := by
  have h0 := congrFun h (fun a => a.elim0)
  dsimp only [fn, fn_part1] at h0
  obtain ⟨h1, hle⟩ := and_one h0
  obtain ⟨h2, hge⟩ := and_one h1
  obtain ⟨hs, he⟩ := and_one h2
  refine ⟨fun j => ?_, fun j => ?_, fun j => ?_⟩
  · have e := and_one (Host.reduce_andi_all _ _ _ _ _ hs j)
    exact word_range e.1 e.2 rfl (by decide) rfl
  · have e := and_one (Host.reduce_andi_all _ _ _ _ _ he j)
    exact word_range e.1 e.2 rfl (by decide) rfl
  · have ej : shapeCast S_ a3 Facts.shapeCasts_S1_S_ (fun a => a.elim0) = a3 j :=
      shapeCast_apply a3 Facts.shapeCasts_S1_S_ _ j (by
        rw [Shape.rowMajor_val_one]
        have hj : (j 0).val < 1 := (j 0).isLt
        have hr := (S_.rowMajor (fun a => a.elim0)).isLt
        have hn : S_.numel = 1 := by decide
        omega)
    have l : IntOp.cmpi .sle (a3 j) 164#32 = 1#1 := ej ▸ hle
    have g : IntOp.cmpi .sge (a3 j) 1#32 = 1#1 := ej ▸ hge
    have l := IntOp.cmpi_sle.mp l
    have g := IntOp.cmpi_sge.mp g
    rw [show (1#32).toInt = 1 by decide] at g
    rw [show (164#32).toInt = 164 by decide] at l
    rw [toInt_of_nonneg (by omega)] at l g
    exact ⟨by exact_mod_cast g, by exact_mod_cast l⟩

end Cert.Pre_routed

namespace Cert.Experts.Whole

open Cert.Experts Idealize.ShloMosaic Idealize.ShloMosaic.TcCoe

variable [Cert.Pre_routed.Facts] {F : FTy → Type} [FloatOps F] (m : (ℓ : Loc nD τ sig) → Buf (Elt F) ℓ)

/-- Routed tables fit. -/
theorem fits_of_routed
    (h : ∀ c : Dev nD, Cert.Pre_routed.fn (F := F) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) = fun _ => 1#1) : Fits m where
  slot c j := (Cert.Pre_routed.bounds (h c)).1 j
  expert c j := (Cert.Pre_routed.bounds (h c)).2.1 j
  count c j := (Cert.Pre_routed.bounds (h c)).2.2 j

end Cert.Experts.Whole
-- ==== Proof.ExpertsSame.lean ====
module
public import proofs.«01_k».proof.Proof.ExpertsPre
public import proofs.«01_k».proof.Proof.Gen.ExpertsIdeal.Launch

/-!
# The experts' program and its idealization are one text

What is proved of the one at every instance of the floats is read of the other.
-/

@[expose] public section

set_option maxRecDepth 16384

noncomputable section

namespace Cert.Experts.Whole

open Idealize.ShloMosaic Idealize.SL Idealize.SL.Sem Idealize.ShloMosaic.TcCoe

variable (F : FTy → Type) [FloatOps F]

theorem bodies_eq : (Cert.Experts.defs₀ (F := F)) = Cert.ExpertsIdeal.defs₀ (F := F) := by
  unfold Cert.Experts.defs₀ Cert.ExpertsIdeal.defs₀
  refine congrArg Defs.onTc ?_
  funext l a
  match l, a with
  | 0, (t, s) => rfl

theorem defs_eq : (Cert.Experts.defs (F := F)) = Cert.ExpertsIdeal.defs (F := F) :=
  congrArg (Pipeline.defs (Cert.Experts.pcfgs (F := F))) (bodies_eq F)

theorem main_eq : (Cert.Experts.main (F := F)) = Cert.ExpertsIdeal.main (F := F) := rfl

/-- A run of the one is a run of the other. -/
theorem run_same (s : MemSt Cert.Experts.nD Cert.Experts.τ Cert.Experts.sig (Elt F)) (Q : PUnit × MemSt Cert.Experts.nD Cert.Experts.τ Cert.Experts.sig (Elt F) → Prop)
    (h : θ_run (Cert.Experts.defs (F := F)) (onTc (τ := Cert.Experts.τ) (Cert.Experts.main (F := F))) s Q) :
    θ_run (Cert.ExpertsIdeal.defs (F := F)) (onTc (τ := Cert.ExpertsIdeal.τ) (Cert.ExpertsIdeal.main (F := F))) s Q := by
  rw [defs_eq, main_eq] at h
  exact h

end Cert.Experts.Whole
-- ==== Proof.ExpertsValue.lean ====
/-
  The experts' kernel by values: block `t` of the result is the gated product of its rows' tokens with its expert's
  three weight arrays where the block is used, and zero where it is not.
-/
module

public import proofs.«01_k».proof.Defs
public import proofs.«01_k».proof.Proof.MatBlock
public import proofs.«01_k».proof.Proof.ExpertsSame

@[expose] public section

set_option maxRecDepth 16384

noncomputable section

open Idealize.ShloMosaic Idealize.ShloMosaic.TcCoe Idealize.SL.Sem Idealize.ShloMosaic.ValueIdx
open Idealize.ShloMosaic.Pipeline (Dat Window)
open Cert.MatBlock

namespace Cert.Experts.Whole

open Cert.Experts Cert.Experts.Gen Cert.Experts.Steps

/-- Row `r` of the tokens times column `j` of expert `e`'s array. -/
def hid (x : S16896x2048.Idx → EReal) (w : S32x2048x768.Idx → EReal) (r : Fin 16896) (e : Fin 32) (j : Fin 768) : EReal :=
  ∑ k : Fin 2048, x (ix2 r k) * w (ix3 e k j)

/-- Entry `q` of what expert `e` makes of token `r`: the gate's product times its logistic times the other product, summed against the third array. -/
def mlp (x : S16896x2048.Idx → EReal) (g u : S32x2048x768.Idx → EReal) (d : S32x768x2048.Idx → EReal) (r : Fin 16896) (e : Fin 32) (q : Fin 2048) : EReal :=
  ∑ j : Fin 768, hid x g r e j * Ideal.logistic (hid x g r e j) * hid x u r e j * d (ix3 e j q)

/-- A block's slab without its leading axis of one. -/
theorem slab_apply {A B : ℕ} {α : Type} (v : (⟨3, ![1, A, B]⟩ : Shape).Idx → α) (h : (⟨3, ![1, A, B]⟩ : Shape).ShapeCasts ⟨2, ![A, B]⟩) (r : Fin A) (k : Fin B) :
    shapeCast ⟨2, ![A, B]⟩ v h (ix2 r k) = v (ix3 (0 : Fin 1) r k) :=
  shapeCast_apply v h _ _ (by
    rw [Shape.rowMajor_val_three, Shape.rowMajor_val_two]
    show (0 * A + r.val) * B + k.val = r.val * B + k.val
    rw [Nat.zero_mul, Nat.zero_add])

/-- What the body stores for a used block, at an entry. -/
theorem payload_apply (x : Vec Ideal S1x256x2048 .f32) (g u : Vec Ideal S1x2048x768 .bf16) (d : Vec Ideal S1x768x2048 .bf16) (r : Fin 256) (q : Fin 2048) :
    k0_pay1 (F := Ideal) x g u d (ix2 r q) = ∑ j : Fin 768,
      (∑ k : Fin 2048, x (ix3 (0 : Fin 1) r k) * g (ix3 (0 : Fin 1) k j)) * Ideal.logistic (∑ k : Fin 2048, x (ix3 (0 : Fin 1) r k) * g (ix3 (0 : Fin 1) k j))
        * (∑ k : Fin 2048, x (ix3 (0 : Fin 1) r k) * u (ix3 (0 : Fin 1) k j)) * d (ix3 (0 : Fin 1) j q) := by
  have hm : ∀ (w : Vec Ideal S1x2048x768 .bf16) (j : Fin 768),
      matmul (F := Ideal) (φ₁ := .bf16) (φ₂ := .bf16) dot_S256x2048_S2048x768_S256x768_1_0_0_1_n_n none
        (truncf .bf16 (shapeCast S256x2048 x shapeCasts_S1x256x2048_S256x2048 : FVec Ideal S256x2048 .f32) bitsLt_bf16_f32)
        (shapeCast S2048x768 w shapeCasts_S1x2048x768_S2048x768) (constant S256x768 .f32 0x00000000#32) (ix2 r j)
        = ∑ k : Fin 2048, x (ix3 (0 : Fin 1) r k) * w (ix3 (0 : Fin 1) k j) := fun w j => by
    refine (matmul_zero_apply (M := 256) (K := 2048) (N := 768) _ _ r j).trans ?_
    unfold prodAt
    refine Finset.sum_congr rfl fun k _ => ?_
    have e1 := slab_apply x shapeCasts_S1x256x2048_S256x2048 r k
    have e2 := slab_apply w shapeCasts_S1x2048x768_S2048x768 k j
    exact congrArg₂ (fun a b : EReal => a * b) e1 e2
  unfold k0_pay1
  refine (matmul_zero_apply (M := 256) (K := 768) (N := 2048) _ _ r q).trans ?_
  unfold prodAt
  refine Finset.sum_congr rfl fun j _ => ?_
  have e3 := slab_apply d shapeCasts_S1x768x2048_S768x2048 j q
  have eg := hm g j
  have eu := hm u j
  refine congrArg₂ (fun a b : EReal => a * b) ?_ e3
  exact congrArg₂ (fun a b : EReal => a * Ideal.logistic a * b) eg eu

theorem outUsed_apply (x : Vec Ideal S1x256x2048 .f32) (g u : Vec Ideal S1x2048x768 .bf16) (d : Vec Ideal S1x768x2048 .bf16) (r : Fin 256) (q : Fin 2048) :
    (outUsed x g u d : Vec Ideal S256x2048 .f32) (ix2 r q) = ∑ j : Fin 768,
      (∑ k : Fin 2048, x (ix3 (0 : Fin 1) r k) * g (ix3 (0 : Fin 1) k j)) * Ideal.logistic (∑ k : Fin 2048, x (ix3 (0 : Fin 1) r k) * g (ix3 (0 : Fin 1) k j))
        * (∑ k : Fin 2048, x (ix3 (0 : Fin 1) r k) * u (ix3 (0 : Fin 1) k j)) * d (ix3 (0 : Fin 1) j q) := by
  unfold outUsed rW rD rO
  rw [View.canon_unit_zero hz2, View.ld_unit_zero hz3, View.ld_unit_zero hz3, View.ld_unit_zero hz3, payload_apply]

variable (m : (ℓ : Loc nD τ sig) → Buf (Elt Ideal) ℓ) (ρ : Dev nD → PrngReg) (h : Fits m)

/-- Block `t`'s expert. -/
def expert (t : Fin 164) : Fin 32 := ⟨(expertW m 0 (ix1 t)).toNat % 32, Nat.mod_lt _ (by decide)⟩

/-- What entry `q` of row `r` of block `t` ends as. -/
def entry (c : Dev nD) (t : Fin 164) (r : Fin 256) (q : Fin 2048) : EReal :=
  if t.val < used m c then
    mlp (m ((c : Thread nD τ).loc main_arg0)) (m ((c : Thread nD τ).loc main_arg4)) (m ((c : Thread nD τ).loc main_arg5)) (m ((c : Thread nD τ).loc main_arg6))
      (row m c t.val r) (expert m t) q
  else 0

/-- What the result array is shown to hold. -/
def G (c : Dev nD) : Buf (Elt Ideal) ((c : Thread nD τ).loc main_v4) := fun i : S41984x2048.Idx =>
  entry m c ⟨(i 0).val / 256, Nat.div_lt_of_lt_mul (i 0).isLt⟩ ⟨(i 0).val % 256, Nat.mod_lt _ (by decide)⟩ (i 1)

include h in
theorem map3_at (t : Fin grid0.N) (ht : t.val < 164) :
    cc0_transform_3 k0_off1_inb numel1_S1 (tbl m) (grid0.coords t) = ![(expert m ⟨t.val, ht⟩).val, 0, 0] := by
  rw [map3_eq]
  have e : grid0.coords t 0 = (⟨t.val, ht⟩ : Fin 164) := Fin.ext (coord t)
  rw [e]
  have hx : (expert m ⟨t.val, ht⟩).val = (expertW m 0 (ix1 (⟨t.val, ht⟩ : Fin 164))).toNat := Nat.mod_eq_of_lt (h.expert 0 _)
  rw [hx]

/-- The slabs of weights that point `t` reads are its expert's: the cast changes nothing. -/
theorem iblk2_apply (c : Dev nD) (t : Fin (cf m h).N) (ht : t.val < 164) (k : Fin 2048) (j : Fin 768) :
    (iblk m h c 2 t : Vec Ideal S1x2048x768 .bf16) (ix3 (0 : Fin 1) k j) = m ((c : Thread nD τ).loc main_arg4) (ix3 (expert m ⟨t.val, ht⟩) k j) := by
  have hv : V m c main_v0 = (truncf (F := Ideal) (s := S32x2048x768) (φ := .f32) .bf16 (m ((c : Thread nD τ).loc main_arg4)) bitsLt_bf16_f32 : FVec Ideal S32x2048x768 .bf16) := by
    unfold V; after_results
  unfold iblk
  refine (View.read_apply _ _).trans ?_
  show V m c main_v0 _ = _
  rw [hv]
  show m ((c : Thread nD τ).loc main_arg4) _ = _
  congr 1
  funext a
  apply Fin.ext
  have e := map3_at m h t ht
  match a with
  | ⟨0, _⟩ => show cc0_transform_3 k0_off1_inb numel1_S1 (tbl m) (grid0.coords t) 0 * 1 + 1 * 0 = _; rw [e]; show (expert m ⟨t.val, ht⟩).val * 1 + 1 * 0 = (expert m ⟨t.val, ht⟩).val; omega
  | ⟨1, _⟩ => show cc0_transform_3 k0_off1_inb numel1_S1 (tbl m) (grid0.coords t) 1 * 2048 + 1 * k.val = _; rw [e]; show 0 * 2048 + 1 * k.val = k.val; omega
  | ⟨2, _⟩ => show cc0_transform_3 k0_off1_inb numel1_S1 (tbl m) (grid0.coords t) 2 * 768 + 1 * j.val = _; rw [e]; show 0 * 768 + 1 * j.val = j.val; omega

theorem iblk3_apply (c : Dev nD) (t : Fin (cf m h).N) (ht : t.val < 164) (k : Fin 2048) (j : Fin 768) :
    (iblk m h c 3 t : Vec Ideal S1x2048x768 .bf16) (ix3 (0 : Fin 1) k j) = m ((c : Thread nD τ).loc main_arg5) (ix3 (expert m ⟨t.val, ht⟩) k j) := by
  have hv : V m c main_v1 = (truncf (F := Ideal) (s := S32x2048x768) (φ := .f32) .bf16 (m ((c : Thread nD τ).loc main_arg5)) bitsLt_bf16_f32 : FVec Ideal S32x2048x768 .bf16) := by
    unfold V; after_results
  unfold iblk
  refine (View.read_apply _ _).trans ?_
  show V m c main_v1 _ = _
  rw [hv]
  show m ((c : Thread nD τ).loc main_arg5) _ = _
  congr 1
  funext a
  apply Fin.ext
  have e := map3_at m h t ht
  match a with
  | ⟨0, _⟩ => show cc0_transform_3 k0_off1_inb numel1_S1 (tbl m) (grid0.coords t) 0 * 1 + 1 * 0 = _; rw [e]; show (expert m ⟨t.val, ht⟩).val * 1 + 1 * 0 = (expert m ⟨t.val, ht⟩).val; omega
  | ⟨1, _⟩ => show cc0_transform_3 k0_off1_inb numel1_S1 (tbl m) (grid0.coords t) 1 * 2048 + 1 * k.val = _; rw [e]; show 0 * 2048 + 1 * k.val = k.val; omega
  | ⟨2, _⟩ => show cc0_transform_3 k0_off1_inb numel1_S1 (tbl m) (grid0.coords t) 2 * 768 + 1 * j.val = _; rw [e]; show 0 * 768 + 1 * j.val = j.val; omega

theorem iblk4_apply (c : Dev nD) (t : Fin (cf m h).N) (ht : t.val < 164) (j : Fin 768) (q : Fin 2048) :
    (iblk m h c 4 t : Vec Ideal S1x768x2048 .bf16) (ix3 (0 : Fin 1) j q) = m ((c : Thread nD τ).loc main_arg6) (ix3 (expert m ⟨t.val, ht⟩) j q) := by
  have hv : V m c main_v2 = (truncf (F := Ideal) (s := S32x768x2048) (φ := .f32) .bf16 (m ((c : Thread nD τ).loc main_arg6)) bitsLt_bf16_f32 : FVec Ideal S32x768x2048 .bf16) := by
    unfold V; after_results
  unfold iblk
  refine (View.read_apply _ _).trans ?_
  show V m c main_v2 _ = _
  rw [hv]
  show m ((c : Thread nD τ).loc main_arg6) _ = _
  congr 1
  funext a
  apply Fin.ext
  have e := map3_at m h t ht
  match a with
  | ⟨0, _⟩ => show cc0_transform_3 k0_off1_inb numel1_S1 (tbl m) (grid0.coords t) 0 * 1 + 1 * 0 = _; rw [e]; show (expert m ⟨t.val, ht⟩).val * 1 + 1 * 0 = (expert m ⟨t.val, ht⟩).val; omega
  | ⟨1, _⟩ => show cc0_transform_3 k0_off1_inb numel1_S1 (tbl m) (grid0.coords t) 1 * 768 + 1 * j.val = _; rw [e]; show 0 * 768 + 1 * j.val = j.val; omega
  | ⟨2, _⟩ => show cc0_transform_3 k0_off1_inb numel1_S1 (tbl m) (grid0.coords t) 2 * 2048 + 1 * q.val = _; rw [e]; show 0 * 2048 + 1 * q.val = q.val; omega

/-- What point `t` leaves in the result window, at an entry. -/
theorem left_apply (c : Dev nD) (t : Fin (cf m h).N) (ht : t.val < 164) (r : Fin 256) (q : Fin 2048) :
    (left m h c t : Vec Ideal S256x2048 .f32) (ix2 r q) = entry m c ⟨t.val, ht⟩ r q := by
  unfold left outAt entry
  dsimp only
  split
  · refine (outUsed_apply _ _ _ _ r q).trans ?_
    unfold mlp hid
    refine Finset.sum_congr rfl fun j _ => ?_
    rw [iblk4_apply m h c t ht j q]
    have eg : ∀ k : Fin 2048, _ := fun k => iblk2_apply m h c t ht k j
    have eu : ∀ k : Fin 2048, _ := fun k => iblk3_apply m h c t ht k j
    simp only [eg, eu]
    rfl
  · unfold outZero
    rw [View.canon_unit_zero hz2]
    unfold k0_pay2
    exact Ideal.ofBits_zero_f32

/-- Entry `(r, q)` of point `t`'s block, in the result array. -/
theorem emb_at (t : Fin (cf m h).N) (ht : t.val < 164) (r : Fin 256) (q : Fin 2048) :
    (((cf m h).win (5 : Fin 6)).blk t).view.emb (ix2 r q) = (ix2 (⟨t.val * 256 + r.val, by omega⟩ : Fin 41984) q : S41984x2048.Idx) := by
  have e := map6_eq t
  funext a
  apply Fin.ext
  match a with
  | ⟨0, _⟩ => show cc0_transform_6 (grid0.coords t) 0 * 256 + 1 * r.val = t.val * 256 + r.val; rw [e]; show t.val * 256 + 1 * r.val = _; omega
  | ⟨1, _⟩ => show cc0_transform_6 (grid0.coords t) 1 * 2048 + 1 * q.val = q.val; rw [e]; show 0 * 2048 + 1 * q.val = _; omega

/-- What point `t` writes back is block `t` of `G`. -/
theorem flushed_eq (c : Dev nD) (t : Fin (cf m h).N) :
    (dats m h 0 c).flushed (5 : Fin 6) t = (((cf m h).win (5 : Fin 6)).blk t).view.read (Elt Ideal) (G m c) := by
  have ht : t.val < 164 := lt_of_lt_of_eq t.isLt N_0
  show ((cf m h).win (5 : Fin 6)).cut ((cf m h).grid.coords t) ((dats m h 0 c).after (5 : Fin 6) t) = _
  rw [after5]
  funext y
  refine Eq.trans ?_ (View.read_apply _ _).symm
  obtain ⟨r, q, rfl⟩ : ∃ (r : Fin 256) (q : Fin 2048), y = ix2 r q := ⟨y 0, y 1, eq_ix2 y⟩
  rw [emb_at m h t ht r q]
  refine (left_apply m h c t ht r q).trans ?_
  show _ = entry m c _ _ _
  congr 1
  · exact Fin.ext (show t.val = (t.val * 256 + r.val) / 256 by omega)
  · exact Fin.ext (show r.val = (t.val * 256 + r.val) % 256 by omega)

/-- Every point writes its block back: the next point's block is another. -/
theorem flush5 : ∀ t : Fin (cf m h).N, ((cf m h).win (5 : Fin 6)).flush t = true :=
  fun t => (Pipeline.Window.flush_reads ((cf m h).win (5 : Fin 6)) rfl (0 : Fin grid0.rank) (by decide : 1 < grid0.bound 0)
    (by decide : grid0.fixedAfter reads0_5 0 = true) (Pipeline.Window.sep_of_coord (G := grid0) cc0_transform_6 0 0 (fun _ => rfl) (by decide)) (P := 1) (m := 0)
    (by decide : grid0.stride 0 = 1) rfl t).mpr (Nat.mod_one _)

theorem mem_of_eq {α : Type} {S : Finset α} {a b : α} (e : a = b) (hb : b ∈ S) : a ∈ S := e ▸ hb

/-- The blocks cover the result array. -/
theorem cover (i : S41984x2048.Idx) : ∃ t : Fin (cf m h).N, ((cf m h).win (5 : Fin 6)).flush t = true ∧ i ∈ (((cf m h).win (5 : Fin 6)).blk t).view.set := by
  have h0 : (i 0).val < 41984 := (i 0).isLt
  have ht : (i 0).val / 256 < 164 := by omega
  have e := emb_at m h (⟨(i 0).val / 256, ht⟩ : Fin grid0.N) ht ⟨(i 0).val % 256, Nat.mod_lt _ (by decide)⟩ (i 1)
  refine ⟨(⟨(i 0).val / 256, ht⟩ : Fin grid0.N), flush5 m h _, ?_⟩
  have hi : i = (ix2 (⟨(i 0).val / 256 * 256 + (i 0).val % 256, by omega⟩ : Fin 41984) (i 1) : S41984x2048.Idx) := by
    funext a
    apply Fin.ext
    match a with
    | ⟨0, _⟩ => show (i 0).val = (i 0).val / 256 * 256 + (i 0).val % 256; omega
    | ⟨1, _⟩ => rfl
  exact mem_of_eq (hi.trans e.symm) (View.emb_mem_set _ _)

include h in
/-- The run of the kernel: the result array ends as `G`, the arguments unchanged. -/
theorem run_value : θ_run (defs (F := Ideal)) (onTc (τ := τ) (main (F := Ideal))) ⟨m, fun _ => 0, ρ⟩ (fun r => ∀ c : Dev nD,
    r.2.mem ((c.tc : Thread nD τ).loc main_v4) = G m c
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r hr c => ⟨((hr.1 c).1 (5 : Fin 6)).trans ((dats m h 0 c).arrAt_eq_of_cover (5 : Fin 6) (G m c) (fun t _ => flushed_eq m h c t) (cover m h)),
    kept m h r hr.1 c⟩) (run_whole m ρ h)

end Cert.Experts.Whole

end
-- ==== Proof.ExpertsRef.lean ====
/-
  The experts' reference by values: the gathers pick the rows' tokens and the blocks' experts, since every word is a
  number in range, and the host's products give each used block the same sums as the kernel's.
-/
module

public import proofs.«01_k».proof.Proof.ExpertsValue
public import proofs.«01_k».proof.Proof.ExpertsPre
public import proofs.«01_k».proof.Proof.Gen.ExpertsRefIdeal.Run
public import proofs.«01_k».proof.Proof.Gen.ExpertsRefIdeal.Read
public import Idealize.ShloMosaic.Lib.Routing.Ops
public import Idealize.ShloMosaic.Lib.IdealHost

@[expose] public section

set_option maxRecDepth 16384

noncomputable section

open Idealize.ShloMosaic Idealize.ShloMosaic.TcCoe Idealize.SL.Sem Idealize.ShloMosaic.ValueIdx

namespace Cert.ExpertsRefIdeal.Blocks

open Cert.ExpertsRefIdeal Cert.ExpertsRefIdeal.Gen
open Cert.Experts.Whole (hid mlp)

/-- Slabs taken by number: where `idx` holds a slab's number `e` at `(c, 0)`, slab `c` of the result is slab `e`. -/
theorem gather_slab {α : Type} {N A B n : ℕ} (d : GatherDims (⟨3, ![N, A, B]⟩ : Shape) (⟨2, ![n, 1]⟩ : Shape) (⟨3, ![n, A, B]⟩ : Shape))
    (hoff : d.offsetDims = [1, 2]) (hcoll : d.collapsedSliceDims = [0]) (hob : d.operandBatchingDims = []) (hsim : d.startIndexMap = [0])
    (hivd : d.indexVectorDim = 1) (x : (⟨3, ![N, A, B]⟩ : Shape).Idx → α) (idx : IVec (⟨2, ![n, 1]⟩ : Shape) 32) (c : Fin n) (y : Fin A) (z : Fin B) (e : Fin N)
    (he : idx (ix2 c (0 : Fin 1)) = BitVec.ofNat 32 e.val) (hN : N < 2 ^ 31) : Host.gather d x idx (ix3 c y z) = x (ix3 e y z) := by
  obtain ⟨off, coll, ob, sib, sim, ivd, sl, wf⟩ := d
  dsimp only at hoff hcoll hob hsim hivd
  subst hoff hcoll hob hsim hivd
  unfold Host.gather
  refine congrArg x (funext fun a => Fin.ext ?_)
  match a with
  | ⟨0, _⟩ =>
    have hm : (0 : Fin 3) ∈ ([0] : List (Fin 3)) := List.mem_singleton.2 rfl
    have hsl : sl 0 = 1 := GatherDims.slice_collapsed (si := ⟨2, ![n, 1]⟩) ⟨[1, 2], [0], [], sib, [0], 1, sl, wf⟩ 0 hm
    show GatherDims.start _ (ix3 c y z) idx 0 + GatherDims.batchCoord _ (ix3 c y z) 0 + GatherDims.offCoord _ (ix3 c y z) 0 = e.val
    rw [GatherDims.batchCoord_eq_zero _ _ _ List.not_mem_nil,
      GatherDims.offCoord_eq_zero _ _ _ (fun h => ((GatherDims.mem_sKept _ _).mp h).1 hm)]
    unfold GatherDims.start
    rw [dif_pos hm]
    have hsi : GatherDims.siIdx (si := ⟨2, ![n, 1]⟩) ⟨[1, 2], [0], [], sib, [0], 1, sl, wf⟩ (ix3 c y z) ⟨List.idxOf (0 : Fin 3) [0], List.idxOf_lt_length_iff.2 hm⟩ = ix2 c (0 : Fin 1) := by
      funext b
      apply Fin.ext
      match b with
      | ⟨0, _⟩ => rfl
      | ⟨1, _⟩ => rfl
    have hbl := e.isLt
    dsimp only
    rw [hsi, he, hsl, StableHlo.Predicate.toInt_ofNat_small _ (by omega)]
    show min ((e.val : Int)).toNat (N - 1) + 0 + 0 = e.val
    omega
  | ⟨1, _⟩ =>
    show GatherDims.start _ (ix3 c y z) idx 1 + GatherDims.batchCoord _ (ix3 c y z) 1 + GatherDims.offCoord _ (ix3 c y z) 1 = y.val
    rw [GatherDims.batchCoord_eq_zero _ _ _ List.not_mem_nil]
    unfold GatherDims.start
    rw [dif_neg (by decide : (1 : Fin 3) ∉ ([0] : List (Fin 3)))]
    exact (Nat.zero_add _).trans rfl
  | ⟨2, _⟩ =>
    show GatherDims.start _ (ix3 c y z) idx 2 + GatherDims.batchCoord _ (ix3 c y z) 2 + GatherDims.offCoord _ (ix3 c y z) 2 = z.val
    rw [GatherDims.batchCoord_eq_zero _ _ _ List.not_mem_nil]
    unfold GatherDims.start
    rw [dif_neg (by decide : (2 : Fin 3) ∉ ([0] : List (Fin 3)))]
    exact (Nat.zero_add _).trans rfl

/-- A word that is a small number is not below zero, so it is taken as it is. -/
theorem select_small (x a : BitVec 32) (h : x.toNat < 2 ^ 31) : Scalar.select (IntOp.cmpi .slt x 0#32) a x = x := by
  have e : IntOp.cmpi .slt x 0#32 = 0#1 := by
    show BitVec.ofBool (x.slt 0#32) = 0#1
    have : x.slt 0#32 = false := by
      rw [BitVec.slt_eq_decide, BitVec.toInt_eq_toNat_of_lt (by omega)]
      exact decide_eq_false (by simp)
    rw [this]; rfl
  rw [e]; rfl

variable (x0 : (⟨S16896x2048, .f32⟩ : BufTy).Contents (Elt Ideal)) (x1 : (⟨S41984, .i32⟩ : BufTy).Contents (Elt Ideal))
  (x2 : (⟨S164, .i32⟩ : BufTy).Contents (Elt Ideal)) (x3 : (⟨S1, .i32⟩ : BufTy).Contents (Elt Ideal))
  (x4 x5 : (⟨S32x2048x768, .f32⟩ : BufTy).Contents (Elt Ideal)) (x6 : (⟨S32x768x2048, .f32⟩ : BufTy).Contents (Elt Ideal))

/-- The token that row `k` of block `b` names, and block `b`'s expert. -/
def rowOf (b : Fin 164) (k : Fin 256) : Fin 16896 :=
  ⟨((x1 : IVec S41984 32) (ix1 (⟨(b.val * 256 + k.val) % 41984, Nat.mod_lt _ (by decide)⟩ : Fin 41984))).toNat % 16896, Nat.mod_lt _ (by decide)⟩
def expertOf (b : Fin 164) : Fin 32 := ⟨((x2 : IVec S164 32) (ix1 b)).toNat % 32, Nat.mod_lt _ (by decide)⟩

/-- The gathered tokens. -/
theorem tokens_apply (hs : ∀ j, ((x1 : IVec S41984 32) j).toNat < 16896) (b : Fin 164) (k : Fin 256) (z : Fin 2048) :
    Read.val_main_v7 (F := Ideal) x0 x1 (ix3 b k z) = x0 (ix2 (rowOf x1 b k) z) := by
  have hb := b.isLt
  have hk := k.isLt
  have hz := z.isLt
  rw [Read.val_main_v7_apply]
  have e : Read.idx_main_v7 (ix3 b k z) = ix2 (⟨(b.val * 256 + k.val) % 41984, Nat.mod_lt _ (by decide)⟩ : Fin 41984) z := by
    funext a
    apply Fin.ext
    match a with
    | ⟨0, _⟩ => show ((b.val * 256 + k.val) * 2048 + z.val) / 2048 = (b.val * 256 + k.val) % 41984; omega
    | ⟨1, _⟩ => show ((b.val * 256 + k.val) * 2048 + z.val) % 2048 = z.val; omega
  rw [e]
  unfold Read.val_main_v6
  refine Routing.gather_row (nb := 16896) (B := 2048) (n := 41984) gather_S16896x2048_S41984x1_S41984x2048_1_0_n_n_0_1_12048 rfl rfl rfl rfl rfl x0 _ _ z (rowOf x1 b k) ?_ (by decide)
  rw [Read.val_main_v5_apply, Read.val_main_v4_apply, Read.val_main_v1_apply, Read.val_main_v0_apply, Read.val_main_c_apply]
  have hx := hs (ix1 (⟨(b.val * 256 + k.val) % 41984, Nat.mod_lt _ (by decide)⟩ : Fin 41984))
  have ei : Read.idx_main_v5 (ix2 (⟨(b.val * 256 + k.val) % 41984, Nat.mod_lt _ (by decide)⟩ : Fin 41984) (0 : Fin 1)) = ix1 (⟨(b.val * 256 + k.val) % 41984, Nat.mod_lt _ (by decide)⟩ : Fin 41984) := by
    funext a
    match a with
    | ⟨0, _⟩ => rfl
  rw [ei, select_small _ _ (lt_trans hx (by decide))]
  refine BitVec.eq_of_toNat_eq ?_
  unfold rowOf
  rw [BitVec.toNat_ofNat]
  dsimp only
  rw [Nat.mod_eq_of_lt hx, Nat.mod_eq_of_lt (lt_trans hx (by decide))]

/-- A word of a block's expert, out of the wrapping of negative numbers. -/
theorem expert_word (he : ∀ j, ((x2 : IVec S164 32) j).toNat < 32) (a : BitVec 32) (b : Fin 164) :
    Scalar.select (IntOp.cmpi .slt ((x2 : IVec S164 32) (ix1 b)) 0#32) a ((x2 : IVec S164 32) (ix1 b)) = BitVec.ofNat 32 (expertOf x2 b).val := by
  have hx := he (ix1 b)
  rw [select_small _ _ (lt_trans hx (by decide))]
  refine BitVec.eq_of_toNat_eq ?_
  unfold expertOf
  rw [BitVec.toNat_ofNat]
  dsimp only
  rw [Nat.mod_eq_of_lt hx, Nat.mod_eq_of_lt (lt_trans hx (by decide))]

/-- The gathered weights. -/
theorem gate_apply (he : ∀ j, ((x2 : IVec S164 32) j).toNat < 32) (b : Fin 164) (k : Fin 2048) (j : Fin 768) :
    Read.val_main_v14 (F := Ideal) x2 x4 (ix3 b k j) = x4 (ix3 (expertOf x2 b) k j) := by
  unfold Read.val_main_v14
  refine gather_slab (N := 32) (A := 2048) (B := 768) (n := 164) gather_S32x2048x768_S164x1_S164x2048x768_12_0_n_n_0_1_12048768 rfl rfl rfl rfl rfl x4 _ b k j (expertOf x2 b) ?_ (by decide)
  rw [Read.val_main_v13_apply, Read.val_main_v12_apply, Read.val_main_v9_apply, Read.val_main_v8_apply, Read.val_main_c_1_apply]
  have ei : Read.idx_main_v13 (ix2 b (0 : Fin 1)) = ix1 b := by
    funext a
    match a with
    | ⟨0, _⟩ => rfl
  rw [ei]
  exact expert_word x2 he _ b

theorem up_apply (he : ∀ j, ((x2 : IVec S164 32) j).toNat < 32) (b : Fin 164) (k : Fin 2048) (j : Fin 768) :
    Read.val_main_v21 (F := Ideal) x2 x5 (ix3 b k j) = x5 (ix3 (expertOf x2 b) k j) :=
  gate_apply x2 x5 he b k j

theorem down_apply (he : ∀ j, ((x2 : IVec S164 32) j).toNat < 32) (b : Fin 164) (j : Fin 768) (q : Fin 2048) :
    Read.val_main_v28 (F := Ideal) x2 x6 (ix3 b j q) = x6 (ix3 (expertOf x2 b) j q) := by
  unfold Read.val_main_v28
  refine gather_slab (N := 32) (A := 768) (B := 2048) (n := 164) gather_S32x768x2048_S164x1_S164x768x2048_12_0_n_n_0_1_17682048 rfl rfl rfl rfl rfl x6 _ b j q (expertOf x2 b) ?_ (by decide)
  rw [Read.val_main_v27_apply, Read.val_main_v26_apply, Read.val_main_v23_apply, Read.val_main_v22_apply, Read.val_main_c_5_apply]
  have ei : Read.idx_main_v27 (ix2 b (0 : Fin 1)) = ix1 b := by
    funext a
    match a with
    | ⟨0, _⟩ => rfl
  rw [ei]
  exact expert_word x2 he _ b

/-- The two products into the hidden layer. -/
theorem hid_gate (hs : ∀ j, ((x1 : IVec S41984 32) j).toNat < 16896) (he : ∀ j, ((x2 : IVec S164 32) j).toNat < 32) (b : Fin 164) (r : Fin 256) (j : Fin 768) :
    Read.val_main_v29 (F := Ideal) x0 x1 x2 x4 (ix3 b r j) = hid x0 x4 (rowOf x1 b r) (expertOf x2 b) j := by
  rw [Read.val_main_v29_apply]
  unfold hid
  refine Finset.sum_congr rfl fun k _ => ?_
  have el : Read.lidx_main_v29 (ix3 b r j) k = ix3 b r k := funext fun a => Fin.ext (by match a with | ⟨0, _⟩ => rfl | ⟨1, _⟩ => rfl | ⟨2, _⟩ => rfl)
  have er : Read.ridx_main_v29 (ix3 b r j) k = ix3 b k j := funext fun a => Fin.ext (by match a with | ⟨0, _⟩ => rfl | ⟨1, _⟩ => rfl | ⟨2, _⟩ => rfl)
  rw [el, er, tokens_apply x0 x1 hs, gate_apply x2 x4 he]

theorem hid_up (hs : ∀ j, ((x1 : IVec S41984 32) j).toNat < 16896) (he : ∀ j, ((x2 : IVec S164 32) j).toNat < 32) (b : Fin 164) (r : Fin 256) (j : Fin 768) :
    Read.val_main_v31 (F := Ideal) x0 x1 x2 x5 (ix3 b r j) = hid x0 x5 (rowOf x1 b r) (expertOf x2 b) j :=
  hid_gate x0 x1 x2 x5 hs he b r j

/-- The gate's product times its logistic, times the other product. -/
theorem gated_apply (hs : ∀ j, ((x1 : IVec S41984 32) j).toNat < 16896) (he : ∀ j, ((x2 : IVec S164 32) j).toNat < 32) (b : Fin 164) (r : Fin 256) (j : Fin 768) :
    Read.val_main_v32 (F := Ideal) x0 x1 x2 x4 x5 (ix3 b r j)
      = hid x0 x4 (rowOf x1 b r) (expertOf x2 b) j * Ideal.logistic (hid x0 x4 (rowOf x1 b r) (expertOf x2 b) j) * hid x0 x5 (rowOf x1 b r) (expertOf x2 b) j := by
  rw [Read.val_main_v32_apply, Read.val_main_v30_apply, Read.val_main_call0_v5_apply, Read.val_main_call0_v4_apply, Read.val_main_call0_cst_0_apply,
    Read.val_main_call0_v3_apply, Read.val_main_call0_v2_apply, Read.val_main_call0_cst_apply, Read.val_main_call0_v1_apply, Read.val_main_call0_v0_apply,
    hid_gate x0 x1 x2 x4 hs he, hid_up x0 x1 x2 x5 hs he]
  show _ * Ideal.div (Ideal.ofBits .f32 0x3F800000#32) (Ideal.ofBits .f32 0x3F800000#32 + Ideal.exp (- _)) * _ = _
  rw [Ideal.ofBits_one_f32]
  rfl

/-- The block before the unused ones are set to zero. -/
theorem mlp_apply (hs : ∀ j, ((x1 : IVec S41984 32) j).toNat < 16896) (he : ∀ j, ((x2 : IVec S164 32) j).toNat < 32) (b : Fin 164) (r : Fin 256) (q : Fin 2048) :
    Read.val_main_v33 (F := Ideal) x0 x1 x2 x4 x5 x6 (ix3 b r q) = mlp x0 x4 x5 x6 (rowOf x1 b r) (expertOf x2 b) q := by
  rw [Read.val_main_v33_apply]
  unfold mlp
  refine Finset.sum_congr rfl fun j _ => ?_
  have el : Read.lidx_main_v33 (ix3 b r q) j = ix3 b r j := funext fun a => Fin.ext (by match a with | ⟨0, _⟩ => rfl | ⟨1, _⟩ => rfl | ⟨2, _⟩ => rfl)
  have er : Read.ridx_main_v33 (ix3 b r q) j = ix3 b j q := funext fun a => Fin.ext (by match a with | ⟨0, _⟩ => rfl | ⟨1, _⟩ => rfl | ⟨2, _⟩ => rfl)
  rw [el, er, gated_apply x0 x1 x2 x4 x5 hs he, down_apply x2 x6 he]

/-- Whether a block is used. -/
theorem used_apply (hc : ((x3 : IVec S1 32) (ix1 (0 : Fin 1))).toNat ≤ 164) (b : Fin 164) (r : Fin 256) (q : Fin 2048) :
    Read.val_main_call1_v1 (F := Ideal) x3 (ix3 b r q) = if b.val < ((x3 : IVec S1 32) (ix1 (0 : Fin 1))).toNat then 1#1 else 0#1 := by
  have hb := b.isLt
  rw [Read.val_main_call1_v1_apply, Read.val_main_v38_apply, Read.val_main_v37_apply, Read.val_main_v34_apply, Read.val_main_v36_apply]
  have e : Read.val_main_v35 (F := Ideal) x3 (Read.idx_main_v36 (Read.idx_main_v38 (Read.idx_main_call1_v1 (ix3 b r q)))) = (x3 : IVec S1 32) (ix1 (0 : Fin 1)) :=
    shapeCast_apply (x3 : IVec S1 32) shapeCasts_S1_S_ _ _ (by
      rw [Shape.rowMajor_val_one]
      have hl := (S_.rowMajor (Read.idx_main_v36 (Read.idx_main_v38 (Read.idx_main_call1_v1 (ix3 b r q))))).isLt
      have hn : S_.numel = 1 := by decide
      show 0 = _
      omega)
  rw [e]
  show BitVec.ofBool (BitVec.slt (BitVec.ofNat 32 b.val) _) = _
  generalize (x3 : IVec S1 32) (ix1 (0 : Fin 1)) = w at hc ⊢
  have : BitVec.slt (BitVec.ofNat 32 b.val) w = decide (b.val < w.toNat) := by
    rw [BitVec.slt_eq_decide, BitVec.toInt_eq_toNat_of_lt (x := w) (by omega), BitVec.toInt_eq_toNat_of_lt (by rw [BitVec.toNat_ofNat]; omega), BitVec.toNat_ofNat,
      Nat.mod_eq_of_lt (by omega)]
    exact decide_eq_decide.mpr Int.ofNat_lt
  rw [this]
  by_cases hl : b.val < w.toNat
  · rw [if_pos hl, decide_eq_true hl]; rfl
  · rw [if_neg hl, decide_eq_false hl]; rfl

/-- The reference's result at an index. -/
theorem val_apply (hs : ∀ j, ((x1 : IVec S41984 32) j).toNat < 16896) (he : ∀ j, ((x2 : IVec S164 32) j).toNat < 32)
    (hc : ((x3 : IVec S1 32) (ix1 (0 : Fin 1))).toNat ≤ 164) (i : S41984x2048.Idx) (b : Fin 164) (r : Fin 256) (q : Fin 2048) (hb : b.val = (i 0).val / 256) (hr : r.val = (i 0).val % 256) (hq : q.val = (i 1).val) :
    Read.val_main_v40 (F := Ideal) x0 x1 x2 x3 x4 x5 x6 i
      = if b.val < ((x3 : IVec S1 32) (ix1 (0 : Fin 1))).toNat then mlp x0 x4 x5 x6 (rowOf x1 b r) (expertOf x2 b) q else 0 := by
  have h0 : (i 0).val < 41984 := (i 0).isLt
  have h1 : (i 1).val < 2048 := (i 1).isLt
  rw [Read.val_main_v40_apply]
  have e : Read.idx_main_v40 i = ix3 b r q := by
    funext a
    apply Fin.ext
    match a with
    | ⟨0, _⟩ => show ((i 0).val * 2048 + (i 1).val) / 524288 = b.val; omega
    | ⟨1, _⟩ => show ((i 0).val * 2048 + (i 1).val) / 2048 % 256 = r.val; omega
    | ⟨2, _⟩ => show ((i 0).val * 2048 + (i 1).val) % 2048 = q.val; omega
  rw [e, Read.val_main_v39_apply, used_apply x3 hc]
  split
  · exact mlp_apply x0 x1 x2 x4 x5 x6 hs he b r q
  · refine Eq.trans ?_ Ideal.ofBits_zero_f32
    rw [Read.val_main_call1_v2_apply, Read.val_main_call1_v0_apply, Read.val_main_cst_apply]
    rfl

end Cert.ExpertsRefIdeal.Blocks

end
-- ==== Proof.ExpertsClaims.lean ====
/-
  The experts' claims: the kernel's frame at routed tables, and its result against the reference's.
-/
module

public import proofs.«01_k».proof.Proof.ExpertsRef

@[expose] public section

set_option maxRecDepth 16384

noncomputable section

open Idealize.ShloMosaic Idealize.ShloMosaic.TcCoe Idealize.SL.Sem Idealize.ShloMosaic.ValueIdx

namespace Cert.Proof.Experts

open Cert.Experts.Whole

/-- The kernel runs at routed tables, and leaves its arguments as they were. -/
theorem frame : Cert.quiescent_Experts := fun m ρ hp => Cert.Experts.Whole.frame m ρ (fits_of_routed m hp)

theorem frame_ideal : Cert.quiescent_ExpertsIdeal := fun m ρ hp =>
  run_same Ideal _ _ (Cert.Experts.Whole.frame (F := Ideal) m ρ (fits_of_routed m hp))

/-- The reference runs and leaves its arguments as they were. -/
theorem frame_ref : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

theorem frame_ref_pre : Cert.quiescent_ExpertsRefIdeal_pre_routed := fun m ρ _ => frame_ref m ρ trivial

/-- The kernel's blocks are the reference's. -/
theorem same (m : (ℓ : Loc Cert.Experts.nD Cert.Experts.τ Cert.Experts.sig) → Buf (Elt Ideal) ℓ) (h : Fits m) (c : Dev Cert.Experts.nD) :
    Cert.ExpertsRefIdeal.Read.val_main_v40 (F := Ideal) (m ((c : Thread Cert.Experts.nD Cert.Experts.τ).loc Cert.Experts.main_arg0)) (m ((c : Thread Cert.Experts.nD Cert.Experts.τ).loc Cert.Experts.main_arg1))
      (m ((c : Thread Cert.Experts.nD Cert.Experts.τ).loc Cert.Experts.main_arg2)) (m ((c : Thread Cert.Experts.nD Cert.Experts.τ).loc Cert.Experts.main_arg3))
      (m ((c : Thread Cert.Experts.nD Cert.Experts.τ).loc Cert.Experts.main_arg4)) (m ((c : Thread Cert.Experts.nD Cert.Experts.τ).loc Cert.Experts.main_arg5))
      (m ((c : Thread Cert.Experts.nD Cert.Experts.τ).loc Cert.Experts.main_arg6)) = G m c := by
  obtain rfl : c = 0 := Subsingleton.elim _ _
  funext i
  exact Cert.ExpertsRefIdeal.Blocks.val_apply _ _ _ _ _ _ _ (h.slot 0) (h.expert 0) (h.count 0 _).2 i
    ⟨(i 0).val / 256, Nat.div_lt_of_lt_mul (i 0).isLt⟩ ⟨(i 0).val % 256, Nat.mod_lt _ (by decide)⟩ (i 1) rfl rfl rfl

/-- The kernel and the reference compute the same blocks. -/
theorem algebraic : Cert.algebraic_ExpertsIdeal_ExpertsRefIdeal := fun m ρ m' ρ' hp hag =>
  ⟨fun c => G m c, run_same Ideal _ _ (run_value m ρ (fits_of_routed m hp)),
    (θ_run Cert.ExpertsRefIdeal.defs _ _).mono (fun _ h c => ⟨by
        obtain ⟨e0, e1, e2, e3, e4, e5, e6⟩ := hag c
        rw [(h c).1, Cert.ExpertsRefIdeal.Read.val_main_v40_eq, e0, e1, e2, e3, e4, e5, e6]
        exact same m (fits_of_routed m hp) c, (h c).2⟩)
      (Cert.ExpertsRefIdeal.Value.run (F := Ideal) m' ρ')⟩

end Cert.Proof.Experts

end
-- ==== Proof.NormModulated.lean ====
/-
  The modulated norm at one token: a row divided by the root of its mean square, times the norm's gains, times one plus
  the scale of the token's stream, plus that stream's shift. Stated once for the norm before the mixers and the one before the experts.
-/
module

public import proofs.«01_k».proof.Proof.MatBlock

@[expose] public section

noncomputable section

namespace Cert.NormModulated

open Idealize.ShloMosaic Idealize.ShloMosaic.ValueIdx
open Cert.MatBlock

/-- One over the root of row `R`'s mean square, with the small constant added under the root. -/
def rowScale {M : Nat} (h : (⟨2, ![M, 2048]⟩ : Shape).Idx → EReal) (R : Fin M) : EReal :=
  Ideal.rsqrt (Ideal.div (∑ k : Fin 2048, h (ix2 R k) * h (ix2 R k)) (Ideal.ofBits .f32 0x45000000#32)
    + Ideal.ofBits .f32 0x358637BD#32)

/-- The modulated norm at a token and a column; `shift` and `scale` are the rows of the token's modulation table. -/
def modulatedAt (h : (⟨2, ![16896, 2048]⟩ : Shape).Idx → EReal) (g : (⟨1, ![2048]⟩ : Shape).Idx → EReal)
    (modt : (⟨3, ![8, 8, 2048]⟩ : Shape).Idx → EReal) (shift scale : Fin 8) (R : Fin 16896) (q : Fin 2048) : EReal :=
  h (ix2 R q) * rowScale h R * g (ix1 q) * (Ideal.ofBits .f32 0x3F800000#32 + modt (ix3 (stream R) scale q))
    + modt (ix3 (stream R) shift q)

/-- A block's sum of squares along its rows, read at a row. -/
theorem sumSq_apply {W : Nat} (x : FVec Ideal ⟨2, ![256, W]⟩ .f32) (h : (⟨2, ![256, W]⟩ : Shape).Reduces [1] ⟨1, ![256]⟩)
    (hφ : FKind.Formats .f32) (hacc : (0x00000000#32 : BitVec 32) = FKind.add.neutral .f32 hφ) (r : Fin 256) :
    multiReduction .add [1] ⟨1, ![256]⟩ (mulf x x) 0x00000000#32 h hφ hacc (ix1 r)
      = ∑ k : Fin W, x (ix2 r k) * x (ix2 r k) := by
  refine (Ideal.multiReduction_add_single (mulf x x) _ h hφ hacc (ix1 r)).trans ?_
  refine Finset.sum_congr rfl fun k _ => ?_
  have e : h.lift (ix1 r) k = ix2 r k := funext fun a => Fin.ext (by
    match a with
    | ⟨0, _⟩ => rfl
    | ⟨1, _⟩ => rfl)
  rw [e]
  rfl

/-- Two arrays that hold the same row have the same scale for it. -/
theorem rowScale_congr {M N : Nat} (x : (⟨2, ![M, 2048]⟩ : Shape).Idx → EReal) (y : (⟨2, ![N, 2048]⟩ : Shape).Idx → EReal)
    (r : Fin M) (R : Fin N) (h : ∀ k, x (ix2 r k) = y (ix2 R k)) : rowScale x r = rowScale y R := by
  unfold rowScale
  simp only [h]

end Cert.NormModulated

end
-- ==== Proof.NormMixValue.lean ====
/-
  The modulated norm before the mixers: the kernel's result array is `modulatedAt` with rows 0 and 1 of the modulation
  table, and the host's expression is the same.
-/
module

public import proofs.«01_k».proof.Defs
public import proofs.«01_k».proof.Proof.NormModulated
public import proofs.«01_k».proof.Proof.Gen.NormMixIdeal.Value
public import proofs.«01_k».proof.Proof.Gen.NormMixRefIdeal.Run
public import proofs.«01_k».proof.Proof.Gen.NormMixRefIdeal.Read

@[expose] public section

set_option maxRecDepth 16384

noncomputable section

open Idealize.ShloMosaic Idealize.ShloMosaic.TcCoe Idealize.SL.Sem Idealize.ShloMosaic.ValueIdx
open Cert.MatBlock Cert.NormModulated

namespace Cert.NormMixIdeal.Modulated

open Cert.NormMixIdeal Cert.NormMixIdeal.Gen

variable (m : (ℓ : Loc nD τ sig) → Buf (Elt Ideal) ℓ) (ρ : Dev nD → PrngReg)

/-- The modulated norm at every index: what the result is shown to hold. -/
def G (c : Dev nD) : Buf (Elt Ideal) ((c : Thread nD τ).loc main_v1) := fun i : S16896x2048.Idx =>
  modulatedAt (m ((c : Thread nD τ).loc main_arg0)) (m ((c : Thread nD τ).loc main_arg1)) (m ((c : Thread nD τ).loc main_arg2))
    0 1 (i 0) (i 1)

/-- Where the windows stand at grid point `t`: row tile `t`, and the table of that tile's stream. -/
theorem idx_facts : ∀ t : Fin cfg0.N, (win0_0.index t 0 = t.val ∧ win0_0.index t 1 = 0)
    ∧ (win0_1.index t 0 = 0 ∧ win0_1.index t 1 = 0)
    ∧ (win0_2.index t 0 = tileStream t.val ∧ win0_2.index t 1 = 0 ∧ win0_2.index t 2 = 0)
    ∧ (win0_3.index t 0 = t.val ∧ win0_3.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = tileStream t.val ∧ win0_2.index t 1 = 0 ∧ win0_2.index t 2 = 0)
    ∧ (win0_3.index t 0 = t.val ∧ win0_3.index t 1 = 0))

/-- The row block the body reads at `t`. -/
theorem iblk0_apply (c : Dev nD) (t : Fin cfg0.N) (r : Fin 256) (k : Fin 2048) (R : Fin 16896)
    (hR : R.val = t.val * 256 + r.val) :
    (iblk m c 0 t : Vec Ideal S256x2048 .f32) (ix2 r k) = m ((c : Thread nD τ).loc main_arg0) (ix2 R k) := by
  obtain ⟨⟨h0, h1⟩, _⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = R.val; rw [h0, hR]; omega
  | ⟨1, _⟩ => show win0_0.index t 1 * 2048 + 1 * k.val = k.val; rw [h1]; omega

/-- The gains the body reads: the whole vector, as a row. -/
theorem iblk1_apply (c : Dev nD) (t : Fin cfg0.N) (q : Fin 2048) :
    (iblk m c 1 t : Vec Ideal S1x2048 .f32) (ix2 0 q) = m ((c : Thread nD τ).loc main_arg1) (ix1 q) := by
  obtain ⟨_, ⟨h0, h1⟩, _⟩ := idx_facts t
  have hv : V m c main_v0 = (shapeCast S1x2048 (m ((c : Thread nD τ).loc main_arg1)) shapeCasts_S2048_S1x2048 : FVec Ideal S1x2048 .f32) := by
    unfold V; after_results
    rfl
  unfold iblk
  rw [View.read_apply]
  show V m c main_v0 _ = _
  have e : ((cfg0.win 1).blk t).view.emb (ix2 0 q) = (ix2 (0 : Fin 1) q : S1x2048.Idx) := by
    funext a
    apply Fin.ext
    match a with
    | ⟨0, _⟩ => show win0_1.index t 0 * 1 + 1 * 0 = 0; rw [h0]
    | ⟨1, _⟩ => show win0_1.index t 1 * 2048 + 1 * q.val = q.val; rw [h1]; omega
  rw [hv]
  refine (congrArg (shapeCast S1x2048 (m ((c : Thread nD τ).loc main_arg1)) shapeCasts_S2048_S1x2048 : FVec Ideal S1x2048 .f32) e).trans ?_
  exact shapeCast_apply (s := S2048) (t := S1x2048) _ shapeCasts_S2048_S1x2048 (ix2 (0 : Fin 1) q) (ix1 q) (by
    rw [Shape.rowMajor_val_two, Shape.rowMajor_val_one]; show q.val = 0 * 2048 + q.val; omega)

/-- The shift the body reads at `t`: row 0 of the table of the tile's stream. -/
theorem shift_apply (c : Dev nD) (t : Fin cfg0.N) (q : Fin 2048) (s : Fin 8) (hs : s.val = tileStream t.val) :
    (View.ld (iblk m c 2 t : Vec Ideal S1x8x2048 .f32) r0_2 : Vec Ideal S1x1x2048 .f32) (ix3 0 0 q)
      = m ((c : Thread nD τ).loc main_arg2) (ix3 s 0 q) := by
  obtain ⟨_, _, ⟨h0, h1, h2⟩, _⟩ := idx_facts t
  unfold iblk View.ld
  rw [View.read_apply]
  show V m c main_arg2 _ = _
  rw [V_main_arg2]
  congr 1
  funext a
  apply Fin.ext
  match a with
  | ⟨0, _⟩ => show win0_2.index t 0 * 1 + 1 * (0 + 1 * 0) = s.val; rw [h0, hs]; omega
  | ⟨1, _⟩ => show win0_2.index t 1 * 8 + 1 * (0 + 1 * 0) = 0; rw [h1]
  | ⟨2, _⟩ => show win0_2.index t 2 * 2048 + 1 * (0 + 1 * q.val) = q.val; rw [h2]; omega

/-- The scale the body reads at `t`: row 1 of the same table. -/
theorem scale_apply (c : Dev nD) (t : Fin cfg0.N) (q : Fin 2048) (s : Fin 8) (hs : s.val = tileStream t.val) :
    (View.ld (iblk m c 2 t : Vec Ideal S1x8x2048 .f32) r0_3 : Vec Ideal S1x1x2048 .f32) (ix3 0 0 q)
      = m ((c : Thread nD τ).loc main_arg2) (ix3 s 1 q) := by
  obtain ⟨_, _, ⟨h0, h1, h2⟩, _⟩ := idx_facts t
  unfold iblk View.ld
  rw [View.read_apply]
  show V m c main_arg2 _ = _
  rw [V_main_arg2]
  congr 1
  funext a
  apply Fin.ext
  match a with
  | ⟨0, _⟩ => show win0_2.index t 0 * 1 + 1 * (0 + 1 * 0) = s.val; rw [h0, hs]; omega
  | ⟨1, _⟩ => show win0_2.index t 1 * 8 + 1 * (1 + 1 * 0) = 1; rw [h1]
  | ⟨2, _⟩ => show win0_2.index t 2 * 2048 + 1 * (0 + 1 * q.val) = q.val; rw [h2]; omega

/-- What the body leaves, of its loads, at an index. -/
theorem E3_apply (x : Vec Ideal S256x2048 .f32) (g : Vec Ideal S1x2048 .f32) (sc sh : Vec Ideal S1x1x2048 .f32)
    (r : Fin 256) (q : Fin 2048) :
    Value.E3 (F := Ideal) x g sc sh (ix2 r q)
      = x (ix2 r q) * rowScale x r * g (ix2 0 q) * (Ideal.ofBits .f32 0x3F800000#32 + sc (ix3 0 0 q)) + sh (ix3 0 0 q) := by
  have e0 : Value.ix3_0 (ix2 r q) = ix2 r q := funext fun a => Fin.ext (by match a with | ⟨0, _⟩ => rfl | ⟨1, _⟩ => rfl)
  have e1 : Value.ix3_1 (ix2 r q) = ix1 r := funext fun a => Fin.ext (by match a with | ⟨0, _⟩ => rfl)
  have e2 : Value.ix3_2 (ix2 r q) = ix2 0 q := funext fun a => Fin.ext (by match a with | ⟨0, _⟩ => rfl | ⟨1, _⟩ => rfl)
  have e3 : Value.ix3_3 (ix2 r q) = ix3 0 0 q := funext fun a => Fin.ext (by
    match a with | ⟨0, _⟩ => rfl | ⟨1, _⟩ => rfl | ⟨2, _⟩ => rfl)
  have e4 : Value.ix3_4 (ix2 r q) = ix3 0 0 q := funext fun a => Fin.ext (by
    match a with | ⟨0, _⟩ => rfl | ⟨1, _⟩ => rfl | ⟨2, _⟩ => rfl)
  unfold Value.E3
  rw [e0, e1, e2, e3, e4]
  exact congrArg (fun z : EReal => x (ix2 r q) * Ideal.rsqrt (Ideal.div z (Ideal.ofBits .f32 0x45000000#32)
      + Ideal.ofBits .f32 0x358637BD#32) * g (ix2 0 q) * (Ideal.ofBits .f32 0x3F800000#32 + sc (ix3 0 0 q)) + sh (ix3 0 0 q))
    (sumSq_apply x reduces_S256x2048_S256 (.inl rfl) rfl r)

/-- What point `t` writes back is block `t` of the modulated norm. -/
theorem flushed_eq (c : Dev nD) (t : Fin cfg0.N) :
    (dats m 0 c).flushed 3 t = ((cfg0.win 3).blk t).view.read (Elt Ideal) (G m c) := by
  have hN : cfg0.N = 66 := N_0
  have ht := t.isLt
  obtain ⟨_, _, _, h0, h1⟩ := idx_facts t
  rw [Value.flushed3]
  unfold out0_3
  rw [View.ld_unit_zero hz2, View.ld_unit_zero hz2]
  funext j
  rw [View.read_apply]
  obtain ⟨r, q, rfl⟩ : ∃ (r : Fin 256) (q : Fin 2048), j = ix2 r q := ⟨j 0, j 1, eq_ix2 j⟩
  have e : ((cfg0.win 3).blk t).view.emb (ix2 r q) = ix2 (⟨t.val * 256 + r.val, by omega⟩ : Fin 16896) q := by
    funext a
    apply Fin.ext
    match a with
    | ⟨0, _⟩ => show win0_3.index t 0 * 256 + 1 * r.val = t.val * 256 + r.val; rw [h0]; omega
    | ⟨1, _⟩ => show win0_3.index t 1 * 2048 + 1 * q.val = q.val; rw [h1]; omega
  rw [e]
  refine (Value.canon3_eq (F := Ideal) (iblk m c 0 t) (iblk m c 1 t) (View.ld (iblk m c 2 t) r0_3) (View.ld (iblk m c 2 t) r0_2) (ix2 r q)).trans ?_
  rw [E3_apply]
  have hs := stream_tile t.val (by omega) r ⟨t.val * 256 + r.val, by omega⟩ rfl
  rw [shift_apply m c t q _ hs, scale_apply m c t q _ hs, iblk1_apply m c t q,
    iblk0_apply m c t r q ⟨t.val * 256 + r.val, by omega⟩ rfl,
    rowScale_congr _ (m ((c : Thread nD τ).loc main_arg0)) r ⟨t.val * 256 + r.val, by omega⟩
      (fun k => iblk0_apply m c t r k ⟨t.val * 256 + r.val, by omega⟩ rfl)]
  rfl

/-- An index of the result array is in point `t`'s block exactly when its row is in tile `t`. -/
theorem mem_blk (t : Fin cfg0.N) (i : S16896x2048.Idx) :
    i ∈ ((cfg0.win 3).blk t).view.set ↔ t.val * 256 ≤ (i 0 : Nat) ∧ (i 0 : Nat) < t.val * 256 + 256 := by
  obtain ⟨_, _, _, h0, h1⟩ := idx_facts t
  have hi : (i 1 : Nat) < 2048 := (i 1).isLt
  show i ∈ ((View.whole main_v1).slice (win0_3.rect t)).set ↔ _
  rw [View.set_slice_whole, Rect.mem_set_unit]
  constructor
  · intro h
    have a0 : win0_3.index t 0 * 256 ≤ (i 0 : Nat) ∧ (i 0 : Nat) < win0_3.index t 0 * 256 + 256 := h 0
    rw [h0] at a0
    exact a0
  · intro h a
    match a with
    | ⟨0, _⟩ => show win0_3.index t 0 * 256 ≤ (i 0 : Nat) ∧ (i 0 : Nat) < win0_3.index t 0 * 256 + 256; rw [h0]; exact h
    | ⟨1, _⟩ =>
      show win0_3.index t 1 * 2048 ≤ (i 1 : Nat) ∧ (i 1 : Nat) < win0_3.index t 1 * 2048 + 2048
      rw [h1, Nat.zero_mul, Nat.zero_add]; exact ⟨Nat.zero_le _, hi⟩

/-- The tiles cover the result array. -/
theorem cover (i : S16896x2048.Idx) : ∃ t : Fin cfg0.N, (cfg0.win 3).flush t = true ∧ i ∈ ((cfg0.win 3).blk t).view.set := by
  have hN : cfg0.N = 66 := N_0
  have h0 : (i 0 : Nat) < 16896 := (i 0).isLt
  refine ⟨⟨(i 0 : Nat) / 256, by omega⟩, flush0_3 _, ?_⟩
  rw [mem_blk]
  dsimp only
  omega

/-- The run of the kernel: the result array ends as the modulated norm, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 (G m c) (fun t _ => flushed_eq m c t) cover),
    (h c).2⟩) (Value.run_blocks m ρ)

end Cert.NormMixIdeal.Modulated

namespace Cert.NormMixRefIdeal.Modulated

open Cert.NormMixRefIdeal Cert.NormMixRefIdeal.Gen

variable (x0 : (⟨S16896x2048, .f32⟩ : BufTy).Contents (Elt Ideal)) (x1 : (⟨S2048, .f32⟩ : BufTy).Contents (Elt Ideal))
  (x2 : (⟨S8x8x2048, .f32⟩ : BufTy).Contents (Elt Ideal))

/-- Token `n` of batch `b` in the flat order of rows. -/
abbrev row (b : Fin 2) (n : Fin 8448) : Fin 16896 := ⟨b.val * 8448 + n.val, by omega⟩

/-- The tokens, reshaped to batches, at a token and a column. -/
theorem tok_apply (b : Fin 2) (n : Fin 8448) (q : Fin 2048) :
    Read.val_main_v0 (F := Ideal) x0 (ix3 b n q) = x0 (ix2 (row b n) q) := by
  rw [Read.val_main_v0_apply]
  congr 1
  exact funext fun a => Fin.ext (by
    match a with
    | ⟨0, _⟩ => show ((b.val * 8448 + n.val) * 2048 + q.val) / 2048 = b.val * 8448 + n.val; omega
    | ⟨1, _⟩ => show ((b.val * 8448 + n.val) * 2048 + q.val) % 2048 = q.val; omega)

/-- The context tokens … -/
theorem ctx_apply (b : Fin 2) (n : Fin 256) (q : Fin 2048) :
    Read.val_main_v13 (F := Ideal) x0 (ix3 b n q) = x0 (ix2 (row b ⟨n.val, by omega⟩) q) := by
  rw [Read.val_main_v13_apply, ← tok_apply x0]
  congr 1
  exact funext fun a => Fin.ext (by match a with | ⟨0, _⟩ => rfl | ⟨1, _⟩ => rfl | ⟨2, _⟩ => rfl)

/-- … and the latent tokens. -/
theorem lat_apply (b : Fin 2) (n : Fin 8192) (q : Fin 2048) :
    Read.val_main_v33 (F := Ideal) x0 (ix3 b n q) = x0 (ix2 (row b ⟨256 + n.val, by omega⟩) q) := by
  rw [Read.val_main_v33_apply, ← tok_apply x0]
  congr 1
  exact funext fun a => Fin.ext (by match a with | ⟨0, _⟩ => rfl | ⟨1, _⟩ => rfl | ⟨2, _⟩ => rfl)

/-- The scale of a context token's row … -/
theorem ctx_scale (b : Fin 2) (n : Fin 256) (q : Fin 2048) :
    Read.val_main_v22 (F := Ideal) x0 (ix3 b n q) = rowScale x0 (row b ⟨n.val, by omega⟩) := by
  rw [Read.val_main_v22_apply, Read.val_main_v21_apply, Read.val_main_v20_apply, Read.val_main_v18_apply, Read.val_main_v16_apply,
    Read.val_main_v15_apply, Read.val_main_v17_apply, Read.val_main_v19_apply, Read.val_main_cst_apply, Read.val_main_cst_0_apply,
    Read.val_main_cst_1_apply]
  unfold rowScale
  have e : ∀ k : Fin 2048, Read.val_main_v14 (F := Ideal) x0 (Read.idx_main_v15 (Read.idx_main_v16 (Read.idx_main_v22 (ix3 b n q))) k)
      = x0 (ix2 (row b ⟨n.val, by omega⟩) k) * x0 (ix2 (row b ⟨n.val, by omega⟩) k) := fun k => by
    rw [Read.val_main_v14_apply]
    have ei : Read.idx_main_v15 (Read.idx_main_v16 (Read.idx_main_v22 (ix3 b n q))) k = ix3 b n k := funext fun a => Fin.ext (by
      match a with | ⟨0, _⟩ => rfl | ⟨1, _⟩ => rfl | ⟨2, _⟩ => rfl)
    rw [ei, ctx_apply]
    rfl
  simp only [e, Ideal.ofBits_def, Ideal.ofBits_zero_f32, zero_add]
  rfl

/-- … and of a latent token's. -/
theorem lat_scale (b : Fin 2) (n : Fin 8192) (q : Fin 2048) :
    Read.val_main_v42 (F := Ideal) x0 (ix3 b n q) = rowScale x0 (row b ⟨256 + n.val, by omega⟩) := by
  rw [Read.val_main_v42_apply, Read.val_main_v41_apply, Read.val_main_v40_apply, Read.val_main_v38_apply, Read.val_main_v36_apply,
    Read.val_main_v35_apply, Read.val_main_v37_apply, Read.val_main_v39_apply, Read.val_main_cst_3_apply, Read.val_main_cst_4_apply,
    Read.val_main_cst_5_apply]
  unfold rowScale
  have e : ∀ k : Fin 2048, Read.val_main_v34 (F := Ideal) x0 (Read.idx_main_v35 (Read.idx_main_v36 (Read.idx_main_v42 (ix3 b n q))) k)
      = x0 (ix2 (row b ⟨256 + n.val, by omega⟩) k) * x0 (ix2 (row b ⟨256 + n.val, by omega⟩) k) := fun k => by
    rw [Read.val_main_v34_apply]
    have ei : Read.idx_main_v35 (Read.idx_main_v36 (Read.idx_main_v42 (ix3 b n q))) k = ix3 b n k := funext fun a => Fin.ext (by
      match a with | ⟨0, _⟩ => rfl | ⟨1, _⟩ => rfl | ⟨2, _⟩ => rfl)
    rw [ei, lat_apply]
    rfl
  simp only [e, Ideal.ofBits_def, Ideal.ofBits_zero_f32, zero_add]
  rfl

/-- The norm's gains, at a context token … -/
theorem ctx_gain (b : Fin 2) (n : Fin 256) (q : Fin 2048) : Read.val_main_v25 (F := Ideal) x1 (ix3 b n q) = x1 (ix1 q) := by
  rw [Read.val_main_v25_apply, Read.val_main_v24_apply]
  congr 1
  exact funext fun a => Fin.ext (by match a with | ⟨0, _⟩ => rfl)

/-- … and at a latent token. -/
theorem lat_gain (b : Fin 2) (n : Fin 8192) (q : Fin 2048) : Read.val_main_v45 (F := Ideal) x1 (ix3 b n q) = x1 (ix1 q) := by
  rw [Read.val_main_v45_apply, Read.val_main_v44_apply]
  congr 1
  exact funext fun a => Fin.ext (by match a with | ⟨0, _⟩ => rfl)

/-- One plus the scale, and the shift, of the context tokens: rows 1 and 0 of table 2 … -/
theorem ctx_mod (b : Fin 2) (n : Fin 256) (q : Fin 2048) :
    Read.val_main_v29 (F := Ideal) x2 (ix3 b n q) = Ideal.ofBits .f32 0x3F800000#32 + x2 (ix3 2 1 q)
      ∧ Read.val_main_v31 (F := Ideal) x2 (ix3 b n q) = x2 (ix3 2 0 q) := by
  constructor
  · rw [Read.val_main_v29_apply, Read.val_main_v28_apply, Read.val_main_v27_apply, Read.val_main_cst_2_apply,
      Read.val_main_v12_apply, Read.val_main_v11_apply, Read.val_main_v10_apply]
    refine congrArg (fun z : EReal => Ideal.ofBits .f32 0x3F800000#32 + z) (congrArg x2 (funext fun a => Fin.ext ?_))
    match a with
    | ⟨0, _⟩ => rfl
    | ⟨1, _⟩ => rfl
    | ⟨2, _⟩ => show q.val % 2048 = q.val; omega
  · rw [Read.val_main_v31_apply, Read.val_main_v9_apply, Read.val_main_v8_apply, Read.val_main_v7_apply]
    refine congrArg x2 (funext fun a => Fin.ext ?_)
    match a with
    | ⟨0, _⟩ => rfl
    | ⟨1, _⟩ => rfl
    | ⟨2, _⟩ => show q.val % 2048 = q.val; omega

/-- … and of the latent tokens: the same rows of their batch's table. -/
theorem lat_mod (b : Fin 2) (n : Fin 8192) (q : Fin 2048) :
    Read.val_main_v49 (F := Ideal) x2 (ix3 b n q) = Ideal.ofBits .f32 0x3F800000#32 + x2 (ix3 (⟨b.val, by omega⟩ : Fin 8) 1 q)
      ∧ Read.val_main_v51 (F := Ideal) x2 (ix3 b n q) = x2 (ix3 (⟨b.val, by omega⟩ : Fin 8) 0 q) := by
  constructor
  · rw [Read.val_main_v49_apply, Read.val_main_v48_apply, Read.val_main_v47_apply, Read.val_main_cst_6_apply,
      Read.val_main_v6_apply, Read.val_main_v5_apply, Read.val_main_v4_apply]
    refine congrArg (fun z : EReal => Ideal.ofBits .f32 0x3F800000#32 + z) (congrArg x2 (funext fun a => Fin.ext ?_))
    match a with
    | ⟨0, _⟩ => show (b.val * 2048 + q.val) / 2048 = b.val; omega
    | ⟨1, _⟩ => rfl
    | ⟨2, _⟩ => show (b.val * 2048 + q.val) % 2048 = q.val; omega
  · rw [Read.val_main_v51_apply, Read.val_main_v3_apply, Read.val_main_v2_apply, Read.val_main_v1_apply]
    refine congrArg x2 (funext fun a => Fin.ext ?_)
    match a with
    | ⟨0, _⟩ => show (b.val * 2048 + q.val) / 2048 = b.val; omega
    | ⟨1, _⟩ => rfl
    | ⟨2, _⟩ => show (b.val * 2048 + q.val) % 2048 = q.val; omega

/-- The host's result at a row and a column is the modulated norm. -/
theorem val_apply (i : S16896x2048.Idx) :
    Read.val_main_v54 (F := Ideal) x0 x1 x2 i = modulatedAt x0 x1 x2 0 1 (i 0) (i 1) := by
  obtain ⟨R, q, rfl⟩ : ∃ (R : Fin 16896) (q : Fin 2048), i = ix2 R q := ⟨i 0, i 1, eq_ix2 i⟩
  obtain ⟨b, n, rfl⟩ : ∃ (b : Fin 2) (n : Fin 8448), R = row b n :=
    ⟨⟨R.val / 8448, by omega⟩, ⟨R.val % 8448, by omega⟩, Fin.ext (by show R.val = R.val / 8448 * 8448 + R.val % 8448; omega)⟩
  show _ = modulatedAt x0 x1 x2 0 1 (row b n) q
  have ei : Read.idx_main_v54 (ix2 (row b n) q) = ix3 b n q := funext fun a => Fin.ext (by
    match a with
    | ⟨0, _⟩ => show ((b.val * 8448 + n.val) * 2048 + q.val) / 17301504 = b.val; omega
    | ⟨1, _⟩ => show ((b.val * 8448 + n.val) * 2048 + q.val) / 2048 % 8448 = n.val; omega
    | ⟨2, _⟩ => show ((b.val * 8448 + n.val) * 2048 + q.val) % 2048 = q.val; omega)
  rw [Read.val_main_v54_apply, ei]
  unfold Read.val_main_v53 modulatedAt
  by_cases hn : n.val < 256
  · have es : stream (row b n) = 2 := stream_ctx b n hn
    refine (concatenate_pair_apply_left (t := S2x8448x2048) (s₁ := S2x256x2048) (s₂ := S2x8192x2048) 1 _ _
      concatenates_S2x256x2048_S2x8192x2048_S2x8448x2048_d1 (ix3 b n q) rfl (ix3 b (⟨n.val, hn⟩ : Fin 256) q) (fun a => by
      match a with | ⟨0, _⟩ => rfl | ⟨1, _⟩ => rfl | ⟨2, _⟩ => rfl)).trans ?_
    rw [Read.val_main_v32_apply, Read.val_main_v30_apply, Read.val_main_v26_apply, Read.val_main_v23_apply, ctx_apply, ctx_scale,
      ctx_gain, (ctx_mod x2 b _ q).1, (ctx_mod x2 b _ q).2, es]
    rfl
  · have es : stream (row b n) = ⟨b.val, by omega⟩ := stream_lat b n hn
    refine (concatenate_pair_apply_right (t := S2x8448x2048) (s₁ := S2x256x2048) (s₂ := S2x8192x2048) 1 _ _
      concatenates_S2x256x2048_S2x8192x2048_S2x8448x2048_d1 (ix3 b n q) rfl rfl (ix3 b (⟨n.val - 256, by omega⟩ : Fin 8192) q)
      (fun a h => by match a with | ⟨0, _⟩ => rfl | ⟨1, _⟩ => exact absurd rfl h | ⟨2, _⟩ => rfl)
      (by show n.val - 256 + 256 = n.val; omega)).trans ?_
    have er : row b (⟨256 + (n.val - 256), by omega⟩ : Fin 8448) = row b n := Fin.ext (by
      show b.val * 8448 + (256 + (n.val - 256)) = b.val * 8448 + n.val; omega)
    rw [Read.val_main_v52_apply, Read.val_main_v50_apply, Read.val_main_v46_apply, Read.val_main_v43_apply, lat_apply, lat_scale,
      lat_gain, (lat_mod x2 b _ q).1, (lat_mod x2 b _ q).2, es, er]
    rfl

end Cert.NormMixRefIdeal.Modulated

namespace Cert.Proof.NormMix

/-- The reference runs and leaves its arguments as they were. -/
theorem frame_ref : Cert.quiescent_NormMixRefIdeal := fun m ρ _ =>
  (θ_run Cert.NormMixRefIdeal.defs _ _).mono (fun r h => ⟨fun c => (h c).2,
      Idealize.ShloMosaic.sem_eq_zero_of_no_sems (by decide) r.2⟩)
    (Cert.NormMixRefIdeal.Value.run (F := Ideal) m ρ)

/-- The kernel and the reference compute the same modulated norm. -/
theorem algebraic : Cert.algebraic_NormMixIdeal_NormMixRefIdeal := fun m ρ m' ρ' _ hag =>
  ⟨fun c => Cert.NormMixIdeal.Modulated.G m c, Cert.NormMixIdeal.Modulated.run m ρ,
    (θ_run Cert.NormMixRefIdeal.defs _ _).mono (fun _ h c => ⟨by
        rw [(h c).1, Cert.NormMixRefIdeal.Read.val_main_v55_eq, (hag c).1, (hag c).2.1, (hag c).2.2]
        exact funext fun i => Cert.NormMixRefIdeal.Modulated.val_apply _ _ _ i, (h c).2⟩)
      (Cert.NormMixRefIdeal.Value.run (F := Ideal) m' ρ')⟩

end Cert.Proof.NormMix

end
-- ==== Proof.NormFfnValue.lean ====
/-
  The modulated norm before the experts: the kernel's result array is `modulatedAt` with rows 3 and 4 of the modulation
  table, and the host's expression is the same.
-/
module

public import proofs.«01_k».proof.Defs
public import proofs.«01_k».proof.Proof.NormModulated
public import proofs.«01_k».proof.Proof.Gen.NormFfnIdeal.Value
public import proofs.«01_k».proof.Proof.Gen.NormFfnRefIdeal.Run
public import proofs.«01_k».proof.Proof.Gen.NormFfnRefIdeal.Read

@[expose] public section

set_option maxRecDepth 16384

noncomputable section

open Idealize.ShloMosaic Idealize.ShloMosaic.TcCoe Idealize.SL.Sem Idealize.ShloMosaic.ValueIdx
open Cert.MatBlock Cert.NormModulated

namespace Cert.NormFfnIdeal.Modulated

open Cert.NormFfnIdeal Cert.NormFfnIdeal.Gen

variable (m : (ℓ : Loc nD τ sig) → Buf (Elt Ideal) ℓ) (ρ : Dev nD → PrngReg)

/-- The modulated norm at every index: what the result is shown to hold. -/
def G (c : Dev nD) : Buf (Elt Ideal) ((c : Thread nD τ).loc main_v1) := fun i : S16896x2048.Idx =>
  modulatedAt (m ((c : Thread nD τ).loc main_arg0)) (m ((c : Thread nD τ).loc main_arg1)) (m ((c : Thread nD τ).loc main_arg2))
    3 4 (i 0) (i 1)

/-- Where the windows stand at grid point `t`: row tile `t`, and the table of that tile's stream. -/
theorem idx_facts : ∀ t : Fin cfg0.N, (win0_0.index t 0 = t.val ∧ win0_0.index t 1 = 0)
    ∧ (win0_1.index t 0 = 0 ∧ win0_1.index t 1 = 0)
    ∧ (win0_2.index t 0 = tileStream t.val ∧ win0_2.index t 1 = 0 ∧ win0_2.index t 2 = 0)
    ∧ (win0_3.index t 0 = t.val ∧ win0_3.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = tileStream t.val ∧ win0_2.index t 1 = 0 ∧ win0_2.index t 2 = 0)
    ∧ (win0_3.index t 0 = t.val ∧ win0_3.index t 1 = 0))

/-- The row block the body reads at `t`. -/
theorem iblk0_apply (c : Dev nD) (t : Fin cfg0.N) (r : Fin 256) (k : Fin 2048) (R : Fin 16896)
    (hR : R.val = t.val * 256 + r.val) :
    (iblk m c 0 t : Vec Ideal S256x2048 .f32) (ix2 r k) = m ((c : Thread nD τ).loc main_arg0) (ix2 R k) := by
  obtain ⟨⟨h0, h1⟩, _⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = R.val; rw [h0, hR]; omega
  | ⟨1, _⟩ => show win0_0.index t 1 * 2048 + 1 * k.val = k.val; rw [h1]; omega

/-- The gains the body reads: the whole vector, as a row. -/
theorem iblk1_apply (c : Dev nD) (t : Fin cfg0.N) (q : Fin 2048) :
    (iblk m c 1 t : Vec Ideal S1x2048 .f32) (ix2 0 q) = m ((c : Thread nD τ).loc main_arg1) (ix1 q) := by
  obtain ⟨_, ⟨h0, h1⟩, _⟩ := idx_facts t
  have hv : V m c main_v0 = (shapeCast S1x2048 (m ((c : Thread nD τ).loc main_arg1)) shapeCasts_S2048_S1x2048 : FVec Ideal S1x2048 .f32) := by
    unfold V; after_results
    rfl
  unfold iblk
  rw [View.read_apply]
  show V m c main_v0 _ = _
  have e : ((cfg0.win 1).blk t).view.emb (ix2 0 q) = (ix2 (0 : Fin 1) q : S1x2048.Idx) := by
    funext a
    apply Fin.ext
    match a with
    | ⟨0, _⟩ => show win0_1.index t 0 * 1 + 1 * 0 = 0; rw [h0]
    | ⟨1, _⟩ => show win0_1.index t 1 * 2048 + 1 * q.val = q.val; rw [h1]; omega
  rw [hv]
  refine (congrArg (shapeCast S1x2048 (m ((c : Thread nD τ).loc main_arg1)) shapeCasts_S2048_S1x2048 : FVec Ideal S1x2048 .f32) e).trans ?_
  exact shapeCast_apply (s := S2048) (t := S1x2048) _ shapeCasts_S2048_S1x2048 (ix2 (0 : Fin 1) q) (ix1 q) (by
    rw [Shape.rowMajor_val_two, Shape.rowMajor_val_one]; show q.val = 0 * 2048 + q.val; omega)

/-- The shift the body reads at `t`: row 3 of the table of the tile's stream. -/
theorem shift_apply (c : Dev nD) (t : Fin cfg0.N) (q : Fin 2048) (s : Fin 8) (hs : s.val = tileStream t.val) :
    (View.ld (iblk m c 2 t : Vec Ideal S1x8x2048 .f32) r0_2 : Vec Ideal S1x1x2048 .f32) (ix3 0 0 q)
      = m ((c : Thread nD τ).loc main_arg2) (ix3 s 3 q) := by
  obtain ⟨_, _, ⟨h0, h1, h2⟩, _⟩ := idx_facts t
  unfold iblk View.ld
  rw [View.read_apply]
  show V m c main_arg2 _ = _
  rw [V_main_arg2]
  congr 1
  funext a
  apply Fin.ext
  match a with
  | ⟨0, _⟩ => show win0_2.index t 0 * 1 + 1 * (0 + 1 * 0) = s.val; rw [h0, hs]; omega
  | ⟨1, _⟩ => show win0_2.index t 1 * 8 + 1 * (3 + 1 * 0) = 3; rw [h1]
  | ⟨2, _⟩ => show win0_2.index t 2 * 2048 + 1 * (0 + 1 * q.val) = q.val; rw [h2]; omega

/-- The scale the body reads at `t`: row 4 of the same table. -/
theorem scale_apply (c : Dev nD) (t : Fin cfg0.N) (q : Fin 2048) (s : Fin 8) (hs : s.val = tileStream t.val) :
    (View.ld (iblk m c 2 t : Vec Ideal S1x8x2048 .f32) r0_3 : Vec Ideal S1x1x2048 .f32) (ix3 0 0 q)
      = m ((c : Thread nD τ).loc main_arg2) (ix3 s 4 q) := by
  obtain ⟨_, _, ⟨h0, h1, h2⟩, _⟩ := idx_facts t
  unfold iblk View.ld
  rw [View.read_apply]
  show V m c main_arg2 _ = _
  rw [V_main_arg2]
  congr 1
  funext a
  apply Fin.ext
  match a with
  | ⟨0, _⟩ => show win0_2.index t 0 * 1 + 1 * (0 + 1 * 0) = s.val; rw [h0, hs]; omega
  | ⟨1, _⟩ => show win0_2.index t 1 * 8 + 1 * (4 + 1 * 0) = 4; rw [h1]
  | ⟨2, _⟩ => show win0_2.index t 2 * 2048 + 1 * (0 + 1 * q.val) = q.val; rw [h2]; omega

/-- What the body leaves, of its loads, at an index. -/
theorem E3_apply (x : Vec Ideal S256x2048 .f32) (g : Vec Ideal S1x2048 .f32) (sc sh : Vec Ideal S1x1x2048 .f32)
    (r : Fin 256) (q : Fin 2048) :
    Value.E3 (F := Ideal) x g sc sh (ix2 r q)
      = x (ix2 r q) * rowScale x r * g (ix2 0 q) * (Ideal.ofBits .f32 0x3F800000#32 + sc (ix3 0 0 q)) + sh (ix3 0 0 q) := by
  have e0 : Value.ix3_0 (ix2 r q) = ix2 r q := funext fun a => Fin.ext (by match a with | ⟨0, _⟩ => rfl | ⟨1, _⟩ => rfl)
  have e1 : Value.ix3_1 (ix2 r q) = ix1 r := funext fun a => Fin.ext (by match a with | ⟨0, _⟩ => rfl)
  have e2 : Value.ix3_2 (ix2 r q) = ix2 0 q := funext fun a => Fin.ext (by match a with | ⟨0, _⟩ => rfl | ⟨1, _⟩ => rfl)
  have e3 : Value.ix3_3 (ix2 r q) = ix3 0 0 q := funext fun a => Fin.ext (by
    match a with | ⟨0, _⟩ => rfl | ⟨1, _⟩ => rfl | ⟨2, _⟩ => rfl)
  have e4 : Value.ix3_4 (ix2 r q) = ix3 0 0 q := funext fun a => Fin.ext (by
    match a with | ⟨0, _⟩ => rfl | ⟨1, _⟩ => rfl | ⟨2, _⟩ => rfl)
  unfold Value.E3
  rw [e0, e1, e2, e3, e4]
  exact congrArg (fun z : EReal => x (ix2 r q) * Ideal.rsqrt (Ideal.div z (Ideal.ofBits .f32 0x45000000#32)
      + Ideal.ofBits .f32 0x358637BD#32) * g (ix2 0 q) * (Ideal.ofBits .f32 0x3F800000#32 + sc (ix3 0 0 q)) + sh (ix3 0 0 q))
    (sumSq_apply x reduces_S256x2048_S256 (.inl rfl) rfl r)

/-- What point `t` writes back is block `t` of the modulated norm. -/
theorem flushed_eq (c : Dev nD) (t : Fin cfg0.N) :
    (dats m 0 c).flushed 3 t = ((cfg0.win 3).blk t).view.read (Elt Ideal) (G m c) := by
  have hN : cfg0.N = 66 := N_0
  have ht := t.isLt
  obtain ⟨_, _, _, h0, h1⟩ := idx_facts t
  rw [Value.flushed3]
  unfold out0_3
  rw [View.ld_unit_zero hz2, View.ld_unit_zero hz2]
  funext j
  rw [View.read_apply]
  obtain ⟨r, q, rfl⟩ : ∃ (r : Fin 256) (q : Fin 2048), j = ix2 r q := ⟨j 0, j 1, eq_ix2 j⟩
  have e : ((cfg0.win 3).blk t).view.emb (ix2 r q) = ix2 (⟨t.val * 256 + r.val, by omega⟩ : Fin 16896) q := by
    funext a
    apply Fin.ext
    match a with
    | ⟨0, _⟩ => show win0_3.index t 0 * 256 + 1 * r.val = t.val * 256 + r.val; rw [h0]; omega
    | ⟨1, _⟩ => show win0_3.index t 1 * 2048 + 1 * q.val = q.val; rw [h1]; omega
  rw [e]
  refine (Value.canon3_eq (F := Ideal) (iblk m c 0 t) (iblk m c 1 t) (View.ld (iblk m c 2 t) r0_3) (View.ld (iblk m c 2 t) r0_2) (ix2 r q)).trans ?_
  rw [E3_apply]
  have hs := stream_tile t.val (by omega) r ⟨t.val * 256 + r.val, by omega⟩ rfl
  rw [shift_apply m c t q _ hs, scale_apply m c t q _ hs, iblk1_apply m c t q,
    iblk0_apply m c t r q ⟨t.val * 256 + r.val, by omega⟩ rfl,
    rowScale_congr _ (m ((c : Thread nD τ).loc main_arg0)) r ⟨t.val * 256 + r.val, by omega⟩
      (fun k => iblk0_apply m c t r k ⟨t.val * 256 + r.val, by omega⟩ rfl)]
  rfl

/-- An index of the result array is in point `t`'s block exactly when its row is in tile `t`. -/
theorem mem_blk (t : Fin cfg0.N) (i : S16896x2048.Idx) :
    i ∈ ((cfg0.win 3).blk t).view.set ↔ t.val * 256 ≤ (i 0 : Nat) ∧ (i 0 : Nat) < t.val * 256 + 256 := by
  obtain ⟨_, _, _, h0, h1⟩ := idx_facts t
  have hi : (i 1 : Nat) < 2048 := (i 1).isLt
  show i ∈ ((View.whole main_v1).slice (win0_3.rect t)).set ↔ _
  rw [View.set_slice_whole, Rect.mem_set_unit]
  constructor
  · intro h
    have a0 : win0_3.index t 0 * 256 ≤ (i 0 : Nat) ∧ (i 0 : Nat) < win0_3.index t 0 * 256 + 256 := h 0
    rw [h0] at a0
    exact a0
  · intro h a
    match a with
    | ⟨0, _⟩ => show win0_3.index t 0 * 256 ≤ (i 0 : Nat) ∧ (i 0 : Nat) < win0_3.index t 0 * 256 + 256; rw [h0]; exact h
    | ⟨1, _⟩ =>
      show win0_3.index t 1 * 2048 ≤ (i 1 : Nat) ∧ (i 1 : Nat) < win0_3.index t 1 * 2048 + 2048
      rw [h1, Nat.zero_mul, Nat.zero_add]; exact ⟨Nat.zero_le _, hi⟩

/-- The tiles cover the result array. -/
theorem cover (i : S16896x2048.Idx) : ∃ t : Fin cfg0.N, (cfg0.win 3).flush t = true ∧ i ∈ ((cfg0.win 3).blk t).view.set := by
  have hN : cfg0.N = 66 := N_0
  have h0 : (i 0 : Nat) < 16896 := (i 0).isLt
  refine ⟨⟨(i 0 : Nat) / 256, by omega⟩, flush0_3 _, ?_⟩
  rw [mem_blk]
  dsimp only
  omega

/-- The run of the kernel: the result array ends as the modulated norm, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 (G m c) (fun t _ => flushed_eq m c t) cover),
    (h c).2⟩) (Value.run_blocks m ρ)

end Cert.NormFfnIdeal.Modulated

namespace Cert.NormFfnRefIdeal.Modulated

open Cert.NormFfnRefIdeal Cert.NormFfnRefIdeal.Gen

variable (x0 : (⟨S16896x2048, .f32⟩ : BufTy).Contents (Elt Ideal)) (x1 : (⟨S2048, .f32⟩ : BufTy).Contents (Elt Ideal))
  (x2 : (⟨S8x8x2048, .f32⟩ : BufTy).Contents (Elt Ideal))

/-- Token `n` of batch `b` in the flat order of rows. -/
abbrev row (b : Fin 2) (n : Fin 8448) : Fin 16896 := ⟨b.val * 8448 + n.val, by omega⟩

/-- The tokens, reshaped to batches, at a token and a column. -/
theorem tok_apply (b : Fin 2) (n : Fin 8448) (q : Fin 2048) :
    Read.val_main_v0 (F := Ideal) x0 (ix3 b n q) = x0 (ix2 (row b n) q) := by
  rw [Read.val_main_v0_apply]
  congr 1
  exact funext fun a => Fin.ext (by
    match a with
    | ⟨0, _⟩ => show ((b.val * 8448 + n.val) * 2048 + q.val) / 2048 = b.val * 8448 + n.val; omega
    | ⟨1, _⟩ => show ((b.val * 8448 + n.val) * 2048 + q.val) % 2048 = q.val; omega)

/-- The context tokens … -/
theorem ctx_apply (b : Fin 2) (n : Fin 256) (q : Fin 2048) :
    Read.val_main_v13 (F := Ideal) x0 (ix3 b n q) = x0 (ix2 (row b ⟨n.val, by omega⟩) q) := by
  rw [Read.val_main_v13_apply, ← tok_apply x0]
  congr 1
  exact funext fun a => Fin.ext (by match a with | ⟨0, _⟩ => rfl | ⟨1, _⟩ => rfl | ⟨2, _⟩ => rfl)

/-- … and the latent tokens. -/
theorem lat_apply (b : Fin 2) (n : Fin 8192) (q : Fin 2048) :
    Read.val_main_v33 (F := Ideal) x0 (ix3 b n q) = x0 (ix2 (row b ⟨256 + n.val, by omega⟩) q) := by
  rw [Read.val_main_v33_apply, ← tok_apply x0]
  congr 1
  exact funext fun a => Fin.ext (by match a with | ⟨0, _⟩ => rfl | ⟨1, _⟩ => rfl | ⟨2, _⟩ => rfl)

/-- The scale of a context token's row … -/
theorem ctx_scale (b : Fin 2) (n : Fin 256) (q : Fin 2048) :
    Read.val_main_v22 (F := Ideal) x0 (ix3 b n q) = rowScale x0 (row b ⟨n.val, by omega⟩) := by
  rw [Read.val_main_v22_apply, Read.val_main_v21_apply, Read.val_main_v20_apply, Read.val_main_v18_apply, Read.val_main_v16_apply,
    Read.val_main_v15_apply, Read.val_main_v17_apply, Read.val_main_v19_apply, Read.val_main_cst_apply, Read.val_main_cst_0_apply,
    Read.val_main_cst_1_apply]
  unfold rowScale
  have e : ∀ k : Fin 2048, Read.val_main_v14 (F := Ideal) x0 (Read.idx_main_v15 (Read.idx_main_v16 (Read.idx_main_v22 (ix3 b n q))) k)
      = x0 (ix2 (row b ⟨n.val, by omega⟩) k) * x0 (ix2 (row b ⟨n.val, by omega⟩) k) := fun k => by
    rw [Read.val_main_v14_apply]
    have ei : Read.idx_main_v15 (Read.idx_main_v16 (Read.idx_main_v22 (ix3 b n q))) k = ix3 b n k := funext fun a => Fin.ext (by
      match a with | ⟨0, _⟩ => rfl | ⟨1, _⟩ => rfl | ⟨2, _⟩ => rfl)
    rw [ei, ctx_apply]
    rfl
  simp only [e, Ideal.ofBits_def, Ideal.ofBits_zero_f32, zero_add]
  rfl

/-- … and of a latent token's. -/
theorem lat_scale (b : Fin 2) (n : Fin 8192) (q : Fin 2048) :
    Read.val_main_v42 (F := Ideal) x0 (ix3 b n q) = rowScale x0 (row b ⟨256 + n.val, by omega⟩) := by
  rw [Read.val_main_v42_apply, Read.val_main_v41_apply, Read.val_main_v40_apply, Read.val_main_v38_apply, Read.val_main_v36_apply,
    Read.val_main_v35_apply, Read.val_main_v37_apply, Read.val_main_v39_apply, Read.val_main_cst_3_apply, Read.val_main_cst_4_apply,
    Read.val_main_cst_5_apply]
  unfold rowScale
  have e : ∀ k : Fin 2048, Read.val_main_v34 (F := Ideal) x0 (Read.idx_main_v35 (Read.idx_main_v36 (Read.idx_main_v42 (ix3 b n q))) k)
      = x0 (ix2 (row b ⟨256 + n.val, by omega⟩) k) * x0 (ix2 (row b ⟨256 + n.val, by omega⟩) k) := fun k => by
    rw [Read.val_main_v34_apply]
    have ei : Read.idx_main_v35 (Read.idx_main_v36 (Read.idx_main_v42 (ix3 b n q))) k = ix3 b n k := funext fun a => Fin.ext (by
      match a with | ⟨0, _⟩ => rfl | ⟨1, _⟩ => rfl | ⟨2, _⟩ => rfl)
    rw [ei, lat_apply]
    rfl
  simp only [e, Ideal.ofBits_def, Ideal.ofBits_zero_f32, zero_add]
  rfl

/-- The norm's gains, at a context token … -/
theorem ctx_gain (b : Fin 2) (n : Fin 256) (q : Fin 2048) : Read.val_main_v25 (F := Ideal) x1 (ix3 b n q) = x1 (ix1 q) := by
  rw [Read.val_main_v25_apply, Read.val_main_v24_apply]
  congr 1
  exact funext fun a => Fin.ext (by match a with | ⟨0, _⟩ => rfl)

/-- … and at a latent token. -/
theorem lat_gain (b : Fin 2) (n : Fin 8192) (q : Fin 2048) : Read.val_main_v45 (F := Ideal) x1 (ix3 b n q) = x1 (ix1 q) := by
  rw [Read.val_main_v45_apply, Read.val_main_v44_apply]
  congr 1
  exact funext fun a => Fin.ext (by match a with | ⟨0, _⟩ => rfl)

/-- One plus the scale, and the shift, of the context tokens: rows 4 and 3 of table 2 … -/
theorem ctx_mod (b : Fin 2) (n : Fin 256) (q : Fin 2048) :
    Read.val_main_v29 (F := Ideal) x2 (ix3 b n q) = Ideal.ofBits .f32 0x3F800000#32 + x2 (ix3 2 4 q)
      ∧ Read.val_main_v31 (F := Ideal) x2 (ix3 b n q) = x2 (ix3 2 3 q) := by
  constructor
  · rw [Read.val_main_v29_apply, Read.val_main_v28_apply, Read.val_main_v27_apply, Read.val_main_cst_2_apply,
      Read.val_main_v12_apply, Read.val_main_v11_apply, Read.val_main_v10_apply]
    refine congrArg (fun z : EReal => Ideal.ofBits .f32 0x3F800000#32 + z) (congrArg x2 (funext fun a => Fin.ext ?_))
    match a with
    | ⟨0, _⟩ => rfl
    | ⟨1, _⟩ => rfl
    | ⟨2, _⟩ => show q.val % 2048 = q.val; omega
  · rw [Read.val_main_v31_apply, Read.val_main_v9_apply, Read.val_main_v8_apply, Read.val_main_v7_apply]
    refine congrArg x2 (funext fun a => Fin.ext ?_)
    match a with
    | ⟨0, _⟩ => rfl
    | ⟨1, _⟩ => rfl
    | ⟨2, _⟩ => show q.val % 2048 = q.val; omega

/-- … and of the latent tokens: the same rows of their batch's table. -/
theorem lat_mod (b : Fin 2) (n : Fin 8192) (q : Fin 2048) :
    Read.val_main_v49 (F := Ideal) x2 (ix3 b n q) = Ideal.ofBits .f32 0x3F800000#32 + x2 (ix3 (⟨b.val, by omega⟩ : Fin 8) 4 q)
      ∧ Read.val_main_v51 (F := Ideal) x2 (ix3 b n q) = x2 (ix3 (⟨b.val, by omega⟩ : Fin 8) 3 q) := by
  constructor
  · rw [Read.val_main_v49_apply, Read.val_main_v48_apply, Read.val_main_v47_apply, Read.val_main_cst_6_apply,
      Read.val_main_v6_apply, Read.val_main_v5_apply, Read.val_main_v4_apply]
    refine congrArg (fun z : EReal => Ideal.ofBits .f32 0x3F800000#32 + z) (congrArg x2 (funext fun a => Fin.ext ?_))
    match a with
    | ⟨0, _⟩ => show (b.val * 2048 + q.val) / 2048 = b.val; omega
    | ⟨1, _⟩ => rfl
    | ⟨2, _⟩ => show (b.val * 2048 + q.val) % 2048 = q.val; omega
  · rw [Read.val_main_v51_apply, Read.val_main_v3_apply, Read.val_main_v2_apply, Read.val_main_v1_apply]
    refine congrArg x2 (funext fun a => Fin.ext ?_)
    match a with
    | ⟨0, _⟩ => show (b.val * 2048 + q.val) / 2048 = b.val; omega
    | ⟨1, _⟩ => rfl
    | ⟨2, _⟩ => show (b.val * 2048 + q.val) % 2048 = q.val; omega

/-- The host's result at a row and a column is the modulated norm. -/
theorem val_apply (i : S16896x2048.Idx) :
    Read.val_main_v54 (F := Ideal) x0 x1 x2 i = modulatedAt x0 x1 x2 3 4 (i 0) (i 1) := by
  obtain ⟨R, q, rfl⟩ : ∃ (R : Fin 16896) (q : Fin 2048), i = ix2 R q := ⟨i 0, i 1, eq_ix2 i⟩
  obtain ⟨b, n, rfl⟩ : ∃ (b : Fin 2) (n : Fin 8448), R = row b n :=
    ⟨⟨R.val / 8448, by omega⟩, ⟨R.val % 8448, by omega⟩, Fin.ext (by show R.val = R.val / 8448 * 8448 + R.val % 8448; omega)⟩
  show _ = modulatedAt x0 x1 x2 3 4 (row b n) q
  have ei : Read.idx_main_v54 (ix2 (row b n) q) = ix3 b n q := funext fun a => Fin.ext (by
    match a with
    | ⟨0, _⟩ => show ((b.val * 8448 + n.val) * 2048 + q.val) / 17301504 = b.val; omega
    | ⟨1, _⟩ => show ((b.val * 8448 + n.val) * 2048 + q.val) / 2048 % 8448 = n.val; omega
    | ⟨2, _⟩ => show ((b.val * 8448 + n.val) * 2048 + q.val) % 2048 = q.val; omega)
  rw [Read.val_main_v54_apply, ei]
  unfold Read.val_main_v53 modulatedAt
  by_cases hn : n.val < 256
  · have es : stream (row b n) = 2 := stream_ctx b n hn
    refine (concatenate_pair_apply_left (t := S2x8448x2048) (s₁ := S2x256x2048) (s₂ := S2x8192x2048) 1 _ _
      concatenates_S2x256x2048_S2x8192x2048_S2x8448x2048_d1 (ix3 b n q) rfl (ix3 b (⟨n.val, hn⟩ : Fin 256) q) (fun a => by
      match a with | ⟨0, _⟩ => rfl | ⟨1, _⟩ => rfl | ⟨2, _⟩ => rfl)).trans ?_
    rw [Read.val_main_v32_apply, Read.val_main_v30_apply, Read.val_main_v26_apply, Read.val_main_v23_apply, ctx_apply, ctx_scale,
      ctx_gain, (ctx_mod x2 b _ q).1, (ctx_mod x2 b _ q).2, es]
    rfl
  · have es : stream (row b n) = ⟨b.val, by omega⟩ := stream_lat b n hn
    refine (concatenate_pair_apply_right (t := S2x8448x2048) (s₁ := S2x256x2048) (s₂ := S2x8192x2048) 1 _ _
      concatenates_S2x256x2048_S2x8192x2048_S2x8448x2048_d1 (ix3 b n q) rfl rfl (ix3 b (⟨n.val - 256, by omega⟩ : Fin 8192) q)
      (fun a h => by match a with | ⟨0, _⟩ => rfl | ⟨1, _⟩ => exact absurd rfl h | ⟨2, _⟩ => rfl)
      (by show n.val - 256 + 256 = n.val; omega)).trans ?_
    have er : row b (⟨256 + (n.val - 256), by omega⟩ : Fin 8448) = row b n := Fin.ext (by
      show b.val * 8448 + (256 + (n.val - 256)) = b.val * 8448 + n.val; omega)
    rw [Read.val_main_v52_apply, Read.val_main_v50_apply, Read.val_main_v46_apply, Read.val_main_v43_apply, lat_apply, lat_scale,
      lat_gain, (lat_mod x2 b _ q).1, (lat_mod x2 b _ q).2, es, er]
    rfl

end Cert.NormFfnRefIdeal.Modulated

namespace Cert.Proof.NormFfn

/-- The reference runs and leaves its arguments as they were. -/
theorem frame_ref : Cert.quiescent_NormFfnRefIdeal := fun m ρ _ =>
  (θ_run Cert.NormFfnRefIdeal.defs _ _).mono (fun r h => ⟨fun c => (h c).2,
      Idealize.ShloMosaic.sem_eq_zero_of_no_sems (by decide) r.2⟩)
    (Cert.NormFfnRefIdeal.Value.run (F := Ideal) m ρ)

/-- The kernel and the reference compute the same modulated norm. -/
theorem algebraic : Cert.algebraic_NormFfnIdeal_NormFfnRefIdeal := fun m ρ m' ρ' _ hag =>
  ⟨fun c => Cert.NormFfnIdeal.Modulated.G m c, Cert.NormFfnIdeal.Modulated.run m ρ,
    (θ_run Cert.NormFfnRefIdeal.defs _ _).mono (fun _ h c => ⟨by
        rw [(h c).1, Cert.NormFfnRefIdeal.Read.val_main_v54_eq, (hag c).1, (hag c).2.1, (hag c).2.2]
        exact funext fun i => Cert.NormFfnRefIdeal.Modulated.val_apply _ _ _ i, (h c).2⟩)
      (Cert.NormFfnRefIdeal.Value.run (F := Ideal) m' ρ')⟩

end Cert.Proof.NormFfn

end
-- ==== Proof.SsdFinishValue.lean ====
/-
  The gated norm after the scans: both directions' outputs added, the skip term, the gate, and a norm over each group of
  512 columns. The kernel's result array is `finishAt`, and the host's expression is the same.
-/
module

public import proofs.«01_k».proof.Defs
public import proofs.«01_k».proof.Proof.NormModulated
public import Idealize.ShloMosaic.Lib.IdealHost
public import proofs.«01_k».proof.Proof.Gen.SsdFinishIdeal.Value
public import proofs.«01_k».proof.Proof.Gen.SsdFinishRefIdeal.Run
public import proofs.«01_k».proof.Proof.Gen.SsdFinishRefIdeal.Read

@[expose] public section

set_option maxRecDepth 16384

noncomputable section

open Idealize.ShloMosaic Idealize.ShloMosaic.TcCoe Idealize.SL.Sem Idealize.ShloMosaic.ValueIdx
open Cert.MatBlock Cert.NormModulated

namespace Cert.SsdFinish

/-- Column `k` of group `g`, among all 4096. -/
abbrev col (g : Fin 8) (k : Fin 512) : Fin 4096 := ⟨g.val * 512 + k.val, by omega⟩

/-- The head of a column: 64 columns each. -/
abbrev head (g : Fin 8) (k : Fin 512) : Fin 64 := ⟨(g.val * 512 + k.val) / 64, by omega⟩

/-- What is gated, times its gate: the sum of the two scans and the skipped input, times `z · logistic z`. -/
def gated (yf yb x d z : EReal) : EReal := (yf + yb + d * x) * (z * Ideal.logistic z)

/-- The gated value of a token at a column of a group. -/
def gatedVal (yf yb : (⟨3, ![8, 16896, 512]⟩ : Shape).Idx → EReal) (x : (⟨3, ![16, 16896, 512]⟩ : Shape).Idx → EReal)
    (p : (⟨2, ![16896, 12288]⟩ : Shape).Idx → EReal) (d : (⟨1, ![64]⟩ : Shape).Idx → EReal)
    (R : Fin 16896) (g : Fin 8) (k : Fin 512) : EReal :=
  gated (yf (ix3 g R k)) (yb (ix3 g R k)) (x (ix3 (⟨g.val, by omega⟩ : Fin 16) R k)) (d (ix1 (head g k)))
    (p (ix2 R (⟨g.val * 512 + k.val, by omega⟩ : Fin 12288)))

/-- One over the root of the mean square of 512 values, with the small constant added under the root. -/
def groupScale (y : Fin 512 → EReal) : EReal :=
  Ideal.rsqrt (Ideal.div (∑ k, y k * y k) (Ideal.ofBits .f32 0x44000000#32) + Ideal.ofBits .f32 0x358637BD#32)

/-- The result at a token and a column of a group. -/
def finishAt (yf yb : (⟨3, ![8, 16896, 512]⟩ : Shape).Idx → EReal) (x : (⟨3, ![16, 16896, 512]⟩ : Shape).Idx → EReal)
    (p : (⟨2, ![16896, 12288]⟩ : Shape).Idx → EReal) (d : (⟨1, ![64]⟩ : Shape).Idx → EReal) (w : (⟨1, ![4096]⟩ : Shape).Idx → EReal)
    (R : Fin 16896) (g : Fin 8) (k : Fin 512) : EReal :=
  gatedVal yf yb x p d R g k * groupScale (gatedVal yf yb x p d R g) * w (ix1 (col g k))

end Cert.SsdFinish

open Cert.SsdFinish

namespace Cert.SsdFinishIdeal.Finish

open Cert.SsdFinishIdeal Cert.SsdFinishIdeal.Gen

variable (m : (ℓ : Loc nD τ sig) → Buf (Elt Ideal) ℓ) (ρ : Dev nD → PrngReg)

/-- The gated norm at every index: what the result is shown to hold. -/
def G (c : Dev nD) : Buf (Elt Ideal) ((c : Thread nD τ).loc main_v4) := fun i : S16896x4096.Idx =>
  finishAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) (⟨(i 1).val / 512, by have h : (i 1).val < 4096 := (i 1).isLt; omega⟩ : Fin 8) (⟨(i 1).val % 512, by omega⟩ : Fin 512)

/-- Where the windows stand at grid point `t`: row tile `t / 8`, group `t % 8`. -/
theorem idx_facts : ∀ t : Fin cfg0.N, (win0_0.index t 0 = t.val % 8 ∧ win0_0.index t 1 = t.val / 8 ∧ win0_0.index t 2 = 0)
    ∧ (win0_1.index t 0 = t.val % 8 ∧ win0_1.index t 1 = t.val / 8 ∧ win0_1.index t 2 = 0)
    ∧ (win0_2.index t 0 = t.val % 8 ∧ win0_2.index t 1 = t.val / 8 ∧ win0_2.index t 2 = 0)
    ∧ (win0_3.index t 0 = t.val / 8 ∧ win0_3.index t 1 = t.val % 8)
    ∧ (win0_4.index t 0 = 0 ∧ win0_4.index t 1 = t.val % 8)
    ∧ (win0_5.index t 0 = 0 ∧ win0_5.index t 1 = t.val % 8)
    ∧ (win0_6.index t 0 = t.val / 8 ∧ win0_6.index t 1 = t.val % 8) :=
  (by decide +kernel : ∀ t : Fin grid0.N, (win0_0.index t 0 = t.val % 8 ∧ win0_0.index t 1 = t.val / 8 ∧ win0_0.index t 2 = 0)
    ∧ (win0_1.index t 0 = t.val % 8 ∧ win0_1.index t 1 = t.val / 8 ∧ win0_1.index t 2 = 0)
    ∧ (win0_2.index t 0 = t.val % 8 ∧ win0_2.index t 1 = t.val / 8 ∧ win0_2.index t 2 = 0)
    ∧ (win0_3.index t 0 = t.val / 8 ∧ win0_3.index t 1 = t.val % 8)
    ∧ (win0_4.index t 0 = 0 ∧ win0_4.index t 1 = t.val % 8)
    ∧ (win0_5.index t 0 = 0 ∧ win0_5.index t 1 = t.val % 8)
    ∧ (win0_6.index t 0 = t.val / 8 ∧ win0_6.index t 1 = t.val % 8))

/-- The group of grid point `t`, and the token of its row `r`. -/
abbrev grp (t : Fin cfg0.N) : Fin 8 := ⟨t.val % 8, by omega⟩

abbrev tok (t : Fin cfg0.N) (r : Fin 256) : Fin 16896 :=
  ⟨t.val / 8 * 256 + r.val, by have := t.isLt; have hN : cfg0.N = 528 := N_0; omega⟩

/-- The forward scan's block at `t` … -/
theorem iblk0_apply (c : Dev nD) (t : Fin cfg0.N) (r : Fin 256) (k : Fin 512) :
    (iblk m c 0 t : Vec Ideal S1x256x512 .f32) (ix3 0 r k) = m ((c : Thread nD τ).loc main_arg0) (ix3 (grp t) (tok t r) k) := by
  obtain ⟨⟨h0, h1, h2⟩, _⟩ := idx_facts t
  unfold iblk
  rw [View.read_apply]
  show V m c main_arg0 _ = _
  rw [V_main_arg0]
  congr 1
  funext a
  apply Fin.ext
  match a with
  | ⟨0, _⟩ => show win0_0.index t 0 * 1 + 1 * 0 = t.val % 8; rw [h0]; omega
  | ⟨1, _⟩ => show win0_0.index t 1 * 256 + 1 * r.val = t.val / 8 * 256 + r.val; rw [h1]; omega
  | ⟨2, _⟩ => show win0_0.index t 2 * 512 + 1 * k.val = k.val; rw [h2]; omega

/-- … the backward scan's … -/
theorem iblk1_apply (c : Dev nD) (t : Fin cfg0.N) (r : Fin 256) (k : Fin 512) :
    (iblk m c 1 t : Vec Ideal S1x256x512 .f32) (ix3 0 r k) = m ((c : Thread nD τ).loc main_arg1) (ix3 (grp t) (tok t r) k) := by
  obtain ⟨_, ⟨h0, h1, h2⟩, _⟩ := idx_facts t
  unfold iblk
  rw [View.read_apply]
  show V m c main_arg1 _ = _
  rw [V_main_arg1]
  congr 1
  funext a
  apply Fin.ext
  match a with
  | ⟨0, _⟩ => show win0_1.index t 0 * 1 + 1 * 0 = t.val % 8; rw [h0]; omega
  | ⟨1, _⟩ => show win0_1.index t 1 * 256 + 1 * r.val = t.val / 8 * 256 + r.val; rw [h1]; omega
  | ⟨2, _⟩ => show win0_1.index t 2 * 512 + 1 * k.val = k.val; rw [h2]; omega

/-- … the scans' input … -/
theorem iblk2_apply (c : Dev nD) (t : Fin cfg0.N) (r : Fin 256) (k : Fin 512) :
    (iblk m c 2 t : Vec Ideal S1x256x512 .f32) (ix3 0 r k)
      = m ((c : Thread nD τ).loc main_arg2) (ix3 (⟨t.val % 8, by omega⟩ : Fin 16) (tok t r) k) := by
  obtain ⟨_, _, ⟨h0, h1, h2⟩, _⟩ := idx_facts t
  unfold iblk
  rw [View.read_apply]
  show V m c main_arg2 _ = _
  rw [V_main_arg2]
  congr 1
  funext a
  apply Fin.ext
  match a with
  | ⟨0, _⟩ => show win0_2.index t 0 * 1 + 1 * 0 = t.val % 8; rw [h0]; omega
  | ⟨1, _⟩ => show win0_2.index t 1 * 256 + 1 * r.val = t.val / 8 * 256 + r.val; rw [h1]; omega
  | ⟨2, _⟩ => show win0_2.index t 2 * 512 + 1 * k.val = k.val; rw [h2]; omega

/-- … and the gate's. -/
theorem iblk3_apply (c : Dev nD) (t : Fin cfg0.N) (r : Fin 256) (k : Fin 512) :
    (iblk m c 3 t : Vec Ideal S256x512 .f32) (ix2 r k)
      = m ((c : Thread nD τ).loc main_arg3) (ix2 (tok t r) (⟨t.val % 8 * 512 + k.val, by omega⟩ : Fin 12288)) := by
  obtain ⟨_, _, _, ⟨h0, h1⟩, _⟩ := idx_facts t
  unfold iblk
  rw [View.read_apply]
  show V m c main_arg3 _ = _
  rw [V_main_arg3]
  congr 1
  funext a
  apply Fin.ext
  match a with
  | ⟨0, _⟩ => show win0_3.index t 0 * 256 + 1 * r.val = t.val / 8 * 256 + r.val; rw [h0]; omega
  | ⟨1, _⟩ => show win0_3.index t 1 * 512 + 1 * k.val = t.val % 8 * 512 + k.val; rw [h1]; omega

/-- A vector of 4096 as one row, read at a column. -/
theorem as_row (v : S4096.Idx → EReal) (C : Fin 4096) :
    shapeCast S1x4096 v shapeCasts_S4096_S1x4096 (ix2 (0 : Fin 1) C) = v (ix1 C) :=
  shapeCast_apply (s := S4096) (t := S1x4096) _ shapeCasts_S4096_S1x4096 (ix2 (0 : Fin 1) C) (ix1 C) (by
    rw [Shape.rowMajor_val_two, Shape.rowMajor_val_one]; show C.val = 0 * 4096 + C.val; omega)

/-- The skip weights the body reads at `t`: each head's weight at its 64 columns. -/
theorem iblk4_apply (c : Dev nD) (t : Fin cfg0.N) (k : Fin 512) :
    (iblk m c 4 t : Vec Ideal S1x512 .f32) (ix2 0 k) = m ((c : Thread nD τ).loc main_arg4) (ix1 (head (grp t) k)) := by
  obtain ⟨_, _, _, _, ⟨h0, h1⟩, _⟩ := idx_facts t
  have hv : V m c main_v2 = (shapeCast S1x4096 (shapeCast S4096 (broadcastInDim S64x64 ![0] bcast_S64_S64x64_0
      (m ((c : Thread nD τ).loc main_arg4))) shapeCasts_S64x64_S4096) shapeCasts_S4096_S1x4096 : FVec Ideal S1x4096 .f32) := by
    unfold V; after_results
    rfl
  have e : ((cfg0.win 4).blk t).view.emb (ix2 0 k) = (ix2 (0 : Fin 1) (col (grp t) k) : S1x4096.Idx) := by
    funext a
    apply Fin.ext
    match a with
    | ⟨0, _⟩ => show win0_4.index t 0 * 1 + 1 * 0 = 0; rw [h0]
    | ⟨1, _⟩ => show win0_4.index t 1 * 512 + 1 * k.val = t.val % 8 * 512 + k.val; rw [h1]; omega
  unfold iblk
  rw [View.read_apply]
  show V m c main_v2 _ = _
  rw [hv]
  refine (congrArg (shapeCast S1x4096 (shapeCast S4096 (broadcastInDim S64x64 ![0] bcast_S64_S64x64_0
      (m ((c : Thread nD τ).loc main_arg4))) shapeCasts_S64x64_S4096) shapeCasts_S4096_S1x4096 : FVec Ideal S1x4096 .f32) e).trans ?_
  rw [as_row]
  refine (shapeCast_apply (s := S64x64) (t := S4096) _ shapeCasts_S64x64_S4096 (ix1 (col (grp t) k))
    (ix2 (head (grp t) k) (⟨(t.val % 8 * 512 + k.val) % 64, by omega⟩ : Fin 64)) (by
      rw [Shape.rowMajor_val_two, Shape.rowMajor_val_one]
      show (t.val % 8 * 512 + k.val) / 64 * 64 + (t.val % 8 * 512 + k.val) % 64 = t.val % 8 * 512 + k.val; omega)).trans ?_
  exact broadcastInDim_apply _ bcast_S64_S64x64_0 _ _ (ix1 (head (grp t) k)) (fun a => by
    match a with
    | ⟨0, _⟩ => rfl)

/-- The norm's gains the body reads at `t`. -/
theorem iblk5_apply (c : Dev nD) (t : Fin cfg0.N) (k : Fin 512) :
    (iblk m c 5 t : Vec Ideal S1x512 .f32) (ix2 0 k) = m ((c : Thread nD τ).loc main_arg5) (ix1 (col (grp t) k)) := by
  obtain ⟨_, _, _, _, _, ⟨h0, h1⟩, _⟩ := idx_facts t
  have hv : V m c main_v3 = (shapeCast S1x4096 (m ((c : Thread nD τ).loc main_arg5)) shapeCasts_S4096_S1x4096 : FVec Ideal S1x4096 .f32) := by
    unfold V; after_results
    rfl
  have e : ((cfg0.win 5).blk t).view.emb (ix2 0 k) = (ix2 (0 : Fin 1) (col (grp t) k) : S1x4096.Idx) := by
    funext a
    apply Fin.ext
    match a with
    | ⟨0, _⟩ => show win0_5.index t 0 * 1 + 1 * 0 = 0; rw [h0]
    | ⟨1, _⟩ => show win0_5.index t 1 * 512 + 1 * k.val = t.val % 8 * 512 + k.val; rw [h1]; omega
  unfold iblk
  rw [View.read_apply]
  show V m c main_v3 _ = _
  rw [hv]
  exact (congrArg (shapeCast S1x4096 (m ((c : Thread nD τ).loc main_arg5)) shapeCasts_S4096_S1x4096 : FVec Ideal S1x4096 .f32) e).trans
    (as_row _ _)

/-- The gated block the body works on, of its loads. -/
def block (yf yb x : Vec Ideal S1x256x512 .f32) (z : Vec Ideal S256x512 .f32) (d : Vec Ideal S1x512 .f32) (r : Fin 256) (k : Fin 512) : EReal :=
  gated (yf (ix3 0 r k)) (yb (ix3 0 r k)) (x (ix3 0 r k)) (d (ix2 0 k)) (z (ix2 r k))

/-- The same block as the body's tree of vector operations. -/
abbrev tree (yf yb x : Vec Ideal S1x256x512 .f32) (z : Vec Ideal S256x512 .f32) (d : Vec Ideal S1x512 .f32) : FVec Ideal S256x512 .f32 :=
  mulf (addf (addf (shapeCast S256x512 yf shapeCasts_S1x256x512_S256x512) (shapeCast S256x512 yb shapeCasts_S1x256x512_S256x512))
      (mulf (broadcastTo S256x512 (shapeCast S1x512 d shapeCasts_S1x512_S1x512) broadcasts_S1x512_S256x512)
        (shapeCast S256x512 x shapeCasts_S1x256x512_S256x512)))
    (mulf z (logistic z))

/-- A slab without its leading axis of one. -/
theorem slab_apply (v : Vec Ideal S1x256x512 .f32) (r : Fin 256) (k : Fin 512) :
    shapeCast S256x512 v shapeCasts_S1x256x512_S256x512 (ix2 r k) = v (ix3 0 r k) :=
  shapeCast_apply (s := S1x256x512) (t := S256x512) v shapeCasts_S1x256x512_S256x512 (ix2 r k) (ix3 0 r k) (by
    rw [Shape.rowMajor_val_three, Shape.rowMajor_val_two]; show (0 * 256 + r.val) * 512 + k.val = r.val * 512 + k.val; omega)

theorem tree_apply (yf yb x : Vec Ideal S1x256x512 .f32) (z : Vec Ideal S256x512 .f32) (d : Vec Ideal S1x512 .f32) (r : Fin 256) (k : Fin 512) :
    tree yf yb x z d (ix2 r k) = block yf yb x z d r k := by
  have ed : broadcastTo S256x512 (shapeCast S1x512 d shapeCasts_S1x512_S1x512) broadcasts_S1x512_S256x512 (ix2 r k) = d (ix2 0 k) :=
    (broadcastTo_apply _ broadcasts_S1x512_S256x512 (ix2 r k) (ix2 (0 : Fin 1) k) (fun a => by
      match a with | ⟨0, _⟩ => rfl | ⟨1, _⟩ => rfl)).trans
      (shapeCast_apply (s := S1x512) (t := S1x512) d shapeCasts_S1x512_S1x512 (ix2 (0 : Fin 1) k) (ix2 (0 : Fin 1) k) rfl)
  unfold tree
  rw [mulf_apply, addf_apply, addf_apply, mulf_apply, mulf_apply, slab_apply, slab_apply, slab_apply, ed]
  rfl

/-- What the body leaves, of its loads, at an index. -/
theorem E6_apply (yf yb x : Vec Ideal S1x256x512 .f32) (z : Vec Ideal S256x512 .f32) (d w : Vec Ideal S1x512 .f32)
    (r : Fin 256) (k : Fin 512) :
    Value.E6 (F := Ideal) yf yb d x z w (ix2 r k) = block yf yb x z d r k * groupScale (block yf yb x z d r) * w (ix2 0 k) := by
  have e0 : Value.ix6_0 (ix2 r k) = ix3 0 r k := funext fun a => Fin.ext (by
    match a with | ⟨0, _⟩ => rfl | ⟨1, _⟩ => rfl | ⟨2, _⟩ => rfl)
  have e1 : Value.ix6_1 (ix2 r k) = ix3 0 r k := funext fun a => Fin.ext (by
    match a with | ⟨0, _⟩ => rfl | ⟨1, _⟩ => rfl | ⟨2, _⟩ => rfl)
  have e2 : Value.ix6_2 (ix2 r k) = ix2 0 k := funext fun a => Fin.ext (by match a with | ⟨0, _⟩ => rfl | ⟨1, _⟩ => rfl)
  have e3 : Value.ix6_3 (ix2 r k) = ix3 0 r k := funext fun a => Fin.ext (by
    match a with | ⟨0, _⟩ => rfl | ⟨1, _⟩ => rfl | ⟨2, _⟩ => rfl)
  have e4 : Value.ix6_4 (ix2 r k) = ix2 r k := funext fun a => Fin.ext (by match a with | ⟨0, _⟩ => rfl | ⟨1, _⟩ => rfl)
  have e5 : Value.ix6_5 (ix2 r k) = ix2 r k := funext fun a => Fin.ext (by match a with | ⟨0, _⟩ => rfl | ⟨1, _⟩ => rfl)
  have e6 : Value.ix6_6 (ix2 r k) = ix1 r := funext fun a => Fin.ext (by match a with | ⟨0, _⟩ => rfl)
  have e7 : Value.ix6_7 (ix2 r k) = ix2 0 k := funext fun a => Fin.ext (by match a with | ⟨0, _⟩ => rfl | ⟨1, _⟩ => rfl)
  have es := sumSq_apply (tree yf yb x z d) reduces_S256x512_S256 (.inl rfl) rfl r
  simp only [tree_apply] at es
  unfold Value.E6
  rw [e0, e1, e2, e3, e4, e5, e6, e7]
  exact congrArg (fun s : EReal => block yf yb x z d r k * Ideal.rsqrt (Ideal.div s (Ideal.ofBits .f32 0x44000000#32)
      + Ideal.ofBits .f32 0x358637BD#32) * w (ix2 0 k)) es

/-- The block at `t` is the gated values of its tokens and group. -/
theorem block_apply (c : Dev nD) (t : Fin cfg0.N) (r : Fin 256) (k : Fin 512) :
    block (iblk m c 0 t) (iblk m c 1 t) (iblk m c 2 t) (iblk m c 3 t) (iblk m c 4 t) r k
      = gatedVal (m ((c : Thread nD τ).loc main_arg0)) (m ((c : Thread nD τ).loc main_arg1)) (m ((c : Thread nD τ).loc main_arg2))
          (m ((c : Thread nD τ).loc main_arg3)) (m ((c : Thread nD τ).loc main_arg4)) (tok t r) (grp t) k := by
  unfold block gatedVal
  rw [iblk0_apply m c t r k, iblk1_apply m c t r k, iblk2_apply m c t r k, iblk3_apply m c t r k, iblk4_apply m c t k]

/-- What point `t` writes back is block `t` of the gated norm. -/
theorem flushed_eq (c : Dev nD) (t : Fin cfg0.N) :
    (dats m 0 c).flushed 6 t = ((cfg0.win 6).blk t).view.read (Elt Ideal) (G m c) := by
  obtain ⟨_, _, _, _, _, _, h0, h1⟩ := idx_facts t
  rw [Value.flushed6]
  unfold out0_6
  rw [View.ld_unit_zero hz3, View.ld_unit_zero hz3, View.ld_unit_zero hz2, View.ld_unit_zero hz3, View.ld_unit_zero hz2, View.ld_unit_zero hz2]
  funext j
  rw [View.read_apply]
  obtain ⟨r, k, rfl⟩ : ∃ (r : Fin 256) (k : Fin 512), j = ix2 r k := ⟨j 0, j 1, eq_ix2 j⟩
  have e : ((cfg0.win 6).blk t).view.emb (ix2 r k) = ix2 (tok t r) (col (grp t) k) := by
    funext a
    apply Fin.ext
    match a with
    | ⟨0, _⟩ => show win0_6.index t 0 * 256 + 1 * r.val = t.val / 8 * 256 + r.val; rw [h0]; omega
    | ⟨1, _⟩ => show win0_6.index t 1 * 512 + 1 * k.val = t.val % 8 * 512 + k.val; rw [h1]; omega
  rw [e]
  refine (Value.canon6_eq (F := Ideal) (iblk m c 0 t) (iblk m c 1 t) (iblk m c 4 t) (iblk m c 2 t) (iblk m c 3 t) (iblk m c 5 t) (ix2 r k)).trans ?_
  rw [E6_apply, iblk5_apply m c t k, show block (iblk m c 0 t) (iblk m c 1 t) (iblk m c 2 t) (iblk m c 3 t) (iblk m c 4 t) r = _ from
    funext fun k => block_apply m c t r k]
  have eg : (⟨(col (grp t) k).val / 512, by omega⟩ : Fin 8) = grp t := Fin.ext (by
    show (t.val % 8 * 512 + k.val) / 512 = t.val % 8; omega)
  have ek : (⟨(col (grp t) k).val % 512, by omega⟩ : Fin 512) = k := Fin.ext (by
    show (t.val % 8 * 512 + k.val) % 512 = k.val; omega)
  show _ = finishAt _ _ _ _ _ _ (tok t r) (⟨(col (grp t) k).val / 512, _⟩ : Fin 8) (⟨(col (grp t) k).val % 512, _⟩ : Fin 512)
  rw [eg, ek]
  rfl

/-- An index of the result array is in point `t`'s block exactly when its row is in the tile and its column in the group. -/
theorem mem_blk (t : Fin cfg0.N) (i : S16896x4096.Idx) :
    i ∈ ((cfg0.win 6).blk t).view.set ↔ (t.val / 8 * 256 ≤ (i 0 : Nat) ∧ (i 0 : Nat) < t.val / 8 * 256 + 256)
      ∧ t.val % 8 * 512 ≤ (i 1 : Nat) ∧ (i 1 : Nat) < t.val % 8 * 512 + 512 := by
  obtain ⟨_, _, _, _, _, _, h0, h1⟩ := idx_facts t
  show i ∈ ((View.whole main_v4).slice (win0_6.rect t)).set ↔ _
  rw [View.set_slice_whole, Rect.mem_set_unit]
  constructor
  · intro h
    have a0 : win0_6.index t 0 * 256 ≤ (i 0 : Nat) ∧ (i 0 : Nat) < win0_6.index t 0 * 256 + 256 := h 0
    have a1 : win0_6.index t 1 * 512 ≤ (i 1 : Nat) ∧ (i 1 : Nat) < win0_6.index t 1 * 512 + 512 := h 1
    rw [h0] at a0
    rw [h1] at a1
    exact ⟨a0, a1⟩
  · intro h a
    match a with
    | ⟨0, _⟩ => show win0_6.index t 0 * 256 ≤ (i 0 : Nat) ∧ (i 0 : Nat) < win0_6.index t 0 * 256 + 256; rw [h0]; exact h.1
    | ⟨1, _⟩ => show win0_6.index t 1 * 512 ≤ (i 1 : Nat) ∧ (i 1 : Nat) < win0_6.index t 1 * 512 + 512; rw [h1]; exact h.2

/-- The blocks cover the result array. -/
theorem cover (i : S16896x4096.Idx) : ∃ t : Fin cfg0.N, (cfg0.win 6).flush t = true ∧ i ∈ ((cfg0.win 6).blk t).view.set := by
  have hN : cfg0.N = 528 := N_0
  have h0 : (i 0 : Nat) < 16896 := (i 0).isLt
  have h1 : (i 1 : Nat) < 4096 := (i 1).isLt
  refine ⟨⟨(i 0 : Nat) / 256 * 8 + (i 1 : Nat) / 512, by omega⟩, flush0_6 _, ?_⟩
  rw [mem_blk]
  dsimp only
  omega

/-- The run of the kernel: the result array ends as the gated norm, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((dats m 0 c).arrAt_eq_of_cover 6 (G m c) (fun t _ => flushed_eq m c t) cover),
    (h c).2⟩) (Value.run_blocks m ρ)

end Cert.SsdFinishIdeal.Finish

namespace Cert.SsdFinishRefIdeal.Finish

open Cert.SsdFinishRefIdeal Cert.SsdFinishRefIdeal.Gen

variable (x0 x1 : (⟨S8x16896x512, .f32⟩ : BufTy).Contents (Elt Ideal)) (x2 : (⟨S16x16896x512, .f32⟩ : BufTy).Contents (Elt Ideal))
  (x3 : (⟨S16896x12288, .f32⟩ : BufTy).Contents (Elt Ideal)) (x4 : (⟨S64, .f32⟩ : BufTy).Contents (Elt Ideal))
  (x5 : (⟨S4096, .f32⟩ : BufTy).Contents (Elt Ideal))

/-- Flattening the groups: column `C` of a token is column `C % 512` of group `C / 512`. -/
theorem group_idx (R : Fin 16896) (g : Fin 8) (k : Fin 512) : Read.idx_main_v2 (ix2 R (col g k)) = ix3 R g k :=
  funext fun a => Fin.ext (by
    match a with
    | ⟨0, _⟩ => show (R.val * 4096 + (g.val * 512 + k.val)) / 4096 = R.val; omega
    | ⟨1, _⟩ => show (R.val * 4096 + (g.val * 512 + k.val)) / 512 % 8 = g.val; omega
    | ⟨2, _⟩ => show (R.val * 4096 + (g.val * 512 + k.val)) % 512 = k.val; omega)

/-- Cutting a token's columns into heads and back is the same column. -/
theorem heads_idx (R : Fin 16896) (C : Fin 4096) : Read.idx_main_v3 (Read.idx_main_v15 (ix2 R C)) = ix2 R C :=
  funext fun a => Fin.ext (by
    have hR := R.isLt
    have hC := C.isLt
    match a with
    | ⟨0, _⟩ =>
      show (((R.val * 4096 + C.val) / 4096 * 64 + (R.val * 4096 + C.val) / 64 % 64) * 64 + (R.val * 4096 + C.val) % 64) / 4096 = R.val
      omega
    | ⟨1, _⟩ =>
      show (((R.val * 4096 + C.val) / 4096 * 64 + (R.val * 4096 + C.val) / 64 % 64) * 64 + (R.val * 4096 + C.val) % 64) % 4096 = C.val
      omega)

/-- The sum of the scans and the skipped input, at a token and a column of a group. -/
theorem sum_apply (R : Fin 16896) (g : Fin 8) (k : Fin 512) :
    Read.val_main_v15 (F := Ideal) x0 x1 x2 x4 (ix2 R (col g k))
      = x0 (ix3 g R k) + x1 (ix3 g R k) + x4 (ix1 (head g k)) * x2 (ix3 (⟨g.val, by omega⟩ : Fin 16) R k) := by
  have eh : Read.idx_main_v10 (Read.idx_main_v11 (Read.idx_main_v12 (Read.idx_main_v15 (ix2 R (col g k))))) = ix1 (head g k) :=
    funext fun a => Fin.ext (by
      match a with
      | ⟨0, _⟩ => show (R.val * 4096 + (g.val * 512 + k.val)) / 64 % 64 = (g.val * 512 + k.val) / 64; omega)
  have e9 : Read.idx_main_v9 (Read.idx_main_v15 (ix2 R (col g k))) = ix2 R (col g k) := heads_idx R (col g k)
  have e5 : Read.idx_main_v5 (ix2 R (col g k)) = ix3 R g k := group_idx R g k
  have e7 : Read.idx_main_v7 (ix2 R (col g k)) = ix3 R g k := group_idx R g k
  have et : Read.idx_main_v4 (ix3 R g k) = ix3 g R k := funext fun a => Fin.ext (by
    match a with | ⟨0, _⟩ => rfl | ⟨1, _⟩ => rfl | ⟨2, _⟩ => rfl)
  have et' : Read.idx_main_v6 (ix3 R g k) = ix3 g R k := et
  have ex : Read.idx_main_v0 (Read.idx_main_v1 (ix3 R g k)) = ix3 (⟨g.val, by omega⟩ : Fin 16) R k := funext fun a => Fin.ext (by
    match a with | ⟨0, _⟩ => rfl | ⟨1, _⟩ => rfl | ⟨2, _⟩ => rfl)
  rw [Read.val_main_v15_apply, Read.val_main_v14_apply, Read.val_main_v9_apply, e9, Read.val_main_v8_apply, Read.val_main_v5_apply,
    Read.val_main_v7_apply, e5, e7, Read.val_main_v4_apply, Read.val_main_v6_apply, et, et', Read.val_main_v13_apply,
    Read.val_main_v12_apply, Read.val_main_v11_apply, Read.val_main_v10_apply, eh, Read.val_main_v3_apply, heads_idx,
    Read.val_main_v2_apply, group_idx, Read.val_main_v1_apply, Read.val_main_v0_apply, ex]
  rfl

/-- The gate at a token and a column. -/
theorem gate_apply (R : Fin 16896) (g : Fin 8) (k : Fin 512) :
    Read.val_main_v17 (F := Ideal) x3 (ix2 R (col g k))
      = x3 (ix2 R (⟨g.val * 512 + k.val, by omega⟩ : Fin 12288)) * Ideal.logistic (x3 (ix2 R (⟨g.val * 512 + k.val, by omega⟩ : Fin 12288))) := by
  have ez : Read.idx_main_v16 (ix2 R (col g k)) = ix2 R (⟨g.val * 512 + k.val, by omega⟩ : Fin 12288) := funext fun a => Fin.ext (by
    match a with | ⟨0, _⟩ => rfl | ⟨1, _⟩ => rfl)
  rw [Read.val_main_v17_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, Read.val_main_v16_apply, ez]
  show _ * Ideal.div (Ideal.ofBits .f32 0x3F800000#32) (Ideal.ofBits .f32 0x3F800000#32 + Ideal.exp (- _)) = _
  rw [Ideal.ofBits_one_f32]
  rfl

/-- The gated value, cut into groups. -/
theorem gated_apply (R : Fin 16896) (g : Fin 8) (k : Fin 512) :
    Read.val_main_v19 (F := Ideal) x0 x1 x2 x3 x4 (ix3 R g k) = gatedVal x0 x1 x2 x3 x4 R g k := by
  have e : Read.idx_main_v19 (ix3 R g k) = ix2 R (col g k) := funext fun a => Fin.ext (by
    match a with
    | ⟨0, _⟩ => show ((R.val * 8 + g.val) * 512 + k.val) / 4096 = R.val; omega
    | ⟨1, _⟩ => show ((R.val * 8 + g.val) * 512 + k.val) % 4096 = g.val * 512 + k.val; omega)
  rw [Read.val_main_v19_apply, e, Read.val_main_v18_apply, sum_apply, gate_apply]
  rfl

/-- A group's scale. -/
theorem scale_apply (R : Fin 16896) (g : Fin 8) (k : Fin 512) :
    Read.val_main_v28 (F := Ideal) x0 x1 x2 x3 x4 (ix3 R g k) = groupScale (gatedVal x0 x1 x2 x3 x4 R g) := by
  rw [Read.val_main_v28_apply, Read.val_main_v27_apply, Read.val_main_v26_apply, Read.val_main_v24_apply, Read.val_main_v22_apply,
    Read.val_main_v21_apply, Read.val_main_v23_apply, Read.val_main_v25_apply, Read.val_main_cst_apply, Read.val_main_cst_0_apply,
    Read.val_main_cst_1_apply]
  unfold groupScale
  have e : ∀ j : Fin 512, Read.val_main_v20 (F := Ideal) x0 x1 x2 x3 x4 (Read.idx_main_v21 (Read.idx_main_v22 (Read.idx_main_v28 (ix3 R g k))) j)
      = gatedVal x0 x1 x2 x3 x4 R g j * gatedVal x0 x1 x2 x3 x4 R g j := fun j => by
    have ei : Read.idx_main_v21 (Read.idx_main_v22 (Read.idx_main_v28 (ix3 R g k))) j = ix3 R g j := funext fun a => Fin.ext (by
      match a with | ⟨0, _⟩ => rfl | ⟨1, _⟩ => rfl | ⟨2, _⟩ => rfl)
    rw [Read.val_main_v20_apply, ei, gated_apply]
    rfl
  simp only [e, Ideal.ofBits_def, Ideal.ofBits_zero_f32, zero_add]
  rfl

/-- The host's result at a token and a column is the gated norm. -/
theorem val_apply (i : S16896x4096.Idx) :
    Read.val_main_v34 (F := Ideal) x0 x1 x2 x3 x4 x5 i = finishAt x0 x1 x2 x3 x4 x5 (i 0)
      (⟨(i 1).val / 512, by have h : (i 1).val < 4096 := (i 1).isLt; omega⟩ : Fin 8) (⟨(i 1).val % 512, by omega⟩ : Fin 512) := by
  obtain ⟨R, C, rfl⟩ : ∃ (R : Fin 16896) (C : Fin 4096), i = ix2 R C := ⟨i 0, i 1, eq_ix2 i⟩
  obtain ⟨g, k, rfl⟩ : ∃ (g : Fin 8) (k : Fin 512), C = col g k :=
    ⟨⟨C.val / 512, by omega⟩, ⟨C.val % 512, by omega⟩, Fin.ext (by show C.val = C.val / 512 * 512 + C.val % 512; omega)⟩
  have eg : (⟨(col g k).val / 512, by omega⟩ : Fin 8) = g := Fin.ext (by show (g.val * 512 + k.val) / 512 = g.val; omega)
  have ek : (⟨(col g k).val % 512, by omega⟩ : Fin 512) = k := Fin.ext (by show (g.val * 512 + k.val) % 512 = k.val; omega)
  show _ = finishAt _ _ _ _ _ _ R (⟨(col g k).val / 512, _⟩ : Fin 8) (⟨(col g k).val % 512, _⟩ : Fin 512)
  rw [eg, ek]
  have e30 : Read.idx_main_v30 (ix2 R (col g k)) = ix3 R g k := group_idx R g k
  have ew : Read.idx_main_v31 (Read.idx_main_v32 (ix2 R (col g k))) = ix1 (col g k) := funext fun a => Fin.ext (by
    match a with | ⟨0, _⟩ => rfl)
  rw [Read.val_main_v34_apply, Read.val_main_v33_apply, Read.val_main_v30_apply, e30, Read.val_main_v29_apply, gated_apply, scale_apply,
    Read.val_main_v32_apply, Read.val_main_v31_apply, ew]
  rfl

end Cert.SsdFinishRefIdeal.Finish

namespace Cert.Proof.SsdFinish

/-- The reference runs and leaves its arguments as they were. -/
theorem frame_ref : Cert.quiescent_SsdFinishRefIdeal := fun m ρ _ =>
  (θ_run Cert.SsdFinishRefIdeal.defs _ _).mono (fun r h => ⟨fun c => (h c).2,
      Idealize.ShloMosaic.sem_eq_zero_of_no_sems (by decide) r.2⟩)
    (Cert.SsdFinishRefIdeal.Value.run (F := Ideal) m ρ)

/-- The kernel and the reference compute the same gated norm. -/
theorem algebraic : Cert.algebraic_SsdFinishIdeal_SsdFinishRefIdeal := fun m ρ m' ρ' _ hag =>
  ⟨fun c => Cert.SsdFinishIdeal.Finish.G m c, Cert.SsdFinishIdeal.Finish.run m ρ,
    (θ_run Cert.SsdFinishRefIdeal.defs _ _).mono (fun _ h c => ⟨by
        rw [(h c).1, Cert.SsdFinishRefIdeal.Read.val_main_v34_eq, (hag c).1, (hag c).2.1, (hag c).2.2.1, (hag c).2.2.2.1,
          (hag c).2.2.2.2.1, (hag c).2.2.2.2.2]
        exact funext fun i => Cert.SsdFinishRefIdeal.Finish.val_apply _ _ _ _ _ _ i, (h c).2⟩)
      (Cert.SsdFinishRefIdeal.Value.run (F := Ideal) m' ρ')⟩

end Cert.Proof.SsdFinish

end
-- ==== Proof.ConvHalo.lean ====
/-
  A centred convolution of width three over neighbouring tokens, context and latents of each batch a sequence of its own.
  `conv` is the value at a token. A tile of 256 tokens with one row of either neighbouring tile gives it (`tile_apply`), and
  so do the host's two padded sequences (`both_apply`).
-/
module

public import Idealize.ShloMosaic.Lib.Pipeline.Value
public import Idealize.ShloMosaic.Lib.ValueIdx
public import Idealize.ShloMosaic.Lib.KernelVsHost
public import Idealize.ShloMosaic.Lib.IdealHost

@[expose] public section

set_option maxRecDepth 16384

noncomputable section

open Idealize.ShloMosaic Idealize.ShloMosaic.ValueIdx

namespace Cert.ConvHalo

/-! ## The convolution -/

/-- The value of the token before, zero at a sequence's first token. -/
def before (u : Fin 16896 → EReal) (R : Fin 16896) : EReal :=
  if h : R.val % 8448 = 0 ∨ R.val % 8448 = 256 then 0 else u ⟨R.val - 1, by omega⟩

/-- The value of the token after, zero at a sequence's last token. -/
def after (u : Fin 16896 → EReal) (R : Fin 16896) : EReal :=
  if h : R.val % 8448 = 255 ∨ R.val % 8448 = 8447 then 0 else u ⟨R.val + 1, by omega⟩

/-- The three tokens around `R`, weighted. -/
def conv (u : Fin 16896 → EReal) (w : Fin 3 → EReal) (R : Fin 16896) : EReal :=
  before u R * w 0 + u R * w 1 + after u R * w 2

/-! ## A tile of the kernel -/

abbrev Tile : Shape := ⟨2, ![256, 512]⟩
abbrev Row : Shape := ⟨2, ![1, 512]⟩

/-- The number of a tile within its batch, as the kernel computes it from the tile's number. -/
def inBatch (n : Nat) : BitVec 32 :=
  let a : BitVec 32 := BitVec.ofNat 32 n
  let d : BitVec 32 := Scalar.select (Scalar.cmpi .eq 33#32 0#32) 1#32 33#32
  let q : BitVec 32 := Scalar.remsi a d
  Scalar.select (Scalar.andi (Scalar.xori (Scalar.cmpi .slt q 0#32) (Scalar.cmpi .slt d 0#32)) (Scalar.cmpi .ne q 0#32)) (Scalar.addi q d) q

/-- Whether the tile before is of the same sequence … -/
def hasPrev (n : Nat) : BitVec 1 := Scalar.cmpi .sge (inBatch n) 2#32

/-- … and the tile after. -/
def hasNext (n : Nat) : BitVec 1 := Scalar.andi (Scalar.cmpi .sge (inBatch n) 1#32) (Scalar.cmpi .slt (inBatch n) 32#32)

theorem hasPrev_eq : ∀ i : Fin 66, hasPrev i.val = if 2 ≤ i.val % 33 then 1#1 else 0#1 := by decide +kernel

theorem hasNext_eq : ∀ i : Fin 66, hasNext i.val = if 1 ≤ i.val % 33 ∧ i.val % 33 < 32 then 1#1 else 0#1 := by decide +kernel

/-- The row next to a tile, zero where the neighbour is not of the same sequence. -/
abbrev edge (c : BitVec 1) (e : FVec Ideal Row .f32) : FVec Ideal Row .f32 :=
  Scalar.select c e (broadcast Row (Scalar.ofBits (F := Ideal) .f32 0x00000000#32))

/-- A tile shifted by `by_` rows around its end, with row `at_` replaced by an edge. -/
abbrev shifted (by_ at_ : BitVec 32) (hi : Tile.Iotas .tc 32 [0]) (hr : Tile.Rotates 0 none) (hc : Row.ShapeCasts Row)
    (hb : Row.Broadcasts Tile) (x : FVec Ideal Tile .f32) (e : FVec Ideal Row .f32) : FVec Ideal Tile .f32 :=
  select (cmpi .eq (iota .tc Tile 32 [0] hi) (broadcast Tile at_)) (broadcastTo Tile (shapeCast Row e hc) hb)
    (dynamicRotate 0 by_ none x hr)

/-- The tile's convolution, as the kernel's body writes it. -/
abbrev tile (n : Nat) (hi : Tile.Iotas .tc 32 [0]) (hr : Tile.Rotates 0 none) (hc : Row.ShapeCasts Row)
    (hb : Row.Broadcasts Tile) (x : FVec Ideal Tile .f32) (p q w0 w1 w2 : FVec Ideal Row .f32) : FVec Ideal Tile .f32 :=
  addf (addf (mulf (shifted 1#32 0#32 hi hr hc hb x (edge (hasPrev n) p)) (broadcastTo Tile w0 hb)) (mulf x (broadcastTo Tile w1 hb)))
    (mulf (shifted 255#32 255#32 hi hr hc hb x (edge (hasNext n) q)) (broadcastTo Tile w2 hb))

/-- A load of one row of a few. -/
theorem ld_row {n : Nat} (X : Vec Ideal ⟨2, ![n, 512]⟩ .f32) (o : Fin n)
    (inb : ∀ a, (![o.val, 0] : Fin 2 → Nat) a + Row.size a ≤ (⟨2, ![n, 512]⟩ : Shape).size a) (k : Fin 512) :
    View.ld X (Rect.unit (s := ⟨2, ![n, 512]⟩) ![o.val, 0] Row.size inb) (ix2 (0 : Fin 1) k) = X (ix2 o k) := by
  rw [View.ld_unit]
  exact extractStridedSlice_apply (s := ⟨2, ![n, 512]⟩) (t := Row) _ X _ _ (ix2 o k) (fun a => by
    match a with
    | ⟨0, _⟩ => rfl
    | ⟨1, _⟩ => show k.val = 0 + k.val; omega)

/-- One row over a tile. -/
theorem row_apply (hb : Row.Broadcasts Tile) (w : FVec Ideal Row .f32) (r : Fin 256) (k : Fin 512) :
    broadcastTo Tile w hb (ix2 r k) = w (ix2 0 k) :=
  broadcastTo_apply w hb (ix2 r k) (ix2 (0 : Fin 1) k) (fun a => by match a with | ⟨0, _⟩ => rfl | ⟨1, _⟩ => rfl)

/-- A tile shifted by `s` rows: row `a` is the edge, the others the row `s` before, counted around the end. -/
theorem shifted_apply (s a : Fin 256) (hi : Tile.Iotas .tc 32 [0]) (hr : Tile.Rotates 0 none) (hc : Row.ShapeCasts Row)
    (hb : Row.Broadcasts Tile) (x : FVec Ideal Tile .f32) (e : FVec Ideal Row .f32) (r : Fin 256) (k : Fin 512) :
    shifted (BitVec.ofNat 32 s.val) (BitVec.ofNat 32 a.val) hi hr hc hb x e (ix2 r k)
      = if r = a then e (ix2 0 k) else x (ix2 (⟨(r.val + 256 - s.val) % 256, by omega⟩ : Fin 256) k) := by
  unfold shifted
  rw [select_apply, row_apply, shapeCast_apply e hc (ix2 (0 : Fin 1) k) (ix2 (0 : Fin 1) k) rfl,
    dynamicRotate_apply 0 (BitVec.ofNat 32 s.val) x hr (ix2 r k) (ix2 (⟨(r.val + 256 - s.val) % 256, by omega⟩ : Fin 256) k) (fun b => by
      match b with
      | ⟨0, _⟩ =>
        show (r.val + 256 - s.val) % 256 = (r.val + 256 - (BitVec.ofNat 32 s.val).toNat % 256) % 256
        rw [BitVec.toNat_ofNat, Nat.mod_eq_of_lt (by omega : s.val < 2 ^ 32), Nat.mod_eq_of_lt s.isLt]
      | ⟨1, _⟩ => rfl)]
  show Scalar.select (IntOp.cmpi .eq (iota .tc Tile 32 [0] hi (ix2 r k)) (BitVec.ofNat 32 a.val)) _ _ = _
  rw [iota_single_apply]
  show Scalar.select (IntOp.cmpi .eq (BitVec.ofNat 32 r.val) (BitVec.ofNat 32 a.val)) _ _ = _
  by_cases h : r = a
  · subst h
    rw [if_pos rfl]
    simp [IntOp.cmpi, Scalar.select]
  · have hn : BitVec.ofNat 32 r.val ≠ BitVec.ofNat 32 a.val := fun he => h (Fin.ext (by
      have := congrArg BitVec.toNat he
      rw [BitVec.toNat_ofNat, BitVec.toNat_ofNat, Nat.mod_eq_of_lt (by omega), Nat.mod_eq_of_lt (by omega)] at this
      exact this))
    rw [if_neg h]
    have hf : (BitVec.ofNat 32 r.val == BitVec.ofNat 32 a.val) = false := beq_eq_false_iff_ne.mpr hn
    simp [IntOp.cmpi, Scalar.select, hf]

/-- The edge row at a column. -/
theorem edge_apply (P : Prop) [Decidable P] (c : BitVec 1) (hc : c = if P then 1#1 else 0#1) (e : FVec Ideal Row .f32) (k : Fin 512) :
    edge c e (ix2 0 k) = if P then e (ix2 0 k) else 0 := by
  unfold edge
  by_cases h : P
  · rw [hc, if_pos h, if_pos h]; rfl
  · rw [hc, if_neg h, if_neg h]; exact Ideal.ofBits_zero_f32

/-- Row `r` of tile `i`, among all tokens. -/
abbrev tok (i : Fin 66) (r : Fin 256) : Fin 16896 := ⟨i.val * 256 + r.val, by omega⟩

/-- A tile of values `u`, with the last row of the tile before and the first of the tile after where there are such, gives
    the convolution of its tokens. -/
theorem tile_apply (i : Fin 66) (hi : Tile.Iotas .tc 32 [0]) (hr : Tile.Rotates 0 none) (hc : Row.ShapeCasts Row)
    (hb : Row.Broadcasts Tile) (x : FVec Ideal Tile .f32) (p q w0 w1 w2 : FVec Ideal Row .f32) (u : Fin 16896 → EReal) (v : Fin 3 → EReal) (r : Fin 256) (k : Fin 512)
    (hx : ∀ r : Fin 256, x (ix2 r k) = u (tok i r))
    (hp : ∀ h : 2 ≤ i.val % 33, p (ix2 0 k) = u ⟨i.val * 256 - 1, by omega⟩)
    (hq : ∀ h : i.val % 33 < 32, q (ix2 0 k) = u ⟨i.val * 256 + 256, by omega⟩)
    (h0 : w0 (ix2 0 k) = v 0) (h1 : w1 (ix2 0 k) = v 1) (h2 : w2 (ix2 0 k) = v 2) :
    tile i.val hi hr hc hb x p q w0 w1 w2 (ix2 r k) = conv u v (tok i r) := by
  have eb : shifted 1#32 0#32 hi hr hc hb x (edge (hasPrev i.val) p) (ix2 r k) = before u (tok i r) := by
    rw [show (1#32 : BitVec 32) = BitVec.ofNat 32 (1 : Fin 256).val from rfl, show (0#32 : BitVec 32) = BitVec.ofNat 32 (0 : Fin 256).val from rfl,
      shifted_apply, edge_apply _ _ (hasPrev_eq i)]
    unfold before
    by_cases h0 : r = 0
    · subst h0
      rw [if_pos rfl]
      by_cases h : 2 ≤ i.val % 33
      · rw [if_pos h, dif_neg (by show ¬((i.val * 256 + 0) % 8448 = 0 ∨ (i.val * 256 + 0) % 8448 = 256); omega), hp h]
        exact congrArg u (Fin.ext rfl)
      · rw [if_neg h, dif_pos (by show (i.val * 256 + 0) % 8448 = 0 ∨ (i.val * 256 + 0) % 8448 = 256; omega)]
    · have hr0 : r.val ≠ 0 := fun h => h0 (Fin.ext h)
      rw [if_neg h0, dif_neg (by show ¬((i.val * 256 + r.val) % 8448 = 0 ∨ (i.val * 256 + r.val) % 8448 = 256); omega), hx]
      exact congrArg u (Fin.ext (by show i.val * 256 + (r.val + 256 - 1) % 256 = i.val * 256 + r.val - 1; omega))
  have ea : shifted 255#32 255#32 hi hr hc hb x (edge (hasNext i.val) q) (ix2 r k) = after u (tok i r) := by
    rw [show (255#32 : BitVec 32) = BitVec.ofNat 32 (255 : Fin 256).val from rfl, shifted_apply, edge_apply _ _ (hasNext_eq i)]
    unfold after
    by_cases h0 : r = 255
    · subst h0
      rw [if_pos rfl]
      by_cases h : 1 ≤ i.val % 33 ∧ i.val % 33 < 32
      · rw [if_pos h, dif_neg (by show ¬((i.val * 256 + 255) % 8448 = 255 ∨ (i.val * 256 + 255) % 8448 = 8447); omega), hq h.2]
        exact congrArg u (Fin.ext rfl)
      · rw [if_neg h, dif_pos (by show (i.val * 256 + 255) % 8448 = 255 ∨ (i.val * 256 + 255) % 8448 = 8447; omega)]
    · have hr0 : r.val ≠ 255 := fun h => h0 (Fin.ext h)
      rw [if_neg h0, dif_neg (by show ¬((i.val * 256 + r.val) % 8448 = 255 ∨ (i.val * 256 + r.val) % 8448 = 8447); omega), hx]
      exact congrArg u (Fin.ext (by show i.val * 256 + (r.val + 256 - 255) % 256 = i.val * 256 + r.val + 1; omega))
  show shifted 1#32 0#32 hi hr hc hb x (edge (hasPrev i.val) p) (ix2 r k) * broadcastTo Tile w0 hb (ix2 r k)
      + x (ix2 r k) * broadcastTo Tile w1 hb (ix2 r k)
      + shifted 255#32 255#32 hi hr hc hb x (edge (hasNext i.val) q) (ix2 r k) * broadcastTo Tile w2 hb (ix2 r k) = _
  rw [eb, ea, hx, row_apply, row_apply, row_apply, h0, h1, h2]
  rfl

/-! ## The host's padded sequences -/

/-- What the host's operations on sequences of `L` tokens and `W` columns, `M` with the padding, ask of the shapes. -/
structure SeqFacts (L M W : Nat) : Prop where
  pads : (⟨3, ![2, L, W]⟩ : Shape).Pads (![0, 1, 0] : Fin 3 → Nat) ![0, 1, 0] ![0, 0, 0] ⟨3, ![2, M, W]⟩
  one : 0 < (⟨0, ![]⟩ : Shape).numel
  cut0 : (⟨3, ![2, M, W]⟩ : Shape).Slices ![0, 0, 0] ⟨3, ![2, L, W]⟩
  cut1 : (⟨3, ![2, M, W]⟩ : Shape).Slices ![0, 1, 0] ⟨3, ![2, L, W]⟩
  cut2 : (⟨3, ![2, M, W]⟩ : Shape).Slices ![0, 2, 0] ⟨3, ![2, L, W]⟩
  tap0 : (⟨2, ![3, W]⟩ : Shape).Slices ![0, 0] ⟨2, ![1, W]⟩
  tap1 : (⟨2, ![3, W]⟩ : Shape).Slices ![1, 0] ⟨2, ![1, W]⟩
  tap2 : (⟨2, ![3, W]⟩ : Shape).Slices ![2, 0] ⟨2, ![1, W]⟩
  flat : (⟨2, ![1, W]⟩ : Shape).ShapeCasts ⟨1, ![W]⟩
  up : (⟨1, ![W]⟩ : Shape).BroadcastsInDim ⟨3, ![1, 1, W]⟩ (![2] : Fin 1 → Fin 3)
  over : (⟨3, ![1, 1, W]⟩ : Shape).BroadcastsInDim ⟨3, ![2, L, W]⟩ (![0, 1, 2] : Fin 3 → Fin 3)

variable {L M W : Nat}

/-- One tap's weights over the sequences. -/
abbrev tap (h : SeqFacts L M W) (o : Nat) (hs : (⟨2, ![3, W]⟩ : Shape).Slices ![o, 0] ⟨2, ![1, W]⟩)
    (w : FVec Ideal ⟨2, ![3, W]⟩ .f32) : FVec Ideal ⟨3, ![2, L, W]⟩ .f32 :=
  broadcastInDim ⟨3, ![2, L, W]⟩ ![0, 1, 2] h.over (broadcastInDim ⟨3, ![1, 1, W]⟩ ![2] h.up
    (shapeCast ⟨1, ![W]⟩ (extractStridedSlice ⟨2, ![1, W]⟩ ![o, 0] w hs) h.flat))

theorem tap_apply (h : SeqFacts L M W) (o : Fin 3) (hs : (⟨2, ![3, W]⟩ : Shape).Slices ![o.val, 0] ⟨2, ![1, W]⟩)
    (w : FVec Ideal ⟨2, ![3, W]⟩ .f32) (b : Fin 2) (l : Fin L) (c : Fin W) : tap h o.val hs w (ix3 b l c) = w (ix2 o c) := by
  unfold tap
  rw [broadcastInDim_apply _ h.over _ (ix3 b l c) (ix3 (0 : Fin 1) (0 : Fin 1) c) (fun a => by
      match a with
      | ⟨0, _⟩ => rfl
      | ⟨1, _⟩ => rfl
      | ⟨2, _⟩ => show c.val = if W = 1 then 0 else c.val; split <;> omega),
    broadcastInDim_apply _ h.up _ (ix3 (0 : Fin 1) (0 : Fin 1) c) (ix1 c) (fun a => by
      match a with
      | ⟨0, _⟩ => show c.val = if W = 1 then 0 else c.val; split <;> omega),
    shapeCast_apply _ h.flat (ix1 c) (ix2 (0 : Fin 1) c) (by
      rw [Shape.rowMajor_val_two, Shape.rowMajor_val_one]; show 0 * W + c.val = c.val; omega)]
  exact extractStridedSlice_apply _ w hs _ (ix2 o c) (fun a => by
    match a with
    | ⟨0, _⟩ => show o.val = o.val + 0; omega
    | ⟨1, _⟩ => show c.val = 0 + c.val; omega)

/-- The sequences with a row of `z` on either side. -/
abbrev padded (h : SeqFacts L M W) (z : FVec Ideal ⟨0, ![]⟩ .f32) (y : FVec Ideal ⟨3, ![2, L, W]⟩ .f32) : FVec Ideal ⟨3, ![2, M, W]⟩ .f32 :=
  pad ⟨3, ![2, M, W]⟩ ![0, 1, 0] ![0, 1, 0] ![0, 0, 0] y z h.pads h.one

/-- The padded sequences from row `s` on: row `l` is row `l + s - 1` of the sequences, or the padding. -/
theorem cut_apply (h : SeqFacts L M W) (z : FVec Ideal ⟨0, ![]⟩ .f32) (hz : ∀ i, z i = 0) (y : FVec Ideal ⟨3, ![2, L, W]⟩ .f32)
    (s : Nat) (hs : (⟨3, ![2, M, W]⟩ : Shape).Slices ![0, s, 0] ⟨3, ![2, L, W]⟩) (b : Fin 2) (l : Fin L) (c : Fin W) :
    extractStridedSlice ⟨3, ![2, L, W]⟩ ![0, s, 0] (padded h z y) hs (ix3 b l c)
      = if g : 1 ≤ l.val + s ∧ l.val + s < L + 1 then y (ix3 b (⟨l.val + s - 1, by omega⟩ : Fin L) c) else 0 := by
  have hb : s + L ≤ M := hs.2 1
  rw [extractStridedSlice_apply _ _ hs (ix3 b l c) (ix3 b (⟨s + l.val, by omega⟩ : Fin M) c) (fun a => by
    match a with
    | ⟨0, _⟩ => show b.val = 0 + b.val; omega
    | ⟨1, _⟩ => rfl
    | ⟨2, _⟩ => show c.val = 0 + c.val; omega)]
  by_cases g : 1 ≤ l.val + s ∧ l.val + s < L + 1
  · rw [dif_pos g]
    exact pad_apply_of_inside _ _ _ y z h.pads h.one _ (ix3 b (⟨l.val + s - 1, by omega⟩ : Fin L) c) (fun a => by
      match a with
      | ⟨0, _⟩ => show b.val = 0 + b.val * (0 + 1); omega
      | ⟨1, _⟩ => show s + l.val = 1 + (l.val + s - 1) * (0 + 1); omega
      | ⟨2, _⟩ => show c.val = 0 + c.val * (0 + 1); omega)
  · rw [dif_neg g]
    refine (pad_apply_of_not_inside _ _ _ y z h.pads h.one _ 1 ?_).trans (hz _)
    show ¬(1 ≤ s + l.val ∧ (s + l.val - 1) % (0 + 1) = 0 ∧ (s + l.val - 1) / (0 + 1) < L)
    omega

/-- The convolution of the sequences, as the host writes it. -/
abbrev seqs (h : SeqFacts L M W) (z : FVec Ideal ⟨0, ![]⟩ .f32) (y : FVec Ideal ⟨3, ![2, L, W]⟩ .f32) (w : FVec Ideal ⟨2, ![3, W]⟩ .f32) :
    FVec Ideal ⟨3, ![2, L, W]⟩ .f32 :=
  addf (addf (mulf (extractStridedSlice ⟨3, ![2, L, W]⟩ ![0, 0, 0] (padded h z y) h.cut0) (tap h 0 h.tap0 w))
      (mulf (extractStridedSlice ⟨3, ![2, L, W]⟩ ![0, 1, 0] (padded h z y) h.cut1) (tap h 1 h.tap1 w)))
    (mulf (extractStridedSlice ⟨3, ![2, L, W]⟩ ![0, 2, 0] (padded h z y) h.cut2) (tap h 2 h.tap2 w))

theorem seqs_apply (h : SeqFacts L M W) (z : FVec Ideal ⟨0, ![]⟩ .f32) (hz : ∀ i, z i = 0) (y : FVec Ideal ⟨3, ![2, L, W]⟩ .f32)
    (w : FVec Ideal ⟨2, ![3, W]⟩ .f32) (b : Fin 2) (l : Fin L) (c : Fin W) :
    seqs h z y w (ix3 b l c)
      = (if g : 1 ≤ l.val then y (ix3 b (⟨l.val - 1, by omega⟩ : Fin L) c) else 0) * w (ix2 0 c) + y (ix3 b l c) * w (ix2 1 c)
        + (if g : l.val + 1 < L then y (ix3 b (⟨l.val + 1, g⟩ : Fin L) c) else 0) * w (ix2 2 c) := by
  have c0 := cut_apply h z hz y 0 h.cut0 b l c
  have c1 := cut_apply h z hz y 1 h.cut1 b l c
  have c2 := cut_apply h z hz y 2 h.cut2 b l c
  rw [dif_pos ⟨by omega, by omega⟩] at c1
  have t0 := tap_apply h 0 h.tap0 w b l c
  have t1 := tap_apply h 1 h.tap1 w b l c
  have t2 := tap_apply h 2 h.tap2 w b l c
  have d0 : (if g : 1 ≤ l.val + 0 ∧ l.val + 0 < L + 1 then y (ix3 b (⟨l.val + 0 - 1, by omega⟩ : Fin L) c) else 0)
      = if g : 1 ≤ l.val then y (ix3 b (⟨l.val - 1, by omega⟩ : Fin L) c) else 0 := by
    by_cases g : 1 ≤ l.val
    · rw [dif_pos g, dif_pos ⟨by omega, by omega⟩]; rfl
    · rw [dif_neg g, dif_neg (by omega)]
  have d2 : (if g : 1 ≤ l.val + 2 ∧ l.val + 2 < L + 1 then y (ix3 b (⟨l.val + 2 - 1, by omega⟩ : Fin L) c) else 0)
      = if g : l.val + 1 < L then y (ix3 b (⟨l.val + 1, g⟩ : Fin L) c) else 0 := by
    by_cases g : l.val + 1 < L
    · rw [dif_pos g, dif_pos ⟨by omega, by omega⟩]; rfl
    · rw [dif_neg g, dif_neg (by omega)]
  exact congrArg₂ (· + ·) (congrArg₂ (· + ·) (congrArg₂ (· * ·) (c0.trans d0) t0) (congrArg₂ (· * ·) c1 t1)) (congrArg₂ (· * ·) (c2.trans d2) t2)

/-- What taking the two sequences of each batch apart and putting them together again asks of the shapes. -/
structure BothFacts (W : Nat) : Prop where
  ctx : SeqFacts 256 258 W
  lat : SeqFacts 8192 8194 W
  split : (⟨2, ![16896, W]⟩ : Shape).ShapeCasts ⟨3, ![2, 8448, W]⟩
  cutc : (⟨3, ![2, 8448, W]⟩ : Shape).Slices ![0, 0, 0] ⟨3, ![2, 256, W]⟩
  cutl : (⟨3, ![2, 8448, W]⟩ : Shape).Slices ![0, 256, 0] ⟨3, ![2, 8192, W]⟩
  join : Shape.Concatenates [(⟨3, ![2, 256, W]⟩ : Shape), ⟨3, ![2, 8192, W]⟩] ⟨3, ![2, 8448, W]⟩ 1
  merge : (⟨3, ![2, 8448, W]⟩ : Shape).ShapeCasts ⟨2, ![16896, W]⟩

/-- The convolution of all tokens, as the host writes it. -/
abbrev both (h : BothFacts W) (z z' : FVec Ideal ⟨0, ![]⟩ .f32) (u : FVec Ideal ⟨2, ![16896, W]⟩ .f32) (w : FVec Ideal ⟨2, ![3, W]⟩ .f32) :
    FVec Ideal ⟨2, ![16896, W]⟩ .f32 :=
  shapeCast ⟨2, ![16896, W]⟩ (concatenate ⟨3, ![2, 8448, W]⟩ 1
    [⟨⟨3, ![2, 256, W]⟩, seqs h.ctx z (extractStridedSlice ⟨3, ![2, 256, W]⟩ ![0, 0, 0] (shapeCast ⟨3, ![2, 8448, W]⟩ u h.split) h.cutc) w⟩,
     ⟨⟨3, ![2, 8192, W]⟩, seqs h.lat z' (extractStridedSlice ⟨3, ![2, 8192, W]⟩ ![0, 256, 0] (shapeCast ⟨3, ![2, 8448, W]⟩ u h.split) h.cutl) w⟩]
    h.join) h.merge

/-- Token `l` of batch `b`. -/
abbrev bt (b : Fin 2) (l : Fin 8448) : Fin 16896 := ⟨b.val * 8448 + l.val, by omega⟩

theorem split_apply (h : BothFacts W) (u : FVec Ideal ⟨2, ![16896, W]⟩ .f32) (b : Fin 2) (l : Fin 8448) (c : Fin W) :
    shapeCast ⟨3, ![2, 8448, W]⟩ u h.split (ix3 b l c) = u (ix2 (bt b l) c) :=
  shapeCast_apply u h.split (ix3 b l c) (ix2 (bt b l) c) (by rw [Shape.rowMajor_val_two, Shape.rowMajor_val_three]; rfl)

/-- The context's and the latents' parts. -/
theorem ctx_apply (h : BothFacts W) (u : FVec Ideal ⟨2, ![16896, W]⟩ .f32) (b : Fin 2) (l : Fin 256) (c : Fin W) :
    extractStridedSlice ⟨3, ![2, 256, W]⟩ ![0, 0, 0] (shapeCast ⟨3, ![2, 8448, W]⟩ u h.split) h.cutc (ix3 b l c)
      = u (ix2 (bt b ⟨l.val, by omega⟩) c) :=
  (extractStridedSlice_apply _ _ h.cutc (ix3 b l c) (ix3 b (⟨l.val, by omega⟩ : Fin 8448) c) (fun a => by
    match a with
    | ⟨0, _⟩ => show b.val = 0 + b.val; omega
    | ⟨1, _⟩ => show l.val = 0 + l.val; omega
    | ⟨2, _⟩ => show c.val = 0 + c.val; omega)).trans (split_apply h u b _ c)

theorem lat_apply (h : BothFacts W) (u : FVec Ideal ⟨2, ![16896, W]⟩ .f32) (b : Fin 2) (l : Fin 8192) (c : Fin W) :
    extractStridedSlice ⟨3, ![2, 8192, W]⟩ ![0, 256, 0] (shapeCast ⟨3, ![2, 8448, W]⟩ u h.split) h.cutl (ix3 b l c)
      = u (ix2 (bt b ⟨256 + l.val, by omega⟩) c) :=
  (extractStridedSlice_apply _ _ h.cutl (ix3 b l c) (ix3 b (⟨256 + l.val, by omega⟩ : Fin 8448) c) (fun a => by
    match a with
    | ⟨0, _⟩ => show b.val = 0 + b.val; omega
    | ⟨1, _⟩ => rfl
    | ⟨2, _⟩ => show c.val = 0 + c.val; omega)).trans (split_apply h u b _ c)

/-- The host's convolution is `conv`, column by column. -/
theorem both_apply (h : BothFacts W) (z z' : FVec Ideal ⟨0, ![]⟩ .f32) (hz : ∀ i, z i = 0) (hz' : ∀ i, z' i = 0)
    (u : FVec Ideal ⟨2, ![16896, W]⟩ .f32) (w : FVec Ideal ⟨2, ![3, W]⟩ .f32) (R : Fin 16896) (c : Fin W) :
    both h z z' u w (ix2 R c) = conv (fun R => u (ix2 R c)) (fun j => w (ix2 j c)) R := by
  obtain ⟨b, l, rfl⟩ : ∃ (b : Fin 2) (l : Fin 8448), R = bt b l :=
    ⟨⟨R.val / 8448, by omega⟩, ⟨R.val % 8448, by omega⟩, Fin.ext (by show R.val = R.val / 8448 * 8448 + R.val % 8448; omega)⟩
  unfold both
  rw [shapeCast_apply _ h.merge (ix2 (bt b l) c) (ix3 b l c) (by rw [Shape.rowMajor_val_two, Shape.rowMajor_val_three]; rfl)]
  unfold conv before after
  by_cases hl : l.val < 256
  · rw [concatenate_pair_apply_left 1 _ _ h.join (ix3 b l c) rfl (ix3 b (⟨l.val, hl⟩ : Fin 256) c) (fun a => by
      match a with | ⟨0, _⟩ => rfl | ⟨1, _⟩ => rfl | ⟨2, _⟩ => rfl), seqs_apply h.ctx z hz]
    refine congrArg₂ (· + ·) (congrArg₂ (· + ·) (congrArg (· * w (ix2 0 c)) ?_) (congrArg (· * w (ix2 1 c)) (ctx_apply h u b _ c)))
      (congrArg (· * w (ix2 2 c)) ?_)
    · by_cases g : 1 ≤ l.val
      · rw [dif_pos g, dif_neg (by show ¬((b.val * 8448 + l.val) % 8448 = 0 ∨ (b.val * 8448 + l.val) % 8448 = 256); omega), ctx_apply h]
        exact congrArg (fun R => u (ix2 R c)) (Fin.ext (by show b.val * 8448 + (l.val - 1) = b.val * 8448 + l.val - 1; omega))
      · rw [dif_neg g, dif_pos (by show (b.val * 8448 + l.val) % 8448 = 0 ∨ (b.val * 8448 + l.val) % 8448 = 256; omega)]
    · by_cases g : l.val + 1 < 256
      · rw [dif_pos g, dif_neg (by show ¬((b.val * 8448 + l.val) % 8448 = 255 ∨ (b.val * 8448 + l.val) % 8448 = 8447); omega), ctx_apply h]
        exact congrArg (fun R => u (ix2 R c)) (Fin.ext (by show b.val * 8448 + (l.val + 1) = b.val * 8448 + l.val + 1; omega))
      · rw [dif_neg g, dif_pos (by show (b.val * 8448 + l.val) % 8448 = 255 ∨ (b.val * 8448 + l.val) % 8448 = 8447; omega)]
  · have e : bt b ⟨256 + (l.val - 256), by omega⟩ = bt b l := Fin.ext (by show b.val * 8448 + (256 + (l.val - 256)) = b.val * 8448 + l.val; omega)
    rw [concatenate_pair_apply_right 1 _ _ h.join (ix3 b l c) rfl rfl (ix3 b (⟨l.val - 256, by omega⟩ : Fin 8192) c) (fun a ha => by
      match a with | ⟨0, _⟩ => rfl | ⟨1, _⟩ => exact absurd rfl ha | ⟨2, _⟩ => rfl) (by show l.val - 256 + 256 = l.val; omega), seqs_apply h.lat z' hz']
    refine congrArg₂ (· + ·) (congrArg₂ (· + ·) (congrArg (· * w (ix2 0 c)) ?_) (congrArg (· * w (ix2 1 c)) ((lat_apply h u b _ c).trans
      (congrArg (fun R => u (ix2 R c)) e)))) (congrArg (· * w (ix2 2 c)) ?_)
    · by_cases g : 1 ≤ l.val - 256
      · rw [dif_pos g, dif_neg (by show ¬((b.val * 8448 + l.val) % 8448 = 0 ∨ (b.val * 8448 + l.val) % 8448 = 256); omega), lat_apply h]
        exact congrArg (fun R => u (ix2 R c)) (Fin.ext (by show b.val * 8448 + (256 + (l.val - 256 - 1)) = b.val * 8448 + l.val - 1; omega))
      · rw [dif_neg g, dif_pos (by show (b.val * 8448 + l.val) % 8448 = 0 ∨ (b.val * 8448 + l.val) % 8448 = 256; omega)]
    · by_cases g : l.val - 256 + 1 < 8192
      · rw [dif_pos g, dif_neg (by show ¬((b.val * 8448 + l.val) % 8448 = 255 ∨ (b.val * 8448 + l.val) % 8448 = 8447); omega), lat_apply h]
        exact congrArg (fun R => u (ix2 R c)) (Fin.ext (by show b.val * 8448 + (256 + (l.val - 256 + 1)) = b.val * 8448 + l.val + 1; omega))
      · rw [dif_neg g, dif_pos (by show (b.val * 8448 + l.val) % 8448 = 255 ∨ (b.val * 8448 + l.val) % 8448 = 8447; omega)]

end Cert.ConvHalo

end
-- ==== Proof.SconvValue.lean ====
/-
  The gated convolution of the attention layers: the kernel's result array is `convAt`, and the host's expression is the same.
-/
module

public import proofs.«01_k».proof.Defs
public import proofs.«01_k».proof.Proof.MatBlock
public import proofs.«01_k».proof.Proof.ConvHalo
public import proofs.«01_k».proof.Proof.Gen.SconvIdeal.Value
public import proofs.«01_k».proof.Proof.Gen.SconvRefIdeal.Run
public import proofs.«01_k».proof.Proof.Gen.SconvRefIdeal.Read

@[expose] public section

set_option maxRecDepth 16384

noncomputable section

open Idealize.ShloMosaic Idealize.ShloMosaic.TcCoe Idealize.SL.Sem Idealize.ShloMosaic.ValueIdx
open Cert.MatBlock Cert.ConvHalo

namespace Cert.Sconv

/-- Column `C` of the projection's three gates: `gb` … -/
abbrev gb (C : Fin 1024) : Fin 4608 := ⟨1536 + C.val, by omega⟩

/-- … `gc` … -/
abbrev gc (C : Fin 1024) : Fin 4608 := ⟨2560 + C.val, by omega⟩

/-- … and `gx`. -/
abbrev gx (C : Fin 1024) : Fin 4608 := ⟨3584 + C.val, by omega⟩

/-- What is convolved, column `C`. -/
abbrev mixed (p : (⟨2, ![16896, 4608]⟩ : Shape).Idx → EReal) (C : Fin 1024) : Fin 16896 → EReal :=
  fun R => p (ix2 R (gc C)) * p (ix2 R (gx C))

/-- The result at token `R`, column `C`. -/
def convAt (p : (⟨2, ![16896, 4608]⟩ : Shape).Idx → EReal) (w : (⟨2, ![3, 1024]⟩ : Shape).Idx → EReal) (R : Fin 16896) (C : Fin 1024) : EReal :=
  p (ix2 R (gb C)) * conv (mixed p C) (fun j => w (ix2 j C)) R

end Cert.Sconv

open Cert.Sconv

namespace Cert.SconvIdeal.Mix

open Cert.SconvIdeal Cert.SconvIdeal.Gen

variable (m : (ℓ : Loc nD τ sig) → Buf (Elt Ideal) ℓ) (ρ : Dev nD → PrngReg)

/-- The result at every index. -/
def G (c : Dev nD) : Buf (Elt Ideal) ((c : Thread nD τ).loc main_v0) := fun i : S16896x1024.Idx =>
  convAt (m ((c : Thread nD τ).loc main_arg0)) (m ((c : Thread nD τ).loc main_arg1)) (i 0) (i 1)

/-- Where the windows stand at grid point `t`: tile `t / 2`, half `t % 2` of the columns. A neighbouring row is read in blocks of
    eight. -/
theorem idx_facts : ∀ t : Fin cfg0.N, (win0_0.index t 0 = t.val / 2 ∧ win0_0.index t 1 = 3 + t.val % 2)
    ∧ (win0_1.index t 0 = t.val / 2 ∧ win0_1.index t 1 = 5 + t.val % 2)
    ∧ (win0_2.index t 0 = t.val / 2 ∧ win0_2.index t 1 = 7 + t.val % 2)
    ∧ (win0_3.index t 0 = t.val / 2 * 32 - 1 ∧ win0_3.index t 1 = 5 + t.val % 2)
    ∧ (win0_4.index t 0 = t.val / 2 * 32 - 1 ∧ win0_4.index t 1 = 7 + t.val % 2)
    ∧ (win0_5.index t 0 = min (t.val / 2 * 32 + 32) 2111 ∧ win0_5.index t 1 = 5 + t.val % 2)
    ∧ (win0_6.index t 0 = min (t.val / 2 * 32 + 32) 2111 ∧ win0_6.index t 1 = 7 + t.val % 2)
    ∧ (win0_7.index t 0 = 0 ∧ win0_7.index t 1 = t.val % 2)
    ∧ (win0_8.index t 0 = t.val / 2 ∧ win0_8.index t 1 = t.val % 2)
    ∧ (grid0.coords t 0).val = t.val / 2 :=
  (by decide +kernel : ∀ t : Fin grid0.N, (win0_0.index t 0 = t.val / 2 ∧ win0_0.index t 1 = 3 + t.val % 2)
    ∧ (win0_1.index t 0 = t.val / 2 ∧ win0_1.index t 1 = 5 + t.val % 2)
    ∧ (win0_2.index t 0 = t.val / 2 ∧ win0_2.index t 1 = 7 + t.val % 2)
    ∧ (win0_3.index t 0 = t.val / 2 * 32 - 1 ∧ win0_3.index t 1 = 5 + t.val % 2)
    ∧ (win0_4.index t 0 = t.val / 2 * 32 - 1 ∧ win0_4.index t 1 = 7 + t.val % 2)
    ∧ (win0_5.index t 0 = min (t.val / 2 * 32 + 32) 2111 ∧ win0_5.index t 1 = 5 + t.val % 2)
    ∧ (win0_6.index t 0 = min (t.val / 2 * 32 + 32) 2111 ∧ win0_6.index t 1 = 7 + t.val % 2)
    ∧ (win0_7.index t 0 = 0 ∧ win0_7.index t 1 = t.val % 2)
    ∧ (win0_8.index t 0 = t.val / 2 ∧ win0_8.index t 1 = t.val % 2)
    ∧ (grid0.coords t 0).val = t.val / 2)

/-- The column of grid point `t`'s half, and its tile. -/
abbrev col (t : Fin cfg0.N) (k : Fin 512) : Fin 1024 := ⟨t.val % 2 * 512 + k.val, by omega⟩

abbrev til (t : Fin cfg0.N) : Fin 66 := ⟨t.val / 2, by have := t.isLt; have hN : cfg0.N = 132 := N_0; omega⟩

/-- An entry of the projection, named by its row and column as numbers. -/
theorem arg0_at (c : Dev nD) {i : S16896x4608.Idx} (R : Fin 16896) (C : Fin 4608) (h0 : (i 0).val = R.val) (h1 : (i 1).val = C.val) :
    V m c main_arg0 i = m ((c : Thread nD τ).loc main_arg0) (ix2 R C) := by
  rw [V_main_arg0]
  congr 1
  funext a
  apply Fin.ext
  match a with
  | ⟨0, _⟩ => exact h0
  | ⟨1, _⟩ => exact h1

/-- The three gates' tiles at `t` … -/
theorem iblk0_apply (c : Dev nD) (t : Fin cfg0.N) (r : Fin 256) (k : Fin 512) :
    (iblk m c 0 t : Vec Ideal S256x512 .f32) (ix2 r k) = m ((c : Thread nD τ).loc main_arg0) (ix2 (tok (til t) r) (gb (col t k))) := by
  obtain ⟨⟨h0, h1⟩, _⟩ := idx_facts t
  unfold iblk
  rw [View.read_apply]
  exact arg0_at m c _ _ (by show win0_0.index t 0 * 256 + 1 * r.val = t.val / 2 * 256 + r.val; rw [h0]; omega)
    (by show win0_0.index t 1 * 512 + 1 * k.val = 1536 + (t.val % 2 * 512 + k.val); rw [h1]; omega)

theorem iblk1_apply (c : Dev nD) (t : Fin cfg0.N) (r : Fin 256) (k : Fin 512) :
    (iblk m c 1 t : Vec Ideal S256x512 .f32) (ix2 r k) = m ((c : Thread nD τ).loc main_arg0) (ix2 (tok (til t) r) (gc (col t k))) := by
  obtain ⟨_, ⟨h0, h1⟩, _⟩ := idx_facts t
  unfold iblk
  rw [View.read_apply]
  exact arg0_at m c _ _ (by show win0_1.index t 0 * 256 + 1 * r.val = t.val / 2 * 256 + r.val; rw [h0]; omega)
    (by show win0_1.index t 1 * 512 + 1 * k.val = 2560 + (t.val % 2 * 512 + k.val); rw [h1]; omega)

theorem iblk2_apply (c : Dev nD) (t : Fin cfg0.N) (r : Fin 256) (k : Fin 512) :
    (iblk m c 2 t : Vec Ideal S256x512 .f32) (ix2 r k) = m ((c : Thread nD τ).loc main_arg0) (ix2 (tok (til t) r) (gx (col t k))) := by
  obtain ⟨_, _, ⟨h0, h1⟩, _⟩ := idx_facts t
  unfold iblk
  rw [View.read_apply]
  exact arg0_at m c _ _ (by show win0_2.index t 0 * 256 + 1 * r.val = t.val / 2 * 256 + r.val; rw [h0]; omega)
    (by show win0_2.index t 1 * 512 + 1 * k.val = 3584 + (t.val % 2 * 512 + k.val); rw [h1]; omega)

/-- … the row before the tile, of `gc` and of `gx` … -/
theorem iblk34_apply (c : Dev nD) (t : Fin cfg0.N) (k : Fin 512) (h : 2 ≤ (til t).val % 33) :
    (iblk m c 3 t : Vec Ideal S8x512 .f32) (ix2 7 k)
        = m ((c : Thread nD τ).loc main_arg0) (ix2 (⟨(til t).val * 256 - 1, by omega⟩ : Fin 16896) (gc (col t k)))
      ∧ (iblk m c 4 t : Vec Ideal S8x512 .f32) (ix2 7 k)
        = m ((c : Thread nD τ).loc main_arg0) (ix2 (⟨(til t).val * 256 - 1, by omega⟩ : Fin 16896) (gx (col t k))) := by
  obtain ⟨_, _, _, ⟨h0, h1⟩, ⟨h2, h3⟩, _⟩ := idx_facts t
  have hp : 2 ≤ t.val / 2 % 33 := h
  unfold iblk
  rw [View.read_apply, View.read_apply]
  exact ⟨arg0_at m c _ _ (by show win0_3.index t 0 * 8 + 1 * 7 = t.val / 2 * 256 - 1; rw [h0]; omega)
      (by show win0_3.index t 1 * 512 + 1 * k.val = 2560 + (t.val % 2 * 512 + k.val); rw [h1]; omega),
    arg0_at m c _ _ (by show win0_4.index t 0 * 8 + 1 * 7 = t.val / 2 * 256 - 1; rw [h2]; omega)
      (by show win0_4.index t 1 * 512 + 1 * k.val = 3584 + (t.val % 2 * 512 + k.val); rw [h3]; omega)⟩

/-- … the row after it … -/
theorem iblk56_apply (c : Dev nD) (t : Fin cfg0.N) (k : Fin 512) (h : (til t).val % 33 < 32) :
    (iblk m c 5 t : Vec Ideal S8x512 .f32) (ix2 0 k)
        = m ((c : Thread nD τ).loc main_arg0) (ix2 (⟨(til t).val * 256 + 256, by omega⟩ : Fin 16896) (gc (col t k)))
      ∧ (iblk m c 6 t : Vec Ideal S8x512 .f32) (ix2 0 k)
        = m ((c : Thread nD τ).loc main_arg0) (ix2 (⟨(til t).val * 256 + 256, by omega⟩ : Fin 16896) (gx (col t k))) := by
  obtain ⟨_, _, _, _, _, ⟨h0, h1⟩, ⟨h2, h3⟩, _⟩ := idx_facts t
  have hq : t.val / 2 % 33 < 32 := h
  have hi : t.val / 2 < 66 := (til t).isLt
  unfold iblk
  rw [View.read_apply, View.read_apply]
  exact ⟨arg0_at m c _ _ (by show win0_5.index t 0 * 8 + 1 * 0 = t.val / 2 * 256 + 256; rw [h0, Nat.min_eq_left (by omega)]; omega)
      (by show win0_5.index t 1 * 512 + 1 * k.val = 2560 + (t.val % 2 * 512 + k.val); rw [h1]; omega),
    arg0_at m c _ _ (by show win0_6.index t 0 * 8 + 1 * 0 = t.val / 2 * 256 + 256; rw [h2, Nat.min_eq_left (by omega)]; omega)
      (by show win0_6.index t 1 * 512 + 1 * k.val = 3584 + (t.val % 2 * 512 + k.val); rw [h3]; omega)⟩

/-- … and the taps' weights. -/
theorem iblk7_apply (c : Dev nD) (t : Fin cfg0.N) (j : Fin 3) (k : Fin 512) :
    (iblk m c 7 t : Vec Ideal S3x512 .f32) (ix2 j k) = m ((c : Thread nD τ).loc main_arg1) (ix2 j (col t k)) := by
  obtain ⟨_, _, _, _, _, _, _, ⟨h0, h1⟩, _⟩ := idx_facts t
  unfold iblk
  rw [View.read_apply]
  show V m c main_arg1 _ = _
  rw [V_main_arg1]
  congr 1
  funext a
  apply Fin.ext
  match a with
  | ⟨0, _⟩ => show win0_7.index t 0 * 3 + 1 * j.val = j.val; rw [h0]; omega
  | ⟨1, _⟩ => show win0_7.index t 1 * 512 + 1 * k.val = t.val % 2 * 512 + k.val; rw [h1]; omega

/-- The product of the two gates in a tile, or in a row. -/
abbrev prod {s : Shape} (x y : Vec Ideal s .f32) : FVec Ideal s .f32 := mulf x y

/-- What the body stores, of its loads, at an index. -/
theorem pay_apply (i : grid0.Coords) (g x y : Vec Ideal S256x512 .f32) (p p' q q' w0 w1 w2 : Vec Ideal S1x512 .f32) (r : Fin 256) (k : Fin 512) :
    k0_pay1 (F := Ideal) (k0_pay2 x y) (k0_pay3 i p p') (k0_pay4 i q q') g (iota .tc S256x512 32 [0] iota_S256x512_d0_w32) k0_pay5 1#32 w0 w1 w2 (ix2 r k)
      = g (ix2 r k) * tile (i 0).val iota_S256x512_d0_w32 rotates_S256x512_d0 shapeCasts_S1x512_S1x512 broadcasts_S1x512_S256x512
          (prod x y) (prod p p') (prod q q') w0 w1 w2 (ix2 r k) := rfl

/-- What point `t` writes back is block `t` of the result. -/
theorem flushed_eq (c : Dev nD) (t : Fin cfg0.N) :
    (dats m 0 c).flushed 8 t = ((cfg0.win 8).blk t).view.read (Elt Ideal) (G m c) := by
  obtain ⟨_, _, _, _, _, _, _, _, ⟨h0, h1⟩, hc⟩ := idx_facts t
  rw [Value.flushed8]
  unfold out0_8
  rw [View.canon_unit_zero hz2, View.ld_unit_zero hz2, View.ld_unit_zero hz2, View.ld_unit_zero hz2]
  funext j
  rw [View.read_apply]
  obtain ⟨r, k, rfl⟩ : ∃ (r : Fin 256) (k : Fin 512), j = ix2 r k := ⟨j 0, j 1, eq_ix2 j⟩
  have e : ((cfg0.win 8).blk t).view.emb (ix2 r k) = ix2 (tok (til t) r) (col t k) := by
    funext a
    apply Fin.ext
    match a with
    | ⟨0, _⟩ => show win0_8.index t 0 * 256 + 1 * r.val = t.val / 2 * 256 + r.val; rw [h0]; omega
    | ⟨1, _⟩ => show win0_8.index t 1 * 512 + 1 * k.val = t.val % 2 * 512 + k.val; rw [h1]; omega
  rw [e]
  refine (pay_apply (grid0.coords t) (iblk m c 0 t) (iblk m c 1 t) (iblk m c 2 t) (View.ld (iblk m c 3 t) r0_1) (View.ld (iblk m c 4 t) r0_1)
    (View.ld (iblk m c 5 t) r0_2) (View.ld (iblk m c 6 t) r0_2) (View.ld (iblk m c 7 t) r0_3) (View.ld (iblk m c 7 t) r0_4)
    (View.ld (iblk m c 7 t) r0_5) r k).trans ?_
  rw [hc, iblk0_apply]
  refine congrArg (fun z : EReal => (show EReal from m ((c : Thread nD τ).loc main_arg0) (ix2 (tok (til t) r) (gb (col t k)))) * z) ?_
  exact tile_apply (til t) _ _ _ _ _ _ _ _ _ _
    (mixed (m ((c : Thread nD τ).loc main_arg0)) (col t k))
    (fun j => m ((c : Thread nD τ).loc main_arg1) (ix2 j (col t k))) r k
    (fun r => congrArg₂ (fun x y : EReal => x * y) (iblk1_apply m c t r k) (iblk2_apply m c t r k))
    (fun h => congrArg₂ (fun x y : EReal => x * y) ((ld_row _ 7 _ k).trans (iblk34_apply m c t k h).1) ((ld_row _ 7 _ k).trans (iblk34_apply m c t k h).2))
    (fun h => congrArg₂ (fun x y : EReal => x * y) ((ld_row _ 0 _ k).trans (iblk56_apply m c t k h).1) ((ld_row _ 0 _ k).trans (iblk56_apply m c t k h).2))
    ((ld_row _ 0 _ k).trans (iblk7_apply m c t 0 k)) ((ld_row _ 1 _ k).trans (iblk7_apply m c t 1 k)) ((ld_row _ 2 _ k).trans (iblk7_apply m c t 2 k))

/-- An index of the result array is in point `t`'s block exactly when its token is in the tile and its column in the half. -/
theorem mem_blk (t : Fin cfg0.N) (i : S16896x1024.Idx) :
    i ∈ ((cfg0.win 8).blk t).view.set ↔ (t.val / 2 * 256 ≤ (i 0 : Nat) ∧ (i 0 : Nat) < t.val / 2 * 256 + 256)
      ∧ t.val % 2 * 512 ≤ (i 1 : Nat) ∧ (i 1 : Nat) < t.val % 2 * 512 + 512 := by
  obtain ⟨_, _, _, _, _, _, _, _, ⟨h0, h1⟩, _⟩ := idx_facts t
  show i ∈ ((View.whole main_v0).slice (win0_8.rect t)).set ↔ _
  rw [View.set_slice_whole, Rect.mem_set_unit]
  constructor
  · intro h
    have a0 : win0_8.index t 0 * 256 ≤ (i 0 : Nat) ∧ (i 0 : Nat) < win0_8.index t 0 * 256 + 256 := h 0
    have a1 : win0_8.index t 1 * 512 ≤ (i 1 : Nat) ∧ (i 1 : Nat) < win0_8.index t 1 * 512 + 512 := h 1
    rw [h0] at a0
    rw [h1] at a1
    exact ⟨a0, a1⟩
  · intro h a
    match a with
    | ⟨0, _⟩ => show win0_8.index t 0 * 256 ≤ (i 0 : Nat) ∧ (i 0 : Nat) < win0_8.index t 0 * 256 + 256; rw [h0]; exact h.1
    | ⟨1, _⟩ => show win0_8.index t 1 * 512 ≤ (i 1 : Nat) ∧ (i 1 : Nat) < win0_8.index t 1 * 512 + 512; rw [h1]; exact h.2

/-- The blocks cover the result array. -/
theorem cover (i : S16896x1024.Idx) : ∃ t : Fin cfg0.N, (cfg0.win 8).flush t = true ∧ i ∈ ((cfg0.win 8).blk t).view.set := by
  have hN : cfg0.N = 132 := N_0
  have h0 : (i 0 : Nat) < 16896 := (i 0).isLt
  have h1 : (i 1 : Nat) < 1024 := (i 1).isLt
  refine ⟨⟨(i 0 : Nat) / 256 * 2 + (i 1 : Nat) / 512, by omega⟩, flush0_8 _, ?_⟩
  rw [mem_blk]
  dsimp only
  omega

/-- The run of the kernel: the result array ends as `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 8 (G m c) (fun t _ => flushed_eq m c t) cover),
    (h c).2⟩) (Value.run_blocks m ρ)

end Cert.SconvIdeal.Mix

namespace Cert.SconvRefIdeal.Mix

open Cert.SconvRefIdeal Cert.SconvRefIdeal.Gen

variable (x0 : (⟨S16896x4608, .f32⟩ : BufTy).Contents (Elt Ideal)) (x1 : (⟨S3x1024, .f32⟩ : BufTy).Contents (Elt Ideal))

/-- The shapes of the host's convolution. -/
theorem facts : BothFacts 1024 where
  ctx := ⟨pads_S2x256x1024_S2x258x1024_000_110_000, h_S_, slices_S2x258x1024_S2x256x1024_0_0_0, slices_S2x258x1024_S2x256x1024_0_1_0,
    slices_S2x258x1024_S2x256x1024_0_2_0, slices_S3x1024_S1x1024_0_0, slices_S3x1024_S1x1024_1_0, slices_S3x1024_S1x1024_2_0,
    shapeCasts_S1x1024_S1024, bcast_S1024_S1x1x1024_2, bcast_S1x1x1024_S2x256x1024_0_1_2⟩
  lat := ⟨pads_S2x8192x1024_S2x8194x1024_000_110_000, h_S_, slices_S2x8194x1024_S2x8192x1024_0_0_0, slices_S2x8194x1024_S2x8192x1024_0_1_0,
    slices_S2x8194x1024_S2x8192x1024_0_2_0, slices_S3x1024_S1x1024_0_0, slices_S3x1024_S1x1024_1_0, slices_S3x1024_S1x1024_2_0,
    shapeCasts_S1x1024_S1024, bcast_S1024_S1x1x1024_2, bcast_S1x1x1024_S2x8192x1024_0_1_2⟩
  split := shapeCasts_S16896x1024_S2x8448x1024
  cutc := slices_S2x8448x1024_S2x256x1024_0_0_0
  cutl := slices_S2x8448x1024_S2x8192x1024_0_256_0
  join := concatenates_S2x256x1024_S2x8192x1024_S2x8448x1024_d1
  merge := shapeCasts_S2x8448x1024_S16896x1024

/-- The host's convolution, at a token and a column. -/
theorem conv_apply (R : Fin 16896) (C : Fin 1024) :
    Read.val_main_v50 (F := Ideal) x0 x1 (ix2 R C) = conv (mixed x0 C) (fun j => x1 (ix2 j C)) R := by
  have e : Read.val_main_v50 (F := Ideal) x0 x1
      = both facts (Read.val_main_call0_v0 (F := Ideal)) (Read.val_main_call1_v0 (F := Ideal)) (Read.val_main_v3 (F := Ideal) x0) x1 := rfl
  have ec (R : Fin 16896) : Read.idx_main_v1 (ix2 R C) = ix2 R (gc C) := funext fun a => Fin.ext (by
    match a with | ⟨0, _⟩ => rfl | ⟨1, _⟩ => rfl)
  have ex (R : Fin 16896) : Read.idx_main_v2 (ix2 R C) = ix2 R (gx C) := funext fun a => Fin.ext (by
    match a with | ⟨0, _⟩ => rfl | ⟨1, _⟩ => rfl)
  rw [e, both_apply facts (Read.val_main_call0_v0 (F := Ideal)) (Read.val_main_call1_v0 (F := Ideal)) (fun _ => sitofp_zero) (fun _ => sitofp_zero)]
  refine congrArg (fun u : Fin 16896 → EReal => conv u (fun j => x1 (ix2 j C)) R) (funext fun R => ?_)
  rw [Read.val_main_v3_apply, Read.val_main_v1_apply, Read.val_main_v2_apply, ec, ex]
  rfl

/-- The host's result is the same. -/
theorem val_apply (i : S16896x1024.Idx) :
    Read.val_main_v52 (F := Ideal) x0 x1 i = convAt x0 x1 (i 0) (i 1) := by
  obtain ⟨R, C, rfl⟩ : ∃ (R : Fin 16896) (C : Fin 1024), i = ix2 R C := ⟨i 0, i 1, eq_ix2 i⟩
  have eg : Read.idx_main_v0 (ix2 R C) = ix2 R (gb C) := funext fun a => Fin.ext (by
    match a with | ⟨0, _⟩ => rfl | ⟨1, _⟩ => rfl)
  rw [Read.val_main_v52_apply, Read.val_main_v51_apply, conv_apply, Read.val_main_v0_apply, eg]
  rfl

end Cert.SconvRefIdeal.Mix

namespace Cert.Proof.Sconv

/-- The reference runs and leaves its arguments as they were. -/
theorem frame_ref : Cert.quiescent_SconvRefIdeal := fun m ρ _ =>
  (θ_run Cert.SconvRefIdeal.defs _ _).mono (fun r h => ⟨fun c => (h c).2,
      Idealize.ShloMosaic.sem_eq_zero_of_no_sems (by decide) r.2⟩)
    (Cert.SconvRefIdeal.Value.run (F := Ideal) m ρ)

/-- The kernel and the reference compute the same. -/
theorem algebraic : Cert.algebraic_SconvIdeal_SconvRefIdeal := fun m ρ m' ρ' _ hag =>
  ⟨fun c => Cert.SconvIdeal.Mix.G m c, Cert.SconvIdeal.Mix.run m ρ,
    (θ_run Cert.SconvRefIdeal.defs _ _).mono (fun _ h c => ⟨by
        rw [(h c).1, Cert.SconvRefIdeal.Read.val_main_v52_eq, (hag c).1, (hag c).2]
        exact funext fun i => Cert.SconvRefIdeal.Mix.val_apply _ _ i, (h c).2⟩)
      (Cert.SconvRefIdeal.Value.run (F := Ideal) m' ρ')⟩

end Cert.Proof.Sconv

end
-- ==== Proof.SsdPrepValue.lean ====
/-
  The convolution before the scans, with its bias and `y · logistic y`: the kernel's result array is `prepAt`, and the host's
  expression is the same.
-/
module

public import proofs.«01_k».proof.Defs
public import proofs.«01_k».proof.Proof.MatBlock
public import proofs.«01_k».proof.Proof.ConvHalo
public import proofs.«01_k».proof.Proof.Gen.SsdPrepIdeal.Value
public import proofs.«01_k».proof.Proof.Gen.SsdPrepRefIdeal.Run
public import proofs.«01_k».proof.Proof.Gen.SsdPrepRefIdeal.Read

@[expose] public section

set_option maxRecDepth 16384

noncomputable section

open Idealize.ShloMosaic Idealize.ShloMosaic.TcCoe Idealize.SL.Sem Idealize.ShloMosaic.ValueIdx
open Cert.MatBlock Cert.ConvHalo

namespace Cert.SsdPrep

/-- Column `k` of group `g`, among all 8192. -/
abbrev col (g : Fin 16) (k : Fin 512) : Fin 8192 := ⟨g.val * 512 + k.val, by omega⟩

/-- The same column in the projection, where these follow the 4096 of the gate. -/
abbrev pcol (g : Fin 16) (k : Fin 512) : Fin 12288 := ⟨4096 + (g.val * 512 + k.val), by omega⟩

/-- The result for group `g`, token `R`, column `k` of the group. -/
def prepAt (p : (⟨2, ![16896, 12288]⟩ : Shape).Idx → EReal) (w : (⟨2, ![3, 8192]⟩ : Shape).Idx → EReal)
    (b : (⟨1, ![8192]⟩ : Shape).Idx → EReal) (g : Fin 16) (R : Fin 16896) (k : Fin 512) : EReal :=
  (conv (fun R => p (ix2 R (pcol g k))) (fun j => w (ix2 j (col g k))) R + b (ix1 (col g k)))
    * Ideal.logistic (conv (fun R => p (ix2 R (pcol g k))) (fun j => w (ix2 j (col g k))) R + b (ix1 (col g k)))

end Cert.SsdPrep

open Cert.SsdPrep

namespace Cert.SsdPrepIdeal.Prep

open Cert.SsdPrepIdeal Cert.SsdPrepIdeal.Gen

variable (m : (ℓ : Loc nD τ sig) → Buf (Elt Ideal) ℓ) (ρ : Dev nD → PrngReg)

/-- The result at every index. -/
def G (c : Dev nD) : Buf (Elt Ideal) ((c : Thread nD τ).loc main_v1) := fun i : S16x16896x512.Idx =>
  prepAt (m ((c : Thread nD τ).loc main_arg0)) (m ((c : Thread nD τ).loc main_arg1)) (m ((c : Thread nD τ).loc main_arg2)) (i 0) (i 1) (i 2)

/-- Where the windows stand at grid point `t`: tile `t / 16`, group `t % 16`. A neighbouring row is read in blocks of eight. -/
theorem idx_facts : ∀ t : Fin cfg0.N, (win0_0.index t 0 = t.val / 16 ∧ win0_0.index t 1 = 8 + t.val % 16)
    ∧ (win0_1.index t 0 = t.val / 16 * 32 - 1 ∧ win0_1.index t 1 = 8 + t.val % 16)
    ∧ (win0_2.index t 0 = min (t.val / 16 * 32 + 32) 2111 ∧ win0_2.index t 1 = 8 + t.val % 16)
    ∧ (win0_3.index t 0 = 0 ∧ win0_3.index t 1 = t.val % 16)
    ∧ (win0_4.index t 0 = 0 ∧ win0_4.index t 1 = t.val % 16)
    ∧ (win0_5.index t 0 = t.val % 16 ∧ win0_5.index t 1 = t.val / 16 ∧ win0_5.index t 2 = 0)
    ∧ (grid0.coords t 0).val = t.val / 16 :=
  (by decide +kernel : ∀ t : Fin grid0.N, (win0_0.index t 0 = t.val / 16 ∧ win0_0.index t 1 = 8 + t.val % 16)
    ∧ (win0_1.index t 0 = t.val / 16 * 32 - 1 ∧ win0_1.index t 1 = 8 + t.val % 16)
    ∧ (win0_2.index t 0 = min (t.val / 16 * 32 + 32) 2111 ∧ win0_2.index t 1 = 8 + t.val % 16)
    ∧ (win0_3.index t 0 = 0 ∧ win0_3.index t 1 = t.val % 16)
    ∧ (win0_4.index t 0 = 0 ∧ win0_4.index t 1 = t.val % 16)
    ∧ (win0_5.index t 0 = t.val % 16 ∧ win0_5.index t 1 = t.val / 16 ∧ win0_5.index t 2 = 0)
    ∧ (grid0.coords t 0).val = t.val / 16)

/-- The group and the tile of grid point `t`. -/
abbrev grp (t : Fin cfg0.N) : Fin 16 := ⟨t.val % 16, by omega⟩

abbrev til (t : Fin cfg0.N) : Fin 66 := ⟨t.val / 16, by have := t.isLt; have hN : cfg0.N = 1056 := N_0; omega⟩

/-- The tile read at `t` … -/
theorem iblk0_apply (c : Dev nD) (t : Fin cfg0.N) (r : Fin 256) (k : Fin 512) :
    (iblk m c 0 t : Vec Ideal S256x512 .f32) (ix2 r k) = m ((c : Thread nD τ).loc main_arg0) (ix2 (tok (til t) r) (pcol (grp t) k)) := by
  obtain ⟨⟨h0, h1⟩, _⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = t.val / 16 * 256 + r.val; rw [h0]; omega
  | ⟨1, _⟩ => show win0_0.index t 1 * 512 + 1 * k.val = 4096 + (t.val % 16 * 512 + k.val); rw [h1]; omega

/-- … the row before it … -/
theorem iblk1_apply (c : Dev nD) (t : Fin cfg0.N) (k : Fin 512) (h : 2 ≤ (til t).val % 33) :
    (iblk m c 1 t : Vec Ideal S8x512 .f32) (ix2 7 k)
      = m ((c : Thread nD τ).loc main_arg0) (ix2 (⟨(til t).val * 256 - 1, by omega⟩ : Fin 16896) (pcol (grp t) k)) := by
  obtain ⟨_, ⟨h0, h1⟩, _⟩ := idx_facts t
  have hp : 2 ≤ t.val / 16 % 33 := h
  unfold iblk
  rw [View.read_apply]
  show V m c main_arg0 _ = _
  rw [V_main_arg0]
  congr 1
  funext a
  apply Fin.ext
  match a with
  | ⟨0, _⟩ => show win0_1.index t 0 * 8 + 1 * 7 = t.val / 16 * 256 - 1; rw [h0]; omega
  | ⟨1, _⟩ => show win0_1.index t 1 * 512 + 1 * k.val = 4096 + (t.val % 16 * 512 + k.val); rw [h1]; omega

/-- … the row after it … -/
theorem iblk2_apply (c : Dev nD) (t : Fin cfg0.N) (k : Fin 512) (h : (til t).val % 33 < 32) :
    (iblk m c 2 t : Vec Ideal S8x512 .f32) (ix2 0 k)
      = m ((c : Thread nD τ).loc main_arg0) (ix2 (⟨(til t).val * 256 + 256, by omega⟩ : Fin 16896) (pcol (grp t) k)) := by
  obtain ⟨_, _, ⟨h0, h1⟩, _⟩ := idx_facts t
  have hq : t.val / 16 % 33 < 32 := h
  have hi : t.val / 16 < 66 := (til t).isLt
  unfold iblk
  rw [View.read_apply]
  show V m c main_arg0 _ = _
  rw [V_main_arg0]
  congr 1
  funext a
  apply Fin.ext
  match a with
  | ⟨0, _⟩ => show win0_2.index t 0 * 8 + 1 * 0 = t.val / 16 * 256 + 256; rw [h0, Nat.min_eq_left (by omega)]; omega
  | ⟨1, _⟩ => show win0_2.index t 1 * 512 + 1 * k.val = 4096 + (t.val % 16 * 512 + k.val); rw [h1]; omega

/-- … the taps' weights … -/
theorem iblk3_apply (c : Dev nD) (t : Fin cfg0.N) (j : Fin 3) (k : Fin 512) :
    (iblk m c 3 t : Vec Ideal S3x512 .f32) (ix2 j k) = m ((c : Thread nD τ).loc main_arg1) (ix2 j (col (grp t) k)) := by
  obtain ⟨_, _, _, ⟨h0, h1⟩, _⟩ := idx_facts t
  unfold iblk
  rw [View.read_apply]
  show V m c main_arg1 _ = _
  rw [V_main_arg1]
  congr 1
  funext a
  apply Fin.ext
  match a with
  | ⟨0, _⟩ => show win0_3.index t 0 * 3 + 1 * j.val = j.val; rw [h0]; omega
  | ⟨1, _⟩ => show win0_3.index t 1 * 512 + 1 * k.val = t.val % 16 * 512 + k.val; rw [h1]; omega

/-- … and the bias. -/
theorem iblk4_apply (c : Dev nD) (t : Fin cfg0.N) (k : Fin 512) :
    (iblk m c 4 t : Vec Ideal S1x512 .f32) (ix2 0 k) = m ((c : Thread nD τ).loc main_arg2) (ix1 (col (grp t) k)) := by
  obtain ⟨_, _, _, _, ⟨h0, h1⟩, _⟩ := idx_facts t
  have hv : V m c main_v0 = (shapeCast S1x8192 (m ((c : Thread nD τ).loc main_arg2)) shapeCasts_S8192_S1x8192 : FVec Ideal S1x8192 .f32) := by
    unfold V; after_results
    rfl
  have e : ((cfg0.win 4).blk t).view.emb (ix2 0 k) = (ix2 (0 : Fin 1) (col (grp t) k) : S1x8192.Idx) := by
    funext a
    apply Fin.ext
    match a with
    | ⟨0, _⟩ => show win0_4.index t 0 * 1 + 1 * 0 = 0; rw [h0]
    | ⟨1, _⟩ => show win0_4.index t 1 * 512 + 1 * k.val = t.val % 16 * 512 + k.val; rw [h1]; omega
  unfold iblk
  rw [View.read_apply]
  show V m c main_v0 _ = _
  rw [hv]
  refine (congrArg (shapeCast S1x8192 (m ((c : Thread nD τ).loc main_arg2)) shapeCasts_S8192_S1x8192 : FVec Ideal S1x8192 .f32) e).trans ?_
  exact shapeCast_apply (s := S8192) (t := S1x8192) _ shapeCasts_S8192_S1x8192 (ix2 (0 : Fin 1) (col (grp t) k)) (ix1 (col (grp t) k)) (by
    rw [Shape.rowMajor_val_two, Shape.rowMajor_val_one]; show (col (grp t) k).val = 0 * 8192 + (col (grp t) k).val; omega)

/-- What the body stores, of its loads, at an index. -/
theorem pay_apply (i : grid0.Coords) (x : Vec Ideal S256x512 .f32) (p q w0 w1 w2 b : Vec Ideal S1x512 .f32) (r : Fin 256) (k : Fin 512) :
    k0_pay1 (F := Ideal) x (k0_pay2 i p x) (k0_pay3 i q x) w0 w1 w2 b (ix3 (0 : Fin 1) r k)
      = (tile (i 0).val iota_S256x512_d0_w32 rotates_S256x512_d0 shapeCasts_S1x512_S1x512 broadcasts_S1x512_S256x512 x p q w0 w1 w2 (ix2 r k) + b (ix2 0 k))
        * Ideal.logistic (tile (i 0).val iota_S256x512_d0_w32 rotates_S256x512_d0 shapeCasts_S1x512_S1x512 broadcasts_S1x512_S256x512 x p q w0 w1 w2 (ix2 r k) + b (ix2 0 k)) := by
  have eb : broadcastTo S256x512 (shapeCast S1x512 b shapeCasts_S1x512_S1x512) broadcasts_S1x512_S256x512 (ix2 r k) = b (ix2 0 k) :=
    (row_apply _ _ r k).trans (shapeCast_apply (s := S1x512) (t := S1x512) b shapeCasts_S1x512_S1x512 (ix2 (0 : Fin 1) k) (ix2 (0 : Fin 1) k) rfl)
  unfold k0_pay1
  refine (shapeCast_apply (s := S256x512) (t := S1x256x512) _ shapeCasts_S256x512_S1x256x512 (ix3 (0 : Fin 1) r k) (ix2 r k) (by
    rw [Shape.rowMajor_val_three, Shape.rowMajor_val_two]; show r.val * 512 + k.val = (0 * 256 + r.val) * 512 + k.val; omega)).trans ?_
  exact congrArg (fun z : EReal => (tile (i 0).val iota_S256x512_d0_w32 rotates_S256x512_d0 shapeCasts_S1x512_S1x512 broadcasts_S1x512_S256x512 x p q w0 w1 w2 (ix2 r k) + z)
    * Ideal.logistic (tile (i 0).val iota_S256x512_d0_w32 rotates_S256x512_d0 shapeCasts_S1x512_S1x512 broadcasts_S1x512_S256x512 x p q w0 w1 w2 (ix2 r k) + z)) eb

/-- What point `t` writes back is block `t` of the result. -/
theorem flushed_eq (c : Dev nD) (t : Fin cfg0.N) :
    (dats m 0 c).flushed 5 t = ((cfg0.win 5).blk t).view.read (Elt Ideal) (G m c) := by
  obtain ⟨_, _, _, _, _, ⟨h0, h1, h2⟩, hc⟩ := idx_facts t
  rw [Value.flushed5]
  unfold out0_5
  rw [View.canon_unit_zero hz3, View.ld_unit_zero hz2, View.ld_unit_zero hz2]
  funext j
  rw [View.read_apply]
  obtain ⟨z, r, k, rfl⟩ : ∃ (z : Fin 1) (r : Fin 256) (k : Fin 512), j = ix3 z r k := ⟨j 0, j 1, j 2, eq_ix3 j⟩
  obtain rfl : z = 0 := Subsingleton.elim _ _
  have e : ((cfg0.win 5).blk t).view.emb (ix3 0 r k) = ix3 (grp t) (tok (til t) r) k := by
    funext a
    apply Fin.ext
    match a with
    | ⟨0, _⟩ => show win0_5.index t 0 * 1 + 1 * 0 = t.val % 16; rw [h0]; omega
    | ⟨1, _⟩ => show win0_5.index t 1 * 256 + 1 * r.val = t.val / 16 * 256 + r.val; rw [h1]; omega
    | ⟨2, _⟩ => show win0_5.index t 2 * 512 + 1 * k.val = k.val; rw [h2]; omega
  rw [e]
  refine (pay_apply (grid0.coords t) (iblk m c 0 t) (View.ld (iblk m c 1 t) r0_0) (View.ld (iblk m c 2 t) r0_1)
    (View.ld (iblk m c 3 t) r0_3) (View.ld (iblk m c 3 t) r0_4) (View.ld (iblk m c 3 t) r0_5) (iblk m c 4 t) r k).trans ?_
  have et : tile (til t).val iota_S256x512_d0_w32 rotates_S256x512_d0 shapeCasts_S1x512_S1x512 broadcasts_S1x512_S256x512 (iblk m c 0 t)
      (View.ld (iblk m c 1 t) r0_0) (View.ld (iblk m c 2 t) r0_1) (View.ld (iblk m c 3 t) r0_3) (View.ld (iblk m c 3 t) r0_4)
      (View.ld (iblk m c 3 t) r0_5) (ix2 r k) = _ :=
    tile_apply (til t) _ _ _ _ (iblk m c 0 t) _ _ _ _ _ (fun R => m ((c : Thread nD τ).loc main_arg0) (ix2 R (pcol (grp t) k)))
      (fun j => m ((c : Thread nD τ).loc main_arg1) (ix2 j (col (grp t) k))) r k (fun r => iblk0_apply m c t r k)
      (fun h => (ld_row _ 7 _ k).trans (iblk1_apply m c t k h))
      (fun h => (ld_row _ 0 _ k).trans (iblk2_apply m c t k h)) ((ld_row _ 0 _ k).trans (iblk3_apply m c t 0 k))
      ((ld_row _ 1 _ k).trans (iblk3_apply m c t 1 k)) ((ld_row _ 2 _ k).trans (iblk3_apply m c t 2 k))
  rw [hc, iblk4_apply]
  exact congrArg (fun z : EReal => (z + m ((c : Thread nD τ).loc main_arg2) (ix1 (col (grp t) k)))
    * Ideal.logistic (z + m ((c : Thread nD τ).loc main_arg2) (ix1 (col (grp t) k)))) et

/-- An index of the result array is in point `t`'s block exactly when its group is the point's and its token in the tile. -/
theorem mem_blk (t : Fin cfg0.N) (i : S16x16896x512.Idx) :
    i ∈ ((cfg0.win 5).blk t).view.set ↔ (i 0 : Nat) = t.val % 16 ∧ t.val / 16 * 256 ≤ (i 1 : Nat) ∧ (i 1 : Nat) < t.val / 16 * 256 + 256 := by
  obtain ⟨_, _, _, _, _, ⟨h0, h1, h2⟩, _⟩ := idx_facts t
  have hi : (i 2 : Nat) < 512 := (i 2).isLt
  show i ∈ ((View.whole main_v1).slice (win0_5.rect t)).set ↔ _
  rw [View.set_slice_whole, Rect.mem_set_unit]
  constructor
  · intro h
    have a0 : win0_5.index t 0 * 1 ≤ (i 0 : Nat) ∧ (i 0 : Nat) < win0_5.index t 0 * 1 + 1 := h 0
    have a1 : win0_5.index t 1 * 256 ≤ (i 1 : Nat) ∧ (i 1 : Nat) < win0_5.index t 1 * 256 + 256 := h 1
    rw [h0] at a0
    rw [h1] at a1
    exact ⟨by omega, a1⟩
  · intro h a
    match a with
    | ⟨0, _⟩ => show win0_5.index t 0 * 1 ≤ (i 0 : Nat) ∧ (i 0 : Nat) < win0_5.index t 0 * 1 + 1; rw [h0]; omega
    | ⟨1, _⟩ => show win0_5.index t 1 * 256 ≤ (i 1 : Nat) ∧ (i 1 : Nat) < win0_5.index t 1 * 256 + 256; rw [h1]; exact h.2
    | ⟨2, _⟩ => show win0_5.index t 2 * 512 ≤ (i 2 : Nat) ∧ (i 2 : Nat) < win0_5.index t 2 * 512 + 512; rw [h2, Nat.zero_mul, Nat.zero_add]; exact ⟨Nat.zero_le _, hi⟩

/-- The blocks cover the result array. -/
theorem cover (i : S16x16896x512.Idx) : ∃ t : Fin cfg0.N, (cfg0.win 5).flush t = true ∧ i ∈ ((cfg0.win 5).blk t).view.set := by
  have hN : cfg0.N = 1056 := N_0
  have h0 : (i 0 : Nat) < 16 := (i 0).isLt
  have h1 : (i 1 : Nat) < 16896 := (i 1).isLt
  refine ⟨⟨(i 1 : Nat) / 256 * 16 + (i 0 : Nat), by omega⟩, flush0_5 _, ?_⟩
  rw [mem_blk]
  dsimp only
  omega

/-- The run of the kernel: the result array ends as `G`, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 5 (G m c) (fun t _ => flushed_eq m c t) cover),
    (h c).2⟩) (Value.run_blocks m ρ)

end Cert.SsdPrepIdeal.Prep

namespace Cert.SsdPrepRefIdeal.Prep

open Cert.SsdPrepRefIdeal Cert.SsdPrepRefIdeal.Gen

variable (x0 : (⟨S16896x12288, .f32⟩ : BufTy).Contents (Elt Ideal)) (x1 : (⟨S3x8192, .f32⟩ : BufTy).Contents (Elt Ideal))
  (x2 : (⟨S8192, .f32⟩ : BufTy).Contents (Elt Ideal))

/-- The shapes of the host's convolution. -/
theorem facts : BothFacts 8192 where
  ctx := ⟨pads_S2x256x8192_S2x258x8192_000_110_000, h_S_, slices_S2x258x8192_S2x256x8192_0_0_0, slices_S2x258x8192_S2x256x8192_0_1_0,
    slices_S2x258x8192_S2x256x8192_0_2_0, slices_S3x8192_S1x8192_0_0, slices_S3x8192_S1x8192_1_0, slices_S3x8192_S1x8192_2_0,
    shapeCasts_S1x8192_S8192, bcast_S8192_S1x1x8192_2, bcast_S1x1x8192_S2x256x8192_0_1_2⟩
  lat := ⟨pads_S2x8192x8192_S2x8194x8192_000_110_000, h_S_, slices_S2x8194x8192_S2x8192x8192_0_0_0, slices_S2x8194x8192_S2x8192x8192_0_1_0,
    slices_S2x8194x8192_S2x8192x8192_0_2_0, slices_S3x8192_S1x8192_0_0, slices_S3x8192_S1x8192_1_0, slices_S3x8192_S1x8192_2_0,
    shapeCasts_S1x8192_S8192, bcast_S8192_S1x1x8192_2, bcast_S1x1x8192_S2x8192x8192_0_1_2⟩
  split := shapeCasts_S16896x8192_S2x8448x8192
  cutc := slices_S2x8448x8192_S2x256x8192_0_0_0
  cutl := slices_S2x8448x8192_S2x8192x8192_0_256_0
  join := concatenates_S2x256x8192_S2x8192x8192_S2x8448x8192_d1
  merge := shapeCasts_S2x8448x8192_S16896x8192

/-- The host's convolution, at a token and a column. -/
theorem conv_apply (R : Fin 16896) (g : Fin 16) (k : Fin 512) :
    Read.val_main_v47 (F := Ideal) x0 x1 (ix2 R (col g k)) = conv (fun R => x0 (ix2 R (pcol g k))) (fun j => x1 (ix2 j (col g k))) R := by
  have e : Read.val_main_v47 (F := Ideal) x0 x1
      = both facts (Read.val_main_call0_v0 (F := Ideal)) (Read.val_main_call1_v0 (F := Ideal)) (Read.val_main_v0 (F := Ideal) x0) x1 := rfl
  rw [e, both_apply facts (Read.val_main_call0_v0 (F := Ideal)) (Read.val_main_call1_v0 (F := Ideal)) (fun _ => sitofp_zero) (fun _ => sitofp_zero)]
  refine congrArg (fun u : Fin 16896 → EReal => conv u (fun j => x1 (ix2 j (col g k))) R) (funext fun R => ?_)
  rw [Read.val_main_v0_apply]
  exact congrArg x0 (funext fun a => Fin.ext (by
    match a with | ⟨0, _⟩ => rfl | ⟨1, _⟩ => rfl))

/-- With the bias. -/
theorem bias_apply (R : Fin 16896) (g : Fin 16) (k : Fin 512) :
    Read.val_main_v50 (F := Ideal) x0 x1 x2 (ix2 R (col g k))
      = conv (fun R => x0 (ix2 R (pcol g k))) (fun j => x1 (ix2 j (col g k))) R + x2 (ix1 (col g k)) := by
  have eb : Read.idx_main_v48 (Read.idx_main_v49 (ix2 R (col g k))) = ix1 (col g k) := funext fun a => Fin.ext (by
    match a with | ⟨0, _⟩ => rfl)
  rw [Read.val_main_v50_apply, conv_apply, Read.val_main_v49_apply, Read.val_main_v48_apply, eb]
  rfl

/-- The host's result is the same. -/
theorem val_apply (i : S16x16896x512.Idx) :
    Read.val_main_v53 (F := Ideal) x0 x1 x2 i = prepAt x0 x1 x2 (i 0) (i 1) (i 2) := by
  obtain ⟨g, R, k, rfl⟩ : ∃ (g : Fin 16) (R : Fin 16896) (k : Fin 512), i = ix3 g R k := ⟨i 0, i 1, i 2, eq_ix3 i⟩
  have ei : Read.idx_main_v52 (Read.idx_main_v53 (ix3 g R k)) = ix2 R (col g k) := funext fun a => Fin.ext (by
    match a with
    | ⟨0, _⟩ => show ((R.val * 16 + g.val) * 512 + k.val) / 8192 = R.val; omega
    | ⟨1, _⟩ => show ((R.val * 16 + g.val) * 512 + k.val) % 8192 = g.val * 512 + k.val; omega)
  rw [Read.val_main_v53_apply, Read.val_main_v52_apply, ei, Read.val_main_v51_apply, Read.val_main_call2_v5_apply,
    Read.val_main_call2_v4_apply, Read.val_main_call2_cst_0_apply, Read.val_main_call2_v3_apply, Read.val_main_call2_v2_apply,
    Read.val_main_call2_cst_apply, Read.val_main_call2_v1_apply, Read.val_main_call2_v0_apply, bias_apply]
  show _ * Ideal.div (Ideal.ofBits .f32 0x3F800000#32) (Ideal.ofBits .f32 0x3F800000#32 + Ideal.exp (- _)) = _
  rw [Ideal.ofBits_one_f32]
  rfl

end Cert.SsdPrepRefIdeal.Prep

namespace Cert.Proof.SsdPrep

/-- The reference runs and leaves its arguments as they were. -/
theorem frame_ref : Cert.quiescent_SsdPrepRefIdeal := fun m ρ _ =>
  (θ_run Cert.SsdPrepRefIdeal.defs _ _).mono (fun r h => ⟨fun c => (h c).2,
      Idealize.ShloMosaic.sem_eq_zero_of_no_sems (by decide) r.2⟩)
    (Cert.SsdPrepRefIdeal.Value.run (F := Ideal) m ρ)

/-- The kernel and the reference compute the same. -/
theorem algebraic : Cert.algebraic_SsdPrepIdeal_SsdPrepRefIdeal := fun m ρ m' ρ' _ hag =>
  ⟨fun c => Cert.SsdPrepIdeal.Prep.G m c, Cert.SsdPrepIdeal.Prep.run m ρ,
    (θ_run Cert.SsdPrepRefIdeal.defs _ _).mono (fun _ h c => ⟨by
        rw [(h c).1, Cert.SsdPrepRefIdeal.Read.val_main_v53_eq, (hag c).1, (hag c).2.1, (hag c).2.2]
        exact funext fun i => Cert.SsdPrepRefIdeal.Prep.val_apply _ _ _ i, (h c).2⟩)
      (Cert.SsdPrepRefIdeal.Value.run (F := Ideal) m' ρ')⟩

end Cert.Proof.SsdPrep

end
-- ==== Proof.RopeHeads.lean ====
/-
  The heads of a projection, each divided by its root mean square and, for the latents' tokens, rotated by the token's angles.
  `headAt` is the value at a token. A tile of 256 tokens gives it with the tables of `turned_eq` (`headTile_apply`), and so does
  the host's expression over all heads (`heads_apply`).
-/
module

public import proofs.«01_k».proof.Proof.NormModulated
public import proofs.«01_k».proof.Proof.ConvHalo

@[expose] public section

set_option maxRecDepth 16384

noncomputable section

open Idealize.ShloMosaic Idealize.ShloMosaic.ValueIdx
open Cert.NormModulated
open Cert.ConvHalo (bt)

namespace Cert.RopeHeads

/-! ## One head -/

/-- A head's 128 entries over the root of their mean square, times the gains. -/
def normed (x g : Fin 128 → EReal) (d : Fin 128) : EReal :=
  x d * Ideal.rsqrt (Ideal.div (∑ k : Fin 128, x k * x k) (Ideal.ofBits .f32 0x43000000#32) + Ideal.ofBits .f32 0x358637BD#32) * g d

/-- The angle of entry `d`: each half of the head has 32, one for an entry and the entry 32 further on. -/
abbrev angle (d : Fin 128) : Fin 64 := ⟨d.val / 64 * 32 + d.val % 32, by omega⟩

/-- The entry `d` is turned with. -/
abbrev partner (d : Fin 128) : Fin 128 := if h : d.val % 64 < 32 then ⟨d.val + 32, by omega⟩ else ⟨d.val - 32, by omega⟩

/-- A head turned by the angles of cosines `c` and sines `s`. -/
def turned (y : Fin 128 → EReal) (c s : Fin 64 → EReal) (d : Fin 128) : EReal :=
  if d.val % 64 < 32 then y d * c (angle d) - y (partner d) * s (angle d)
  else y (partner d) * s (angle d) + y d * c (angle d)

/-- A head's value at token `R`: the first 256 tokens of each batch are the context, not turned. -/
def headAt (x g : Fin 128 → EReal) (c s : (⟨2, ![8192, 64]⟩ : Shape).Idx → EReal) (R : Fin 16896) (d : Fin 128) : EReal :=
  if h : R.val % 8448 < 256 then normed x g d
  else turned (normed x g) (fun f => c (ix2 (⟨R.val % 8448 - 256, by omega⟩ : Fin 8192) f))
    (fun f => s (ix2 (⟨R.val % 8448 - 256, by omega⟩ : Fin 8192) f)) d

/-- The table of cosines: ones for the context. -/
def cosAt (c : (⟨2, ![8192, 64]⟩ : Shape).Idx → EReal) (l : Fin 8448) (d : Fin 128) : EReal :=
  if h : l.val < 256 then 1 else c (ix2 (⟨l.val - 256, by omega⟩ : Fin 8192) (angle d))

/-- The table of sines, with their signs: zeros for the context. -/
def sinAt (s : (⟨2, ![8192, 64]⟩ : Shape).Idx → EReal) (l : Fin 8448) (d : Fin 128) : EReal :=
  if h : l.val < 256 then 0
  else if d.val % 64 < 32 then - s (ix2 (⟨l.val - 256, by omega⟩ : Fin 8192) (angle d))
  else s (ix2 (⟨l.val - 256, by omega⟩ : Fin 8192) (angle d))

/-- With the tables, one expression for both. -/
theorem turned_eq (x g : Fin 128 → EReal) (c s : (⟨2, ![8192, 64]⟩ : Shape).Idx → EReal) (R : Fin 16896) (l : Fin 8448)
    (hl : l.val = R.val % 8448) (d : Fin 128) :
    normed x g d * cosAt c l d + normed x g (partner d) * sinAt s l d = headAt x g c s R d := by
  have e : l = ⟨R.val % 8448, by omega⟩ := Fin.ext hl
  rw [e]
  unfold headAt cosAt sinAt turned
  by_cases h : R.val % 8448 < 256
  · rw [dif_pos h, dif_pos h, dif_pos h, mul_one, mul_zero, add_zero]
  · rw [dif_neg h, dif_neg h, dif_neg h]
    by_cases hd : d.val % 64 < 32
    · rw [if_pos hd, if_pos hd, mul_neg, ← sub_eq_add_neg]
    · rw [if_neg hd, if_neg hd, add_comm]

/-! ## A tile of the kernel -/

abbrev Tile : Shape := ⟨2, ![256, 128]⟩
abbrev Row : Shape := ⟨2, ![1, 128]⟩

/-- What a tile's expressions ask of the shapes. -/
structure TileFacts : Prop where
  flat : Row.ShapeCasts Row
  red : Tile.Reduces [1] ⟨1, ![256]⟩
  up : (⟨1, ![256]⟩ : Shape).ShapeCasts ⟨2, ![256, 1]⟩
  over : (⟨2, ![256, 1]⟩ : Shape).Broadcasts Tile
  gover : Row.Broadcasts Tile
  rot : Tile.Rotates 1 none

/-- The tile of a head, normed, as the kernel's body writes it. -/
abbrev normTile (h : TileFacts) (x : FVec Ideal Tile .f32) (g : FVec Ideal Row .f32) : FVec Ideal Tile .f32 :=
  mulf (mulf x (broadcastTo Tile (rsqrt (addf (divf (shapeCast ⟨2, ![256, 1]⟩
      (multiReduction .add [1] ⟨1, ![256]⟩ (mulf x x) 0x00000000#32 h.red (.inl rfl) rfl) h.up)
      (broadcast ⟨2, ![256, 1]⟩ (Scalar.ofBits (F := Ideal) .f32 0x43000000#32)))
      (broadcast ⟨2, ![256, 1]⟩ (Scalar.ofBits (F := Ideal) .f32 0x358637BD#32)))) h.over))
    (broadcastTo Tile (shapeCast Row g h.flat) h.gover)

/-- The tile of a head, as the kernel's body writes it. -/
abbrev headTile (h : TileFacts) (c s : FVec Ideal Tile .f32) (mask : IVec Tile 1) (x : FVec Ideal Tile .f32) (g : FVec Ideal Row .f32) :
    FVec Ideal Tile .f32 :=
  addf (mulf (normTile h x g) c)
    (mulf (select mask (dynamicRotate 1 96#32 none (normTile h x g) h.rot) (dynamicRotate 1 32#32 none (normTile h x g) h.rot)) s)

theorem normTile_apply (h : TileFacts) (x : FVec Ideal Tile .f32) (g : FVec Ideal Row .f32) (r : Fin 256) (d : Fin 128) :
    normTile h x g (ix2 r d) = normed (fun k => x (ix2 r k)) (fun k => g (ix2 0 k)) d := by
  unfold normTile normed
  refine congrArg₂ (· * ·) (congrArg (x (ix2 r d) * ·) ?_) ?_
  · refine (broadcastTo_apply _ h.over (ix2 r d) (ix2 r (0 : Fin 1)) (fun a => by match a with | ⟨0, _⟩ => rfl | ⟨1, _⟩ => rfl)).trans ?_
    refine congrArg (fun z : EReal => Ideal.rsqrt (Ideal.div z (Ideal.ofBits .f32 0x43000000#32) + Ideal.ofBits .f32 0x358637BD#32)) ?_
    refine (shapeCast_apply _ h.up (ix2 r (0 : Fin 1)) (ix1 r) (by
      rw [Shape.rowMajor_val_one, Shape.rowMajor_val_two]; show r.val = r.val * 1 + 0; omega)).trans ?_
    exact sumSq_apply x h.red (.inl rfl) rfl r
  · exact (broadcastTo_apply _ h.gover (ix2 r d) (ix2 (0 : Fin 1) d) (fun a => by match a with | ⟨0, _⟩ => rfl | ⟨1, _⟩ => rfl)).trans
      (shapeCast_apply g h.flat _ (ix2 (0 : Fin 1) d) rfl)

/-- A tile shifted along its columns. -/
theorem shift_apply (h : TileFacts) (y : FVec Ideal Tile .f32) (s : Fin 128) (r : Fin 256) (d : Fin 128) :
    dynamicRotate 1 (BitVec.ofNat 32 s.val) none y h.rot (ix2 r d) = y (ix2 r (⟨(d.val + 128 - s.val) % 128, by omega⟩ : Fin 128)) :=
  dynamicRotate_apply 1 (BitVec.ofNat 32 s.val) y h.rot (ix2 r d) _ (fun b => by
    match b with
    | ⟨0, _⟩ => rfl
    | ⟨1, _⟩ =>
      show (d.val + 128 - s.val) % 128 = (d.val + 128 - (BitVec.ofNat 32 s.val).toNat % 128) % 128
      rw [BitVec.toNat_ofNat, Nat.mod_eq_of_lt (by omega : s.val < 2 ^ 32), Nat.mod_eq_of_lt s.isLt])

theorem headTile_apply (h : TileFacts) (c s : FVec Ideal Tile .f32) (mask : IVec Tile 1) (x : FVec Ideal Tile .f32) (g : FVec Ideal Row .f32)
    (r : Fin 256) (d : Fin 128) (hm : mask (ix2 r d) = if d.val % 64 < 32 then 1#1 else 0#1) :
    headTile h c s mask x g (ix2 r d)
      = normed (fun k => x (ix2 r k)) (fun k => g (ix2 0 k)) d * c (ix2 r d)
        + normed (fun k => x (ix2 r k)) (fun k => g (ix2 0 k)) (partner d) * s (ix2 r d) := by
  refine congrArg₂ (· + ·) (congrArg (· * c (ix2 r d)) (normTile_apply h x g r d)) (congrArg (· * s (ix2 r d)) ?_)
  rw [select_apply, hm]
  by_cases hd : d.val % 64 < 32
  · rw [if_pos hd]
    refine ((shift_apply h (normTile h x g) 96 r d).trans (normTile_apply h x g r _)).trans (congrArg _ ?_)
    rw [partner, dif_pos hd]
    exact Fin.ext (by show (d.val + 128 - 96) % 128 = d.val + 32; omega)
  · rw [if_neg hd]
    refine ((shift_apply h (normTile h x g) 32 r d).trans (normTile_apply h x g r _)).trans (congrArg _ ?_)
    rw [partner, dif_neg hd]
    exact Fin.ext (by show (d.val + 128 - 32) % 128 = d.val - 32; omega)

/-! ## The host's heads -/

/-- What the host's operations on `N` heads, `W` columns in all, ask of the shapes. -/
structure HeadFacts (N W : Nat) : Prop where
  wide : W = N * 128
  split : (⟨2, ![16896, W]⟩ : Shape).ShapeCasts ⟨4, ![2, 8448, N, 128]⟩
  red : (⟨4, ![2, 8448, N, 128]⟩ : Shape).ReducesTo [3] ⟨3, ![2, 8448, N]⟩
  red' : (⟨4, ![2, 8448, N, 128]⟩ : Shape).Reduces [3] ⟨3, ![2, 8448, N]⟩
  one : 0 < (⟨0, ![]⟩ : Shape).numel
  up : (⟨3, ![2, 8448, N]⟩ : Shape).BroadcastsInDim ⟨4, ![2, 8448, N, 1]⟩ (![0, 1, 2] : Fin 3 → Fin 4)
  scal : (⟨0, ![]⟩ : Shape).BroadcastsInDim ⟨4, ![2, 8448, N, 1]⟩ (![] : Fin 0 → Fin 4)
  over : (⟨4, ![2, 8448, N, 1]⟩ : Shape).BroadcastsInDim ⟨4, ![2, 8448, N, 128]⟩ (![0, 1, 2, 3] : Fin 4 → Fin 4)
  gup : (⟨1, ![128]⟩ : Shape).BroadcastsInDim ⟨4, ![1, 1, 1, 128]⟩ (![3] : Fin 1 → Fin 4)
  gover : (⟨4, ![1, 1, 1, 128]⟩ : Shape).BroadcastsInDim ⟨4, ![2, 8448, N, 128]⟩ (![0, 1, 2, 3] : Fin 4 → Fin 4)
  cutc : (⟨4, ![2, 8448, N, 128]⟩ : Shape).Slices ![0, 0, 0, 0] ⟨4, ![2, 256, N, 128]⟩
  cutl : (⟨4, ![2, 8448, N, 128]⟩ : Shape).Slices ![0, 256, 0, 0] ⟨4, ![2, 8192, N, 128]⟩
  half0 : (⟨4, ![2, 8192, N, 128]⟩ : Shape).Slices ![0, 0, 0, 0] ⟨4, ![2, 8192, N, 64]⟩
  half1 : (⟨4, ![2, 8192, N, 128]⟩ : Shape).Slices ![0, 0, 0, 64] ⟨4, ![2, 8192, N, 64]⟩
  quart0 : (⟨4, ![2, 8192, N, 64]⟩ : Shape).Slices ![0, 0, 0, 0] ⟨4, ![2, 8192, N, 32]⟩
  quart1 : (⟨4, ![2, 8192, N, 64]⟩ : Shape).Slices ![0, 0, 0, 32] ⟨4, ![2, 8192, N, 32]⟩
  tab0 : (⟨2, ![8192, 64]⟩ : Shape).Slices ![0, 0] ⟨2, ![8192, 32]⟩
  tab1 : (⟨2, ![8192, 64]⟩ : Shape).Slices ![0, 32] ⟨2, ![8192, 32]⟩
  tup : (⟨2, ![8192, 32]⟩ : Shape).BroadcastsInDim ⟨3, ![8192, 1, 32]⟩ (![0, 2] : Fin 2 → Fin 3)
  tup' : (⟨3, ![8192, 1, 32]⟩ : Shape).BroadcastsInDim ⟨4, ![1, 8192, 1, 32]⟩ (![1, 2, 3] : Fin 3 → Fin 4)
  tover : (⟨4, ![1, 8192, 1, 32]⟩ : Shape).BroadcastsInDim ⟨4, ![2, 8192, N, 32]⟩ (![0, 1, 2, 3] : Fin 4 → Fin 4)
  joinq : Shape.Concatenates [(⟨4, ![2, 8192, N, 32]⟩ : Shape), ⟨4, ![2, 8192, N, 32]⟩, ⟨4, ![2, 8192, N, 32]⟩, ⟨4, ![2, 8192, N, 32]⟩]
    ⟨4, ![2, 8192, N, 128]⟩ 3
  joinl : Shape.Concatenates [(⟨4, ![2, 256, N, 128]⟩ : Shape), ⟨4, ![2, 8192, N, 128]⟩] ⟨4, ![2, 8448, N, 128]⟩ 1

variable {N W : Nat}

/-- The heads taken apart. -/
abbrev apart (h : HeadFacts N W) (u : FVec Ideal ⟨2, ![16896, W]⟩ .f32) : FVec Ideal ⟨4, ![2, 8448, N, 128]⟩ .f32 :=
  shapeCast ⟨4, ![2, 8448, N, 128]⟩ u h.split

/-- Every head normed, as the host writes it. -/
abbrev norms (h : HeadFacts N W) (u : FVec Ideal ⟨2, ![16896, W]⟩ .f32) (g : FVec Ideal ⟨1, ![128]⟩ .f32) :
    FVec Ideal ⟨4, ![2, 8448, N, 128]⟩ .f32 :=
  mulf (mulf (apart h u) (broadcastInDim ⟨4, ![2, 8448, N, 128]⟩ ![0, 1, 2, 3] h.over (Host.rsqrt (addf (Host.divf
      (broadcastInDim ⟨4, ![2, 8448, N, 1]⟩ ![0, 1, 2] h.up (Host.reduceAdd (mulf (apart h u) (apart h u)) (constant (F := Ideal) ⟨0, ![]⟩ .f32 0x00000000#32) h.red h.one))
      (broadcastInDim ⟨4, ![2, 8448, N, 1]⟩ ![] h.scal (constant (F := Ideal) ⟨0, ![]⟩ .f32 0x43000000#32)))
      (broadcastInDim ⟨4, ![2, 8448, N, 1]⟩ ![] h.scal (constant (F := Ideal) ⟨0, ![]⟩ .f32 0x358637BD#32))))))
    (broadcastInDim ⟨4, ![2, 8448, N, 128]⟩ ![0, 1, 2, 3] h.gover (broadcastInDim ⟨4, ![1, 1, 1, 128]⟩ ![3] h.gup g))

/-- A head's columns of the projection. -/
abbrev headOf (h : HeadFacts N W) (u : FVec Ideal ⟨2, ![16896, W]⟩ .f32) (R : Fin 16896) (n : Fin N) : Fin 128 → EReal :=
  fun k => u (ix2 R (⟨n.val * 128 + k.val, by have := h.wide; omega⟩ : Fin W))

theorem apart_apply (h : HeadFacts N W) (u : FVec Ideal ⟨2, ![16896, W]⟩ .f32) (b : Fin 2) (l : Fin 8448) (n : Fin N) (k : Fin 128) :
    apart h u (ix4 b l n k) = headOf h u (bt b l) n k :=
  shapeCast_apply u h.split (ix4 b l n k) (ix2 (bt b l) (⟨n.val * 128 + k.val, by have := h.wide; omega⟩ : Fin W)) (by
    rw [Shape.rowMajor_val_two, Shape.rowMajor_val_four]
    show (b.val * 8448 + l.val) * W + (n.val * 128 + k.val) = ((b.val * 8448 + l.val) * N + n.val) * 128 + k.val
    rw [h.wide, Nat.add_mul _ n.val, Nat.mul_assoc]
    omega)

theorem norms_apply (h : HeadFacts N W) (u : FVec Ideal ⟨2, ![16896, W]⟩ .f32) (g : FVec Ideal ⟨1, ![128]⟩ .f32) (b : Fin 2) (l : Fin 8448)
    (n : Fin N) (d : Fin 128) : norms h u g (ix4 b l n d) = normed (headOf h u (bt b l) n) (fun k => g (ix1 k)) d := by
  have hr : Host.reduceAdd (mulf (apart h u) (apart h u)) (constant (F := Ideal) ⟨0, ![]⟩ .f32 0x00000000#32) h.red h.one (ix3 b l n)
      = ∑ k : Fin 128, headOf h u (bt b l) n k * headOf h u (bt b l) n k := by
    simp only [Host.reduceAdd, Ideal.hostReduceAdd_def]
    rw [Ideal.hostReduceAdd_single h.red h.red']
    refine (congrArg (· + _) Ideal.ofBits_zero_f32).trans ((zero_add _).trans (Finset.sum_congr rfl fun k _ => ?_))
    have e : h.red'.lift (ix3 b l n) k = ix4 b l n k := funext fun a => Fin.ext (by
      match a with | ⟨0, _⟩ => rfl | ⟨1, _⟩ => rfl | ⟨2, _⟩ => rfl | ⟨3, _⟩ => rfl)
    rw [e]
    exact congrArg₂ (· * ·) (apart_apply h u b l n k) (apart_apply h u b l n k)
  unfold norms normed
  refine congrArg₂ (· * ·) (congrArg₂ (· * ·) (apart_apply h u b l n d) ?_) ?_
  · refine (broadcastInDim_apply _ h.over _ (ix4 b l n d) (ix4 b l n (0 : Fin 1)) (fun a => by
      match a with
      | ⟨0, _⟩ => rfl
      | ⟨1, _⟩ => rfl
      | ⟨2, _⟩ => show n.val = if N = 1 then 0 else n.val; split <;> omega
      | ⟨3, _⟩ => rfl)).trans ?_
    refine congrArg (fun z : EReal => Ideal.rsqrt (Ideal.div z (Ideal.ofBits .f32 0x43000000#32) + Ideal.ofBits .f32 0x358637BD#32)) ?_
    exact (broadcastInDim_apply _ h.up _ (ix4 b l n (0 : Fin 1)) (ix3 b l n) (fun a => by
      match a with
      | ⟨0, _⟩ => rfl
      | ⟨1, _⟩ => rfl
      | ⟨2, _⟩ => show n.val = if N = 1 then 0 else n.val; split <;> omega)).trans hr
  · exact (broadcastInDim_apply _ h.gover _ (ix4 b l n d) (ix4 (0 : Fin 1) (0 : Fin 1) (0 : Fin 1) d) (fun a => by
      match a with
      | ⟨0, _⟩ => rfl
      | ⟨1, _⟩ => rfl
      | ⟨2, _⟩ => rfl
      | ⟨3, _⟩ => rfl)).trans (broadcastInDim_apply _ h.gup g _ (ix1 d) (fun a => by match a with | ⟨0, _⟩ => rfl))

/-- One quarter of the latents' heads. -/
abbrev quarter (o p : Nat) (ho : (⟨4, ![2, 8192, N, 128]⟩ : Shape).Slices ![0, 0, 0, o] ⟨4, ![2, 8192, N, 64]⟩)
    (hp : (⟨4, ![2, 8192, N, 64]⟩ : Shape).Slices ![0, 0, 0, p] ⟨4, ![2, 8192, N, 32]⟩) (h : HeadFacts N W)
    (y : FVec Ideal ⟨4, ![2, 8448, N, 128]⟩ .f32) : FVec Ideal ⟨4, ![2, 8192, N, 32]⟩ .f32 :=
  extractStridedSlice ⟨4, ![2, 8192, N, 32]⟩ ![0, 0, 0, p] (extractStridedSlice ⟨4, ![2, 8192, N, 64]⟩ ![0, 0, 0, o]
    (extractStridedSlice ⟨4, ![2, 8192, N, 128]⟩ ![0, 256, 0, 0] y h.cutl) ho) hp

theorem quarter_apply (o p : Nat) (ho : (⟨4, ![2, 8192, N, 128]⟩ : Shape).Slices ![0, 0, 0, o] ⟨4, ![2, 8192, N, 64]⟩)
    (hp : (⟨4, ![2, 8192, N, 64]⟩ : Shape).Slices ![0, 0, 0, p] ⟨4, ![2, 8192, N, 32]⟩) (h : HeadFacts N W)
    (y : FVec Ideal ⟨4, ![2, 8448, N, 128]⟩ .f32) (b : Fin 2) (l : Fin 8192) (n : Fin N) (e : Fin 32) (d : Fin 128) (hd : d.val = o + p + e.val) :
    quarter o p ho hp h y (ix4 b l n e) = y (ix4 b (⟨256 + l.val, by omega⟩ : Fin 8448) n d) := by
  have h64 : p + 32 ≤ 64 := hp.2 3
  refine (extractStridedSlice_apply _ _ hp (ix4 b l n e) (ix4 b l n (⟨p + e.val, by omega⟩ : Fin 64)) (fun a => by
    match a with
    | ⟨0, _⟩ => exact (Nat.zero_add _).symm
    | ⟨1, _⟩ => exact (Nat.zero_add _).symm
    | ⟨2, _⟩ => exact (Nat.zero_add _).symm
    | ⟨3, _⟩ => rfl)).trans ?_
  refine (extractStridedSlice_apply _ _ ho _ (ix4 b l n d) (fun a => by
    match a with
    | ⟨0, _⟩ => exact (Nat.zero_add _).symm
    | ⟨1, _⟩ => exact (Nat.zero_add _).symm
    | ⟨2, _⟩ => exact (Nat.zero_add _).symm
    | ⟨3, _⟩ => show d.val = o + (p + e.val); omega)).trans ?_
  exact extractStridedSlice_apply _ y h.cutl _ (ix4 b (⟨256 + l.val, by omega⟩ : Fin 8448) n d) (fun a => by
    match a with
    | ⟨0, _⟩ => exact (Nat.zero_add _).symm
    | ⟨1, _⟩ => rfl
    | ⟨2, _⟩ => exact (Nat.zero_add _).symm
    | ⟨3, _⟩ => exact (Nat.zero_add _).symm)

/-- Half of a table, for all heads. -/
abbrev table (o : Nat) (ho : (⟨2, ![8192, 64]⟩ : Shape).Slices ![0, o] ⟨2, ![8192, 32]⟩) (h : HeadFacts N W)
    (c : FVec Ideal ⟨2, ![8192, 64]⟩ .f32) : FVec Ideal ⟨4, ![2, 8192, N, 32]⟩ .f32 :=
  broadcastInDim ⟨4, ![2, 8192, N, 32]⟩ ![0, 1, 2, 3] h.tover (broadcastInDim ⟨4, ![1, 8192, 1, 32]⟩ ![1, 2, 3] h.tup'
    (broadcastInDim ⟨3, ![8192, 1, 32]⟩ ![0, 2] h.tup (extractStridedSlice ⟨2, ![8192, 32]⟩ ![0, o] c ho)))

theorem table_apply (o : Nat) (ho : (⟨2, ![8192, 64]⟩ : Shape).Slices ![0, o] ⟨2, ![8192, 32]⟩) (h : HeadFacts N W)
    (c : FVec Ideal ⟨2, ![8192, 64]⟩ .f32) (b : Fin 2) (l : Fin 8192) (n : Fin N) (e : Fin 32) (f : Fin 64) (hf : f.val = o + e.val) :
    table o ho h c (ix4 b l n e) = c (ix2 l f) := by
  refine (broadcastInDim_apply _ h.tover _ (ix4 b l n e) (ix4 (0 : Fin 1) l (0 : Fin 1) e) (fun a => by
    match a with | ⟨0, _⟩ => rfl | ⟨1, _⟩ => rfl | ⟨2, _⟩ => rfl | ⟨3, _⟩ => rfl)).trans ?_
  refine (broadcastInDim_apply _ h.tup' _ _ (ix3 l (0 : Fin 1) e) (fun a => by
    match a with | ⟨0, _⟩ => rfl | ⟨1, _⟩ => rfl | ⟨2, _⟩ => rfl)).trans ?_
  refine (broadcastInDim_apply _ h.tup _ _ (ix2 l e) (fun a => by
    match a with | ⟨0, _⟩ => rfl | ⟨1, _⟩ => rfl)).trans ?_
  exact extractStridedSlice_apply _ c ho _ (ix2 l f) (fun a => by
    match a with
    | ⟨0, _⟩ => exact (Nat.zero_add _).symm
    | ⟨1, _⟩ => exact hf)

/-- The four quarters of the latents' heads after turning, from the offset `o` of the half and the table's half `t`. -/
abbrev first (o t : Nat) (ho : (⟨4, ![2, 8192, N, 128]⟩ : Shape).Slices ![0, 0, 0, o] ⟨4, ![2, 8192, N, 64]⟩)
    (ht : (⟨2, ![8192, 64]⟩ : Shape).Slices ![0, t] ⟨2, ![8192, 32]⟩) (h : HeadFacts N W)
    (y : FVec Ideal ⟨4, ![2, 8448, N, 128]⟩ .f32) (c s : FVec Ideal ⟨2, ![8192, 64]⟩ .f32) : FVec Ideal ⟨4, ![2, 8192, N, 32]⟩ .f32 :=
  subf (mulf (quarter o 0 ho h.quart0 h y) (table t ht h c)) (mulf (quarter o 32 ho h.quart1 h y) (table t ht h s))

abbrev second (o t : Nat) (ho : (⟨4, ![2, 8192, N, 128]⟩ : Shape).Slices ![0, 0, 0, o] ⟨4, ![2, 8192, N, 64]⟩)
    (ht : (⟨2, ![8192, 64]⟩ : Shape).Slices ![0, t] ⟨2, ![8192, 32]⟩) (h : HeadFacts N W)
    (y : FVec Ideal ⟨4, ![2, 8448, N, 128]⟩ .f32) (c s : FVec Ideal ⟨2, ![8192, 64]⟩ .f32) : FVec Ideal ⟨4, ![2, 8192, N, 32]⟩ .f32 :=
  addf (mulf (quarter o 0 ho h.quart0 h y) (table t ht h s)) (mulf (quarter o 32 ho h.quart1 h y) (table t ht h c))

/-- A head of the latents, normed and turned. -/
abbrev turn (y : FVec Ideal ⟨4, ![2, 8448, N, 128]⟩ .f32) (c s : FVec Ideal ⟨2, ![8192, 64]⟩ .f32) (b : Fin 2) (l : Fin 8192) (n : Fin N) :
    Fin 128 → EReal :=
  turned (fun k => y (ix4 b (⟨256 + l.val, by omega⟩ : Fin 8448) n k)) (fun f => c (ix2 l f)) (fun f => s (ix2 l f))

theorem first_apply (o t : Nat) (ho : (⟨4, ![2, 8192, N, 128]⟩ : Shape).Slices ![0, 0, 0, o] ⟨4, ![2, 8192, N, 64]⟩)
    (ht : (⟨2, ![8192, 64]⟩ : Shape).Slices ![0, t] ⟨2, ![8192, 32]⟩) (h : HeadFacts N W)
    (y : FVec Ideal ⟨4, ![2, 8448, N, 128]⟩ .f32) (c s : FVec Ideal ⟨2, ![8192, 64]⟩ .f32) (b : Fin 2) (l : Fin 8192) (n : Fin N) (e : Fin 32)
    (d : Fin 128) (hd : d.val = o + e.val) (hm : o % 64 = 0) (hot : t = o / 64 * 32) :
    first o t ho ht h y c s (ix4 b l n e) = turn y c s b l n d := by
  have hdm : d.val % 64 < 32 := by omega
  unfold first turn turned
  rw [if_pos hdm, partner, dif_pos hdm]
  exact congrArg₂ (· - ·)
    (congrArg₂ (· * ·) (quarter_apply o 0 ho h.quart0 h y b l n e d (by omega)) (table_apply t ht h c b l n e (angle d) (by
      show d.val / 64 * 32 + d.val % 32 = t + e.val; omega)))
    (congrArg₂ (· * ·) (quarter_apply o 32 ho h.quart1 h y b l n e ⟨d.val + 32, by omega⟩ (by show d.val + 32 = o + 32 + e.val; omega))
      (table_apply t ht h s b l n e (angle d) (by show d.val / 64 * 32 + d.val % 32 = t + e.val; omega)))

theorem second_apply (o t : Nat) (ho : (⟨4, ![2, 8192, N, 128]⟩ : Shape).Slices ![0, 0, 0, o] ⟨4, ![2, 8192, N, 64]⟩)
    (ht : (⟨2, ![8192, 64]⟩ : Shape).Slices ![0, t] ⟨2, ![8192, 32]⟩) (h : HeadFacts N W)
    (y : FVec Ideal ⟨4, ![2, 8448, N, 128]⟩ .f32) (c s : FVec Ideal ⟨2, ![8192, 64]⟩ .f32) (b : Fin 2) (l : Fin 8192) (n : Fin N) (e : Fin 32)
    (d : Fin 128) (hd : d.val = o + 32 + e.val) (hm : o % 64 = 0) (hot : t = o / 64 * 32) :
    second o t ho ht h y c s (ix4 b l n e) = turn y c s b l n d := by
  have hdm : ¬ d.val % 64 < 32 := by omega
  unfold second turn turned
  rw [if_neg hdm, partner, dif_neg hdm]
  exact congrArg₂ (· + ·)
    (congrArg₂ (· * ·) (quarter_apply o 0 ho h.quart0 h y b l n e ⟨d.val - 32, by omega⟩ (by show d.val - 32 = o + 0 + e.val; omega))
      (table_apply t ht h s b l n e (angle d) (by show d.val / 64 * 32 + d.val % 32 = t + e.val; omega)))
    (congrArg₂ (· * ·) (quarter_apply o 32 ho h.quart1 h y b l n e d (by omega)) (table_apply t ht h c b l n e (angle d) (by
      show d.val / 64 * 32 + d.val % 32 = t + e.val; omega)))

/-- The latents' heads put together, as the host writes it. -/
abbrev turns (h : HeadFacts N W) (y : FVec Ideal ⟨4, ![2, 8448, N, 128]⟩ .f32) (c s : FVec Ideal ⟨2, ![8192, 64]⟩ .f32) :
    FVec Ideal ⟨4, ![2, 8192, N, 128]⟩ .f32 :=
  concatenate ⟨4, ![2, 8192, N, 128]⟩ 3
    [⟨⟨4, ![2, 8192, N, 32]⟩, first 0 0 h.half0 h.tab0 h y c s⟩, ⟨⟨4, ![2, 8192, N, 32]⟩, second 0 0 h.half0 h.tab0 h y c s⟩,
     ⟨⟨4, ![2, 8192, N, 32]⟩, first 64 32 h.half1 h.tab1 h y c s⟩, ⟨⟨4, ![2, 8192, N, 32]⟩, second 64 32 h.half1 h.tab1 h y c s⟩] h.joinq

/-- Four pieces of 32 columns put together, read at a column of one of them. -/
theorem four_apply (v : Fin 4 → FVec Ideal ⟨4, ![2, 8192, N, 32]⟩ .f32)
    (hj : Shape.Concatenates [(⟨4, ![2, 8192, N, 32]⟩ : Shape), ⟨4, ![2, 8192, N, 32]⟩, ⟨4, ![2, 8192, N, 32]⟩, ⟨4, ![2, 8192, N, 32]⟩]
      ⟨4, ![2, 8192, N, 128]⟩ 3) (b : Fin 2) (l : Fin 8192) (n : Fin N) (d : Fin 128) :
    concatenate ⟨4, ![2, 8192, N, 128]⟩ 3
      [⟨⟨4, ![2, 8192, N, 32]⟩, v 0⟩, ⟨⟨4, ![2, 8192, N, 32]⟩, v 1⟩, ⟨⟨4, ![2, 8192, N, 32]⟩, v 2⟩, ⟨⟨4, ![2, 8192, N, 32]⟩, v 3⟩] hj (ix4 b l n d)
      = v ⟨d.val / 32, by omega⟩ (ix4 b l n (⟨d.val % 32, by omega⟩ : Fin 32)) := by
  have key : ∀ q : Fin 4, d.val / 32 = q.val → concatenate ⟨4, ![2, 8192, N, 128]⟩ 3
      [⟨⟨4, ![2, 8192, N, 32]⟩, v 0⟩, ⟨⟨4, ![2, 8192, N, 32]⟩, v 1⟩, ⟨⟨4, ![2, 8192, N, 32]⟩, v 2⟩, ⟨⟨4, ![2, 8192, N, 32]⟩, v 3⟩] hj (ix4 b l n d)
      = v q (ix4 b l n (⟨d.val % 32, by omega⟩ : Fin 32)) := fun q hq =>
    concatenate_apply_piece 3 [(⟨⟨4, ![2, 8192, N, 32]⟩, v 0⟩ : (s : Shape) × (s.Idx → EReal)), ⟨⟨4, ![2, 8192, N, 32]⟩, v 1⟩,
      ⟨⟨4, ![2, 8192, N, 32]⟩, v 2⟩, ⟨⟨4, ![2, 8192, N, 32]⟩, v 3⟩] hj (ix4 b l n d) q.val q.isLt _ (v q) (by fin_cases q <;> rfl) rfl (q.val * 32) (by fin_cases q <;> rfl)
      (ix4 b l n (⟨d.val % 32, by omega⟩ : Fin 32)) (fun a ha => by
        match a with
        | ⟨0, _⟩ => rfl
        | ⟨1, _⟩ => rfl
        | ⟨2, _⟩ => rfl
        | ⟨3, _⟩ => exact absurd rfl ha) (by show q.val * 32 + d.val % 32 = d.val; omega)
  exact key ⟨d.val / 32, by omega⟩ rfl

theorem turns_apply (h : HeadFacts N W) (y : FVec Ideal ⟨4, ![2, 8448, N, 128]⟩ .f32) (c s : FVec Ideal ⟨2, ![8192, 64]⟩ .f32)
    (b : Fin 2) (l : Fin 8192) (n : Fin N) (d : Fin 128) : turns h y c s (ix4 b l n d) = turn y c s b l n d := by
  refine (four_apply ![first 0 0 h.half0 h.tab0 h y c s, second 0 0 h.half0 h.tab0 h y c s, first 64 32 h.half1 h.tab1 h y c s,
    second 64 32 h.half1 h.tab1 h y c s] h.joinq b l n d).trans ?_
  obtain hq | hq | hq | hq : d.val / 32 = 0 ∨ d.val / 32 = 1 ∨ d.val / 32 = 2 ∨ d.val / 32 = 3 := by omega
  · rw [show (⟨d.val / 32, by omega⟩ : Fin 4) = 0 from Fin.ext hq]
    exact first_apply 0 0 h.half0 h.tab0 h y c s b l n _ d (by show d.val = 0 + d.val % 32; omega) rfl rfl
  · rw [show (⟨d.val / 32, by omega⟩ : Fin 4) = 1 from Fin.ext hq]
    exact second_apply 0 0 h.half0 h.tab0 h y c s b l n _ d (by show d.val = 0 + 32 + d.val % 32; omega) rfl rfl
  · rw [show (⟨d.val / 32, by omega⟩ : Fin 4) = 2 from Fin.ext hq]
    exact first_apply 64 32 h.half1 h.tab1 h y c s b l n _ d (by show d.val = 64 + d.val % 32; omega) rfl rfl
  · rw [show (⟨d.val / 32, by omega⟩ : Fin 4) = 3 from Fin.ext hq]
    exact second_apply 64 32 h.half1 h.tab1 h y c s b l n _ d (by show d.val = 64 + 32 + d.val % 32; omega) rfl rfl

/-- The heads of all tokens, as the host writes it. -/
abbrev heads (h : HeadFacts N W) (u : FVec Ideal ⟨2, ![16896, W]⟩ .f32) (c s : FVec Ideal ⟨2, ![8192, 64]⟩ .f32) (g : FVec Ideal ⟨1, ![128]⟩ .f32) :
    FVec Ideal ⟨4, ![2, 8448, N, 128]⟩ .f32 :=
  concatenate ⟨4, ![2, 8448, N, 128]⟩ 1
    [⟨⟨4, ![2, 256, N, 128]⟩, extractStridedSlice ⟨4, ![2, 256, N, 128]⟩ ![0, 0, 0, 0] (norms h u g) h.cutc⟩,
     ⟨⟨4, ![2, 8192, N, 128]⟩, turns h (norms h u g) c s⟩] h.joinl

/-- They are `headAt`, head by head. -/
theorem heads_apply (h : HeadFacts N W) (u : FVec Ideal ⟨2, ![16896, W]⟩ .f32) (c s : FVec Ideal ⟨2, ![8192, 64]⟩ .f32)
    (g : FVec Ideal ⟨1, ![128]⟩ .f32) (b : Fin 2) (l : Fin 8448) (n : Fin N) (d : Fin 128) :
    heads h u c s g (ix4 b l n d) = headAt (headOf h u (bt b l) n) (fun k => g (ix1 k)) c s (bt b l) d := by
  have hm : (bt b l).val % 8448 = l.val := by show (b.val * 8448 + l.val) % 8448 = l.val; omega
  unfold heads headAt
  by_cases hl : l.val < 256
  · rw [concatenate_pair_apply_left 1 _ _ h.joinl (ix4 b l n d) rfl (ix4 b (⟨l.val, hl⟩ : Fin 256) n d) (fun a => by
      match a with | ⟨0, _⟩ => rfl | ⟨1, _⟩ => rfl | ⟨2, _⟩ => rfl | ⟨3, _⟩ => rfl), dif_pos (by rw [hm]; exact hl)]
    exact (extractStridedSlice_apply _ _ h.cutc _ (ix4 b l n d) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm)).trans (norms_apply h u g b l n d)
  · rw [concatenate_pair_apply_right 1 _ _ h.joinl (ix4 b l n d) rfl rfl (ix4 b (⟨l.val - 256, by omega⟩ : Fin 8192) n d) (fun a ha => by
      match a with
      | ⟨0, _⟩ => rfl
      | ⟨1, _⟩ => exact absurd rfl ha
      | ⟨2, _⟩ => rfl
      | ⟨3, _⟩ => rfl) (by show l.val - 256 + 256 = l.val; omega), dif_neg (by rw [hm]; exact hl)]
    refine (turns_apply h (norms h u g) c s b _ n d).trans ?_
    have el : (⟨256 + (l.val - 256), by omega⟩ : Fin 8448) = l := Fin.ext (by show 256 + (l.val - 256) = l.val; omega)
    have er : (⟨(bt b l).val % 8448 - 256, by omega⟩ : Fin 8192) = ⟨l.val - 256, by omega⟩ := Fin.ext (by
      show (bt b l).val % 8448 - 256 = l.val - 256; rw [hm])
    unfold turn
    rw [er]
    refine congrArg (fun y : Fin 128 → EReal => turned y _ _ d) (funext fun k => ?_)
    show norms h u g (ix4 b (⟨256 + (l.val - 256), by omega⟩ : Fin 8448) n k) = _
    rw [el]
    exact norms_apply h u g b l n k

end Cert.RopeHeads

end
-- ==== Proof.QkvPrepValue.lean ====
/-
  The queries, keys and values of the attention layers: the kernel's three result arrays are `queryAt`, `keyAt` and `valueAt`, and
  the host's expressions are the same.
-/
module

public import proofs.«01_k».proof.Defs
public import proofs.«01_k».proof.Proof.MatBlock
public import proofs.«01_k».proof.Proof.RopeHeads
public import Idealize.ShloMosaic.Lib.Pipeline.ValueKit.Tiles
public import proofs.«01_k».proof.Proof.Gen.QkvPrepIdeal.Value
public import proofs.«01_k».proof.Proof.Gen.QkvPrepRefIdeal.Run
public import proofs.«01_k».proof.Proof.Gen.QkvPrepRefIdeal.Read

@[expose] public section

set_option maxRecDepth 16384

noncomputable section

open Idealize.ShloMosaic Idealize.ShloMosaic.TcCoe Idealize.SL.Sem Idealize.ShloMosaic.ValueIdx
open Cert.MatBlock Cert.RopeHeads
open Cert.ConvHalo (bt tok)

namespace Cert.QkvPrep

abbrev Proj : Shape := ⟨2, ![16896, 4608]⟩
abbrev Tab : Shape := ⟨2, ![8192, 64]⟩
abbrev Gain : Shape := ⟨1, ![128]⟩

/-- The 128 columns of the projection from column `o` on, at token `R`. -/
abbrev cols (p : Proj.Idx → EReal) (R : Fin 16896) (o : Nat) (ho : o + 128 ≤ 1536) : Fin 128 → EReal :=
  fun k => p (ix2 R (⟨o + k.val, by omega⟩ : Fin 4608))

/-- The queries at token `R`, column `C`: head `C / 128`, with the scale of the scores. -/
def queryAt (p : Proj.Idx → EReal) (c s : Tab.Idx → EReal) (g : Gain.Idx → EReal) (R : Fin 16896) (C : Fin 1024) : EReal :=
  headAt (cols p R (C.val / 128 * 128) (by omega)) (fun k => g (ix1 k)) c s R ⟨C.val % 128, by omega⟩ * Ideal.ofBits .f32 0x3DB504F3#32

/-- The keys: they stand behind the 1024 columns of the queries. -/
def keyAt (p : Proj.Idx → EReal) (c s : Tab.Idx → EReal) (g : Gain.Idx → EReal) (R : Fin 16896) (C : Fin 256) : EReal :=
  headAt (cols p R (1024 + C.val / 128 * 128) (by omega)) (fun k => g (ix1 k)) c s R ⟨C.val % 128, by omega⟩

/-- The values: the columns behind the keys, as they are. -/
def valueAt (p : Proj.Idx → EReal) (R : Fin 16896) (C : Fin 256) : EReal := p (ix2 R (⟨1280 + C.val, by omega⟩ : Fin 4608))

end Cert.QkvPrep

open Cert.QkvPrep

namespace Cert.QkvPrepIdeal.Prep

open Cert.QkvPrepIdeal Cert.QkvPrepIdeal.Gen

/-! ## The body -/

theorem tileFacts : TileFacts :=
  ⟨shapeCasts_S1x128_S1x128, reduces_S256x128_S256, shapeCasts_S256_S256x1, broadcasts_S256x1_S256x128, broadcasts_S1x128_S256x128,
    rotates_S256x128_d1⟩

/-- The columns whose partner stands 32 further on. -/
theorem mask_apply (r : Fin 256) (d : Fin 128) : k0_pay3 (ix2 r d) = if d.val % 64 < 32 then 1#1 else 0#1 := by
  have e : k0_pay3 (ix2 r d) = k0_pay3 (ix2 0 d) := rfl
  rw [e]
  exact (by decide +kernel : ∀ d : Fin 128, k0_pay3 (ix2 (0 : Fin 256) d) = if d.val % 64 < 32 then 1#1 else 0#1) d

/-- What the blocks of tile `t` hold: rows of the projection, of the tables, and the gains. -/
structure Reads (p : Proj.Idx → EReal) (c s : Tab.Idx → EReal) (gq gk : Gain.Idx → EReal) (t : Fin 66) (x0 : Vec Ideal S256x1536 .f32)
    (x1 x2 : Vec Ideal S256x128 .f32) (x3 x4 : Vec Ideal S1x128 .f32) : Prop where
  proj : ∀ (r : Fin 256) (k : Fin 1536), x0 (ix2 r k) = p (ix2 (tok t r) (⟨k.val, by omega⟩ : Fin 4608))
  cos : ∀ (r : Fin 256) (d : Fin 128), x1 (ix2 r d) = cosAt c ⟨t.val % 33 * 256 + r.val, by omega⟩ d
  sin : ∀ (r : Fin 256) (d : Fin 128), x2 (ix2 r d) = sinAt s ⟨t.val % 33 * 256 + r.val, by omega⟩ d
  gainq : ∀ k : Fin 128, x3 (ix2 0 k) = gq (ix1 k)
  gaink : ∀ k : Fin 128, x4 (ix2 0 k) = gk (ix1 k)

section Body

variable {p : Proj.Idx → EReal} {c s : Tab.Idx → EReal} {gq gk : Gain.Idx → EReal} {t : Fin 66} {x0 : Vec Ideal S256x1536 .f32}
  {x1 x2 : Vec Ideal S256x128 .f32} {x3 x4 : Vec Ideal S1x128 .f32}

/-- A head's columns, loaded. -/
abbrev loaded (x0 : Vec Ideal S256x1536 .f32) (o : Nat) (inb : ∀ a, (![0, o] : Fin 2 → Nat) a + S256x128.size a ≤ S256x1536.size a) :
    FVec Ideal S256x128 .f32 := View.ld x0 (Rect.unit (s := S256x1536) ![0, o] S256x128.size inb)

theorem loaded_apply (h : Reads p c s gq gk t x0 x1 x2 x3 x4) (o : Nat) (ho : o + 128 ≤ 1536)
    (inb : ∀ a, (![0, o] : Fin 2 → Nat) a + S256x128.size a ≤ S256x1536.size a) (r : Fin 256) (k : Fin 128) :
    loaded x0 o inb (ix2 r k) = cols p (tok t r) o ho k := by
  unfold loaded
  rw [View.ld_unit]
  exact (extractStridedSlice_apply (s := S256x1536) (t := S256x128) _ x0 _ _ (ix2 r (⟨o + k.val, by omega⟩ : Fin 1536)) (fun a => by
    match a with
    | ⟨0, _⟩ => exact (Nat.zero_add _).symm
    | ⟨1, _⟩ => rfl)).trans (h.proj r _)

/-- A head of the tile, as the kernel's body writes it. -/
abbrev body (x1 x2 : Vec Ideal S256x128 .f32) (x : FVec Ideal S256x128 .f32) (g : Vec Ideal S1x128 .f32) : FVec Ideal S256x128 .f32 :=
  headTile tileFacts (k0_pay1 (F := Ideal) (View.ld x1 r0_0)) (k0_pay2 (F := Ideal) (View.ld x2 r0_0)) k0_pay3 x (View.ld g r0_2)

theorem body_apply (h : Reads p c s gq gk t x0 x1 x2 x3 x4) (o : Nat) (ho : o + 128 ≤ 1536)
    (inb : ∀ a, (![0, o] : Fin 2 → Nat) a + S256x128.size a ≤ S256x1536.size a) (g : Vec Ideal S1x128 .f32) (g' : Gain.Idx → EReal)
    (hg : ∀ k : Fin 128, g (ix2 0 k) = g' (ix1 k)) (r : Fin 256) (d : Fin 128) :
    body x1 x2 (loaded x0 o inb) g (ix2 r d) = headAt (cols p (tok t r) o ho) (fun k => g' (ix1 k)) c s (tok t r) d := by
  unfold body
  rw [View.ld_unit_zero hz2, View.ld_unit_zero hz2, View.ld_unit_zero hz2, headTile_apply _ _ _ _ _ _ r d (mask_apply r d)]
  have e1 : k0_pay1 (F := Ideal) x1 (ix2 r d) = x1 (ix2 r d) :=
    shapeCast_apply (s := S256x128) (t := S256x128) x1 shapeCasts_S256x128_S256x128 (ix2 r d) (ix2 r d) rfl
  have e2 : k0_pay2 (F := Ideal) x2 (ix2 r d) = x2 (ix2 r d) :=
    shapeCast_apply (s := S256x128) (t := S256x128) x2 shapeCasts_S256x128_S256x128 (ix2 r d) (ix2 r d) rfl
  rw [e1, e2, h.cos, h.sin, show (fun k : Fin 128 => loaded x0 o inb (ix2 r k)) = cols p (tok t r) o ho from
      funext fun k => loaded_apply h o ho inb r k, show (fun k : Fin 128 => g (ix2 0 k)) = fun k => g' (ix1 k) from funext hg]
  exact turned_eq _ _ c s (tok t r) _ (by show t.val % 33 * 256 + r.val = (t.val * 256 + r.val) % 8448; omega) d

/-- A stored head of the queries … -/
theorem query_piece (h : Reads p c s gq gk t x0 x1 x2 x3 x4) (o : Nat) (hm : o % 128 = 0)
    (inb : ∀ a, (![0, o] : Fin 2 → Nat) a + S256x128.size a ≤ S256x1536.size a) (y : S256x1024.Idx) (z : S256x128.Idx)
    (h0 : (y 0).val = (z 0).val) (h1 : (y 1).val = o + (z 1).val) :
    truncf (F := Ideal) (s := S256x128) (φ := .f32) .bf16 (mulf (body x1 x2 (loaded x0 o inb) x3)
      (broadcast S256x128 (Scalar.ofBits (F := Ideal) .f32 0x3DB504F3#32)) : FVec Ideal S256x128 .f32) bitsLt_bf16_f32 z
      = queryAt p c s gq (tok t (y 0)) (y 1) := by
  have hz : (z 1).val < 128 := (z 1).isLt
  have hy : (y 1).val < 1024 := (y 1).isLt
  have e0 : (z 0 : Fin 256) = y 0 := Fin.ext h0.symm
  have e1 : (z 1 : Fin 128) = ⟨(y 1).val % 128, by omega⟩ := Fin.ext (by show (z 1).val = (y 1).val % 128; omega)
  obtain rfl : o = (y 1).val / 128 * 128 := by omega
  rw [eq_ix2 z]
  refine (congrArg (fun w : EReal => w * Ideal.ofBits .f32 0x3DB504F3#32)
    (body_apply h ((y 1).val / 128 * 128) (by omega) inb x3 gq h.gainq (z 0) (z 1))).trans ?_
  rw [e0, e1]
  rfl

/-- … and of the keys. -/
theorem key_piece (h : Reads p c s gq gk t x0 x1 x2 x3 x4) (o : Nat) (hm : o % 128 = 0)
    (inb : ∀ a, (![0, 1024 + o] : Fin 2 → Nat) a + S256x128.size a ≤ S256x1536.size a) (y : S256x256.Idx) (z : S256x128.Idx)
    (h0 : (y 0).val = (z 0).val) (h1 : (y 1).val = o + (z 1).val) :
    truncf (F := Ideal) (s := S256x128) (φ := .f32) .bf16 (body x1 x2 (loaded x0 (1024 + o) inb) x4) bitsLt_bf16_f32 z
      = keyAt p c s gk (tok t (y 0)) (y 1) := by
  have hz : (z 1).val < 128 := (z 1).isLt
  have hy : (y 1).val < 256 := (y 1).isLt
  have e0 : (z 0 : Fin 256) = y 0 := Fin.ext h0.symm
  have e1 : (z 1 : Fin 128) = ⟨(y 1).val % 128, by omega⟩ := Fin.ext (by show (z 1).val = (y 1).val % 128; omega)
  obtain rfl : o = (y 1).val / 128 * 128 := by omega
  rw [eq_ix2 z]
  refine (body_apply h (1024 + (y 1).val / 128 * 128) (by omega) inb x4 gk h.gaink (z 0) (z 1)).trans ?_
  rw [e0, e1]
  rfl

/-- The three blocks the body leaves. -/
theorem out5_eq (h : Reads p c s gq gk t x0 x1 x2 x3 x4) :
    out0_5 (F := Ideal) x0 x1 x2 x3 x4 = fun y : S256x1024.Idx => queryAt p c s gq (tok t (y 0)) (y 1) := by
  unfold out0_5
  funext y
  canon_tiles z h' using View.cover_of_tiled_head _ _ _ (by rfl) y
  · exact query_piece h 896 rfl _ y z (by omega) (by omega)
  · exact query_piece h 768 rfl _ y z (by omega) (by omega)
  · exact query_piece h 640 rfl _ y z (by omega) (by omega)
  · exact query_piece h 512 rfl _ y z (by omega) (by omega)
  · exact query_piece h 384 rfl _ y z (by omega) (by omega)
  · exact query_piece h 256 rfl _ y z (by omega) (by omega)
  · exact query_piece h 128 rfl _ y z (by omega) (by omega)
  · exact query_piece h 0 rfl _ y z (by omega) (by omega)

theorem out6_eq (h : Reads p c s gq gk t x0 x1 x2 x3 x4) :
    out0_6 (F := Ideal) x0 x1 x2 x3 x4 = fun y : S256x256.Idx => keyAt p c s gk (tok t (y 0)) (y 1) := by
  unfold out0_6
  funext y
  canon_tiles z h' using View.cover_of_tiled_head _ _ _ (by rfl) y
  · exact key_piece h 128 rfl _ y z (by omega) (by omega)
  · exact key_piece h 0 rfl _ y z (by omega) (by omega)

theorem out7_eq (h : Reads p c s gq gk t x0 x1 x2 x3 x4) :
    out0_7 (F := Ideal) x0 x1 x2 x3 x4 = fun y : S256x256.Idx => valueAt p (tok t (y 0)) (y 1) := by
  unfold out0_7
  rw [View.canon_unit_zero hz2]
  funext y
  obtain ⟨r, k, rfl⟩ : ∃ (r : Fin 256) (k : Fin 256), y = ix2 r k := ⟨y 0, y 1, eq_ix2 y⟩
  have e : View.ld x0 r0_22 (ix2 r k) = p (ix2 (tok t r) (⟨1280 + k.val, by omega⟩ : Fin 4608)) := by
    unfold r0_22
    rw [View.ld_unit]
    exact (extractStridedSlice_apply (s := S256x1536) (t := S256x256) _ x0 _ _ (ix2 r (⟨1280 + k.val, by omega⟩ : Fin 1536)) (fun a => by
      match a with
      | ⟨0, _⟩ => exact (Nat.zero_add _).symm
      | ⟨1, _⟩ => rfl)).trans (h.proj r _)
  exact e

end Body

/-! ## The tables -/

section Tables

/-- Four pieces of 32 columns put together, behind 256 rows of one number. -/
abbrev stacked (w : BitVec 32) (v : Fin 4 → FVec Ideal S8192x32 .f32) : FVec Ideal S8448x128 .f32 :=
  concatenate S8448x128 0 [⟨S256x128, broadcastInDim S256x128 ![] bcast_S_S256x128 (constant (F := Ideal) S_ .f32 w)⟩,
    ⟨S8192x128, concatenate S8192x128 1 [⟨S8192x32, v 0⟩, ⟨S8192x32, v 1⟩, ⟨S8192x32, v 2⟩, ⟨S8192x32, v 3⟩]
      concatenates_S8192x32_S8192x32_S8192x32_S8192x32_S8192x128_d1⟩] concatenates_S256x128_S8192x128_S8448x128_d0

theorem pieces_apply (v : Fin 4 → FVec Ideal S8192x32 .f32) (l : Fin 8192) (d : Fin 128) (q : Fin 4) (hq : d.val / 32 = q.val) :
    concatenate S8192x128 1 [⟨S8192x32, v 0⟩, ⟨S8192x32, v 1⟩, ⟨S8192x32, v 2⟩, ⟨S8192x32, v 3⟩]
      concatenates_S8192x32_S8192x32_S8192x32_S8192x32_S8192x128_d1 (ix2 l d) = v q (ix2 l (⟨d.val % 32, by omega⟩ : Fin 32)) :=
  concatenate_apply_piece 1 [(⟨S8192x32, v 0⟩ : (s : Shape) × (s.Idx → EReal)), ⟨S8192x32, v 1⟩, ⟨S8192x32, v 2⟩, ⟨S8192x32, v 3⟩]
    concatenates_S8192x32_S8192x32_S8192x32_S8192x32_S8192x128_d1 (ix2 l d) q.val q.isLt _ (v q) (by fin_cases q <;> rfl) rfl (q.val * 32)
    (by fin_cases q <;> rfl) (ix2 l (⟨d.val % 32, by omega⟩ : Fin 32)) (fun a ha => by
      match a with
      | ⟨0, _⟩ => rfl
      | ⟨1, _⟩ => exact absurd rfl ha) (by show q.val * 32 + d.val % 32 = d.val; omega)

theorem stacked_apply (w : BitVec 32) (v : Fin 4 → FVec Ideal S8192x32 .f32) (l : Fin 8448) (d : Fin 128) (q : Fin 4) (hq : d.val / 32 = q.val) :
    stacked w v (ix2 l d) = if h : l.val < 256 then Ideal.ofBits .f32 w
      else v q (ix2 (⟨l.val - 256, by omega⟩ : Fin 8192) (⟨d.val % 32, by omega⟩ : Fin 32)) := by
  unfold stacked
  by_cases hl : l.val < 256
  · rw [dif_pos hl, concatenate_pair_apply_left 0 _ _ concatenates_S256x128_S8192x128_S8448x128_d0 (ix2 l d) rfl
      (ix2 (⟨l.val, hl⟩ : Fin 256) d) (fun a => by match a with | ⟨0, _⟩ => rfl | ⟨1, _⟩ => rfl)]
    rfl
  · rw [dif_neg hl, concatenate_pair_apply_right 0 _ _ concatenates_S256x128_S8192x128_S8448x128_d0 (ix2 l d) rfl rfl
      (ix2 (⟨l.val - 256, by omega⟩ : Fin 8192) d) (fun a ha => by
        match a with
        | ⟨0, _⟩ => exact absurd rfl ha
        | ⟨1, _⟩ => rfl) (by show l.val - 256 + 256 = l.val; omega), pieces_apply v _ d q hq]

/-- Half of a table's columns. -/
abbrev half0 (c : FVec Ideal S8192x64 .f32) : FVec Ideal S8192x32 .f32 := extractStridedSlice S8192x32 ![0, 0] c slices_S8192x64_S8192x32_0_0

abbrev half1 (c : FVec Ideal S8192x64 .f32) : FVec Ideal S8192x32 .f32 := extractStridedSlice S8192x32 ![0, 32] c slices_S8192x64_S8192x32_0_32

theorem half0_apply (c : FVec Ideal S8192x64 .f32) (l : Fin 8192) (d : Fin 128) (hd : d.val / 64 = 0) :
    half0 c (ix2 l (⟨d.val % 32, by omega⟩ : Fin 32)) = c (ix2 l (angle d)) :=
  extractStridedSlice_apply (s := S8192x64) (t := S8192x32) _ c _ _ (ix2 l (angle d)) (fun a => by
    match a with
    | ⟨0, _⟩ => exact (Nat.zero_add _).symm
    | ⟨1, _⟩ => show d.val / 64 * 32 + d.val % 32 = 0 + d.val % 32; omega)

theorem half1_apply (c : FVec Ideal S8192x64 .f32) (l : Fin 8192) (d : Fin 128) (hd : d.val / 64 = 1) :
    half1 c (ix2 l (⟨d.val % 32, by omega⟩ : Fin 32)) = c (ix2 l (angle d)) :=
  extractStridedSlice_apply (s := S8192x64) (t := S8192x32) _ c _ _ (ix2 l (angle d)) (fun a => by
    match a with
    | ⟨0, _⟩ => exact (Nat.zero_add _).symm
    | ⟨1, _⟩ => show d.val / 64 * 32 + d.val % 32 = 32 + d.val % 32; omega)

/-- The host's tables. -/
theorem cos_apply (c : FVec Ideal S8192x64 .f32) (l : Fin 8448) (d : Fin 128) :
    stacked 0x3F800000#32 ![half0 c, half0 c, half1 c, half1 c] (ix2 l d) = cosAt c l d := by
  have hd := d.isLt
  unfold cosAt
  obtain hq | hq | hq | hq : d.val / 32 = 0 ∨ d.val / 32 = 1 ∨ d.val / 32 = 2 ∨ d.val / 32 = 3 := by omega
  · rw [stacked_apply _ _ l d 0 hq, Ideal.ofBits_one_f32]
    exact dite_congr rfl (fun _ => rfl) fun _ => half0_apply c _ d (by omega)
  · rw [stacked_apply _ _ l d 1 hq, Ideal.ofBits_one_f32]
    exact dite_congr rfl (fun _ => rfl) fun _ => half0_apply c _ d (by omega)
  · rw [stacked_apply _ _ l d 2 hq, Ideal.ofBits_one_f32]
    exact dite_congr rfl (fun _ => rfl) fun _ => half1_apply c _ d (by omega)
  · rw [stacked_apply _ _ l d 3 hq, Ideal.ofBits_one_f32]
    exact dite_congr rfl (fun _ => rfl) fun _ => half1_apply c _ d (by omega)

theorem sin_apply (s : FVec Ideal S8192x64 .f32) (l : Fin 8448) (d : Fin 128) :
    stacked 0x00000000#32 ![Host.negf (half0 s), half0 s, Host.negf (half1 s), half1 s] (ix2 l d) = sinAt s l d := by
  have hd := d.isLt
  unfold sinAt
  obtain hq | hq | hq | hq : d.val / 32 = 0 ∨ d.val / 32 = 1 ∨ d.val / 32 = 2 ∨ d.val / 32 = 3 := by omega
  · rw [stacked_apply _ _ l d 0 hq, Ideal.ofBits_zero_f32]
    exact dite_congr rfl (fun _ => rfl) fun _ => (congrArg (fun z : EReal => -z) (half0_apply s _ d (by omega))).trans (if_pos (by omega)).symm
  · rw [stacked_apply _ _ l d 1 hq, Ideal.ofBits_zero_f32]
    exact dite_congr rfl (fun _ => rfl) fun _ => (half0_apply s _ d (by omega)).trans (if_neg (by omega)).symm
  · rw [stacked_apply _ _ l d 2 hq, Ideal.ofBits_zero_f32]
    exact dite_congr rfl (fun _ => rfl) fun _ => (congrArg (fun z : EReal => -z) (half1_apply s _ d (by omega))).trans (if_pos (by omega)).symm
  · rw [stacked_apply _ _ l d 3 hq, Ideal.ofBits_zero_f32]
    exact dite_congr rfl (fun _ => rfl) fun _ => (half1_apply s _ d (by omega)).trans (if_neg (by omega)).symm

end Tables

/-! ## The run -/

variable (m : (ℓ : Loc nD τ sig) → Buf (Elt Ideal) ℓ) (ρ : Dev nD → PrngReg)

/-- The three results at every index. -/
def G5 (c : Dev nD) : Buf (Elt Ideal) ((c : Thread nD τ).loc main_v14_0) := fun i : S16896x1024.Idx =>
  queryAt (m ((c : Thread nD τ).loc main_arg0)) (m ((c : Thread nD τ).loc main_arg1)) (m ((c : Thread nD τ).loc main_arg2))
    (m ((c : Thread nD τ).loc main_arg3)) (i 0) (i 1)

def G6 (c : Dev nD) : Buf (Elt Ideal) ((c : Thread nD τ).loc main_v14_1) := fun i : S16896x256.Idx =>
  keyAt (m ((c : Thread nD τ).loc main_arg0)) (m ((c : Thread nD τ).loc main_arg1)) (m ((c : Thread nD τ).loc main_arg2))
    (m ((c : Thread nD τ).loc main_arg4)) (i 0) (i 1)

def G7 (c : Dev nD) : Buf (Elt Ideal) ((c : Thread nD τ).loc main_v14_2) := fun i : S16896x256.Idx =>
  valueAt (m ((c : Thread nD τ).loc main_arg0)) (i 0) (i 1)

/-- Where the windows stand at tile `t`. -/
theorem idx_facts : ∀ t : Fin cfg0.N, (win0_0.index t 0 = t.val ∧ win0_0.index t 1 = 0)
    ∧ (win0_1.index t 0 = t.val % 33 ∧ win0_1.index t 1 = 0) ∧ (win0_2.index t 0 = t.val % 33 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, (win0_0.index t 0 = t.val ∧ win0_0.index t 1 = 0)
    ∧ (win0_1.index t 0 = t.val % 33 ∧ win0_1.index t 1 = 0) ∧ (win0_2.index t 0 = t.val % 33 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0))

abbrev til (t : Fin cfg0.N) : Fin 66 := ⟨t.val, by have := t.isLt; have hN : cfg0.N = 66 := N_0; omega⟩

/-- The reshaped gains. -/
theorem gain_apply (g : FVec Ideal S128 .f32) (k : Fin 128) : shapeCast S1x128 g shapeCasts_S128_S1x128 (ix2 (0 : Fin 1) k) = g (ix1 k) :=
  shapeCast_apply (s := S128) (t := S1x128) g shapeCasts_S128_S1x128 (ix2 (0 : Fin 1) k) (ix1 k) (by
    rw [Shape.rowMajor_val_two, Shape.rowMajor_val_one]; show k.val = 0 * 128 + k.val; omega)

/-- What the blocks at `t` hold. -/
theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (til t) (iblk m c 0 t) (iblk m c 1 t) (iblk m c 2 t)
      (iblk m c 3 t) (iblk m c 4 t) := by
  obtain ⟨⟨h0, h0'⟩, ⟨h1, h1'⟩, ⟨h2, h2'⟩, ⟨h3, h3'⟩, ⟨h4, h4'⟩, _⟩ := idx_facts t
  have hcos : V m c main_v6 = stacked 0x3F800000#32 ![half0 (m ((c : Thread nD τ).loc main_arg1)), half0 (m ((c : Thread nD τ).loc main_arg1)),
      half1 (m ((c : Thread nD τ).loc main_arg1)), half1 (m ((c : Thread nD τ).loc main_arg1))] := by
    unfold V; after_results
    rfl
  have hsin : V m c main_v11 = stacked 0x00000000#32 ![Host.negf (half0 (m ((c : Thread nD τ).loc main_arg2))),
      half0 (m ((c : Thread nD τ).loc main_arg2)), Host.negf (half1 (m ((c : Thread nD τ).loc main_arg2))),
      half1 (m ((c : Thread nD τ).loc main_arg2))] := by
    unfold V; after_results
    rfl
  have hgq : V m c main_v12 = (shapeCast S1x128 (m ((c : Thread nD τ).loc main_arg3)) shapeCasts_S128_S1x128 : FVec Ideal S1x128 .f32) := by
    unfold V; after_results
    rfl
  have hgk : V m c main_v13 = (shapeCast S1x128 (m ((c : Thread nD τ).loc main_arg4)) shapeCasts_S128_S1x128 : FVec Ideal S1x128 .f32) := by
    unfold V; after_results
    rfl
  unfold iblk
  refine ⟨fun r k => ?_, fun r d => ?_, fun r d => ?_, fun k => ?_, fun k => ?_⟩
  · rw [View.read_apply]
    show V m c main_arg0 _ = _
    rw [V_main_arg0]
    congr 1
    funext a
    apply Fin.ext
    match a with
    | ⟨0, _⟩ => show win0_0.index t 0 * 256 + 1 * r.val = t.val * 256 + r.val; rw [h0]; omega
    | ⟨1, _⟩ => show win0_0.index t 1 * 1536 + 1 * k.val = k.val; rw [h0']; omega
  · have e : ((cfg0.win 1).blk t).view.emb (ix2 r d) = (ix2 (⟨t.val % 33 * 256 + r.val, by omega⟩ : Fin 8448) d : S8448x128.Idx) := by
      funext a
      apply Fin.ext
      match a with
      | ⟨0, _⟩ => show win0_1.index t 0 * 256 + 1 * r.val = t.val % 33 * 256 + r.val; rw [h1]; omega
      | ⟨1, _⟩ => show win0_1.index t 1 * 128 + 1 * d.val = d.val; rw [h1']; omega
    rw [View.read_apply]
    show V m c main_v6 _ = _
    rw [hcos]
    exact (congrArg (stacked _ _) e).trans (cos_apply _ _ d)
  · have e : ((cfg0.win 2).blk t).view.emb (ix2 r d) = (ix2 (⟨t.val % 33 * 256 + r.val, by omega⟩ : Fin 8448) d : S8448x128.Idx) := by
      funext a
      apply Fin.ext
      match a with
      | ⟨0, _⟩ => show win0_2.index t 0 * 256 + 1 * r.val = t.val % 33 * 256 + r.val; rw [h2]; omega
      | ⟨1, _⟩ => show win0_2.index t 1 * 128 + 1 * d.val = d.val; rw [h2']; omega
    rw [View.read_apply]
    show V m c main_v11 _ = _
    rw [hsin]
    exact (congrArg (stacked _ _) e).trans (sin_apply _ _ d)
  · have e : ((cfg0.win 3).blk t).view.emb (ix2 0 k) = (ix2 (0 : Fin 1) k : S1x128.Idx) := by
      funext a
      apply Fin.ext
      match a with
      | ⟨0, _⟩ => show win0_3.index t 0 * 1 + 1 * 0 = 0; rw [h3]
      | ⟨1, _⟩ => show win0_3.index t 1 * 128 + 1 * k.val = k.val; rw [h3']; omega
    rw [View.read_apply]
    show V m c main_v12 _ = _
    rw [hgq]
    exact (congrArg (shapeCast S1x128 (m ((c : Thread nD τ).loc main_arg3)) shapeCasts_S128_S1x128 : FVec Ideal S1x128 .f32) e).trans (gain_apply _ k)
  · have e : ((cfg0.win 4).blk t).view.emb (ix2 0 k) = (ix2 (0 : Fin 1) k : S1x128.Idx) := by
      funext a
      apply Fin.ext
      match a with
      | ⟨0, _⟩ => show win0_4.index t 0 * 1 + 1 * 0 = 0; rw [h4]
      | ⟨1, _⟩ => show win0_4.index t 1 * 128 + 1 * k.val = k.val; rw [h4']; omega
    rw [View.read_apply]
    show V m c main_v13 _ = _
    rw [hgk]
    exact (congrArg (shapeCast S1x128 (m ((c : Thread nD τ).loc main_arg4)) shapeCasts_S128_S1x128 : FVec Ideal S1x128 .f32) e).trans (gain_apply _ k)

/-- What point `t` writes back are the blocks of tile `t` of the three results. -/
theorem flushed5_eq (c : Dev nD) (t : Fin cfg0.N) : (dats m 0 c).flushed 5 t = ((cfg0.win 5).blk t).view.read (Elt Ideal) (G5 m c) := by
  obtain ⟨_, _, _, _, _, ⟨h, h'⟩, _⟩ := idx_facts t
  rw [Value.flushed5, out5_eq (reads m c t)]
  funext j
  rw [View.read_apply]
  refine congrArg₂ (queryAt _ _ _ _) (Fin.ext ?_) (Fin.ext ?_)
  · show t.val * 256 + (j 0).val = win0_5.index t 0 * 256 + 1 * (j 0).val; rw [h]; omega
  · show (j 1).val = win0_5.index t 1 * 1024 + 1 * (j 1).val; rw [h']; omega

theorem flushed6_eq (c : Dev nD) (t : Fin cfg0.N) : (dats m 0 c).flushed 6 t = ((cfg0.win 6).blk t).view.read (Elt Ideal) (G6 m c) := by
  obtain ⟨_, _, _, _, _, _, ⟨h, h'⟩, _⟩ := idx_facts t
  rw [Value.flushed6, out6_eq (reads m c t)]
  funext j
  rw [View.read_apply]
  refine congrArg₂ (keyAt _ _ _ _) (Fin.ext ?_) (Fin.ext ?_)
  · show t.val * 256 + (j 0).val = win0_6.index t 0 * 256 + 1 * (j 0).val; rw [h]; omega
  · show (j 1).val = win0_6.index t 1 * 256 + 1 * (j 1).val; rw [h']; omega

theorem flushed7_eq (c : Dev nD) (t : Fin cfg0.N) : (dats m 0 c).flushed 7 t = ((cfg0.win 7).blk t).view.read (Elt Ideal) (G7 m c) := by
  obtain ⟨_, _, _, _, _, _, _, h, h'⟩ := idx_facts t
  rw [Value.flushed7, out7_eq (reads m c t)]
  funext j
  rw [View.read_apply]
  refine congrArg₂ (valueAt _) (Fin.ext ?_) (Fin.ext ?_)
  · show t.val * 256 + (j 0).val = win0_7.index t 0 * 256 + 1 * (j 0).val; rw [h]; omega
  · show (j 1).val = win0_7.index t 1 * 256 + 1 * (j 1).val; rw [h']; omega

/-- The blocks cover the result arrays. -/
theorem cover5 (i : S16896x1024.Idx) : ∃ t : Fin cfg0.N, (cfg0.win 5).flush t = true ∧ i ∈ ((cfg0.win 5).blk t).view.set := by
  have hN : cfg0.N = 66 := N_0
  have h0 : (i 0 : Nat) < 16896 := (i 0).isLt
  have h1 : (i 1 : Nat) < 1024 := (i 1).isLt
  have ht : (i 0 : Nat) / 256 < cfg0.N := by omega
  obtain ⟨_, _, _, _, _, ⟨h, h'⟩, _⟩ := idx_facts ⟨(i 0 : Nat) / 256, ht⟩
  refine ⟨⟨(i 0 : Nat) / 256, ht⟩, flush0_5 _, ?_⟩
  show i ∈ ((View.whole main_v14_0).slice (win0_5.rect ⟨(i 0 : Nat) / 256, ht⟩)).set
  rw [View.set_slice_whole, Rect.mem_set_unit]
  intro a
  match a with
  | ⟨0, _⟩ => show win0_5.index _ 0 * 256 ≤ (i 0 : Nat) ∧ (i 0 : Nat) < win0_5.index _ 0 * 256 + 256; rw [h]; dsimp only; omega
  | ⟨1, _⟩ => show win0_5.index _ 1 * 1024 ≤ (i 1 : Nat) ∧ (i 1 : Nat) < win0_5.index _ 1 * 1024 + 1024; rw [h', Nat.zero_mul, Nat.zero_add]; exact ⟨Nat.zero_le _, h1⟩

theorem cover6 (i : S16896x256.Idx) : ∃ t : Fin cfg0.N, (cfg0.win 6).flush t = true ∧ i ∈ ((cfg0.win 6).blk t).view.set := by
  have hN : cfg0.N = 66 := N_0
  have h0 : (i 0 : Nat) < 16896 := (i 0).isLt
  have h1 : (i 1 : Nat) < 256 := (i 1).isLt
  have ht : (i 0 : Nat) / 256 < cfg0.N := by omega
  obtain ⟨_, _, _, _, _, _, ⟨h, h'⟩, _⟩ := idx_facts ⟨(i 0 : Nat) / 256, ht⟩
  refine ⟨⟨(i 0 : Nat) / 256, ht⟩, flush0_6 _, ?_⟩
  show i ∈ ((View.whole main_v14_1).slice (win0_6.rect ⟨(i 0 : Nat) / 256, ht⟩)).set
  rw [View.set_slice_whole, Rect.mem_set_unit]
  intro a
  match a with
  | ⟨0, _⟩ => show win0_6.index _ 0 * 256 ≤ (i 0 : Nat) ∧ (i 0 : Nat) < win0_6.index _ 0 * 256 + 256; rw [h]; dsimp only; omega
  | ⟨1, _⟩ => show win0_6.index _ 1 * 256 ≤ (i 1 : Nat) ∧ (i 1 : Nat) < win0_6.index _ 1 * 256 + 256; rw [h', Nat.zero_mul, Nat.zero_add]; exact ⟨Nat.zero_le _, h1⟩

theorem cover7 (i : S16896x256.Idx) : ∃ t : Fin cfg0.N, (cfg0.win 7).flush t = true ∧ i ∈ ((cfg0.win 7).blk t).view.set := by
  have hN : cfg0.N = 66 := N_0
  have h0 : (i 0 : Nat) < 16896 := (i 0).isLt
  have h1 : (i 1 : Nat) < 256 := (i 1).isLt
  have ht : (i 0 : Nat) / 256 < cfg0.N := by omega
  obtain ⟨_, _, _, _, _, _, _, h, h'⟩ := idx_facts ⟨(i 0 : Nat) / 256, ht⟩
  refine ⟨⟨(i 0 : Nat) / 256, ht⟩, flush0_7 _, ?_⟩
  show i ∈ ((View.whole main_v14_2).slice (win0_7.rect ⟨(i 0 : Nat) / 256, ht⟩)).set
  rw [View.set_slice_whole, Rect.mem_set_unit]
  intro a
  match a with
  | ⟨0, _⟩ => show win0_7.index _ 0 * 256 ≤ (i 0 : Nat) ∧ (i 0 : Nat) < win0_7.index _ 0 * 256 + 256; rw [h]; dsimp only; omega
  | ⟨1, _⟩ => show win0_7.index _ 1 * 256 ≤ (i 1 : Nat) ∧ (i 1 : Nat) < win0_7.index _ 1 * 256 + 256; rw [h', Nat.zero_mul, Nat.zero_add]; exact ⟨Nat.zero_le _, h1⟩

/-- The run of the kernel: the result arrays end as the three values, the arguments unchanged. -/
theorem run : θ_run defs (onTc (τ := τ) (main (F := Ideal))) ⟨m, fun _ => 0, ρ⟩ fun r => ∀ c : Dev nD,
      r.2.mem ((c : Thread nD τ).loc main_v14_0) = G5 m c
      ∧ r.2.mem ((c : Thread nD τ).loc main_v14_1) = G6 m c
      ∧ r.2.mem ((c : Thread nD τ).loc main_v14_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 5 (G5 m c) (fun t _ => flushed5_eq m c t) cover5),
    (h c).2.1.trans ((dats m 0 c).arrAt_eq_of_cover 6 (G6 m c) (fun t _ => flushed6_eq m c t) cover6),
    (h c).2.2.1.trans ((dats m 0 c).arrAt_eq_of_cover 7 (G7 m c) (fun t _ => flushed7_eq m c t) cover7), (h c).2.2.2⟩) (Value.run_blocks m ρ)

end Cert.QkvPrepIdeal.Prep

namespace Cert.QkvPrepRefIdeal.Prep

open Cert.QkvPrepRefIdeal Cert.QkvPrepRefIdeal.Gen

variable (x0 : (⟨S16896x4608, .f32⟩ : BufTy).Contents (Elt Ideal)) (x1 x2 : (⟨S8192x64, .f32⟩ : BufTy).Contents (Elt Ideal))
  (x3 x4 : (⟨S128, .f32⟩ : BufTy).Contents (Elt Ideal))

/-- The shapes of the host's heads: eight of the queries … -/
theorem facts8 : HeadFacts 8 1024 where
  wide := rfl
  split := shapeCasts_S16896x1024_S2x8448x8x128
  red := reducesTo_S2x8448x8x128_S2x8448x8_d3
  red' := by decide
  one := h_S_
  up := bcast_S2x8448x8_S2x8448x8x1_0_1_2
  scal := bcast_S_S2x8448x8x1
  over := bcast_S2x8448x8x1_S2x8448x8x128_0_1_2_3
  gup := bcast_S128_S1x1x1x128_3
  gover := bcast_S1x1x1x128_S2x8448x8x128_0_1_2_3
  cutc := slices_S2x8448x8x128_S2x256x8x128_0_0_0_0
  cutl := slices_S2x8448x8x128_S2x8192x8x128_0_256_0_0
  half0 := slices_S2x8192x8x128_S2x8192x8x64_0_0_0_0
  half1 := slices_S2x8192x8x128_S2x8192x8x64_0_0_0_64
  quart0 := slices_S2x8192x8x64_S2x8192x8x32_0_0_0_0
  quart1 := slices_S2x8192x8x64_S2x8192x8x32_0_0_0_32
  tab0 := slices_S8192x64_S8192x32_0_0
  tab1 := slices_S8192x64_S8192x32_0_32
  tup := bcast_S8192x32_S8192x1x32_0_2
  tup' := bcast_S8192x1x32_S1x8192x1x32_1_2_3
  tover := bcast_S1x8192x1x32_S2x8192x8x32_0_1_2_3
  joinq := concatenates_S2x8192x8x32_S2x8192x8x32_S2x8192x8x32_S2x8192x8x32_S2x8192x8x128_d3
  joinl := concatenates_S2x256x8x128_S2x8192x8x128_S2x8448x8x128_d1

/-- … and two of the keys. -/
theorem facts2 : HeadFacts 2 256 where
  wide := rfl
  split := shapeCasts_S16896x256_S2x8448x2x128
  red := reducesTo_S2x8448x2x128_S2x8448x2_d3
  red' := by decide
  one := h_S_
  up := bcast_S2x8448x2_S2x8448x2x1_0_1_2
  scal := bcast_S_S2x8448x2x1
  over := bcast_S2x8448x2x1_S2x8448x2x128_0_1_2_3
  gup := bcast_S128_S1x1x1x128_3
  gover := bcast_S1x1x1x128_S2x8448x2x128_0_1_2_3
  cutc := slices_S2x8448x2x128_S2x256x2x128_0_0_0_0
  cutl := slices_S2x8448x2x128_S2x8192x2x128_0_256_0_0
  half0 := slices_S2x8192x2x128_S2x8192x2x64_0_0_0_0
  half1 := slices_S2x8192x2x128_S2x8192x2x64_0_0_0_64
  quart0 := slices_S2x8192x2x64_S2x8192x2x32_0_0_0_0
  quart1 := slices_S2x8192x2x64_S2x8192x2x32_0_0_0_32
  tab0 := slices_S8192x64_S8192x32_0_0
  tab1 := slices_S8192x64_S8192x32_0_32
  tup := bcast_S8192x32_S8192x1x32_0_2
  tup' := bcast_S8192x1x32_S1x8192x1x32_1_2_3
  tover := bcast_S1x8192x1x32_S2x8192x2x32_0_1_2_3
  joinq := concatenates_S2x8192x2x32_S2x8192x2x32_S2x8192x2x32_S2x8192x2x32_S2x8192x2x128_d3
  joinl := concatenates_S2x256x2x128_S2x8192x2x128_S2x8448x2x128_d1

/-- The host's queries are the same … -/
theorem query_apply (i : S16896x1024.Idx) : Read.val_main_v126 (F := Ideal) x0 x1 x2 x3 i = queryAt x0 x1 x2 x3 (i 0) (i 1) := by
  obtain ⟨R, C, rfl⟩ : ∃ (R : Fin 16896) (C : Fin 1024), i = ix2 R C := ⟨i 0, i 1, eq_ix2 i⟩
  have ei : Read.idx_main_v125 (ix2 R C) = ix4 (⟨R.val / 8448, by omega⟩ : Fin 2) (⟨R.val % 8448, by omega⟩ : Fin 8448)
      (⟨C.val / 128, by omega⟩ : Fin 8) (⟨C.val % 128, by omega⟩ : Fin 128) := funext fun a => Fin.ext (by
    match a with
    | ⟨0, _⟩ => show (R.val * 1024 + C.val) / 8650752 = R.val / 8448; omega
    | ⟨1, _⟩ => show (R.val * 1024 + C.val) / 1024 % 8448 = R.val % 8448; omega
    | ⟨2, _⟩ => show (R.val * 1024 + C.val) / 128 % 8 = C.val / 128; omega
    | ⟨3, _⟩ => show (R.val * 1024 + C.val) % 128 = C.val % 128; omega)
  have eR : bt (⟨R.val / 8448, by omega⟩ : Fin 2) (⟨R.val % 8448, by omega⟩ : Fin 8448) = R := Fin.ext (by
    show R.val / 8448 * 8448 + R.val % 8448 = R.val; omega)
  have eh : Read.val_main_v60 (F := Ideal) x0 x1 x2 x3 = heads facts8 (Read.val_main_v0 (F := Ideal) x0) x1 x2 x3 := rfl
  rw [Read.val_main_v126_apply, Read.val_main_v125_apply, ei, Read.val_main_v62_apply, Read.val_main_v61_apply, Read.val_main_cst_2_apply,
    eh, heads_apply, eR]
  refine congrArg (fun x : Fin 128 → EReal => headAt x (fun k => x3 (ix1 k)) x1 x2 R _ * Ideal.ofBits .f32 0x3DB504F3#32) (funext fun k => ?_)
  show Read.val_main_v0 (F := Ideal) x0 _ = _
  rw [Read.val_main_v0_apply]
  exact congrArg x0 (funext fun a => Fin.ext (by match a with | ⟨0, _⟩ => rfl | ⟨1, _⟩ => rfl))

/-- … its keys … -/
theorem key_apply (i : S16896x256.Idx) : Read.val_main_v128 (F := Ideal) x0 x1 x2 x4 i = keyAt x0 x1 x2 x4 (i 0) (i 1) := by
  obtain ⟨R, C, rfl⟩ : ∃ (R : Fin 16896) (C : Fin 256), i = ix2 R C := ⟨i 0, i 1, eq_ix2 i⟩
  have ei : Read.idx_main_v127 (ix2 R C) = ix4 (⟨R.val / 8448, by omega⟩ : Fin 2) (⟨R.val % 8448, by omega⟩ : Fin 8448)
      (⟨C.val / 128, by omega⟩ : Fin 2) (⟨C.val % 128, by omega⟩ : Fin 128) := funext fun a => Fin.ext (by
    match a with
    | ⟨0, _⟩ => show (R.val * 256 + C.val) / 2162688 = R.val / 8448; omega
    | ⟨1, _⟩ => show (R.val * 256 + C.val) / 256 % 8448 = R.val % 8448; omega
    | ⟨2, _⟩ => show (R.val * 256 + C.val) / 128 % 2 = C.val / 128; omega
    | ⟨3, _⟩ => show (R.val * 256 + C.val) % 128 = C.val % 128; omega)
  have eR : bt (⟨R.val / 8448, by omega⟩ : Fin 2) (⟨R.val % 8448, by omega⟩ : Fin 8448) = R := Fin.ext (by
    show R.val / 8448 * 8448 + R.val % 8448 = R.val; omega)
  have eh : Read.val_main_v123 (F := Ideal) x0 x1 x2 x4 = heads facts2 (Read.val_main_v63 (F := Ideal) x0) x1 x2 x4 := rfl
  rw [Read.val_main_v128_apply, Read.val_main_v127_apply, ei, eh, heads_apply, eR]
  refine congrArg (fun x : Fin 128 → EReal => headAt x (fun k => x4 (ix1 k)) x1 x2 R _) (funext fun k => ?_)
  show Read.val_main_v63 (F := Ideal) x0 _ = _
  rw [Read.val_main_v63_apply]
  exact congrArg x0 (funext fun a => Fin.ext (by
    match a with
    | ⟨0, _⟩ => rfl
    | ⟨1, _⟩ => show 1024 + (C.val / 128 * 128 + k.val) = 1024 + C.val / 128 * 128 + k.val; omega))

/-- … and its values. -/
theorem value_apply (i : S16896x256.Idx) : Read.val_main_v129 (F := Ideal) x0 i = valueAt x0 (i 0) (i 1) := by
  obtain ⟨R, C, rfl⟩ : ∃ (R : Fin 16896) (C : Fin 256), i = ix2 R C := ⟨i 0, i 1, eq_ix2 i⟩
  rw [Read.val_main_v129_apply, Read.val_main_v124_apply]
  exact congrArg x0 (funext fun a => Fin.ext (by match a with | ⟨0, _⟩ => rfl | ⟨1, _⟩ => rfl))

end Cert.QkvPrepRefIdeal.Prep

namespace Cert.Proof.QkvPrep

/-- The reference runs and leaves its arguments as they were. -/
theorem frame_ref : Cert.quiescent_QkvPrepRefIdeal := fun m ρ _ =>
  (θ_run Cert.QkvPrepRefIdeal.defs _ _).mono (fun r h => ⟨fun c => (h c).2.2.2,
      Idealize.ShloMosaic.sem_eq_zero_of_no_sems (by decide) r.2⟩)
    (Cert.QkvPrepRefIdeal.Value.run (F := Ideal) m ρ)

/-- The kernel and the reference compute the same. -/
theorem algebraic : Cert.algebraic_QkvPrepIdeal_QkvPrepRefIdeal := fun m ρ m' ρ' _ hag =>
  ⟨fun c => Cert.QkvPrepIdeal.Prep.G5 m c, fun c => Cert.QkvPrepIdeal.Prep.G6 m c, fun c => Cert.QkvPrepIdeal.Prep.G7 m c,
    Cert.QkvPrepIdeal.Prep.run m ρ,
    (θ_run Cert.QkvPrepRefIdeal.defs _ _).mono (fun _ h c => ⟨by
        rw [(h c).1, Cert.QkvPrepRefIdeal.Read.val_main_v126_eq, (hag c).1, (hag c).2.1, (hag c).2.2.1, (hag c).2.2.2.1]
        exact funext fun i => Cert.QkvPrepRefIdeal.Prep.query_apply _ _ _ _ i, by
        rw [(h c).2.1, Cert.QkvPrepRefIdeal.Read.val_main_v128_eq, (hag c).1, (hag c).2.1, (hag c).2.2.1, (hag c).2.2.2.2]
        exact funext fun i => Cert.QkvPrepRefIdeal.Prep.key_apply _ _ _ _ i, by
        rw [(h c).2.2.1, Cert.QkvPrepRefIdeal.Read.val_main_v129_eq, (hag c).1]
        exact funext fun i => Cert.QkvPrepRefIdeal.Prep.value_apply _ i, (h c).2.2.2⟩)
      (Cert.QkvPrepRefIdeal.Value.run (F := Ideal) m' ρ')⟩

end Cert.Proof.QkvPrep

end
-- ==== Proof.lean ====
/-
  The certificate's claim: every program's frame, and the value claims of the kernels against their references.
-/
module

public import proofs.«01_k».proof.Defs
public import proofs.«01_k».proof.Proof.Gen.Flash.Frame
public import proofs.«01_k».proof.Proof.Gen.FlashIdeal.Frame
public import proofs.«01_k».proof.Proof.FlashValue
public import proofs.«01_k».proof.Proof.Gen.AttIn.Frame
public import proofs.«01_k».proof.Proof.Gen.AttInIdeal.Frame
public import proofs.«01_k».proof.Proof.AttInValue
public import proofs.«01_k».proof.Proof.Gen.SsmIn.Frame
public import proofs.«01_k».proof.Proof.Gen.SsmInIdeal.Frame
public import proofs.«01_k».proof.Proof.SsmInValue
public import proofs.«01_k».proof.Proof.Gen.DtIn.Frame
public import proofs.«01_k».proof.Proof.Gen.DtInIdeal.Frame
public import proofs.«01_k».proof.Proof.DtInValue
public import proofs.«01_k».proof.Proof.Gen.AttOut.Frame
public import proofs.«01_k».proof.Proof.Gen.AttOutIdeal.Frame
public import proofs.«01_k».proof.Proof.AttOutValue
public import proofs.«01_k».proof.Proof.Gen.SsmOut.Frame
public import proofs.«01_k».proof.Proof.Gen.SsmOutIdeal.Frame
public import proofs.«01_k».proof.Proof.SsmOutValue
public import proofs.«01_k».proof.Proof.ExpertsClaims
public import proofs.«01_k».proof.Proof.Gen.NormMix.Frame
public import proofs.«01_k».proof.Proof.Gen.NormMixIdeal.Frame
public import proofs.«01_k».proof.Proof.NormMixValue
public import proofs.«01_k».proof.Proof.Gen.NormFfn.Frame
public import proofs.«01_k».proof.Proof.Gen.NormFfnIdeal.Frame
public import proofs.«01_k».proof.Proof.NormFfnValue
public import proofs.«01_k».proof.Proof.Gen.SsdFinish.Frame
public import proofs.«01_k».proof.Proof.Gen.SsdFinishIdeal.Frame
public import proofs.«01_k».proof.Proof.SsdFinishValue
public import proofs.«01_k».proof.Proof.Gen.Sconv.Frame
public import proofs.«01_k».proof.Proof.Gen.SconvIdeal.Frame
public import proofs.«01_k».proof.Proof.SconvValue
public import proofs.«01_k».proof.Proof.Gen.SsdPrep.Frame
public import proofs.«01_k».proof.Proof.Gen.SsdPrepIdeal.Frame
public import proofs.«01_k».proof.Proof.SsdPrepValue
public import proofs.«01_k».proof.Proof.Gen.QkvPrep.Frame
public import proofs.«01_k».proof.Proof.Gen.QkvPrepIdeal.Frame
public import proofs.«01_k».proof.Proof.QkvPrepValue

@[expose] public section

noncomputable section

namespace Cert.Proof

open Idealize.ShloMosaic Idealize.SL.Sem

/-- Every claim of the certificate. -/
theorem claim : Cert.Claim := ⟨
  Cert.Flash.Gen.facts, Cert.FlashIdeal.Gen.facts, Cert.FlashRefIdeal.Gen.facts,
  Cert.AttIn.Gen.facts, Cert.AttInIdeal.Gen.facts, Cert.AttInRefIdeal.Gen.facts,
  Cert.SsmIn.Gen.facts, Cert.SsmInIdeal.Gen.facts, Cert.SsmInRefIdeal.Gen.facts,
  Cert.DtIn.Gen.facts, Cert.DtInIdeal.Gen.facts, Cert.DtInRefIdeal.Gen.facts,
  Cert.AttOut.Gen.facts, Cert.AttOutIdeal.Gen.facts, Cert.AttOutRefIdeal.Gen.facts,
  Cert.SsmOut.Gen.facts, Cert.SsmOutIdeal.Gen.facts, Cert.SsmOutRefIdeal.Gen.facts,
  Cert.Experts.Gen.facts, Cert.ExpertsIdeal.Gen.facts, Cert.ExpertsRefIdeal.Gen.facts,
  Cert.NormMix.Gen.facts, Cert.NormMixIdeal.Gen.facts, Cert.NormMixRefIdeal.Gen.facts,
  Cert.NormFfn.Gen.facts, Cert.NormFfnIdeal.Gen.facts, Cert.NormFfnRefIdeal.Gen.facts,
  Cert.SsdFinish.Gen.facts, Cert.SsdFinishIdeal.Gen.facts, Cert.SsdFinishRefIdeal.Gen.facts,
  Cert.Sconv.Gen.facts, Cert.SconvIdeal.Gen.facts, Cert.SconvRefIdeal.Gen.facts,
  Cert.SsdPrep.Gen.facts, Cert.SsdPrepIdeal.Gen.facts, Cert.SsdPrepRefIdeal.Gen.facts,
  Cert.QkvPrep.Gen.facts, Cert.QkvPrepIdeal.Gen.facts, Cert.QkvPrepRefIdeal.Gen.facts,
  Cert.Pre_finite_scores.Gen.facts, Cert.Pre_routed.Gen.facts,
  fun m ρ _ => Cert.Flash.Gen.frame m ρ, fun m ρ _ => Cert.FlashIdeal.Gen.frame m ρ, fun m ρ _ => Cert.FlashIdeal.Gen.frame m ρ, Flash.frame_ref, Flash.frame_ref_pre,
  fun m ρ _ => Cert.AttIn.Gen.frame m ρ, fun m ρ _ => Cert.AttInIdeal.Gen.frame m ρ, AttIn.frame_ref,
  fun m ρ _ => Cert.SsmIn.Gen.frame m ρ, fun m ρ _ => Cert.SsmInIdeal.Gen.frame m ρ, SsmIn.frame_ref,
  fun m ρ _ => Cert.DtIn.Gen.frame m ρ, fun m ρ _ => Cert.DtInIdeal.Gen.frame m ρ, DtIn.frame_ref,
  fun m ρ _ => Cert.AttOut.Gen.frame m ρ, fun m ρ _ => Cert.AttOutIdeal.Gen.frame m ρ, AttOut.frame_ref,
  fun m ρ _ => Cert.SsmOut.Gen.frame m ρ, fun m ρ _ => Cert.SsmOutIdeal.Gen.frame m ρ, SsmOut.frame_ref,
  Experts.frame, Experts.frame_ideal, Experts.frame_ref, Experts.frame_ref_pre,
  fun m ρ _ => Cert.NormMix.Gen.frame m ρ, fun m ρ _ => Cert.NormMixIdeal.Gen.frame m ρ, NormMix.frame_ref,
  fun m ρ _ => Cert.NormFfn.Gen.frame m ρ, fun m ρ _ => Cert.NormFfnIdeal.Gen.frame m ρ, NormFfn.frame_ref,
  fun m ρ _ => Cert.SsdFinish.Gen.frame m ρ, fun m ρ _ => Cert.SsdFinishIdeal.Gen.frame m ρ, SsdFinish.frame_ref,
  fun m ρ _ => Cert.Sconv.Gen.frame m ρ, fun m ρ _ => Cert.SconvIdeal.Gen.frame m ρ, Sconv.frame_ref,
  fun m ρ _ => Cert.SsdPrep.Gen.frame m ρ, fun m ρ _ => Cert.SsdPrepIdeal.Gen.frame m ρ, SsdPrep.frame_ref,
  fun m ρ _ => Cert.QkvPrep.Gen.frame m ρ, fun m ρ _ => Cert.QkvPrepIdeal.Gen.frame m ρ, QkvPrep.frame_ref,
  trivial, Flash.algebraic,
  trivial, AttIn.algebraic,
  trivial, SsmIn.algebraic,
  trivial, DtIn.algebraic,
  trivial, AttOut.algebraic,
  trivial, SsmOut.algebraic,
  trivial, Experts.algebraic,
  trivial, NormMix.algebraic,
  trivial, NormFfn.algebraic,
  trivial, SsdFinish.algebraic,
  trivial, Sconv.algebraic,
  trivial, SsdPrep.algebraic,
  trivial, QkvPrep.algebraic⟩

end Cert.Proof

end
